-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Feed (m : (ℓ : Loc Cert.Feed.nD Cert.Feed.τ Cert.Feed.sig) → Buf (Elt Bits) ℓ) : Prop :=
  True

def Pre_FeedIdeal (m : (ℓ : Loc Cert.FeedIdeal.nD Cert.FeedIdeal.τ Cert.FeedIdeal.sig) → Buf (Elt Ideal) ℓ) : Prop :=
  True

def Pre_FeedReferenceIdeal (m : (ℓ : Loc Cert.FeedReferenceIdeal.nD Cert.FeedReferenceIdeal.τ Cert.FeedReferenceIdeal.sig) → Buf (Elt Ideal) ℓ) : Prop :=
  True

def Pre_ConvOut (m : (ℓ : Loc Cert.ConvOut.nD Cert.ConvOut.τ Cert.ConvOut.sig) → Buf (Elt Bits) ℓ) : Prop :=
  True

def Pre_ConvOutIdeal (m : (ℓ : Loc Cert.ConvOutIdeal.nD Cert.ConvOutIdeal.τ Cert.ConvOutIdeal.sig) → Buf (Elt Ideal) ℓ) : Prop :=
  True

def Pre_ConvOutReferenceIdeal (m : (ℓ : Loc Cert.ConvOutReferenceIdeal.nD Cert.ConvOutReferenceIdeal.τ Cert.ConvOutReferenceIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def Pre_ConvIn (m : (ℓ : Loc Cert.ConvIn.nD Cert.ConvIn.τ Cert.ConvIn.sig) → Buf (Elt Bits) ℓ) : Prop :=
  True

def Pre_ConvInIdeal (m : (ℓ : Loc Cert.ConvInIdeal.nD Cert.ConvInIdeal.τ Cert.ConvInIdeal.sig) → Buf (Elt Ideal) ℓ) : Prop :=
  True

def Pre_ConvInReferenceIdeal (m : (ℓ : Loc Cert.ConvInReferenceIdeal.nD Cert.ConvInReferenceIdeal.τ Cert.ConvInReferenceIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInReferenceIdeal (m : (ℓ : Loc Cert.MixInReferenceIdeal.nD Cert.MixInReferenceIdeal.τ Cert.MixInReferenceIdeal.sig) → Buf (Elt Ideal) ℓ) : Prop :=
  True

def Pre_ConvOutGrad (m : (ℓ : Loc Cert.ConvOutGrad.nD Cert.ConvOutGrad.τ Cert.ConvOutGrad.sig) → Buf (Elt Bits) ℓ) : Prop :=
  True

def Pre_ConvOutGradIdeal (m : (ℓ : Loc Cert.ConvOutGradIdeal.nD Cert.ConvOutGradIdeal.τ Cert.ConvOutGradIdeal.sig) → Buf (Elt Ideal) ℓ) : Prop :=
  True

def Pre_ConvOutGradReferenceIdeal (m : (ℓ : Loc Cert.ConvOutGradReferenceIdeal.nD Cert.ConvOutGradReferenceIdeal.τ Cert.ConvOutGradReferenceIdeal.sig) → Buf (Elt Ideal) ℓ) : Prop :=
  True

def Pre_MixOutGrad (m : (ℓ : Loc Cert.MixOutGrad.nD Cert.MixOutGrad.τ Cert.MixOutGrad.sig) → Buf (Elt Bits) ℓ) : Prop :=
  True

def Pre_MixOutGradIdeal (m : (ℓ : Loc Cert.MixOutGradIdeal.nD Cert.MixOutGradIdeal.τ Cert.MixOutGradIdeal.sig) → Buf (Elt Ideal) ℓ) : Prop :=
  True

def Pre_MixOutGradReferenceIdeal (m : (ℓ : Loc Cert.MixOutGradReferenceIdeal.nD Cert.MixOutGradReferenceIdeal.τ Cert.MixOutGradReferenceIdeal.sig) → Buf (Elt Ideal) ℓ) : Prop :=
  True

def Pre_ConvInGrad (m : (ℓ : Loc Cert.ConvInGrad.nD Cert.ConvInGrad.τ Cert.ConvInGrad.sig) → Buf (Elt Bits) ℓ) : Prop :=
  True

def Pre_ConvInGradIdeal (m : (ℓ : Loc Cert.ConvInGradIdeal.nD Cert.ConvInGradIdeal.τ Cert.ConvInGradIdeal.sig) → Buf (Elt Ideal) ℓ) : Prop :=
  True

def Pre_ConvInGradReferenceIdeal (m : (ℓ : Loc Cert.ConvInGradReferenceIdeal.nD Cert.ConvInGradReferenceIdeal.τ Cert.ConvInGradReferenceIdeal.sig) → Buf (Elt Ideal) ℓ) : Prop :=
  True

def Pre_MixInGrad (m : (ℓ : Loc Cert.MixInGrad.nD Cert.MixInGrad.τ Cert.MixInGrad.sig) → Buf (Elt Bits) ℓ) : Prop :=
  True

def Pre_MixInGradIdeal (m : (ℓ : Loc Cert.MixInGradIdeal.nD Cert.MixInGradIdeal.τ Cert.MixInGradIdeal.sig) → Buf (Elt Ideal) ℓ) : Prop :=
  True

def Pre_MixInGradReferenceIdeal (m : (ℓ : Loc Cert.MixInGradReferenceIdeal.nD Cert.MixInGradReferenceIdeal.τ Cert.MixInGradReferenceIdeal.sig) → Buf (Elt Ideal) ℓ) : Prop :=
  True

def Pre_ShortConvGrad (m : (ℓ : Loc Cert.ShortConvGrad.nD Cert.ShortConvGrad.τ Cert.ShortConvGrad.sig) → Buf (Elt Bits) ℓ) : Prop :=
  True

def Pre_ShortConvGradIdeal (m : (ℓ : Loc Cert.ShortConvGradIdeal.nD Cert.ShortConvGradIdeal.τ Cert.ShortConvGradIdeal.sig) → Buf (Elt Ideal) ℓ) : Prop :=
  True

def Pre_ShortConvGradIdeal_finite_short_conv [hPre_finite_short_conv : Cert.Pre_finite_short_conv.Facts] (m : (ℓ : Loc Cert.ShortConvGradIdeal.nD Cert.ShortConvGradIdeal.τ Cert.ShortConvGradIdeal.sig) → Buf (Elt Ideal) ℓ) : Prop :=
  ∀ c : Dev Cert.ShortConvGradIdeal.nD,
    (Cert.Pre_finite_short_conv.fn (F := Ideal) (m ((c.tc : Thread Cert.ShortConvGradIdeal.nD Cert.ShortConvGradIdeal.τ).loc Cert.ShortConvGradIdeal.main_arg0)) (m ((c.tc : Thread Cert.ShortConvGradIdeal.nD Cert.ShortConvGradIdeal.τ).loc Cert.ShortConvGradIdeal.main_arg1)) (m ((c.tc : Thread Cert.ShortConvGradIdeal.nD Cert.ShortConvGradIdeal.τ).loc Cert.ShortConvGradIdeal.main_arg2))).1 = (fun _ => 1#1)
    ∧ (Cert.Pre_finite_short_conv.fn (F := Ideal) (m ((c.tc : Thread Cert.ShortConvGradIdeal.nD Cert.ShortConvGradIdeal.τ).loc Cert.ShortConvGradIdeal.main_arg0)) (m ((c.tc : Thread Cert.ShortConvGradIdeal.nD Cert.ShortConvGradIdeal.τ).loc Cert.ShortConvGradIdeal.main_arg1)) (m ((c.tc : Thread Cert.ShortConvGradIdeal.nD Cert.ShortConvGradIdeal.τ).loc Cert.ShortConvGradIdeal.main_arg2))).2.1 = (fun _ => 1#1)
    ∧ (Cert.Pre_finite_short_conv.fn (F := Ideal) (m ((c.tc : Thread Cert.ShortConvGradIdeal.nD Cert.ShortConvGradIdeal.τ).loc Cert.ShortConvGradIdeal.main_arg0)) (m ((c.tc : Thread Cert.ShortConvGradIdeal.nD Cert.ShortConvGradIdeal.τ).loc Cert.ShortConvGradIdeal.main_arg1)) (m ((c.tc : Thread Cert.ShortConvGradIdeal.nD Cert.ShortConvGradIdeal.τ).loc Cert.ShortConvGradIdeal.main_arg2))).2.2 = (fun _ => 1#1)

def Pre_ShortConvGradReferenceIdeal (m : (ℓ : Loc Cert.ShortConvGradReferenceIdeal.nD Cert.ShortConvGradReferenceIdeal.τ Cert.ShortConvGradReferenceIdeal.sig) → Buf (Elt Ideal) ℓ) : Prop :=
  True

def Pre_ShortConvGradReferenceIdeal_finite_short_conv [hPre_finite_short_conv : Cert.Pre_finite_short_conv.Facts] (m : (ℓ : Loc Cert.ShortConvGradReferenceIdeal.nD Cert.ShortConvGradReferenceIdeal.τ Cert.ShortConvGradReferenceIdeal.sig) → Buf (Elt Ideal) ℓ) : Prop :=
  ∀ c : Dev Cert.ShortConvGradReferenceIdeal.nD,
    (Cert.Pre_finite_short_conv.fn (F := Ideal) (m ((c.tc : Thread Cert.ShortConvGradReferenceIdeal.nD Cert.ShortConvGradReferenceIdeal.τ).loc Cert.ShortConvGradReferenceIdeal.main_arg0)) (m ((c.tc : Thread Cert.ShortConvGradReferenceIdeal.nD Cert.ShortConvGradReferenceIdeal.τ).loc Cert.ShortConvGradReferenceIdeal.main_arg1)) (m ((c.tc : Thread Cert.ShortConvGradReferenceIdeal.nD Cert.ShortConvGradReferenceIdeal.τ).loc Cert.ShortConvGradReferenceIdeal.main_arg2))).1 = (fun _ => 1#1)
    ∧ (Cert.Pre_finite_short_conv.fn (F := Ideal) (m ((c.tc : Thread Cert.ShortConvGradReferenceIdeal.nD Cert.ShortConvGradReferenceIdeal.τ).loc Cert.ShortConvGradReferenceIdeal.main_arg0)) (m ((c.tc : Thread Cert.ShortConvGradReferenceIdeal.nD Cert.ShortConvGradReferenceIdeal.τ).loc Cert.ShortConvGradReferenceIdeal.main_arg1)) (m ((c.tc : Thread Cert.ShortConvGradReferenceIdeal.nD Cert.ShortConvGradReferenceIdeal.τ).loc Cert.ShortConvGradReferenceIdeal.main_arg2))).2.1 = (fun _ => 1#1)
    ∧ (Cert.Pre_finite_short_conv.fn (F := Ideal) (m ((c.tc : Thread Cert.ShortConvGradReferenceIdeal.nD Cert.ShortConvGradReferenceIdeal.τ).loc Cert.ShortConvGradReferenceIdeal.main_arg0)) (m ((c.tc : Thread Cert.ShortConvGradReferenceIdeal.nD Cert.ShortConvGradReferenceIdeal.τ).loc Cert.ShortConvGradReferenceIdeal.main_arg1)) (m ((c.tc : Thread Cert.ShortConvGradReferenceIdeal.nD Cert.ShortConvGradReferenceIdeal.τ).loc Cert.ShortConvGradReferenceIdeal.main_arg2))).2.2 = (fun _ => 1#1)

def Pre_ShortConv (m : (ℓ : Loc Cert.ShortConv.nD Cert.ShortConv.τ Cert.ShortConv.sig) → Buf (Elt Bits) ℓ) : Prop :=
  True

def Pre_ShortConvIdeal (m : (ℓ : Loc Cert.ShortConvIdeal.nD Cert.ShortConvIdeal.τ Cert.ShortConvIdeal.sig) → Buf (Elt Ideal) ℓ) : Prop :=
  True

def Pre_ShortConvReferenceIdeal (m : (ℓ : Loc Cert.ShortConvReferenceIdeal.nD Cert.ShortConvReferenceIdeal.τ Cert.ShortConvReferenceIdeal.sig) → Buf (Elt Ideal) ℓ) : Prop :=
  True

def Pre_ConvMid (m : (ℓ : Loc Cert.ConvMid.nD Cert.ConvMid.τ Cert.ConvMid.sig) → Buf (Elt Bits) ℓ) : Prop :=
  True

def Pre_ConvMidIdeal (m : (ℓ : Loc Cert.ConvMidIdeal.nD Cert.ConvMidIdeal.τ Cert.ConvMidIdeal.sig) → Buf (Elt Ideal) ℓ) : Prop :=
  True

def Pre_ConvMidReferenceIdeal (m : (ℓ : Loc Cert.ConvMidReferenceIdeal.nD Cert.ConvMidReferenceIdeal.τ Cert.ConvMidReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionReferenceIdeal (m : (ℓ : Loc Cert.AttentionReferenceIdeal.nD Cert.AttentionReferenceIdeal.τ Cert.AttentionReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Feed [hFeed : Cert.Feed.Facts] : Prop :=
  ∀ (m : (ℓ : Loc Cert.Feed.nD Cert.Feed.τ Cert.Feed.sig) → Buf (Elt Bits) ℓ) (g : Dev Cert.Feed.nD → PrngReg), Pre_Feed m →
    θ_run (Cert.Feed.defs (F := Bits)) (onTc (τ := Cert.Feed.τ) (Cert.Feed.main (F := Bits))) ⟨m, fun _ => 0, g⟩ (fun r => (∀ c : Dev Cert.Feed.nD,
      r.2.mem ((c.tc : Thread Cert.Feed.nD Cert.Feed.τ).loc Cert.Feed.main_arg0) = m ((c.tc : Thread Cert.Feed.nD Cert.Feed.τ).loc Cert.Feed.main_arg0)
      ∧ r.2.mem ((c.tc : Thread Cert.Feed.nD Cert.Feed.τ).loc Cert.Feed.main_arg1) = m ((c.tc : Thread Cert.Feed.nD Cert.Feed.τ).loc Cert.Feed.main_arg1)
      ∧ r.2.mem ((c.tc : Thread Cert.Feed.nD Cert.Feed.τ).loc Cert.Feed.main_arg2) = m ((c.tc : Thread Cert.Feed.nD Cert.Feed.τ).loc Cert.Feed.main_arg2)
      ∧ r.2.mem ((c.tc : Thread Cert.Feed.nD Cert.Feed.τ).loc Cert.Feed.main_arg3) = m ((c.tc : Thread Cert.Feed.nD Cert.Feed.τ).loc Cert.Feed.main_arg3)
      ∧ r.2.mem ((c.tc : Thread Cert.Feed.nD Cert.Feed.τ).loc Cert.Feed.main_arg4) = m ((c.tc : Thread Cert.Feed.nD Cert.Feed.τ).loc Cert.Feed.main_arg4))
      ∧ r.2.sem = fun _ => 0)

def quiescent_FeedIdeal [hFeedIdeal : Cert.FeedIdeal.Facts] : Prop :=
  ∀ (m : (ℓ : Loc Cert.FeedIdeal.nD Cert.FeedIdeal.τ Cert.FeedIdeal.sig) → Buf (Elt Ideal) ℓ) (g : Dev Cert.FeedIdeal.nD → PrngReg), Pre_FeedIdeal m →
    θ_run (Cert.FeedIdeal.defs (F := Ideal)) (onTc (τ := Cert.FeedIdeal.τ) (Cert.FeedIdeal.main (F := Ideal))) ⟨m, fun _ => 0, g⟩ (fun r => (∀ c : Dev Cert.FeedIdeal.nD,
      r.2.mem ((c.tc : Thread Cert.FeedIdeal.nD Cert.FeedIdeal.τ).loc Cert.FeedIdeal.main_arg0) = m ((c.tc : Thread Cert.FeedIdeal.nD Cert.FeedIdeal.τ).loc Cert.FeedIdeal.main_arg0)
      ∧ r.2.mem ((c.tc : Thread Cert.FeedIdeal.nD Cert.FeedIdeal.τ).loc Cert.FeedIdeal.main_arg1) = m ((c.tc : Thread Cert.FeedIdeal.nD Cert.FeedIdeal.τ).loc Cert.FeedIdeal.main_arg1)
      ∧ r.2.mem ((c.tc : Thread Cert.FeedIdeal.nD Cert.FeedIdeal.τ).loc Cert.FeedIdeal.main_arg2) = m ((c.tc : Thread Cert.FeedIdeal.nD Cert.FeedIdeal.τ).loc Cert.FeedIdeal.main_arg2)
      ∧ r.2.mem ((c.tc : Thread Cert.FeedIdeal.nD Cert.FeedIdeal.τ).loc Cert.FeedIdeal.main_arg3) = m ((c.tc : Thread Cert.FeedIdeal.nD Cert.FeedIdeal.τ).loc Cert.FeedIdeal.main_arg3)
      ∧ r.2.mem ((c.tc : Thread Cert.FeedIdeal.nD Cert.FeedIdeal.τ).loc Cert.FeedIdeal.main_arg4) = m ((c.tc : Thread Cert.FeedIdeal.nD Cert.FeedIdeal.τ).loc Cert.FeedIdeal.main_arg4))
      ∧ r.2.sem = fun _ => 0)

def quiescent_FeedReferenceIdeal [hFeedReferenceIdeal : Cert.FeedReferenceIdeal.Facts] : Prop :=
  ∀ (m : (ℓ : Loc Cert.FeedReferenceIdeal.nD Cert.FeedReferenceIdeal.τ Cert.FeedReferenceIdeal.sig) → Buf (Elt Ideal) ℓ) (g : Dev Cert.FeedReferenceIdeal.nD → PrngReg), Pre_FeedReferenceIdeal m →
    θ_run (Cert.FeedReferenceIdeal.defs (F := Ideal)) (onTc (τ := Cert.FeedReferenceIdeal.τ) (Cert.FeedReferenceIdeal.main (F := Ideal))) ⟨m, fun _ => 0, g⟩ (fun r => (∀ c : Dev Cert.FeedReferenceIdeal.nD,
      r.2.mem ((c.tc : Thread Cert.FeedReferenceIdeal.nD Cert.FeedReferenceIdeal.τ).loc Cert.FeedReferenceIdeal.main_arg0) = m ((c.tc : Thread Cert.FeedReferenceIdeal.nD Cert.FeedReferenceIdeal.τ).loc Cert.FeedReferenceIdeal.main_arg0)
      ∧ r.2.mem ((c.tc : Thread Cert.FeedReferenceIdeal.nD Cert.FeedReferenceIdeal.τ).loc Cert.FeedReferenceIdeal.main_arg1) = m ((c.tc : Thread Cert.FeedReferenceIdeal.nD Cert.FeedReferenceIdeal.τ).loc Cert.FeedReferenceIdeal.main_arg1)
      ∧ r.2.mem ((c.tc : Thread Cert.FeedReferenceIdeal.nD Cert.FeedReferenceIdeal.τ).loc Cert.FeedReferenceIdeal.main_arg2) = m ((c.tc : Thread Cert.FeedReferenceIdeal.nD Cert.FeedReferenceIdeal.τ).loc Cert.FeedReferenceIdeal.main_arg2)
      ∧ r.2.mem ((c.tc : Thread Cert.FeedReferenceIdeal.nD Cert.FeedReferenceIdeal.τ).loc Cert.FeedReferenceIdeal.main_arg3) = m ((c.tc : Thread Cert.FeedReferenceIdeal.nD Cert.FeedReferenceIdeal.τ).loc Cert.FeedReferenceIdeal.main_arg3)
      ∧ r.2.mem ((c.tc : Thread Cert.FeedReferenceIdeal.nD Cert.FeedReferenceIdeal.τ).loc Cert.FeedReferenceIdeal.main_arg4) = m ((c.tc : Thread Cert.FeedReferenceIdeal.nD Cert.FeedReferenceIdeal.τ).loc Cert.FeedReferenceIdeal.main_arg4))
      ∧ r.2.sem = fun _ => 0)

def quiescent_ConvOut [hConvOut : Cert.ConvOut.Facts] : Prop :=
  ∀ (m : (ℓ : Loc Cert.ConvOut.nD Cert.ConvOut.τ Cert.ConvOut.sig) → Buf (Elt Bits) ℓ) (g : Dev Cert.ConvOut.nD → PrngReg), Pre_ConvOut m →
    θ_run (Cert.ConvOut.defs (F := Bits)) (onTc (τ := Cert.ConvOut.τ) (Cert.ConvOut.main (F := Bits))) ⟨m, fun _ => 0, g⟩ (fun r => (∀ c : Dev Cert.ConvOut.nD,
      r.2.mem ((c.tc : Thread Cert.ConvOut.nD Cert.ConvOut.τ).loc Cert.ConvOut.main_arg0) = m ((c.tc : Thread Cert.ConvOut.nD Cert.ConvOut.τ).loc Cert.ConvOut.main_arg0)
      ∧ r.2.mem ((c.tc : Thread Cert.ConvOut.nD Cert.ConvOut.τ).loc Cert.ConvOut.main_arg1) = m ((c.tc : Thread Cert.ConvOut.nD Cert.ConvOut.τ).loc Cert.ConvOut.main_arg1)
      ∧ r.2.mem ((c.tc : Thread Cert.ConvOut.nD Cert.ConvOut.τ).loc Cert.ConvOut.main_arg2) = m ((c.tc : Thread Cert.ConvOut.nD Cert.ConvOut.τ).loc Cert.ConvOut.main_arg2)
      ∧ r.2.mem ((c.tc : Thread Cert.ConvOut.nD Cert.ConvOut.τ).loc Cert.ConvOut.main_arg3) = m ((c.tc : Thread Cert.ConvOut.nD Cert.ConvOut.τ).loc Cert.ConvOut.main_arg3))
      ∧ r.2.sem = fun _ => 0)

def quiescent_ConvOutIdeal [hConvOutIdeal : Cert.ConvOutIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg), Pre_ConvOutIdeal m →
    θ_run (Cert.ConvOutIdeal.defs (F := Ideal)) (onTc (τ := Cert.ConvOutIdeal.τ) (Cert.ConvOutIdeal.main (F := Ideal))) ⟨m, fun _ => 0, g⟩ (fun r => (∀ c : Dev Cert.ConvOutIdeal.nD,
      r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
      ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1)
      ∧ r.2.mem ((c.tc : Thread Cert.ConvOutIdeal.nD Cert.ConvOutIdeal.τ).loc Cert.ConvOutIdeal.main_arg2) = m ((c.tc : Thread Cert.ConvOutIdeal.nD Cert.ConvOutIdeal.τ).loc Cert.ConvOutIdeal.main_arg2)
      ∧ r.2.mem ((c.tc : Thread Cert.ConvOutIdeal.nD Cert.ConvOutIdeal.τ).loc Cert.ConvOutIdeal.main_arg3) = m ((c.tc : Thread Cert.ConvOutIdeal.nD Cert.ConvOutIdeal.τ).loc Cert.ConvOutIdeal.main_arg3))
      ∧ r.2.sem = fun _ => 0)

def quiescent_ConvOutReferenceIdeal [hConvOutReferenceIdeal : Cert.ConvOutReferenceIdeal.Facts] : Prop :=
  ∀ (m : (ℓ : Loc Cert.ConvOutReferenceIdeal.nD Cert.ConvOutReferenceIdeal.τ Cert.ConvOutReferenceIdeal.sig) → Buf (Elt Ideal) ℓ) (g : Dev Cert.ConvOutReferenceIdeal.nD → PrngReg), Pre_ConvOutReferenceIdeal m →
    θ_run (Cert.ConvOutReferenceIdeal.defs (F := Ideal)) (onTc (τ := Cert.ConvOutReferenceIdeal.τ) (Cert.ConvOutReferenceIdeal.main (F := Ideal))) ⟨m, fun _ => 0, g⟩ (fun r => (∀ c : Dev Cert.ConvOutReferenceIdeal.nD,
      r.2.mem ((c.tc : Thread Cert.ConvOutReferenceIdeal.nD Cert.ConvOutReferenceIdeal.τ).loc Cert.ConvOutReferenceIdeal.main_arg0) = m ((c.tc : Thread Cert.ConvOutReferenceIdeal.nD Cert.ConvOutReferenceIdeal.τ).loc Cert.ConvOutReferenceIdeal.main_arg0)
      ∧ r.2.mem ((c.tc : Thread Cert.ConvOutReferenceIdeal.nD Cert.ConvOutReferenceIdeal.τ).loc Cert.ConvOutReferenceIdeal.main_arg1) = m ((c.tc : Thread Cert.ConvOutReferenceIdeal.nD Cert.ConvOutReferenceIdeal.τ).loc Cert.ConvOutReferenceIdeal.main_arg1)
      ∧ r.2.mem ((c.tc : Thread Cert.ConvOutReferenceIdeal.nD Cert.ConvOutReferenceIdeal.τ).loc Cert.ConvOutReferenceIdeal.main_arg2) = m ((c.tc : Thread Cert.ConvOutReferenceIdeal.nD Cert.ConvOutReferenceIdeal.τ).loc Cert.ConvOutReferenceIdeal.main_arg2)
      ∧ r.2.mem ((c.tc : Thread Cert.ConvOutReferenceIdeal.nD Cert.ConvOutReferenceIdeal.τ).loc Cert.ConvOutReferenceIdeal.main_arg3) = m ((c.tc : Thread Cert.ConvOutReferenceIdeal.nD Cert.ConvOutReferenceIdeal.τ).loc Cert.ConvOutReferenceIdeal.main_arg3))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2)
      ∧ r.2.mem ((c.tc : Thread Cert.MixOutReferenceIdeal.nD Cert.MixOutReferenceIdeal.τ).loc Cert.MixOutReferenceIdeal.main_arg3) = m ((c.tc : Thread Cert.MixOutReferenceIdeal.nD Cert.MixOutReferenceIdeal.τ).loc Cert.MixOutReferenceIdeal.main_arg3))
      ∧ r.2.sem = fun _ => 0)

def quiescent_ConvIn [hConvIn : Cert.ConvIn.Facts] : Prop :=
  ∀ (m : (ℓ : Loc Cert.ConvIn.nD Cert.ConvIn.τ Cert.ConvIn.sig) → Buf (Elt Bits) ℓ) (g : Dev Cert.ConvIn.nD → PrngReg), Pre_ConvIn m →
    θ_run (Cert.ConvIn.defs (F := Bits)) (onTc (τ := Cert.ConvIn.τ) (Cert.ConvIn.main (F := Bits))) ⟨m, fun _ => 0, g⟩ (fun r => (∀ c : Dev Cert.ConvIn.nD,
      r.2.mem ((c.tc : Thread Cert.ConvIn.nD Cert.ConvIn.τ).loc Cert.ConvIn.main_arg0) = m ((c.tc : Thread Cert.ConvIn.nD Cert.ConvIn.τ).loc Cert.ConvIn.main_arg0)
      ∧ r.2.mem ((c.tc : Thread Cert.ConvIn.nD Cert.ConvIn.τ).loc Cert.ConvIn.main_arg1) = m ((c.tc : Thread Cert.ConvIn.nD Cert.ConvIn.τ).loc Cert.ConvIn.main_arg1)
      ∧ r.2.mem ((c.tc : Thread Cert.ConvIn.nD Cert.ConvIn.τ).loc Cert.ConvIn.main_arg2) = m ((c.tc : Thread Cert.ConvIn.nD Cert.ConvIn.τ).loc Cert.ConvIn.main_arg2)
      ∧ r.2.mem ((c.tc : Thread Cert.ConvIn.nD Cert.ConvIn.τ).loc Cert.ConvIn.main_arg3) = m ((c.tc : Thread Cert.ConvIn.nD Cert.ConvIn.τ).loc Cert.ConvIn.main_arg3))
      ∧ r.2.sem = fun _ => 0)

def quiescent_ConvInIdeal [hConvInIdeal : Cert.ConvInIdeal.Facts] : Prop :=
  ∀ (m : (ℓ : Loc Cert.ConvInIdeal.nD Cert.ConvInIdeal.τ Cert.ConvInIdeal.sig) → Buf (Elt Ideal) ℓ) (g : Dev Cert.ConvInIdeal.nD → PrngReg), Pre_ConvInIdeal m →
    θ_run (Cert.ConvInIdeal.defs (F := Ideal)) (onTc (τ := Cert.ConvInIdeal.τ) (Cert.ConvInIdeal.main (F := Ideal))) ⟨m, fun _ => 0, g⟩ (fun r => (∀ c : Dev Cert.ConvInIdeal.nD,
      r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
      ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
      ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2)
      ∧ r.2.mem ((c.tc : Thread Cert.ConvInIdeal.nD Cert.ConvInIdeal.τ).loc Cert.ConvInIdeal.main_arg3) = m ((c.tc : Thread Cert.ConvInIdeal.nD Cert.ConvInIdeal.τ).loc Cert.ConvInIdeal.main_arg3))
      ∧ r.2.sem = fun _ => 0)

def quiescent_ConvInReferenceIdeal [hConvInReferenceIdeal : Cert.ConvInReferenceIdeal.Facts] : Prop :=
  ∀ (m : (ℓ : Loc Cert.ConvInReferenceIdeal.nD Cert.ConvInReferenceIdeal.τ Cert.ConvInReferenceIdeal.sig) → Buf (Elt Ideal) ℓ) (g : Dev Cert.ConvInReferenceIdeal.nD → PrngReg), Pre_ConvInReferenceIdeal m →
    θ_run (Cert.ConvInReferenceIdeal.defs (F := Ideal)) (onTc (τ := Cert.ConvInReferenceIdeal.τ) (Cert.ConvInReferenceIdeal.main (F := Ideal))) ⟨m, fun _ => 0, g⟩ (fun r => (∀ c : Dev Cert.ConvInReferenceIdeal.nD,
      r.2.mem ((c.tc : Thread Cert.ConvInReferenceIdeal.nD Cert.ConvInReferenceIdeal.τ).loc Cert.ConvInReferenceIdeal.main_arg0) = m ((c.tc : Thread Cert.ConvInReferenceIdeal.nD Cert.ConvInReferenceIdeal.τ).loc Cert.ConvInReferenceIdeal.main_arg0)
      ∧ r.2.mem ((c.tc : Thread Cert.ConvInReferenceIdeal.nD Cert.ConvInReferenceIdeal.τ).loc Cert.ConvInReferenceIdeal.main_arg1) = m ((c.tc : Thread Cert.ConvInReferenceIdeal.nD Cert.ConvInReferenceIdeal.τ).loc Cert.ConvInReferenceIdeal.main_arg1)
      ∧ r.2.mem ((c.tc : Thread Cert.ConvInReferenceIdeal.nD Cert.ConvInReferenceIdeal.τ).loc Cert.ConvInReferenceIdeal.main_arg2) = m ((c.tc : Thread Cert.ConvInReferenceIdeal.nD Cert.ConvInReferenceIdeal.τ).loc Cert.ConvInReferenceIdeal.main_arg2)
      ∧ r.2.mem ((c.tc : Thread Cert.ConvInReferenceIdeal.nD Cert.ConvInReferenceIdeal.τ).loc Cert.ConvInReferenceIdeal.main_arg3) = m ((c.tc : Thread Cert.ConvInReferenceIdeal.nD Cert.ConvInReferenceIdeal.τ).loc Cert.ConvInReferenceIdeal.main_arg3))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ r.2.sem = fun _ => 0)

def quiescent_MixInReferenceIdeal [hMixInReferenceIdeal : Cert.MixInReferenceIdeal.Facts] : Prop :=
  ∀ (m : (ℓ : Loc Cert.MixInReferenceIdeal.nD Cert.MixInReferenceIdeal.τ Cert.MixInReferenceIdeal.sig) → Buf (Elt Ideal) ℓ) (g : Dev Cert.MixInReferenceIdeal.nD → PrngReg), Pre_MixInReferenceIdeal m →
    θ_run (Cert.MixInReferenceIdeal.defs (F := Ideal)) (onTc (τ := Cert.MixInReferenceIdeal.τ) (Cert.MixInReferenceIdeal.main (F := Ideal))) ⟨m, fun _ => 0, g⟩ (fun r => (∀ c : Dev Cert.MixInReferenceIdeal.nD,
      r.2.mem ((c.tc : Thread Cert.MixInReferenceIdeal.nD Cert.MixInReferenceIdeal.τ).loc Cert.MixInReferenceIdeal.main_arg0) = m ((c.tc : Thread Cert.MixInReferenceIdeal.nD Cert.MixInReferenceIdeal.τ).loc Cert.MixInReferenceIdeal.main_arg0)
      ∧ r.2.mem ((c.tc : Thread Cert.MixInReferenceIdeal.nD Cert.MixInReferenceIdeal.τ).loc Cert.MixInReferenceIdeal.main_arg1) = m ((c.tc : Thread Cert.MixInReferenceIdeal.nD Cert.MixInReferenceIdeal.τ).loc Cert.MixInReferenceIdeal.main_arg1)
      ∧ r.2.mem ((c.tc : Thread Cert.MixInReferenceIdeal.nD Cert.MixInReferenceIdeal.τ).loc Cert.MixInReferenceIdeal.main_arg2) = m ((c.tc : Thread Cert.MixInReferenceIdeal.nD Cert.MixInReferenceIdeal.τ).loc Cert.MixInReferenceIdeal.main_arg2))
      ∧ r.2.sem = fun _ => 0)

def quiescent_ConvOutGrad [hConvOutGrad : Cert.ConvOutGrad.Facts] : Prop :=
  ∀ (m : (ℓ : Loc Cert.ConvOutGrad.nD Cert.ConvOutGrad.τ Cert.ConvOutGrad.sig) → Buf (Elt Bits) ℓ) (g : Dev Cert.ConvOutGrad.nD → PrngReg), Pre_ConvOutGrad m →
    θ_run (Cert.ConvOutGrad.defs (F := Bits)) (onTc (τ := Cert.ConvOutGrad.τ) (Cert.ConvOutGrad.main (F := Bits))) ⟨m, fun _ => 0, g⟩ (fun r => (∀ c : Dev Cert.ConvOutGrad.nD,
      r.2.mem ((c.tc : Thread Cert.ConvOutGrad.nD Cert.ConvOutGrad.τ).loc Cert.ConvOutGrad.main_arg0) = m ((c.tc : Thread Cert.ConvOutGrad.nD Cert.ConvOutGrad.τ).loc Cert.ConvOutGrad.main_arg0)
      ∧ r.2.mem ((c.tc : Thread Cert.ConvOutGrad.nD Cert.ConvOutGrad.τ).loc Cert.ConvOutGrad.main_arg1) = m ((c.tc : Thread Cert.ConvOutGrad.nD Cert.ConvOutGrad.τ).loc Cert.ConvOutGrad.main_arg1)
      ∧ r.2.mem ((c.tc : Thread Cert.ConvOutGrad.nD Cert.ConvOutGrad.τ).loc Cert.ConvOutGrad.main_arg2) = m ((c.tc : Thread Cert.ConvOutGrad.nD Cert.ConvOutGrad.τ).loc Cert.ConvOutGrad.main_arg2))
      ∧ r.2.sem = fun _ => 0)

def quiescent_ConvOutGradIdeal [hConvOutGradIdeal : Cert.ConvOutGradIdeal.Facts] : Prop :=
  ∀ (m : (ℓ : Loc Cert.ConvOutGradIdeal.nD Cert.ConvOutGradIdeal.τ Cert.ConvOutGradIdeal.sig) → Buf (Elt Ideal) ℓ) (g : Dev Cert.ConvOutGradIdeal.nD → PrngReg), Pre_ConvOutGradIdeal m →
    θ_run (Cert.ConvOutGradIdeal.defs (F := Ideal)) (onTc (τ := Cert.ConvOutGradIdeal.τ) (Cert.ConvOutGradIdeal.main (F := Ideal))) ⟨m, fun _ => 0, g⟩ (fun r => (∀ c : Dev Cert.ConvOutGradIdeal.nD,
      r.2.mem ((c.tc : Thread Cert.ConvOutGradIdeal.nD Cert.ConvOutGradIdeal.τ).loc Cert.ConvOutGradIdeal.main_arg0) = m ((c.tc : Thread Cert.ConvOutGradIdeal.nD Cert.ConvOutGradIdeal.τ).loc Cert.ConvOutGradIdeal.main_arg0)
      ∧ r.2.mem ((c.tc : Thread Cert.ConvOutGradIdeal.nD Cert.ConvOutGradIdeal.τ).loc Cert.ConvOutGradIdeal.main_arg1) = m ((c.tc : Thread Cert.ConvOutGradIdeal.nD Cert.ConvOutGradIdeal.τ).loc Cert.ConvOutGradIdeal.main_arg1)
      ∧ r.2.mem ((c.tc : Thread Cert.ConvOutGradIdeal.nD Cert.ConvOutGradIdeal.τ).loc Cert.ConvOutGradIdeal.main_arg2) = m ((c.tc : Thread Cert.ConvOutGradIdeal.nD Cert.ConvOutGradIdeal.τ).loc Cert.ConvOutGradIdeal.main_arg2))
      ∧ r.2.sem = fun _ => 0)

def quiescent_ConvOutGradReferenceIdeal [hConvOutGradReferenceIdeal : Cert.ConvOutGradReferenceIdeal.Facts] : Prop :=
  ∀ (m : (ℓ : Loc Cert.ConvOutGradReferenceIdeal.nD Cert.ConvOutGradReferenceIdeal.τ Cert.ConvOutGradReferenceIdeal.sig) → Buf (Elt Ideal) ℓ) (g : Dev Cert.ConvOutGradReferenceIdeal.nD → PrngReg), Pre_ConvOutGradReferenceIdeal m →
    θ_run (Cert.ConvOutGradReferenceIdeal.defs (F := Ideal)) (onTc (τ := Cert.ConvOutGradReferenceIdeal.τ) (Cert.ConvOutGradReferenceIdeal.main (F := Ideal))) ⟨m, fun _ => 0, g⟩ (fun r => (∀ c : Dev Cert.ConvOutGradReferenceIdeal.nD,
      r.2.mem ((c.tc : Thread Cert.ConvOutGradReferenceIdeal.nD Cert.ConvOutGradReferenceIdeal.τ).loc Cert.ConvOutGradReferenceIdeal.main_arg0) = m ((c.tc : Thread Cert.ConvOutGradReferenceIdeal.nD Cert.ConvOutGradReferenceIdeal.τ).loc Cert.ConvOutGradReferenceIdeal.main_arg0)
      ∧ r.2.mem ((c.tc : Thread Cert.ConvOutGradReferenceIdeal.nD Cert.ConvOutGradReferenceIdeal.τ).loc Cert.ConvOutGradReferenceIdeal.main_arg1) = m ((c.tc : Thread Cert.ConvOutGradReferenceIdeal.nD Cert.ConvOutGradReferenceIdeal.τ).loc Cert.ConvOutGradReferenceIdeal.main_arg1)
      ∧ r.2.mem ((c.tc : Thread Cert.ConvOutGradReferenceIdeal.nD Cert.ConvOutGradReferenceIdeal.τ).loc Cert.ConvOutGradReferenceIdeal.main_arg2) = m ((c.tc : Thread Cert.ConvOutGradReferenceIdeal.nD Cert.ConvOutGradReferenceIdeal.τ).loc Cert.ConvOutGradReferenceIdeal.main_arg2))
      ∧ r.2.sem = fun _ => 0)

def quiescent_MixOutGrad [hMixOutGrad : Cert.MixOutGrad.Facts] : Prop :=
  ∀ (m : (ℓ : Loc Cert.MixOutGrad.nD Cert.MixOutGrad.τ Cert.MixOutGrad.sig) → Buf (Elt Bits) ℓ) (g : Dev Cert.MixOutGrad.nD → PrngReg), Pre_MixOutGrad m →
    θ_run (Cert.MixOutGrad.defs (F := Bits)) (onTc (τ := Cert.MixOutGrad.τ) (Cert.MixOutGrad.main (F := Bits))) ⟨m, fun _ => 0, g⟩ (fun r => (∀ c : Dev Cert.MixOutGrad.nD,
      r.2.mem ((c.tc : Thread Cert.MixOutGrad.nD Cert.MixOutGrad.τ).loc Cert.MixOutGrad.main_arg0) = m ((c.tc : Thread Cert.MixOutGrad.nD Cert.MixOutGrad.τ).loc Cert.MixOutGrad.main_arg0)
      ∧ r.2.mem ((c.tc : Thread Cert.MixOutGrad.nD Cert.MixOutGrad.τ).loc Cert.MixOutGrad.main_arg1) = m ((c.tc : Thread Cert.MixOutGrad.nD Cert.MixOutGrad.τ).loc Cert.MixOutGrad.main_arg1)
      ∧ r.2.mem ((c.tc : Thread Cert.MixOutGrad.nD Cert.MixOutGrad.τ).loc Cert.MixOutGrad.main_arg2) = m ((c.tc : Thread Cert.MixOutGrad.nD Cert.MixOutGrad.τ).loc Cert.MixOutGrad.main_arg2)
      ∧ r.2.mem ((c.tc : Thread Cert.MixOutGrad.nD Cert.MixOutGrad.τ).loc Cert.MixOutGrad.main_arg3) = m ((c.tc : Thread Cert.MixOutGrad.nD Cert.MixOutGrad.τ).loc Cert.MixOutGrad.main_arg3))
      ∧ r.2.sem = fun _ => 0)

def quiescent_MixOutGradIdeal [hMixOutGradIdeal : Cert.MixOutGradIdeal.Facts] : Prop :=
  ∀ (m : (ℓ : Loc Cert.MixOutGradIdeal.nD Cert.MixOutGradIdeal.τ Cert.MixOutGradIdeal.sig) → Buf (Elt Ideal) ℓ) (g : Dev Cert.MixOutGradIdeal.nD → PrngReg), Pre_MixOutGradIdeal m →
    θ_run (Cert.MixOutGradIdeal.defs (F := Ideal)) (onTc (τ := Cert.MixOutGradIdeal.τ) (Cert.MixOutGradIdeal.main (F := Ideal))) ⟨m, fun _ => 0, g⟩ (fun r => (∀ c : Dev Cert.MixOutGradIdeal.nD,
      r.2.mem ((c.tc : Thread Cert.MixOutGradIdeal.nD Cert.MixOutGradIdeal.τ).loc Cert.MixOutGradIdeal.main_arg0) = m ((c.tc : Thread Cert.MixOutGradIdeal.nD Cert.MixOutGradIdeal.τ).loc Cert.MixOutGradIdeal.main_arg0)
      ∧ r.2.mem ((c.tc : Thread Cert.MixOutGradIdeal.nD Cert.MixOutGradIdeal.τ).loc Cert.MixOutGradIdeal.main_arg1) = m ((c.tc : Thread Cert.MixOutGradIdeal.nD Cert.MixOutGradIdeal.τ).loc Cert.MixOutGradIdeal.main_arg1)
      ∧ r.2.mem ((c.tc : Thread Cert.MixOutGradIdeal.nD Cert.MixOutGradIdeal.τ).loc Cert.MixOutGradIdeal.main_arg2) = m ((c.tc : Thread Cert.MixOutGradIdeal.nD Cert.MixOutGradIdeal.τ).loc Cert.MixOutGradIdeal.main_arg2)
      ∧ r.2.mem ((c.tc : Thread Cert.MixOutGradIdeal.nD Cert.MixOutGradIdeal.τ).loc Cert.MixOutGradIdeal.main_arg3) = m ((c.tc : Thread Cert.MixOutGradIdeal.nD Cert.MixOutGradIdeal.τ).loc Cert.MixOutGradIdeal.main_arg3))
      ∧ r.2.sem = fun _ => 0)

def quiescent_MixOutGradReferenceIdeal [hMixOutGradReferenceIdeal : Cert.MixOutGradReferenceIdeal.Facts] : Prop :=
  ∀ (m : (ℓ : Loc Cert.MixOutGradReferenceIdeal.nD Cert.MixOutGradReferenceIdeal.τ Cert.MixOutGradReferenceIdeal.sig) → Buf (Elt Ideal) ℓ) (g : Dev Cert.MixOutGradReferenceIdeal.nD → PrngReg), Pre_MixOutGradReferenceIdeal m →
    θ_run (Cert.MixOutGradReferenceIdeal.defs (F := Ideal)) (onTc (τ := Cert.MixOutGradReferenceIdeal.τ) (Cert.MixOutGradReferenceIdeal.main (F := Ideal))) ⟨m, fun _ => 0, g⟩ (fun r => (∀ c : Dev Cert.MixOutGradReferenceIdeal.nD,
      r.2.mem ((c.tc : Thread Cert.MixOutGradReferenceIdeal.nD Cert.MixOutGradReferenceIdeal.τ).loc Cert.MixOutGradReferenceIdeal.main_arg0) = m ((c.tc : Thread Cert.MixOutGradReferenceIdeal.nD Cert.MixOutGradReferenceIdeal.τ).loc Cert.MixOutGradReferenceIdeal.main_arg0)
      ∧ r.2.mem ((c.tc : Thread Cert.MixOutGradReferenceIdeal.nD Cert.MixOutGradReferenceIdeal.τ).loc Cert.MixOutGradReferenceIdeal.main_arg1) = m ((c.tc : Thread Cert.MixOutGradReferenceIdeal.nD Cert.MixOutGradReferenceIdeal.τ).loc Cert.MixOutGradReferenceIdeal.main_arg1)
      ∧ r.2.mem ((c.tc : Thread Cert.MixOutGradReferenceIdeal.nD Cert.MixOutGradReferenceIdeal.τ).loc Cert.MixOutGradReferenceIdeal.main_arg2) = m ((c.tc : Thread Cert.MixOutGradReferenceIdeal.nD Cert.MixOutGradReferenceIdeal.τ).loc Cert.MixOutGradReferenceIdeal.main_arg2)
      ∧ r.2.mem ((c.tc : Thread Cert.MixOutGradReferenceIdeal.nD Cert.MixOutGradReferenceIdeal.τ).loc Cert.MixOutGradReferenceIdeal.main_arg3) = m ((c.tc : Thread Cert.MixOutGradReferenceIdeal.nD Cert.MixOutGradReferenceIdeal.τ).loc Cert.MixOutGradReferenceIdeal.main_arg3))
      ∧ r.2.sem = fun _ => 0)

def quiescent_ConvInGrad [hConvInGrad : Cert.ConvInGrad.Facts] : Prop :=
  ∀ (m : (ℓ : Loc Cert.ConvInGrad.nD Cert.ConvInGrad.τ Cert.ConvInGrad.sig) → Buf (Elt Bits) ℓ) (g : Dev Cert.ConvInGrad.nD → PrngReg), Pre_ConvInGrad m →
    θ_run (Cert.ConvInGrad.defs (F := Bits)) (onTc (τ := Cert.ConvInGrad.τ) (Cert.ConvInGrad.main (F := Bits))) ⟨m, fun _ => 0, g⟩ (fun r => (∀ c : Dev Cert.ConvInGrad.nD,
      r.2.mem ((c.tc : Thread Cert.ConvInGrad.nD Cert.ConvInGrad.τ).loc Cert.ConvInGrad.main_arg0) = m ((c.tc : Thread Cert.ConvInGrad.nD Cert.ConvInGrad.τ).loc Cert.ConvInGrad.main_arg0)
      ∧ r.2.mem ((c.tc : Thread Cert.ConvInGrad.nD Cert.ConvInGrad.τ).loc Cert.ConvInGrad.main_arg1) = m ((c.tc : Thread Cert.ConvInGrad.nD Cert.ConvInGrad.τ).loc Cert.ConvInGrad.main_arg1)
      ∧ r.2.mem ((c.tc : Thread Cert.ConvInGrad.nD Cert.ConvInGrad.τ).loc Cert.ConvInGrad.main_arg2) = m ((c.tc : Thread Cert.ConvInGrad.nD Cert.ConvInGrad.τ).loc Cert.ConvInGrad.main_arg2)
      ∧ r.2.mem ((c.tc : Thread Cert.ConvInGrad.nD Cert.ConvInGrad.τ).loc Cert.ConvInGrad.main_arg3) = m ((c.tc : Thread Cert.ConvInGrad.nD Cert.ConvInGrad.τ).loc Cert.ConvInGrad.main_arg3)
      ∧ r.2.mem ((c.tc : Thread Cert.ConvInGrad.nD Cert.ConvInGrad.τ).loc Cert.ConvInGrad.main_arg4) = m ((c.tc : Thread Cert.ConvInGrad.nD Cert.ConvInGrad.τ).loc Cert.ConvInGrad.main_arg4))
      ∧ r.2.sem = fun _ => 0)

def quiescent_ConvInGradIdeal [hConvInGradIdeal : Cert.ConvInGradIdeal.Facts] : Prop :=
  ∀ (m : (ℓ : Loc Cert.ConvInGradIdeal.nD Cert.ConvInGradIdeal.τ Cert.ConvInGradIdeal.sig) → Buf (Elt Ideal) ℓ) (g : Dev Cert.ConvInGradIdeal.nD → PrngReg), Pre_ConvInGradIdeal m →
    θ_run (Cert.ConvInGradIdeal.defs (F := Ideal)) (onTc (τ := Cert.ConvInGradIdeal.τ) (Cert.ConvInGradIdeal.main (F := Ideal))) ⟨m, fun _ => 0, g⟩ (fun r => (∀ c : Dev Cert.ConvInGradIdeal.nD,
      r.2.mem ((c.tc : Thread Cert.ConvInGradIdeal.nD Cert.ConvInGradIdeal.τ).loc Cert.ConvInGradIdeal.main_arg0) = m ((c.tc : Thread Cert.ConvInGradIdeal.nD Cert.ConvInGradIdeal.τ).loc Cert.ConvInGradIdeal.main_arg0)
      ∧ r.2.mem ((c.tc : Thread Cert.ConvInGradIdeal.nD Cert.ConvInGradIdeal.τ).loc Cert.ConvInGradIdeal.main_arg1) = m ((c.tc : Thread Cert.ConvInGradIdeal.nD Cert.ConvInGradIdeal.τ).loc Cert.ConvInGradIdeal.main_arg1)
      ∧ r.2.mem ((c.tc : Thread Cert.ConvInGradIdeal.nD Cert.ConvInGradIdeal.τ).loc Cert.ConvInGradIdeal.main_arg2) = m ((c.tc : Thread Cert.ConvInGradIdeal.nD Cert.ConvInGradIdeal.τ).loc Cert.ConvInGradIdeal.main_arg2)
      ∧ r.2.mem ((c.tc : Thread Cert.ConvInGradIdeal.nD Cert.ConvInGradIdeal.τ).loc Cert.ConvInGradIdeal.main_arg3) = m ((c.tc : Thread Cert.ConvInGradIdeal.nD Cert.ConvInGradIdeal.τ).loc Cert.ConvInGradIdeal.main_arg3)
      ∧ r.2.mem ((c.tc : Thread Cert.ConvInGradIdeal.nD Cert.ConvInGradIdeal.τ).loc Cert.ConvInGradIdeal.main_arg4) = m ((c.tc : Thread Cert.ConvInGradIdeal.nD Cert.ConvInGradIdeal.τ).loc Cert.ConvInGradIdeal.main_arg4))
      ∧ r.2.sem = fun _ => 0)

def quiescent_ConvInGradReferenceIdeal [hConvInGradReferenceIdeal : Cert.ConvInGradReferenceIdeal.Facts] : Prop :=
  ∀ (m : (ℓ : Loc Cert.ConvInGradReferenceIdeal.nD Cert.ConvInGradReferenceIdeal.τ Cert.ConvInGradReferenceIdeal.sig) → Buf (Elt Ideal) ℓ) (g : Dev Cert.ConvInGradReferenceIdeal.nD → PrngReg), Pre_ConvInGradReferenceIdeal m →
    θ_run (Cert.ConvInGradReferenceIdeal.defs (F := Ideal)) (onTc (τ := Cert.ConvInGradReferenceIdeal.τ) (Cert.ConvInGradReferenceIdeal.main (F := Ideal))) ⟨m, fun _ => 0, g⟩ (fun r => (∀ c : Dev Cert.ConvInGradReferenceIdeal.nD,
      r.2.mem ((c.tc : Thread Cert.ConvInGradReferenceIdeal.nD Cert.ConvInGradReferenceIdeal.τ).loc Cert.ConvInGradReferenceIdeal.main_arg0) = m ((c.tc : Thread Cert.ConvInGradReferenceIdeal.nD Cert.ConvInGradReferenceIdeal.τ).loc Cert.ConvInGradReferenceIdeal.main_arg0)
      ∧ r.2.mem ((c.tc : Thread Cert.ConvInGradReferenceIdeal.nD Cert.ConvInGradReferenceIdeal.τ).loc Cert.ConvInGradReferenceIdeal.main_arg1) = m ((c.tc : Thread Cert.ConvInGradReferenceIdeal.nD Cert.ConvInGradReferenceIdeal.τ).loc Cert.ConvInGradReferenceIdeal.main_arg1)
      ∧ r.2.mem ((c.tc : Thread Cert.ConvInGradReferenceIdeal.nD Cert.ConvInGradReferenceIdeal.τ).loc Cert.ConvInGradReferenceIdeal.main_arg2) = m ((c.tc : Thread Cert.ConvInGradReferenceIdeal.nD Cert.ConvInGradReferenceIdeal.τ).loc Cert.ConvInGradReferenceIdeal.main_arg2)
      ∧ r.2.mem ((c.tc : Thread Cert.ConvInGradReferenceIdeal.nD Cert.ConvInGradReferenceIdeal.τ).loc Cert.ConvInGradReferenceIdeal.main_arg3) = m ((c.tc : Thread Cert.ConvInGradReferenceIdeal.nD Cert.ConvInGradReferenceIdeal.τ).loc Cert.ConvInGradReferenceIdeal.main_arg3)
      ∧ r.2.mem ((c.tc : Thread Cert.ConvInGradReferenceIdeal.nD Cert.ConvInGradReferenceIdeal.τ).loc Cert.ConvInGradReferenceIdeal.main_arg4) = m ((c.tc : Thread Cert.ConvInGradReferenceIdeal.nD Cert.ConvInGradReferenceIdeal.τ).loc Cert.ConvInGradReferenceIdeal.main_arg4))
      ∧ r.2.sem = fun _ => 0)

def quiescent_MixInGrad [hMixInGrad : Cert.MixInGrad.Facts] : Prop :=
  ∀ (m : (ℓ : Loc Cert.MixInGrad.nD Cert.MixInGrad.τ Cert.MixInGrad.sig) → Buf (Elt Bits) ℓ) (g : Dev Cert.MixInGrad.nD → PrngReg), Pre_MixInGrad m →
    θ_run (Cert.MixInGrad.defs (F := Bits)) (onTc (τ := Cert.MixInGrad.τ) (Cert.MixInGrad.main (F := Bits))) ⟨m, fun _ => 0, g⟩ (fun r => (∀ c : Dev Cert.MixInGrad.nD,
      r.2.mem ((c.tc : Thread Cert.MixInGrad.nD Cert.MixInGrad.τ).loc Cert.MixInGrad.main_arg0) = m ((c.tc : Thread Cert.MixInGrad.nD Cert.MixInGrad.τ).loc Cert.MixInGrad.main_arg0)
      ∧ r.2.mem ((c.tc : Thread Cert.MixInGrad.nD Cert.MixInGrad.τ).loc Cert.MixInGrad.main_arg1) = m ((c.tc : Thread Cert.MixInGrad.nD Cert.MixInGrad.τ).loc Cert.MixInGrad.main_arg1)
      ∧ r.2.mem ((c.tc : Thread Cert.MixInGrad.nD Cert.MixInGrad.τ).loc Cert.MixInGrad.main_arg2) = m ((c.tc : Thread Cert.MixInGrad.nD Cert.MixInGrad.τ).loc Cert.MixInGrad.main_arg2)
      ∧ r.2.mem ((c.tc : Thread Cert.MixInGrad.nD Cert.MixInGrad.τ).loc Cert.MixInGrad.main_arg3) = m ((c.tc : Thread Cert.MixInGrad.nD Cert.MixInGrad.τ).loc Cert.MixInGrad.main_arg3)
      ∧ r.2.mem ((c.tc : Thread Cert.MixInGrad.nD Cert.MixInGrad.τ).loc Cert.MixInGrad.main_arg4) = m ((c.tc : Thread Cert.MixInGrad.nD Cert.MixInGrad.τ).loc Cert.MixInGrad.main_arg4)
      ∧ r.2.mem ((c.tc : Thread Cert.MixInGrad.nD Cert.MixInGrad.τ).loc Cert.MixInGrad.main_arg5) = m ((c.tc : Thread Cert.MixInGrad.nD Cert.MixInGrad.τ).loc Cert.MixInGrad.main_arg5)
      ∧ r.2.mem ((c.tc : Thread Cert.MixInGrad.nD Cert.MixInGrad.τ).loc Cert.MixInGrad.main_arg6) = m ((c.tc : Thread Cert.MixInGrad.nD Cert.MixInGrad.τ).loc Cert.MixInGrad.main_arg6)
      ∧ r.2.mem ((c.tc : Thread Cert.MixInGrad.nD Cert.MixInGrad.τ).loc Cert.MixInGrad.main_arg7) = m ((c.tc : Thread Cert.MixInGrad.nD Cert.MixInGrad.τ).loc Cert.MixInGrad.main_arg7))
      ∧ r.2.sem = fun _ => 0)

def quiescent_MixInGradIdeal [hMixInGradIdeal : Cert.MixInGradIdeal.Facts] : Prop :=
  ∀ (m : (ℓ : Loc Cert.MixInGradIdeal.nD Cert.MixInGradIdeal.τ Cert.MixInGradIdeal.sig) → Buf (Elt Ideal) ℓ) (g : Dev Cert.MixInGradIdeal.nD → PrngReg), Pre_MixInGradIdeal m →
    θ_run (Cert.MixInGradIdeal.defs (F := Ideal)) (onTc (τ := Cert.MixInGradIdeal.τ) (Cert.MixInGradIdeal.main (F := Ideal))) ⟨m, fun _ => 0, g⟩ (fun r => (∀ c : Dev Cert.MixInGradIdeal.nD,
      r.2.mem ((c.tc : Thread Cert.MixInGradIdeal.nD Cert.MixInGradIdeal.τ).loc Cert.MixInGradIdeal.main_arg0) = m ((c.tc : Thread Cert.MixInGradIdeal.nD Cert.MixInGradIdeal.τ).loc Cert.MixInGradIdeal.main_arg0)
      ∧ r.2.mem ((c.tc : Thread Cert.MixInGradIdeal.nD Cert.MixInGradIdeal.τ).loc Cert.MixInGradIdeal.main_arg1) = m ((c.tc : Thread Cert.MixInGradIdeal.nD Cert.MixInGradIdeal.τ).loc Cert.MixInGradIdeal.main_arg1)
      ∧ r.2.mem ((c.tc : Thread Cert.MixInGradIdeal.nD Cert.MixInGradIdeal.τ).loc Cert.MixInGradIdeal.main_arg2) = m ((c.tc : Thread Cert.MixInGradIdeal.nD Cert.MixInGradIdeal.τ).loc Cert.MixInGradIdeal.main_arg2)
      ∧ r.2.mem ((c.tc : Thread Cert.MixInGradIdeal.nD Cert.MixInGradIdeal.τ).loc Cert.MixInGradIdeal.main_arg3) = m ((c.tc : Thread Cert.MixInGradIdeal.nD Cert.MixInGradIdeal.τ).loc Cert.MixInGradIdeal.main_arg3)
      ∧ r.2.mem ((c.tc : Thread Cert.MixInGradIdeal.nD Cert.MixInGradIdeal.τ).loc Cert.MixInGradIdeal.main_arg4) = m ((c.tc : Thread Cert.MixInGradIdeal.nD Cert.MixInGradIdeal.τ).loc Cert.MixInGradIdeal.main_arg4)
      ∧ r.2.mem ((c.tc : Thread Cert.MixInGradIdeal.nD Cert.MixInGradIdeal.τ).loc Cert.MixInGradIdeal.main_arg5) = m ((c.tc : Thread Cert.MixInGradIdeal.nD Cert.MixInGradIdeal.τ).loc Cert.MixInGradIdeal.main_arg5)
      ∧ r.2.mem ((c.tc : Thread Cert.MixInGradIdeal.nD Cert.MixInGradIdeal.τ).loc Cert.MixInGradIdeal.main_arg6) = m ((c.tc : Thread Cert.MixInGradIdeal.nD Cert.MixInGradIdeal.τ).loc Cert.MixInGradIdeal.main_arg6)
      ∧ r.2.mem ((c.tc : Thread Cert.MixInGradIdeal.nD Cert.MixInGradIdeal.τ).loc Cert.MixInGradIdeal.main_arg7) = m ((c.tc : Thread Cert.MixInGradIdeal.nD Cert.MixInGradIdeal.τ).loc Cert.MixInGradIdeal.main_arg7))
      ∧ r.2.sem = fun _ => 0)

def quiescent_MixInGradReferenceIdeal [hMixInGradReferenceIdeal : Cert.MixInGradReferenceIdeal.Facts] : Prop :=
  ∀ (m : (ℓ : Loc Cert.MixInGradReferenceIdeal.nD Cert.MixInGradReferenceIdeal.τ Cert.MixInGradReferenceIdeal.sig) → Buf (Elt Ideal) ℓ) (g : Dev Cert.MixInGradReferenceIdeal.nD → PrngReg), Pre_MixInGradReferenceIdeal m →
    θ_run (Cert.MixInGradReferenceIdeal.defs (F := Ideal)) (onTc (τ := Cert.MixInGradReferenceIdeal.τ) (Cert.MixInGradReferenceIdeal.main (F := Ideal))) ⟨m, fun _ => 0, g⟩ (fun r => (∀ c : Dev Cert.MixInGradReferenceIdeal.nD,
      r.2.mem ((c.tc : Thread Cert.MixInGradReferenceIdeal.nD Cert.MixInGradReferenceIdeal.τ).loc Cert.MixInGradReferenceIdeal.main_arg0) = m ((c.tc : Thread Cert.MixInGradReferenceIdeal.nD Cert.MixInGradReferenceIdeal.τ).loc Cert.MixInGradReferenceIdeal.main_arg0)
      ∧ r.2.mem ((c.tc : Thread Cert.MixInGradReferenceIdeal.nD Cert.MixInGradReferenceIdeal.τ).loc Cert.MixInGradReferenceIdeal.main_arg1) = m ((c.tc : Thread Cert.MixInGradReferenceIdeal.nD Cert.MixInGradReferenceIdeal.τ).loc Cert.MixInGradReferenceIdeal.main_arg1)
      ∧ r.2.mem ((c.tc : Thread Cert.MixInGradReferenceIdeal.nD Cert.MixInGradReferenceIdeal.τ).loc Cert.MixInGradReferenceIdeal.main_arg2) = m ((c.tc : Thread Cert.MixInGradReferenceIdeal.nD Cert.MixInGradReferenceIdeal.τ).loc Cert.MixInGradReferenceIdeal.main_arg2)
      ∧ r.2.mem ((c.tc : Thread Cert.MixInGradReferenceIdeal.nD Cert.MixInGradReferenceIdeal.τ).loc Cert.MixInGradReferenceIdeal.main_arg3) = m ((c.tc : Thread Cert.MixInGradReferenceIdeal.nD Cert.MixInGradReferenceIdeal.τ).loc Cert.MixInGradReferenceIdeal.main_arg3)
      ∧ r.2.mem ((c.tc : Thread Cert.MixInGradReferenceIdeal.nD Cert.MixInGradReferenceIdeal.τ).loc Cert.MixInGradReferenceIdeal.main_arg4) = m ((c.tc : Thread Cert.MixInGradReferenceIdeal.nD Cert.MixInGradReferenceIdeal.τ).loc Cert.MixInGradReferenceIdeal.main_arg4)
      ∧ r.2.mem ((c.tc : Thread Cert.MixInGradReferenceIdeal.nD Cert.MixInGradReferenceIdeal.τ).loc Cert.MixInGradReferenceIdeal.main_arg5) = m ((c.tc : Thread Cert.MixInGradReferenceIdeal.nD Cert.MixInGradReferenceIdeal.τ).loc Cert.MixInGradReferenceIdeal.main_arg5)
      ∧ r.2.mem ((c.tc : Thread Cert.MixInGradReferenceIdeal.nD Cert.MixInGradReferenceIdeal.τ).loc Cert.MixInGradReferenceIdeal.main_arg6) = m ((c.tc : Thread Cert.MixInGradReferenceIdeal.nD Cert.MixInGradReferenceIdeal.τ).loc Cert.MixInGradReferenceIdeal.main_arg6)
      ∧ r.2.mem ((c.tc : Thread Cert.MixInGradReferenceIdeal.nD Cert.MixInGradReferenceIdeal.τ).loc Cert.MixInGradReferenceIdeal.main_arg7) = m ((c.tc : Thread Cert.MixInGradReferenceIdeal.nD Cert.MixInGradReferenceIdeal.τ).loc Cert.MixInGradReferenceIdeal.main_arg7))
      ∧ r.2.sem = fun _ => 0)

def quiescent_ShortConvGrad [hShortConvGrad : Cert.ShortConvGrad.Facts] : Prop :=
  ∀ (m : (ℓ : Loc Cert.ShortConvGrad.nD Cert.ShortConvGrad.τ Cert.ShortConvGrad.sig) → Buf (Elt Bits) ℓ) (g : Dev Cert.ShortConvGrad.nD → PrngReg), Pre_ShortConvGrad m →
    θ_run (Cert.ShortConvGrad.defs (F := Bits)) (onTc (τ := Cert.ShortConvGrad.τ) (Cert.ShortConvGrad.main (F := Bits))) ⟨m, fun _ => 0, g⟩ (fun r => (∀ c : Dev Cert.ShortConvGrad.nD,
      r.2.mem ((c.tc : Thread Cert.ShortConvGrad.nD Cert.ShortConvGrad.τ).loc Cert.ShortConvGrad.main_arg0) = m ((c.tc : Thread Cert.ShortConvGrad.nD Cert.ShortConvGrad.τ).loc Cert.ShortConvGrad.main_arg0)
      ∧ r.2.mem ((c.tc : Thread Cert.ShortConvGrad.nD Cert.ShortConvGrad.τ).loc Cert.ShortConvGrad.main_arg1) = m ((c.tc : Thread Cert.ShortConvGrad.nD Cert.ShortConvGrad.τ).loc Cert.ShortConvGrad.main_arg1)
      ∧ r.2.mem ((c.tc : Thread Cert.ShortConvGrad.nD Cert.ShortConvGrad.τ).loc Cert.ShortConvGrad.main_arg2) = m ((c.tc : Thread Cert.ShortConvGrad.nD Cert.ShortConvGrad.τ).loc Cert.ShortConvGrad.main_arg2))
      ∧ r.2.sem = fun _ => 0)

def quiescent_ShortConvGradIdeal [hShortConvGradIdeal : Cert.ShortConvGradIdeal.Facts] : Prop :=
  ∀ (m : (ℓ : Loc Cert.ShortConvGradIdeal.nD Cert.ShortConvGradIdeal.τ Cert.ShortConvGradIdeal.sig) → Buf (Elt Ideal) ℓ) (g : Dev Cert.ShortConvGradIdeal.nD → PrngReg), Pre_ShortConvGradIdeal m →
    θ_run (Cert.ShortConvGradIdeal.defs (F := Ideal)) (onTc (τ := Cert.ShortConvGradIdeal.τ) (Cert.ShortConvGradIdeal.main (F := Ideal))) ⟨m, fun _ => 0, g⟩ (fun r => (∀ c : Dev Cert.ShortConvGradIdeal.nD,
      r.2.mem ((c.tc : Thread Cert.ShortConvGradIdeal.nD Cert.ShortConvGradIdeal.τ).loc Cert.ShortConvGradIdeal.main_arg0) = m ((c.tc : Thread Cert.ShortConvGradIdeal.nD Cert.ShortConvGradIdeal.τ).loc Cert.ShortConvGradIdeal.main_arg0)
      ∧ r.2.mem ((c.tc : Thread Cert.ShortConvGradIdeal.nD Cert.ShortConvGradIdeal.τ).loc Cert.ShortConvGradIdeal.main_arg1) = m ((c.tc : Thread Cert.ShortConvGradIdeal.nD Cert.ShortConvGradIdeal.τ).loc Cert.ShortConvGradIdeal.main_arg1)
      ∧ r.2.mem ((c.tc : Thread Cert.ShortConvGradIdeal.nD Cert.ShortConvGradIdeal.τ).loc Cert.ShortConvGradIdeal.main_arg2) = m ((c.tc : Thread Cert.ShortConvGradIdeal.nD Cert.ShortConvGradIdeal.τ).loc Cert.ShortConvGradIdeal.main_arg2))
      ∧ r.2.sem = fun _ => 0)

def quiescent_ShortConvGradIdeal_pre_finite_short_conv [hShortConvGradIdeal : Cert.ShortConvGradIdeal.Facts] [hPre_finite_short_conv : Cert.Pre_finite_short_conv.Facts] : Prop :=
  ∀ (m : (ℓ : Loc Cert.ShortConvGradIdeal.nD Cert.ShortConvGradIdeal.τ Cert.ShortConvGradIdeal.sig) → Buf (Elt Ideal) ℓ) (g : Dev Cert.ShortConvGradIdeal.nD → PrngReg), Pre_ShortConvGradIdeal_finite_short_conv m →
    θ_run (Cert.ShortConvGradIdeal.defs (F := Ideal)) (onTc (τ := Cert.ShortConvGradIdeal.τ) (Cert.ShortConvGradIdeal.main (F := Ideal))) ⟨m, fun _ => 0, g⟩ (fun r => (∀ c : Dev Cert.ShortConvGradIdeal.nD,
      r.2.mem ((c.tc : Thread Cert.ShortConvGradIdeal.nD Cert.ShortConvGradIdeal.τ).loc Cert.ShortConvGradIdeal.main_arg0) = m ((c.tc : Thread Cert.ShortConvGradIdeal.nD Cert.ShortConvGradIdeal.τ).loc Cert.ShortConvGradIdeal.main_arg0)
      ∧ r.2.mem ((c.tc : Thread Cert.ShortConvGradIdeal.nD Cert.ShortConvGradIdeal.τ).loc Cert.ShortConvGradIdeal.main_arg1) = m ((c.tc : Thread Cert.ShortConvGradIdeal.nD Cert.ShortConvGradIdeal.τ).loc Cert.ShortConvGradIdeal.main_arg1)
      ∧ r.2.mem ((c.tc : Thread Cert.ShortConvGradIdeal.nD Cert.ShortConvGradIdeal.τ).loc Cert.ShortConvGradIdeal.main_arg2) = m ((c.tc : Thread Cert.ShortConvGradIdeal.nD Cert.ShortConvGradIdeal.τ).loc Cert.ShortConvGradIdeal.main_arg2))
      ∧ r.2.sem = fun _ => 0)

def quiescent_ShortConvGradReferenceIdeal [hShortConvGradReferenceIdeal : Cert.ShortConvGradReferenceIdeal.Facts] : Prop :=
  ∀ (m : (ℓ : Loc Cert.ShortConvGradReferenceIdeal.nD Cert.ShortConvGradReferenceIdeal.τ Cert.ShortConvGradReferenceIdeal.sig) → Buf (Elt Ideal) ℓ) (g : Dev Cert.ShortConvGradReferenceIdeal.nD → PrngReg), Pre_ShortConvGradReferenceIdeal m →
    θ_run (Cert.ShortConvGradReferenceIdeal.defs (F := Ideal)) (onTc (τ := Cert.ShortConvGradReferenceIdeal.τ) (Cert.ShortConvGradReferenceIdeal.main (F := Ideal))) ⟨m, fun _ => 0, g⟩ (fun r => (∀ c : Dev Cert.ShortConvGradReferenceIdeal.nD,
      r.2.mem ((c.tc : Thread Cert.ShortConvGradReferenceIdeal.nD Cert.ShortConvGradReferenceIdeal.τ).loc Cert.ShortConvGradReferenceIdeal.main_arg0) = m ((c.tc : Thread Cert.ShortConvGradReferenceIdeal.nD Cert.ShortConvGradReferenceIdeal.τ).loc Cert.ShortConvGradReferenceIdeal.main_arg0)
      ∧ r.2.mem ((c.tc : Thread Cert.ShortConvGradReferenceIdeal.nD Cert.ShortConvGradReferenceIdeal.τ).loc Cert.ShortConvGradReferenceIdeal.main_arg1) = m ((c.tc : Thread Cert.ShortConvGradReferenceIdeal.nD Cert.ShortConvGradReferenceIdeal.τ).loc Cert.ShortConvGradReferenceIdeal.main_arg1)
      ∧ r.2.mem ((c.tc : Thread Cert.ShortConvGradReferenceIdeal.nD Cert.ShortConvGradReferenceIdeal.τ).loc Cert.ShortConvGradReferenceIdeal.main_arg2) = m ((c.tc : Thread Cert.ShortConvGradReferenceIdeal.nD Cert.ShortConvGradReferenceIdeal.τ).loc Cert.ShortConvGradReferenceIdeal.main_arg2))
      ∧ r.2.sem = fun _ => 0)

def quiescent_ShortConvGradReferenceIdeal_pre_finite_short_conv [hShortConvGradReferenceIdeal : Cert.ShortConvGradReferenceIdeal.Facts] [hPre_finite_short_conv : Cert.Pre_finite_short_conv.Facts] : Prop :=
  ∀ (m : (ℓ : Loc Cert.ShortConvGradReferenceIdeal.nD Cert.ShortConvGradReferenceIdeal.τ Cert.ShortConvGradReferenceIdeal.sig) → Buf (Elt Ideal) ℓ) (g : Dev Cert.ShortConvGradReferenceIdeal.nD → PrngReg), Pre_ShortConvGradReferenceIdeal_finite_short_conv m →
    θ_run (Cert.ShortConvGradReferenceIdeal.defs (F := Ideal)) (onTc (τ := Cert.ShortConvGradReferenceIdeal.τ) (Cert.ShortConvGradReferenceIdeal.main (F := Ideal))) ⟨m, fun _ => 0, g⟩ (fun r => (∀ c : Dev Cert.ShortConvGradReferenceIdeal.nD,
      r.2.mem ((c.tc : Thread Cert.ShortConvGradReferenceIdeal.nD Cert.ShortConvGradReferenceIdeal.τ).loc Cert.ShortConvGradReferenceIdeal.main_arg0) = m ((c.tc : Thread Cert.ShortConvGradReferenceIdeal.nD Cert.ShortConvGradReferenceIdeal.τ).loc Cert.ShortConvGradReferenceIdeal.main_arg0)
      ∧ r.2.mem ((c.tc : Thread Cert.ShortConvGradReferenceIdeal.nD Cert.ShortConvGradReferenceIdeal.τ).loc Cert.ShortConvGradReferenceIdeal.main_arg1) = m ((c.tc : Thread Cert.ShortConvGradReferenceIdeal.nD Cert.ShortConvGradReferenceIdeal.τ).loc Cert.ShortConvGradReferenceIdeal.main_arg1)
      ∧ r.2.mem ((c.tc : Thread Cert.ShortConvGradReferenceIdeal.nD Cert.ShortConvGradReferenceIdeal.τ).loc Cert.ShortConvGradReferenceIdeal.main_arg2) = m ((c.tc : Thread Cert.ShortConvGradReferenceIdeal.nD Cert.ShortConvGradReferenceIdeal.τ).loc Cert.ShortConvGradReferenceIdeal.main_arg2))
      ∧ r.2.sem = fun _ => 0)

def quiescent_ShortConv [hShortConv : Cert.ShortConv.Facts] : Prop :=
  ∀ (m : (ℓ : Loc Cert.ShortConv.nD Cert.ShortConv.τ Cert.ShortConv.sig) → Buf (Elt Bits) ℓ) (g : Dev Cert.ShortConv.nD → PrngReg), Pre_ShortConv m →
    θ_run (Cert.ShortConv.defs (F := Bits)) (onTc (τ := Cert.ShortConv.τ) (Cert.ShortConv.main (F := Bits))) ⟨m, fun _ => 0, g⟩ (fun r => (∀ c : Dev Cert.ShortConv.nD,
      r.2.mem ((c.tc : Thread Cert.ShortConv.nD Cert.ShortConv.τ).loc Cert.ShortConv.main_arg0) = m ((c.tc : Thread Cert.ShortConv.nD Cert.ShortConv.τ).loc Cert.ShortConv.main_arg0)
      ∧ r.2.mem ((c.tc : Thread Cert.ShortConv.nD Cert.ShortConv.τ).loc Cert.ShortConv.main_arg1) = m ((c.tc : Thread Cert.ShortConv.nD Cert.ShortConv.τ).loc Cert.ShortConv.main_arg1))
      ∧ r.2.sem = fun _ => 0)

def quiescent_ShortConvIdeal [hShortConvIdeal : Cert.ShortConvIdeal.Facts] : Prop :=
  ∀ (m : (ℓ : Loc Cert.ShortConvIdeal.nD Cert.ShortConvIdeal.τ Cert.ShortConvIdeal.sig) → Buf (Elt Ideal) ℓ) (g : Dev Cert.ShortConvIdeal.nD → PrngReg), Pre_ShortConvIdeal m →
    θ_run (Cert.ShortConvIdeal.defs (F := Ideal)) (onTc (τ := Cert.ShortConvIdeal.τ) (Cert.ShortConvIdeal.main (F := Ideal))) ⟨m, fun _ => 0, g⟩ (fun r => (∀ c : Dev Cert.ShortConvIdeal.nD,
      r.2.mem ((c.tc : Thread Cert.ShortConvIdeal.nD Cert.ShortConvIdeal.τ).loc Cert.ShortConvIdeal.main_arg0) = m ((c.tc : Thread Cert.ShortConvIdeal.nD Cert.ShortConvIdeal.τ).loc Cert.ShortConvIdeal.main_arg0)
      ∧ r.2.mem ((c.tc : Thread Cert.ShortConvIdeal.nD Cert.ShortConvIdeal.τ).loc Cert.ShortConvIdeal.main_arg1) = m ((c.tc : Thread Cert.ShortConvIdeal.nD Cert.ShortConvIdeal.τ).loc Cert.ShortConvIdeal.main_arg1))
      ∧ r.2.sem = fun _ => 0)

def quiescent_ShortConvReferenceIdeal [hShortConvReferenceIdeal : Cert.ShortConvReferenceIdeal.Facts] : Prop :=
  ∀ (m : (ℓ : Loc Cert.ShortConvReferenceIdeal.nD Cert.ShortConvReferenceIdeal.τ Cert.ShortConvReferenceIdeal.sig) → Buf (Elt Ideal) ℓ) (g : Dev Cert.ShortConvReferenceIdeal.nD → PrngReg), Pre_ShortConvReferenceIdeal m →
    θ_run (Cert.ShortConvReferenceIdeal.defs (F := Ideal)) (onTc (τ := Cert.ShortConvReferenceIdeal.τ) (Cert.ShortConvReferenceIdeal.main (F := Ideal))) ⟨m, fun _ => 0, g⟩ (fun r => (∀ c : Dev Cert.ShortConvReferenceIdeal.nD,
      r.2.mem ((c.tc : Thread Cert.ShortConvReferenceIdeal.nD Cert.ShortConvReferenceIdeal.τ).loc Cert.ShortConvReferenceIdeal.main_arg0) = m ((c.tc : Thread Cert.ShortConvReferenceIdeal.nD Cert.ShortConvReferenceIdeal.τ).loc Cert.ShortConvReferenceIdeal.main_arg0)
      ∧ r.2.mem ((c.tc : Thread Cert.ShortConvReferenceIdeal.nD Cert.ShortConvReferenceIdeal.τ).loc Cert.ShortConvReferenceIdeal.main_arg1) = m ((c.tc : Thread Cert.ShortConvReferenceIdeal.nD Cert.ShortConvReferenceIdeal.τ).loc Cert.ShortConvReferenceIdeal.main_arg1))
      ∧ r.2.sem = fun _ => 0)

def quiescent_ConvMid [hConvMid : Cert.ConvMid.Facts] : Prop :=
  ∀ (m : (ℓ : Loc Cert.ConvMid.nD Cert.ConvMid.τ Cert.ConvMid.sig) → Buf (Elt Bits) ℓ) (g : Dev Cert.ConvMid.nD → PrngReg), Pre_ConvMid m →
    θ_run (Cert.ConvMid.defs (F := Bits)) (onTc (τ := Cert.ConvMid.τ) (Cert.ConvMid.main (F := Bits))) ⟨m, fun _ => 0, g⟩ (fun r => (∀ c : Dev Cert.ConvMid.nD,
      r.2.mem ((c.tc : Thread Cert.ConvMid.nD Cert.ConvMid.τ).loc Cert.ConvMid.main_arg0) = m ((c.tc : Thread Cert.ConvMid.nD Cert.ConvMid.τ).loc Cert.ConvMid.main_arg0)
      ∧ r.2.mem ((c.tc : Thread Cert.ConvMid.nD Cert.ConvMid.τ).loc Cert.ConvMid.main_arg1) = m ((c.tc : Thread Cert.ConvMid.nD Cert.ConvMid.τ).loc Cert.ConvMid.main_arg1)
      ∧ r.2.mem ((c.tc : Thread Cert.ConvMid.nD Cert.ConvMid.τ).loc Cert.ConvMid.main_arg2) = m ((c.tc : Thread Cert.ConvMid.nD Cert.ConvMid.τ).loc Cert.ConvMid.main_arg2)
      ∧ r.2.mem ((c.tc : Thread Cert.ConvMid.nD Cert.ConvMid.τ).loc Cert.ConvMid.main_arg3) = m ((c.tc : Thread Cert.ConvMid.nD Cert.ConvMid.τ).loc Cert.ConvMid.main_arg3)
      ∧ r.2.mem ((c.tc : Thread Cert.ConvMid.nD Cert.ConvMid.τ).loc Cert.ConvMid.main_arg4) = m ((c.tc : Thread Cert.ConvMid.nD Cert.ConvMid.τ).loc Cert.ConvMid.main_arg4))
      ∧ r.2.sem = fun _ => 0)

def quiescent_ConvMidIdeal [hConvMidIdeal : Cert.ConvMidIdeal.Facts] : Prop :=
  ∀ (m : (ℓ : Loc Cert.ConvMidIdeal.nD Cert.ConvMidIdeal.τ Cert.ConvMidIdeal.sig) → Buf (Elt Ideal) ℓ) (g : Dev Cert.ConvMidIdeal.nD → PrngReg), Pre_ConvMidIdeal m →
    θ_run (Cert.ConvMidIdeal.defs (F := Ideal)) (onTc (τ := Cert.ConvMidIdeal.τ) (Cert.ConvMidIdeal.main (F := Ideal))) ⟨m, fun _ => 0, g⟩ (fun r => (∀ c : Dev Cert.ConvMidIdeal.nD,
      r.2.mem ((c.tc : Thread Cert.ConvMidIdeal.nD Cert.ConvMidIdeal.τ).loc Cert.ConvMidIdeal.main_arg0) = m ((c.tc : Thread Cert.ConvMidIdeal.nD Cert.ConvMidIdeal.τ).loc Cert.ConvMidIdeal.main_arg0)
      ∧ r.2.mem ((c.tc : Thread Cert.ConvMidIdeal.nD Cert.ConvMidIdeal.τ).loc Cert.ConvMidIdeal.main_arg1) = m ((c.tc : Thread Cert.ConvMidIdeal.nD Cert.ConvMidIdeal.τ).loc Cert.ConvMidIdeal.main_arg1)
      ∧ r.2.mem ((c.tc : Thread Cert.ConvMidIdeal.nD Cert.ConvMidIdeal.τ).loc Cert.ConvMidIdeal.main_arg2) = m ((c.tc : Thread Cert.ConvMidIdeal.nD Cert.ConvMidIdeal.τ).loc Cert.ConvMidIdeal.main_arg2)
      ∧ r.2.mem ((c.tc : Thread Cert.ConvMidIdeal.nD Cert.ConvMidIdeal.τ).loc Cert.ConvMidIdeal.main_arg3) = m ((c.tc : Thread Cert.ConvMidIdeal.nD Cert.ConvMidIdeal.τ).loc Cert.ConvMidIdeal.main_arg3)
      ∧ r.2.mem ((c.tc : Thread Cert.ConvMidIdeal.nD Cert.ConvMidIdeal.τ).loc Cert.ConvMidIdeal.main_arg4) = m ((c.tc : Thread Cert.ConvMidIdeal.nD Cert.ConvMidIdeal.τ).loc Cert.ConvMidIdeal.main_arg4))
      ∧ r.2.sem = fun _ => 0)

def quiescent_ConvMidReferenceIdeal [hConvMidReferenceIdeal : Cert.ConvMidReferenceIdeal.Facts] : Prop :=
  ∀ (m : (ℓ : Loc Cert.ConvMidReferenceIdeal.nD Cert.ConvMidReferenceIdeal.τ Cert.ConvMidReferenceIdeal.sig) → Buf (Elt Ideal) ℓ) (g : Dev Cert.ConvMidReferenceIdeal.nD → PrngReg), Pre_ConvMidReferenceIdeal m →
    θ_run (Cert.ConvMidReferenceIdeal.defs (F := Ideal)) (onTc (τ := Cert.ConvMidReferenceIdeal.τ) (Cert.ConvMidReferenceIdeal.main (F := Ideal))) ⟨m, fun _ => 0, g⟩ (fun r => (∀ c : Dev Cert.ConvMidReferenceIdeal.nD,
      r.2.mem ((c.tc : Thread Cert.ConvMidReferenceIdeal.nD Cert.ConvMidReferenceIdeal.τ).loc Cert.ConvMidReferenceIdeal.main_arg0) = m ((c.tc : Thread Cert.ConvMidReferenceIdeal.nD Cert.ConvMidReferenceIdeal.τ).loc Cert.ConvMidReferenceIdeal.main_arg0)
      ∧ r.2.mem ((c.tc : Thread Cert.ConvMidReferenceIdeal.nD Cert.ConvMidReferenceIdeal.τ).loc Cert.ConvMidReferenceIdeal.main_arg1) = m ((c.tc : Thread Cert.ConvMidReferenceIdeal.nD Cert.ConvMidReferenceIdeal.τ).loc Cert.ConvMidReferenceIdeal.main_arg1)
      ∧ r.2.mem ((c.tc : Thread Cert.ConvMidReferenceIdeal.nD Cert.ConvMidReferenceIdeal.τ).loc Cert.ConvMidReferenceIdeal.main_arg2) = m ((c.tc : Thread Cert.ConvMidReferenceIdeal.nD Cert.ConvMidReferenceIdeal.τ).loc Cert.ConvMidReferenceIdeal.main_arg2)
      ∧ r.2.mem ((c.tc : Thread Cert.ConvMidReferenceIdeal.nD Cert.ConvMidReferenceIdeal.τ).loc Cert.ConvMidReferenceIdeal.main_arg3) = m ((c.tc : Thread Cert.ConvMidReferenceIdeal.nD Cert.ConvMidReferenceIdeal.τ).loc Cert.ConvMidReferenceIdeal.main_arg3)
      ∧ r.2.mem ((c.tc : Thread Cert.ConvMidReferenceIdeal.nD Cert.ConvMidReferenceIdeal.τ).loc Cert.ConvMidReferenceIdeal.main_arg4) = m ((c.tc : Thread Cert.ConvMidReferenceIdeal.nD Cert.ConvMidReferenceIdeal.τ).loc Cert.ConvMidReferenceIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionReferenceIdeal [hAttentionReferenceIdeal : Cert.AttentionReferenceIdeal.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)) (v4 : (c : Dev Cert.KernelIdeal.nD) → Buf (Elt Ideal) ((c.tc : Thread Cert.KernelIdeal.nD Cert.KernelIdeal.τ).loc Cert.KernelIdeal.main_v9_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_v9_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_v68) = v3 c
          ∧ r.2.mem ((c.tc : Thread Cert.ReferenceIdeal.nD Cert.ReferenceIdeal.τ).loc Cert.ReferenceIdeal.main_v69) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Feed_FeedIdeal : Prop :=
  True

def algebraic_FeedIdeal_FeedReferenceIdeal [hFeedIdeal : Cert.FeedIdeal.Facts] [hFeedReferenceIdeal : Cert.FeedReferenceIdeal.Facts] : Prop :=
  ∀ (m : (ℓ : Loc Cert.FeedIdeal.nD Cert.FeedIdeal.τ Cert.FeedIdeal.sig) → Buf (Elt Ideal) ℓ) (g : Dev Cert.FeedIdeal.nD → PrngReg)
    (m' : (ℓ : Loc Cert.FeedReferenceIdeal.nD Cert.FeedReferenceIdeal.τ Cert.FeedReferenceIdeal.sig) → Buf (Elt Ideal) ℓ) (g' : Dev Cert.FeedReferenceIdeal.nD → PrngReg), Pre_FeedIdeal m →
    (∀ c : Dev Cert.FeedIdeal.nD,
      m' ((c.tc : Thread Cert.FeedReferenceIdeal.nD Cert.FeedReferenceIdeal.τ).loc Cert.FeedReferenceIdeal.main_arg0) = m ((c.tc : Thread Cert.FeedIdeal.nD Cert.FeedIdeal.τ).loc Cert.FeedIdeal.main_arg0)
      ∧ m' ((c.tc : Thread Cert.FeedReferenceIdeal.nD Cert.FeedReferenceIdeal.τ).loc Cert.FeedReferenceIdeal.main_arg1) = m ((c.tc : Thread Cert.FeedIdeal.nD Cert.FeedIdeal.τ).loc Cert.FeedIdeal.main_arg1)
      ∧ m' ((c.tc : Thread Cert.FeedReferenceIdeal.nD Cert.FeedReferenceIdeal.τ).loc Cert.FeedReferenceIdeal.main_arg2) = m ((c.tc : Thread Cert.FeedIdeal.nD Cert.FeedIdeal.τ).loc Cert.FeedIdeal.main_arg2)
      ∧ m' ((c.tc : Thread Cert.FeedReferenceIdeal.nD Cert.FeedReferenceIdeal.τ).loc Cert.FeedReferenceIdeal.main_arg3) = m ((c.tc : Thread Cert.FeedIdeal.nD Cert.FeedIdeal.τ).loc Cert.FeedIdeal.main_arg3)
      ∧ m' ((c.tc : Thread Cert.FeedReferenceIdeal.nD Cert.FeedReferenceIdeal.τ).loc Cert.FeedReferenceIdeal.main_arg4) = m ((c.tc : Thread Cert.FeedIdeal.nD Cert.FeedIdeal.τ).loc Cert.FeedIdeal.main_arg4)) →
    ∃ (v0 : (c : Dev Cert.FeedIdeal.nD) → Buf (Elt Ideal) ((c.tc : Thread Cert.FeedIdeal.nD Cert.FeedIdeal.τ).loc Cert.FeedIdeal.main_v9)),
      θ_run (Cert.FeedIdeal.defs (F := Ideal)) (onTc (τ := Cert.FeedIdeal.τ) (Cert.FeedIdeal.main (F := Ideal))) ⟨m, fun _ => 0, g⟩ (fun r => ∀ c : Dev Cert.FeedIdeal.nD,
          r.2.mem ((c.tc : Thread Cert.FeedIdeal.nD Cert.FeedIdeal.τ).loc Cert.FeedIdeal.main_v9) = v0 c
          ∧ r.2.mem ((c.tc : Thread Cert.FeedIdeal.nD Cert.FeedIdeal.τ).loc Cert.FeedIdeal.main_arg0) = m ((c.tc : Thread Cert.FeedIdeal.nD Cert.FeedIdeal.τ).loc Cert.FeedIdeal.main_arg0)
          ∧ r.2.mem ((c.tc : Thread Cert.FeedIdeal.nD Cert.FeedIdeal.τ).loc Cert.FeedIdeal.main_arg1) = m ((c.tc : Thread Cert.FeedIdeal.nD Cert.FeedIdeal.τ).loc Cert.FeedIdeal.main_arg1)
          ∧ r.2.mem ((c.tc : Thread Cert.FeedIdeal.nD Cert.FeedIdeal.τ).loc Cert.FeedIdeal.main_arg2) = m ((c.tc : Thread Cert.FeedIdeal.nD Cert.FeedIdeal.τ).loc Cert.FeedIdeal.main_arg2)
          ∧ r.2.mem ((c.tc : Thread Cert.FeedIdeal.nD Cert.FeedIdeal.τ).loc Cert.FeedIdeal.main_arg3) = m ((c.tc : Thread Cert.FeedIdeal.nD Cert.FeedIdeal.τ).loc Cert.FeedIdeal.main_arg3)
          ∧ r.2.mem ((c.tc : Thread Cert.FeedIdeal.nD Cert.FeedIdeal.τ).loc Cert.FeedIdeal.main_arg4) = m ((c.tc : Thread Cert.FeedIdeal.nD Cert.FeedIdeal.τ).loc Cert.FeedIdeal.main_arg4))
      ∧ θ_run (Cert.FeedReferenceIdeal.defs (F := Ideal)) (onTc (τ := Cert.FeedReferenceIdeal.τ) (Cert.FeedReferenceIdeal.main (F := Ideal))) ⟨m', fun _ => 0, g'⟩ (fun r => ∀ c : Dev Cert.FeedReferenceIdeal.nD,
          r.2.mem ((c.tc : Thread Cert.FeedReferenceIdeal.nD Cert.FeedReferenceIdeal.τ).loc Cert.FeedReferenceIdeal.main_v20) = v0 c
          ∧ r.2.mem ((c.tc : Thread Cert.FeedReferenceIdeal.nD Cert.FeedReferenceIdeal.τ).loc Cert.FeedReferenceIdeal.main_arg0) = m' ((c.tc : Thread Cert.FeedReferenceIdeal.nD Cert.FeedReferenceIdeal.τ).loc Cert.FeedReferenceIdeal.main_arg0)
          ∧ r.2.mem ((c.tc : Thread Cert.FeedReferenceIdeal.nD Cert.FeedReferenceIdeal.τ).loc Cert.FeedReferenceIdeal.main_arg1) = m' ((c.tc : Thread Cert.FeedReferenceIdeal.nD Cert.FeedReferenceIdeal.τ).loc Cert.FeedReferenceIdeal.main_arg1)
          ∧ r.2.mem ((c.tc : Thread Cert.FeedReferenceIdeal.nD Cert.FeedReferenceIdeal.τ).loc Cert.FeedReferenceIdeal.main_arg2) = m' ((c.tc : Thread Cert.FeedReferenceIdeal.nD Cert.FeedReferenceIdeal.τ).loc Cert.FeedReferenceIdeal.main_arg2)
          ∧ r.2.mem ((c.tc : Thread Cert.FeedReferenceIdeal.nD Cert.FeedReferenceIdeal.τ).loc Cert.FeedReferenceIdeal.main_arg3) = m' ((c.tc : Thread Cert.FeedReferenceIdeal.nD Cert.FeedReferenceIdeal.τ).loc Cert.FeedReferenceIdeal.main_arg3)
          ∧ r.2.mem ((c.tc : Thread Cert.FeedReferenceIdeal.nD Cert.FeedReferenceIdeal.τ).loc Cert.FeedReferenceIdeal.main_arg4) = m' ((c.tc : Thread Cert.FeedReferenceIdeal.nD Cert.FeedReferenceIdeal.τ).loc Cert.FeedReferenceIdeal.main_arg4))

def preserves_ConvOut_ConvOutIdeal : Prop :=
  True

def algebraic_ConvOutIdeal_ConvOutReferenceIdeal [hConvOutIdeal : Cert.ConvOutIdeal.Facts] [hConvOutReferenceIdeal : Cert.ConvOutReferenceIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg)
    (m' : (ℓ : Loc Cert.ConvOutReferenceIdeal.nD Cert.ConvOutReferenceIdeal.τ Cert.ConvOutReferenceIdeal.sig) → Buf (Elt Ideal) ℓ) (g' : Dev Cert.ConvOutReferenceIdeal.nD → PrngReg), Pre_ConvOutIdeal m →
    (∀ c : Dev Cert.ConvOutIdeal.nD,
      m' ((c.tc : Thread Cert.ConvOutReferenceIdeal.nD Cert.ConvOutReferenceIdeal.τ).loc Cert.ConvOutReferenceIdeal.main_arg0) = m ((c.tc : Thread Cert.ConvOutIdeal.nD Cert.ConvOutIdeal.τ).loc Cert.ConvOutIdeal.main_arg0)
      ∧ m' ((c.tc : Thread Cert.ConvOutReferenceIdeal.nD Cert.ConvOutReferenceIdeal.τ).loc Cert.ConvOutReferenceIdeal.main_arg1) = m ((c.tc : Thread Cert.ConvOutIdeal.nD Cert.ConvOutIdeal.τ).loc Cert.ConvOutIdeal.main_arg1)
      ∧ m' ((c.tc : Thread Cert.ConvOutReferenceIdeal.nD Cert.ConvOutReferenceIdeal.τ).loc Cert.ConvOutReferenceIdeal.main_arg2) = m ((c.tc : Thread Cert.ConvOutIdeal.nD Cert.ConvOutIdeal.τ).loc Cert.ConvOutIdeal.main_arg2)
      ∧ m' ((c.tc : Thread Cert.ConvOutReferenceIdeal.nD Cert.ConvOutReferenceIdeal.τ).loc Cert.ConvOutReferenceIdeal.main_arg3) = m ((c.tc : Thread Cert.ConvOutIdeal.nD Cert.ConvOutIdeal.τ).loc Cert.ConvOutIdeal.main_arg3)) →
    ∃ (v0 : (c : Dev Cert.ConvOutIdeal.nD) → Buf (Elt Ideal) ((c.tc : Thread Cert.ConvOutIdeal.nD Cert.ConvOutIdeal.τ).loc Cert.ConvOutIdeal.main_v2)),
      θ_run (Cert.ConvOutIdeal.defs (F := Ideal)) (onTc (τ := Cert.ConvOutIdeal.τ) (Cert.ConvOutIdeal.main (F := Ideal))) ⟨m, fun _ => 0, g⟩ (fun r => ∀ c : Dev Cert.ConvOutIdeal.nD,
          r.2.mem ((c.tc : Thread Cert.ConvOutIdeal.nD Cert.ConvOutIdeal.τ).loc Cert.ConvOutIdeal.main_v2) = v0 c
          ∧ r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
          ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1)
          ∧ r.2.mem ((c.tc : Thread Cert.ConvOutIdeal.nD Cert.ConvOutIdeal.τ).loc Cert.ConvOutIdeal.main_arg2) = m ((c.tc : Thread Cert.ConvOutIdeal.nD Cert.ConvOutIdeal.τ).loc Cert.ConvOutIdeal.main_arg2)
          ∧ r.2.mem ((c.tc : Thread Cert.ConvOutIdeal.nD Cert.ConvOutIdeal.τ).loc Cert.ConvOutIdeal.main_arg3) = m ((c.tc : Thread Cert.ConvOutIdeal.nD Cert.ConvOutIdeal.τ).loc Cert.ConvOutIdeal.main_arg3))
      ∧ θ_run (Cert.ConvOutReferenceIdeal.defs (F := Ideal)) (onTc (τ := Cert.ConvOutReferenceIdeal.τ) (Cert.ConvOutReferenceIdeal.main (F := Ideal))) ⟨m', fun _ => 0, g'⟩ (fun r => ∀ c : Dev Cert.ConvOutReferenceIdeal.nD,
          r.2.mem ((c.tc : Thread Cert.ConvOutReferenceIdeal.nD Cert.ConvOutReferenceIdeal.τ).loc Cert.ConvOutReferenceIdeal.main_v4) = v0 c
          ∧ r.2.mem ((c.tc : Thread Cert.ConvOutReferenceIdeal.nD Cert.ConvOutReferenceIdeal.τ).loc Cert.ConvOutReferenceIdeal.main_arg0) = m' ((c.tc : Thread Cert.ConvOutReferenceIdeal.nD Cert.ConvOutReferenceIdeal.τ).loc Cert.ConvOutReferenceIdeal.main_arg0)
          ∧ r.2.mem ((c.tc : Thread Cert.ConvOutReferenceIdeal.nD Cert.ConvOutReferenceIdeal.τ).loc Cert.ConvOutReferenceIdeal.main_arg1) = m' ((c.tc : Thread Cert.ConvOutReferenceIdeal.nD Cert.ConvOutReferenceIdeal.τ).loc Cert.ConvOutReferenceIdeal.main_arg1)
          ∧ r.2.mem ((c.tc : Thread Cert.ConvOutReferenceIdeal.nD Cert.ConvOutReferenceIdeal.τ).loc Cert.ConvOutReferenceIdeal.main_arg2) = m' ((c.tc : Thread Cert.ConvOutReferenceIdeal.nD Cert.ConvOutReferenceIdeal.τ).loc Cert.ConvOutReferenceIdeal.main_arg2)
          ∧ r.2.mem ((c.tc : Thread Cert.ConvOutReferenceIdeal.nD Cert.ConvOutReferenceIdeal.τ).loc Cert.ConvOutReferenceIdeal.main_arg3) = m' ((c.tc : Thread Cert.ConvOutReferenceIdeal.nD Cert.ConvOutReferenceIdeal.τ).loc Cert.ConvOutReferenceIdeal.main_arg3))

def preserves_MixOut_MixOutIdeal : Prop :=
  True

def algebraic_MixOutIdeal_MixOutReferenceIdeal [hMixOutIdeal : Cert.MixOutIdeal.Facts] [hMixOutReferenceIdeal : Cert.MixOutReferenceIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutIdeal m →
    (∀ c : Dev Cert.MixOutIdeal.nD,
      m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0)
      ∧ m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1)
      ∧ m' ((c.tc : Thread Cert.MixOutReferenceIdeal.nD Cert.MixOutReferenceIdeal.τ).loc Cert.MixOutReferenceIdeal.main_arg2) = m ((c.tc : Thread Cert.MixOutIdeal.nD Cert.MixOutIdeal.τ).loc Cert.MixOutIdeal.main_arg2)
      ∧ m' ((c.tc : Thread Cert.MixOutReferenceIdeal.nD Cert.MixOutReferenceIdeal.τ).loc Cert.MixOutReferenceIdeal.main_arg3) = m ((c.tc : Thread Cert.MixOutIdeal.nD Cert.MixOutIdeal.τ).loc Cert.MixOutIdeal.main_arg3)) →
    ∃ (v0 : (c : Dev Cert.MixOutIdeal.nD) → Buf (Elt Ideal) ((c.tc : Thread Cert.MixOutIdeal.nD Cert.MixOutIdeal.τ).loc Cert.MixOutIdeal.main_v2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v2) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v2) = v0 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1)
          ∧ r.2.mem ((c.tc : Thread Cert.MixOutReferenceIdeal.nD Cert.MixOutReferenceIdeal.τ).loc Cert.MixOutReferenceIdeal.main_arg2) = m' ((c.tc : Thread Cert.MixOutReferenceIdeal.nD Cert.MixOutReferenceIdeal.τ).loc Cert.MixOutReferenceIdeal.main_arg2)
          ∧ r.2.mem ((c.tc : Thread Cert.MixOutReferenceIdeal.nD Cert.MixOutReferenceIdeal.τ).loc Cert.MixOutReferenceIdeal.main_arg3) = m' ((c.tc : Thread Cert.MixOutReferenceIdeal.nD Cert.MixOutReferenceIdeal.τ).loc Cert.MixOutReferenceIdeal.main_arg3))

def preserves_ConvIn_ConvInIdeal : Prop :=
  True

def algebraic_ConvInIdeal_ConvInReferenceIdeal [hConvInIdeal : Cert.ConvInIdeal.Facts] [hConvInReferenceIdeal : Cert.ConvInReferenceIdeal.Facts] : Prop :=
  ∀ (m : (ℓ : Loc Cert.ConvInIdeal.nD Cert.ConvInIdeal.τ Cert.ConvInIdeal.sig) → Buf (Elt Ideal) ℓ) (g : Dev Cert.ConvInIdeal.nD → PrngReg)
    (m' : (ℓ : Loc Cert.ConvInReferenceIdeal.nD Cert.ConvInReferenceIdeal.τ Cert.ConvInReferenceIdeal.sig) → Buf (Elt Ideal) ℓ) (g' : Dev Cert.ConvInReferenceIdeal.nD → PrngReg), Pre_ConvInIdeal m →
    (∀ c : Dev Cert.ConvInIdeal.nD,
      m' ((c.tc : Thread Cert.ConvInReferenceIdeal.nD Cert.ConvInReferenceIdeal.τ).loc Cert.ConvInReferenceIdeal.main_arg0) = m ((c.tc : Thread Cert.ConvInIdeal.nD Cert.ConvInIdeal.τ).loc Cert.ConvInIdeal.main_arg0)
      ∧ m' ((c.tc : Thread Cert.ConvInReferenceIdeal.nD Cert.ConvInReferenceIdeal.τ).loc Cert.ConvInReferenceIdeal.main_arg1) = m ((c.tc : Thread Cert.ConvInIdeal.nD Cert.ConvInIdeal.τ).loc Cert.ConvInIdeal.main_arg1)
      ∧ m' ((c.tc : Thread Cert.ConvInReferenceIdeal.nD Cert.ConvInReferenceIdeal.τ).loc Cert.ConvInReferenceIdeal.main_arg2) = m ((c.tc : Thread Cert.ConvInIdeal.nD Cert.ConvInIdeal.τ).loc Cert.ConvInIdeal.main_arg2)
      ∧ m' ((c.tc : Thread Cert.ConvInReferenceIdeal.nD Cert.ConvInReferenceIdeal.τ).loc Cert.ConvInReferenceIdeal.main_arg3) = m ((c.tc : Thread Cert.ConvInIdeal.nD Cert.ConvInIdeal.τ).loc Cert.ConvInIdeal.main_arg3)) →
    ∃ (v0 : (c : Dev Cert.ConvInIdeal.nD) → Buf (Elt Ideal) ((c.tc : Thread Cert.ConvInIdeal.nD Cert.ConvInIdeal.τ).loc Cert.ConvInIdeal.main_v3)),
      θ_run (Cert.ConvInIdeal.defs (F := Ideal)) (onTc (τ := Cert.ConvInIdeal.τ) (Cert.ConvInIdeal.main (F := Ideal))) ⟨m, fun _ => 0, g⟩ (fun r => ∀ c : Dev Cert.ConvInIdeal.nD,
          r.2.mem ((c.tc : Thread Cert.ConvInIdeal.nD Cert.ConvInIdeal.τ).loc Cert.ConvInIdeal.main_v3) = v0 c
          ∧ r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
          ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
          ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2)
          ∧ r.2.mem ((c.tc : Thread Cert.ConvInIdeal.nD Cert.ConvInIdeal.τ).loc Cert.ConvInIdeal.main_arg3) = m ((c.tc : Thread Cert.ConvInIdeal.nD Cert.ConvInIdeal.τ).loc Cert.ConvInIdeal.main_arg3))
      ∧ θ_run (Cert.ConvInReferenceIdeal.defs (F := Ideal)) (onTc (τ := Cert.ConvInReferenceIdeal.τ) (Cert.ConvInReferenceIdeal.main (F := Ideal))) ⟨m', fun _ => 0, g'⟩ (fun r => ∀ c : Dev Cert.ConvInReferenceIdeal.nD,
          r.2.mem ((c.tc : Thread Cert.ConvInReferenceIdeal.nD Cert.ConvInReferenceIdeal.τ).loc Cert.ConvInReferenceIdeal.main_v16) = v0 c
          ∧ r.2.mem ((c.tc : Thread Cert.ConvInReferenceIdeal.nD Cert.ConvInReferenceIdeal.τ).loc Cert.ConvInReferenceIdeal.main_arg0) = m' ((c.tc : Thread Cert.ConvInReferenceIdeal.nD Cert.ConvInReferenceIdeal.τ).loc Cert.ConvInReferenceIdeal.main_arg0)
          ∧ r.2.mem ((c.tc : Thread Cert.ConvInReferenceIdeal.nD Cert.ConvInReferenceIdeal.τ).loc Cert.ConvInReferenceIdeal.main_arg1) = m' ((c.tc : Thread Cert.ConvInReferenceIdeal.nD Cert.ConvInReferenceIdeal.τ).loc Cert.ConvInReferenceIdeal.main_arg1)
          ∧ r.2.mem ((c.tc : Thread Cert.ConvInReferenceIdeal.nD Cert.ConvInReferenceIdeal.τ).loc Cert.ConvInReferenceIdeal.main_arg2) = m' ((c.tc : Thread Cert.ConvInReferenceIdeal.nD Cert.ConvInReferenceIdeal.τ).loc Cert.ConvInReferenceIdeal.main_arg2)
          ∧ r.2.mem ((c.tc : Thread Cert.ConvInReferenceIdeal.nD Cert.ConvInReferenceIdeal.τ).loc Cert.ConvInReferenceIdeal.main_arg3) = m' ((c.tc : Thread Cert.ConvInReferenceIdeal.nD Cert.ConvInReferenceIdeal.τ).loc Cert.ConvInReferenceIdeal.main_arg3))

def preserves_MixIn_MixInIdeal : Prop :=
  True

def algebraic_MixInIdeal_MixInReferenceIdeal [hMixInIdeal : Cert.MixInIdeal.Facts] [hMixInReferenceIdeal : Cert.MixInReferenceIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInReferenceIdeal.nD Cert.MixInReferenceIdeal.τ Cert.MixInReferenceIdeal.sig) → Buf (Elt Ideal) ℓ) (g' : Dev Cert.MixInReferenceIdeal.nD → PrngReg), Pre_MixInIdeal m →
    (∀ c : Dev Cert.MixInIdeal.nD,
      m' ((c.tc : Thread Cert.MixInReferenceIdeal.nD Cert.MixInReferenceIdeal.τ).loc Cert.MixInReferenceIdeal.main_arg0) = m ((c.tc : Thread Cert.MixInIdeal.nD Cert.MixInIdeal.τ).loc Cert.MixInIdeal.main_arg0)
      ∧ m' ((c.tc : Thread Cert.MixInReferenceIdeal.nD Cert.MixInReferenceIdeal.τ).loc Cert.MixInReferenceIdeal.main_arg1) = m ((c.tc : Thread Cert.MixInIdeal.nD Cert.MixInIdeal.τ).loc Cert.MixInIdeal.main_arg1)
      ∧ m' ((c.tc : Thread Cert.MixInReferenceIdeal.nD Cert.MixInReferenceIdeal.τ).loc Cert.MixInReferenceIdeal.main_arg2) = m ((c.tc : Thread Cert.MixInIdeal.nD Cert.MixInIdeal.τ).loc Cert.MixInIdeal.main_arg2)) →
    ∃ (v0 : (c : Dev Cert.MixInIdeal.nD) → Buf (Elt Ideal) ((c.tc : Thread Cert.MixInIdeal.nD Cert.MixInIdeal.τ).loc Cert.MixInIdeal.main_v4)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v4) = v0 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ θ_run (Cert.MixInReferenceIdeal.defs (F := Ideal)) (onTc (τ := Cert.MixInReferenceIdeal.τ) (Cert.MixInReferenceIdeal.main (F := Ideal))) ⟨m', fun _ => 0, g'⟩ (fun r => ∀ c : Dev Cert.MixInReferenceIdeal.nD,
          r.2.mem ((c.tc : Thread Cert.MixInReferenceIdeal.nD Cert.MixInReferenceIdeal.τ).loc Cert.MixInReferenceIdeal.main_v14) = v0 c
          ∧ r.2.mem ((c.tc : Thread Cert.MixInReferenceIdeal.nD Cert.MixInReferenceIdeal.τ).loc Cert.MixInReferenceIdeal.main_arg0) = m' ((c.tc : Thread Cert.MixInReferenceIdeal.nD Cert.MixInReferenceIdeal.τ).loc Cert.MixInReferenceIdeal.main_arg0)
          ∧ r.2.mem ((c.tc : Thread Cert.MixInReferenceIdeal.nD Cert.MixInReferenceIdeal.τ).loc Cert.MixInReferenceIdeal.main_arg1) = m' ((c.tc : Thread Cert.MixInReferenceIdeal.nD Cert.MixInReferenceIdeal.τ).loc Cert.MixInReferenceIdeal.main_arg1)
          ∧ r.2.mem ((c.tc : Thread Cert.MixInReferenceIdeal.nD Cert.MixInReferenceIdeal.τ).loc Cert.MixInReferenceIdeal.main_arg2) = m' ((c.tc : Thread Cert.MixInReferenceIdeal.nD Cert.MixInReferenceIdeal.τ).loc Cert.MixInReferenceIdeal.main_arg2))

def preserves_ConvOutGrad_ConvOutGradIdeal : Prop :=
  True

def algebraic_ConvOutGradIdeal_ConvOutGradReferenceIdeal [hConvOutGradIdeal : Cert.ConvOutGradIdeal.Facts] [hConvOutGradReferenceIdeal : Cert.ConvOutGradReferenceIdeal.Facts] : Prop :=
  ∀ (m : (ℓ : Loc Cert.ConvOutGradIdeal.nD Cert.ConvOutGradIdeal.τ Cert.ConvOutGradIdeal.sig) → Buf (Elt Ideal) ℓ) (g : Dev Cert.ConvOutGradIdeal.nD → PrngReg)
    (m' : (ℓ : Loc Cert.ConvOutGradReferenceIdeal.nD Cert.ConvOutGradReferenceIdeal.τ Cert.ConvOutGradReferenceIdeal.sig) → Buf (Elt Ideal) ℓ) (g' : Dev Cert.ConvOutGradReferenceIdeal.nD → PrngReg), Pre_ConvOutGradIdeal m →
    (∀ c : Dev Cert.ConvOutGradIdeal.nD,
      m' ((c.tc : Thread Cert.ConvOutGradReferenceIdeal.nD Cert.ConvOutGradReferenceIdeal.τ).loc Cert.ConvOutGradReferenceIdeal.main_arg0) = m ((c.tc : Thread Cert.ConvOutGradIdeal.nD Cert.ConvOutGradIdeal.τ).loc Cert.ConvOutGradIdeal.main_arg0)
      ∧ m' ((c.tc : Thread Cert.ConvOutGradReferenceIdeal.nD Cert.ConvOutGradReferenceIdeal.τ).loc Cert.ConvOutGradReferenceIdeal.main_arg1) = m ((c.tc : Thread Cert.ConvOutGradIdeal.nD Cert.ConvOutGradIdeal.τ).loc Cert.ConvOutGradIdeal.main_arg1)
      ∧ m' ((c.tc : Thread Cert.ConvOutGradReferenceIdeal.nD Cert.ConvOutGradReferenceIdeal.τ).loc Cert.ConvOutGradReferenceIdeal.main_arg2) = m ((c.tc : Thread Cert.ConvOutGradIdeal.nD Cert.ConvOutGradIdeal.τ).loc Cert.ConvOutGradIdeal.main_arg2)) →
    ∃ (v0 : (c : Dev Cert.ConvOutGradIdeal.nD) → Buf (Elt Ideal) ((c.tc : Thread Cert.ConvOutGradIdeal.nD Cert.ConvOutGradIdeal.τ).loc Cert.ConvOutGradIdeal.main_v1_0)) (v1 : (c : Dev Cert.ConvOutGradIdeal.nD) → Buf (Elt Ideal) ((c.tc : Thread Cert.ConvOutGradIdeal.nD Cert.ConvOutGradIdeal.τ).loc Cert.ConvOutGradIdeal.main_v1_1)) (v2 : (c : Dev Cert.ConvOutGradIdeal.nD) → Buf (Elt Ideal) ((c.tc : Thread Cert.ConvOutGradIdeal.nD Cert.ConvOutGradIdeal.τ).loc Cert.ConvOutGradIdeal.main_v1_2)),
      θ_run (Cert.ConvOutGradIdeal.defs (F := Ideal)) (onTc (τ := Cert.ConvOutGradIdeal.τ) (Cert.ConvOutGradIdeal.main (F := Ideal))) ⟨m, fun _ => 0, g⟩ (fun r => ∀ c : Dev Cert.ConvOutGradIdeal.nD,
          r.2.mem ((c.tc : Thread Cert.ConvOutGradIdeal.nD Cert.ConvOutGradIdeal.τ).loc Cert.ConvOutGradIdeal.main_v1_0) = v0 c
          ∧ r.2.mem ((c.tc : Thread Cert.ConvOutGradIdeal.nD Cert.ConvOutGradIdeal.τ).loc Cert.ConvOutGradIdeal.main_v1_1) = v1 c
          ∧ r.2.mem ((c.tc : Thread Cert.ConvOutGradIdeal.nD Cert.ConvOutGradIdeal.τ).loc Cert.ConvOutGradIdeal.main_v1_2) = v2 c
          ∧ r.2.mem ((c.tc : Thread Cert.ConvOutGradIdeal.nD Cert.ConvOutGradIdeal.τ).loc Cert.ConvOutGradIdeal.main_arg0) = m ((c.tc : Thread Cert.ConvOutGradIdeal.nD Cert.ConvOutGradIdeal.τ).loc Cert.ConvOutGradIdeal.main_arg0)
          ∧ r.2.mem ((c.tc : Thread Cert.ConvOutGradIdeal.nD Cert.ConvOutGradIdeal.τ).loc Cert.ConvOutGradIdeal.main_arg1) = m ((c.tc : Thread Cert.ConvOutGradIdeal.nD Cert.ConvOutGradIdeal.τ).loc Cert.ConvOutGradIdeal.main_arg1)
          ∧ r.2.mem ((c.tc : Thread Cert.ConvOutGradIdeal.nD Cert.ConvOutGradIdeal.τ).loc Cert.ConvOutGradIdeal.main_arg2) = m ((c.tc : Thread Cert.ConvOutGradIdeal.nD Cert.ConvOutGradIdeal.τ).loc Cert.ConvOutGradIdeal.main_arg2))
      ∧ θ_run (Cert.ConvOutGradReferenceIdeal.defs (F := Ideal)) (onTc (τ := Cert.ConvOutGradReferenceIdeal.τ) (Cert.ConvOutGradReferenceIdeal.main (F := Ideal))) ⟨m', fun _ => 0, g'⟩ (fun r => ∀ c : Dev Cert.ConvOutGradReferenceIdeal.nD,
          r.2.mem ((c.tc : Thread Cert.ConvOutGradReferenceIdeal.nD Cert.ConvOutGradReferenceIdeal.τ).loc Cert.ConvOutGradReferenceIdeal.main_v11) = v0 c
          ∧ r.2.mem ((c.tc : Thread Cert.ConvOutGradReferenceIdeal.nD Cert.ConvOutGradReferenceIdeal.τ).loc Cert.ConvOutGradReferenceIdeal.main_v12) = v1 c
          ∧ r.2.mem ((c.tc : Thread Cert.ConvOutGradReferenceIdeal.nD Cert.ConvOutGradReferenceIdeal.τ).loc Cert.ConvOutGradReferenceIdeal.main_v13) = v2 c
          ∧ r.2.mem ((c.tc : Thread Cert.ConvOutGradReferenceIdeal.nD Cert.ConvOutGradReferenceIdeal.τ).loc Cert.ConvOutGradReferenceIdeal.main_arg0) = m' ((c.tc : Thread Cert.ConvOutGradReferenceIdeal.nD Cert.ConvOutGradReferenceIdeal.τ).loc Cert.ConvOutGradReferenceIdeal.main_arg0)
          ∧ r.2.mem ((c.tc : Thread Cert.ConvOutGradReferenceIdeal.nD Cert.ConvOutGradReferenceIdeal.τ).loc Cert.ConvOutGradReferenceIdeal.main_arg1) = m' ((c.tc : Thread Cert.ConvOutGradReferenceIdeal.nD Cert.ConvOutGradReferenceIdeal.τ).loc Cert.ConvOutGradReferenceIdeal.main_arg1)
          ∧ r.2.mem ((c.tc : Thread Cert.ConvOutGradReferenceIdeal.nD Cert.ConvOutGradReferenceIdeal.τ).loc Cert.ConvOutGradReferenceIdeal.main_arg2) = m' ((c.tc : Thread Cert.ConvOutGradReferenceIdeal.nD Cert.ConvOutGradReferenceIdeal.τ).loc Cert.ConvOutGradReferenceIdeal.main_arg2))

def preserves_MixOutGrad_MixOutGradIdeal : Prop :=
  True

def algebraic_MixOutGradIdeal_MixOutGradReferenceIdeal [hMixOutGradIdeal : Cert.MixOutGradIdeal.Facts] [hMixOutGradReferenceIdeal : Cert.MixOutGradReferenceIdeal.Facts] : Prop :=
  ∀ (m : (ℓ : Loc Cert.MixOutGradIdeal.nD Cert.MixOutGradIdeal.τ Cert.MixOutGradIdeal.sig) → Buf (Elt Ideal) ℓ) (g : Dev Cert.MixOutGradIdeal.nD → PrngReg)
    (m' : (ℓ : Loc Cert.MixOutGradReferenceIdeal.nD Cert.MixOutGradReferenceIdeal.τ Cert.MixOutGradReferenceIdeal.sig) → Buf (Elt Ideal) ℓ) (g' : Dev Cert.MixOutGradReferenceIdeal.nD → PrngReg), Pre_MixOutGradIdeal m →
    (∀ c : Dev Cert.MixOutGradIdeal.nD,
      m' ((c.tc : Thread Cert.MixOutGradReferenceIdeal.nD Cert.MixOutGradReferenceIdeal.τ).loc Cert.MixOutGradReferenceIdeal.main_arg0) = m ((c.tc : Thread Cert.MixOutGradIdeal.nD Cert.MixOutGradIdeal.τ).loc Cert.MixOutGradIdeal.main_arg0)
      ∧ m' ((c.tc : Thread Cert.MixOutGradReferenceIdeal.nD Cert.MixOutGradReferenceIdeal.τ).loc Cert.MixOutGradReferenceIdeal.main_arg1) = m ((c.tc : Thread Cert.MixOutGradIdeal.nD Cert.MixOutGradIdeal.τ).loc Cert.MixOutGradIdeal.main_arg1)
      ∧ m' ((c.tc : Thread Cert.MixOutGradReferenceIdeal.nD Cert.MixOutGradReferenceIdeal.τ).loc Cert.MixOutGradReferenceIdeal.main_arg2) = m ((c.tc : Thread Cert.MixOutGradIdeal.nD Cert.MixOutGradIdeal.τ).loc Cert.MixOutGradIdeal.main_arg2)
      ∧ m' ((c.tc : Thread Cert.MixOutGradReferenceIdeal.nD Cert.MixOutGradReferenceIdeal.τ).loc Cert.MixOutGradReferenceIdeal.main_arg3) = m ((c.tc : Thread Cert.MixOutGradIdeal.nD Cert.MixOutGradIdeal.τ).loc Cert.MixOutGradIdeal.main_arg3)) →
    ∃ (v0 : (c : Dev Cert.MixOutGradIdeal.nD) → Buf (Elt Ideal) ((c.tc : Thread Cert.MixOutGradIdeal.nD Cert.MixOutGradIdeal.τ).loc Cert.MixOutGradIdeal.main_v1_0)) (v1 : (c : Dev Cert.MixOutGradIdeal.nD) → Buf (Elt Ideal) ((c.tc : Thread Cert.MixOutGradIdeal.nD Cert.MixOutGradIdeal.τ).loc Cert.MixOutGradIdeal.main_v1_1)) (v2 : (c : Dev Cert.MixOutGradIdeal.nD) → Buf (Elt Ideal) ((c.tc : Thread Cert.MixOutGradIdeal.nD Cert.MixOutGradIdeal.τ).loc Cert.MixOutGradIdeal.main_v1_2)),
      θ_run (Cert.MixOutGradIdeal.defs (F := Ideal)) (onTc (τ := Cert.MixOutGradIdeal.τ) (Cert.MixOutGradIdeal.main (F := Ideal))) ⟨m, fun _ => 0, g⟩ (fun r => ∀ c : Dev Cert.MixOutGradIdeal.nD,
          r.2.mem ((c.tc : Thread Cert.MixOutGradIdeal.nD Cert.MixOutGradIdeal.τ).loc Cert.MixOutGradIdeal.main_v1_0) = v0 c
          ∧ r.2.mem ((c.tc : Thread Cert.MixOutGradIdeal.nD Cert.MixOutGradIdeal.τ).loc Cert.MixOutGradIdeal.main_v1_1) = v1 c
          ∧ r.2.mem ((c.tc : Thread Cert.MixOutGradIdeal.nD Cert.MixOutGradIdeal.τ).loc Cert.MixOutGradIdeal.main_v1_2) = v2 c
          ∧ r.2.mem ((c.tc : Thread Cert.MixOutGradIdeal.nD Cert.MixOutGradIdeal.τ).loc Cert.MixOutGradIdeal.main_arg0) = m ((c.tc : Thread Cert.MixOutGradIdeal.nD Cert.MixOutGradIdeal.τ).loc Cert.MixOutGradIdeal.main_arg0)
          ∧ r.2.mem ((c.tc : Thread Cert.MixOutGradIdeal.nD Cert.MixOutGradIdeal.τ).loc Cert.MixOutGradIdeal.main_arg1) = m ((c.tc : Thread Cert.MixOutGradIdeal.nD Cert.MixOutGradIdeal.τ).loc Cert.MixOutGradIdeal.main_arg1)
          ∧ r.2.mem ((c.tc : Thread Cert.MixOutGradIdeal.nD Cert.MixOutGradIdeal.τ).loc Cert.MixOutGradIdeal.main_arg2) = m ((c.tc : Thread Cert.MixOutGradIdeal.nD Cert.MixOutGradIdeal.τ).loc Cert.MixOutGradIdeal.main_arg2)
          ∧ r.2.mem ((c.tc : Thread Cert.MixOutGradIdeal.nD Cert.MixOutGradIdeal.τ).loc Cert.MixOutGradIdeal.main_arg3) = m ((c.tc : Thread Cert.MixOutGradIdeal.nD Cert.MixOutGradIdeal.τ).loc Cert.MixOutGradIdeal.main_arg3))
      ∧ θ_run (Cert.MixOutGradReferenceIdeal.defs (F := Ideal)) (onTc (τ := Cert.MixOutGradReferenceIdeal.τ) (Cert.MixOutGradReferenceIdeal.main (F := Ideal))) ⟨m', fun _ => 0, g'⟩ (fun r => ∀ c : Dev Cert.MixOutGradReferenceIdeal.nD,
          r.2.mem ((c.tc : Thread Cert.MixOutGradReferenceIdeal.nD Cert.MixOutGradReferenceIdeal.τ).loc Cert.MixOutGradReferenceIdeal.main_v12) = v0 c
          ∧ r.2.mem ((c.tc : Thread Cert.MixOutGradReferenceIdeal.nD Cert.MixOutGradReferenceIdeal.τ).loc Cert.MixOutGradReferenceIdeal.main_v13) = v1 c
          ∧ r.2.mem ((c.tc : Thread Cert.MixOutGradReferenceIdeal.nD Cert.MixOutGradReferenceIdeal.τ).loc Cert.MixOutGradReferenceIdeal.main_v14) = v2 c
          ∧ r.2.mem ((c.tc : Thread Cert.MixOutGradReferenceIdeal.nD Cert.MixOutGradReferenceIdeal.τ).loc Cert.MixOutGradReferenceIdeal.main_arg0) = m' ((c.tc : Thread Cert.MixOutGradReferenceIdeal.nD Cert.MixOutGradReferenceIdeal.τ).loc Cert.MixOutGradReferenceIdeal.main_arg0)
          ∧ r.2.mem ((c.tc : Thread Cert.MixOutGradReferenceIdeal.nD Cert.MixOutGradReferenceIdeal.τ).loc Cert.MixOutGradReferenceIdeal.main_arg1) = m' ((c.tc : Thread Cert.MixOutGradReferenceIdeal.nD Cert.MixOutGradReferenceIdeal.τ).loc Cert.MixOutGradReferenceIdeal.main_arg1)
          ∧ r.2.mem ((c.tc : Thread Cert.MixOutGradReferenceIdeal.nD Cert.MixOutGradReferenceIdeal.τ).loc Cert.MixOutGradReferenceIdeal.main_arg2) = m' ((c.tc : Thread Cert.MixOutGradReferenceIdeal.nD Cert.MixOutGradReferenceIdeal.τ).loc Cert.MixOutGradReferenceIdeal.main_arg2)
          ∧ r.2.mem ((c.tc : Thread Cert.MixOutGradReferenceIdeal.nD Cert.MixOutGradReferenceIdeal.τ).loc Cert.MixOutGradReferenceIdeal.main_arg3) = m' ((c.tc : Thread Cert.MixOutGradReferenceIdeal.nD Cert.MixOutGradReferenceIdeal.τ).loc Cert.MixOutGradReferenceIdeal.main_arg3))

def preserves_ConvInGrad_ConvInGradIdeal : Prop :=
  True

def algebraic_ConvInGradIdeal_ConvInGradReferenceIdeal [hConvInGradIdeal : Cert.ConvInGradIdeal.Facts] [hConvInGradReferenceIdeal : Cert.ConvInGradReferenceIdeal.Facts] : Prop :=
  ∀ (m : (ℓ : Loc Cert.ConvInGradIdeal.nD Cert.ConvInGradIdeal.τ Cert.ConvInGradIdeal.sig) → Buf (Elt Ideal) ℓ) (g : Dev Cert.ConvInGradIdeal.nD → PrngReg)
    (m' : (ℓ : Loc Cert.ConvInGradReferenceIdeal.nD Cert.ConvInGradReferenceIdeal.τ Cert.ConvInGradReferenceIdeal.sig) → Buf (Elt Ideal) ℓ) (g' : Dev Cert.ConvInGradReferenceIdeal.nD → PrngReg), Pre_ConvInGradIdeal m →
    (∀ c : Dev Cert.ConvInGradIdeal.nD,
      m' ((c.tc : Thread Cert.ConvInGradReferenceIdeal.nD Cert.ConvInGradReferenceIdeal.τ).loc Cert.ConvInGradReferenceIdeal.main_arg0) = m ((c.tc : Thread Cert.ConvInGradIdeal.nD Cert.ConvInGradIdeal.τ).loc Cert.ConvInGradIdeal.main_arg0)
      ∧ m' ((c.tc : Thread Cert.ConvInGradReferenceIdeal.nD Cert.ConvInGradReferenceIdeal.τ).loc Cert.ConvInGradReferenceIdeal.main_arg1) = m ((c.tc : Thread Cert.ConvInGradIdeal.nD Cert.ConvInGradIdeal.τ).loc Cert.ConvInGradIdeal.main_arg1)
      ∧ m' ((c.tc : Thread Cert.ConvInGradReferenceIdeal.nD Cert.ConvInGradReferenceIdeal.τ).loc Cert.ConvInGradReferenceIdeal.main_arg2) = m ((c.tc : Thread Cert.ConvInGradIdeal.nD Cert.ConvInGradIdeal.τ).loc Cert.ConvInGradIdeal.main_arg2)
      ∧ m' ((c.tc : Thread Cert.ConvInGradReferenceIdeal.nD Cert.ConvInGradReferenceIdeal.τ).loc Cert.ConvInGradReferenceIdeal.main_arg3) = m ((c.tc : Thread Cert.ConvInGradIdeal.nD Cert.ConvInGradIdeal.τ).loc Cert.ConvInGradIdeal.main_arg3)
      ∧ m' ((c.tc : Thread Cert.ConvInGradReferenceIdeal.nD Cert.ConvInGradReferenceIdeal.τ).loc Cert.ConvInGradReferenceIdeal.main_arg4) = m ((c.tc : Thread Cert.ConvInGradIdeal.nD Cert.ConvInGradIdeal.τ).loc Cert.ConvInGradIdeal.main_arg4)) →
    ∃ (v0 : (c : Dev Cert.ConvInGradIdeal.nD) → Buf (Elt Ideal) ((c.tc : Thread Cert.ConvInGradIdeal.nD Cert.ConvInGradIdeal.τ).loc Cert.ConvInGradIdeal.main_v2_0)) (v1 : (c : Dev Cert.ConvInGradIdeal.nD) → Buf (Elt Ideal) ((c.tc : Thread Cert.ConvInGradIdeal.nD Cert.ConvInGradIdeal.τ).loc Cert.ConvInGradIdeal.main_v2_1)) (v2 : (c : Dev Cert.ConvInGradIdeal.nD) → Buf (Elt Ideal) ((c.tc : Thread Cert.ConvInGradIdeal.nD Cert.ConvInGradIdeal.τ).loc Cert.ConvInGradIdeal.main_v2_2)) (v3 : (c : Dev Cert.ConvInGradIdeal.nD) → Buf (Elt Ideal) ((c.tc : Thread Cert.ConvInGradIdeal.nD Cert.ConvInGradIdeal.τ).loc Cert.ConvInGradIdeal.main_v2_3)),
      θ_run (Cert.ConvInGradIdeal.defs (F := Ideal)) (onTc (τ := Cert.ConvInGradIdeal.τ) (Cert.ConvInGradIdeal.main (F := Ideal))) ⟨m, fun _ => 0, g⟩ (fun r => ∀ c : Dev Cert.ConvInGradIdeal.nD,
          r.2.mem ((c.tc : Thread Cert.ConvInGradIdeal.nD Cert.ConvInGradIdeal.τ).loc Cert.ConvInGradIdeal.main_v2_0) = v0 c
          ∧ r.2.mem ((c.tc : Thread Cert.ConvInGradIdeal.nD Cert.ConvInGradIdeal.τ).loc Cert.ConvInGradIdeal.main_v2_1) = v1 c
          ∧ r.2.mem ((c.tc : Thread Cert.ConvInGradIdeal.nD Cert.ConvInGradIdeal.τ).loc Cert.ConvInGradIdeal.main_v2_2) = v2 c
          ∧ r.2.mem ((c.tc : Thread Cert.ConvInGradIdeal.nD Cert.ConvInGradIdeal.τ).loc Cert.ConvInGradIdeal.main_v2_3) = v3 c
          ∧ r.2.mem ((c.tc : Thread Cert.ConvInGradIdeal.nD Cert.ConvInGradIdeal.τ).loc Cert.ConvInGradIdeal.main_arg0) = m ((c.tc : Thread Cert.ConvInGradIdeal.nD Cert.ConvInGradIdeal.τ).loc Cert.ConvInGradIdeal.main_arg0)
          ∧ r.2.mem ((c.tc : Thread Cert.ConvInGradIdeal.nD Cert.ConvInGradIdeal.τ).loc Cert.ConvInGradIdeal.main_arg1) = m ((c.tc : Thread Cert.ConvInGradIdeal.nD Cert.ConvInGradIdeal.τ).loc Cert.ConvInGradIdeal.main_arg1)
          ∧ r.2.mem ((c.tc : Thread Cert.ConvInGradIdeal.nD Cert.ConvInGradIdeal.τ).loc Cert.ConvInGradIdeal.main_arg2) = m ((c.tc : Thread Cert.ConvInGradIdeal.nD Cert.ConvInGradIdeal.τ).loc Cert.ConvInGradIdeal.main_arg2)
          ∧ r.2.mem ((c.tc : Thread Cert.ConvInGradIdeal.nD Cert.ConvInGradIdeal.τ).loc Cert.ConvInGradIdeal.main_arg3) = m ((c.tc : Thread Cert.ConvInGradIdeal.nD Cert.ConvInGradIdeal.τ).loc Cert.ConvInGradIdeal.main_arg3)
          ∧ r.2.mem ((c.tc : Thread Cert.ConvInGradIdeal.nD Cert.ConvInGradIdeal.τ).loc Cert.ConvInGradIdeal.main_arg4) = m ((c.tc : Thread Cert.ConvInGradIdeal.nD Cert.ConvInGradIdeal.τ).loc Cert.ConvInGradIdeal.main_arg4))
      ∧ θ_run (Cert.ConvInGradReferenceIdeal.defs (F := Ideal)) (onTc (τ := Cert.ConvInGradReferenceIdeal.τ) (Cert.ConvInGradReferenceIdeal.main (F := Ideal))) ⟨m', fun _ => 0, g'⟩ (fun r => ∀ c : Dev Cert.ConvInGradReferenceIdeal.nD,
          r.2.mem ((c.tc : Thread Cert.ConvInGradReferenceIdeal.nD Cert.ConvInGradReferenceIdeal.τ).loc Cert.ConvInGradReferenceIdeal.main_v48) = v0 c
          ∧ r.2.mem ((c.tc : Thread Cert.ConvInGradReferenceIdeal.nD Cert.ConvInGradReferenceIdeal.τ).loc Cert.ConvInGradReferenceIdeal.main_v49) = v1 c
          ∧ r.2.mem ((c.tc : Thread Cert.ConvInGradReferenceIdeal.nD Cert.ConvInGradReferenceIdeal.τ).loc Cert.ConvInGradReferenceIdeal.main_v50) = v2 c
          ∧ r.2.mem ((c.tc : Thread Cert.ConvInGradReferenceIdeal.nD Cert.ConvInGradReferenceIdeal.τ).loc Cert.ConvInGradReferenceIdeal.main_v51) = v3 c
          ∧ r.2.mem ((c.tc : Thread Cert.ConvInGradReferenceIdeal.nD Cert.ConvInGradReferenceIdeal.τ).loc Cert.ConvInGradReferenceIdeal.main_arg0) = m' ((c.tc : Thread Cert.ConvInGradReferenceIdeal.nD Cert.ConvInGradReferenceIdeal.τ).loc Cert.ConvInGradReferenceIdeal.main_arg0)
          ∧ r.2.mem ((c.tc : Thread Cert.ConvInGradReferenceIdeal.nD Cert.ConvInGradReferenceIdeal.τ).loc Cert.ConvInGradReferenceIdeal.main_arg1) = m' ((c.tc : Thread Cert.ConvInGradReferenceIdeal.nD Cert.ConvInGradReferenceIdeal.τ).loc Cert.ConvInGradReferenceIdeal.main_arg1)
          ∧ r.2.mem ((c.tc : Thread Cert.ConvInGradReferenceIdeal.nD Cert.ConvInGradReferenceIdeal.τ).loc Cert.ConvInGradReferenceIdeal.main_arg2) = m' ((c.tc : Thread Cert.ConvInGradReferenceIdeal.nD Cert.ConvInGradReferenceIdeal.τ).loc Cert.ConvInGradReferenceIdeal.main_arg2)
          ∧ r.2.mem ((c.tc : Thread Cert.ConvInGradReferenceIdeal.nD Cert.ConvInGradReferenceIdeal.τ).loc Cert.ConvInGradReferenceIdeal.main_arg3) = m' ((c.tc : Thread Cert.ConvInGradReferenceIdeal.nD Cert.ConvInGradReferenceIdeal.τ).loc Cert.ConvInGradReferenceIdeal.main_arg3)
          ∧ r.2.mem ((c.tc : Thread Cert.ConvInGradReferenceIdeal.nD Cert.ConvInGradReferenceIdeal.τ).loc Cert.ConvInGradReferenceIdeal.main_arg4) = m' ((c.tc : Thread Cert.ConvInGradReferenceIdeal.nD Cert.ConvInGradReferenceIdeal.τ).loc Cert.ConvInGradReferenceIdeal.main_arg4))

def preserves_MixInGrad_MixInGradIdeal : Prop :=
  True

def algebraic_MixInGradIdeal_MixInGradReferenceIdeal [hMixInGradIdeal : Cert.MixInGradIdeal.Facts] [hMixInGradReferenceIdeal : Cert.MixInGradReferenceIdeal.Facts] : Prop :=
  ∀ (m : (ℓ : Loc Cert.MixInGradIdeal.nD Cert.MixInGradIdeal.τ Cert.MixInGradIdeal.sig) → Buf (Elt Ideal) ℓ) (g : Dev Cert.MixInGradIdeal.nD → PrngReg)
    (m' : (ℓ : Loc Cert.MixInGradReferenceIdeal.nD Cert.MixInGradReferenceIdeal.τ Cert.MixInGradReferenceIdeal.sig) → Buf (Elt Ideal) ℓ) (g' : Dev Cert.MixInGradReferenceIdeal.nD → PrngReg), Pre_MixInGradIdeal m →
    (∀ c : Dev Cert.MixInGradIdeal.nD,
      m' ((c.tc : Thread Cert.MixInGradReferenceIdeal.nD Cert.MixInGradReferenceIdeal.τ).loc Cert.MixInGradReferenceIdeal.main_arg0) = m ((c.tc : Thread Cert.MixInGradIdeal.nD Cert.MixInGradIdeal.τ).loc Cert.MixInGradIdeal.main_arg0)
      ∧ m' ((c.tc : Thread Cert.MixInGradReferenceIdeal.nD Cert.MixInGradReferenceIdeal.τ).loc Cert.MixInGradReferenceIdeal.main_arg1) = m ((c.tc : Thread Cert.MixInGradIdeal.nD Cert.MixInGradIdeal.τ).loc Cert.MixInGradIdeal.main_arg1)
      ∧ m' ((c.tc : Thread Cert.MixInGradReferenceIdeal.nD Cert.MixInGradReferenceIdeal.τ).loc Cert.MixInGradReferenceIdeal.main_arg2) = m ((c.tc : Thread Cert.MixInGradIdeal.nD Cert.MixInGradIdeal.τ).loc Cert.MixInGradIdeal.main_arg2)
      ∧ m' ((c.tc : Thread Cert.MixInGradReferenceIdeal.nD Cert.MixInGradReferenceIdeal.τ).loc Cert.MixInGradReferenceIdeal.main_arg3) = m ((c.tc : Thread Cert.MixInGradIdeal.nD Cert.MixInGradIdeal.τ).loc Cert.MixInGradIdeal.main_arg3)
      ∧ m' ((c.tc : Thread Cert.MixInGradReferenceIdeal.nD Cert.MixInGradReferenceIdeal.τ).loc Cert.MixInGradReferenceIdeal.main_arg4) = m ((c.tc : Thread Cert.MixInGradIdeal.nD Cert.MixInGradIdeal.τ).loc Cert.MixInGradIdeal.main_arg4)
      ∧ m' ((c.tc : Thread Cert.MixInGradReferenceIdeal.nD Cert.MixInGradReferenceIdeal.τ).loc Cert.MixInGradReferenceIdeal.main_arg5) = m ((c.tc : Thread Cert.MixInGradIdeal.nD Cert.MixInGradIdeal.τ).loc Cert.MixInGradIdeal.main_arg5)
      ∧ m' ((c.tc : Thread Cert.MixInGradReferenceIdeal.nD Cert.MixInGradReferenceIdeal.τ).loc Cert.MixInGradReferenceIdeal.main_arg6) = m ((c.tc : Thread Cert.MixInGradIdeal.nD Cert.MixInGradIdeal.τ).loc Cert.MixInGradIdeal.main_arg6)
      ∧ m' ((c.tc : Thread Cert.MixInGradReferenceIdeal.nD Cert.MixInGradReferenceIdeal.τ).loc Cert.MixInGradReferenceIdeal.main_arg7) = m ((c.tc : Thread Cert.MixInGradIdeal.nD Cert.MixInGradIdeal.τ).loc Cert.MixInGradIdeal.main_arg7)) →
    ∃ (v0 : (c : Dev Cert.MixInGradIdeal.nD) → Buf (Elt Ideal) ((c.tc : Thread Cert.MixInGradIdeal.nD Cert.MixInGradIdeal.τ).loc Cert.MixInGradIdeal.main_v3_0)) (v1 : (c : Dev Cert.MixInGradIdeal.nD) → Buf (Elt Ideal) ((c.tc : Thread Cert.MixInGradIdeal.nD Cert.MixInGradIdeal.τ).loc Cert.MixInGradIdeal.main_v3_1)) (v2 : (c : Dev Cert.MixInGradIdeal.nD) → Buf (Elt Ideal) ((c.tc : Thread Cert.MixInGradIdeal.nD Cert.MixInGradIdeal.τ).loc Cert.MixInGradIdeal.main_v3_2)) (v3 : (c : Dev Cert.MixInGradIdeal.nD) → Buf (Elt Ideal) ((c.tc : Thread Cert.MixInGradIdeal.nD Cert.MixInGradIdeal.τ).loc Cert.MixInGradIdeal.main_v3_3)),
      θ_run (Cert.MixInGradIdeal.defs (F := Ideal)) (onTc (τ := Cert.MixInGradIdeal.τ) (Cert.MixInGradIdeal.main (F := Ideal))) ⟨m, fun _ => 0, g⟩ (fun r => ∀ c : Dev Cert.MixInGradIdeal.nD,
          r.2.mem ((c.tc : Thread Cert.MixInGradIdeal.nD Cert.MixInGradIdeal.τ).loc Cert.MixInGradIdeal.main_v3_0) = v0 c
          ∧ r.2.mem ((c.tc : Thread Cert.MixInGradIdeal.nD Cert.MixInGradIdeal.τ).loc Cert.MixInGradIdeal.main_v3_1) = v1 c
          ∧ r.2.mem ((c.tc : Thread Cert.MixInGradIdeal.nD Cert.MixInGradIdeal.τ).loc Cert.MixInGradIdeal.main_v3_2) = v2 c
          ∧ r.2.mem ((c.tc : Thread Cert.MixInGradIdeal.nD Cert.MixInGradIdeal.τ).loc Cert.MixInGradIdeal.main_v3_3) = v3 c
          ∧ r.2.mem ((c.tc : Thread Cert.MixInGradIdeal.nD Cert.MixInGradIdeal.τ).loc Cert.MixInGradIdeal.main_arg0) = m ((c.tc : Thread Cert.MixInGradIdeal.nD Cert.MixInGradIdeal.τ).loc Cert.MixInGradIdeal.main_arg0)
          ∧ r.2.mem ((c.tc : Thread Cert.MixInGradIdeal.nD Cert.MixInGradIdeal.τ).loc Cert.MixInGradIdeal.main_arg1) = m ((c.tc : Thread Cert.MixInGradIdeal.nD Cert.MixInGradIdeal.τ).loc Cert.MixInGradIdeal.main_arg1)
          ∧ r.2.mem ((c.tc : Thread Cert.MixInGradIdeal.nD Cert.MixInGradIdeal.τ).loc Cert.MixInGradIdeal.main_arg2) = m ((c.tc : Thread Cert.MixInGradIdeal.nD Cert.MixInGradIdeal.τ).loc Cert.MixInGradIdeal.main_arg2)
          ∧ r.2.mem ((c.tc : Thread Cert.MixInGradIdeal.nD Cert.MixInGradIdeal.τ).loc Cert.MixInGradIdeal.main_arg3) = m ((c.tc : Thread Cert.MixInGradIdeal.nD Cert.MixInGradIdeal.τ).loc Cert.MixInGradIdeal.main_arg3)
          ∧ r.2.mem ((c.tc : Thread Cert.MixInGradIdeal.nD Cert.MixInGradIdeal.τ).loc Cert.MixInGradIdeal.main_arg4) = m ((c.tc : Thread Cert.MixInGradIdeal.nD Cert.MixInGradIdeal.τ).loc Cert.MixInGradIdeal.main_arg4)
          ∧ r.2.mem ((c.tc : Thread Cert.MixInGradIdeal.nD Cert.MixInGradIdeal.τ).loc Cert.MixInGradIdeal.main_arg5) = m ((c.tc : Thread Cert.MixInGradIdeal.nD Cert.MixInGradIdeal.τ).loc Cert.MixInGradIdeal.main_arg5)
          ∧ r.2.mem ((c.tc : Thread Cert.MixInGradIdeal.nD Cert.MixInGradIdeal.τ).loc Cert.MixInGradIdeal.main_arg6) = m ((c.tc : Thread Cert.MixInGradIdeal.nD Cert.MixInGradIdeal.τ).loc Cert.MixInGradIdeal.main_arg6)
          ∧ r.2.mem ((c.tc : Thread Cert.MixInGradIdeal.nD Cert.MixInGradIdeal.τ).loc Cert.MixInGradIdeal.main_arg7) = m ((c.tc : Thread Cert.MixInGradIdeal.nD Cert.MixInGradIdeal.τ).loc Cert.MixInGradIdeal.main_arg7))
      ∧ θ_run (Cert.MixInGradReferenceIdeal.defs (F := Ideal)) (onTc (τ := Cert.MixInGradReferenceIdeal.τ) (Cert.MixInGradReferenceIdeal.main (F := Ideal))) ⟨m', fun _ => 0, g'⟩ (fun r => ∀ c : Dev Cert.MixInGradReferenceIdeal.nD,
          r.2.mem ((c.tc : Thread Cert.MixInGradReferenceIdeal.nD Cert.MixInGradReferenceIdeal.τ).loc Cert.MixInGradReferenceIdeal.main_v49) = v0 c
          ∧ r.2.mem ((c.tc : Thread Cert.MixInGradReferenceIdeal.nD Cert.MixInGradReferenceIdeal.τ).loc Cert.MixInGradReferenceIdeal.main_v50) = v1 c
          ∧ r.2.mem ((c.tc : Thread Cert.MixInGradReferenceIdeal.nD Cert.MixInGradReferenceIdeal.τ).loc Cert.MixInGradReferenceIdeal.main_v51) = v2 c
          ∧ r.2.mem ((c.tc : Thread Cert.MixInGradReferenceIdeal.nD Cert.MixInGradReferenceIdeal.τ).loc Cert.MixInGradReferenceIdeal.main_v52) = v3 c
          ∧ r.2.mem ((c.tc : Thread Cert.MixInGradReferenceIdeal.nD Cert.MixInGradReferenceIdeal.τ).loc Cert.MixInGradReferenceIdeal.main_arg0) = m' ((c.tc : Thread Cert.MixInGradReferenceIdeal.nD Cert.MixInGradReferenceIdeal.τ).loc Cert.MixInGradReferenceIdeal.main_arg0)
          ∧ r.2.mem ((c.tc : Thread Cert.MixInGradReferenceIdeal.nD Cert.MixInGradReferenceIdeal.τ).loc Cert.MixInGradReferenceIdeal.main_arg1) = m' ((c.tc : Thread Cert.MixInGradReferenceIdeal.nD Cert.MixInGradReferenceIdeal.τ).loc Cert.MixInGradReferenceIdeal.main_arg1)
          ∧ r.2.mem ((c.tc : Thread Cert.MixInGradReferenceIdeal.nD Cert.MixInGradReferenceIdeal.τ).loc Cert.MixInGradReferenceIdeal.main_arg2) = m' ((c.tc : Thread Cert.MixInGradReferenceIdeal.nD Cert.MixInGradReferenceIdeal.τ).loc Cert.MixInGradReferenceIdeal.main_arg2)
          ∧ r.2.mem ((c.tc : Thread Cert.MixInGradReferenceIdeal.nD Cert.MixInGradReferenceIdeal.τ).loc Cert.MixInGradReferenceIdeal.main_arg3) = m' ((c.tc : Thread Cert.MixInGradReferenceIdeal.nD Cert.MixInGradReferenceIdeal.τ).loc Cert.MixInGradReferenceIdeal.main_arg3)
          ∧ r.2.mem ((c.tc : Thread Cert.MixInGradReferenceIdeal.nD Cert.MixInGradReferenceIdeal.τ).loc Cert.MixInGradReferenceIdeal.main_arg4) = m' ((c.tc : Thread Cert.MixInGradReferenceIdeal.nD Cert.MixInGradReferenceIdeal.τ).loc Cert.MixInGradReferenceIdeal.main_arg4)
          ∧ r.2.mem ((c.tc : Thread Cert.MixInGradReferenceIdeal.nD Cert.MixInGradReferenceIdeal.τ).loc Cert.MixInGradReferenceIdeal.main_arg5) = m' ((c.tc : Thread Cert.MixInGradReferenceIdeal.nD Cert.MixInGradReferenceIdeal.τ).loc Cert.MixInGradReferenceIdeal.main_arg5)
          ∧ r.2.mem ((c.tc : Thread Cert.MixInGradReferenceIdeal.nD Cert.MixInGradReferenceIdeal.τ).loc Cert.MixInGradReferenceIdeal.main_arg6) = m' ((c.tc : Thread Cert.MixInGradReferenceIdeal.nD Cert.MixInGradReferenceIdeal.τ).loc Cert.MixInGradReferenceIdeal.main_arg6)
          ∧ r.2.mem ((c.tc : Thread Cert.MixInGradReferenceIdeal.nD Cert.MixInGradReferenceIdeal.τ).loc Cert.MixInGradReferenceIdeal.main_arg7) = m' ((c.tc : Thread Cert.MixInGradReferenceIdeal.nD Cert.MixInGradReferenceIdeal.τ).loc Cert.MixInGradReferenceIdeal.main_arg7))

def preserves_ShortConvGrad_ShortConvGradIdeal : Prop :=
  True

def algebraic_ShortConvGradIdeal_ShortConvGradReferenceIdeal_pre_finite_short_conv [hShortConvGradIdeal : Cert.ShortConvGradIdeal.Facts] [hShortConvGradReferenceIdeal : Cert.ShortConvGradReferenceIdeal.Facts] [hPre_finite_short_conv : Cert.Pre_finite_short_conv.Facts] : Prop :=
  ∀ (m : (ℓ : Loc Cert.ShortConvGradIdeal.nD Cert.ShortConvGradIdeal.τ Cert.ShortConvGradIdeal.sig) → Buf (Elt Ideal) ℓ) (g : Dev Cert.ShortConvGradIdeal.nD → PrngReg)
    (m' : (ℓ : Loc Cert.ShortConvGradReferenceIdeal.nD Cert.ShortConvGradReferenceIdeal.τ Cert.ShortConvGradReferenceIdeal.sig) → Buf (Elt Ideal) ℓ) (g' : Dev Cert.ShortConvGradReferenceIdeal.nD → PrngReg), Pre_ShortConvGradIdeal_finite_short_conv m →
    (∀ c : Dev Cert.ShortConvGradIdeal.nD,
      m' ((c.tc : Thread Cert.ShortConvGradReferenceIdeal.nD Cert.ShortConvGradReferenceIdeal.τ).loc Cert.ShortConvGradReferenceIdeal.main_arg0) = m ((c.tc : Thread Cert.ShortConvGradIdeal.nD Cert.ShortConvGradIdeal.τ).loc Cert.ShortConvGradIdeal.main_arg0)
      ∧ m' ((c.tc : Thread Cert.ShortConvGradReferenceIdeal.nD Cert.ShortConvGradReferenceIdeal.τ).loc Cert.ShortConvGradReferenceIdeal.main_arg1) = m ((c.tc : Thread Cert.ShortConvGradIdeal.nD Cert.ShortConvGradIdeal.τ).loc Cert.ShortConvGradIdeal.main_arg1)
      ∧ m' ((c.tc : Thread Cert.ShortConvGradReferenceIdeal.nD Cert.ShortConvGradReferenceIdeal.τ).loc Cert.ShortConvGradReferenceIdeal.main_arg2) = m ((c.tc : Thread Cert.ShortConvGradIdeal.nD Cert.ShortConvGradIdeal.τ).loc Cert.ShortConvGradIdeal.main_arg2)) →
    ∃ (v0 : (c : Dev Cert.ShortConvGradIdeal.nD) → Buf (Elt Ideal) ((c.tc : Thread Cert.ShortConvGradIdeal.nD Cert.ShortConvGradIdeal.τ).loc Cert.ShortConvGradIdeal.main_v0_0)) (v1 : (c : Dev Cert.ShortConvGradIdeal.nD) → Buf (Elt Ideal) ((c.tc : Thread Cert.ShortConvGradIdeal.nD Cert.ShortConvGradIdeal.τ).loc Cert.ShortConvGradIdeal.main_v0_1)),
      θ_run (Cert.ShortConvGradIdeal.defs (F := Ideal)) (onTc (τ := Cert.ShortConvGradIdeal.τ) (Cert.ShortConvGradIdeal.main (F := Ideal))) ⟨m, fun _ => 0, g⟩ (fun r => ∀ c : Dev Cert.ShortConvGradIdeal.nD,
          r.2.mem ((c.tc : Thread Cert.ShortConvGradIdeal.nD Cert.ShortConvGradIdeal.τ).loc Cert.ShortConvGradIdeal.main_v0_0) = v0 c
          ∧ r.2.mem ((c.tc : Thread Cert.ShortConvGradIdeal.nD Cert.ShortConvGradIdeal.τ).loc Cert.ShortConvGradIdeal.main_v0_1) = v1 c
          ∧ r.2.mem ((c.tc : Thread Cert.ShortConvGradIdeal.nD Cert.ShortConvGradIdeal.τ).loc Cert.ShortConvGradIdeal.main_arg0) = m ((c.tc : Thread Cert.ShortConvGradIdeal.nD Cert.ShortConvGradIdeal.τ).loc Cert.ShortConvGradIdeal.main_arg0)
          ∧ r.2.mem ((c.tc : Thread Cert.ShortConvGradIdeal.nD Cert.ShortConvGradIdeal.τ).loc Cert.ShortConvGradIdeal.main_arg1) = m ((c.tc : Thread Cert.ShortConvGradIdeal.nD Cert.ShortConvGradIdeal.τ).loc Cert.ShortConvGradIdeal.main_arg1)
          ∧ r.2.mem ((c.tc : Thread Cert.ShortConvGradIdeal.nD Cert.ShortConvGradIdeal.τ).loc Cert.ShortConvGradIdeal.main_arg2) = m ((c.tc : Thread Cert.ShortConvGradIdeal.nD Cert.ShortConvGradIdeal.τ).loc Cert.ShortConvGradIdeal.main_arg2))
      ∧ θ_run (Cert.ShortConvGradReferenceIdeal.defs (F := Ideal)) (onTc (τ := Cert.ShortConvGradReferenceIdeal.τ) (Cert.ShortConvGradReferenceIdeal.main (F := Ideal))) ⟨m', fun _ => 0, g'⟩ (fun r => ∀ c : Dev Cert.ShortConvGradReferenceIdeal.nD,
          r.2.mem ((c.tc : Thread Cert.ShortConvGradReferenceIdeal.nD Cert.ShortConvGradReferenceIdeal.τ).loc Cert.ShortConvGradReferenceIdeal.main_v76) = v0 c
          ∧ r.2.mem ((c.tc : Thread Cert.ShortConvGradReferenceIdeal.nD Cert.ShortConvGradReferenceIdeal.τ).loc Cert.ShortConvGradReferenceIdeal.main_v74) = v1 c
          ∧ r.2.mem ((c.tc : Thread Cert.ShortConvGradReferenceIdeal.nD Cert.ShortConvGradReferenceIdeal.τ).loc Cert.ShortConvGradReferenceIdeal.main_arg0) = m' ((c.tc : Thread Cert.ShortConvGradReferenceIdeal.nD Cert.ShortConvGradReferenceIdeal.τ).loc Cert.ShortConvGradReferenceIdeal.main_arg0)
          ∧ r.2.mem ((c.tc : Thread Cert.ShortConvGradReferenceIdeal.nD Cert.ShortConvGradReferenceIdeal.τ).loc Cert.ShortConvGradReferenceIdeal.main_arg1) = m' ((c.tc : Thread Cert.ShortConvGradReferenceIdeal.nD Cert.ShortConvGradReferenceIdeal.τ).loc Cert.ShortConvGradReferenceIdeal.main_arg1)
          ∧ r.2.mem ((c.tc : Thread Cert.ShortConvGradReferenceIdeal.nD Cert.ShortConvGradReferenceIdeal.τ).loc Cert.ShortConvGradReferenceIdeal.main_arg2) = m' ((c.tc : Thread Cert.ShortConvGradReferenceIdeal.nD Cert.ShortConvGradReferenceIdeal.τ).loc Cert.ShortConvGradReferenceIdeal.main_arg2))

def preserves_ShortConv_ShortConvIdeal : Prop :=
  True

def algebraic_ShortConvIdeal_ShortConvReferenceIdeal [hShortConvIdeal : Cert.ShortConvIdeal.Facts] [hShortConvReferenceIdeal : Cert.ShortConvReferenceIdeal.Facts] : Prop :=
  ∀ (m : (ℓ : Loc Cert.ShortConvIdeal.nD Cert.ShortConvIdeal.τ Cert.ShortConvIdeal.sig) → Buf (Elt Ideal) ℓ) (g : Dev Cert.ShortConvIdeal.nD → PrngReg)
    (m' : (ℓ : Loc Cert.ShortConvReferenceIdeal.nD Cert.ShortConvReferenceIdeal.τ Cert.ShortConvReferenceIdeal.sig) → Buf (Elt Ideal) ℓ) (g' : Dev Cert.ShortConvReferenceIdeal.nD → PrngReg), Pre_ShortConvIdeal m →
    (∀ c : Dev Cert.ShortConvIdeal.nD,
      m' ((c.tc : Thread Cert.ShortConvReferenceIdeal.nD Cert.ShortConvReferenceIdeal.τ).loc Cert.ShortConvReferenceIdeal.main_arg0) = m ((c.tc : Thread Cert.ShortConvIdeal.nD Cert.ShortConvIdeal.τ).loc Cert.ShortConvIdeal.main_arg0)
      ∧ m' ((c.tc : Thread Cert.ShortConvReferenceIdeal.nD Cert.ShortConvReferenceIdeal.τ).loc Cert.ShortConvReferenceIdeal.main_arg1) = m ((c.tc : Thread Cert.ShortConvIdeal.nD Cert.ShortConvIdeal.τ).loc Cert.ShortConvIdeal.main_arg1)) →
    ∃ (v0 : (c : Dev Cert.ShortConvIdeal.nD) → Buf (Elt Ideal) ((c.tc : Thread Cert.ShortConvIdeal.nD Cert.ShortConvIdeal.τ).loc Cert.ShortConvIdeal.main_v0)),
      θ_run (Cert.ShortConvIdeal.defs (F := Ideal)) (onTc (τ := Cert.ShortConvIdeal.τ) (Cert.ShortConvIdeal.main (F := Ideal))) ⟨m, fun _ => 0, g⟩ (fun r => ∀ c : Dev Cert.ShortConvIdeal.nD,
          r.2.mem ((c.tc : Thread Cert.ShortConvIdeal.nD Cert.ShortConvIdeal.τ).loc Cert.ShortConvIdeal.main_v0) = v0 c
          ∧ r.2.mem ((c.tc : Thread Cert.ShortConvIdeal.nD Cert.ShortConvIdeal.τ).loc Cert.ShortConvIdeal.main_arg0) = m ((c.tc : Thread Cert.ShortConvIdeal.nD Cert.ShortConvIdeal.τ).loc Cert.ShortConvIdeal.main_arg0)
          ∧ r.2.mem ((c.tc : Thread Cert.ShortConvIdeal.nD Cert.ShortConvIdeal.τ).loc Cert.ShortConvIdeal.main_arg1) = m ((c.tc : Thread Cert.ShortConvIdeal.nD Cert.ShortConvIdeal.τ).loc Cert.ShortConvIdeal.main_arg1))
      ∧ θ_run (Cert.ShortConvReferenceIdeal.defs (F := Ideal)) (onTc (τ := Cert.ShortConvReferenceIdeal.τ) (Cert.ShortConvReferenceIdeal.main (F := Ideal))) ⟨m', fun _ => 0, g'⟩ (fun r => ∀ c : Dev Cert.ShortConvReferenceIdeal.nD,
          r.2.mem ((c.tc : Thread Cert.ShortConvReferenceIdeal.nD Cert.ShortConvReferenceIdeal.τ).loc Cert.ShortConvReferenceIdeal.main_v30) = v0 c
          ∧ r.2.mem ((c.tc : Thread Cert.ShortConvReferenceIdeal.nD Cert.ShortConvReferenceIdeal.τ).loc Cert.ShortConvReferenceIdeal.main_arg0) = m' ((c.tc : Thread Cert.ShortConvReferenceIdeal.nD Cert.ShortConvReferenceIdeal.τ).loc Cert.ShortConvReferenceIdeal.main_arg0)
          ∧ r.2.mem ((c.tc : Thread Cert.ShortConvReferenceIdeal.nD Cert.ShortConvReferenceIdeal.τ).loc Cert.ShortConvReferenceIdeal.main_arg1) = m' ((c.tc : Thread Cert.ShortConvReferenceIdeal.nD Cert.ShortConvReferenceIdeal.τ).loc Cert.ShortConvReferenceIdeal.main_arg1))

def preserves_ConvMid_ConvMidIdeal : Prop :=
  True

def algebraic_ConvMidIdeal_ConvMidReferenceIdeal [hConvMidIdeal : Cert.ConvMidIdeal.Facts] [hConvMidReferenceIdeal : Cert.ConvMidReferenceIdeal.Facts] : Prop :=
  ∀ (m : (ℓ : Loc Cert.ConvMidIdeal.nD Cert.ConvMidIdeal.τ Cert.ConvMidIdeal.sig) → Buf (Elt Ideal) ℓ) (g : Dev Cert.ConvMidIdeal.nD → PrngReg)
    (m' : (ℓ : Loc Cert.ConvMidReferenceIdeal.nD Cert.ConvMidReferenceIdeal.τ Cert.ConvMidReferenceIdeal.sig) → Buf (Elt Ideal) ℓ) (g' : Dev Cert.ConvMidReferenceIdeal.nD → PrngReg), Pre_ConvMidIdeal m →
    (∀ c : Dev Cert.ConvMidIdeal.nD,
      m' ((c.tc : Thread Cert.ConvMidReferenceIdeal.nD Cert.ConvMidReferenceIdeal.τ).loc Cert.ConvMidReferenceIdeal.main_arg0) = m ((c.tc : Thread Cert.ConvMidIdeal.nD Cert.ConvMidIdeal.τ).loc Cert.ConvMidIdeal.main_arg0)
      ∧ m' ((c.tc : Thread Cert.ConvMidReferenceIdeal.nD Cert.ConvMidReferenceIdeal.τ).loc Cert.ConvMidReferenceIdeal.main_arg1) = m ((c.tc : Thread Cert.ConvMidIdeal.nD Cert.ConvMidIdeal.τ).loc Cert.ConvMidIdeal.main_arg1)
      ∧ m' ((c.tc : Thread Cert.ConvMidReferenceIdeal.nD Cert.ConvMidReferenceIdeal.τ).loc Cert.ConvMidReferenceIdeal.main_arg2) = m ((c.tc : Thread Cert.ConvMidIdeal.nD Cert.ConvMidIdeal.τ).loc Cert.ConvMidIdeal.main_arg2)
      ∧ m' ((c.tc : Thread Cert.ConvMidReferenceIdeal.nD Cert.ConvMidReferenceIdeal.τ).loc Cert.ConvMidReferenceIdeal.main_arg3) = m ((c.tc : Thread Cert.ConvMidIdeal.nD Cert.ConvMidIdeal.τ).loc Cert.ConvMidIdeal.main_arg3)
      ∧ m' ((c.tc : Thread Cert.ConvMidReferenceIdeal.nD Cert.ConvMidReferenceIdeal.τ).loc Cert.ConvMidReferenceIdeal.main_arg4) = m ((c.tc : Thread Cert.ConvMidIdeal.nD Cert.ConvMidIdeal.τ).loc Cert.ConvMidIdeal.main_arg4)) →
    ∃ (v0 : (c : Dev Cert.ConvMidIdeal.nD) → Buf (Elt Ideal) ((c.tc : Thread Cert.ConvMidIdeal.nD Cert.ConvMidIdeal.τ).loc Cert.ConvMidIdeal.main_v3_0)) (v1 : (c : Dev Cert.ConvMidIdeal.nD) → Buf (Elt Ideal) ((c.tc : Thread Cert.ConvMidIdeal.nD Cert.ConvMidIdeal.τ).loc Cert.ConvMidIdeal.main_v3_1)),
      θ_run (Cert.ConvMidIdeal.defs (F := Ideal)) (onTc (τ := Cert.ConvMidIdeal.τ) (Cert.ConvMidIdeal.main (F := Ideal))) ⟨m, fun _ => 0, g⟩ (fun r => ∀ c : Dev Cert.ConvMidIdeal.nD,
          r.2.mem ((c.tc : Thread Cert.ConvMidIdeal.nD Cert.ConvMidIdeal.τ).loc Cert.ConvMidIdeal.main_v3_0) = v0 c
          ∧ r.2.mem ((c.tc : Thread Cert.ConvMidIdeal.nD Cert.ConvMidIdeal.τ).loc Cert.ConvMidIdeal.main_v3_1) = v1 c
          ∧ r.2.mem ((c.tc : Thread Cert.ConvMidIdeal.nD Cert.ConvMidIdeal.τ).loc Cert.ConvMidIdeal.main_arg0) = m ((c.tc : Thread Cert.ConvMidIdeal.nD Cert.ConvMidIdeal.τ).loc Cert.ConvMidIdeal.main_arg0)
          ∧ r.2.mem ((c.tc : Thread Cert.ConvMidIdeal.nD Cert.ConvMidIdeal.τ).loc Cert.ConvMidIdeal.main_arg1) = m ((c.tc : Thread Cert.ConvMidIdeal.nD Cert.ConvMidIdeal.τ).loc Cert.ConvMidIdeal.main_arg1)
          ∧ r.2.mem ((c.tc : Thread Cert.ConvMidIdeal.nD Cert.ConvMidIdeal.τ).loc Cert.ConvMidIdeal.main_arg2) = m ((c.tc : Thread Cert.ConvMidIdeal.nD Cert.ConvMidIdeal.τ).loc Cert.ConvMidIdeal.main_arg2)
          ∧ r.2.mem ((c.tc : Thread Cert.ConvMidIdeal.nD Cert.ConvMidIdeal.τ).loc Cert.ConvMidIdeal.main_arg3) = m ((c.tc : Thread Cert.ConvMidIdeal.nD Cert.ConvMidIdeal.τ).loc Cert.ConvMidIdeal.main_arg3)
          ∧ r.2.mem ((c.tc : Thread Cert.ConvMidIdeal.nD Cert.ConvMidIdeal.τ).loc Cert.ConvMidIdeal.main_arg4) = m ((c.tc : Thread Cert.ConvMidIdeal.nD Cert.ConvMidIdeal.τ).loc Cert.ConvMidIdeal.main_arg4))
      ∧ θ_run (Cert.ConvMidReferenceIdeal.defs (F := Ideal)) (onTc (τ := Cert.ConvMidReferenceIdeal.τ) (Cert.ConvMidReferenceIdeal.main (F := Ideal))) ⟨m', fun _ => 0, g'⟩ (fun r => ∀ c : Dev Cert.ConvMidReferenceIdeal.nD,
          r.2.mem ((c.tc : Thread Cert.ConvMidReferenceIdeal.nD Cert.ConvMidReferenceIdeal.τ).loc Cert.ConvMidReferenceIdeal.main_v105) = v0 c
          ∧ r.2.mem ((c.tc : Thread Cert.ConvMidReferenceIdeal.nD Cert.ConvMidReferenceIdeal.τ).loc Cert.ConvMidReferenceIdeal.main_v82) = v1 c
          ∧ r.2.mem ((c.tc : Thread Cert.ConvMidReferenceIdeal.nD Cert.ConvMidReferenceIdeal.τ).loc Cert.ConvMidReferenceIdeal.main_arg0) = m' ((c.tc : Thread Cert.ConvMidReferenceIdeal.nD Cert.ConvMidReferenceIdeal.τ).loc Cert.ConvMidReferenceIdeal.main_arg0)
          ∧ r.2.mem ((c.tc : Thread Cert.ConvMidReferenceIdeal.nD Cert.ConvMidReferenceIdeal.τ).loc Cert.ConvMidReferenceIdeal.main_arg1) = m' ((c.tc : Thread Cert.ConvMidReferenceIdeal.nD Cert.ConvMidReferenceIdeal.τ).loc Cert.ConvMidReferenceIdeal.main_arg1)
          ∧ r.2.mem ((c.tc : Thread Cert.ConvMidReferenceIdeal.nD Cert.ConvMidReferenceIdeal.τ).loc Cert.ConvMidReferenceIdeal.main_arg2) = m' ((c.tc : Thread Cert.ConvMidReferenceIdeal.nD Cert.ConvMidReferenceIdeal.τ).loc Cert.ConvMidReferenceIdeal.main_arg2)
          ∧ r.2.mem ((c.tc : Thread Cert.ConvMidReferenceIdeal.nD Cert.ConvMidReferenceIdeal.τ).loc Cert.ConvMidReferenceIdeal.main_arg3) = m' ((c.tc : Thread Cert.ConvMidReferenceIdeal.nD Cert.ConvMidReferenceIdeal.τ).loc Cert.ConvMidReferenceIdeal.main_arg3)
          ∧ r.2.mem ((c.tc : Thread Cert.ConvMidReferenceIdeal.nD Cert.ConvMidReferenceIdeal.τ).loc Cert.ConvMidReferenceIdeal.main_arg4) = m' ((c.tc : Thread Cert.ConvMidReferenceIdeal.nD Cert.ConvMidReferenceIdeal.τ).loc Cert.ConvMidReferenceIdeal.main_arg4))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)
      ∧ m' ((c.tc : Thread Cert.LossReferenceIdeal.nD Cert.LossReferenceIdeal.τ).loc Cert.LossReferenceIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v51) = v0 c
          ∧ r.2.mem ((c.tc : Thread Cert.LossReferenceIdeal.nD Cert.LossReferenceIdeal.τ).loc Cert.LossReferenceIdeal.main_v50) = v1 c
          ∧ r.2.mem ((c.tc : Thread Cert.LossReferenceIdeal.nD Cert.LossReferenceIdeal.τ).loc Cert.LossReferenceIdeal.main_v52) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_Attention_AttentionIdeal : Prop :=
  True

def algebraic_AttentionIdeal_AttentionReferenceIdeal [hAttentionIdeal : Cert.AttentionIdeal.Facts] [hAttentionReferenceIdeal : Cert.AttentionReferenceIdeal.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionReferenceIdeal.nD Cert.AttentionReferenceIdeal.τ Cert.AttentionReferenceIdeal.sig) → Buf (Elt Ideal) ℓ) (g' : Dev Cert.AttentionReferenceIdeal.nD → PrngReg), Pre_AttentionIdeal m →
    (∀ c : Dev Cert.AttentionIdeal.nD,
      m' ((c.tc : Thread Cert.AttentionReferenceIdeal.nD Cert.AttentionReferenceIdeal.τ).loc Cert.AttentionReferenceIdeal.main_arg0) = m ((c.tc : Thread Cert.AttentionIdeal.nD Cert.AttentionIdeal.τ).loc Cert.AttentionIdeal.main_arg0)
      ∧ m' ((c.tc : Thread Cert.AttentionReferenceIdeal.nD Cert.AttentionReferenceIdeal.τ).loc Cert.AttentionReferenceIdeal.main_arg1) = m ((c.tc : Thread Cert.AttentionIdeal.nD Cert.AttentionIdeal.τ).loc Cert.AttentionIdeal.main_arg1)
      ∧ m' ((c.tc : Thread Cert.AttentionReferenceIdeal.nD Cert.AttentionReferenceIdeal.τ).loc Cert.AttentionReferenceIdeal.main_arg2) = m ((c.tc : Thread Cert.AttentionIdeal.nD Cert.AttentionIdeal.τ).loc Cert.AttentionIdeal.main_arg2)) →
    ∃ (v0 : (c : Dev Cert.AttentionIdeal.nD) → Buf (Elt Ideal) ((c.tc : Thread Cert.AttentionIdeal.nD Cert.AttentionIdeal.τ).loc Cert.AttentionIdeal.main_v6)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v6) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ θ_run (Cert.AttentionReferenceIdeal.defs (F := Ideal)) (onTc (τ := Cert.AttentionReferenceIdeal.τ) (Cert.AttentionReferenceIdeal.main (F := Ideal))) ⟨m', fun _ => 0, g'⟩ (fun r => ∀ c : Dev Cert.AttentionReferenceIdeal.nD,
          r.2.mem ((c.tc : Thread Cert.AttentionReferenceIdeal.nD Cert.AttentionReferenceIdeal.τ).loc Cert.AttentionReferenceIdeal.main_v75) = v0 c
          ∧ r.2.mem ((c.tc : Thread Cert.AttentionReferenceIdeal.nD Cert.AttentionReferenceIdeal.τ).loc Cert.AttentionReferenceIdeal.main_arg0) = m' ((c.tc : Thread Cert.AttentionReferenceIdeal.nD Cert.AttentionReferenceIdeal.τ).loc Cert.AttentionReferenceIdeal.main_arg0)
          ∧ r.2.mem ((c.tc : Thread Cert.AttentionReferenceIdeal.nD Cert.AttentionReferenceIdeal.τ).loc Cert.AttentionReferenceIdeal.main_arg1) = m' ((c.tc : Thread Cert.AttentionReferenceIdeal.nD Cert.AttentionReferenceIdeal.τ).loc Cert.AttentionReferenceIdeal.main_arg1)
          ∧ r.2.mem ((c.tc : Thread Cert.AttentionReferenceIdeal.nD Cert.AttentionReferenceIdeal.τ).loc Cert.AttentionReferenceIdeal.main_arg2) = m' ((c.tc : Thread Cert.AttentionReferenceIdeal.nD Cert.AttentionReferenceIdeal.τ).loc Cert.AttentionReferenceIdeal.main_arg2))

def Claim : Prop :=
  ∃ (hKernel : Cert.Kernel.Facts) (hKernelIdeal : Cert.KernelIdeal.Facts) (hReferenceIdeal : Cert.ReferenceIdeal.Facts) (hFeed : Cert.Feed.Facts) (hFeedIdeal : Cert.FeedIdeal.Facts) (hFeedReferenceIdeal : Cert.FeedReferenceIdeal.Facts) (hConvOut : Cert.ConvOut.Facts) (hConvOutIdeal : Cert.ConvOutIdeal.Facts) (hConvOutReferenceIdeal : Cert.ConvOutReferenceIdeal.Facts) (hMixOut : Cert.MixOut.Facts) (hMixOutIdeal : Cert.MixOutIdeal.Facts) (hMixOutReferenceIdeal : Cert.MixOutReferenceIdeal.Facts) (hConvIn : Cert.ConvIn.Facts) (hConvInIdeal : Cert.ConvInIdeal.Facts) (hConvInReferenceIdeal : Cert.ConvInReferenceIdeal.Facts) (hMixIn : Cert.MixIn.Facts) (hMixInIdeal : Cert.MixInIdeal.Facts) (hMixInReferenceIdeal : Cert.MixInReferenceIdeal.Facts) (hConvOutGrad : Cert.ConvOutGrad.Facts) (hConvOutGradIdeal : Cert.ConvOutGradIdeal.Facts) (hConvOutGradReferenceIdeal : Cert.ConvOutGradReferenceIdeal.Facts) (hMixOutGrad : Cert.MixOutGrad.Facts) (hMixOutGradIdeal : Cert.MixOutGradIdeal.Facts) (hMixOutGradReferenceIdeal : Cert.MixOutGradReferenceIdeal.Facts) (hConvInGrad : Cert.ConvInGrad.Facts) (hConvInGradIdeal : Cert.ConvInGradIdeal.Facts) (hConvInGradReferenceIdeal : Cert.ConvInGradReferenceIdeal.Facts) (hMixInGrad : Cert.MixInGrad.Facts) (hMixInGradIdeal : Cert.MixInGradIdeal.Facts) (hMixInGradReferenceIdeal : Cert.MixInGradReferenceIdeal.Facts) (hShortConvGrad : Cert.ShortConvGrad.Facts) (hShortConvGradIdeal : Cert.ShortConvGradIdeal.Facts) (hShortConvGradReferenceIdeal : Cert.ShortConvGradReferenceIdeal.Facts) (hShortConv : Cert.ShortConv.Facts) (hShortConvIdeal : Cert.ShortConvIdeal.Facts) (hShortConvReferenceIdeal : Cert.ShortConvReferenceIdeal.Facts) (hConvMid : Cert.ConvMid.Facts) (hConvMidIdeal : Cert.ConvMidIdeal.Facts) (hConvMidReferenceIdeal : Cert.ConvMidReferenceIdeal.Facts) (hLoss : Cert.Loss.Facts) (hLossIdeal : Cert.LossIdeal.Facts) (hLossReferenceIdeal : Cert.LossReferenceIdeal.Facts) (hAttention : Cert.Attention.Facts) (hAttentionIdeal : Cert.AttentionIdeal.Facts) (hAttentionReferenceIdeal : Cert.AttentionReferenceIdeal.Facts) (hPre_finite : Cert.Pre_finite.Facts) (hPre_finite_short_conv : Cert.Pre_finite_short_conv.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Feed (hFeed := hFeed)
    ∧ quiescent_FeedIdeal (hFeedIdeal := hFeedIdeal)
    ∧ quiescent_FeedReferenceIdeal (hFeedReferenceIdeal := hFeedReferenceIdeal)
    ∧ quiescent_ConvOut (hConvOut := hConvOut)
    ∧ quiescent_ConvOutIdeal (hConvOutIdeal := hConvOutIdeal)
    ∧ quiescent_ConvOutReferenceIdeal (hConvOutReferenceIdeal := hConvOutReferenceIdeal)
    ∧ quiescent_MixOut (hMixOut := hMixOut)
    ∧ quiescent_MixOutIdeal (hMixOutIdeal := hMixOutIdeal)
    ∧ quiescent_MixOutReferenceIdeal (hMixOutReferenceIdeal := hMixOutReferenceIdeal)
    ∧ quiescent_ConvIn (hConvIn := hConvIn)
    ∧ quiescent_ConvInIdeal (hConvInIdeal := hConvInIdeal)
    ∧ quiescent_ConvInReferenceIdeal (hConvInReferenceIdeal := hConvInReferenceIdeal)
    ∧ quiescent_MixIn (hMixIn := hMixIn)
    ∧ quiescent_MixInIdeal (hMixInIdeal := hMixInIdeal)
    ∧ quiescent_MixInReferenceIdeal (hMixInReferenceIdeal := hMixInReferenceIdeal)
    ∧ quiescent_ConvOutGrad (hConvOutGrad := hConvOutGrad)
    ∧ quiescent_ConvOutGradIdeal (hConvOutGradIdeal := hConvOutGradIdeal)
    ∧ quiescent_ConvOutGradReferenceIdeal (hConvOutGradReferenceIdeal := hConvOutGradReferenceIdeal)
    ∧ quiescent_MixOutGrad (hMixOutGrad := hMixOutGrad)
    ∧ quiescent_MixOutGradIdeal (hMixOutGradIdeal := hMixOutGradIdeal)
    ∧ quiescent_MixOutGradReferenceIdeal (hMixOutGradReferenceIdeal := hMixOutGradReferenceIdeal)
    ∧ quiescent_ConvInGrad (hConvInGrad := hConvInGrad)
    ∧ quiescent_ConvInGradIdeal (hConvInGradIdeal := hConvInGradIdeal)
    ∧ quiescent_ConvInGradReferenceIdeal (hConvInGradReferenceIdeal := hConvInGradReferenceIdeal)
    ∧ quiescent_MixInGrad (hMixInGrad := hMixInGrad)
    ∧ quiescent_MixInGradIdeal (hMixInGradIdeal := hMixInGradIdeal)
    ∧ quiescent_MixInGradReferenceIdeal (hMixInGradReferenceIdeal := hMixInGradReferenceIdeal)
    ∧ quiescent_ShortConvGrad (hShortConvGrad := hShortConvGrad)
    ∧ quiescent_ShortConvGradIdeal (hShortConvGradIdeal := hShortConvGradIdeal)
    ∧ quiescent_ShortConvGradIdeal_pre_finite_short_conv (hShortConvGradIdeal := hShortConvGradIdeal) (hPre_finite_short_conv := hPre_finite_short_conv)
    ∧ quiescent_ShortConvGradReferenceIdeal (hShortConvGradReferenceIdeal := hShortConvGradReferenceIdeal)
    ∧ quiescent_ShortConvGradReferenceIdeal_pre_finite_short_conv (hShortConvGradReferenceIdeal := hShortConvGradReferenceIdeal) (hPre_finite_short_conv := hPre_finite_short_conv)
    ∧ quiescent_ShortConv (hShortConv := hShortConv)
    ∧ quiescent_ShortConvIdeal (hShortConvIdeal := hShortConvIdeal)
    ∧ quiescent_ShortConvReferenceIdeal (hShortConvReferenceIdeal := hShortConvReferenceIdeal)
    ∧ quiescent_ConvMid (hConvMid := hConvMid)
    ∧ quiescent_ConvMidIdeal (hConvMidIdeal := hConvMidIdeal)
    ∧ quiescent_ConvMidReferenceIdeal (hConvMidReferenceIdeal := hConvMidReferenceIdeal)
    ∧ quiescent_Loss (hLoss := hLoss)
    ∧ quiescent_LossIdeal (hLossIdeal := hLossIdeal)
    ∧ quiescent_LossReferenceIdeal (hLossReferenceIdeal := hLossReferenceIdeal)
    ∧ quiescent_Attention (hAttention := hAttention)
    ∧ quiescent_AttentionIdeal (hAttentionIdeal := hAttentionIdeal)
    ∧ quiescent_AttentionReferenceIdeal (hAttentionReferenceIdeal := hAttentionReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Feed_FeedIdeal
    ∧ algebraic_FeedIdeal_FeedReferenceIdeal (hFeedIdeal := hFeedIdeal) (hFeedReferenceIdeal := hFeedReferenceIdeal)
    ∧ preserves_ConvOut_ConvOutIdeal
    ∧ algebraic_ConvOutIdeal_ConvOutReferenceIdeal (hConvOutIdeal := hConvOutIdeal) (hConvOutReferenceIdeal := hConvOutReferenceIdeal)
    ∧ preserves_MixOut_MixOutIdeal
    ∧ algebraic_MixOutIdeal_MixOutReferenceIdeal (hMixOutIdeal := hMixOutIdeal) (hMixOutReferenceIdeal := hMixOutReferenceIdeal)
    ∧ preserves_ConvIn_ConvInIdeal
    ∧ algebraic_ConvInIdeal_ConvInReferenceIdeal (hConvInIdeal := hConvInIdeal) (hConvInReferenceIdeal := hConvInReferenceIdeal)
    ∧ preserves_MixIn_MixInIdeal
    ∧ algebraic_MixInIdeal_MixInReferenceIdeal (hMixInIdeal := hMixInIdeal) (hMixInReferenceIdeal := hMixInReferenceIdeal)
    ∧ preserves_ConvOutGrad_ConvOutGradIdeal
    ∧ algebraic_ConvOutGradIdeal_ConvOutGradReferenceIdeal (hConvOutGradIdeal := hConvOutGradIdeal) (hConvOutGradReferenceIdeal := hConvOutGradReferenceIdeal)
    ∧ preserves_MixOutGrad_MixOutGradIdeal
    ∧ algebraic_MixOutGradIdeal_MixOutGradReferenceIdeal (hMixOutGradIdeal := hMixOutGradIdeal) (hMixOutGradReferenceIdeal := hMixOutGradReferenceIdeal)
    ∧ preserves_ConvInGrad_ConvInGradIdeal
    ∧ algebraic_ConvInGradIdeal_ConvInGradReferenceIdeal (hConvInGradIdeal := hConvInGradIdeal) (hConvInGradReferenceIdeal := hConvInGradReferenceIdeal)
    ∧ preserves_MixInGrad_MixInGradIdeal
    ∧ algebraic_MixInGradIdeal_MixInGradReferenceIdeal (hMixInGradIdeal := hMixInGradIdeal) (hMixInGradReferenceIdeal := hMixInGradReferenceIdeal)
    ∧ preserves_ShortConvGrad_ShortConvGradIdeal
    ∧ algebraic_ShortConvGradIdeal_ShortConvGradReferenceIdeal_pre_finite_short_conv (hShortConvGradIdeal := hShortConvGradIdeal) (hShortConvGradReferenceIdeal := hShortConvGradReferenceIdeal) (hPre_finite_short_conv := hPre_finite_short_conv)
    ∧ preserves_ShortConv_ShortConvIdeal
    ∧ algebraic_ShortConvIdeal_ShortConvReferenceIdeal (hShortConvIdeal := hShortConvIdeal) (hShortConvReferenceIdeal := hShortConvReferenceIdeal)
    ∧ preserves_ConvMid_ConvMidIdeal
    ∧ algebraic_ConvMidIdeal_ConvMidReferenceIdeal (hConvMidIdeal := hConvMidIdeal) (hConvMidReferenceIdeal := hConvMidReferenceIdeal)
    ∧ preserves_Loss_LossIdeal
    ∧ algebraic_LossIdeal_LossReferenceIdeal (hLossIdeal := hLossIdeal) (hLossReferenceIdeal := hLossReferenceIdeal)
    ∧ preserves_Attention_AttentionIdeal
    ∧ algebraic_AttentionIdeal_AttentionReferenceIdeal (hAttentionIdeal := hAttentionIdeal) (hAttentionReferenceIdeal := hAttentionReferenceIdeal)
-- ==== Pre_finite.lean ====
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S2048x1024 .f32) (main_arg1 : FVec F S2048x1024 .f32) (main_arg2 : FVec F S1024 .f32) (main_arg3 : FVec F S1024x2816 .f32) (main_arg4 : FVec F S1024x2816 .f32) (main_arg5 : FVec F S2816x1024 .f32) : IVec S2048x1024 1 × IVec S2048x1024 1 × IVec S1024 1 × IVec S1024x2816 1 × IVec S1024x2816 1 × IVec S2816x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S1024x2816 .f32 := Host.absf main_arg4
  let main_cst_3 : FVec F S_ .f32 := constant S_ .f32 0x7F800000#32
  let main_v13 : FVec F S1024x2816 .f32 := broadcastInDim S1024x2816 ![] bcast_S_S1024x2816 main_cst_3
  let main_v14 : IVec S1024x2816 1 := cmpf .olt main_v12 main_v13
  let main_v15 : FVec F S2816x1024 .f32 := Host.absf main_arg5
  let main_cst_4 : FVec F S_ .f32 := constant S_ .f32 0x7F800000#32
  let main_v16 : FVec F S2816x1024 .f32 := broadcastInDim S2816x1024 ![] bcast_S_S2816x1024 main_cst_4
  let main_v17 : IVec S2816x1024 1 := cmpf .olt main_v15 main_v16
  (main_v2, main_v5, main_v8, main_v11, main_v14, main_v17)
-- ==== Pre_finite_short_conv.lean ====
abbrev S2048x3072 : Shape := ⟨2, ![2048, 3072]⟩
abbrev S4x1536 : Shape := ⟨2, ![4, 1536]⟩
abbrev S2048x1536 : Shape := ⟨2, ![2048, 1536]⟩
abbrev S_ : Shape := ⟨0, ![]⟩

class Facts : Prop where
  slices_S2048x3072_S2048x1536_0_768 : S2048x3072.Slices ![0, 768] S2048x1536
  bcast_S_S2048x1536 : S_.BroadcastsInDim S2048x1536 (![] : Fin 0 → Fin S2048x1536.rank)
  bcast_S_S4x1536 : S_.BroadcastsInDim S4x1536 (![] : Fin 0 → Fin S4x1536.rank)

variable [Facts]

def fn {F : FTy → Type} [FloatOps F] (main_arg0 : FVec F S2048x3072 .f32) (main_arg1 : FVec F S4x1536 .f32) (main_arg2 : FVec F S2048x1536 .f32) : IVec S2048x1536 1 × IVec S4x1536 1 × IVec S2048x1536 1 :=
  let main_v0 : FVec F S2048x1536 .f32 := (extractStridedSlice S2048x1536 ![0, 768] · slices_S2048x3072_S2048x1536_0_768) main_arg0
  let main_v1 : FVec F S2048x1536 .f32 := Host.absf main_v0
  let main_cst : FVec F S_ .f32 := constant S_ .f32 0x7F800000#32
  let main_v2 : FVec F S2048x1536 .f32 := broadcastInDim S2048x1536 ![] bcast_S_S2048x1536 main_cst
  let main_v3 : IVec S2048x1536 1 := cmpf .olt main_v1 main_v2
  let main_v4 : FVec F S4x1536 .f32 := Host.absf main_arg1
  let main_cst_0 : FVec F S_ .f32 := constant S_ .f32 0x7F800000#32
  let main_v5 : FVec F S4x1536 .f32 := broadcastInDim S4x1536 ![] bcast_S_S4x1536 main_cst_0
  let main_v6 : IVec S4x1536 1 := cmpf .olt main_v4 main_v5
  let main_v7 : FVec F S2048x1536 .f32 := Host.absf main_arg2
  let main_cst_1 : FVec F S_ .f32 := constant S_ .f32 0x7F800000#32
  let main_v8 : FVec F S2048x1536 .f32 := broadcastInDim S2048x1536 ![] bcast_S_S2048x1536 main_cst_1
  let main_v9 : IVec S2048x1536 1 := cmpf .olt main_v7 main_v8
  (main_v3, main_v6, main_v9)
-- ==== Kernel.lean ====
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S1024x8x352 : Shape := ⟨3, ![1024, 8, 352]⟩
abbrev S8x1024x352 : Shape := ⟨3, ![8, 1024, 352]⟩
abbrev S8x352x1024 : Shape := ⟨3, ![8, 352, 1024]⟩
abbrev S1x1024 : Shape := ⟨2, ![1, 1024]⟩
abbrev S256x1024 : Shape := ⟨2, ![256, 1024]⟩
abbrev S2x1024x352 : Shape := ⟨3, ![2, 1024, 352]⟩
abbrev S2x352x1024 : Shape := ⟨3, ![2, 352, 1024]⟩
abbrev S704x1024 : Shape := ⟨2, ![704, 1024]⟩
abbrev S256 : Shape := ⟨1, ![256]⟩
abbrev S256x1 : Shape := ⟨2, ![256, 1]⟩
abbrev S1x1024x352 : Shape := ⟨3, ![1, 1024, 352]⟩
abbrev S1024x352 : Shape := ⟨2, ![1024, 352]⟩
abbrev S1024x704 : Shape := ⟨2, ![1024, 704]⟩
abbrev S256x704 : Shape := ⟨2, ![256, 704]⟩

abbrev nBuf : Space → Nat
  | .hbm => 20
  | .vmem => 26
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024x8x352, .f32⟩
  | .hbm, ⟨7, _⟩ => ⟨S8x1024x352, .f32⟩
  | .hbm, ⟨8, _⟩ => ⟨S8x1024x352, .bf16⟩
  | .hbm, ⟨9, _⟩ => ⟨S1024x8x352, .f32⟩
  | .hbm, ⟨10, _⟩ => ⟨S8x1024x352, .f32⟩
  | .hbm, ⟨11, _⟩ => ⟨S8x1024x352, .bf16⟩
  | .hbm, ⟨12, _⟩ => ⟨S8x352x1024, .f32⟩
  | .hbm, ⟨13, _⟩ => ⟨S8x352x1024, .bf16⟩
  | .hbm, ⟨14, _⟩ => ⟨S1x1024, .f32⟩
  | .hbm, ⟨15, _⟩ => ⟨S2048x1024, .f32⟩
  | .hbm, ⟨16, _⟩ => ⟨S8x352x1024, .bf16⟩
  | .hbm, ⟨17, _⟩ => ⟨S8x352x1024, .bf16⟩
  | .hbm, ⟨18, _⟩ => ⟨S8x352x1024, .bf16⟩
  | .hbm, ⟨19, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S2x1024x352, .bf16⟩
  | .local _ .vmem, ⟨6, _⟩ => ⟨S2x1024x352, .bf16⟩
  | .local _ .vmem, ⟨7, _⟩ => ⟨S2x1024x352, .bf16⟩
  | .local _ .vmem, ⟨8, _⟩ => ⟨S2x1024x352, .bf16⟩
  | .local _ .vmem, ⟨9, _⟩ => ⟨S2x352x1024, .bf16⟩
  | .local _ .vmem, ⟨10, _⟩ => ⟨S2x352x1024, .bf16⟩
  | .local _ .vmem, ⟨11, _⟩ => ⟨S256x1024, .f32⟩
  | .local _ .vmem, ⟨12, _⟩ => ⟨S256x1024, .f32⟩
  | .local _ .vmem, ⟨13, _⟩ => ⟨S2x352x1024, .bf16⟩
  | .local _ .vmem, ⟨14, _⟩ => ⟨S2x352x1024, .bf16⟩
  | .local _ .vmem, ⟨15, _⟩ => ⟨S2x352x1024, .bf16⟩
  | .local _ .vmem, ⟨16, _⟩ => ⟨S2x352x1024, .bf16⟩
  | .local _ .vmem, ⟨17, _⟩ => ⟨S2x352x1024, .bf16⟩
  | .local _ .vmem, ⟨18, _⟩ => ⟨S2x352x1024, .bf16⟩
  | .local _ .vmem, ⟨19, _⟩ => ⟨S1x1024, .f32⟩
  | .local _ .vmem, ⟨20, _⟩ => ⟨S2048x1024, .bf16⟩
  | .local _ .vmem, ⟨21, _⟩ => ⟨S2048x1024, .bf16⟩
  | .local _ .vmem, ⟨22, _⟩ => ⟨S2048x1024, .f32⟩
  | .local _ .vmem, ⟨23, _⟩ => ⟨S704x1024, .f32⟩
  | .local _ .vmem, ⟨24, _⟩ => ⟨S704x1024, .f32⟩
  | .local _ .vmem, ⟨25, _⟩ => ⟨S704x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v9_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let v104 : Index := Scalar.indexCast v1
  let c0_56 : Index := 0#32
  ![v104.toNat, 0]
def k0_off2 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let v13 : Index := Scalar.indexCast v1
  let c0 : Index := 0#32
  ![v13.toNat, 0]
def k0_cond5 (i : grid0.Coords) : BitVec 1 :=
  let arg0 : BitVec 32 := BitVec.ofNat 32 (i 0).val
  let c3_i32 : BitVec 32 := 3#32
  let v85 : BitVec 1 := Scalar.cmpi .eq arg0 c3_i32
  let v86 : BitVec 32 := Scalar.extui v85
  let c0_i32_48 : BitVec 32 := 0#32
  let v87 : BitVec 1 := Scalar.cmpi .ne v86 c0_i32_48
  v87

def k0_off3 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let v91 : Index := Scalar.indexCast v1
  let c0_53 : Index := 0#32
  ![v91.toNat, 0]
def k0_cond4 (i : grid0.Coords) : BitVec 1 :=
  let arg1 : BitVec 32 := BitVec.ofNat 32 (i 1).val
  let c7_i32 : BitVec 32 := 7#32
  let v82 : BitVec 1 := Scalar.cmpi .eq arg1 c7_i32
  let v83 : BitVec 32 := Scalar.extui v82
  let c0_i32_47 : BitVec 32 := 0#32
  let v84 : BitVec 1 := Scalar.cmpi .ne v83 c0_i32_47
  v84

def k0_cond2 (i : grid0.Coords) : BitVec 1 :=
  let arg0 : BitVec 32 := BitVec.ofNat 32 (i 0).val
  let c0_i32_1 : BitVec 32 := 0#32
  let v5 : BitVec 1 := Scalar.cmpi .eq arg0 c0_i32_1
  let arg1 : BitVec 32 := BitVec.ofNat 32 (i 1).val
  let c0_i32_2 : BitVec 32 := 0#32
  let v6 : BitVec 1 := Scalar.cmpi .eq arg1 c0_i32_2
  let v7 : BitVec 1 := Scalar.andi v5 v6
  let v8 : BitVec 32 := Scalar.extui v7
  let c0_i32_3 : BitVec 32 := 0#32
  let v9 : BitVec 1 := Scalar.cmpi .ne v8 c0_i32_3
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 1 := Scalar.cmpi .eq arg0 c3_i32
  let v2 : BitVec 1 := Scalar.ori v0 v1
  let c0_i32_0 : BitVec 32 := 0#32
  let v3 : BitVec 32 := Scalar.select v2 arg1 c0_i32_0
  let c0_i32_1 : BitVec 32 := 0#32
  let c0_i32_2 : BitVec 32 := 0#32
  ![v3.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 1 := Scalar.cmpi .eq arg0 c3_i32
  let v2 : BitVec 1 := Scalar.ori v0 v1
  let c0_i32_0 : BitVec 32 := 0#32
  let v3 : BitVec 32 := Scalar.select v2 arg1 c0_i32_0
  let c0_i32_1 : BitVec 32 := 0#32
  let c0_i32_2 : BitVec 32 := 0#32
  ![v3.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2x1024x352 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1024x352 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x352x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x352x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x352x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x352x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ReferenceIdeal.lean ====
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x2816 : Shape := ⟨2, ![2048, 2816]⟩
abbrev S8x352x1024 : Shape := ⟨3, ![8, 352, 1024]⟩

abbrev nBuf : Space → Nat
  | .hbm => 102
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S_, .f32⟩
  | .hbm, ⟨30, _⟩ => ⟨S2048x2816, .f32⟩
  | .hbm, ⟨31, _⟩ => ⟨S2048x2816, .f32⟩
  | .hbm, ⟨32, _⟩ => ⟨S_, .f32⟩
  | .hbm, ⟨33, _⟩ => ⟨S2048x2816, .f32⟩
  | .hbm, ⟨34, _⟩ => ⟨S2048x2816, .f32⟩
  | .hbm, ⟨35, _⟩ => ⟨S_, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S2048x2816, .f32⟩
  | .hbm, ⟨41, _⟩ => ⟨S2048x2816, .f32⟩
  | .hbm, ⟨42, _⟩ => ⟨S2048x1024, .f32⟩
  | .hbm, ⟨43, _⟩ => ⟨S_, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S_, .f32⟩
  | .hbm, ⟨49, _⟩ => ⟨S2048x1024, .f32⟩
  | .hbm, ⟨50, _⟩ => ⟨S2048x1024, .f32⟩
  | .hbm, ⟨51, _⟩ => ⟨S1024x2816, .f32⟩
  | .hbm, ⟨52, _⟩ => ⟨S2816x1024, .f32⟩
  | .hbm, ⟨53, _⟩ => ⟨S2048x2816, .f32⟩
  | .hbm, ⟨54, _⟩ => ⟨S2048x2816, .f32⟩
  | .hbm, ⟨55, _⟩ => ⟨S2048x2816, .f32⟩
  | .hbm, ⟨56, _⟩ => ⟨S2816x1024, .f32⟩
  | .hbm, ⟨57, _⟩ => ⟨S1024x2816, .f32⟩
  | .hbm, ⟨58, _⟩ => ⟨S2048x1024, .f32⟩
  | .hbm, ⟨59, _⟩ => ⟨S2048x2816, .f32⟩
  | .hbm, ⟨60, _⟩ => ⟨S2048x2816, .f32⟩
  | .hbm, ⟨61, _⟩ => ⟨S2048x2816, .f32⟩
  | .hbm, ⟨62, _⟩ => ⟨S2048x2816, .f32⟩
  | .hbm, ⟨63, _⟩ => ⟨S2816x1024, .f32⟩
  | .hbm, ⟨64, _⟩ => ⟨S1024x2816, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S2048x1024, .f32⟩
  | .hbm, ⟨72, _⟩ => ⟨S2048x1024, .f32⟩
  | .hbm, ⟨73, _⟩ => ⟨S_, .f32⟩
  | .hbm, ⟨74, _⟩ => ⟨S1024, .f32⟩
  | .hbm, ⟨75, _⟩ => ⟨S2048x1024, .f32⟩
  | .hbm, ⟨76, _⟩ => ⟨S_, .f32⟩
  | .hbm, ⟨77, _⟩ => ⟨S2048, .f32⟩
  | .hbm, ⟨78, _⟩ => ⟨S2048x1, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S2048x1, .f32⟩
  | .hbm, ⟨83, _⟩ => ⟨S_, .f32⟩
  | .hbm, ⟨84, _⟩ => ⟨S2048x1, .f32⟩
  | .hbm, ⟨85, _⟩ => ⟨S2048x1, .f32⟩
  | .hbm, ⟨86, _⟩ => ⟨S_, .f32⟩
  | .hbm, ⟨87, _⟩ => ⟨S2048, .f32⟩
  | .hbm, ⟨88, _⟩ => ⟨S2048x1024, .f32⟩
  | .hbm, ⟨89, _⟩ => ⟨S2048x1024, .f32⟩
  | .hbm, ⟨90, _⟩ => ⟨S2048x1024, .f32⟩
  | .hbm, ⟨91, _⟩ => ⟨S2048x1024, .f32⟩
  | .hbm, ⟨92, _⟩ => ⟨S2048x1024, .f32⟩
  | .hbm, ⟨93, _⟩ => ⟨S2816x1024, .f32⟩
  | .hbm, ⟨94, _⟩ => ⟨S8x352x1024, .f32⟩
  | .hbm, ⟨95, _⟩ => ⟨S8x352x1024, .bf16⟩
  | .hbm, ⟨96, _⟩ => ⟨S2816x1024, .f32⟩
  | .hbm, ⟨97, _⟩ => ⟨S8x352x1024, .f32⟩
  | .hbm, ⟨98, _⟩ => ⟨S8x352x1024, .bf16⟩
  | .hbm, ⟨99, _⟩ => ⟨S8x352x1024, .f32⟩
  | .hbm, ⟨100, _⟩ => ⟨S8x352x1024, .bf16⟩
  | .hbm, ⟨101, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_5 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_6 : Ref sig .tc := ⟨.hbm, 73, rfl⟩
abbrev main_v45 : Ref sig .tc := ⟨.hbm, 74, rfl⟩
abbrev main_v46 : Ref sig .tc := ⟨.hbm, 75, rfl⟩
abbrev main_cst_7 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_cst_9 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩

abbrev nD : Nat := 1
abbrev τ : Topo := Topo.v7x

variable {F : FTy → Type} [FloatOps F]
-- ==== Feed.lean ====
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S1024x8x352 : Shape := ⟨3, ![1024, 8, 352]⟩
abbrev S8x1024x352 : Shape := ⟨3, ![8, 1024, 352]⟩
abbrev S8x352x1024 : Shape := ⟨3, ![8, 352, 1024]⟩
abbrev S1x1024 : Shape := ⟨2, ![1, 1024]⟩
abbrev S1024x1024 : Shape := ⟨2, ![1024, 1024]⟩
abbrev S2x1024x352 : Shape := ⟨3, ![2, 1024, 352]⟩
abbrev S2x352x1024 : Shape := ⟨3, ![2, 352, 1024]⟩
abbrev S1024x1 : Shape := ⟨2, ![1024, 1]⟩
abbrev S1x1024x352 : Shape := ⟨3, ![1, 1024, 352]⟩
abbrev S1024x352 : Shape := ⟨2, ![1024, 352]⟩
abbrev S1024x704 : Shape := ⟨2, ![1024, 704]⟩
abbrev S704x1024 : Shape := ⟨2, ![704, 1024]⟩

abbrev nBuf : Space → Nat
  | .hbm => 15
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x8x352, .f32⟩
  | .hbm, ⟨6, _⟩ => ⟨S8x1024x352, .f32⟩
  | .hbm, ⟨7, _⟩ => ⟨S8x1024x352, .bf16⟩
  | .hbm, ⟨8, _⟩ => ⟨S1024x8x352, .f32⟩
  | .hbm, ⟨9, _⟩ => ⟨S8x1024x352, .f32⟩
  | .hbm, ⟨10, _⟩ => ⟨S8x1024x352, .bf16⟩
  | .hbm, ⟨11, _⟩ => ⟨S8x352x1024, .f32⟩
  | .hbm, ⟨12, _⟩ => ⟨S8x352x1024, .bf16⟩
  | .hbm, ⟨13, _⟩ => ⟨S1x1024, .f32⟩
  | .hbm, ⟨14, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2x1024x352, .bf16⟩
  | .local _ .vmem, ⟨4, _⟩ => ⟨S2x1024x352, .bf16⟩
  | .local _ .vmem, ⟨5, _⟩ => ⟨S2x1024x352, .bf16⟩
  | .local _ .vmem, ⟨6, _⟩ => ⟨S2x1024x352, .bf16⟩
  | .local _ .vmem, ⟨7, _⟩ => ⟨S2x352x1024, .bf16⟩
  | .local _ .vmem, ⟨8, _⟩ => ⟨S2x352x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v35 : BitVec 1 := Scalar.cmpi .eq arg1 c3_i32
  let v36 : BitVec 32 := Scalar.extui v35
  let c0_i32_25 : BitVec 32 := 0#32
  let v37 : BitVec 1 := Scalar.cmpi .ne v36 c0_i32_25
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x1024x352 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1024x352 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x352x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FeedReferenceIdeal.lean ====
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x2816 : Shape := ⟨2, ![2048, 2816]⟩

abbrev nBuf : Space → Nat
  | .hbm => 38
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S_, .f32⟩
  | .hbm, ⟨25, _⟩ => ⟨S2048x2816, .f32⟩
  | .hbm, ⟨26, _⟩ => ⟨S2048x2816, .f32⟩
  | .hbm, ⟨27, _⟩ => ⟨S_, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | .hbm, ⟨37, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== ConvOut.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩

abbrev nBuf : Space → Nat
  | .hbm => 7
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S1024, .f32⟩
  | .hbm, ⟨4, _⟩ => ⟨S1024x1024, .bf16⟩
  | .hbm, ⟨5, _⟩ => ⟨S1x1024, .f32⟩
  | .hbm, ⟨6, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvOutReferenceIdeal.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S1024, .f32⟩
  | .hbm, ⟨4, _⟩ => ⟨S2048x1024, .f32⟩
  | .hbm, ⟨5, _⟩ => ⟨S1x1024, .f32⟩
  | .hbm, ⟨6, _⟩ => ⟨S2048x1024, .f32⟩
  | .hbm, ⟨7, _⟩ => ⟨S2048x1024, .f32⟩
  | .hbm, ⟨8, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== MixOut.lean ====
abbrev S2048x1024 : Shape := ⟨2, ![2048, 1024]⟩
abbrev S2048x512 : Shape := ⟨2, ![2048, 512]⟩
abbrev S1024x1024 : Shape := ⟨2, ![1024, 1024]⟩
abbrev S_ : Shape := ⟨0, ![]⟩
abbrev S1x1024 : Shape := ⟨2, ![1, 1024]⟩
abbrev S512x1024 : Shape := ⟨2, ![512, 1024]⟩
abbrev S512x512 : Shape := ⟨2, ![512, 512]⟩

abbrev nBuf : Space → Nat
  | .hbm => 8
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x512, .f32⟩
  | .hbm, ⟨3, _⟩ => ⟨S1024x1024, .f32⟩
  | .hbm, ⟨4, _⟩ => ⟨S1024x1024, .bf16⟩
  | .hbm, ⟨5, _⟩ => ⟨S_, .f32⟩
  | .hbm, ⟨6, _⟩ => ⟨S1x1024, .f32⟩
  | .hbm, ⟨7, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1024x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixOutReferenceIdeal.lean ====
abbrev S2048x1024 : Shape := ⟨2, ![2048, 1024]⟩
abbrev S2048x512 : Shape := ⟨2, ![2048, 512]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x512, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== ConvIn.lean ====
abbrev S2048x1024 : Shape := ⟨2, ![2048, 1024]⟩
abbrev S1024 : Shape := ⟨1, ![1024]⟩
abbrev S1024x2048 : Shape := ⟨2, ![1024, 2048]⟩
abbrev S2048 : Shape := ⟨1, ![2048]⟩
abbrev S1x1024 : Shape := ⟨2, ![1, 1024]⟩
abbrev S1x2048 : Shape := ⟨2, ![1, 2048]⟩
abbrev S2048x2048 : Shape := ⟨2, ![2048, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2048, .f32⟩
  | .hbm, ⟨3, _⟩ => ⟨S2048, .f32⟩
  | .hbm, ⟨4, _⟩ => ⟨S1x1024, .f32⟩
  | .hbm, ⟨5, _⟩ => ⟨S1024x2048, .bf16⟩
  | .hbm, ⟨6, _⟩ => ⟨S1x2048, .f32⟩
  | .hbm, ⟨7, _⟩ => ⟨S2048x2048, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2048, .bf16⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvInReferenceIdeal.lean ====
abbrev S2048x1024 : Shape := ⟨2, ![2048, 1024]⟩
abbrev S1024 : Shape := ⟨1, ![1024]⟩
abbrev S1024x2048 : Shape := ⟨2, ![1024, 2048]⟩
abbrev S2048 : Shape := ⟨1, ![2048]⟩
abbrev S_ : Shape := ⟨0, ![]⟩
abbrev S2048x1 : Shape := ⟨2, ![2048, 1]⟩
abbrev S1x1024 : Shape := ⟨2, ![1, 1024]⟩
abbrev S2048x2048 : Shape := ⟨2, ![2048, 2048]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2048, .f32⟩
  | .hbm, ⟨3, _⟩ => ⟨S2048, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== MixIn.lean ====
abbrev S2048x1024 : Shape := ⟨2, ![2048, 1024]⟩
abbrev S1024 : Shape := ⟨1, ![1024]⟩
abbrev S1024x2832 : Shape := ⟨2, ![1024, 2832]⟩
abbrev S1x1024 : Shape := ⟨2, ![1, 1024]⟩
abbrev S_ : Shape := ⟨0, ![]⟩
abbrev S1024x3072 : Shape := ⟨2, ![1024, 3072]⟩
abbrev S1x3072 : Shape := ⟨2, ![1, 3072]⟩
abbrev S2048x3072 : Shape := ⟨2, ![2048, 3072]⟩
abbrev S256x1024 : Shape := ⟨2, ![256, 1024]⟩
abbrev S256x3072 : Shape := ⟨2, ![256, 3072]⟩
abbrev S256 : Shape := ⟨1, ![256]⟩
abbrev S256x1 : Shape := ⟨2, ![256, 1]⟩

abbrev nBuf : Space → Nat
  | .hbm => 11
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2832, .f32⟩
  | .hbm, ⟨3, _⟩ => ⟨S1x1024, .f32⟩
  | .hbm, ⟨4, _⟩ => ⟨S1024x2832, .bf16⟩
  | .hbm, ⟨5, _⟩ => ⟨S_, .i32⟩
  | .hbm, ⟨6, _⟩ => ⟨S_, .bf16⟩
  | .hbm, ⟨7, _⟩ => ⟨S1024x3072, .bf16⟩
  | .hbm, ⟨8, _⟩ => ⟨S_, .f32⟩
  | .hbm, ⟨9, _⟩ => ⟨S1x3072, .f32⟩
  | .hbm, ⟨10, _⟩ => ⟨S2048x3072, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3072, .bf16⟩
  | .local _ .vmem, ⟨4, _⟩ => ⟨S1x3072, .f32⟩
  | .local _ .vmem, ⟨5, _⟩ => ⟨S256x3072, .f32⟩
  | .local _ .vmem, ⟨6, _⟩ => ⟨S256x3072, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MixInReferenceIdeal.lean ====
abbrev S2048x1024 : Shape := ⟨2, ![2048, 1024]⟩
abbrev S1024 : Shape := ⟨1, ![1024]⟩
abbrev S1024x2832 : Shape := ⟨2, ![1024, 2832]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1024x3072 : Shape := ⟨2, ![1024, 3072]⟩
abbrev S2048x3072 : Shape := ⟨2, ![2048, 3072]⟩

abbrev nBuf : Space → Nat
  | .hbm => 23
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2832, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S_, .i32⟩
  | .hbm, ⟨20, _⟩ => ⟨S_, .f32⟩
  | .hbm, ⟨21, _⟩ => ⟨S1024x3072, .f32⟩
  | .hbm, ⟨22, _⟩ => ⟨S2048x3072, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_call0_v0 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== ConvOutGrad.lean ====
abbrev S2048x1024 : Shape := ⟨2, ![2048, 1024]⟩
abbrev S1024x1024 : Shape := ⟨2, ![1024, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S1024x1024, .bf16⟩
  | .hbm, ⟨4, _⟩ => ⟨S2048x1024, .f32⟩
  | .hbm, ⟨5, _⟩ => ⟨S1024x1024, .bf16⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1024x1024, .bf16⟩
  | .local _ .vmem, ⟨8, _⟩ => ⟨S1x1024, .f32⟩
  | .local _ .vmem, ⟨9, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v23 : BitVec 1 := Scalar.cmpi .eq arg0 c3_i32
  let v24 : BitVec 32 := Scalar.extui v23
  let c0_i32_18 : BitVec 32 := 0#32
  let v25 : BitVec 1 := Scalar.cmpi .ne v24 c0_i32_18
  v25

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ConvOutGradReferenceIdeal.lean ====
abbrev S2048x1024 : Shape := ⟨2, ![2048, 1024]⟩
abbrev S1024x1024 : Shape := ⟨2, ![1024, 1024]⟩
abbrev S_ : Shape := ⟨0, ![]⟩
abbrev S1024 : Shape := ⟨1, ![1024]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S_, .f32⟩
  | .hbm, ⟨4, _⟩ => ⟨S1024, .f32⟩
  | .hbm, ⟨5, _⟩ => ⟨S2048x1024, .f32⟩
  | .hbm, ⟨6, _⟩ => ⟨S1x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S1024, .f32⟩
  | .hbm, ⟨12, _⟩ => ⟨S1x1024, .f32⟩
  | .hbm, ⟨13, _⟩ => ⟨S_, .f32⟩
  | .hbm, ⟨14, _⟩ => ⟨S1024, .f32⟩
  | .hbm, ⟨15, _⟩ => ⟨S1024x1024, .f32⟩
  | .hbm, ⟨16, _⟩ => ⟨S1024x1024, .f32⟩
  | .hbm, ⟨17, _⟩ => ⟨S2048x1024, .f32⟩
  | .hbm, ⟨18, _⟩ => ⟨S1024x1024, .bf16⟩
  | .hbm, ⟨19, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== MixOutGrad.lean ====
abbrev S2048x512 : Shape := ⟨2, ![2048, 512]⟩
abbrev S2048x1024 : Shape := ⟨2, ![2048, 1024]⟩
abbrev S1024x1024 : Shape := ⟨2, ![1024, 1024]⟩
abbrev S1x1024 : Shape := ⟨2, ![1, 1024]⟩
abbrev S512x512 : Shape := ⟨2, ![512, 512]⟩
abbrev S512x1024 : Shape := ⟨2, ![512, 1024]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x1024, .f32⟩
  | .hbm, ⟨3, _⟩ => ⟨S1024x1024, .f32⟩
  | .hbm, ⟨4, _⟩ => ⟨S1024x1024, .bf16⟩
  | .hbm, ⟨5, _⟩ => ⟨S2048x1024, .f32⟩
  | .hbm, ⟨6, _⟩ => ⟨S1024x1024, .bf16⟩
  | .hbm, ⟨7, _⟩ => ⟨S1x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S1024x1024, .bf16⟩
  | .local _ .vmem, ⟨10, _⟩ => ⟨S1x1024, .f32⟩
  | .local _ .vmem, ⟨11, _⟩ => ⟨S1024x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v31 : BitVec 1 := Scalar.cmpi .eq arg0 c3_i32
  let v32 : BitVec 32 := Scalar.extui v31
  let c0_i32_24 : BitVec 32 := 0#32
  let v33 : BitVec 1 := Scalar.cmpi .ne v32 c0_i32_24
  v33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MixOutGradReferenceIdeal.lean ====
abbrev S2048x512 : Shape := ⟨2, ![2048, 512]⟩
abbrev S2048x1024 : Shape := ⟨2, ![2048, 1024]⟩
abbrev S1024x1024 : Shape := ⟨2, ![1024, 1024]⟩
abbrev S_ : Shape := ⟨0, ![]⟩
abbrev S1024 : Shape := ⟨1, ![1024]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x1024, .f32⟩
  | .hbm, ⟨3, _⟩ => ⟨S1024x1024, .f32⟩
  | .hbm, ⟨4, _⟩ => ⟨S2048x1024, .f32⟩
  | .hbm, ⟨5, _⟩ => ⟨S_, .f32⟩
  | .hbm, ⟨6, _⟩ => ⟨S1024, .f32⟩
  | .hbm, ⟨7, _⟩ => ⟨S2048x1024, .f32⟩
  | .hbm, ⟨8, _⟩ => ⟨S1x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S1024, .f32⟩
  | .hbm, ⟨14, _⟩ => ⟨S1x1024, .f32⟩
  | .hbm, ⟨15, _⟩ => ⟨S_, .f32⟩
  | .hbm, ⟨16, _⟩ => ⟨S1024, .f32⟩
  | .hbm, ⟨17, _⟩ => ⟨S1024x1024, .f32⟩
  | .hbm, ⟨18, _⟩ => ⟨S1024x1024, .f32⟩
  | .hbm, ⟨19, _⟩ => ⟨S2048x1024, .f32⟩
  | .hbm, ⟨20, _⟩ => ⟨S1024x1024, .bf16⟩
  | .hbm, ⟨21, _⟩ => ⟨S1x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== ConvInGrad.lean ====
abbrev S2048x1024 : Shape := ⟨2, ![2048, 1024]⟩
abbrev S2048x2048 : Shape := ⟨2, ![2048, 2048]⟩
abbrev S1024 : Shape := ⟨1, ![1024]⟩
abbrev S1024x2048 : Shape := ⟨2, ![1024, 2048]⟩
abbrev S1x1024 : Shape := ⟨2, ![1, 1024]⟩
abbrev S1x2048 : Shape := ⟨2, ![1, 2048]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 11
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x2048, .f32⟩
  | .hbm, ⟨3, _⟩ => ⟨S1024, .f32⟩
  | .hbm, ⟨4, _⟩ => ⟨S1024x2048, .f32⟩
  | .hbm, ⟨5, _⟩ => ⟨S1x1024, .f32⟩
  | .hbm, ⟨6, _⟩ => ⟨S1024x2048, .bf16⟩
  | .hbm, ⟨7, _⟩ => ⟨S2048x1024, .f32⟩
  | .hbm, ⟨8, _⟩ => ⟨S1024x2048, .bf16⟩
  | .hbm, ⟨9, _⟩ => ⟨S1x2048, .f32⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S2048x1024, .bf16⟩
  | .local _ .vmem, ⟨17, _⟩ => ⟨S2048x1024, .f32⟩
  | .local _ .vmem, ⟨18, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![2, 4], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v61 : Index := Scalar.indexCast v1
  let c0_31 : Index := 0#32
  ![v61.toNat, 0]
def k0_off2 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v16 : Index := Scalar.indexCast v1
  let c0_9 : Index := 0#32
  ![v16.toNat, 0]
def k0_cond5 (i : grid0.Coords) : BitVec 1 :=
  let arg0 : BitVec 32 := BitVec.ofNat 32 (i 0).val
  let c1_i32 : BitVec 32 := 1#32
  let v42 : BitVec 1 := Scalar.cmpi .eq arg0 c1_i32
  let v43 : BitVec 32 := Scalar.extui v42
  let c0_i32_23 : BitVec 32 := 0#32
  let v44 : BitVec 1 := Scalar.cmpi .ne v43 c0_i32_23
  v44

def k0_off3 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v48 : Index := Scalar.indexCast v1
  let c0_28 : Index := 0#32
  ![v48.toNat, 0]
def k0_cond4 (i : grid0.Coords) : BitVec 1 :=
  let arg1 : BitVec 32 := BitVec.ofNat 32 (i 1).val
  let c3_i32 : BitVec 32 := 3#32
  let v39 : BitVec 1 := Scalar.cmpi .eq arg1 c3_i32
  let v40 : BitVec 32 := Scalar.extui v39
  let c0_i32_22 : BitVec 32 := 0#32
  let v41 : BitVec 1 := Scalar.cmpi .ne v40 c0_i32_22
  v41

def k0_cond2 (i : grid0.Coords) : BitVec 1 :=
  let arg0 : BitVec 32 := BitVec.ofNat 32 (i 0).val
  let c0_i32_1 : BitVec 32 := 0#32
  let v5 : BitVec 1 := Scalar.cmpi .eq arg0 c0_i32_1
  let arg1 : BitVec 32 := BitVec.ofNat 32 (i 1).val
  let c0_i32_2 : BitVec 32 := 0#32
  let v6 : BitVec 1 := Scalar.cmpi .eq arg1 c0_i32_2
  let v7 : BitVec 1 := Scalar.andi v5 v6
  let v8 : BitVec 32 := Scalar.extui v7
  let c0_i32_3 : BitVec 32 := 0#32
  let v9 : BitVec 1 := Scalar.cmpi .ne v8 c0_i32_3
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 1 := Scalar.cmpi .eq arg0 c1_i32
  let v2 : BitVec 1 := Scalar.ori v0 v1
  let c0_i32_0 : BitVec 32 := 0#32
  let v3 : BitVec 32 := Scalar.select v2 arg1 c0_i32_0
  let c0_i32_1 : BitVec 32 := 0#32
  let c0_i32_2 : BitVec 32 := 0#32
  ![v3.toNat, c0_i32_1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ConvInGradReferenceIdeal.lean ====
abbrev S2048x1024 : Shape := ⟨2, ![2048, 1024]⟩
abbrev S2048x2048 : Shape := ⟨2, ![2048, 2048]⟩
abbrev S1024 : Shape := ⟨1, ![1024]⟩
abbrev S1024x2048 : Shape := ⟨2, ![1024, 2048]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1x2048 : Shape := ⟨2, ![1, 2048]⟩

abbrev nBuf : Space → Nat
  | .hbm => 69
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x2048, .f32⟩
  | .hbm, ⟨3, _⟩ => ⟨S1024, .f32⟩
  | .hbm, ⟨4, _⟩ => ⟨S1024x2048, .f32⟩
  | .hbm, ⟨5, _⟩ => ⟨S_, .f32⟩
  | .hbm, ⟨6, _⟩ => ⟨S2048, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2048x2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048, .f32⟩
  | .hbm, ⟨34, _⟩ => ⟨S1x2048, .f32⟩
  | .hbm, ⟨35, _⟩ => ⟨S_, .f32⟩
  | .hbm, ⟨36, _⟩ => ⟨S2048, .f32⟩
  | .hbm, ⟨37, _⟩ => ⟨S2048x1024, .f32⟩
  | .hbm, ⟨38, _⟩ => ⟨S1024x2048, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S2048x1024, .f32⟩
  | .hbm, ⟨49, _⟩ => ⟨S_, .f32⟩
  | .hbm, ⟨50, _⟩ => ⟨S2048, .f32⟩
  | .hbm, ⟨51, _⟩ => ⟨S2048x1, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1, .f32⟩
  | .hbm, ⟨56, _⟩ => ⟨S_, .f32⟩
  | .hbm, ⟨57, _⟩ => ⟨S2048x1, .f32⟩
  | .hbm, ⟨58, _⟩ => ⟨S2048x1, .f32⟩
  | .hbm, ⟨59, _⟩ => ⟨S_, .f32⟩
  | .hbm, ⟨60, _⟩ => ⟨S2048, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S1024x2048, .bf16⟩
  | .hbm, ⟨67, _⟩ => ⟨S1x2048, .f32⟩
  | .hbm, ⟨68, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]
-- ==== MixInGrad.lean ====
abbrev S2048x1024 : Shape := ⟨2, ![2048, 1024]⟩
abbrev S2048x512 : Shape := ⟨2, ![2048, 512]⟩
abbrev S2048x256 : Shape := ⟨2, ![2048, 256]⟩
abbrev S2048x1536 : Shape := ⟨2, ![2048, 1536]⟩
abbrev S2048x768 : Shape := ⟨2, ![2048, 768]⟩
abbrev S1024 : Shape := ⟨1, ![1024]⟩
abbrev S1024x2832 : Shape := ⟨2, ![1024, 2832]⟩
abbrev S1x1024 : Shape := ⟨2, ![1, 1024]⟩
abbrev S_ : Shape := ⟨0, ![]⟩
abbrev S1024x3072 : Shape := ⟨2, ![1024, 3072]⟩
abbrev S1x3072 : Shape := ⟨2, ![1, 3072]⟩
abbrev S512x1024 : Shape := ⟨2, ![512, 1024]⟩
abbrev S512x512 : Shape := ⟨2, ![512, 512]⟩
abbrev S512x256 : Shape := ⟨2, ![512, 256]⟩
abbrev S512x768 : Shape := ⟨2, ![512, 768]⟩
abbrev S1024x768 : Shape := ⟨2, ![1024, 768]⟩
abbrev S1x768 : Shape := ⟨2, ![1, 768]⟩
abbrev S512 : Shape := ⟨1, ![512]⟩
abbrev S512x1 : Shape := ⟨2, ![512, 1]⟩
abbrev S768 : Shape := ⟨1, ![768]⟩

abbrev nBuf : Space → Nat
  | .hbm => 17
  | .vmem => 25
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x512, .f32⟩
  | .hbm, ⟨3, _⟩ => ⟨S2048x256, .f32⟩
  | .hbm, ⟨4, _⟩ => ⟨S2048x1536, .f32⟩
  | .hbm, ⟨5, _⟩ => ⟨S2048x768, .f32⟩
  | .hbm, ⟨6, _⟩ => ⟨S1024, .f32⟩
  | .hbm, ⟨7, _⟩ => ⟨S1024x2832, .f32⟩
  | .hbm, ⟨8, _⟩ => ⟨S1x1024, .f32⟩
  | .hbm, ⟨9, _⟩ => ⟨S1024x2832, .bf16⟩
  | .hbm, ⟨10, _⟩ => ⟨S_, .i32⟩
  | .hbm, ⟨11, _⟩ => ⟨S_, .bf16⟩
  | .hbm, ⟨12, _⟩ => ⟨S1024x3072, .bf16⟩
  | .hbm, ⟨13, _⟩ => ⟨S2048x1024, .f32⟩
  | .hbm, ⟨14, _⟩ => ⟨S1024x3072, .bf16⟩
  | .hbm, ⟨15, _⟩ => ⟨S1x3072, .f32⟩
  | .hbm, ⟨16, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x256, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S1x1024, .f32⟩
  | .local _ .vmem, ⟨13, _⟩ => ⟨S1024x768, .bf16⟩
  | .local _ .vmem, ⟨14, _⟩ => ⟨S1024x768, .bf16⟩
  | .local _ .vmem, ⟨15, _⟩ => ⟨S512x1024, .f32⟩
  | .local _ .vmem, ⟨16, _⟩ => ⟨S512x1024, .f32⟩
  | .local _ .vmem, ⟨17, _⟩ => ⟨S1024x768, .bf16⟩
  | .local _ .vmem, ⟨18, _⟩ => ⟨S1024x768, .bf16⟩
  | .local _ .vmem, ⟨19, _⟩ => ⟨S1x768, .f32⟩
  | .local _ .vmem, ⟨20, _⟩ => ⟨S1x768, .f32⟩
  | .local _ .vmem, ⟨21, _⟩ => ⟨S1x1024, .f32⟩
  | .local _ .vmem, ⟨22, _⟩ => ⟨S2048x1024, .bf16⟩
  | .local _ .vmem, ⟨23, _⟩ => ⟨S2048x1024, .f32⟩
  | .local _ .vmem, ⟨24, _⟩ => ⟨S1024x768, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v69 : Index := Scalar.indexCast v1
  let c0_40 : Index := 0#32
  ![v69.toNat, 0]
def k0_off2 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v24 : Index := Scalar.indexCast v1
  let c0_16 : Index := 0#32
  ![v24.toNat, 0]
def k0_cond5 (i : grid0.Coords) : BitVec 1 :=
  let arg0 : BitVec 32 := BitVec.ofNat 32 (i 0).val
  let c3_i32_31 : BitVec 32 := 3#32
  let v50 : BitVec 1 := Scalar.cmpi .eq arg0 c3_i32_31
  let v51 : BitVec 32 := Scalar.extui v50
  let c0_i32_32 : BitVec 32 := 0#32
  let v52 : BitVec 1 := Scalar.cmpi .ne v51 c0_i32_32
  v52

def k0_off3 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v56 : Index := Scalar.indexCast v1
  let c0_37 : Index := 0#32
  ![v56.toNat, 0]
def k0_cond4 (i : grid0.Coords) : BitVec 1 :=
  let arg1 : BitVec 32 := BitVec.ofNat 32 (i 1).val
  let c3_i32_29 : BitVec 32 := 3#32
  let v47 : BitVec 1 := Scalar.cmpi .eq arg1 c3_i32_29
  let v48 : BitVec 32 := Scalar.extui v47
  let c0_i32_30 : BitVec 32 := 0#32
  let v49 : BitVec 1 := Scalar.cmpi .ne v48 c0_i32_30
  v49

def k0_cond2 (i : grid0.Coords) : BitVec 1 :=
  let arg0 : BitVec 32 := BitVec.ofNat 32 (i 0).val
  let c0_i32_1 : BitVec 32 := 0#32
  let v5 : BitVec 1 := Scalar.cmpi .eq arg0 c0_i32_1
  let arg1 : BitVec 32 := BitVec.ofNat 32 (i 1).val
  let c0_i32_2 : BitVec 32 := 0#32
  let v6 : BitVec 1 := Scalar.cmpi .eq arg1 c0_i32_2
  let v7 : BitVec 1 := Scalar.andi v5 v6
  let v8 : BitVec 32 := Scalar.extui v7
  let c0_i32_3 : BitVec 32 := 0#32
  let v9 : BitVec 1 := Scalar.cmpi .ne v8 c0_i32_3
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 1 := Scalar.cmpi .eq arg0 c3_i32
  let v2 : BitVec 1 := Scalar.ori v0 v1
  let c0_i32_0 : BitVec 32 := 0#32
  let v3 : BitVec 32 := Scalar.select v2 arg1 c0_i32_0
  let c0_i32_1 : BitVec 32 := 0#32
  let c0_i32_2 : BitVec 32 := 0#32
  ![v3.toNat, c0_i32_1.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c3_i32 : BitVec 32 := 3#32
  let v1 : BitVec 1 := Scalar.cmpi .slt arg0 c3_i32
  let v2 : BitVec 1 := Scalar.andi v0 v1
  let c0_i32_0 : BitVec 32 := 0#32
  let v3 : BitVec 32 := Scalar.select v2 arg1 c0_i32_0
  let c1_i32 : BitVec 32 := 1#32
  let v4 : BitVec 32 := Scalar.subi arg0 c1_i32
  let c0_i32_1 : BitVec 32 := 0#32
  let c1_i32_2 : BitVec 32 := 1#32
  let v5 : BitVec 32 := Scalar.maxsi c0_i32_1 v4
  let v6 : BitVec 32 := Scalar.minsi c1_i32_2 v5
  let c0_i32_3 : BitVec 32 := 0#32
  ![v3.toNat, v6.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== MixInGradReferenceIdeal.lean ====
abbrev S2048x1024 : Shape := ⟨2, ![2048, 1024]⟩
abbrev S2048x512 : Shape := ⟨2, ![2048, 512]⟩
abbrev S2048x256 : Shape := ⟨2, ![2048, 256]⟩
abbrev S2048x1536 : Shape := ⟨2, ![2048, 1536]⟩
abbrev S2048x768 : Shape := ⟨2, ![2048, 768]⟩
abbrev S1024 : Shape := ⟨1, ![1024]⟩
abbrev S1024x2832 : Shape := ⟨2, ![1024, 2832]⟩
abbrev S2048x3072 : Shape := ⟨2, ![2048, 3072]⟩
abbrev S_ : Shape := ⟨0, ![]⟩
abbrev S1024x3072 : Shape := ⟨2, ![1024, 3072]⟩
abbrev S3072 : Shape := ⟨1, ![3072]⟩
abbrev S2048 : Shape := ⟨1, ![2048]⟩
abbrev S2048x1 : Shape := ⟨2, ![2048, 1]⟩
abbrev S1x1024 : Shape := ⟨2, ![1, 1024]⟩
abbrev S1x3072 : Shape := ⟨2, ![1, 3072]⟩
abbrev S3072x1024 : Shape := ⟨2, ![3072, 1024]⟩

abbrev nBuf : Space → Nat
  | .hbm => 75
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x512, .f32⟩
  | .hbm, ⟨3, _⟩ => ⟨S2048x256, .f32⟩
  | .hbm, ⟨4, _⟩ => ⟨S2048x1536, .f32⟩
  | .hbm, ⟨5, _⟩ => ⟨S2048x768, .f32⟩
  | .hbm, ⟨6, _⟩ => ⟨S1024, .f32⟩
  | .hbm, ⟨7, _⟩ => ⟨S1024x2832, .f32⟩
  | .hbm, ⟨8, _⟩ => ⟨S2048x3072, .f32⟩
  | .hbm, ⟨9, _⟩ => ⟨S_, .i32⟩
  | .hbm, ⟨10, _⟩ => ⟨S_, .f32⟩
  | .hbm, ⟨11, _⟩ => ⟨S1024x3072, .f32⟩
  | .hbm, ⟨12, _⟩ => ⟨S_, .f32⟩
  | .hbm, ⟨13, _⟩ => ⟨S3072, .f32⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1024, .f32⟩
  | .hbm, ⟨30, _⟩ => ⟨S2048x1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S2048x3072, .f32⟩
  | .hbm, ⟨35, _⟩ => ⟨S1x3072, .f32⟩
  | .hbm, ⟨36, _⟩ => ⟨S2048x3072, .f32⟩
  | .hbm, ⟨37, _⟩ => ⟨S2048x3072, .f32⟩
  | .hbm, ⟨38, _⟩ => ⟨S_, .f32⟩
  | .hbm, ⟨39, _⟩ => ⟨S3072, .f32⟩
  | .hbm, ⟨40, _⟩ => ⟨S1x3072, .f32⟩
  | .hbm, ⟨41, _⟩ => ⟨S_, .f32⟩
  | .hbm, ⟨42, _⟩ => ⟨S3072, .f32⟩
  | .hbm, ⟨43, _⟩ => ⟨S3072x1024, .f32⟩
  | .hbm, ⟨44, _⟩ => ⟨S1024x3072, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S2048x1024, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S_, .f32⟩
  | .hbm, ⟨66, _⟩ => ⟨S2048, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S1024x3072, .bf16⟩
  | .hbm, ⟨73, _⟩ => ⟨S1x3072, .f32⟩
  | .hbm, ⟨74, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]
-- ==== ShortConvGrad.lean ====
abbrev S2048x3072 : Shape := ⟨2, ![2048, 3072]⟩
abbrev S4x1536 : Shape := ⟨2, ![4, 1536]⟩
abbrev S2048x1536 : Shape := ⟨2, ![2048, 1536]⟩
abbrev S256x768 : Shape := ⟨2, ![256, 768]⟩
abbrev S8x768 : Shape := ⟨2, ![8, 768]⟩
abbrev S4x768 : Shape := ⟨2, ![4, 768]⟩
abbrev S264x768 : Shape := ⟨2, ![264, 768]⟩
abbrev S1x768 : Shape := ⟨2, ![1, 768]⟩
abbrev S768 : Shape := ⟨1, ![768]⟩

abbrev nBuf : Space → Nat
  | .hbm => 5
  | .vmem => 14
  | .smem => 0
  | _ => 0

abbrev bufTy : (tb : Table) → Fin (tcTables nBuf tb) → BufTy
  | .hbm, ⟨0, _⟩ => ⟨S2048x3072, .f32⟩
  | .hbm, ⟨1, _⟩ => ⟨S4x1536, .f32⟩
  | .hbm, ⟨2, _⟩ => ⟨S2048x1536, .f32⟩
  | .hbm, ⟨3, _⟩ => ⟨S2048x1536, .f32⟩
  | .hbm, ⟨4, _⟩ => ⟨S4x1536, .f32⟩
  | .local _ .vmem, ⟨0, _⟩ => ⟨S256x768, .f32⟩
  | .local _ .vmem, ⟨1, _⟩ => ⟨S256x768, .f32⟩
  | .local _ .vmem, ⟨2, _⟩ => ⟨S8x768, .f32⟩
  | .local _ .vmem, ⟨3, _⟩ => ⟨S8x768, .f32⟩
  | .local _ .vmem, ⟨4, _⟩ => ⟨S4x768, .f32⟩
  | .local _ .vmem, ⟨5, _⟩ => ⟨S4x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S4x768, .f32⟩
  | .local _ .vmem, ⟨11, _⟩ => ⟨S4x768, .f32⟩
  | .local _ .vmem, ⟨12, _⟩ => ⟨S264x768, .f32⟩
  | .local _ .vmem, ⟨13, _⟩ => ⟨S264x768, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c1_i32 : BitVec 32 := 1#32
  let v1 : BitVec 32 := Scalar.addi c1_i32 arg0
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c1_i32_0 : BitVec 32 := 1#32
  let v4 : BitVec 32 := Scalar.addi c1_i32_0 arg0
  let c0_i32_1 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ShortConvGradReferenceIdeal.lean ====
abbrev S2048x3072 : Shape := ⟨2, ![2048, 3072]⟩
abbrev S4x1536 : Shape := ⟨2, ![4, 1536]⟩
abbrev S2048x1536 : Shape := ⟨2, ![2048, 1536]⟩
abbrev S_ : Shape := ⟨0, ![]⟩
abbrev S3x1536 : Shape := ⟨2, ![3, 1536]⟩
abbrev S2051x1536 : Shape := ⟨2, ![2051, 1536]⟩
abbrev S1x1536 : Shape := ⟨2, ![1, 1536]⟩
abbrev S1536 : Shape := ⟨1, ![1536]⟩

abbrev nBuf : Space → Nat
  | .hbm => 113
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S4x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S3x1536, .f32⟩
  | .hbm, ⟨6, _⟩ => ⟨S2051x1536, .f32⟩
  | .hbm, ⟨7, _⟩ => ⟨S_, .f32⟩
  | .hbm, ⟨8, _⟩ => ⟨S3x1536, .f32⟩
  | .hbm, ⟨9, _⟩ => ⟨S1x1536, .f32⟩
  | .hbm, ⟨10, _⟩ => ⟨S1536, .f32⟩
  | .hbm, ⟨11, _⟩ => ⟨S2048x1536, .f32⟩
  | .hbm, ⟨12, _⟩ => ⟨S1x1536, .f32⟩
  | .hbm, ⟨13, _⟩ => ⟨S2048x1536, .f32⟩
  | .hbm, ⟨14, _⟩ => ⟨S2048x1536, .f32⟩
  | .hbm, ⟨15, _⟩ => ⟨S1x1536, .f32⟩
  | .hbm, ⟨16, _⟩ => ⟨S1536, .f32⟩
  | .hbm, ⟨17, _⟩ => ⟨S2048x1536, .f32⟩
  | .hbm, ⟨18, _⟩ => ⟨S1x1536, .f32⟩
  | .hbm, ⟨19, _⟩ => ⟨S2048x1536, .f32⟩
  | .hbm, ⟨20, _⟩ => ⟨S2048x1536, .f32⟩
  | .hbm, ⟨21, _⟩ => ⟨S2048x1536, .f32⟩
  | .hbm, ⟨22, _⟩ => ⟨S1x1536, .f32⟩
  | .hbm, ⟨23, _⟩ => ⟨S1536, .f32⟩
  | .hbm, ⟨24, _⟩ => ⟨S2048x1536, .f32⟩
  | .hbm, ⟨25, _⟩ => ⟨S1x1536, .f32⟩
  | .hbm, ⟨26, _⟩ => ⟨S2048x1536, .f32⟩
  | .hbm, ⟨27, _⟩ => ⟨S2048x1536, .f32⟩
  | .hbm, ⟨28, _⟩ => ⟨S2048x1536, .f32⟩
  | .hbm, ⟨29, _⟩ => ⟨S1x1536, .f32⟩
  | .hbm, ⟨30, _⟩ => ⟨S1536, .f32⟩
  | .hbm, ⟨31, _⟩ => ⟨S2048x1536, .f32⟩
  | .hbm, ⟨32, _⟩ => ⟨S1x1536, .f32⟩
  | .hbm, ⟨33, _⟩ => ⟨S2048x1536, .f32⟩
  | .hbm, ⟨34, _⟩ => ⟨S2048x1536, .f32⟩
  | .hbm, ⟨35, _⟩ => ⟨S2048x1536, .f32⟩
  | .hbm, ⟨36, _⟩ => ⟨S2048x1536, .f32⟩
  | .hbm, ⟨37, _⟩ => ⟨S2048x1536, .f32⟩
  | .hbm, ⟨38, _⟩ => ⟨S_, .f32⟩
  | .hbm, ⟨39, _⟩ => ⟨S2048x1536, .f32⟩
  | .hbm, ⟨40, _⟩ => ⟨S2048x1536, .f32⟩
  | .hbm, ⟨41, _⟩ => ⟨S_, .f32⟩
  | .hbm, ⟨42, _⟩ => ⟨S2048x1536, .f32⟩
  | .hbm, ⟨43, _⟩ => ⟨S2048x1536, .f32⟩
  | .hbm, ⟨44, _⟩ => ⟨S_, .f32⟩
  | .hbm, ⟨45, _⟩ => ⟨S2048x1536, .f32⟩
  | .hbm, ⟨46, _⟩ => ⟨S2048x1536, .f32⟩
  | .hbm, ⟨47, _⟩ => ⟨S2048x1536, .f32⟩
  | .hbm, ⟨48, _⟩ => ⟨S2048x1536, .f32⟩
  | .hbm, ⟨49, _⟩ => ⟨S2048x1536, .f32⟩
  | .hbm, ⟨50, _⟩ => ⟨S2048x1536, .f32⟩
  | .hbm, ⟨51, _⟩ => ⟨S2048x1536, .f32⟩
  | .hbm, ⟨52, _⟩ => ⟨S2048x1536, .f32⟩
  | .hbm, ⟨53, _⟩ => ⟨S2048x1536, .f32⟩
  | .hbm, ⟨54, _⟩ => ⟨S2048x1536, .f32⟩
  | .hbm, ⟨55, _⟩ => ⟨S2048x1536, .f32⟩
  | .hbm, ⟨56, _⟩ => ⟨S_, .f32⟩
  | .hbm, ⟨57, _⟩ => ⟨S1536, .f32⟩
  | .hbm, ⟨58, _⟩ => ⟨S1x1536, .f32⟩
  | .hbm, ⟨59, _⟩ => ⟨S_, .f32⟩
  | .hbm, ⟨60, _⟩ => ⟨S1536, .f32⟩
  | .hbm, ⟨61, _⟩ => ⟨S_, .f32⟩
  | .hbm, ⟨62, _⟩ => ⟨S2051x1536, .f32⟩
  | .hbm, ⟨63, _⟩ => ⟨S1x1536, .f32⟩
  | .hbm, ⟨64, _⟩ => ⟨S_, .f32⟩
  | .hbm, ⟨65, _⟩ => ⟨S4x1536, .f32⟩
  | .hbm, ⟨66, _⟩ => ⟨S2048x1536, .f32⟩
  | .hbm, ⟨67, _⟩ => ⟨S2048x1536, .f32⟩
  | .hbm, ⟨68, _⟩ => ⟨S2048x1536, .f32⟩
  | .hbm, ⟨69, _⟩ => ⟨S_, .f32⟩
  | .hbm, ⟨70, _⟩ => ⟨S1536, .f32⟩
  | .hbm, ⟨71, _⟩ => ⟨S1x1536, .f32⟩
  | .hbm, ⟨72, _⟩ => ⟨S_, .f32⟩
  | .hbm, ⟨73, _⟩ => ⟨S1536, .f32⟩
  | .hbm, ⟨74, _⟩ => ⟨S_, .f32⟩
  | .hbm, ⟨75, _⟩ => ⟨S2051x1536, .f32⟩
  | .hbm, ⟨76, _⟩ => ⟨S2051x1536, .f32⟩
  | .hbm, ⟨77, _⟩ => ⟨S1x1536, .f32⟩
  | .hbm, ⟨78, _⟩ => ⟨S_, .f32⟩
  | .hbm, ⟨79, _⟩ => ⟨S4x1536, .f32⟩
  | .hbm, ⟨80, _⟩ => ⟨S4x1536, .f32⟩
  | .hbm, ⟨81, _⟩ => ⟨S2048x1536, .f32⟩
  | .hbm, ⟨82, _⟩ => ⟨S2048x1536, .f32⟩
  | .hbm, ⟨83, _⟩ => ⟨S2048x1536, .f32⟩
  | .hbm, ⟨84, _⟩ => ⟨S_, .f32⟩
  | .hbm, ⟨85, _⟩ => ⟨S1536, .f32⟩
  | .hbm, ⟨86, _⟩ => ⟨S1x1536, .f32⟩
  | .hbm, ⟨87, _⟩ => ⟨S_, .f32⟩
  | .hbm, ⟨88, _⟩ => ⟨S1536, .f32⟩
  | .hbm, ⟨89, _⟩ => ⟨S_, .f32⟩
  | .hbm, ⟨90, _⟩ => ⟨S2051x1536, .f32⟩
  | .hbm, ⟨91, _⟩ => ⟨S2051x1536, .f32⟩
  | .hbm, ⟨92, _⟩ => ⟨S1x1536, .f32⟩
  | .hbm, ⟨93, _⟩ => ⟨S_, .f32⟩
  | .hbm, ⟨94, _⟩ => ⟨S4x1536, .f32⟩
  | .hbm, ⟨95, _⟩ => ⟨S4x1536, .f32⟩
  | .hbm, ⟨96, _⟩ => ⟨S2048x1536, .f32⟩
  | .hbm, ⟨97, _⟩ => ⟨S2048x1536, .f32⟩
  | .hbm, ⟨98, _⟩ => ⟨S2048x1536, .f32⟩
  | .hbm, ⟨99, _⟩ => ⟨S_, .f32⟩
  | .hbm, ⟨100, _⟩ => ⟨S1536, .f32⟩
  | .hbm, ⟨101, _⟩ => ⟨S1x1536, .f32⟩
  | .hbm, ⟨102, _⟩ => ⟨S_, .f32⟩
  | .hbm, ⟨103, _⟩ => ⟨S1536, .f32⟩
  | .hbm, ⟨104, _⟩ => ⟨S_, .f32⟩
  | .hbm, ⟨105, _⟩ => ⟨S2051x1536, .f32⟩
  | .hbm, ⟨106, _⟩ => ⟨S2051x1536, .f32⟩
  | .hbm, ⟨107, _⟩ => ⟨S1x1536, .f32⟩
  | .hbm, ⟨108, _⟩ => ⟨S_, .f32⟩
  | .hbm, ⟨109, _⟩ => ⟨S4x1536, .f32⟩
  | .hbm, ⟨110, _⟩ => ⟨S4x1536, .f32⟩
  | .hbm, ⟨111, _⟩ => ⟨S3x1536, .f32⟩
  | .hbm, ⟨112, _⟩ => ⟨S2048x1536, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v31_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v31_1 : Ref sig .tc := ⟨.hbm, 47, rfl⟩
abbrev main_v31_0 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_1 : Ref sig .tc := ⟨.hbm, 56, rfl⟩
abbrev main_v36 : Ref sig .tc := ⟨.hbm, 57, rfl⟩
abbrev main_v37 : Ref sig .tc := ⟨.hbm, 58, rfl⟩
abbrev main_cst_2 : Ref sig .tc := ⟨.hbm, 59, rfl⟩
abbrev main_v38 : Ref sig .tc := ⟨.hbm, 60, rfl⟩
abbrev main_cst_3 : Ref sig .tc := ⟨.hbm, 61, rfl⟩
abbrev main_v39 : Ref sig .tc := ⟨.hbm, 62, rfl⟩
abbrev main_v40 : Ref sig .tc := ⟨.hbm, 63, rfl⟩
abbrev main_cst_4 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_5 : Ref sig .tc := ⟨.hbm, 69, rfl⟩
abbrev main_v45 : Ref sig .tc := ⟨.hbm, 70, rfl⟩
abbrev main_v46 : Ref sig .tc := ⟨.hbm, 71, rfl⟩
abbrev main_cst_6 : Ref sig .tc := ⟨.hbm, 72, rfl⟩
abbrev main_v47 : Ref sig .tc := ⟨.hbm, 73, rfl⟩
abbrev main_cst_7 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_8 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_9 : Ref sig .tc := ⟨.hbm, 84, rfl⟩
abbrev main_v56 : Ref sig .tc := ⟨.hbm, 85, rfl⟩
abbrev main_v57 : Ref sig .tc := ⟨.hbm, 86, rfl⟩
abbrev main_cst_10 : Ref sig .tc := ⟨.hbm, 87, rfl⟩
abbrev main_v58 : Ref sig .tc := ⟨.hbm, 88, rfl⟩
abbrev main_cst_11 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_12 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_13 : Ref sig .tc := ⟨.hbm, 99, rfl⟩
abbrev main_v67 : Ref sig .tc := ⟨.hbm, 100, rfl⟩
abbrev main_v68 : Ref sig .tc := ⟨.hbm, 101, rfl⟩
abbrev main_cst_14 : Ref sig .tc := ⟨.hbm, 102, rfl⟩
abbrev main_v69 : Ref sig .tc := ⟨.hbm, 103, rfl⟩
abbrev main_cst_15 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_16 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩

abbrev nD : Nat := 1
abbrev τ : Topo := Topo.v7x

variable {F : FTy → Type} [FloatOps F]
-- ==== ShortConv.lean ====
abbrev S2048x3072 : Shape := ⟨2, ![2048, 3072]⟩
abbrev S4x1536 : Shape := ⟨2, ![4, 1536]⟩
abbrev S2048x1536 : Shape := ⟨2, ![2048, 1536]⟩
abbrev S256x768 : Shape := ⟨2, ![256, 768]⟩
abbrev S8x768 : Shape := ⟨2, ![8, 768]⟩
abbrev S4x768 : Shape := ⟨2, ![4, 768]⟩
abbrev S264x768 : Shape := ⟨2, ![264, 768]⟩
abbrev S1x768 : Shape := ⟨2, ![1, 768]⟩

abbrev nBuf : Space → Nat
  | .hbm => 3
  | .vmem => 9
  | .smem => 0
  | _ => 0

abbrev bufTy : (tb : Table) → Fin (tcTables nBuf tb) → BufTy
  | .hbm, ⟨0, _⟩ => ⟨S2048x3072, .f32⟩
  | .hbm, ⟨1, _⟩ => ⟨S4x1536, .f32⟩
  | .hbm, ⟨2, _⟩ => ⟨S2048x1536, .f32⟩
  | .local _ .vmem, ⟨0, _⟩ => ⟨S256x768, .f32⟩
  | .local _ .vmem, ⟨1, _⟩ => ⟨S256x768, .f32⟩
  | .local _ .vmem, ⟨2, _⟩ => ⟨S8x768, .f32⟩
  | .local _ .vmem, ⟨3, _⟩ => ⟨S8x768, .f32⟩
  | .local _ .vmem, ⟨4, _⟩ => ⟨S4x768, .f32⟩
  | .local _ .vmem, ⟨5, _⟩ => ⟨S4x768, .f32⟩
  | .local _ .vmem, ⟨6, _⟩ => ⟨S256x768, .f32⟩
  | .local _ .vmem, ⟨7, _⟩ => ⟨S256x768, .f32⟩
  | .local _ .vmem, ⟨8, _⟩ => ⟨S264x768, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let v3 : BitVec 32 := Scalar.addi c1_i32_0 arg1
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ShortConvReferenceIdeal.lean ====
abbrev S2048x3072 : Shape := ⟨2, ![2048, 3072]⟩
abbrev S4x1536 : Shape := ⟨2, ![4, 1536]⟩
abbrev S_ : Shape := ⟨0, ![]⟩
abbrev S3x1536 : Shape := ⟨2, ![3, 1536]⟩
abbrev S2048x1536 : Shape := ⟨2, ![2048, 1536]⟩
abbrev S2051x1536 : Shape := ⟨2, ![2051, 1536]⟩
abbrev S1x1536 : Shape := ⟨2, ![1, 1536]⟩
abbrev S1536 : Shape := ⟨1, ![1536]⟩

abbrev nBuf : Space → Nat
  | .hbm => 42
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S4x1536, .f32⟩
  | .hbm, ⟨2, _⟩ => ⟨S_, .f32⟩
  | .hbm, ⟨3, _⟩ => ⟨S3x1536, .f32⟩
  | .hbm, ⟨4, _⟩ => ⟨S2048x1536, .f32⟩
  | .hbm, ⟨5, _⟩ => ⟨S2051x1536, .f32⟩
  | .hbm, ⟨6, _⟩ => ⟨S1x1536, .f32⟩
  | .hbm, ⟨7, _⟩ => ⟨S1536, .f32⟩
  | .hbm, ⟨8, _⟩ => ⟨S2048x1536, .f32⟩
  | .hbm, ⟨9, _⟩ => ⟨S1x1536, .f32⟩
  | .hbm, ⟨10, _⟩ => ⟨S2048x1536, .f32⟩
  | .hbm, ⟨11, _⟩ => ⟨S2048x1536, .f32⟩
  | .hbm, ⟨12, _⟩ => ⟨S1x1536, .f32⟩
  | .hbm, ⟨13, _⟩ => ⟨S1536, .f32⟩
  | .hbm, ⟨14, _⟩ => ⟨S2048x1536, .f32⟩
  | .hbm, ⟨15, _⟩ => ⟨S1x1536, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S1x1536, .f32⟩
  | .hbm, ⟨20, _⟩ => ⟨S1536, .f32⟩
  | .hbm, ⟨21, _⟩ => ⟨S2048x1536, .f32⟩
  | .hbm, ⟨22, _⟩ => ⟨S1x1536, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S1x1536, .f32⟩
  | .hbm, ⟨27, _⟩ => ⟨S1536, .f32⟩
  | .hbm, ⟨28, _⟩ => ⟨S2048x1536, .f32⟩
  | .hbm, ⟨29, _⟩ => ⟨S1x1536, .f32⟩
  | .hbm, ⟨30, _⟩ => ⟨S2048x1536, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S2048x1536, .f32⟩
  | .hbm, ⟨35, _⟩ => ⟨S_, .f32⟩
  | .hbm, ⟨36, _⟩ => ⟨S2048x1536, .f32⟩
  | .hbm, ⟨37, _⟩ => ⟨S2048x1536, .f32⟩
  | .hbm, ⟨38, _⟩ => ⟨S_, .f32⟩
  | .hbm, ⟨39, _⟩ => ⟨S2048x1536, .f32⟩
  | .hbm, ⟨40, _⟩ => ⟨S2048x1536, .f32⟩
  | .hbm, ⟨41, _⟩ => ⟨S2048x1536, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== ConvMid.lean ====
abbrev S2048x2048 : Shape := ⟨2, ![2048, 2048]⟩
abbrev S31x1024 : Shape := ⟨2, ![31, 1024]⟩
abbrev S1024 : Shape := ⟨1, ![1024]⟩
abbrev S1x1024 : Shape := ⟨2, ![1, 1024]⟩
abbrev S2048x1024 : Shape := ⟨2, ![2048, 1024]⟩
abbrev S256x1024 : Shape := ⟨2, ![256, 1024]⟩
abbrev S32x1024 : Shape := ⟨2, ![32, 1024]⟩
abbrev S288x1024 : Shape := ⟨2, ![288, 1024]⟩
abbrev S280x1024 : Shape := ⟨2, ![280, 1024]⟩
abbrev S272x1024 : Shape := ⟨2, ![272, 1024]⟩
abbrev S256 : Shape := ⟨1, ![256]⟩
abbrev S256x1 : Shape := ⟨2, ![256, 1]⟩

abbrev nBuf : Space → Nat
  | .hbm => 10
  | .vmem => 17
  | .smem => 0
  | _ => 0

abbrev bufTy : (tb : Table) → Fin (tcTables nBuf tb) → BufTy
  | .hbm, ⟨0, _⟩ => ⟨S2048x2048, .f32⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S2048x1024, .f32⟩
  | .hbm, ⟨9, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S31x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S288x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S31x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ConvMidReferenceIdeal.lean ====
abbrev S2048x2048 : Shape := ⟨2, ![2048, 2048]⟩
abbrev S31x1024 : Shape := ⟨2, ![31, 1024]⟩
abbrev S1024 : Shape := ⟨1, ![1024]⟩
abbrev S2048x1024 : Shape := ⟨2, ![2048, 1024]⟩
abbrev S_ : Shape := ⟨0, ![]⟩
abbrev S30x1024 : Shape := ⟨2, ![30, 1024]⟩
abbrev S2078x1024 : Shape := ⟨2, ![2078, 1024]⟩
abbrev S31x1x1024 : Shape := ⟨3, ![31, 1, 1024]⟩
abbrev S1x2048x1024 : Shape := ⟨3, ![1, 2048, 1024]⟩
abbrev S16x2048x1024 : Shape := ⟨3, ![16, 2048, 1024]⟩
abbrev S15x2048x1024 : Shape := ⟨3, ![15, 2048, 1024]⟩
abbrev S31x2048x1024 : Shape := ⟨3, ![31, 2048, 1024]⟩
abbrev S1x1024 : Shape := ⟨2, ![1, 1024]⟩
abbrev S2048 : Shape := ⟨1, ![2048]⟩
abbrev S2048x1 : Shape := ⟨2, ![2048, 1]⟩

abbrev nBuf : Space → Nat
  | .hbm => 128
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S30x1024, .f32⟩
  | .hbm, ⟨18, _⟩ => ⟨S2078x1024, .f32⟩
  | .hbm, ⟨19, _⟩ => ⟨S31x1x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S1x2048x1024, .f32⟩
  | .hbm, ⟨52, _⟩ => ⟨S1x2048x1024, .f32⟩
  | .hbm, ⟨53, _⟩ => ⟨S1x2048x1024, .f32⟩
  | .hbm, ⟨54, _⟩ => ⟨S1x2048x1024, .f32⟩
  | .hbm, ⟨55, _⟩ => ⟨S1x2048x1024, .f32⟩
  | .hbm, ⟨56, _⟩ => ⟨S1x2048x1024, .f32⟩
  | .hbm, ⟨57, _⟩ => ⟨S1x2048x1024, .f32⟩
  | .hbm, ⟨58, _⟩ => ⟨S1x2048x1024, .f32⟩
  | .hbm, ⟨59, _⟩ => ⟨S1x2048x1024, .f32⟩
  | .hbm, ⟨60, _⟩ => ⟨S1x2048x1024, .f32⟩
  | .hbm, ⟨61, _⟩ => ⟨S1x2048x1024, .f32⟩
  | .hbm, ⟨62, _⟩ => ⟨S1x2048x1024, .f32⟩
  | .hbm, ⟨63, _⟩ => ⟨S1x2048x1024, .f32⟩
  | .hbm, ⟨64, _⟩ => ⟨S1x2048x1024, .f32⟩
  | .hbm, ⟨65, _⟩ => ⟨S1x2048x1024, .f32⟩
  | .hbm, ⟨66, _⟩ => ⟨S1x2048x1024, .f32⟩
  | .hbm, ⟨67, _⟩ => ⟨S1x2048x1024, .f32⟩
  | .hbm, ⟨68, _⟩ => ⟨S1x2048x1024, .f32⟩
  | .hbm, ⟨69, _⟩ => ⟨S1x2048x1024, .f32⟩
  | .hbm, ⟨70, _⟩ => ⟨S1x2048x1024, .f32⟩
  | .hbm, ⟨71, _⟩ => ⟨S1x2048x1024, .f32⟩
  | .hbm, ⟨72, _⟩ => ⟨S1x2048x1024, .f32⟩
  | .hbm, ⟨73, _⟩ => ⟨S1x2048x1024, .f32⟩
  | .hbm, ⟨74, _⟩ => ⟨S1x2048x1024, .f32⟩
  | .hbm, ⟨75, _⟩ => ⟨S1x2048x1024, .f32⟩
  | .hbm, ⟨76, _⟩ => ⟨S1x2048x1024, .f32⟩
  | .hbm, ⟨77, _⟩ => ⟨S1x2048x1024, .f32⟩
  | .hbm, ⟨78, _⟩ => ⟨S1x2048x1024, .f32⟩
  | .hbm, ⟨79, _⟩ => ⟨S1x2048x1024, .f32⟩
  | .hbm, ⟨80, _⟩ => ⟨S1x2048x1024, .f32⟩
  | .hbm, ⟨81, _⟩ => ⟨S1x2048x1024, .f32⟩
  | .hbm, ⟨82, _⟩ => ⟨S16x2048x1024, .f32⟩
  | .hbm, ⟨83, _⟩ => ⟨S15x2048x1024, .f32⟩
  | .hbm, ⟨84, _⟩ => ⟨S31x2048x1024, .f32⟩
  | .hbm, ⟨85, _⟩ => ⟨S31x2048x1024, .f32⟩
  | .hbm, ⟨86, _⟩ => ⟨S31x2048x1024, .f32⟩
  | .hbm, ⟨87, _⟩ => ⟨S_, .f32⟩
  | .hbm, ⟨88, _⟩ => ⟨S2048x1024, .f32⟩
  | .hbm, ⟨89, _⟩ => ⟨S1x1024, .f32⟩
  | .hbm, ⟨90, _⟩ => ⟨S2048x1024, .f32⟩
  | .hbm, ⟨91, _⟩ => ⟨S2048x1024, .f32⟩
  | .hbm, ⟨92, _⟩ => ⟨S_, .f32⟩
  | .hbm, ⟨93, _⟩ => ⟨S2048, .f32⟩
  | .hbm, ⟨94, _⟩ => ⟨S2048x1, .f32⟩
  | .hbm, ⟨95, _⟩ => ⟨S_, .f32⟩
  | .hbm, ⟨96, _⟩ => ⟨S2048x1, .f32⟩
  | .hbm, ⟨97, _⟩ => ⟨S2048x1, .f32⟩
  | .hbm, ⟨98, _⟩ => ⟨S2048x1024, .f32⟩
  | .hbm, ⟨99, _⟩ => ⟨S2048x1024, .f32⟩
  | .hbm, ⟨100, _⟩ => ⟨S2048x1024, .f32⟩
  | .hbm, ⟨101, _⟩ => ⟨S_, .f32⟩
  | .hbm, ⟨102, _⟩ => ⟨S2048, .f32⟩
  | .hbm, ⟨103, _⟩ => ⟨S2048x1, .f32⟩
  | .hbm, ⟨104, _⟩ => ⟨S_, .f32⟩
  | .hbm, ⟨105, _⟩ => ⟨S2048x1, .f32⟩
  | .hbm, ⟨106, _⟩ => ⟨S2048x1, .f32⟩
  | .hbm, ⟨107, _⟩ => ⟨S_, .f32⟩
  | .hbm, ⟨108, _⟩ => ⟨S2048x1, .f32⟩
  | .hbm, ⟨109, _⟩ => ⟨S2048x1, .f32⟩
  | .hbm, ⟨110, _⟩ => ⟨S2048x1, .f32⟩
  | .hbm, ⟨111, _⟩ => ⟨S2048x1024, .f32⟩
  | .hbm, ⟨112, _⟩ => ⟨S2048x1024, .f32⟩
  | .hbm, ⟨113, _⟩ => ⟨S1x1024, .f32⟩
  | .hbm, ⟨114, _⟩ => ⟨S2048x1024, .f32⟩
  | .hbm, ⟨115, _⟩ => ⟨S2048x1024, .f32⟩
  | .hbm, ⟨116, _⟩ => ⟨S1x1024, .f32⟩
  | .hbm, ⟨117, _⟩ => ⟨S2048x1024, .f32⟩
  | .hbm, ⟨118, _⟩ => ⟨S2048x1024, .f32⟩
  | .hbm, ⟨119, _⟩ => ⟨S2048x1024, .f32⟩
  | .hbm, ⟨120, _⟩ => ⟨S2048x1024, .f32⟩
  | .hbm, ⟨121, _⟩ => ⟨S_, .f32⟩
  | .hbm, ⟨122, _⟩ => ⟨S2048x1024, .f32⟩
  | .hbm, ⟨123, _⟩ => ⟨S2048x1024, .f32⟩
  | .hbm, ⟨124, _⟩ => ⟨S_, .f32⟩
  | .hbm, ⟨125, _⟩ => ⟨S2048x1024, .f32⟩
  | .hbm, ⟨126, _⟩ => ⟨S2048x1024, .f32⟩
  | .hbm, ⟨127, _⟩ => ⟨S2048x1024, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_cst_2 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_cst_3 : Ref sig .tc := ⟨.hbm, 92, rfl⟩
abbrev main_v83 : Ref sig .tc := ⟨.hbm, 93, rfl⟩
abbrev main_v84 : Ref sig .tc := ⟨.hbm, 94, rfl⟩
abbrev main_cst_4 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_cst_5 : Ref sig .tc := ⟨.hbm, 101, rfl⟩
abbrev main_v90 : Ref sig .tc := ⟨.hbm, 102, rfl⟩
abbrev main_v91 : Ref sig .tc := ⟨.hbm, 103, rfl⟩
abbrev main_cst_6 : Ref sig .tc := ⟨.hbm, 104, rfl⟩
abbrev main_v92 : Ref sig .tc := ⟨.hbm, 105, rfl⟩
abbrev main_v93 : Ref sig .tc := ⟨.hbm, 106, rfl⟩
abbrev main_cst_7 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_call0_v0 : Ref sig .tc := ⟨.hbm, 119, rfl⟩
abbrev main_call0_v1 : Ref sig .tc := ⟨.hbm, 120, rfl⟩
abbrev main_call0_cst : Ref sig .tc := ⟨.hbm, 121, rfl⟩
abbrev main_call0_v2 : Ref sig .tc := ⟨.hbm, 122, rfl⟩
abbrev main_call0_v3 : Ref sig .tc := ⟨.hbm, 123, rfl⟩
abbrev main_call0_cst_0 : Ref sig .tc := ⟨.hbm, 124, rfl⟩
abbrev main_call0_v4 : Ref sig .tc := ⟨.hbm, 125, rfl⟩
abbrev main_call0_v5 : Ref sig .tc := ⟨.hbm, 126, rfl⟩
abbrev main_v105 : Ref sig .tc := ⟨.hbm, 127, rfl⟩

abbrev nD : Nat := 1
abbrev τ : Topo := Topo.v7x

variable {F : FTy → Type} [FloatOps F]
-- ==== Loss.lean ====
abbrev S2048x1024 : Shape := ⟨2, ![2048, 1024]⟩
abbrev S1024 : Shape := ⟨1, ![1024]⟩
abbrev S1x1024 : Shape := ⟨2, ![1, 1024]⟩
abbrev S1x1 : Shape := ⟨2, ![1, 1]⟩
abbrev S256x1024 : Shape := ⟨2, ![256, 1024]⟩
abbrev S256 : Shape := ⟨1, ![256]⟩
abbrev S256x1 : Shape := ⟨2, ![256, 1]⟩
abbrev S1 : Shape := ⟨1, ![1]⟩

abbrev nBuf : Space → Nat
  | .hbm => 7
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S1x1024, .f32⟩
  | .hbm, ⟨4, _⟩ => ⟨S1x1, .f32⟩
  | .hbm, ⟨5, _⟩ => ⟨S2048x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S1x1, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossReferenceIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S2048x1024, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x1024, .f32⟩
  | .hbm, ⟨59, _⟩ => ⟨S2048x1024, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S1x1, .f32⟩
  | .hbm, ⟨72, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Attention.lean ====
abbrev S2048x3072 : Shape := ⟨2, ![2048, 3072]⟩
abbrev S8 : Shape := ⟨1, ![8]⟩
abbrev S8x128 : Shape := ⟨2, ![8, 128]⟩
abbrev S1024 : Shape := ⟨1, ![1024]⟩
abbrev S1024x1 : Shape := ⟨2, ![1024, 1]⟩
abbrev S2048x512 : Shape := ⟨2, ![2048, 512]⟩
abbrev S128x256 : Shape := ⟨2, ![128, 256]⟩
abbrev S128x128 : Shape := ⟨2, ![128, 128]⟩
abbrev S512x1 : Shape := ⟨2, ![512, 1]⟩
abbrev S512x256 : Shape := ⟨2, ![512, 256]⟩
abbrev S128x64 : Shape := ⟨2, ![128, 64]⟩
abbrev S512x64 : Shape := ⟨2, ![512, 64]⟩
abbrev S256x64 : Shape := ⟨2, ![256, 64]⟩
abbrev S512 : Shape := ⟨1, ![512]⟩

abbrev nBuf : Space → Nat
  | .hbm => 10
  | .vmem => 16
  | .smem => 0
  | _ => 0

abbrev bufTy : (tb : Table) → Fin (tcTables nBuf tb) → BufTy
  | .hbm, ⟨0, _⟩ => ⟨S2048x3072, .f32⟩
  | .hbm, ⟨1, _⟩ => ⟨S8, .f32⟩
  | .hbm, ⟨2, _⟩ => ⟨S8, .f32⟩
  | .hbm, ⟨3, _⟩ => ⟨S8x128, .f32⟩
  | .hbm, ⟨4, _⟩ => ⟨S1024, .f32⟩
  | .hbm, ⟨5, _⟩ => ⟨S1024x1, .f32⟩
  | .hbm, ⟨6, _⟩ => ⟨S8x128, .f32⟩
  | .hbm, ⟨7, _⟩ => ⟨S1024, .f32⟩
  | .hbm, ⟨8, _⟩ => ⟨S1024x1, .f32⟩
  | .hbm, ⟨9, _⟩ => ⟨S2048x512, .f32⟩
  | .local _ .vmem, ⟨0, _⟩ => ⟨S128x256, .f32⟩
  | .local _ .vmem, ⟨1, _⟩ => ⟨S128x256, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S128x256, .f32⟩
  | .local _ .vmem, ⟨15, _⟩ => ⟨S128x256, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg1.toNat, c4_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c5_i32 : BitVec 32 := 5#32
  let c0_i32_0 : BitVec 32 := 0#32
  ![v1.toNat, c5_i32.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg1.toNat, c5_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttentionReferenceIdeal.lean ====
abbrev S2048x3072 : Shape := ⟨2, ![2048, 3072]⟩
abbrev S8 : Shape := ⟨1, ![8]⟩
abbrev S2048x512 : Shape := ⟨2, ![2048, 512]⟩
abbrev S2048x128 : Shape := ⟨2, ![2048, 128]⟩
abbrev S16x128x2x4x64 : Shape := ⟨5, ![16, 128, 2, 4, 64]⟩
abbrev S16x128x2x64 : Shape := ⟨4, ![16, 128, 2, 64]⟩
abbrev S1x128x2x64 : Shape := ⟨4, ![1, 128, 2, 64]⟩
abbrev S15x128x2x64 : Shape := ⟨4, ![15, 128, 2, 64]⟩
abbrev S16x256x2x64 : Shape := ⟨4, ![16, 256, 2, 64]⟩
abbrev S2x16x256x128x4 : Shape := ⟨5, ![2, 16, 256, 128, 4]⟩
abbrev S2x4x16x128x256 : Shape := ⟨5, ![2, 4, 16, 128, 256]⟩
abbrev S_ : Shape := ⟨0, ![]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S2x4 : Shape := ⟨2, ![2, 4]⟩
abbrev S2x4x1x1x1 : Shape := ⟨5, ![2, 4, 1, 1, 1]⟩
abbrev S1x1x1x128x256 : Shape := ⟨5, ![1, 1, 1, 128, 256]⟩
abbrev S2x4x1x128x256 : Shape := ⟨5, ![2, 4, 1, 128, 256]⟩
abbrev S2x4x16x128 : Shape := ⟨4, ![2, 4, 16, 128]⟩
abbrev S2x4x16x128x1 : Shape := ⟨5, ![2, 4, 16, 128, 1]⟩
abbrev S16x2x64x4x128 : Shape := ⟨5, ![16, 2, 64, 4, 128]⟩

abbrev nBuf : Space → Nat
  | .hbm => 91
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S8, .f32⟩
  | .hbm, ⟨2, _⟩ => ⟨S8, .f32⟩
  | .hbm, ⟨3, _⟩ => ⟨S2048x512, .f32⟩
  | .hbm, ⟨4, _⟩ => ⟨S2048x128, .f32⟩
  | .hbm, ⟨5, _⟩ => ⟨S2048x128, .f32⟩
  | .hbm, ⟨6, _⟩ => ⟨S16x128x2x4x64, .f32⟩
  | .hbm, ⟨7, _⟩ => ⟨S16x128x2x64, .f32⟩
  | .hbm, ⟨8, _⟩ => ⟨S1x128x2x64, .f32⟩
  | .hbm, ⟨9, _⟩ => ⟨S15x128x2x64, .f32⟩
  | .hbm, ⟨10, _⟩ => ⟨S16x128x2x64, .f32⟩
  | .hbm, ⟨11, _⟩ => ⟨S16x256x2x64, .f32⟩
  | .hbm, ⟨12, _⟩ => ⟨S16x128x2x64, .f32⟩
  | .hbm, ⟨13, _⟩ => ⟨S1x128x2x64, .f32⟩
  | .hbm, ⟨14, _⟩ => ⟨S15x128x2x64, .f32⟩
  | .hbm, ⟨15, _⟩ => ⟨S16x128x2x64, .f32⟩
  | .hbm, ⟨16, _⟩ => ⟨S16x256x2x64, .f32⟩
  | .hbm, ⟨17, _⟩ => ⟨S2x16x256x128x4, .f32⟩
  | .hbm, ⟨18, _⟩ => ⟨S2x4x16x128x256, .f32⟩
  | .hbm, ⟨19, _⟩ => ⟨S_, .f32⟩
  | .hbm, ⟨20, _⟩ => ⟨S2x4x16x128x256, .f32⟩
  | .hbm, ⟨21, _⟩ => ⟨S2x4x16x128x256, .f32⟩
  | .hbm, ⟨22, _⟩ => ⟨S128, .i32⟩
  | .hbm, ⟨23, _⟩ => ⟨S128x1, .i32⟩
  | .hbm, ⟨24, _⟩ => ⟨S256, .i32⟩
  | .hbm, ⟨25, _⟩ => ⟨S1x256, .i32⟩
  | .hbm, ⟨26, _⟩ => ⟨S_, .i32⟩
  | .hbm, ⟨27, _⟩ => ⟨S128x1, .i32⟩
  | .hbm, ⟨28, _⟩ => ⟨S128x1, .i32⟩
  | .hbm, ⟨29, _⟩ => ⟨S128x256, .i32⟩
  | .hbm, ⟨30, _⟩ => ⟨S128x256, .i32⟩
  | .hbm, ⟨31, _⟩ => ⟨S128x256, .i32⟩
  | .hbm, ⟨32, _⟩ => ⟨S16, .i32⟩
  | .hbm, ⟨33, _⟩ => ⟨S16x1x1, .i32⟩
  | .hbm, ⟨34, _⟩ => ⟨S_, .i32⟩
  | .hbm, ⟨35, _⟩ => ⟨S128x256, .i32⟩
  | .hbm, ⟨36, _⟩ => ⟨S128x256, .i1⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S128x256, .i1⟩
  | .hbm, ⟨41, _⟩ => ⟨S_, .i32⟩
  | .hbm, ⟨42, _⟩ => ⟨S16x1x1, .i32⟩
  | .hbm, ⟨43, _⟩ => ⟨S16x1x1, .i1⟩
  | .hbm, ⟨44, _⟩ => ⟨S_, .i32⟩
  | .hbm, ⟨45, _⟩ => ⟨S1x256, .i32⟩
  | .hbm, ⟨46, _⟩ => ⟨S1x256, .i1⟩
  | .hbm, ⟨47, _⟩ => ⟨S1x1x256, .i1⟩
  | .hbm, ⟨48, _⟩ => ⟨S16x1x256, .i1⟩
  | .hbm, ⟨49, _⟩ => ⟨S16x1x256, .i1⟩
  | .hbm, ⟨50, _⟩ => ⟨S16x1x256, .i1⟩
  | .hbm, ⟨51, _⟩ => ⟨S1x128x256, .i1⟩
  | .hbm, ⟨52, _⟩ => ⟨S16x128x256, .i1⟩
  | .hbm, ⟨53, _⟩ => ⟨S16x128x256, .i1⟩
  | .hbm, ⟨54, _⟩ => ⟨S16x128x256, .i1⟩
  | .hbm, ⟨55, _⟩ => ⟨S2x4, .f32⟩
  | .hbm, ⟨56, _⟩ => ⟨S2x4x1x1x1, .f32⟩
  | .hbm, ⟨57, _⟩ => ⟨S128x256, .f32⟩
  | .hbm, ⟨58, _⟩ => ⟨S1x1x1x128x256, .f32⟩
  | .hbm, ⟨59, _⟩ => ⟨S2x4x1x128x256, .f32⟩
  | .hbm, ⟨60, _⟩ => ⟨S2x4x1x128x256, .f32⟩
  | .hbm, ⟨61, _⟩ => ⟨S2x4x1x128x256, .f32⟩
  | .hbm, ⟨62, _⟩ => ⟨S2x4x16x128x256, .f32⟩
  | .hbm, ⟨63, _⟩ => ⟨S2x4x16x128x256, .f32⟩
  | .hbm, ⟨64, _⟩ => ⟨S_, .f32⟩
  | .hbm, ⟨65, _⟩ => ⟨S_, .f32⟩
  | .hbm, ⟨66, _⟩ => ⟨S2x4x16x128x256, .i1⟩
  | .hbm, ⟨67, _⟩ => ⟨S2x4x16x128x256, .f32⟩
  | .hbm, ⟨68, _⟩ => ⟨S2x4x16x128x256, .f32⟩
  | .hbm, ⟨69, _⟩ => ⟨S2x4, .f32⟩
  | .hbm, ⟨70, _⟩ => ⟨S2x4x1x1x1, .f32⟩
  | .hbm, ⟨71, _⟩ => ⟨S_, .f32⟩
  | .hbm, ⟨72, _⟩ => ⟨S2x4x16x128, .f32⟩
  | .hbm, ⟨73, _⟩ => ⟨S2x4x16x128x1, .f32⟩
  | .hbm, ⟨74, _⟩ => ⟨S2x4x16x128x1, .f32⟩
  | .hbm, ⟨75, _⟩ => ⟨S2x4x16x128x1, .f32⟩
  | .hbm, ⟨76, _⟩ => ⟨S2x4x16x128x256, .f32⟩
  | .hbm, ⟨77, _⟩ => ⟨S2x4x16x128x256, .f32⟩
  | .hbm, ⟨78, _⟩ => ⟨S2x4x16x128x256, .f32⟩
  | .hbm, ⟨79, _⟩ => ⟨S_, .f32⟩
  | .hbm, ⟨80, _⟩ => ⟨S2x4x16x128, .f32⟩
  | .hbm, ⟨81, _⟩ => ⟨S2x4x16x128x1, .f32⟩
  | .hbm, ⟨82, _⟩ => ⟨S2x4x16x128x1, .f32⟩
  | .hbm, ⟨83, _⟩ => ⟨S2x4x16x128x1, .f32⟩
  | .hbm, ⟨84, _⟩ => ⟨S2x4x16x128x1, .f32⟩
  | .hbm, ⟨85, _⟩ => ⟨S2x4x16x128x1, .f32⟩
  | .hbm, ⟨86, _⟩ => ⟨S2x4x16x128x256, .f32⟩
  | .hbm, ⟨87, _⟩ => ⟨S2x4x16x128x256, .f32⟩
  | .hbm, ⟨88, _⟩ => ⟨S16x2x64x4x128, .f32⟩
  | .hbm, ⟨89, _⟩ => ⟨S16x128x2x4x64, .f32⟩
  | .hbm, ⟨90, _⟩ => ⟨S2048x512, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_c : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_c_0 : Ref sig .tc := ⟨.hbm, 34, rfl⟩
abbrev main_v29 : Ref sig .tc := ⟨.hbm, 35, rfl⟩
abbrev main_v30 : Ref sig .tc := ⟨.hbm, 36, rfl⟩
abbrev main_c_1 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_c_2 : Ref sig .tc := ⟨.hbm, 41, rfl⟩
abbrev main_v34 : Ref sig .tc := ⟨.hbm, 42, rfl⟩
abbrev main_v35 : Ref sig .tc := ⟨.hbm, 43, rfl⟩
abbrev main_c_3 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_cst_4 : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_5 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_6 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩

abbrev nD : Nat := 1
abbrev τ : Topo := Topo.v7x

variable {F : FTy → Type} [FloatOps F]
-- ==== Proof.Step.lean ====
/- What one grid point of the gradient kernel leaves in its buffers, as a function of what it finds there. -/
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Hand

open Idealize.ShloMosaic Idealize.ShloMosaic.TcCoe
open Cert.KernelIdeal Cert.KernelIdeal.Gen
open Idealize.ShloMosaic.VecWindow

variable {F : FTy → Type} [FloatOps F]

/-- The six input blocks a grid point sees: tokens, cotangent, norm scale, the two gate weight blocks and the down weight block. -/
structure Ins (F : FTy → Type) where
  x : Vec F S256x1024 .f32
  dy : Vec F S256x1024 .f32
  nw : Vec F S1x1024 .f32
  wg : Vec F S2x1024x352 .bf16
  wu : Vec F S2x1024x352 .bf16
  wd : Vec F S2x352x1024 .bf16

/-- What a grid point finds and leaves: the five output blocks and the six scratch buffers. -/
structure St (F : FTy → Type) where
  dx : Vec F S256x1024 .f32
  dwg : Vec F S2x352x1024 .bf16
  dwu : Vec F S2x352x1024 .bf16
  dwd : Vec F S2x352x1024 .bf16
  dnw : Vec F S1x1024 .f32
  xn : Vec F S2048x1024 .bf16
  dyh : Vec F S2048x1024 .bf16
  dxn : Vec F S2048x1024 .f32
  awg : Vec F S704x1024 .f32
  awu : Vec F S704x1024 .f32
  awd : Vec F S704x1024 .f32

/-- The kernel is in the first block of hidden units. -/
abbrev c1 (i : grid0.Coords) : Prop := k0_cond1 i = 1#1
/-- The very first point. -/
abbrev c2 (i : grid0.Coords) : Prop := k0_cond2 i = 1#1
/-- The first token block of a block of hidden units. -/
abbrev c3 (i : grid0.Coords) : Prop := Scalar.cmpi .ne (Scalar.extui (Scalar.cmpi .eq (BitVec.ofNat 32 (i 1).val) 0#32)) 0#32 = 1#1
/-- The last token block of a block of hidden units. -/
abbrev c4 (i : grid0.Coords) : Prop := k0_cond4 i = 1#1
/-- The last block of hidden units. -/
abbrev c5 (i : grid0.Coords) : Prop := k0_cond5 i = 1#1

/-- Rows `off …` of a 2048-row buffer, as a block of 256 rows. -/
abbrev rows {e : EltTy} (a : Vec F S2048x1024 e) (off : Fin 2 → ℕ) (inb : ∀ k, off k + S256x1024.size k ≤ S2048x1024.size k) : Vec F S256x1024 e :=
  window (s := S2048x1024) a off S256x1024.size inb

/-- Half of a pair of weight blocks. -/
abbrev half (a : Vec F S2x1024x352 .bf16) (off : Fin 3 → ℕ) (inb : ∀ k, off k + S1x1024x352.size k ≤ S2x1024x352.size k) : Vec F S1x1024x352 .bf16 :=
  window (s := S2x1024x352) a off S1x1024x352.size inb

/-- The first half of a pair. -/
abbrev half0 (a : Vec F S2x1024x352 .bf16) : Vec F S1x1024x352 .bf16 := half a ![0, 0, 0] inb_S2x1024x352_S1x1024x352_0_0_0
/-- The second half of a pair. -/
abbrev half1 (a : Vec F S2x1024x352 .bf16) : Vec F S1x1024x352 .bf16 := half a ![1, 0, 0] inb_S2x1024x352_S1x1024x352_1_0_0

open Classical in
/-- The buffers after the preparations at the head of a point. -/
def prep (i : grid0.Coords) (I : Ins F) (s : St F) : St F where
  dx := s.dx
  dwg := s.dwg
  dwu := s.dwu
  dwd := s.dwd
  dnw := if c2 i then k0_pay13 else s.dnw
  xn := if c1 i then put (s := S2048x1024) s.xn (k0_off1 i) S256x1024.size (k0_pay10 I.x I.nw) else s.xn
  dyh := if c1 i then put (s := S2048x1024) s.dyh (k0_off1 i) S256x1024.size (k0_pay11 I.dy) else s.dyh
  dxn := if c1 i then put (s := S2048x1024) s.dxn (k0_off1 i) S256x1024.size k0_pay12 else s.dxn
  awg := if c3 i then k0_pay14 else s.awg
  awu := if c3 i then k0_pay15 else s.awu
  awd := if c3 i then k0_pay16 else s.awd

section Pieces
variable (I : Ins F) (v14 v16 : Vec F S256x1024 .bf16)
/-- The gate's pre-activation of a token block. -/
abbrev gateOf : FVec F S256x704 .f32 := k0_pay19 v14 (half0 I.wg) (half1 I.wg)
/-- The up projection of a token block. -/
abbrev upOf : FVec F S256x704 .f32 := k0_pay20 v14 (half0 I.wu) (half1 I.wu)
/-- The up projection's cotangent. -/
abbrev duOf : FVec F S256x704 .bf16 := k0_pay25 v16 (gateOf I v14) k0_pay21 I.wd
/-- The gate's cotangent. -/
abbrev dgOf : FVec F S256x704 .bf16 := k0_pay26 v16 (gateOf I v14) (upOf I v14) k0_pay21 I.wd
/-- The gate weight gradient's accumulator after this block's product. -/
abbrev awgOf (a : Vec F S704x1024 .f32) : FVec F S704x1024 .f32 := k0_pay28 v14 v16 (gateOf I v14) (upOf I v14) k0_pay21 I.wd a
/-- The up weight gradient's accumulator after this block's product. -/
abbrev awuOf (a : Vec F S704x1024 .f32) : FVec F S704x1024 .f32 := k0_pay1 v14 (duOf I v14 v16) a (constant S704x1024 .f32 0x00000000#32)
/-- The down weight gradient's accumulator after this block's product. -/
abbrev awdOf (a : Vec F S704x1024 .f32) : FVec F S704x1024 .f32 := k0_pay27 v16 (gateOf I v14) (upOf I v14) k0_pay21 a
/-- The cotangent of the normalised tokens after this block's products. -/
abbrev dxnOf (a : Vec F S256x1024 .f32) : FVec F S256x1024 .f32 :=
  k0_pay2 (k0_pay17 (half0 I.wg) (half1 I.wg)) (k0_pay18 (half0 I.wu) (half1 I.wu)) (duOf I v14 v16) (dgOf I v14 v16) a
end Pieces

/-- The products of a point, over prepared buffers. -/
def prod (i : grid0.Coords) (I : Ins F) (s : St F) : St F where
  dx := s.dx
  dwg := s.dwg
  dwu := s.dwu
  dwd := s.dwd
  dnw := s.dnw
  xn := s.xn
  dyh := s.dyh
  dxn := put (s := S2048x1024) s.dxn (k0_off2 i) S256x1024.size
    (dxnOf I (rows s.xn (k0_off2 i) (k0_off2_inb i)) (rows s.dyh (k0_off2 i) (k0_off2_inb i)) (rows s.dxn (k0_off2 i) (k0_off2_inb i)))
  awg := awgOf I (rows s.xn (k0_off2 i) (k0_off2_inb i)) (rows s.dyh (k0_off2 i) (k0_off2_inb i)) s.awg
  awu := awuOf I (rows s.xn (k0_off2 i) (k0_off2_inb i)) (rows s.dyh (k0_off2 i) (k0_off2_inb i)) s.awu
  awd := awdOf I (rows s.xn (k0_off2 i) (k0_off2_inb i)) (rows s.dyh (k0_off2 i) (k0_off2_inb i)) s.awd

open Classical in
/-- The outputs a point stores at its end. -/
def emit (i : grid0.Coords) (I : Ins F) (s : St F) : St F where
  dx := if h : c5 i then k0_pay8 I.x I.nw (rows s.dxn (k0_off3 i) (k0_off3_inb i h)) I.dy else s.dx
  dwg := if c4 i then k0_pay3 s.awg else s.dwg
  dwu := if c4 i then k0_pay4 s.awu else s.dwu
  dwd := if c4 i then k0_pay5 s.awd else s.dwd
  dnw := if h : c5 i then k0_pay9 I.x (rows s.dxn (k0_off3 i) (k0_off3_inb i h)) s.dnw else s.dnw
  xn := s.xn
  dyh := s.dyh
  dxn := s.dxn
  awg := s.awg
  awu := s.awu
  awd := s.awd

/-- One whole grid point. -/
def step (i : grid0.Coords) (I : Ins F) (s : St F) : St F := emit i I (prod i I (prep i I s))

end Cert.KernelIdeal.Hand

end
-- ==== Proof.Held.lean ====
/- The kernel's buffers as assertions, and the loads and stores of whole buffers and of rectangles as functions of contents. -/
module

public import proofs.«01_k».proof.Proof.Step

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.VecWindow

variable {F : FTy → Type} [FloatOps F]

local notation "𝕄" => MT nD τ sig Unit (Elt F) ℕ (UR sig nD τ) ℕ

/-- A load of a rectangle reads that window of what the view reads. -/
theorem readAt_win {sig : RefSig} {κ : Kind} {sp : Space} {s : Shape} {e : EltTy} {Val : EltTy → Type} (v : View sig κ sp s e)
    (f : v.ty.Contents Val) {off size : Fin s.rank → ℕ} (inb : ∀ a, off a + size a ≤ s.size a) :
    v.readAt Val (Rect.unit off size inb).toLoadRect f = window (v.read Val f) off size inb :=
  View.readAt_unit v f inb rfl inb

/-- A store at a rectangle puts its payload there. -/
theorem read_writes_put {sig : RefSig} {κ : Kind} {sp : Space} {s : Shape} {e : EltTy} {Val : EltTy → Type} (v : View sig κ sp s e)
    (f : v.ty.Contents Val) {off size : Fin s.rank → ℕ} (inb : ∀ a, off a + size a ≤ s.size a)
    (w : (Rect.unit off size inb).shape.Idx → Val e) (L : List (View.Piece Val s e)) :
    v.read Val (v.writes Val f (⟨Rect.unit off size inb, w⟩ :: L)) = put (v.read Val (v.writes Val f L)) off size w :=
  View.read_writes_cons_put v f inb w L rfl

/-- A load of the whole shape reads the array. -/
theorem readAt_all {sig : RefSig} {κ : Kind} {sp : Space} {s : Shape} {e : EltTy} {Val : EltTy → Type} (v : View sig κ sp s e)
    (f : v.ty.Contents Val) {off : Fin s.rank → ℕ} (inb : ∀ a, off a + s.size a ≤ s.size a) :
    v.readAt Val (Rect.unit off s.size inb).toLoadRect f = v.read Val f :=
  View.readAt_full v f inb

/-- A store of the whole shape leaves the payload. -/
theorem read_writes_all {sig : RefSig} {κ : Kind} {sp : Space} {s : Shape} {e : EltTy} {Val : EltTy → Type} (v : View sig κ sp s e)
    (f : v.ty.Contents Val) {off : Fin s.rank → ℕ} (inb : ∀ a, off a + s.size a ≤ s.size a)
    (w : (Rect.unit off s.size inb).shape.Idx → Val e) (L : List (View.Piece Val s e)) :
    v.read Val (v.writes Val f (⟨Rect.unit off s.size inb, w⟩ :: L)) = w :=
  View.read_writes_full v f inb w L

/-- The window of a whole shape is the array. -/
theorem window_all {s : Shape} {α : Type} (x : s.Idx → α) {off : Fin s.rank → ℕ} (inb : ∀ a, off a + s.size a ≤ s.size a) :
    window x off s.size inb = x := by
  funext y
  exact congrArg x (Rect.emb_unit_full inb y)

/-- A whole shape put over an array is the payload. -/
theorem put_all {s : Shape} {α : Type} (x : s.Idx → α) {off : Fin s.rank → ℕ} (w : ((a : Fin s.rank) → Fin (s.size a)) → α)
    (inb : ∀ a, off a + s.size a ≤ s.size a) : put x off s.size w = w := by
  funext y
  have h : ∀ a, off a ≤ (y a).val ∧ (y a).val < off a + s.size a := fun a => by
    have := inb a; have := (y a).isLt; omega
  unfold put
  rw [dif_pos h]
  exact congrArg w (funext fun a => Fin.ext (by have := inb a; show (y a).val - off a = (y a).val; omega))

/-- The window of all of a 256x1024 block. -/
theorem window_256x1024 {α : Type} (x : S256x1024.Idx → α) (h : ∀ a, ![0, 0] a + S256x1024.size a ≤ S256x1024.size a) :
    window (s := S256x1024) x ![0, 0] ![256, 1024] h = x := window_all (s := S256x1024) x h

/-- All of a 256x1024 block written over. -/
theorem put_256x1024 {α : Type} (x : S256x1024.Idx → α) (w : S256x1024.Idx → α) : put (s := S256x1024) x ![0, 0] ![256, 1024] w = w :=
  put_all (s := S256x1024) x w inb_S256x1024_S256x1024_0_0

/-- The window of all of a 1x1024 block. -/
theorem window_1x1024 {α : Type} (x : S1x1024.Idx → α) (h : ∀ a, ![0, 0] a + S1x1024.size a ≤ S1x1024.size a) :
    window (s := S1x1024) x ![0, 0] ![1, 1024] h = x := window_all (s := S1x1024) x h

/-- All of a 1x1024 block written over. -/
theorem put_1x1024 {α : Type} (x : S1x1024.Idx → α) (w : S1x1024.Idx → α) : put (s := S1x1024) x ![0, 0] ![1, 1024] w = w :=
  put_all (s := S1x1024) x w inb_S1x1024_S1x1024_0_0

/-- The window of all of a 2x352x1024 block. -/
theorem window_2x352x1024 {α : Type} (x : S2x352x1024.Idx → α) (h : ∀ a, ![0, 0, 0] a + S2x352x1024.size a ≤ S2x352x1024.size a) :
    window (s := S2x352x1024) x ![0, 0, 0] ![2, 352, 1024] h = x := window_all (s := S2x352x1024) x h

/-- All of a 2x352x1024 block written over. -/
theorem put_2x352x1024 {α : Type} (x : S2x352x1024.Idx → α) (w : S2x352x1024.Idx → α) : put (s := S2x352x1024) x ![0, 0, 0] ![2, 352, 1024] w = w :=
  put_all (s := S2x352x1024) x w inb_S2x352x1024_S2x352x1024_0_0_0

/-- The window of all of a 704x1024 block. -/
theorem window_704x1024 {α : Type} (x : S704x1024.Idx → α) (h : ∀ a, ![0, 0] a + S704x1024.size a ≤ S704x1024.size a) :
    window (s := S704x1024) x ![0, 0] ![704, 1024] h = x := window_all (s := S704x1024) x h

/-- All of a 704x1024 block written over. -/
theorem put_704x1024 {α : Type} (x : S704x1024.Idx → α) (w : S704x1024.Idx → α) : put (s := S704x1024) x ![0, 0] ![704, 1024] w = w :=
  put_all (s := S704x1024) x w inb_S704x1024_S704x1024_0_0

/-- The three addresses of a point's token block agree. -/
theorem off12 (i : grid0.Coords) : k0_off1 i = k0_off2 i := rfl
/-- The three addresses of a point's token block agree. -/
theorem off32 (i : grid0.Coords) : k0_off3 i = k0_off2 i := rfl

/-- The token block just stored is the payload. -/
theorem rows_put12 {α : Type} (x : S2048x1024.Idx → α) (i : grid0.Coords) (w : S256x1024.Idx → α) (h : ∀ a, k0_off2 i a + S256x1024.size a ≤ S2048x1024.size a) :
    window (s := S2048x1024) (put (s := S2048x1024) x (k0_off1 i) ![256, 1024] w) (k0_off2 i) ![256, 1024] h = w :=
  window_put_same (s := S2048x1024) x (k0_off2 i) S256x1024.size h w

/-- The token block just stored is the payload. -/
theorem rows_put23 {α : Type} (x : S2048x1024.Idx → α) (i : grid0.Coords) (w : S256x1024.Idx → α) (h : ∀ a, k0_off3 i a + S256x1024.size a ≤ S2048x1024.size a) :
    window (s := S2048x1024) (put (s := S2048x1024) x (k0_off2 i) ![256, 1024] w) (k0_off3 i) ![256, 1024] h = w :=
  window_put_same (s := S2048x1024) x (k0_off2 i) S256x1024.size h w

section Covered
variable {sig : RefSig} {κ : Kind} {sp : Space} {e : EltTy} {Val : EltTy → Type} [∀ e, Nonempty (Val e)]

/-- A load of the rectangle just stored reads the payload. -/
theorem cov_same {s : Shape} (v : View sig κ sp s e) {off size : Fin s.rank → ℕ} (h h' : ∀ a, off a + size a ≤ s.size a)
    (w : (Rect.unit off size h).shape.Idx → Val e) (L : List (View.Piece Val s e)) :
    v.readCov (⟨Rect.unit off size h, w⟩ :: L) (Rect.unit off size h').toLoadRect = w :=
  (readAt_win v _ h').trans (by
    rw [read_writes_put]
    exact window_put_same _ off size h' w)

/-- A load of the token block just stored reads the payload. -/
theorem cov12 (v : View sig κ sp S2048x1024 e) (i : grid0.Coords) (h : ∀ a, k0_off1 i a + S256x1024.size a ≤ S2048x1024.size a)
    (h' : ∀ a, k0_off2 i a + S256x1024.size a ≤ S2048x1024.size a) (w : S256x1024.Idx → Val e) (L : List (View.Piece Val S2048x1024 e)) :
    v.readCov (⟨Rect.unit (s := S2048x1024) (k0_off1 i) ![256, 1024] h, w⟩ :: L) (Rect.unit (s := S2048x1024) (k0_off2 i) ![256, 1024] h').toLoadRect = w :=
  cov_same v (off := k0_off2 i) (size := S256x1024.size) h h' w L

/-- A load of the token block just stored reads the payload. -/
theorem cov23 (v : View sig κ sp S2048x1024 e) (i : grid0.Coords) (h : ∀ a, k0_off2 i a + S256x1024.size a ≤ S2048x1024.size a)
    (h' : ∀ a, k0_off3 i a + S256x1024.size a ≤ S2048x1024.size a) (w : S256x1024.Idx → Val e) (L : List (View.Piece Val S2048x1024 e)) :
    v.readCov (⟨Rect.unit (s := S2048x1024) (k0_off2 i) ![256, 1024] h, w⟩ :: L) (Rect.unit (s := S2048x1024) (k0_off3 i) ![256, 1024] h').toLoadRect = w :=
  cov_same v (off := k0_off2 i) (size := S256x1024.size) h h' w L

/-- A load of an accumulator just stored reads the payload. -/
theorem cov_704x1024 (v : View sig κ sp S704x1024 e) (h h' : ∀ a, ![0, 0] a + S704x1024.size a ≤ S704x1024.size a) (w : S704x1024.Idx → Val e)
    (L : List (View.Piece Val S704x1024 e)) :
    v.readCov (⟨Rect.unit (s := S704x1024) ![0, 0] ![704, 1024] h, w⟩ :: L) (Rect.unit (s := S704x1024) ![0, 0] ![704, 1024] h').toLoadRect = w :=
  cov_same v (off := ![0, 0]) (size := S704x1024.size) h h' w L
end Covered
/-- The kernel's buffers held whole: the six input blocks at `I`, the five output blocks and the six scratch buffers at `s`. -/
def holds (c : Dev nD) (arg2 : Memref sig .tc .vmem S256x1024 .f32) (arg3 : Memref sig .tc .vmem S256x1024 .f32) (arg4 : Memref sig .tc .vmem S1x1024 .f32) (arg5 : Memref sig .tc .vmem S2x1024x352 .bf16) (arg6 : Memref sig .tc .vmem S2x1024x352 .bf16) (arg7 : Memref sig .tc .vmem S2x352x1024 .bf16) (arg8 : Memref sig .tc .vmem S256x1024 .f32) (arg9 : Memref sig .tc .vmem S2x352x1024 .bf16) (arg10 : Memref sig .tc .vmem S2x352x1024 .bf16) (arg11 : Memref sig .tc .vmem S2x352x1024 .bf16) (arg12 : Memref sig .tc .vmem S1x1024 .f32) (arg13 : Memref sig .tc .vmem S2048x1024 .bf16) (arg14 : Memref sig .tc .vmem S2048x1024 .bf16) (arg15 : Memref sig .tc .vmem S2048x1024 .f32) (arg16 : Memref sig .tc .vmem S704x1024 .f32) (arg17 : Memref sig .tc .vmem S704x1024 .f32) (arg18 : Memref sig .tc .vmem S704x1024 .f32)
    (I : Ins F) (s : St F) : sProp 𝕄 :=
  iprop(owns (c : Thread nD τ) arg2 fullShare I.x ∗ owns (c : Thread nD τ) arg3 fullShare I.dy ∗ owns (c : Thread nD τ) arg4 fullShare I.nw ∗ owns (c : Thread nD τ) arg5 fullShare I.wg ∗ owns (c : Thread nD τ) arg6 fullShare I.wu ∗ owns (c : Thread nD τ) arg7 fullShare I.wd ∗ owns (c : Thread nD τ) arg8 fullShare s.dx ∗ owns (c : Thread nD τ) arg9 fullShare s.dwg ∗ owns (c : Thread nD τ) arg10 fullShare s.dwu ∗ owns (c : Thread nD τ) arg11 fullShare s.dwd ∗ owns (c : Thread nD τ) arg12 fullShare s.dnw ∗ owns (c : Thread nD τ) arg13 fullShare s.xn ∗ owns (c : Thread nD τ) arg14 fullShare s.dyh ∗ owns (c : Thread nD τ) arg15 fullShare s.dxn ∗ owns (c : Thread nD τ) arg16 fullShare s.awg ∗ owns (c : Thread nD τ) arg17 fullShare s.awu ∗ owns (c : Thread nD τ) arg18 fullShare s.awd)

end Cert.KernelIdeal.Hand

end
-- ==== Proof.Sched.lean ====
/- What the kernel's buffers hold after any number of grid points: closed forms by token block and hidden block, and that one point keeps them. -/
module

public import proofs.«01_k».proof.Proof.Held

@[expose] public section

set_option maxRecDepth 16384

noncomputable section

namespace Cert.KernelIdeal.Hand

open Idealize.ShloMosaic Idealize.ShloMosaic.TcCoe
open Cert.KernelIdeal Cert.KernelIdeal.Gen
open Idealize.ShloMosaic.VecWindow

variable {F : FTy → Type} [FloatOps F]

/-- The first row of token block `b` in a 2048-row buffer. -/
def offB (b : ℕ) : Fin 2 → ℕ := ![256 * (b % 8), 0]

theorem offB_inb (b : ℕ) : ∀ k, offB b k + S256x1024.size k ≤ S2048x1024.size k := by
  intro k
  fin_cases k
  · show 256 * (b % 8) + 256 ≤ 2048
    omega
  · show 0 + 1024 ≤ 1024
    omega

/-- Token block `b` of a 2048-row buffer. -/
def rowsAt {e : EltTy} (a : Vec F S2048x1024 e) (b : ℕ) : Vec F S256x1024 e := rows a (offB b) (offB_inb b)

theorem rows_eq {e : EltTy} (a : Vec F S2048x1024 e) (off : Fin 2 → ℕ) (inb : ∀ k, off k + S256x1024.size k ≤ S2048x1024.size k)
    (b : ℕ) (h : off = offB b) : rows a off inb = rowsAt a b := by
  subst h; rfl

/-- Reading a token block back after storing it. -/
theorem rowsAt_put {e : EltTy} (a : Vec F S2048x1024 e) (w : Vec F S256x1024 e) (b b' : ℕ) (h : b % 8 = b' % 8) :
    rowsAt (put (s := S2048x1024) a (offB b) S256x1024.size w) b' = w := by
  have e : offB b' = offB b := by unfold offB; rw [h]
  rw [← rows_eq _ (offB b) (offB_inb b) b' e.symm]
  exact window_put_same (s := S2048x1024) a (offB b) S256x1024.size (offB_inb b) w

/-- Storing one token block leaves the others. -/
theorem rowsAt_put_ne {e : EltTy} (a : Vec F S2048x1024 e) (w : Vec F S256x1024 e) (b b' : ℕ) (h : b % 8 ≠ b' % 8) :
    rowsAt (put (s := S2048x1024) a (offB b) S256x1024.size w) b' = rowsAt a b' := by
  refine window_put_of_disjoint (s := S2048x1024) a (offB b) S256x1024.size (offB b') S256x1024.size (offB_inb b') w (0 : Fin 2) ?_
  show 256 * (b' % 8) + 256 ≤ 256 * (b % 8) ∨ 256 * (b % 8) + 256 ≤ 256 * (b' % 8)
  omega

section Folds
variable (I : ℕ → Ins F)

/-- The normalised tokens of block `b`. -/
def xnB (b : ℕ) : Vec F S256x1024 .bf16 := k0_pay10 (I b).x (I b).nw
/-- The halved cotangent of block `b`. -/
def dyB (b : ℕ) : Vec F S256x1024 .bf16 := k0_pay11 (I b).dy

/-- The cotangent of the normalised tokens of block `b` after `j` blocks of hidden units. -/
def dxB (b : ℕ) : ℕ → Vec F S256x1024 .f32
  | 0 => k0_pay12
  | j + 1 => dxnOf (I (8 * j + b)) (xnB I b) (dyB I b) (dxB b j)

/-- The gate weight gradient of hidden block `j` after `b` token blocks. -/
def aG (j : ℕ) : ℕ → Vec F S704x1024 .f32
  | 0 => k0_pay14
  | b + 1 => awgOf (I (8 * j + b)) (xnB I b) (dyB I b) (aG j b)

/-- The up weight gradient of hidden block `j` after `b` token blocks. -/
def aU (j : ℕ) : ℕ → Vec F S704x1024 .f32
  | 0 => k0_pay15
  | b + 1 => awuOf (I (8 * j + b)) (xnB I b) (dyB I b) (aU j b)

/-- The down weight gradient of hidden block `j` after `b` token blocks. -/
def aD (j : ℕ) : ℕ → Vec F S704x1024 .f32
  | 0 => k0_pay16
  | b + 1 => awdOf (I (8 * j + b)) (xnB I b) (dyB I b) (aD j b)

/-- The norm scale's gradient after `b` token blocks. -/
def nwB : ℕ → Vec F S1x1024 .f32
  | 0 => k0_pay13
  | b + 1 => k0_pay9 (I (24 + b)).x (dxB I b 4) (nwB b)

/-- What the six scratch buffers hold before point `n`. -/
structure Inv (n : ℕ) (s : St F) : Prop where
  xn : ∀ b, b < 8 → b < n → rowsAt s.xn b = xnB I b
  dyh : ∀ b, b < 8 → b < n → rowsAt s.dyh b = dyB I b
  dxn : ∀ b, b < 8 → b < n → rowsAt s.dxn b = dxB I b ((n + 7 - b) / 8)
  awg : n % 8 ≠ 0 → s.awg = aG I (n / 8) (n % 8)
  awu : n % 8 ≠ 0 → s.awu = aU I (n / 8) (n % 8)
  awd : n % 8 ≠ 0 → s.awd = aD I (n / 8) (n % 8)

/-- The branch conditions and the row offset of a point, by its number. -/
structure At (i : grid0.Coords) (n : ℕ) : Prop where
  lt : n < 32
  h1 : c1 i ↔ n < 8
  h2 : c2 i ↔ n = 0
  h3 : c3 i ↔ n % 8 = 0
  h4 : c4 i ↔ n % 8 = 7
  h5 : c5 i ↔ 24 ≤ n
  off : k0_off2 i = offB n

variable {I}
variable {i : grid0.Coords} {n : ℕ} {s : St F}

theorem off1_eq (h : At i n) : k0_off1 i = offB n := (off12 (i := i)).trans h.off

theorem off3_eq (h : At i n) : k0_off3 i = offB n := (off32 (i := i)).trans h.off

theorem prep_xn (a : At i n) (v : Inv I n s) (b : ℕ) (hb : b < 8) (hn : b < n + 1) : rowsAt (prep i (I n) s).xn b = xnB I b := by
  have hlt := a.lt
  by_cases h : c1 i
  · have h8 := a.h1.mp h
    rw [show (prep i (I n) s).xn = put (s := S2048x1024) s.xn (k0_off1 i) S256x1024.size (k0_pay10 (I n).x (I n).nw) from if_pos h, off1_eq a]
    by_cases e : b = n
    · subst e; exact rowsAt_put _ _ _ _ rfl
    · rw [rowsAt_put_ne _ _ _ _ (by omega)]; exact v.xn b hb (by omega)
  · have h8 := mt a.h1.mpr h
    rw [show (prep i (I n) s).xn = s.xn from if_neg h]
    exact v.xn b hb (by omega)

theorem prep_dyh (a : At i n) (v : Inv I n s) (b : ℕ) (hb : b < 8) (hn : b < n + 1) : rowsAt (prep i (I n) s).dyh b = dyB I b := by
  have hlt := a.lt
  by_cases h : c1 i
  · have h8 := a.h1.mp h
    rw [show (prep i (I n) s).dyh = put (s := S2048x1024) s.dyh (k0_off1 i) S256x1024.size (k0_pay11 (I n).dy) from if_pos h, off1_eq a]
    by_cases e : b = n
    · subst e; exact rowsAt_put _ _ _ _ rfl
    · rw [rowsAt_put_ne _ _ _ _ (by omega)]; exact v.dyh b hb (by omega)
  · have h8 := mt a.h1.mpr h
    rw [show (prep i (I n) s).dyh = s.dyh from if_neg h]
    exact v.dyh b hb (by omega)

theorem prep_dxn (a : At i n) (v : Inv I n s) (b : ℕ) (hb : b < 8) (hn : b < n + 1) :
    rowsAt (prep i (I n) s).dxn b = dxB I b ((n + 7 - b) / 8) := by
  have hlt := a.lt
  by_cases h : c1 i
  · have h8 := a.h1.mp h
    rw [show (prep i (I n) s).dxn = put (s := S2048x1024) s.dxn (k0_off1 i) S256x1024.size k0_pay12 from if_pos h, off1_eq a]
    by_cases e : b = n
    · subst e
      rw [rowsAt_put _ _ _ _ rfl, show (b + 7 - b) / 8 = 0 by omega]
      rfl
    · rw [rowsAt_put_ne _ _ _ _ (by omega)]; exact v.dxn b hb (by omega)
  · have h8 := mt a.h1.mpr h
    rw [show (prep i (I n) s).dxn = s.dxn from if_neg h]
    exact v.dxn b hb (by omega)

theorem prep_awg (a : At i n) (v : Inv I n s) : (prep i (I n) s).awg = aG I (n / 8) (n % 8) := by
  by_cases h : c3 i
  · rw [show (prep i (I n) s).awg = k0_pay14 from if_pos h, a.h3.mp h]; rfl
  · rw [show (prep i (I n) s).awg = s.awg from if_neg h]; exact v.awg (mt a.h3.mpr h)

theorem prep_awu (a : At i n) (v : Inv I n s) : (prep i (I n) s).awu = aU I (n / 8) (n % 8) := by
  by_cases h : c3 i
  · rw [show (prep i (I n) s).awu = k0_pay15 from if_pos h, a.h3.mp h]; rfl
  · rw [show (prep i (I n) s).awu = s.awu from if_neg h]; exact v.awu (mt a.h3.mpr h)

theorem prep_awd (a : At i n) (v : Inv I n s) : (prep i (I n) s).awd = aD I (n / 8) (n % 8) := by
  by_cases h : c3 i
  · rw [show (prep i (I n) s).awd = k0_pay16 from if_pos h, a.h3.mp h]; rfl
  · rw [show (prep i (I n) s).awd = s.awd from if_neg h]; exact v.awd (mt a.h3.mpr h)

theorem point_eq (n : ℕ) : 8 * (n / 8) + n % 8 = n := Nat.div_add_mod n 8

theorem xn_here (a : At i n) (v : Inv I n s) : rows (prep i (I n) s).xn (k0_off2 i) (k0_off2_inb i) = xnB I (n % 8) := by
  rw [rows_eq _ _ _ (n % 8) (a.off.trans (by unfold offB; rw [Nat.mod_mod]))]
  exact prep_xn a v _ (Nat.mod_lt _ (by decide)) (by have := Nat.mod_le n 8; omega)

theorem dyh_here (a : At i n) (v : Inv I n s) : rows (prep i (I n) s).dyh (k0_off2 i) (k0_off2_inb i) = dyB I (n % 8) := by
  rw [rows_eq _ _ _ (n % 8) (a.off.trans (by unfold offB; rw [Nat.mod_mod]))]
  exact prep_dyh a v _ (Nat.mod_lt _ (by decide)) (by have := Nat.mod_le n 8; omega)

theorem dxn_here (a : At i n) (v : Inv I n s) : rows (prep i (I n) s).dxn (k0_off2 i) (k0_off2_inb i) = dxB I (n % 8) (n / 8) := by
  rw [rows_eq _ _ _ (n % 8) (a.off.trans (by unfold offB; rw [Nat.mod_mod]))]
  rw [prep_dxn a v _ (Nat.mod_lt _ (by decide)) (by have := Nat.mod_le n 8; omega), show (n + 7 - n % 8) / 8 = n / 8 by omega]

/-- The gate gradient's accumulator after a point. -/
theorem prod_awg (a : At i n) (v : Inv I n s) : (step i (I n) s).awg = aG I (n / 8) (n % 8 + 1) := by
  show awgOf (I n) (rows (prep i (I n) s).xn (k0_off2 i) (k0_off2_inb i)) (rows (prep i (I n) s).dyh (k0_off2 i) (k0_off2_inb i)) (prep i (I n) s).awg = _
  rw [xn_here a v, dyh_here a v, prep_awg a v, aG, point_eq]

/-- The up gradient's accumulator after a point. -/
theorem prod_awu (a : At i n) (v : Inv I n s) : (step i (I n) s).awu = aU I (n / 8) (n % 8 + 1) := by
  show awuOf (I n) (rows (prep i (I n) s).xn (k0_off2 i) (k0_off2_inb i)) (rows (prep i (I n) s).dyh (k0_off2 i) (k0_off2_inb i)) (prep i (I n) s).awu = _
  rw [xn_here a v, dyh_here a v, prep_awu a v, aU, point_eq]

/-- The down gradient's accumulator after a point. -/
theorem prod_awd (a : At i n) (v : Inv I n s) : (step i (I n) s).awd = aD I (n / 8) (n % 8 + 1) := by
  show awdOf (I n) (rows (prep i (I n) s).xn (k0_off2 i) (k0_off2_inb i)) (rows (prep i (I n) s).dyh (k0_off2 i) (k0_off2_inb i)) (prep i (I n) s).awd = _
  rw [xn_here a v, dyh_here a v, prep_awd a v, aD, point_eq]

/-- The tokens' cotangent after a point, block by block. -/
theorem prod_dxn (a : At i n) (v : Inv I n s) (b : ℕ) (hb : b < 8) (hn : b < n + 1) :
    rowsAt (step i (I n) s).dxn b = dxB I b ((n + 1 + 7 - b) / 8) := by
  show rowsAt (put (s := S2048x1024) (prep i (I n) s).dxn (k0_off2 i) S256x1024.size (dxnOf (I n)
    (rows (prep i (I n) s).xn (k0_off2 i) (k0_off2_inb i)) (rows (prep i (I n) s).dyh (k0_off2 i) (k0_off2_inb i)) (rows (prep i (I n) s).dxn (k0_off2 i) (k0_off2_inb i)))) b = _
  rw [xn_here a v, dyh_here a v, dxn_here a v, a.off]
  by_cases e : b = n % 8
  · rw [rowsAt_put _ _ _ _ (by omega), e, show (n + 1 + 7 - n % 8) / 8 = n / 8 + 1 by omega, dxB, point_eq]
  · rw [rowsAt_put_ne _ _ _ _ (by omega), prep_dxn a v b hb hn]
    congr 1
    omega

/-- One point keeps the invariant. -/
theorem Inv.step (a : At i n) (v : Inv I n s) : Inv I (n + 1) (step i (I n) s) where
  xn b hb hn := prep_xn a v b hb hn
  dyh b hb hn := prep_dyh a v b hb hn
  dxn b hb hn := prod_dxn a v b hb hn
  awg h := by rw [prod_awg a v]; congr 1 <;> omega
  awu h := by rw [prod_awu a v]; congr 1 <;> omega
  awd h := by rw [prod_awd a v]; congr 1 <;> omega

theorem dx_idle (a : At i n) (h : ¬ 24 ≤ n) : (Hand.step i (I n) s).dx = s.dx := dif_neg (mt a.h5.mp h)

theorem dxn_last (a : At i n) (v : Inv I n s) (h : 24 ≤ n) (h5 : c5 i) :
    rows (prod i (I n) (prep i (I n) s)).dxn (k0_off3 i) (k0_off3_inb i h5) = dxB I (n % 8) 4 := by
  have hlt := a.lt
  rw [rows_eq _ _ _ (n % 8) ((off3_eq a).trans (by unfold offB; rw [Nat.mod_mod]))]
  refine (prod_dxn a v (n % 8) (Nat.mod_lt _ (by decide)) (by omega)).trans ?_
  congr 1
  omega

/-- The tokens' gradient at the last block of hidden units. -/
theorem dx_live (a : At i n) (v : Inv I n s) (h : 24 ≤ n) :
    (Hand.step i (I n) s).dx = k0_pay8 (I n).x (I n).nw (dxB I (n % 8) 4) (I n).dy := by
  rw [← dxn_last a v h (a.h5.mpr h)]
  exact dif_pos (a.h5.mpr h)

theorem dwg_idle (a : At i n) (h : ¬ n % 8 = 7) : (Hand.step i (I n) s).dwg = s.dwg := if_neg (mt a.h4.mp h)
theorem dwu_idle (a : At i n) (h : ¬ n % 8 = 7) : (Hand.step i (I n) s).dwu = s.dwu := if_neg (mt a.h4.mp h)
theorem dwd_idle (a : At i n) (h : ¬ n % 8 = 7) : (Hand.step i (I n) s).dwd = s.dwd := if_neg (mt a.h4.mp h)

theorem dwg_live (a : At i n) (v : Inv I n s) (h : n % 8 = 7) : (Hand.step i (I n) s).dwg = k0_pay3 (aG I (n / 8) 8) := by
  have e := prod_awg a v
  rw [h] at e
  rw [← e]
  exact if_pos (a.h4.mpr h)

theorem dwu_live (a : At i n) (v : Inv I n s) (h : n % 8 = 7) : (Hand.step i (I n) s).dwu = k0_pay4 (aU I (n / 8) 8) := by
  have e := prod_awu a v
  rw [h] at e
  rw [← e]
  exact if_pos (a.h4.mpr h)

theorem dwd_live (a : At i n) (v : Inv I n s) (h : n % 8 = 7) : (Hand.step i (I n) s).dwd = k0_pay5 (aD I (n / 8) 8) := by
  have e := prod_awd a v
  rw [h] at e
  rw [← e]
  exact if_pos (a.h4.mpr h)

/-- The norm scale's gradient buffer after a point. -/
theorem dnw_step (a : At i n) (v : Inv I n s) (hd : n ≠ 0 → s.dnw = nwB I (n - 24)) :
    (Hand.step i (I n) s).dnw = nwB I (n + 1 - 24) := by
  have hlt := a.lt
  have hp : (prep i (I n) s).dnw = nwB I (n - 24) := by
    by_cases h : c2 i
    · rw [show (prep i (I n) s).dnw = k0_pay13 from if_pos h, a.h2.mp h]; rfl
    · rw [show (prep i (I n) s).dnw = s.dnw from if_neg h]; exact hd (mt a.h2.mpr h)
  by_cases h : 24 ≤ n
  · refine (dif_pos (a.h5.mpr h)).trans ?_
    rw [dxn_last a v h (a.h5.mpr h), show n + 1 - 24 = (n - 24) + 1 by omega, nwB, show 24 + (n - 24) = n by omega,
      show n % 8 = n - 24 by omega, ← hp]
    rfl
  · rw [show n + 1 - 24 = n - 24 by omega, ← hp]
    exact dif_neg (mt a.h5.mp h)

end Folds

/-- The branch conditions and the row offset of each point. -/
theorem at_point : ∀ t : Fin cfg0.N, At (grid0.coords t) t.val := by
  have h : ∀ t : Fin cfg0.N, t.val < 32 ∧ (c1 (grid0.coords t) ↔ t.val < 8) ∧ (c2 (grid0.coords t) ↔ t.val = 0) ∧ (c3 (grid0.coords t) ↔ t.val % 8 = 0)
      ∧ (c4 (grid0.coords t) ↔ t.val % 8 = 7) ∧ (c5 (grid0.coords t) ↔ 24 ≤ t.val) ∧ k0_off2 (grid0.coords t) = offB t.val := by
    decide +kernel
  intro t
  obtain ⟨a, b, c, d, e, f, g⟩ := h t
  exact ⟨a, b, c, d, e, f, g⟩

end Cert.KernelIdeal.Hand

end
-- ==== Proof.RunFirstFirst.lean ====
/- One run of the kernel's body. -/
module

public import proofs.«01_k».proof.Proof.Held

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.VecWindow

variable {F : FTy → Type} [FloatOps F]

local notation "𝕄" => MT nD τ sig Unit (Elt F) ℕ (UR sig nD τ) ℕ

set_option maxHeartbeats 8000000 in
/-- The very first grid point. -/
theorem runFirstFirst (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S2x1024x352 .bf16) (harg5 : arg5.IsWhole) (arg6 : Memref sig .tc .vmem S2x1024x352 .bf16) (harg6 : arg6.IsWhole) (arg7 : Memref sig .tc .vmem S2x352x1024 .bf16) (harg7 : arg7.IsWhole) (arg8 : Memref sig .tc .vmem S256x1024 .f32) (harg8 : arg8.IsWhole) (arg9 : Memref sig .tc .vmem S2x352x1024 .bf16) (harg9 : arg9.IsWhole) (arg10 : Memref sig .tc .vmem S2x352x1024 .bf16) (harg10 : arg10.IsWhole) (arg11 : Memref sig .tc .vmem S2x352x1024 .bf16) (harg11 : arg11.IsWhole) (arg12 : Memref sig .tc .vmem S1x1024 .f32) (harg12 : arg12.IsWhole) (arg13 : Memref sig .tc .vmem S2048x1024 .bf16) (harg13 : arg13.IsWhole) (arg14 : Memref sig .tc .vmem S2048x1024 .bf16) (harg14 : arg14.IsWhole) (arg15 : Memref sig .tc .vmem S2048x1024 .f32) (harg15 : arg15.IsWhole) (arg16 : Memref sig .tc .vmem S704x1024 .f32) (harg16 : arg16.IsWhole) (arg17 : Memref sig .tc .vmem S704x1024 .f32) (harg17 : arg17.IsWhole) (arg18 : Memref sig .tc .vmem S704x1024 .f32) (harg18 : arg18.IsWhole)
    (I : Ins F) (s : St F) (hc1 : c1 i) (hc2 : c2 i) (hc3 : c3 i) (hc4 : ¬ c4 i) (hc5 : ¬ c5 i) (E : Set ℕ) (K : PUnit → sProp 𝕄) :
    iprop(holds c arg2 arg3 arg4 arg5 arg6 arg7 arg8 arg9 arg10 arg11 arg12 arg13 arg14 arg15 arg16 arg17 arg18 I s ∗ (holds c arg2 arg3 arg4 arg5 arg6 arg7 arg8 arg9 arg10 arg11 arg12 arg13 arg14 arg15 arg16 arg17 arg18 I (step i I s) -∗ K ⟨⟩))
      ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_ffn_bwd_eq_skeleton]; unfold cc0_ffn_bwd_skel
  unfold holds owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
  sl_exec (disch := first | sl_exact hc1 | sl_exact hc2 | sl_exact hc3 | sl_exact hc4 | sl_exact hc5)
  sl_step
  iapply Hk
  clear hf0 hf1 hf2 hf3 hf4 hf5 hf6 hf7 hf8 hf9 hf10 hf11 hf12 hf13 hf14 hf15 hf16
  isplitl [H0]; iexists _; isplitr; swap; iexact H0; rotate_left
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [H9]; iexists _; isplitr; swap; iexact H9; rotate_left
  isplitl [H10]; iexists _; isplitr; swap; iexact H10; rotate_left
  isplitl [H11]; iexists _; isplitr; swap; iexact H11; rotate_left
  isplitl [H12]; iexists _; isplitr; swap; iexact H12; rotate_left
  isplitl [H13]; iexists _; isplitr; swap; iexact H13; rotate_left
  isplitl [H14]; iexists _; isplitr; swap; iexact H14; rotate_left
  isplitl [H15]; iexists _; isplitr; swap; iexact H15; rotate_left
  iexists _; isplitr; swap; iexact H16
  all_goals ipureintro
  all_goals repeat (first | unfold runFirstFirst.sl.H11_1 | unfold runFirstFirst.sl.H12_1 | unfold runFirstFirst.sl.H13_1 | unfold runFirstFirst.sl.H14_1 | unfold runFirstFirst.sl.H15_1 | unfold runFirstFirst.sl.H16_1 | unfold runFirstFirst.sl.cst_40 | unfold runFirstFirst.sl.r | unfold runFirstFirst.sl.r_1 | unfold runFirstFirst.sl.r_2 | unfold runFirstFirst.sl.r_3 | unfold runFirstFirst.sl.r_4 | unfold runFirstFirst.sl.r_5 | unfold runFirstFirst.sl.v14 | unfold runFirstFirst.sl.v16 | unfold runFirstFirst.sl.v54 | unfold runFirstFirst.sl.v60 | unfold runFirstFirst.sl.v66 | unfold runFirstFirst.sl.v73)
  all_goals simp only [↓read_writes_all, ↓readAt_all, ↓readAt_win, ↓read_writes_put, step, emit, prod, prep, rows, half, half0, half1, gateOf, upOf, duOf, dgOf, awgOf, awuOf, awdOf, dxnOf, rows_put12, rows_put23, cov12, cov23, cov_704x1024, if_pos hc1, if_pos hc2, if_pos hc3, if_neg hc4, if_neg hc5, dif_neg hc5, View.writes_nil, Memref.IsWhole.read_unread, window_256x1024, put_256x1024, window_1x1024, put_1x1024, window_2x352x1024, put_2x352x1024, window_704x1024, put_704x1024]
  all_goals try rfl

end Cert.KernelIdeal.Hand

end
-- ==== Proof.RunFirstMid.lean ====
/- One run of the kernel's body. -/
module

public import proofs.«01_k».proof.Proof.Held

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.VecWindow

variable {F : FTy → Type} [FloatOps F]

local notation "𝕄" => MT nD τ sig Unit (Elt F) ℕ (UR sig nD τ) ℕ

set_option maxHeartbeats 8000000 in
/-- First block of hidden units, a middle token block. -/
theorem runFirstMid (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S2x1024x352 .bf16) (harg5 : arg5.IsWhole) (arg6 : Memref sig .tc .vmem S2x1024x352 .bf16) (harg6 : arg6.IsWhole) (arg7 : Memref sig .tc .vmem S2x352x1024 .bf16) (harg7 : arg7.IsWhole) (arg8 : Memref sig .tc .vmem S256x1024 .f32) (harg8 : arg8.IsWhole) (arg9 : Memref sig .tc .vmem S2x352x1024 .bf16) (harg9 : arg9.IsWhole) (arg10 : Memref sig .tc .vmem S2x352x1024 .bf16) (harg10 : arg10.IsWhole) (arg11 : Memref sig .tc .vmem S2x352x1024 .bf16) (harg11 : arg11.IsWhole) (arg12 : Memref sig .tc .vmem S1x1024 .f32) (harg12 : arg12.IsWhole) (arg13 : Memref sig .tc .vmem S2048x1024 .bf16) (harg13 : arg13.IsWhole) (arg14 : Memref sig .tc .vmem S2048x1024 .bf16) (harg14 : arg14.IsWhole) (arg15 : Memref sig .tc .vmem S2048x1024 .f32) (harg15 : arg15.IsWhole) (arg16 : Memref sig .tc .vmem S704x1024 .f32) (harg16 : arg16.IsWhole) (arg17 : Memref sig .tc .vmem S704x1024 .f32) (harg17 : arg17.IsWhole) (arg18 : Memref sig .tc .vmem S704x1024 .f32) (harg18 : arg18.IsWhole)
    (I : Ins F) (s : St F) (hc1 : c1 i) (hc2 : ¬ c2 i) (hc3 : ¬ c3 i) (hc4 : ¬ c4 i) (hc5 : ¬ c5 i) (E : Set ℕ) (K : PUnit → sProp 𝕄) :
    iprop(holds c arg2 arg3 arg4 arg5 arg6 arg7 arg8 arg9 arg10 arg11 arg12 arg13 arg14 arg15 arg16 arg17 arg18 I s ∗ (holds c arg2 arg3 arg4 arg5 arg6 arg7 arg8 arg9 arg10 arg11 arg12 arg13 arg14 arg15 arg16 arg17 arg18 I (step i I s) -∗ K ⟨⟩))
      ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_ffn_bwd_eq_skeleton]; unfold cc0_ffn_bwd_skel
  unfold holds owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
  sl_exec (disch := first | sl_exact hc1 | sl_exact hc2 | sl_exact hc3 | sl_exact hc4 | sl_exact hc5)
  sl_step
  iapply Hk
  clear hf0 hf1 hf2 hf3 hf4 hf5 hf6 hf7 hf8 hf9 hf10 hf11 hf12 hf13 hf14 hf15 hf16
  isplitl [H0]; iexists _; isplitr; swap; iexact H0; rotate_left
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [H9]; iexists _; isplitr; swap; iexact H9; rotate_left
  isplitl [H10]; iexists _; isplitr; swap; iexact H10; rotate_left
  isplitl [H11]; iexists _; isplitr; swap; iexact H11; rotate_left
  isplitl [H12]; iexists _; isplitr; swap; iexact H12; rotate_left
  isplitl [H13]; iexists _; isplitr; swap; iexact H13; rotate_left
  isplitl [H14]; iexists _; isplitr; swap; iexact H14; rotate_left
  isplitl [H15]; iexists _; isplitr; swap; iexact H15; rotate_left
  iexists _; isplitr; swap; iexact H16
  all_goals ipureintro
  all_goals repeat (first | unfold runFirstMid.sl.H11_1 | unfold runFirstMid.sl.H12_1 | unfold runFirstMid.sl.H13_1 | unfold runFirstMid.sl.cst_40 | unfold runFirstMid.sl.r | unfold runFirstMid.sl.r_1 | unfold runFirstMid.sl.r_2 | unfold runFirstMid.sl.r_3 | unfold runFirstMid.sl.r_4 | unfold runFirstMid.sl.r_5 | unfold runFirstMid.sl.r_6 | unfold runFirstMid.sl.v14 | unfold runFirstMid.sl.v16 | unfold runFirstMid.sl.v73)
  all_goals simp only [↓read_writes_all, ↓readAt_all, ↓readAt_win, ↓read_writes_put, step, emit, prod, prep, rows, half, half0, half1, gateOf, upOf, duOf, dgOf, awgOf, awuOf, awdOf, dxnOf, rows_put12, rows_put23, cov12, cov23, cov_704x1024, if_pos hc1, if_neg hc2, if_neg hc3, if_neg hc4, if_neg hc5, dif_neg hc5, View.writes_nil, Memref.IsWhole.read_unread, window_256x1024, put_256x1024, window_1x1024, put_1x1024, window_2x352x1024, put_2x352x1024, window_704x1024, put_704x1024]
  all_goals try rfl

end Cert.KernelIdeal.Hand

end
-- ==== Proof.RunFirstLast.lean ====
/- One run of the kernel's body. -/
module

public import proofs.«01_k».proof.Proof.Held

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.VecWindow

variable {F : FTy → Type} [FloatOps F]

local notation "𝕄" => MT nD τ sig Unit (Elt F) ℕ (UR sig nD τ) ℕ

set_option maxHeartbeats 8000000 in
/-- First block of hidden units, last token block. -/
theorem runFirstLast (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S2x1024x352 .bf16) (harg5 : arg5.IsWhole) (arg6 : Memref sig .tc .vmem S2x1024x352 .bf16) (harg6 : arg6.IsWhole) (arg7 : Memref sig .tc .vmem S2x352x1024 .bf16) (harg7 : arg7.IsWhole) (arg8 : Memref sig .tc .vmem S256x1024 .f32) (harg8 : arg8.IsWhole) (arg9 : Memref sig .tc .vmem S2x352x1024 .bf16) (harg9 : arg9.IsWhole) (arg10 : Memref sig .tc .vmem S2x352x1024 .bf16) (harg10 : arg10.IsWhole) (arg11 : Memref sig .tc .vmem S2x352x1024 .bf16) (harg11 : arg11.IsWhole) (arg12 : Memref sig .tc .vmem S1x1024 .f32) (harg12 : arg12.IsWhole) (arg13 : Memref sig .tc .vmem S2048x1024 .bf16) (harg13 : arg13.IsWhole) (arg14 : Memref sig .tc .vmem S2048x1024 .bf16) (harg14 : arg14.IsWhole) (arg15 : Memref sig .tc .vmem S2048x1024 .f32) (harg15 : arg15.IsWhole) (arg16 : Memref sig .tc .vmem S704x1024 .f32) (harg16 : arg16.IsWhole) (arg17 : Memref sig .tc .vmem S704x1024 .f32) (harg17 : arg17.IsWhole) (arg18 : Memref sig .tc .vmem S704x1024 .f32) (harg18 : arg18.IsWhole)
    (I : Ins F) (s : St F) (hc1 : c1 i) (hc2 : ¬ c2 i) (hc3 : ¬ c3 i) (hc4 : c4 i) (hc5 : ¬ c5 i) (E : Set ℕ) (K : PUnit → sProp 𝕄) :
    iprop(holds c arg2 arg3 arg4 arg5 arg6 arg7 arg8 arg9 arg10 arg11 arg12 arg13 arg14 arg15 arg16 arg17 arg18 I s ∗ (holds c arg2 arg3 arg4 arg5 arg6 arg7 arg8 arg9 arg10 arg11 arg12 arg13 arg14 arg15 arg16 arg17 arg18 I (step i I s) -∗ K ⟨⟩))
      ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_ffn_bwd_eq_skeleton]; unfold cc0_ffn_bwd_skel
  unfold holds owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
  sl_exec (disch := first | sl_exact hc1 | sl_exact hc2 | sl_exact hc3 | sl_exact hc4 | sl_exact hc5)
  sl_step
  iapply Hk
  clear hf0 hf1 hf2 hf3 hf4 hf5 hf6 hf7 hf8 hf9 hf10 hf11 hf12 hf13 hf14 hf15 hf16
  isplitl [H0]; iexists _; isplitr; swap; iexact H0; rotate_left
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [H9]; iexists _; isplitr; swap; iexact H9; rotate_left
  isplitl [H10]; iexists _; isplitr; swap; iexact H10; rotate_left
  isplitl [H11]; iexists _; isplitr; swap; iexact H11; rotate_left
  isplitl [H12]; iexists _; isplitr; swap; iexact H12; rotate_left
  isplitl [H13]; iexists _; isplitr; swap; iexact H13; rotate_left
  isplitl [H14]; iexists _; isplitr; swap; iexact H14; rotate_left
  isplitl [H15]; iexists _; isplitr; swap; iexact H15; rotate_left
  iexists _; isplitr; swap; iexact H16
  all_goals ipureintro
  all_goals repeat (first | unfold runFirstLast.sl.H11_1 | unfold runFirstLast.sl.H12_1 | unfold runFirstLast.sl.H13_1 | unfold runFirstLast.sl.H14_1 | unfold runFirstLast.sl.H15_1 | unfold runFirstLast.sl.H16_1 | unfold runFirstLast.sl.cst_40 | unfold runFirstLast.sl.r | unfold runFirstLast.sl.r_1 | unfold runFirstLast.sl.r_2 | unfold runFirstLast.sl.r_3 | unfold runFirstLast.sl.r_4 | unfold runFirstLast.sl.r_5 | unfold runFirstLast.sl.r_6 | unfold runFirstLast.sl.v14 | unfold runFirstLast.sl.v16 | unfold runFirstLast.sl.v73 | unfold runFirstLast.sl.v88 | unfold runFirstLast.sl.v92 | unfold runFirstLast.sl.v96)
  all_goals simp only [↓read_writes_all, ↓readAt_all, ↓readAt_win, ↓read_writes_put, step, emit, prod, prep, rows, half, half0, half1, gateOf, upOf, duOf, dgOf, awgOf, awuOf, awdOf, dxnOf, rows_put12, rows_put23, cov12, cov23, cov_704x1024, if_pos hc1, if_neg hc2, if_neg hc3, if_pos hc4, if_neg hc5, dif_neg hc5, View.writes_nil, Memref.IsWhole.read_unread, window_256x1024, put_256x1024, window_1x1024, put_1x1024, window_2x352x1024, put_2x352x1024, window_704x1024, put_704x1024]
  all_goals try rfl

end Cert.KernelIdeal.Hand

end
-- ==== Proof.RunMidFirst.lean ====
/- One run of the kernel's body. -/
module

public import proofs.«01_k».proof.Proof.Held

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.VecWindow

variable {F : FTy → Type} [FloatOps F]

local notation "𝕄" => MT nD τ sig Unit (Elt F) ℕ (UR sig nD τ) ℕ

set_option maxHeartbeats 8000000 in
/-- A middle block of hidden units, first token block. -/
theorem runMidFirst (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S2x1024x352 .bf16) (harg5 : arg5.IsWhole) (arg6 : Memref sig .tc .vmem S2x1024x352 .bf16) (harg6 : arg6.IsWhole) (arg7 : Memref sig .tc .vmem S2x352x1024 .bf16) (harg7 : arg7.IsWhole) (arg8 : Memref sig .tc .vmem S256x1024 .f32) (harg8 : arg8.IsWhole) (arg9 : Memref sig .tc .vmem S2x352x1024 .bf16) (harg9 : arg9.IsWhole) (arg10 : Memref sig .tc .vmem S2x352x1024 .bf16) (harg10 : arg10.IsWhole) (arg11 : Memref sig .tc .vmem S2x352x1024 .bf16) (harg11 : arg11.IsWhole) (arg12 : Memref sig .tc .vmem S1x1024 .f32) (harg12 : arg12.IsWhole) (arg13 : Memref sig .tc .vmem S2048x1024 .bf16) (harg13 : arg13.IsWhole) (arg14 : Memref sig .tc .vmem S2048x1024 .bf16) (harg14 : arg14.IsWhole) (arg15 : Memref sig .tc .vmem S2048x1024 .f32) (harg15 : arg15.IsWhole) (arg16 : Memref sig .tc .vmem S704x1024 .f32) (harg16 : arg16.IsWhole) (arg17 : Memref sig .tc .vmem S704x1024 .f32) (harg17 : arg17.IsWhole) (arg18 : Memref sig .tc .vmem S704x1024 .f32) (harg18 : arg18.IsWhole)
    (I : Ins F) (s : St F) (hc1 : ¬ c1 i) (hc2 : ¬ c2 i) (hc3 : c3 i) (hc4 : ¬ c4 i) (hc5 : ¬ c5 i) (E : Set ℕ) (K : PUnit → sProp 𝕄) :
    iprop(holds c arg2 arg3 arg4 arg5 arg6 arg7 arg8 arg9 arg10 arg11 arg12 arg13 arg14 arg15 arg16 arg17 arg18 I s ∗ (holds c arg2 arg3 arg4 arg5 arg6 arg7 arg8 arg9 arg10 arg11 arg12 arg13 arg14 arg15 arg16 arg17 arg18 I (step i I s) -∗ K ⟨⟩))
      ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_ffn_bwd_eq_skeleton]; unfold cc0_ffn_bwd_skel
  unfold holds owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
  sl_exec (disch := first | sl_exact hc1 | sl_exact hc2 | sl_exact hc3 | sl_exact hc4 | sl_exact hc5)
  sl_step
  iapply Hk
  clear hf0 hf1 hf2 hf3 hf4 hf5 hf6 hf7 hf8 hf9 hf10 hf11 hf12 hf13 hf14 hf15 hf16
  isplitl [H0]; iexists _; isplitr; swap; iexact H0; rotate_left
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [H9]; iexists _; isplitr; swap; iexact H9; rotate_left
  isplitl [H10]; iexists _; isplitr; swap; iexact H10; rotate_left
  isplitl [H11]; iexists _; isplitr; swap; iexact H11; rotate_left
  isplitl [H12]; iexists _; isplitr; swap; iexact H12; rotate_left
  isplitl [H13]; iexists _; isplitr; swap; iexact H13; rotate_left
  isplitl [H14]; iexists _; isplitr; swap; iexact H14; rotate_left
  isplitl [H15]; iexists _; isplitr; swap; iexact H15; rotate_left
  iexists _; isplitr; swap; iexact H16
  all_goals ipureintro
  all_goals repeat (first | unfold runMidFirst.sl.H14_1 | unfold runMidFirst.sl.H15_1 | unfold runMidFirst.sl.H16_1 | unfold runMidFirst.sl.cst_40 | unfold runMidFirst.sl.r | unfold runMidFirst.sl.r_1 | unfold runMidFirst.sl.r_2 | unfold runMidFirst.sl.r_3 | unfold runMidFirst.sl.r_4 | unfold runMidFirst.sl.r_5 | unfold runMidFirst.sl.r_6 | unfold runMidFirst.sl.r_7 | unfold runMidFirst.sl.v54 | unfold runMidFirst.sl.v60 | unfold runMidFirst.sl.v66)
  all_goals simp only [↓read_writes_all, ↓readAt_all, ↓readAt_win, ↓read_writes_put, step, emit, prod, prep, rows, half, half0, half1, gateOf, upOf, duOf, dgOf, awgOf, awuOf, awdOf, dxnOf, rows_put12, rows_put23, cov12, cov23, cov_704x1024, if_neg hc1, if_neg hc2, if_pos hc3, if_neg hc4, if_neg hc5, dif_neg hc5, View.writes_nil, Memref.IsWhole.read_unread, window_256x1024, put_256x1024, window_1x1024, put_1x1024, window_2x352x1024, put_2x352x1024, window_704x1024, put_704x1024]
  all_goals try rfl

end Cert.KernelIdeal.Hand

end
-- ==== Proof.RunMidMid.lean ====
/- One run of the kernel's body. -/
module

public import proofs.«01_k».proof.Proof.Held

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.VecWindow

variable {F : FTy → Type} [FloatOps F]

local notation "𝕄" => MT nD τ sig Unit (Elt F) ℕ (UR sig nD τ) ℕ

set_option maxHeartbeats 8000000 in
/-- A middle block of hidden units, a middle token block. -/
theorem runMidMid (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S2x1024x352 .bf16) (harg5 : arg5.IsWhole) (arg6 : Memref sig .tc .vmem S2x1024x352 .bf16) (harg6 : arg6.IsWhole) (arg7 : Memref sig .tc .vmem S2x352x1024 .bf16) (harg7 : arg7.IsWhole) (arg8 : Memref sig .tc .vmem S256x1024 .f32) (harg8 : arg8.IsWhole) (arg9 : Memref sig .tc .vmem S2x352x1024 .bf16) (harg9 : arg9.IsWhole) (arg10 : Memref sig .tc .vmem S2x352x1024 .bf16) (harg10 : arg10.IsWhole) (arg11 : Memref sig .tc .vmem S2x352x1024 .bf16) (harg11 : arg11.IsWhole) (arg12 : Memref sig .tc .vmem S1x1024 .f32) (harg12 : arg12.IsWhole) (arg13 : Memref sig .tc .vmem S2048x1024 .bf16) (harg13 : arg13.IsWhole) (arg14 : Memref sig .tc .vmem S2048x1024 .bf16) (harg14 : arg14.IsWhole) (arg15 : Memref sig .tc .vmem S2048x1024 .f32) (harg15 : arg15.IsWhole) (arg16 : Memref sig .tc .vmem S704x1024 .f32) (harg16 : arg16.IsWhole) (arg17 : Memref sig .tc .vmem S704x1024 .f32) (harg17 : arg17.IsWhole) (arg18 : Memref sig .tc .vmem S704x1024 .f32) (harg18 : arg18.IsWhole)
    (I : Ins F) (s : St F) (hc1 : ¬ c1 i) (hc2 : ¬ c2 i) (hc3 : ¬ c3 i) (hc4 : ¬ c4 i) (hc5 : ¬ c5 i) (E : Set ℕ) (K : PUnit → sProp 𝕄) :
    iprop(holds c arg2 arg3 arg4 arg5 arg6 arg7 arg8 arg9 arg10 arg11 arg12 arg13 arg14 arg15 arg16 arg17 arg18 I s ∗ (holds c arg2 arg3 arg4 arg5 arg6 arg7 arg8 arg9 arg10 arg11 arg12 arg13 arg14 arg15 arg16 arg17 arg18 I (step i I s) -∗ K ⟨⟩))
      ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_ffn_bwd_eq_skeleton]; unfold cc0_ffn_bwd_skel
  unfold holds owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
  sl_exec (disch := first | sl_exact hc1 | sl_exact hc2 | sl_exact hc3 | sl_exact hc4 | sl_exact hc5)
  sl_step
  iapply Hk
  clear hf0 hf1 hf2 hf3 hf4 hf5 hf6 hf7 hf8 hf9 hf10 hf11 hf12 hf13 hf14 hf15 hf16
  isplitl [H0]; iexists _; isplitr; swap; iexact H0; rotate_left
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [H9]; iexists _; isplitr; swap; iexact H9; rotate_left
  isplitl [H10]; iexists _; isplitr; swap; iexact H10; rotate_left
  isplitl [H11]; iexists _; isplitr; swap; iexact H11; rotate_left
  isplitl [H12]; iexists _; isplitr; swap; iexact H12; rotate_left
  isplitl [H13]; iexists _; isplitr; swap; iexact H13; rotate_left
  isplitl [H14]; iexists _; isplitr; swap; iexact H14; rotate_left
  isplitl [H15]; iexists _; isplitr; swap; iexact H15; rotate_left
  iexists _; isplitr; swap; iexact H16
  all_goals ipureintro
  all_goals repeat (first | unfold runMidMid.sl.cst_40 | unfold runMidMid.sl.r | unfold runMidMid.sl.r_1 | unfold runMidMid.sl.r_2 | unfold runMidMid.sl.r_3 | unfold runMidMid.sl.r_4 | unfold runMidMid.sl.r_5 | unfold runMidMid.sl.r_6 | unfold runMidMid.sl.r_7 | unfold runMidMid.sl.r_8)
  all_goals simp only [↓read_writes_all, ↓readAt_all, ↓readAt_win, ↓read_writes_put, step, emit, prod, prep, rows, half, half0, half1, gateOf, upOf, duOf, dgOf, awgOf, awuOf, awdOf, dxnOf, rows_put12, rows_put23, cov12, cov23, cov_704x1024, if_neg hc1, if_neg hc2, if_neg hc3, if_neg hc4, if_neg hc5, dif_neg hc5, View.writes_nil, Memref.IsWhole.read_unread, window_256x1024, put_256x1024, window_1x1024, put_1x1024, window_2x352x1024, put_2x352x1024, window_704x1024, put_704x1024]
  all_goals try rfl

end Cert.KernelIdeal.Hand

end
-- ==== Proof.RunMidLast.lean ====
/- One run of the kernel's body. -/
module

public import proofs.«01_k».proof.Proof.Held

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.VecWindow

variable {F : FTy → Type} [FloatOps F]

local notation "𝕄" => MT nD τ sig Unit (Elt F) ℕ (UR sig nD τ) ℕ

set_option maxHeartbeats 8000000 in
/-- A middle block of hidden units, last token block. -/
theorem runMidLast (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S2x1024x352 .bf16) (harg5 : arg5.IsWhole) (arg6 : Memref sig .tc .vmem S2x1024x352 .bf16) (harg6 : arg6.IsWhole) (arg7 : Memref sig .tc .vmem S2x352x1024 .bf16) (harg7 : arg7.IsWhole) (arg8 : Memref sig .tc .vmem S256x1024 .f32) (harg8 : arg8.IsWhole) (arg9 : Memref sig .tc .vmem S2x352x1024 .bf16) (harg9 : arg9.IsWhole) (arg10 : Memref sig .tc .vmem S2x352x1024 .bf16) (harg10 : arg10.IsWhole) (arg11 : Memref sig .tc .vmem S2x352x1024 .bf16) (harg11 : arg11.IsWhole) (arg12 : Memref sig .tc .vmem S1x1024 .f32) (harg12 : arg12.IsWhole) (arg13 : Memref sig .tc .vmem S2048x1024 .bf16) (harg13 : arg13.IsWhole) (arg14 : Memref sig .tc .vmem S2048x1024 .bf16) (harg14 : arg14.IsWhole) (arg15 : Memref sig .tc .vmem S2048x1024 .f32) (harg15 : arg15.IsWhole) (arg16 : Memref sig .tc .vmem S704x1024 .f32) (harg16 : arg16.IsWhole) (arg17 : Memref sig .tc .vmem S704x1024 .f32) (harg17 : arg17.IsWhole) (arg18 : Memref sig .tc .vmem S704x1024 .f32) (harg18 : arg18.IsWhole)
    (I : Ins F) (s : St F) (hc1 : ¬ c1 i) (hc2 : ¬ c2 i) (hc3 : ¬ c3 i) (hc4 : c4 i) (hc5 : ¬ c5 i) (E : Set ℕ) (K : PUnit → sProp 𝕄) :
    iprop(holds c arg2 arg3 arg4 arg5 arg6 arg7 arg8 arg9 arg10 arg11 arg12 arg13 arg14 arg15 arg16 arg17 arg18 I s ∗ (holds c arg2 arg3 arg4 arg5 arg6 arg7 arg8 arg9 arg10 arg11 arg12 arg13 arg14 arg15 arg16 arg17 arg18 I (step i I s) -∗ K ⟨⟩))
      ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_ffn_bwd_eq_skeleton]; unfold cc0_ffn_bwd_skel
  unfold holds owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
  sl_exec (disch := first | sl_exact hc1 | sl_exact hc2 | sl_exact hc3 | sl_exact hc4 | sl_exact hc5)
  sl_step
  iapply Hk
  clear hf0 hf1 hf2 hf3 hf4 hf5 hf6 hf7 hf8 hf9 hf10 hf11 hf12 hf13 hf14 hf15 hf16
  isplitl [H0]; iexists _; isplitr; swap; iexact H0; rotate_left
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [H9]; iexists _; isplitr; swap; iexact H9; rotate_left
  isplitl [H10]; iexists _; isplitr; swap; iexact H10; rotate_left
  isplitl [H11]; iexists _; isplitr; swap; iexact H11; rotate_left
  isplitl [H12]; iexists _; isplitr; swap; iexact H12; rotate_left
  isplitl [H13]; iexists _; isplitr; swap; iexact H13; rotate_left
  isplitl [H14]; iexists _; isplitr; swap; iexact H14; rotate_left
  isplitl [H15]; iexists _; isplitr; swap; iexact H15; rotate_left
  iexists _; isplitr; swap; iexact H16
  all_goals ipureintro
  all_goals repeat (first | unfold runMidLast.sl.H14_1 | unfold runMidLast.sl.H15_1 | unfold runMidLast.sl.H16_1 | unfold runMidLast.sl.cst_40 | unfold runMidLast.sl.r | unfold runMidLast.sl.r_1 | unfold runMidLast.sl.r_2 | unfold runMidLast.sl.r_3 | unfold runMidLast.sl.r_4 | unfold runMidLast.sl.r_5 | unfold runMidLast.sl.r_6 | unfold runMidLast.sl.r_7 | unfold runMidLast.sl.r_8 | unfold runMidLast.sl.v88 | unfold runMidLast.sl.v92 | unfold runMidLast.sl.v96)
  all_goals simp only [↓read_writes_all, ↓readAt_all, ↓readAt_win, ↓read_writes_put, step, emit, prod, prep, rows, half, half0, half1, gateOf, upOf, duOf, dgOf, awgOf, awuOf, awdOf, dxnOf, rows_put12, rows_put23, cov12, cov23, cov_704x1024, if_neg hc1, if_neg hc2, if_neg hc3, if_pos hc4, if_neg hc5, dif_neg hc5, View.writes_nil, Memref.IsWhole.read_unread, window_256x1024, put_256x1024, window_1x1024, put_1x1024, window_2x352x1024, put_2x352x1024, window_704x1024, put_704x1024]
  all_goals try rfl

end Cert.KernelIdeal.Hand

end
-- ==== Proof.RunLastFirst.lean ====
/- One run of the kernel's body. -/
module

public import proofs.«01_k».proof.Proof.Held

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.VecWindow

variable {F : FTy → Type} [FloatOps F]

local notation "𝕄" => MT nD τ sig Unit (Elt F) ℕ (UR sig nD τ) ℕ

set_option maxHeartbeats 8000000 in
/-- Last block of hidden units, first token block. -/
theorem runLastFirst (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S2x1024x352 .bf16) (harg5 : arg5.IsWhole) (arg6 : Memref sig .tc .vmem S2x1024x352 .bf16) (harg6 : arg6.IsWhole) (arg7 : Memref sig .tc .vmem S2x352x1024 .bf16) (harg7 : arg7.IsWhole) (arg8 : Memref sig .tc .vmem S256x1024 .f32) (harg8 : arg8.IsWhole) (arg9 : Memref sig .tc .vmem S2x352x1024 .bf16) (harg9 : arg9.IsWhole) (arg10 : Memref sig .tc .vmem S2x352x1024 .bf16) (harg10 : arg10.IsWhole) (arg11 : Memref sig .tc .vmem S2x352x1024 .bf16) (harg11 : arg11.IsWhole) (arg12 : Memref sig .tc .vmem S1x1024 .f32) (harg12 : arg12.IsWhole) (arg13 : Memref sig .tc .vmem S2048x1024 .bf16) (harg13 : arg13.IsWhole) (arg14 : Memref sig .tc .vmem S2048x1024 .bf16) (harg14 : arg14.IsWhole) (arg15 : Memref sig .tc .vmem S2048x1024 .f32) (harg15 : arg15.IsWhole) (arg16 : Memref sig .tc .vmem S704x1024 .f32) (harg16 : arg16.IsWhole) (arg17 : Memref sig .tc .vmem S704x1024 .f32) (harg17 : arg17.IsWhole) (arg18 : Memref sig .tc .vmem S704x1024 .f32) (harg18 : arg18.IsWhole)
    (I : Ins F) (s : St F) (hc1 : ¬ c1 i) (hc2 : ¬ c2 i) (hc3 : c3 i) (hc4 : ¬ c4 i) (hc5 : c5 i) (E : Set ℕ) (K : PUnit → sProp 𝕄) :
    iprop(holds c arg2 arg3 arg4 arg5 arg6 arg7 arg8 arg9 arg10 arg11 arg12 arg13 arg14 arg15 arg16 arg17 arg18 I s ∗ (holds c arg2 arg3 arg4 arg5 arg6 arg7 arg8 arg9 arg10 arg11 arg12 arg13 arg14 arg15 arg16 arg17 arg18 I (step i I s) -∗ K ⟨⟩))
      ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_ffn_bwd_eq_skeleton]; unfold cc0_ffn_bwd_skel
  unfold holds owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
  sl_exec (disch := first | sl_exact hc1 | sl_exact hc2 | sl_exact hc3 | sl_exact hc4 | sl_exact hc5)
  sl_step
  iapply Hk
  clear hf0 hf1 hf2 hf3 hf4 hf5 hf6 hf7 hf8 hf9 hf10 hf11 hf12 hf13 hf14 hf15 hf16
  isplitl [H0]; iexists _; isplitr; swap; iexact H0; rotate_left
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [H9]; iexists _; isplitr; swap; iexact H9; rotate_left
  isplitl [H10]; iexists _; isplitr; swap; iexact H10; rotate_left
  isplitl [H11]; iexists _; isplitr; swap; iexact H11; rotate_left
  isplitl [H12]; iexists _; isplitr; swap; iexact H12; rotate_left
  isplitl [H13]; iexists _; isplitr; swap; iexact H13; rotate_left
  isplitl [H14]; iexists _; isplitr; swap; iexact H14; rotate_left
  isplitl [H15]; iexists _; isplitr; swap; iexact H15; rotate_left
  iexists _; isplitr; swap; iexact H16
  all_goals ipureintro
  all_goals repeat (first | unfold runLastFirst.sl.H13_1 | unfold runLastFirst.sl.H14_1 | unfold runLastFirst.sl.H15_1 | unfold runLastFirst.sl.H16_1 | unfold runLastFirst.sl.cst_40 | unfold runLastFirst.sl.r | unfold runLastFirst.sl.r_1 | unfold runLastFirst.sl.r_2 | unfold runLastFirst.sl.r_3 | unfold runLastFirst.sl.r_4 | unfold runLastFirst.sl.r_5 | unfold runLastFirst.sl.r_6 | unfold runLastFirst.sl.r_7 | unfold runLastFirst.sl.v54 | unfold runLastFirst.sl.v60 | unfold runLastFirst.sl.v66 | unfold runLastFirst.sl.v92)
  all_goals simp only [↓read_writes_all, ↓readAt_all, ↓readAt_win, ↓read_writes_put, step, emit, prod, prep, rows, half, half0, half1, gateOf, upOf, duOf, dgOf, awgOf, awuOf, awdOf, dxnOf, rows_put12, rows_put23, cov12, cov23, cov_704x1024, if_neg hc1, if_neg hc2, if_pos hc3, if_neg hc4, if_pos hc5, dif_pos hc5, View.writes_nil, Memref.IsWhole.read_unread, window_256x1024, put_256x1024, window_1x1024, put_1x1024, window_2x352x1024, put_2x352x1024, window_704x1024, put_704x1024]
  all_goals try rfl

end Cert.KernelIdeal.Hand

end
-- ==== Proof.RunLastMid.lean ====
/- One run of the kernel's body. -/
module

public import proofs.«01_k».proof.Proof.Held

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.VecWindow

variable {F : FTy → Type} [FloatOps F]

local notation "𝕄" => MT nD τ sig Unit (Elt F) ℕ (UR sig nD τ) ℕ

set_option maxHeartbeats 8000000 in
/-- Last block of hidden units, a middle token block. -/
theorem runLastMid (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S2x1024x352 .bf16) (harg5 : arg5.IsWhole) (arg6 : Memref sig .tc .vmem S2x1024x352 .bf16) (harg6 : arg6.IsWhole) (arg7 : Memref sig .tc .vmem S2x352x1024 .bf16) (harg7 : arg7.IsWhole) (arg8 : Memref sig .tc .vmem S256x1024 .f32) (harg8 : arg8.IsWhole) (arg9 : Memref sig .tc .vmem S2x352x1024 .bf16) (harg9 : arg9.IsWhole) (arg10 : Memref sig .tc .vmem S2x352x1024 .bf16) (harg10 : arg10.IsWhole) (arg11 : Memref sig .tc .vmem S2x352x1024 .bf16) (harg11 : arg11.IsWhole) (arg12 : Memref sig .tc .vmem S1x1024 .f32) (harg12 : arg12.IsWhole) (arg13 : Memref sig .tc .vmem S2048x1024 .bf16) (harg13 : arg13.IsWhole) (arg14 : Memref sig .tc .vmem S2048x1024 .bf16) (harg14 : arg14.IsWhole) (arg15 : Memref sig .tc .vmem S2048x1024 .f32) (harg15 : arg15.IsWhole) (arg16 : Memref sig .tc .vmem S704x1024 .f32) (harg16 : arg16.IsWhole) (arg17 : Memref sig .tc .vmem S704x1024 .f32) (harg17 : arg17.IsWhole) (arg18 : Memref sig .tc .vmem S704x1024 .f32) (harg18 : arg18.IsWhole)
    (I : Ins F) (s : St F) (hc1 : ¬ c1 i) (hc2 : ¬ c2 i) (hc3 : ¬ c3 i) (hc4 : ¬ c4 i) (hc5 : c5 i) (E : Set ℕ) (K : PUnit → sProp 𝕄) :
    iprop(holds c arg2 arg3 arg4 arg5 arg6 arg7 arg8 arg9 arg10 arg11 arg12 arg13 arg14 arg15 arg16 arg17 arg18 I s ∗ (holds c arg2 arg3 arg4 arg5 arg6 arg7 arg8 arg9 arg10 arg11 arg12 arg13 arg14 arg15 arg16 arg17 arg18 I (step i I s) -∗ K ⟨⟩))
      ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_ffn_bwd_eq_skeleton]; unfold cc0_ffn_bwd_skel
  unfold holds owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
  sl_exec (disch := first | sl_exact hc1 | sl_exact hc2 | sl_exact hc3 | sl_exact hc4 | sl_exact hc5)
  sl_step
  iapply Hk
  clear hf0 hf1 hf2 hf3 hf4 hf5 hf6 hf7 hf8 hf9 hf10 hf11 hf12 hf13 hf14 hf15 hf16
  isplitl [H0]; iexists _; isplitr; swap; iexact H0; rotate_left
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [H9]; iexists _; isplitr; swap; iexact H9; rotate_left
  isplitl [H10]; iexists _; isplitr; swap; iexact H10; rotate_left
  isplitl [H11]; iexists _; isplitr; swap; iexact H11; rotate_left
  isplitl [H12]; iexists _; isplitr; swap; iexact H12; rotate_left
  isplitl [H13]; iexists _; isplitr; swap; iexact H13; rotate_left
  isplitl [H14]; iexists _; isplitr; swap; iexact H14; rotate_left
  isplitl [H15]; iexists _; isplitr; swap; iexact H15; rotate_left
  iexists _; isplitr; swap; iexact H16
  all_goals ipureintro
  all_goals repeat (first | unfold runLastMid.sl.H13_1 | unfold runLastMid.sl.cst_40 | unfold runLastMid.sl.r | unfold runLastMid.sl.r_1 | unfold runLastMid.sl.r_2 | unfold runLastMid.sl.r_3 | unfold runLastMid.sl.r_4 | unfold runLastMid.sl.r_5 | unfold runLastMid.sl.r_6 | unfold runLastMid.sl.r_7 | unfold runLastMid.sl.r_8 | unfold runLastMid.sl.v92)
  all_goals simp only [↓read_writes_all, ↓readAt_all, ↓readAt_win, ↓read_writes_put, step, emit, prod, prep, rows, half, half0, half1, gateOf, upOf, duOf, dgOf, awgOf, awuOf, awdOf, dxnOf, rows_put12, rows_put23, cov12, cov23, cov_704x1024, if_neg hc1, if_neg hc2, if_neg hc3, if_neg hc4, if_pos hc5, dif_pos hc5, View.writes_nil, Memref.IsWhole.read_unread, window_256x1024, put_256x1024, window_1x1024, put_1x1024, window_2x352x1024, put_2x352x1024, window_704x1024, put_704x1024]
  all_goals try rfl

end Cert.KernelIdeal.Hand

end
-- ==== Proof.RunLastLast.lean ====
/- One run of the kernel's body. -/
module

public import proofs.«01_k».proof.Proof.Held

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.VecWindow

variable {F : FTy → Type} [FloatOps F]

local notation "𝕄" => MT nD τ sig Unit (Elt F) ℕ (UR sig nD τ) ℕ

set_option maxHeartbeats 8000000 in
/-- The very last grid point. -/
theorem runLastLast (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S2x1024x352 .bf16) (harg5 : arg5.IsWhole) (arg6 : Memref sig .tc .vmem S2x1024x352 .bf16) (harg6 : arg6.IsWhole) (arg7 : Memref sig .tc .vmem S2x352x1024 .bf16) (harg7 : arg7.IsWhole) (arg8 : Memref sig .tc .vmem S256x1024 .f32) (harg8 : arg8.IsWhole) (arg9 : Memref sig .tc .vmem S2x352x1024 .bf16) (harg9 : arg9.IsWhole) (arg10 : Memref sig .tc .vmem S2x352x1024 .bf16) (harg10 : arg10.IsWhole) (arg11 : Memref sig .tc .vmem S2x352x1024 .bf16) (harg11 : arg11.IsWhole) (arg12 : Memref sig .tc .vmem S1x1024 .f32) (harg12 : arg12.IsWhole) (arg13 : Memref sig .tc .vmem S2048x1024 .bf16) (harg13 : arg13.IsWhole) (arg14 : Memref sig .tc .vmem S2048x1024 .bf16) (harg14 : arg14.IsWhole) (arg15 : Memref sig .tc .vmem S2048x1024 .f32) (harg15 : arg15.IsWhole) (arg16 : Memref sig .tc .vmem S704x1024 .f32) (harg16 : arg16.IsWhole) (arg17 : Memref sig .tc .vmem S704x1024 .f32) (harg17 : arg17.IsWhole) (arg18 : Memref sig .tc .vmem S704x1024 .f32) (harg18 : arg18.IsWhole)
    (I : Ins F) (s : St F) (hc1 : ¬ c1 i) (hc2 : ¬ c2 i) (hc3 : ¬ c3 i) (hc4 : c4 i) (hc5 : c5 i) (E : Set ℕ) (K : PUnit → sProp 𝕄) :
    iprop(holds c arg2 arg3 arg4 arg5 arg6 arg7 arg8 arg9 arg10 arg11 arg12 arg13 arg14 arg15 arg16 arg17 arg18 I s ∗ (holds c arg2 arg3 arg4 arg5 arg6 arg7 arg8 arg9 arg10 arg11 arg12 arg13 arg14 arg15 arg16 arg17 arg18 I (step i I s) -∗ K ⟨⟩))
      ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_ffn_bwd_eq_skeleton]; unfold cc0_ffn_bwd_skel
  unfold holds owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
  sl_exec (disch := first | sl_exact hc1 | sl_exact hc2 | sl_exact hc3 | sl_exact hc4 | sl_exact hc5)
  sl_step
  iapply Hk
  clear hf0 hf1 hf2 hf3 hf4 hf5 hf6 hf7 hf8 hf9 hf10 hf11 hf12 hf13 hf14 hf15 hf16
  isplitl [H0]; iexists _; isplitr; swap; iexact H0; rotate_left
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [H9]; iexists _; isplitr; swap; iexact H9; rotate_left
  isplitl [H10]; iexists _; isplitr; swap; iexact H10; rotate_left
  isplitl [H11]; iexists _; isplitr; swap; iexact H11; rotate_left
  isplitl [H12]; iexists _; isplitr; swap; iexact H12; rotate_left
  isplitl [H13]; iexists _; isplitr; swap; iexact H13; rotate_left
  isplitl [H14]; iexists _; isplitr; swap; iexact H14; rotate_left
  isplitl [H15]; iexists _; isplitr; swap; iexact H15; rotate_left
  iexists _; isplitr; swap; iexact H16
  all_goals ipureintro
  all_goals repeat (first | unfold runLastLast.sl.H13_1 | unfold runLastLast.sl.H14_1 | unfold runLastLast.sl.H15_1 | unfold runLastLast.sl.H16_1 | unfold runLastLast.sl.cst_40 | unfold runLastLast.sl.r | unfold runLastLast.sl.r_1 | unfold runLastLast.sl.r_2 | unfold runLastLast.sl.r_3 | unfold runLastLast.sl.r_4 | unfold runLastLast.sl.r_5 | unfold runLastLast.sl.r_6 | unfold runLastLast.sl.r_7 | unfold runLastLast.sl.r_8 | unfold runLastLast.sl.v88 | unfold runLastLast.sl.v92 | unfold runLastLast.sl.v92_1 | unfold runLastLast.sl.v96)
  all_goals simp only [↓read_writes_all, ↓readAt_all, ↓readAt_win, ↓read_writes_put, step, emit, prod, prep, rows, half, half0, half1, gateOf, upOf, duOf, dgOf, awgOf, awuOf, awdOf, dxnOf, rows_put12, rows_put23, cov12, cov23, cov_704x1024, if_neg hc1, if_neg hc2, if_neg hc3, if_pos hc4, if_pos hc5, dif_pos hc5, View.writes_nil, Memref.IsWhole.read_unread, window_256x1024, put_256x1024, window_1x1024, put_1x1024, window_2x352x1024, put_2x352x1024, window_704x1024, put_704x1024]
  all_goals try rfl

end Cert.KernelIdeal.Hand

end
-- ==== Proof.Body.lean ====
/- The kernel's body at any grid point. -/
module

public import proofs.«01_k».proof.Proof.Sched
public import proofs.«01_k».proof.Proof.RunFirstFirst
public import proofs.«01_k».proof.Proof.RunFirstMid
public import proofs.«01_k».proof.Proof.RunFirstLast
public import proofs.«01_k».proof.Proof.RunMidFirst
public import proofs.«01_k».proof.Proof.RunMidMid
public import proofs.«01_k».proof.Proof.RunMidLast
public import proofs.«01_k».proof.Proof.RunLastFirst
public import proofs.«01_k».proof.Proof.RunLastMid
public import proofs.«01_k».proof.Proof.RunLastLast

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.VecWindow

variable {F : FTy → Type} [FloatOps F]

local notation "𝕄" => MT nD τ sig Unit (Elt F) ℕ (UR sig nD τ) ℕ

/-- The body takes what it finds to `step` of it, at any point. -/
theorem body_step (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S2x1024x352 .bf16) (harg5 : arg5.IsWhole) (arg6 : Memref sig .tc .vmem S2x1024x352 .bf16) (harg6 : arg6.IsWhole) (arg7 : Memref sig .tc .vmem S2x352x1024 .bf16) (harg7 : arg7.IsWhole) (arg8 : Memref sig .tc .vmem S256x1024 .f32) (harg8 : arg8.IsWhole) (arg9 : Memref sig .tc .vmem S2x352x1024 .bf16) (harg9 : arg9.IsWhole) (arg10 : Memref sig .tc .vmem S2x352x1024 .bf16) (harg10 : arg10.IsWhole) (arg11 : Memref sig .tc .vmem S2x352x1024 .bf16) (harg11 : arg11.IsWhole) (arg12 : Memref sig .tc .vmem S1x1024 .f32) (harg12 : arg12.IsWhole) (arg13 : Memref sig .tc .vmem S2048x1024 .bf16) (harg13 : arg13.IsWhole) (arg14 : Memref sig .tc .vmem S2048x1024 .bf16) (harg14 : arg14.IsWhole) (arg15 : Memref sig .tc .vmem S2048x1024 .f32) (harg15 : arg15.IsWhole) (arg16 : Memref sig .tc .vmem S704x1024 .f32) (harg16 : arg16.IsWhole) (arg17 : Memref sig .tc .vmem S704x1024 .f32) (harg17 : arg17.IsWhole) (arg18 : Memref sig .tc .vmem S704x1024 .f32) (harg18 : arg18.IsWhole) (n : ℕ) (at_n : At i n)
    (I : Ins F) (s : St F) (E : Set ℕ) (K : PUnit → sProp 𝕄) :
    iprop(holds c arg2 arg3 arg4 arg5 arg6 arg7 arg8 arg9 arg10 arg11 arg12 arg13 arg14 arg15 arg16 arg17 arg18 I s ∗ (holds c arg2 arg3 arg4 arg5 arg6 arg7 arg8 arg9 arg10 arg11 arg12 arg13 arg14 arg15 arg16 arg17 arg18 I (step i I s) -∗ K ⟨⟩))
      ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  have hlt := at_n.lt
  by_cases jFirst : n < 8
  · by_cases kFirst : n % 8 = 0
    · exact runFirstFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 I s (at_n.h1.mpr (by omega)) (at_n.h2.mpr (by omega)) (at_n.h3.mpr (by omega)) (mt at_n.h4.mp (by omega)) (mt at_n.h5.mp (by omega)) E K
    by_cases kLast : n % 8 = 7
    · exact runFirstLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 I s (at_n.h1.mpr (by omega)) (mt at_n.h2.mp (by omega)) (mt at_n.h3.mp (by omega)) (at_n.h4.mpr (by omega)) (mt at_n.h5.mp (by omega)) E K
    exact runFirstMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 I s (at_n.h1.mpr (by omega)) (mt at_n.h2.mp (by omega)) (mt at_n.h3.mp (by omega)) (mt at_n.h4.mp (by omega)) (mt at_n.h5.mp (by omega)) E K
  by_cases jLast : 24 ≤ n
  · by_cases kFirst : n % 8 = 0
    · exact runLastFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 I s (mt at_n.h1.mp (by omega)) (mt at_n.h2.mp (by omega)) (at_n.h3.mpr (by omega)) (mt at_n.h4.mp (by omega)) (at_n.h5.mpr (by omega)) E K
    by_cases kLast : n % 8 = 7
    · exact runLastLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 I s (mt at_n.h1.mp (by omega)) (mt at_n.h2.mp (by omega)) (mt at_n.h3.mp (by omega)) (at_n.h4.mpr (by omega)) (at_n.h5.mpr (by omega)) E K
    exact runLastMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 I s (mt at_n.h1.mp (by omega)) (mt at_n.h2.mp (by omega)) (mt at_n.h3.mp (by omega)) (mt at_n.h4.mp (by omega)) (at_n.h5.mpr (by omega)) E K
  by_cases kFirst : n % 8 = 0
  · exact runMidFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 I s (mt at_n.h1.mp (by omega)) (mt at_n.h2.mp (by omega)) (at_n.h3.mpr (by omega)) (mt at_n.h4.mp (by omega)) (mt at_n.h5.mp (by omega)) E K
  by_cases kLast : n % 8 = 7
  · exact runMidLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 I s (mt at_n.h1.mp (by omega)) (mt at_n.h2.mp (by omega)) (mt at_n.h3.mp (by omega)) (at_n.h4.mpr (by omega)) (mt at_n.h5.mp (by omega)) E K
  exact runMidMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 I s (mt at_n.h1.mp (by omega)) (mt at_n.h2.mp (by omega)) (mt at_n.h3.mp (by omega)) (mt at_n.h4.mp (by omega)) (mt at_n.h5.mp (by omega)) E K

end Cert.KernelIdeal.Hand

end
-- ==== Proof.Main.lean ====
/- The whole program of the gradient kernel: what each point leaves, the launch, the frame. -/
module

public import proofs.«01_k».proof.Proof.Body
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.VecWindow

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Point number `n` of the grid (`n` taken modulo its 32 points). -/
def pt (n : ℕ) : Fin cfg0.N := ⟨n % 32, lt_of_lt_of_eq (Nat.mod_lt n (by decide)) N_0.symm⟩

theorem pt_val (t : Fin cfg0.N) : pt t.val = t := Fin.ext (Nat.mod_eq_of_lt (lt_of_lt_of_eq t.isLt N_0))

/-- The input blocks at a point. -/
def insAt (c : Dev nD) (t : Fin cfg0.N) : Ins F where
  x := iblk m c 0 t
  dy := iblk m c 1 t
  nw := iblk m c 2 t
  wg := iblk m c 3 t
  wu := iblk m c 4 t
  wd := iblk m c 5 t

/-- The input blocks at point number `n`. -/
def ins (c : Dev nD) (n : ℕ) : Ins F := insAt m c (pt n)

theorem ins_val (c : Dev nD) (t : Fin cfg0.N) : ins m c t.val = insAt m c t := by unfold ins; rw [pt_val]

/-- Window 0's staging buffer at a point. -/
abbrev ms0 (t : Fin cfg0.N) : Memref sig .tc .vmem S256x1024 .f32 := win0_0.stage (cfg0.slots t 0)
theorem hs0 (t : Fin cfg0.N) : (ms0 t).IsWhole := hstage0_0 ((cfg0.slots t 0).cast nbuf0_0)
/-- Window 1's staging buffer at a point. -/
abbrev ms1 (t : Fin cfg0.N) : Memref sig .tc .vmem S256x1024 .f32 := win0_1.stage (cfg0.slots t 1)
theorem hs1 (t : Fin cfg0.N) : (ms1 t).IsWhole := hstage0_1 ((cfg0.slots t 1).cast nbuf0_1)
/-- Window 2's staging buffer at a point. -/
abbrev ms2 (t : Fin cfg0.N) : Memref sig .tc .vmem S1x1024 .f32 := win0_2.stage (cfg0.slots t 2)
theorem hs2 (t : Fin cfg0.N) : (ms2 t).IsWhole := hstage0_2 ((cfg0.slots t 2).cast nbuf0_2)
/-- Window 3's staging buffer at a point. -/
abbrev ms3 (t : Fin cfg0.N) : Memref sig .tc .vmem S2x1024x352 .bf16 := win0_3.stage (cfg0.slots t 3)
theorem hs3 (t : Fin cfg0.N) : (ms3 t).IsWhole := hstage0_3 ((cfg0.slots t 3).cast nbuf0_3)
/-- Window 4's staging buffer at a point. -/
abbrev ms4 (t : Fin cfg0.N) : Memref sig .tc .vmem S2x1024x352 .bf16 := win0_4.stage (cfg0.slots t 4)
theorem hs4 (t : Fin cfg0.N) : (ms4 t).IsWhole := hstage0_4 ((cfg0.slots t 4).cast nbuf0_4)
/-- Window 5's staging buffer at a point. -/
abbrev ms5 (t : Fin cfg0.N) : Memref sig .tc .vmem S2x352x1024 .bf16 := win0_5.stage (cfg0.slots t 5)
theorem hs5 (t : Fin cfg0.N) : (ms5 t).IsWhole := hstage0_5 ((cfg0.slots t 5).cast nbuf0_5)
/-- Window 6's staging buffer at a point. -/
abbrev ms6 (t : Fin cfg0.N) : Memref sig .tc .vmem S256x1024 .f32 := win0_6.stage (cfg0.slots t 6)
theorem hs6 (t : Fin cfg0.N) : (ms6 t).IsWhole := hstage0_6 ((cfg0.slots t 6).cast nbuf0_6)
/-- Window 7's staging buffer at a point. -/
abbrev ms7 (t : Fin cfg0.N) : Memref sig .tc .vmem S2x352x1024 .bf16 := win0_7.stage (cfg0.slots t 7)
theorem hs7 (t : Fin cfg0.N) : (ms7 t).IsWhole := hstage0_7 ((cfg0.slots t 7).cast nbuf0_7)
/-- Window 8's staging buffer at a point. -/
abbrev ms8 (t : Fin cfg0.N) : Memref sig .tc .vmem S2x352x1024 .bf16 := win0_8.stage (cfg0.slots t 8)
theorem hs8 (t : Fin cfg0.N) : (ms8 t).IsWhole := hstage0_8 ((cfg0.slots t 8).cast nbuf0_8)
/-- Window 9's staging buffer at a point. -/
abbrev ms9 (t : Fin cfg0.N) : Memref sig .tc .vmem S2x352x1024 .bf16 := win0_9.stage (cfg0.slots t 9)
theorem hs9 (t : Fin cfg0.N) : (ms9 t).IsWhole := hstage0_9 ((cfg0.slots t 9).cast nbuf0_9)
/-- Window 10's staging buffer at a point. -/
abbrev ms10 (t : Fin cfg0.N) : Memref sig .tc .vmem S1x1024 .f32 := win0_10.stage (cfg0.slots t 10)
theorem hs10 (t : Fin cfg0.N) : (ms10 t).IsWhole := hstage0_10 ((cfg0.slots t 10).cast nbuf0_10)
/-- A scratch buffer of the kernel. -/
abbrev scM0 : Memref sig .tc .vmem S2048x1024 .bf16 := Memref.whole cc0_scratch0
/-- A scratch buffer of the kernel. -/
abbrev scM1 : Memref sig .tc .vmem S2048x1024 .bf16 := Memref.whole cc0_scratch1
/-- A scratch buffer of the kernel. -/
abbrev scM2 : Memref sig .tc .vmem S2048x1024 .f32 := Memref.whole cc0_scratch2
/-- A scratch buffer of the kernel. -/
abbrev scM3 : Memref sig .tc .vmem S704x1024 .f32 := Memref.whole cc0_scratch3
/-- A scratch buffer of the kernel. -/
abbrev scM4 : Memref sig .tc .vmem S704x1024 .f32 := Memref.whole cc0_scratch4
/-- A scratch buffer of the kernel. -/
abbrev scM5 : Memref sig .tc .vmem S704x1024 .f32 := Memref.whole cc0_scratch5

/-- The region's start and end: every scratch buffer at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d)) ∗ (∃ r, prngReg c r)) := by
  unfold Pipeline.ΦA; rw [scopedRest0_eq]; simp only [scM0, scM1, scM2, scM3, scM4, scM5, owns_whole]; try rfl

/-- Before point `n` the scratch buffers hold what the invariant says. -/
def PhiS (c : Dev nD) (n : ℕ) : sProp 𝕄 :=
  iprop(∃ s : St F, ⌜Inv (ins m c) n s⌝ ∗ owns (c : Thread nD τ) scM0 fullShare s.xn ∗ owns (c : Thread nD τ) scM1 fullShare s.dyh ∗ owns (c : Thread nD τ) scM2 fullShare s.dxn ∗ owns (c : Thread nD τ) scM3 fullShare s.awg ∗ owns (c : Thread nD τ) scM4 fullShare s.awu ∗ owns (c : Thread nD τ) scM5 fullShare s.awd ∗ (∃ r, prngReg c r))

/-- What each window's staging buffer holds after each point, and the invariant between points. -/
def dats : (p : Fin 1) → (c : Dev nD) → Dat τ (Elt F) Unit ℕ (UR sig nD τ) ℕ (cfgs p) c := fun _ c =>
  { A := fun w => V m c (Pipeline.arrRef spec0 w)
    after := fun w t => match w with
      | 0 => iblk m c 0 t
      | 1 => iblk m c 1 t
      | 2 => iblk m c 2 t
      | 3 => iblk m c 3 t
      | 4 => iblk m c 4 t
      | 5 => iblk m c 5 t
      | 6 => (k0_pay8 (ins m c t.val).x (ins m c t.val).nw (dxB (ins m c) (t.val % 8) 4) (ins m c t.val).dy : Vec F S256x1024 .f32)
      | 7 => (k0_pay3 (aG (ins m c) (t.val / 8) 8) : Vec F S2x352x1024 .bf16)
      | 8 => (k0_pay4 (aU (ins m c) (t.val / 8) 8) : Vec F S2x352x1024 .bf16)
      | 9 => (k0_pay5 (aD (ins m c) (t.val / 8) 8) : Vec F S2x352x1024 .bf16)
      | 10 => (nwB (ins m c) (t.val + 1 - 24) : Vec F S1x1024 .f32)
      | ⟨_ + 11, h⟩ => absurd h (Nat.not_lt.2 (Nat.le_add_left _ _))
    Φ := fun t => PhiS m c t.val
    q := fun _ => fullShare
    owed := fun _ => 0 }

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem after_6 (c : Dev nD) (t : Fin cfg0.N) : (dats m 0 c).after 6 t = (k0_pay8 (ins m c t.val).x (ins m c t.val).nw (dxB (ins m c) (t.val % 8) 4) (ins m c t.val).dy : Vec F S256x1024 .f32) := by dsimp only [dats]
theorem after_7 (c : Dev nD) (t : Fin cfg0.N) : (dats m 0 c).after 7 t = (k0_pay3 (aG (ins m c) (t.val / 8) 8) : Vec F S2x352x1024 .bf16) := by dsimp only [dats]
theorem after_8 (c : Dev nD) (t : Fin cfg0.N) : (dats m 0 c).after 8 t = (k0_pay4 (aU (ins m c) (t.val / 8) 8) : Vec F S2x352x1024 .bf16) := by dsimp only [dats]
theorem after_9 (c : Dev nD) (t : Fin cfg0.N) : (dats m 0 c).after 9 t = (k0_pay5 (aD (ins m c) (t.val / 8) 8) : Vec F S2x352x1024 .bf16) := by dsimp only [dats]
theorem after_10 (c : Dev nD) (t : Fin cfg0.N) : (dats m 0 c).after 10 t = (nwB (ins m c) (t.val + 1 - 24) : Vec F S1x1024 .f32) := by dsimp only [dats]

theorem fl6 : ∀ t : Fin cfg0.N, (cfg0.win 6).flush t = true ↔ 24 ≤ t.val := by decide +kernel
theorem id6 : ∀ t : Fin cfg0.N, cfg0.idle 6 (grid0.coords t) = true ↔ ¬ 24 ≤ t.val := by decide +kernel
theorem id7 : ∀ t : Fin cfg0.N, cfg0.idle 7 (grid0.coords t) = true ↔ ¬ t.val % 8 = 7 := by decide +kernel
theorem id8 : ∀ t : Fin cfg0.N, cfg0.idle 8 (grid0.coords t) = true ↔ ¬ t.val % 8 = 7 := by decide +kernel
theorem id9 : ∀ t : Fin cfg0.N, cfg0.idle 9 (grid0.coords t) = true ↔ ¬ t.val % 8 = 7 := by decide +kernel
theorem id10 : ∀ t : Fin cfg0.N, cfg0.idle 10 (grid0.coords t) = true ↔ ¬ (t.val = 0 ∨ 24 ≤ t.val) := by decide +kernel
theorem fetch10 : ∀ t : Fin cfg0.N, (cfg0.win 10).fetch t = false := by decide +kernel

/-- What a window's buffer is left at: what the window states where it is stored, what was there where it is not. -/
theorem leaves_of {c : Dev nD} (dat : Dat τ (Elt F) Unit ℕ (UR sig nD τ) ℕ cfg0 c) (w : Fin cfg0.W) (t : Fin cfg0.N)
    (X : (cfg0.win w).block.Idx → Elt F (cfg0.win w).elt) (P : Prop)
    (hi : cfg0.idle w (grid0.coords t) = true ↔ ¬ P) (hf : (cfg0.win w).flush t = true → P)
    (hl : P → X = dat.after w t) (hd : ¬ P → ∃ d, X = dat.before w t d) :
    owns (c : Thread nD τ) ((cfg0.win w).stage (cfg0.slots t w)) fullShare X ⊢ (dat.leavesExact w t : sProp 𝕄) := by
  by_cases h : P
  · have e : cfg0.idle w (grid0.coords t) = false := by
      cases hh : cfg0.idle w (grid0.coords t)
      · rfl
      · exact absurd h (hi.mp hh)
    rw [show dat.leavesExact w t = owns (c : Thread nD τ) ((cfg0.win w).stage (cfg0.slots t w)) fullShare (dat.after w t) from by
      unfold Dat.leavesExact; rw [e], ← hl h]
  · have e : (cfg0.win w).flush t = false := by
      cases hh : (cfg0.win w).flush t
      · rfl
      · exact absurd (hf hh) h
    obtain ⟨d, hd⟩ := hd h
    rw [dat.leavesExact_idle w t (hi.mpr h) e, hd]
    iintro H
    iexists d
    iexact H

/-- The norm scale's gradient buffer before a point that is not the first. -/
theorem before_10 (c : Dev nD) : ∀ (n : ℕ) (hn : n < cfg0.N) (h0 : n ≠ 0) (d), (dats m 0 c).before 10 ⟨n, hn⟩ d = (nwB (ins m c) (n - 24) : Vec F S1x1024 .f32) := by
  intro n
  induction n with
  | zero => intro _ h0; exact absurd rfl h0
  | succ n ih =>
    intro hn h0 d
    have hn' : n < cfg0.N := Nat.lt_of_succ_lt hn
    have hN : n + 1 < 32 := lt_of_lt_of_eq hn N_0
    have hf : ¬ (cfg0.win 10).flush ⟨n, hn'⟩ = true := fun h => by
      have h := (flush0_10 ⟨n, hn'⟩).mp h
      dsimp only at h
      omega
    rw [(dats m 0 c).before_of_pos 10 ⟨n + 1, hn⟩ h0 (fetch10 _) d]
    show (if (cfg0.win 10).flush ⟨n, hn'⟩ = true then d else (dats m 0 c).left 10 ⟨n, hn'⟩ d) = _
    rw [if_neg hf]
    unfold Dat.left
    have hi := id10 ⟨n, hn'⟩
    change cfg0.idle 10 (cfg0.grid.coords ⟨n, hn'⟩) = true ↔ _ at hi
    cases hh : cfg0.idle 10 (cfg0.grid.coords ⟨n, hn'⟩)
    · show (dats m 0 c).after 10 ⟨n, hn'⟩ = _
      rw [after_10]
    · have hi := hi.mp hh
      dsimp only at hi ⊢
      rw [ih hn' (by omega) d, show n + 1 - 24 = n - 24 by omega]

/-- What the body is given at a point. -/
def bodyPre (c : Dev nD) (t : Fin cfg0.N) : sProp 𝕄 :=
  iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)) ∗ (∃ d, owns (c : Thread nD τ) (ms9 t) fullShare ((dats m 0 c).before 9 t d)) ∗ (∃ d, owns (c : Thread nD τ) (ms10 t) fullShare ((dats m 0 c).before 10 t d)))

/-- What it gives back. -/
def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t)

set_option maxHeartbeats 4000000 in
/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rewrite [show (dats m 0 c).owesAt () t.succ = (dats m 0 c).owesAt () t.castSucc from rfl]
  rewrite [show (dats m 0 c).Φ t.succ = PhiS m c (t.val + 1) from rfl, show (dats m 0 c).Φ t.castSucc = PhiS m c t.val from rfl]
  unfold PhiS
  simp only [before_0, before_1, before_2, before_3, before_4, before_5]
  iintro ⟨⟨%s, %hs, S0, S1, S2, S3, S4, S5, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have a := at_point t
  have v : Inv (ins m c) t.val { s with dx := (dats m 0 c).before 6 t d6, dwg := (dats m 0 c).before 7 t d7, dwu := (dats m 0 c).before 8 t d8, dwd := (dats m 0 c).before 9 t d9, dnw := (dats m 0 c).before 10 t d10 } := ⟨hs.xn, hs.dyh, hs.dxn, hs.awg, hs.awu, hs.awd⟩
  have hd : t.val ≠ 0 → ({ s with dx := (dats m 0 c).before 6 t d6, dwg := (dats m 0 c).before 7 t d7, dwu := (dats m 0 c).before 8 t d8, dwd := (dats m 0 c).before 9 t d9, dnw := (dats m 0 c).before 10 t d10 } : St F).dnw = nwB (ins m c) (t.val - 24) := fun h => before_10 m c t.val t.isLt h d10
  generalize hS : ({ s with dx := (dats m 0 c).before 6 t d6, dwg := (dats m 0 c).before 7 t d7, dwu := (dats m 0 c).before 8 t d8, dwd := (dats m 0 c).before 9 t d9, dnw := (dats m 0 c).before 10 t d10 } : St F) = S at v hd
  iapply (body_step c (grid0.coords t) _ (hs0 t) _ (hs1 t) _ (hs2 t) _ (hs3 t) _ (hs4 t) _ (hs5 t) _ (hs6 t) _ (hs7 t) _ (hs8 t) _ (hs9 t) _ (hs10 t) scM0 (Memref.isWhole_whole _) scM1 (Memref.isWhole_whole _) scM2 (Memref.isWhole_whole _) scM3 (Memref.isWhole_whole _) scM4 (Memref.isWhole_whole _) scM5 (Memref.isWhole_whole _) t.val a (ins m c t.val) S Set.univ _)
  isplitl [H0 H1 H2 H3 H4 H5 H6 H7 H8 H9 H10 S0 S1 S2 S3 S4 S5]
  · unfold holds
    rewrite [ins_val]
    unfold insAt
    rewrite [← hS]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    isplitl [S2]; · iexact S2
    isplitl [S3]; · iexact S3
    isplitl [S4]; · iexact S4
    iexact S5
  unfold holds
  iintro ⟨H0, H1, H2, H3, H4, H5, H6, H7, H8, H9, H10, S0, S1, S2, S3, S4, S5⟩
  isplitl [Hg S0 S1 S2 S3 S4 S5]
  · iexists (step (grid0.coords t) (ins m c t.val) S)
    isplitl []; · ipureintro; exact v.step a
    isplitl [S0]; · iexact S0
    isplitl [S1]; · iexact S1
    isplitl [S2]; · iexact S2
    isplitl [S3]; · iexact S3
    isplitl [S4]; · iexact S4
    isplitl [S5]; · iexact S5
    iexact Hg
  isplitl [Ho]; · iexact Ho
  isplitl [H0]
  · iapply (leaves_of (dats m 0 c) 0 t (ins m c t.val).x True ⟨fun h => absurd (h : false = true) Bool.false_ne_true, fun h => absurd trivial h⟩ (fun _ => trivial)
      (fun _ => by rw [after_0, ins_val]; rfl) (fun h => absurd trivial h))
    iexact H0
  isplitl [H1]
  · iapply (leaves_of (dats m 0 c) 1 t (ins m c t.val).dy True ⟨fun h => absurd (h : false = true) Bool.false_ne_true, fun h => absurd trivial h⟩ (fun _ => trivial)
      (fun _ => by rw [after_1, ins_val]; rfl) (fun h => absurd trivial h))
    iexact H1
  isplitl [H2]
  · iapply (leaves_of (dats m 0 c) 2 t (ins m c t.val).nw True ⟨fun h => absurd (h : false = true) Bool.false_ne_true, fun h => absurd trivial h⟩ (fun _ => trivial)
      (fun _ => by rw [after_2, ins_val]; rfl) (fun h => absurd trivial h))
    iexact H2
  isplitl [H3]
  · iapply (leaves_of (dats m 0 c) 3 t (ins m c t.val).wg True ⟨fun h => absurd (h : false = true) Bool.false_ne_true, fun h => absurd trivial h⟩ (fun _ => trivial)
      (fun _ => by rw [after_3, ins_val]; rfl) (fun h => absurd trivial h))
    iexact H3
  isplitl [H4]
  · iapply (leaves_of (dats m 0 c) 4 t (ins m c t.val).wu True ⟨fun h => absurd (h : false = true) Bool.false_ne_true, fun h => absurd trivial h⟩ (fun _ => trivial)
      (fun _ => by rw [after_4, ins_val]; rfl) (fun h => absurd trivial h))
    iexact H4
  isplitl [H5]
  · iapply (leaves_of (dats m 0 c) 5 t (ins m c t.val).wd True ⟨fun h => absurd (h : false = true) Bool.false_ne_true, fun h => absurd trivial h⟩ (fun _ => trivial)
      (fun _ => by rw [after_5, ins_val]; rfl) (fun h => absurd trivial h))
    iexact H5
  isplitl [H6]
  · iapply (leaves_of (dats m 0 c) 6 t (step (grid0.coords t) (ins m c t.val) S).dx (24 ≤ t.val) (id6 t) (fl6 t).mp
        (fun h => by rw [after_6]; exact dx_live a v h)
        (fun h => ⟨d6, (dx_idle a h).trans (show S.dx = (dats m 0 c).before 6 t d6 by rw [← hS])⟩))
    iexact H6
  isplitl [H7]
  · iapply (leaves_of (dats m 0 c) 7 t (step (grid0.coords t) (ins m c t.val) S).dwg (t.val % 8 = 7) (id7 t) (flush0_7 t).mp
        (fun h => by rw [after_7]; exact dwg_live a v h)
        (fun h => ⟨d7, (dwg_idle a h).trans (show S.dwg = (dats m 0 c).before 7 t d7 by rw [← hS])⟩))
    iexact H7
  isplitl [H8]
  · iapply (leaves_of (dats m 0 c) 8 t (step (grid0.coords t) (ins m c t.val) S).dwu (t.val % 8 = 7) (id8 t) (flush0_8 t).mp
        (fun h => by rw [after_8]; exact dwu_live a v h)
        (fun h => ⟨d8, (dwu_idle a h).trans (show S.dwu = (dats m 0 c).before 8 t d8 by rw [← hS])⟩))
    iexact H8
  isplitl [H9]
  · iapply (leaves_of (dats m 0 c) 9 t (step (grid0.coords t) (ins m c t.val) S).dwd (t.val % 8 = 7) (id9 t) (flush0_9 t).mp
        (fun h => by rw [after_9]; exact dwd_live a v h)
        (fun h => ⟨d9, (dwd_idle a h).trans (show S.dwd = (dats m 0 c).before 9 t d9 by rw [← hS])⟩))
    iexact H9
  iapply (leaves_of (dats m 0 c) 10 t (step (grid0.coords t) (ins m c t.val) S).dnw (t.val = 0 ∨ 24 ≤ t.val) (id10 t) (fun h => .inr (by have := (flush0_10 t).mp h; omega))
      (fun h => by rw [after_10]; exact dnw_step a v hd)
      (fun h => ⟨d10, (dnw_step a v hd).trans (by rw [show t.val + 1 - 24 = t.val - 24 by omega]; exact (before_10 m c t.val t.isLt (by omega) d10).symm)⟩))
  iexact H10

theorem defs₀_row (t : Fin cfg0.N) : defs₀ (F := F) .tc cfg0.body (cfg0.bodyArgs t (cfg0.slots t)) = bodyAt0 t := by
  unfold defs₀; rw [Defs.onTc_tc]

set_option maxRecDepth 8192 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rewrite [show (dats m 0 c).Φ 0 = PhiS m c 0 from rfl, PhiA_eq]
  unfold PhiS
  iintro ⟨⟨⟨%s0, S0⟩, ⟨%s1, S1⟩, ⟨%s2, S2⟩, ⟨%s3, S3⟩, ⟨%s4, S4⟩, ⟨%s5, S5⟩⟩, Hg⟩
  iexists (⟨dxB (ins m c) 0 0, k0_pay3 s3, k0_pay3 s3, k0_pay3 s3, k0_pay13, s0, s1, s2, s3, s4, s5⟩ : St F)
  isplitl []
  · ipureintro
    exact ⟨fun _ _ h => absurd h (Nat.not_lt_zero _), fun _ _ h => absurd h (Nat.not_lt_zero _), fun _ _ h => absurd h (Nat.not_lt_zero _),
      fun h => absurd rfl h, fun h => absurd rfl h, fun h => absurd rfl h⟩
  isplitl [S0]; · iexact S0
  isplitl [S1]; · iexact S1
  isplitl [S2]; · iexact S2
  isplitl [S3]; · iexact S3
  isplitl [S4]; · iexact S4
  isplitl [S5]; · iexact S5
  iexact Hg

theorem hout (c : Dev nD) : (dats m 0 c).Φ (Fin.last cfg0.N) ⊢ Pipeline.ΦA spec0 c := by
  rewrite [show (dats m 0 c).Φ (Fin.last cfg0.N) = PhiS m c (Fin.last cfg0.N).val from rfl, PhiA_eq]
  unfold PhiS
  iintro ⟨%s, %hs, S0, S1, S2, S3, S4, S5, Hg⟩
  isplitl [S0 S1 S2 S3 S4 S5]
  · isplitl [S0]; · iexists _; iexact S0
    isplitl [S1]; · iexists _; iexact S1
    isplitl [S2]; · iexists _; iexact S2
    isplitl [S3]; · iexists _; iexact S3
    isplitl [S4]; · iexists _; iexact S4
    iexists _; iexact S5
  iexact Hg

set_option backward.isDefEq.respectTransparency.types false in
/-- The launch: it ends, with every output array assembled from what the points left, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and the counters at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Reals.lean ====
/- A feed-forward half step's gradients over the reals: the formulas both programs are read as, and the ideal operations at real values. -/
module

public import Idealize.ShloMosaic.PureOps.Ideal
public import Idealize.ShloMosaic.PureOps.Ideal.Laws
public import Idealize.ShloMosaic.Lib.IdealHost

@[expose] public section

open Idealize.ShloMosaic

noncomputable section

namespace Cert.Half

open Finset

/-- The norm's small constant, the real its single-precision word stands for. -/
def eps : ℝ := 8796093 / 8796093022208

theorem eps_pos : 0 < eps := by unfold eps; norm_num

/-- The mean square of a token, with the small constant. -/
def ms (row : ℕ → ℝ) : ℝ := (∑ k ∈ range 1024, row k * row k) / 1024 + eps

theorem ms_pos (row : ℕ → ℝ) : 0 < ms row :=
  add_pos_of_nonneg_of_pos (div_nonneg (Finset.sum_nonneg fun k _ => mul_self_nonneg _) (by norm_num)) eps_pos

/-- The reciprocal root mean square of a token. -/
def rinv (row : ℕ → ℝ) : ℝ := (√(ms row))⁻¹

/-- Its square is the reciprocal of the mean square. -/
theorem rinv_sq (row : ℕ → ℝ) : rinv row * rinv row = (ms row)⁻¹ := by
  unfold rinv
  rw [← mul_inv, Real.mul_self_sqrt (ms_pos row).le]

/-- The logistic function. -/
def sg (t : ℝ) : ℝ := (1 + Real.exp (-t))⁻¹

theorem one_add_exp_pos (t : ℝ) : 0 < 1 + Real.exp (-t) := by positivity

/-- The arguments: the tokens, their cotangent, the norm's weight and the three weights. -/
structure Args where
  x : ℕ → ℕ → ℝ
  dy : ℕ → ℕ → ℝ
  nw : ℕ → ℝ
  wg : ℕ → ℕ → ℝ
  wu : ℕ → ℕ → ℝ
  wd : ℕ → ℕ → ℝ

variable (A : Args)

/-- The normalised token before the weight. -/
def xh (i k : ℕ) : ℝ := A.x i k * rinv (A.x i)
/-- The normalised token. -/
def hn (i k : ℕ) : ℝ := xh A i k * A.nw k
/-- The half step's cotangent. -/
def dyh (i k : ℕ) : ℝ := 1 / 2 * A.dy i k
/-- The gate's projection. -/
def gt (i f : ℕ) : ℝ := ∑ k ∈ range 1024, hn A i k * A.wg k f
/-- The up projection. -/
def up (i f : ℕ) : ℝ := ∑ k ∈ range 1024, hn A i k * A.wu k f
/-- The gated hidden unit. -/
def act (i f : ℕ) : ℝ := gt A i f * sg (gt A i f) * up A i f
/-- The hidden unit's cotangent. -/
def ct (i f : ℕ) : ℝ := ∑ k ∈ range 1024, dyh A i k * A.wd f k
/-- The up projection's cotangent. -/
def du (i f : ℕ) : ℝ := ct A i f * (gt A i f * sg (gt A i f))
/-- The gate projection's cotangent. -/
def dg (i f : ℕ) : ℝ := ct A i f * up A i f * (sg (gt A i f) * (1 + gt A i f * (1 - sg (gt A i f))))
/-- The normalised token's cotangent from the first `n` hidden units. -/
def aPart (n i k : ℕ) : ℝ := ∑ f ∈ range n, (dg A i f * A.wg k f + du A i f * A.wu k f)
/-- The normalised token's cotangent. -/
def an (i k : ℕ) : ℝ := aPart A 2816 i k
/-- The gate weight's gradient from the first `n` tokens. -/
def wgPart (n f k : ℕ) : ℝ := ∑ i ∈ range n, dg A i f * hn A i k
/-- The up weight's gradient from the first `n` tokens. -/
def wuPart (n f k : ℕ) : ℝ := ∑ i ∈ range n, du A i f * hn A i k
/-- The down weight's gradient from the first `n` tokens. -/
def wdPart (n f k : ℕ) : ℝ := ∑ i ∈ range n, act A i f * dyh A i k
/-- The norm weight's gradient from the first `n` tokens. -/
def nwPart (n k : ℕ) : ℝ := ∑ i ∈ range n, an A i k * xh A i k
/-- The inner product that the norm's gradient subtracts. -/
def dotw (i : ℕ) : ℝ := ∑ k ∈ range 1024, an A i k * A.nw k * xh A i k
/-- The tokens' gradient. -/
def dx (i k : ℕ) : ℝ := A.dy i k + rinv (A.x i) * (an A i k * A.nw k - xh A i k * (dotw A i / 1024))

/-! ## Blocks of the sums -/

theorem aPart_add (m n i k : ℕ) :
    aPart A (m + n) i k = aPart A m i k + ((∑ q ∈ range n, dg A i (m + q) * A.wg k (m + q)) + ∑ q ∈ range n, du A i (m + q) * A.wu k (m + q)) := by
  simp only [aPart, Finset.sum_range_add, Finset.sum_add_distrib]
  ring
theorem wgPart_add (m n f k : ℕ) : wgPart A (m + n) f k = wgPart A m f k + ∑ p ∈ range n, dg A (m + p) f * hn A (m + p) k := by
  simp only [wgPart, Finset.sum_range_add]
theorem wuPart_add (m n f k : ℕ) : wuPart A (m + n) f k = wuPart A m f k + ∑ p ∈ range n, du A (m + p) f * hn A (m + p) k := by
  simp only [wuPart, Finset.sum_range_add]
theorem wdPart_add (m n f k : ℕ) : wdPart A (m + n) f k = wdPart A m f k + ∑ p ∈ range n, act A (m + p) f * dyh A (m + p) k := by
  simp only [wdPart, Finset.sum_range_add]
theorem nwPart_add (m n k : ℕ) : nwPart A (m + n) k = nwPart A m k + ∑ p ∈ range n, an A (m + p) k * xh A (m + p) k := by
  simp only [nwPart, Finset.sum_range_add]

/-! ## The ideal operations at real values -/

/-- A sum of reals over a range, as the extended reals' sum over that many indices. -/
theorem coe_range (n : ℕ) (f : ℕ → ℝ) : ((∑ k ∈ range n, f k : ℝ) : EReal) = ∑ k : Fin n, ((f k.val : ℝ) : EReal) := by
  rw [← Fin.sum_univ_eq_sum_range]
  induction n with
  | zero => simp
  | succ n ih => rw [Fin.sum_univ_castSucc, Fin.sum_univ_castSucc, EReal.coe_add]; exact congrArg (· + _) ih

/-- A quotient of reals by a nonzero real. -/
theorem div_real {y : ℝ} (h : y ≠ 0) (x : ℝ) : Ideal.div (x : EReal) (y : EReal) = ((x / y : ℝ) : EReal) := by
  rw [Ideal.div_coe h, ← EReal.coe_mul, mul_one_div]

/-- The reciprocal root of a positive real. -/
theorem rsqrt_real {r : ℝ} (h : 0 < r) : Ideal.rsqrt (r : EReal) = (((√r)⁻¹ : ℝ) : EReal) := by
  show (if r < 0 then ⊥ else if r = 0 then ⊤ else (((√r)⁻¹ : ℝ) : EReal)) = _
  rw [if_neg h.not_gt, if_neg h.ne']

theorem half_word : Ideal.ofBits .f32 0x3F000000#32 = ((1 / 2 : ℝ) : EReal) := by
  simp [Ideal.ofBits, Ideal.ieee, -EReal.coe_mul]; norm_num
theorem neg_half_word : Ideal.ofBits .f32 0xBF000000#32 = ((-(1 / 2) : ℝ) : EReal) := by
  simp [Ideal.ofBits, Ideal.ieee, -EReal.coe_mul, -EReal.coe_neg]; norm_num
theorem thousand_word : Ideal.ofBits .f32 0x44800000#32 = ((1024 : ℝ) : EReal) := by
  simp [Ideal.ofBits, Ideal.ieee, -EReal.coe_mul]; norm_num
theorem eps_word : Ideal.ofBits .f32 0x358637BD#32 = (eps : EReal) := by
  simp [Ideal.ofBits, Ideal.ieee, -EReal.coe_mul, eps]; norm_num
theorem one_word : Ideal.ofBits .f32 0x3F800000#32 = ((1 : ℝ) : EReal) := by
  rw [Ideal.ofBits_one_f32]; norm_cast
theorem zero_word : Ideal.ofBits .f32 0x00000000#32 = 0 := by
  simp [Ideal.ofBits, Ideal.ieee]

/-- The ideal logistic as the programs print it, at a real. -/
theorem logistic_real (t : ℝ) : Ideal.div ((1 : ℝ) : EReal) (((1 : ℝ) : EReal) + Ideal.exp (-(t : EReal))) = ((sg t : ℝ) : EReal) := by
  rw [← EReal.coe_neg, show Ideal.exp ((-t : ℝ) : EReal) = ((Real.exp (-t) : ℝ) : EReal) from rfl, ← EReal.coe_add,
    div_real (one_add_exp_pos t).ne', one_div]
  rfl

end Cert.Half

end
-- ==== Proof.Pay.lean ====
/- The kernel's operations at real values: what each stage of a grid point computes from blocks that hold real numbers. -/
module

public import proofs.«01_k».proof.Proof.Step
public import proofs.«01_k».proof.Proof.Reals
public import Idealize.ShloMosaic.Lib.Pointwise

@[expose] public section

open Idealize.ShloMosaic Cert.KernelIdeal Cert.KernelIdeal.Gen Cert.KernelIdeal.Hand

noncomputable section

namespace Cert.Half

open Finset

set_option maxRecDepth 16384

/-- A matrix that holds the real numbers `f`. -/
abbrev Is {n m : ℕ} (v : (⟨2, ![n, m]⟩ : Shape).Idx → EReal) (f : ℕ → ℕ → ℝ) : Prop :=
  ∀ (a : Fin n) (b : Fin m), v (ix2 a b) = ((f a.val b.val : ℝ) : EReal)

/-- The reciprocal root mean square of a block's tokens. -/
theorem pay6_is {x : Vec Ideal S256x1024 .f32} {X : ℕ → ℕ → ℝ} (hx : Is x X) : Is (k0_pay6 x) fun a _ => rinv (X a) := by
  intro a k
  pointwise [k0_pay6]
  simp only [thousand_word, eps_word, hx _ _, ← EReal.coe_mul]
  rw [← coe_range 1024 fun k => X a.val k * X a.val k, div_real (by norm_num), ← EReal.coe_add]
  rw [show (∑ k ∈ range 1024, X a.val k * X a.val k) / 1024 + eps = ms (X a.val) from rfl, rsqrt_real (ms_pos _)]
  rfl

/-- The normalised tokens of a block, before the weight. -/
theorem pay7_is {x : Vec Ideal S256x1024 .f32} {X : ℕ → ℕ → ℝ} (hx : Is x X) : Is (k0_pay7 x) fun a k => X a k * rinv (X a) := by
  intro a k
  pointwise [k0_pay7]
  rw [hx, pay6_is hx, ← EReal.coe_mul]

/-- The normalised tokens of a block. -/
theorem pay10_is {x : Vec Ideal S256x1024 .f32} {w : Vec Ideal S1x1024 .f32} {X : ℕ → ℕ → ℝ} {W : ℕ → ℝ} (hx : Is x X) (hw : Is w fun _ => W) :
    Is (k0_pay10 x w) fun a k => X a k * rinv (X a) * W k := by
  intro a k
  pointwise [k0_pay10]
  simp only [thousand_word, eps_word, hx _ _, hw _ _, ← EReal.coe_mul]
  rw [← coe_range 1024 fun k => X a.val k * X a.val k, div_real (by norm_num), ← EReal.coe_add]
  rw [show (∑ k ∈ range 1024, X a.val k * X a.val k) / 1024 + eps = ms (X a.val) from rfl, rsqrt_real (ms_pos _), ← EReal.coe_mul, ← EReal.coe_mul]
  rfl

/-- The half step's cotangent of a block. -/
theorem pay11_is {y : Vec Ideal S256x1024 .f32} {Y : ℕ → ℕ → ℝ} (hy : Is y Y) : Is (k0_pay11 y) fun a k => 1 / 2 * Y a k := by
  intro a k
  pointwise [k0_pay11]
  rw [half_word, hy, ← EReal.coe_mul]

theorem pay12_is : Is (k0_pay12 (F := Ideal)) fun _ _ => 0 := by
  intro a k
  pointwise [k0_pay12]
  exact EReal.coe_zero.symm
theorem pay13_is : Is (k0_pay13 (F := Ideal)) fun _ _ => 0 := by
  intro a k
  pointwise [k0_pay13]
  exact EReal.coe_zero.symm
theorem pay14_is : Is (k0_pay14 (F := Ideal)) fun _ _ => 0 := by
  intro a k
  pointwise [k0_pay14]
  exact EReal.coe_zero.symm
theorem pay15_is : Is (k0_pay15 (F := Ideal)) fun _ _ => 0 := by
  intro a k
  pointwise [k0_pay15]
  exact EReal.coe_zero.symm
theorem pay16_is : Is (k0_pay16 (F := Ideal)) fun _ _ => 0 := by
  intro a k
  pointwise [k0_pay16]
  exact EReal.coe_zero.symm

/-! ## The weight blocks -/

theorem half0_at (w : Vec Ideal S2x1024x352 .bf16) (u : Fin 1) (k : Fin 1024) (r : Fin 352) : half0 w (ix3 u k r) = w (ix3 0 k r) := by
  show w _ = w _
  congr 1
  funext i
  have hu := u.isLt
  fin_cases i <;> exact Fin.ext (by simp [Rect.unit, Rect.emb]; try omega)
theorem half1_at (w : Vec Ideal S2x1024x352 .bf16) (u : Fin 1) (k : Fin 1024) (r : Fin 352) : half1 w (ix3 u k r) = w (ix3 1 k r) := by
  show w _ = w _
  congr 1
  funext i
  have hu := u.isLt
  fin_cases i <;> exact Fin.ext (by simp [Rect.unit, Rect.emb]; try omega)

/-- The two halves of a pair of weight blocks, side by side, hold the columns from `o` of the whole weight. -/
theorem pay17_is {w : Vec Ideal S2x1024x352 .bf16} {W : ℕ → ℕ → ℝ} {o : ℕ}
    (hw : ∀ (h : Fin 2) (k : Fin 1024) (r : Fin 352), w (ix3 h k r) = ((W k.val (o + (352 * h.val + r.val)) : ℝ) : EReal)) :
    Is (k0_pay17 (half0 w) (half1 w)) fun k q => W k (o + q) := by
  intro k q
  have hq := q.isLt
  pointwise [k0_pay17]
  split
  · rw [half0_at, hw]; simp
  · rw [half1_at, hw]; simp only [Fin.val_one, Nat.mul_one]; rw [show 352 + (q.val - 352) = q.val by omega]
theorem pay18_is {w : Vec Ideal S2x1024x352 .bf16} {W : ℕ → ℕ → ℝ} {o : ℕ}
    (hw : ∀ (h : Fin 2) (k : Fin 1024) (r : Fin 352), w (ix3 h k r) = ((W k.val (o + (352 * h.val + r.val)) : ℝ) : EReal)) :
    Is (k0_pay18 (half0 w) (half1 w)) fun k q => W k (o + q) := pay17_is hw

/-! ## The products of a point -/

/-- The gate's projection. -/
theorem pay19_is {v : Vec Ideal S256x1024 .bf16} {w w' : Vec Ideal S1x1024x352 .bf16} {X W : ℕ → ℕ → ℝ} (hv : Is v X) (hw : Is (k0_pay17 w w') W) :
    Is (k0_pay19 v w w') fun a q => ∑ k ∈ range 1024, X a k * W k q := by
  intro a q
  pointwise [k0_pay19]
  rw [coe_range]
  exact Finset.sum_congr rfl fun k _ => by rw [hv, hw, ← EReal.coe_mul]
/-- The up projection. -/
theorem pay20_is {v : Vec Ideal S256x1024 .bf16} {w w' : Vec Ideal S1x1024x352 .bf16} {X W : ℕ → ℕ → ℝ} (hv : Is v X) (hw : Is (k0_pay18 w w') W) :
    Is (k0_pay20 v w w') fun a q => ∑ k ∈ range 1024, X a k * W k q := by
  intro a q
  pointwise [k0_pay20]
  rw [coe_range]
  exact Finset.sum_congr rfl fun k _ => by rw [hv, hw, ← EReal.coe_mul]

theorem pay21_is : Is (k0_pay21 (F := Ideal)) fun _ _ => 0 := by
  intro a k
  pointwise [k0_pay21]
  exact EReal.coe_zero.symm

/-- The gate's logistic. -/
theorem pay22_is {g z : Vec Ideal S256x704 .f32} {G : ℕ → ℕ → ℝ} (hg : Is g G) (hz : Is z fun _ _ => 0) : Is (k0_pay22 (F := Ideal) g z) fun a q => sg (G a q) := by
  intro a q
  pointwise [k0_pay22]
  rw [hg, hz, ← EReal.coe_sub, zero_sub, EReal.coe_neg, ← EReal.coe_one]
  exact logistic_real _

/-- The gated projection. -/
theorem pay23_is {g z : Vec Ideal S256x704 .f32} {G : ℕ → ℕ → ℝ} (hg : Is g G) (hz : Is z fun _ _ => 0) : Is (k0_pay23 (F := Ideal) g z) fun a q => G a q * sg (G a q) := by
  intro a q
  pointwise [k0_pay23]
  rw [hg, pay22_is hg hz, ← EReal.coe_mul]

/-- The hidden units' cotangent. -/
theorem pay24_is {v : Vec Ideal S256x1024 .bf16} {w : Vec Ideal S2x352x1024 .bf16} {Y W : ℕ → ℕ → ℝ} {o : ℕ} (hv : Is v Y)
    (hw : ∀ (h : Fin 2) (r : Fin 352) (k : Fin 1024), w (ix3 h r k) = ((W (o + (352 * h.val + r.val)) k.val : ℝ) : EReal)) :
    Is (k0_pay24 v w) fun a q => ∑ k ∈ range 1024, Y a k * W (o + q) k := by
  intro a q
  pointwise [k0_pay24]
  rw [coe_range]
  refine Finset.sum_congr rfl fun k _ => ?_
  rw [hv, hw, ← EReal.coe_mul]
  simp only [Nat.div_add_mod]

section Cotangents
variable {v : Vec Ideal S256x1024 .bf16} {w : Vec Ideal S2x352x1024 .bf16} {g u z : Vec Ideal S256x704 .f32} {C G U : ℕ → ℕ → ℝ}
  (hc : Is (k0_pay24 v w) C) (hg : Is g G) (hu : Is u U) (hz : Is z fun _ _ => 0)
include hc hg hz

theorem pay25_is : Is (k0_pay25 v g z w) fun a q => C a q * (G a q * sg (G a q)) := by
  intro a q
  pointwise [k0_pay25]
  rw [hc, pay23_is hg hz, ← EReal.coe_mul]

include hu

theorem pay26_is : Is (k0_pay26 v g u z w) fun a q => C a q * U a q * (sg (G a q) * (1 + G a q * (1 - sg (G a q)))) := by
  intro a q
  pointwise [k0_pay26]
  rw [hc, hg, hu, pay22_is hg hz, ← EReal.coe_one]
  simp only [← EReal.coe_mul, ← EReal.coe_sub, ← EReal.coe_add]
end Cotangents

/-- A block's addition to the down weight's gradient. -/
theorem pay27_is {v : Vec Ideal S256x1024 .bf16} {g u z : Vec Ideal S256x704 .f32} {acc : Vec Ideal S704x1024 .f32} {Y G U P : ℕ → ℕ → ℝ}
    (hv : Is v Y) (hg : Is g G) (hu : Is u U) (hz : Is z fun _ _ => 0) (hp : Is acc P) :
    Is (k0_pay27 v g u z acc) fun q k => P q k + ∑ p ∈ range 256, G p q * sg (G p q) * U p q * Y p k := by
  intro q k
  pointwise [k0_pay27]
  rw [hp, EReal.coe_add, coe_range]
  refine congrArg (_ + ·) (Finset.sum_congr rfl fun p _ => ?_)
  rw [pay23_is hg hz, hu, hv, ← EReal.coe_mul, ← EReal.coe_mul]

/-- A block's addition to the gate weight's gradient. -/
theorem pay28_is {v y : Vec Ideal S256x1024 .bf16} {g u z : Vec Ideal S256x704 .f32} {w : Vec Ideal S2x352x1024 .bf16} {acc : Vec Ideal S704x1024 .f32}
    {X D P : ℕ → ℕ → ℝ} (hv : Is v X) (hd : Is (k0_pay26 y g u z w) D) (hp : Is acc P) :
    Is (k0_pay28 v y g u z w acc) fun q k => P q k + ∑ p ∈ range 256, D p q * X p k := by
  intro q k
  pointwise [k0_pay28]
  rw [hp, EReal.coe_add, coe_range]
  exact congrArg (_ + ·) (Finset.sum_congr rfl fun p _ => by rw [hd, hv, ← EReal.coe_mul])

/-- A block's addition to the up weight's gradient. -/
theorem pay1_is {v : Vec Ideal S256x1024 .bf16} {d : Vec Ideal S256x704 .bf16} {acc z : Vec Ideal S704x1024 .f32}
    {X D P : ℕ → ℕ → ℝ} (hv : Is v X) (hd : Is d D) (hp : Is acc P) (hz : ∀ j, z j = 0) :
    Is (k0_pay1 v d acc z) fun q k => P q k + ∑ p ∈ range 256, D p q * X p k := by
  intro q k
  pointwise [k0_pay1]
  rw [hp, hz, zero_add, EReal.coe_add, coe_range]
  exact congrArg (_ + ·) (Finset.sum_congr rfl fun p _ => by rw [hd, hv, ← EReal.coe_mul])

/-- A pair's addition to the normalised tokens' cotangent. -/
theorem pay2_is {wg wu : Vec Ideal S1024x704 .bf16} {du dg : Vec Ideal S256x704 .bf16} {acc : Vec Ideal S256x1024 .f32}
    {WG WU DU DG P : ℕ → ℕ → ℝ} (hwg : Is wg WG) (hwu : Is wu WU) (hdu : Is du DU) (hdg : Is dg DG) (hp : Is acc P) :
    Is (k0_pay2 wg wu du dg acc) fun a k => P a k + ((∑ q ∈ range 704, DG a q * WG k q) + ∑ q ∈ range 704, DU a q * WU k q) := by
  intro a k
  pointwise [k0_pay2]
  rw [hp, EReal.coe_add, EReal.coe_add, coe_range, coe_range]
  exact congrArg (_ + ·) (congrArg₂ (· + ·) (Finset.sum_congr rfl fun p _ => by rw [hdg, hwg, ← EReal.coe_mul])
    (Finset.sum_congr rfl fun p _ => by rw [hdu, hwu, ← EReal.coe_mul]))

/-! ## The results -/

/-- The tokens' gradient of a block. -/
theorem pay8_is {x dxn y : Vec Ideal S256x1024 .f32} {w : Vec Ideal S1x1024 .f32} {X D Y : ℕ → ℕ → ℝ} {W : ℕ → ℝ}
    (hx : Is x X) (hw : Is w fun _ => W) (hd : Is dxn D) (hy : Is y Y) :
    Is (k0_pay8 x w dxn y) fun a k =>
      Y a k + rinv (X a) * (D a k * W k - X a k * rinv (X a) * ((∑ k ∈ range 1024, D a k * W k * (X a k * rinv (X a))) / 1024)) := by
  intro a k
  pointwise [k0_pay8]
  simp only [thousand_word, pay7_is hx _ _, pay6_is hx _ _, hw _ _, hd _ _, hy _ _, ← EReal.coe_mul]
  rw [← coe_range 1024 fun k => D a.val k * W k * (X a.val k * rinv (X a.val)), div_real (by norm_num)]
  simp only [← EReal.coe_mul, ← EReal.coe_sub, ← EReal.coe_add]

/-- A block's addition to the norm weight's gradient. -/
theorem pay9_is {x dxn : Vec Ideal S256x1024 .f32} {acc : Vec Ideal S1x1024 .f32} {X D : ℕ → ℕ → ℝ} {P : ℕ → ℝ}
    (hx : Is x X) (hd : Is dxn D) (hp : Is acc fun _ => P) :
    Is (k0_pay9 x dxn acc) fun _ k => P k + ∑ p ∈ range 256, D p k * (X p k * rinv (X p)) := by
  intro a k
  pointwise [k0_pay9]
  rw [hp, EReal.coe_add, coe_range]
  exact congrArg (_ + ·) (Finset.sum_congr rfl fun p _ => by rw [hd, pay7_is hx, ← EReal.coe_mul])

end Cert.Half

end
-- ==== Proof.Fold.lean ====
/- The kernel's accumulators at real values: after each block they hold the partial sums of the gradients. -/
module

public import proofs.«01_k».proof.Proof.Sched
public import proofs.«01_k».proof.Proof.Pay

@[expose] public section

open Idealize.ShloMosaic Cert.KernelIdeal Cert.KernelIdeal.Gen Cert.KernelIdeal.Hand

noncomputable section

namespace Cert.Half

open Finset

set_option maxRecDepth 16384

/-- The input blocks of the grid's points hold the real numbers of `A`: point `8 j + b` sees token block `b` and hidden block `j`;
    the tokens and their cotangent only at the first and at the last hidden block, where they are read. -/
structure Feeds (A : Args) (I : ℕ → Ins Ideal) : Prop where
  x : ∀ j b, j = 0 ∨ j = 3 → b < 8 → Is (I (8 * j + b)).x fun p k => A.x (256 * b + p) k
  dy : ∀ j b, j = 0 ∨ j = 3 → b < 8 → Is (I (8 * j + b)).dy fun p k => A.dy (256 * b + p) k
  nw : ∀ n, n < 32 → Is (I n).nw fun _ => A.nw
  wg : ∀ j b, j < 4 → b < 8 → ∀ (h : Fin 2) (k : Fin 1024) (r : Fin 352),
    (I (8 * j + b)).wg (ix3 h k r) = ((A.wg k.val (704 * j + (352 * h.val + r.val)) : ℝ) : EReal)
  wu : ∀ j b, j < 4 → b < 8 → ∀ (h : Fin 2) (k : Fin 1024) (r : Fin 352),
    (I (8 * j + b)).wu (ix3 h k r) = ((A.wu k.val (704 * j + (352 * h.val + r.val)) : ℝ) : EReal)
  wd : ∀ j b, j < 4 → b < 8 → ∀ (h : Fin 2) (r : Fin 352) (k : Fin 1024),
    (I (8 * j + b)).wd (ix3 h r k) = ((A.wd (704 * j + (352 * h.val + r.val)) k.val : ℝ) : EReal)

variable {A : Args} {I : ℕ → Ins Ideal} (H : Feeds A I)

include H

/-- The kept normalised tokens. -/
theorem xnB_is {b : ℕ} (hb : b < 8) : Is (xnB I b) fun p k => hn A (256 * b + p) k := by
  have h := H.x 0 b (.inl rfl) hb
  simp only [Nat.mul_zero, Nat.zero_add] at h
  exact pay10_is h (H.nw b (by omega))

/-- The kept halved cotangent. -/
theorem dyB_is {b : ℕ} (hb : b < 8) : Is (dyB I b) fun p k => dyh A (256 * b + p) k := by
  have h := H.dy 0 b (.inl rfl) hb
  simp only [Nat.mul_zero, Nat.zero_add] at h
  exact pay11_is h

section Point
variable {j b : ℕ} (hj : j < 4) (hb : b < 8)
include hj hb

theorem gate_is : Is (gateOf (I (8 * j + b)) (xnB I b)) fun p q => gt A (256 * b + p) (704 * j + q) :=
  pay19_is (xnB_is H hb) (pay17_is (H.wg j b hj hb))
theorem up_is : Is (upOf (I (8 * j + b)) (xnB I b)) fun p q => up A (256 * b + p) (704 * j + q) :=
  pay20_is (xnB_is H hb) (pay18_is (H.wu j b hj hb))
theorem ct_is : Is (k0_pay24 (dyB I b) (I (8 * j + b)).wd) fun p q => ct A (256 * b + p) (704 * j + q) :=
  pay24_is (dyB_is H hb) (H.wd j b hj hb)
theorem du_is : Is (duOf (I (8 * j + b)) (xnB I b) (dyB I b)) fun p q => du A (256 * b + p) (704 * j + q) :=
  pay25_is (ct_is H hj hb) (gate_is H hj hb) pay21_is
theorem dg_is : Is (dgOf (I (8 * j + b)) (xnB I b) (dyB I b)) fun p q => dg A (256 * b + p) (704 * j + q) :=
  pay26_is (ct_is H hj hb) (gate_is H hj hb) (up_is H hj hb) pay21_is

end Point

/-- The normalised tokens' cotangent after `j` hidden blocks. -/
theorem dxB_is {b : ℕ} (hb : b < 8) : ∀ j, j ≤ 4 → Is (dxB I b j) fun p k => aPart A (704 * j) (256 * b + p) k
  | 0, _ => by
    intro p k
    rw [dxB, pay12_is]
    simp [aPart]
  | j + 1, h => by
    intro p k
    have hj : j < 4 := h
    beta_reduce
    rw [dxB, Nat.mul_succ, aPart_add]
    exact pay2_is (pay17_is (H.wg j b hj hb)) (pay18_is (H.wu j b hj hb)) (du_is H hj hb) (dg_is H hj hb) (dxB_is hb j (by omega)) p k

section Hidden
variable {j : ℕ} (hj : j < 4)
include hj

/-- The gate weight's gradient after `b` token blocks. -/
theorem aG_is : ∀ b, b ≤ 8 → Is (aG I j b) fun q k => wgPart A (256 * b) (704 * j + q) k
  | 0, _ => by
    intro q k
    rw [aG, pay14_is]
    simp [wgPart]
  | b + 1, h => by
    intro q k
    have hb : b < 8 := h
    beta_reduce
    rw [aG, Nat.mul_succ, wgPart_add]
    exact pay28_is (xnB_is H hb) (dg_is H hj hb) (aG_is b (by omega)) q k

/-- The up weight's gradient after `b` token blocks. -/
theorem aU_is : ∀ b, b ≤ 8 → Is (aU I j b) fun q k => wuPart A (256 * b) (704 * j + q) k
  | 0, _ => by
    intro q k
    rw [aU, pay15_is]
    simp [wuPart]
  | b + 1, h => by
    intro q k
    have hb : b < 8 := h
    beta_reduce
    rw [aU, Nat.mul_succ, wuPart_add]
    exact pay1_is (xnB_is H hb) (du_is H hj hb) (aU_is b (by omega)) (fun _ => zero_word) q k

/-- The down weight's gradient after `b` token blocks. -/
theorem aD_is : ∀ b, b ≤ 8 → Is (aD I j b) fun q k => wdPart A (256 * b) (704 * j + q) k
  | 0, _ => by
    intro q k
    rw [aD, pay16_is]
    simp [wdPart]
  | b + 1, h => by
    intro q k
    have hb : b < 8 := h
    beta_reduce
    rw [aD, Nat.mul_succ, wdPart_add]
    exact pay27_is (dyB_is H hb) (gate_is H hj hb) (up_is H hj hb) pay21_is (aD_is b (by omega)) q k

end Hidden

/-- The norm weight's gradient after `b` token blocks. -/
theorem nwB_is : ∀ b, b ≤ 8 → Is (nwB I b) fun _ k => nwPart A (256 * b) k
  | 0, _ => by
    intro u k
    rw [nwB, pay13_is]
    simp [nwPart]
  | b + 1, h => by
    intro u k
    have hb : b < 8 := h
    beta_reduce
    rw [nwB, Nat.mul_succ, nwPart_add]
    exact pay9_is (H.x 3 b (.inr rfl) hb) (dxB_is H hb 4 (by omega)) (nwB_is b (by omega)) u k

/-- The tokens' gradient of a block. -/
theorem dxOut_is {b : ℕ} (hb : b < 8) :
    Is (k0_pay8 (I (24 + b)).x (I (24 + b)).nw (dxB I b 4) (I (24 + b)).dy) fun p k => dx A (256 * b + p) k :=
  pay8_is (H.x 3 b (.inr rfl) hb) (H.nw _ (by omega)) (dxB_is H hb 4 (by omega)) (H.dy 3 b (.inr rfl) hb)

end Cert.Half

end
-- ==== Proof.Blocks.lean ====
/- The kernel's input blocks, read from the arguments. -/
module

public import proofs.«01_k».proof.Proof.Main
public import proofs.«01_k».proof.Proof.Fold
public import Idealize.ShloMosaic.Lib.Pipeline.ValueKit
public import Idealize.ShloMosaic.Lib.Pointwise
public import Idealize.ShloMosaic.Lib.Claim

@[expose] public section

open Idealize.ShloMosaic Idealize.ShloMosaic.TcCoe Idealize.ShloMosaic.Tactic Idealize.SL.Sem
open Cert.KernelIdeal Cert.KernelIdeal.Gen Cert.KernelIdeal.Hand

noncomputable section

namespace Cert.Half

set_option maxRecDepth 16384

variable (m : (ℓ : Loc nD τ sig) → Buf (Elt Ideal) ℓ) (c : Dev nD)

/-- The token window's block at the first and at the last hidden block. -/
theorem idx0 : ∀ t : Fin cfg0.N, (t.val < 8 ∨ 24 ≤ t.val) → win0_0.index t = ![t.val % 8, 0] := by decide +kernel
/-- The cotangent window's block at the first and at the last hidden block. -/
theorem idx1 : ∀ t : Fin cfg0.N, (t.val < 8 ∨ 24 ≤ t.val) → win0_1.index t = ![t.val % 8, 0] := by decide +kernel
theorem idx2 : ∀ t : Fin cfg0.N, win0_2.index t = ![0, 0] := by decide +kernel
/-- The weight windows' blocks: the hidden block's number. -/
theorem idx3 : ∀ t : Fin cfg0.N, win0_3.index t = ![t.val / 8, 0, 0] := by decide +kernel
theorem idx4 : ∀ t : Fin cfg0.N, win0_4.index t = ![t.val / 8, 0, 0] := by decide +kernel
theorem idx5 : ∀ t : Fin cfg0.N, win0_5.index t = ![t.val / 8, 0, 0] := by decide +kernel

/-- The tokens of a block. -/
theorem blk0 (t : Fin cfg0.N) (ht : t.val < 8 ∨ 24 ≤ t.val) (a : Fin 256) (b : Fin 1024) :
    iblk m c 0 t (ix2 a b) = m ((c : Thread nD τ).loc main_arg0) (ix2 (⟨256 * (t.val % 8) + a.val, by omega⟩ : Fin 2048) b) := by
  have e := idx0 t ht
  blk_ext [iblk, V, e]

theorem blk1 (t : Fin cfg0.N) (ht : t.val < 8 ∨ 24 ≤ t.val) (a : Fin 256) (b : Fin 1024) :
    iblk m c 1 t (ix2 a b) = m ((c : Thread nD τ).loc main_arg1) (ix2 (⟨256 * (t.val % 8) + a.val, by omega⟩ : Fin 2048) b) := by
  have e := idx1 t ht
  blk_ext [iblk, V, e]

/-- The norm weight's row. -/
theorem blk2 (t : Fin cfg0.N) (a : Fin 1) (b : Fin 1024) :
    iblk m c 2 t (ix2 a b) = m ((c : Thread nD τ).loc main_arg2) (ix1 b) := by
  have e := idx2 t
  blk_simp [iblk, e]
  entry_read
  pointwise
  blk_ext [e]

/-- A block of the gate weight: hidden unit `704 j + 352 h + r` of the argument. -/
theorem blk3 (t : Fin cfg0.N) (h : Fin 2) (k : Fin 1024) (r : Fin 352) :
    iblk m c 3 t (ix3 h k r) = m ((c : Thread nD τ).loc main_arg3) (ix2 k (⟨704 * (t.val / 8) + (352 * h.val + r.val), by have := lt_of_lt_of_eq t.isLt N_0; omega⟩ : Fin 2816)) := by
  have e := idx3 t
  blk_simp [iblk, e]
  entry_read
  pointwise
  blk_ext [e]

theorem blk4 (t : Fin cfg0.N) (h : Fin 2) (k : Fin 1024) (r : Fin 352) :
    iblk m c 4 t (ix3 h k r) = m ((c : Thread nD τ).loc main_arg4) (ix2 k (⟨704 * (t.val / 8) + (352 * h.val + r.val), by have := lt_of_lt_of_eq t.isLt N_0; omega⟩ : Fin 2816)) := by
  have e := idx4 t
  blk_simp [iblk, e]
  entry_read
  pointwise
  blk_ext [e]

theorem blk5 (t : Fin cfg0.N) (h : Fin 2) (r : Fin 352) (k : Fin 1024) :
    iblk m c 5 t (ix3 h r k) = m ((c : Thread nD τ).loc main_arg5) (ix2 (⟨704 * (t.val / 8) + (352 * h.val + r.val), by have := lt_of_lt_of_eq t.isLt N_0; omega⟩ : Fin 2816) k) := by
  have e := idx5 t
  blk_simp [iblk, e]
  entry_read
  pointwise
  blk_ext [e]

end Cert.Half

end
-- ==== Proof.Ref.lean ====
/- The reference's results at real arguments: each operation of its program in turn, as the real formula it stands for. -/
module

public import proofs.«01_k».proof.Proof.Gen.ReferenceIdeal.Read
public import proofs.«01_k».proof.Proof.Reals

@[expose] public section

open Idealize.ShloMosaic Cert.ReferenceIdeal Cert.ReferenceIdeal.Gen Cert.ReferenceIdeal.Read

noncomputable section

namespace Cert.Half

open Finset

/-- The six argument arrays hold the real numbers of `A`. -/
structure Holds (A : Args) (x0 x1 : (⟨S2048x1024, .f32⟩ : BufTy).Contents (Elt Ideal)) (x2 : (⟨S1024, .f32⟩ : BufTy).Contents (Elt Ideal))
    (x3 x4 : (⟨S1024x2816, .f32⟩ : BufTy).Contents (Elt Ideal)) (x5 : (⟨S2816x1024, .f32⟩ : BufTy).Contents (Elt Ideal)) : Prop where
  x : ∀ i, x0 i = ((A.x (i 0).val (i 1).val : ℝ) : EReal)
  dy : ∀ i, x1 i = ((A.dy (i 0).val (i 1).val : ℝ) : EReal)
  nw : ∀ i, x2 i = ((A.nw (i 0).val : ℝ) : EReal)
  wg : ∀ i, x3 i = ((A.wg (i 0).val (i 1).val : ℝ) : EReal)
  wu : ∀ i, x4 i = ((A.wu (i 0).val (i 1).val : ℝ) : EReal)
  wd : ∀ i, x5 i = ((A.wd (i 0).val (i 1).val : ℝ) : EReal)

namespace Ref

variable {A : Args} {x0 x1 : (⟨S2048x1024, .f32⟩ : BufTy).Contents (Elt Ideal)} {x2 : (⟨S1024, .f32⟩ : BufTy).Contents (Elt Ideal)}
  {x3 x4 : (⟨S1024x2816, .f32⟩ : BufTy).Contents (Elt Ideal)} {x5 : (⟨S2816x1024, .f32⟩ : BufTy).Contents (Elt Ideal)}
  (H : Holds A x0 x1 x2 x3 x4 x5)

include H

/-- The mean square with the small constant. -/
theorem v6 (i) : val_main_v6 (F := Ideal) x0 i = ((ms (A.x (i 0).val) : ℝ) : EReal) := by
  rw [val_main_v6_apply, val_main_v4_apply, val_main_v2_apply, val_main_v1_apply, val_main_v3_apply, val_main_v5_apply]
  simp only [val_main_cst_apply, val_main_cst_0_apply, val_main_cst_1_apply, val_main_v0_apply, Ideal.mulf_def, Ideal.addf_def, Ideal.hostDivf_def,
    Ideal.ofBits_def, zero_word, thousand_word, eps_word, zero_add, H.x, ← EReal.coe_mul]
  rw [ms, EReal.coe_add, ← div_real (by norm_num), coe_range]

/-- The reciprocal root mean square. -/
theorem v7 (i) : val_main_v7 (F := Ideal) x0 i = ((rinv (A.x (i 0).val) : ℝ) : EReal) := by
  rw [val_main_v7_apply, v6 H]
  exact rsqrt_real (ms_pos _)

theorem v12 (i) : val_main_v12 (F := Ideal) x0 i = ((xh A (i 0).val (i 1).val : ℝ) : EReal) := by
  rw [val_main_v12_apply, val_main_v11_apply, v7 H, H.x, Ideal.mulf_def, ← EReal.coe_mul]
  rfl

theorem v15 (i) : val_main_v15 (F := Ideal) x0 x2 i = ((hn A (i 0).val (i 1).val : ℝ) : EReal) := by
  rw [val_main_v15_apply, v12 H, val_main_v14_apply, val_main_v13_apply, H.nw, Ideal.mulf_def, ← EReal.coe_mul]
  rfl

theorem v16 (i) : val_main_v16 (F := Ideal) x0 x2 x3 i = ((gt A (i 0).val (i 1).val : ℝ) : EReal) := by
  rw [val_main_v16_apply, gt, coe_range]
  refine Finset.sum_congr rfl fun k _ => ?_
  rw [v15 H, H.wg, ← EReal.coe_mul]

theorem v18 (i) : val_main_v18 (F := Ideal) x0 x2 x4 i = ((up A (i 0).val (i 1).val : ℝ) : EReal) := by
  rw [val_main_v18_apply, up, coe_range]
  refine Finset.sum_congr rfl fun k _ => ?_
  rw [v15 H, H.wu, ← EReal.coe_mul]

/-- The gate's logistic. -/
theorem v17_2 (i) : val_main_v17_2 (F := Ideal) x0 x2 x3 i = ((sg (gt A (i 0).val (i 1).val) : ℝ) : EReal) := by
  rw [val_main_v17_2_apply, val_main_call0_v4_apply, val_main_call0_v3_apply, val_main_call0_v2_apply, val_main_call0_v1_apply,
    val_main_call0_v0_apply, v16 H]
  simp only [val_main_call0_cst_apply, val_main_call0_cst_0_apply, Ideal.ofBits_def, one_word]
  exact logistic_real _

/-- The logistic's slope. -/
theorem v17_1 (i) : val_main_v17_1 (F := Ideal) x0 x2 x3 i
    = ((sg (gt A (i 0).val (i 1).val) * (1 - sg (gt A (i 0).val (i 1).val)) : ℝ) : EReal) := by
  rw [val_main_v17_1_apply, val_main_call0_v7_apply, val_main_call0_v6_apply, v17_2 H]
  simp only [val_main_call0_cst_1_apply, Ideal.ofBits_def, one_word, Ideal.mulf_def, Ideal.subf_def, ← EReal.coe_sub, ← EReal.coe_mul]

theorem v17_0 (i) : val_main_v17_0 (F := Ideal) x0 x2 x3 i
    = ((gt A (i 0).val (i 1).val * sg (gt A (i 0).val (i 1).val) : ℝ) : EReal) := by
  rw [val_main_v17_0_apply, v17_2 H, v16 H, Ideal.mulf_def, ← EReal.coe_mul]

theorem v19 (i) : val_main_v19 (F := Ideal) x0 x2 x3 x4 i = ((act A (i 0).val (i 1).val : ℝ) : EReal) := by
  rw [val_main_v19_apply, v17_0 H, v18 H, Ideal.mulf_def, ← EReal.coe_mul]
  rfl

theorem v26 (i) : val_main_v26 (F := Ideal) x1 i = ((dyh A (i 0).val (i 1).val : ℝ) : EReal) := by
  rw [val_main_v26_apply, val_main_v25_apply, val_main_cst_4_apply, val_main_v24_apply, H.dy, Ideal.ofBits_def, half_word, Ideal.mulf_def, ← EReal.coe_mul]
  have h1 : (i 1).val < 1024 := (i 1).isLt
  show ((1 / 2 * A.dy (((i 0).val * 1024 + (i 1).val) / 1024) (((i 0).val * 1024 + (i 1).val) % 1024) : ℝ) : EReal) = _
  rw [show ((i 0).val * 1024 + (i 1).val) / 1024 = (i 0).val by omega, show ((i 0).val * 1024 + (i 1).val) % 1024 = (i 1).val by omega]
  rfl

theorem v29 (i) : val_main_v29 (F := Ideal) x1 x5 i = ((ct A (i 0).val (i 1).val : ℝ) : EReal) := by
  rw [val_main_v29_apply, ct, coe_range]
  refine Finset.sum_congr rfl fun k _ => ?_
  rw [v26 H, H.wd, ← EReal.coe_mul]

theorem v30 (i) : val_main_v30 (F := Ideal) x0 x1 x2 x3 x5 i = ((du A (i 0).val (i 1).val : ℝ) : EReal) := by
  rw [val_main_v30_apply, v17_0 H, v29 H, Ideal.mulf_def, ← EReal.coe_mul, mul_comm]
  rfl

theorem v31 (i) : val_main_v31 (F := Ideal) x0 x1 x2 x4 x5 i
    = ((ct A (i 0).val (i 1).val * up A (i 0).val (i 1).val : ℝ) : EReal) := by
  rw [val_main_v31_apply, v18 H, v29 H, Ideal.mulf_def, ← EReal.coe_mul]

/-- The gate projection's cotangent: the two terms of the product rule make the kernel's factored form. -/
theorem v35 (i) : val_main_v35 (F := Ideal) x0 x1 x2 x3 x4 x5 i = ((dg A (i 0).val (i 1).val : ℝ) : EReal) := by
  rw [val_main_v35_apply, val_main_call1_v1_apply, val_main_call1_v2_apply, val_main_call1_v0_apply, v17_1 H, v17_2 H, v16 H, v31 H]
  simp only [Ideal.mulf_def, Ideal.addf_def, ← EReal.coe_mul, ← EReal.coe_add]
  refine congrArg _ ?_
  unfold dg
  ring

theorem v39 (i) : val_main_v39 (F := Ideal) x0 x1 x2 x3 x4 x5 i = ((an A (i 0).val (i 1).val : ℝ) : EReal) := by
  rw [val_main_v39_apply, val_main_v34_apply, val_main_v38_apply, Ideal.addf_def, an, aPart, Finset.sum_add_distrib, EReal.coe_add, coe_range, coe_range,
    add_comm]
  refine congrArg₂ (· + ·) (Finset.sum_congr rfl fun k _ => ?_) (Finset.sum_congr rfl fun k _ => ?_)
  · rw [v35 H, H.wg, ← EReal.coe_mul]
  · rw [v30 H, H.wu, ← EReal.coe_mul]

theorem v44 (i) : val_main_v44 (F := Ideal) x0 x1 x2 x3 x4 x5 i = ((an A (i 0).val (i 1).val * A.nw (i 1).val : ℝ) : EReal) := by
  rw [val_main_v44_apply, v39 H, val_main_v43_apply, val_main_v13_apply, H.nw, Ideal.mulf_def, ← EReal.coe_mul]

/-- The norm weight's gradient. -/
theorem v69 (i) : val_main_v69 (F := Ideal) x0 x1 x2 x3 x4 x5 i = ((nwPart A 2048 (i 1).val : ℝ) : EReal) := by
  rw [val_main_v69_apply, val_main_v45_apply]
  simp only [val_main_cst_6_apply, Ideal.ofBits_def, zero_word, zero_add, Fin.sum_univ_one]
  rw [val_main_v42_apply, val_main_v41_apply]
  simp only [val_main_cst_5_apply, Ideal.ofBits_def, zero_word, zero_add]
  rw [nwPart, coe_range]
  refine Finset.sum_congr rfl fun k _ => ?_
  rw [val_main_v40_apply, v12 H, v39 H, Ideal.mulf_def, ← EReal.coe_mul, mul_comm]
  show ((an A k.val (0 * 1024 + (i 1).val) * xh A k.val (0 * 1024 + (i 1).val) : ℝ) : EReal) = _
  rw [Nat.zero_mul, Nat.zero_add]

/-- The sum of a token's products with its normalised cotangent. -/
theorem v48 (i) : val_main_v48 (F := Ideal) x0 x1 x2 x3 x4 x5 i
    = ((∑ k ∈ range 1024, A.x (i 0).val k * (an A (i 0).val k * A.nw k) : ℝ) : EReal) := by
  rw [val_main_v48_apply, val_main_v47_apply]
  simp only [val_main_cst_7_apply, Ideal.ofBits_def, zero_word, zero_add]
  rw [coe_range]
  refine Finset.sum_congr rfl fun k _ => ?_
  rw [val_main_v46_apply, v44 H, H.x, Ideal.mulf_def, ← EReal.coe_mul]
  have h1 : (i 1).val < 1 := (i 1).isLt
  show ((A.x ((i 0).val * 1 + (i 1).val) k.val * (an A ((i 0).val * 1 + (i 1).val) k.val * A.nw k.val) : ℝ) : EReal) = _
  rw [show (i 0).val * 1 + (i 1).val = (i 0).val by omega]

theorem v10 (i) : val_main_v10 (F := Ideal) x0 i = ((-(1 / 2) * (rinv (A.x (i 0).val) / ms (A.x (i 0).val)) : ℝ) : EReal) := by
  rw [val_main_v10_apply, val_main_v9_apply, val_main_cst_2_apply, val_main_v8_apply, v7 H, v6 H, Ideal.ofBits_def, neg_half_word, Ideal.hostDivf_def,
    div_real (ms_pos _).ne', Ideal.mulf_def, ← EReal.coe_mul]

theorem v56 (i) : val_main_v56 (F := Ideal) x0 x1 x2 x3 x4 x5 i
    = (((∑ k ∈ range 1024, A.x (i 0).val k * (an A (i 0).val k * A.nw k)) * (-(1 / 2) * (rinv (A.x (i 0).val) / ms (A.x (i 0).val))) / 1024 : ℝ) : EReal) := by
  rw [val_main_v56_apply, val_main_v55_apply]
  simp only [val_main_cst_9_apply, Ideal.ofBits_def, zero_word, zero_add, Fin.sum_univ_one]
  rw [val_main_v54_apply, val_main_v52_apply, v48 H, v10 H, val_main_v53_apply, val_main_cst_8_apply, Ideal.ofBits_def, thousand_word, Ideal.mulf_def,
    ← EReal.coe_mul, Ideal.hostDivf_def, div_real (by norm_num)]

omit H in
/-- The norm's gradient as the reference's transposition writes it is the one formula `dx`. -/
theorem dx_eq (A : Args) (i k : ℕ) (q : ℝ)
    (hq : q = (∑ k ∈ range 1024, A.x i k * (an A i k * A.nw k)) * (-(1 / 2) * (rinv (A.x i) / ms (A.x i))) / 1024) :
    A.dy i k + an A i k * A.nw k * rinv (A.x i) + A.x i k * q + q * A.x i k = dx A i k := by
  have hd : dotw A i = (∑ k ∈ range 1024, A.x i k * (an A i k * A.nw k)) * rinv (A.x i) := by
    rw [dotw, Finset.sum_mul]
    exact Finset.sum_congr rfl fun k _ => by rw [xh]; ring
  rw [dx, hd, xh, hq, div_eq_mul_inv (rinv _), ← rinv_sq]
  ring

/-- The tokens' gradient. -/
theorem v60 (i) : val_main_v60 (F := Ideal) x0 x1 x2 x3 x4 x5 i = ((dx A (i 0).val (i 1).val : ℝ) : EReal) := by
  rw [val_main_v60_apply, val_main_v58_apply, val_main_v51_apply, val_main_v50_apply, val_main_v49_apply, val_main_v57_apply, val_main_v59_apply,
    v44 H, v7 H, v56 H, H.x, H.dy]
  simp only [Ideal.mulf_def, Ideal.addf_def, ← EReal.coe_mul, ← EReal.coe_add]
  exact congrArg _ (dx_eq A _ _ _ rfl)

/-- The gate weight's gradient. -/
theorem v63 (i) : val_main_v63 (F := Ideal) x0 x1 x2 x3 x4 x5 i = ((wgPart A 2048 ((i 0).val * 352 + (i 1).val) (i 2).val : ℝ) : EReal) := by
  rw [val_main_v63_apply, val_main_v62_apply, val_main_v61_apply, val_main_v37_apply, val_main_v36_apply, wgPart, coe_range, Ideal.truncf_def]
  refine Finset.sum_congr rfl fun k _ => ?_
  rw [v35 H, v15 H, ← EReal.coe_mul]
  have h2 : (i 2).val < 1024 := (i 2).isLt
  show ((dg A k.val ((((i 0).val * 352 + (i 1).val) * 1024 + (i 2).val) / 1024) * hn A k.val ((((i 0).val * 352 + (i 1).val) * 1024 + (i 2).val) % 1024) : ℝ) : EReal) = _
  rw [show (((i 0).val * 352 + (i 1).val) * 1024 + (i 2).val) / 1024 = (i 0).val * 352 + (i 1).val by omega,
    show (((i 0).val * 352 + (i 1).val) * 1024 + (i 2).val) % 1024 = (i 2).val by omega]

/-- The up weight's gradient. -/
theorem v66 (i) : val_main_v66 (F := Ideal) x0 x1 x2 x3 x5 i = ((wuPart A 2048 ((i 0).val * 352 + (i 1).val) (i 2).val : ℝ) : EReal) := by
  rw [val_main_v66_apply, val_main_v65_apply, val_main_v64_apply, val_main_v33_apply, val_main_v32_apply, wuPart, coe_range, Ideal.truncf_def]
  refine Finset.sum_congr rfl fun k _ => ?_
  rw [v30 H, v15 H, ← EReal.coe_mul]
  have h2 : (i 2).val < 1024 := (i 2).isLt
  show ((du A k.val ((((i 0).val * 352 + (i 1).val) * 1024 + (i 2).val) / 1024) * hn A k.val ((((i 0).val * 352 + (i 1).val) * 1024 + (i 2).val) % 1024) : ℝ) : EReal) = _
  rw [show (((i 0).val * 352 + (i 1).val) * 1024 + (i 2).val) / 1024 = (i 0).val * 352 + (i 1).val by omega,
    show (((i 0).val * 352 + (i 1).val) * 1024 + (i 2).val) % 1024 = (i 2).val by omega]

/-- The down weight's gradient. -/
theorem v68 (i) : val_main_v68 (F := Ideal) x0 x1 x2 x3 x4 i = ((wdPart A 2048 ((i 0).val * 352 + (i 1).val) (i 2).val : ℝ) : EReal) := by
  rw [val_main_v68_apply, val_main_v67_apply, val_main_v28_apply, val_main_v27_apply, wdPart, coe_range, Ideal.truncf_def]
  refine Finset.sum_congr rfl fun k _ => ?_
  rw [v26 H, v19 H, ← EReal.coe_mul, mul_comm]
  have h2 : (i 2).val < 1024 := (i 2).isLt
  show ((act A k.val ((((i 0).val * 352 + (i 1).val) * 1024 + (i 2).val) / 1024) * dyh A k.val ((((i 0).val * 352 + (i 1).val) * 1024 + (i 2).val) % 1024) : ℝ) : EReal) = _
  rw [show (((i 0).val * 352 + (i 1).val) * 1024 + (i 2).val) / 1024 = (i 0).val * 352 + (i 1).val by omega,
    show (((i 0).val * 352 + (i 1).val) * 1024 + (i 2).val) % 1024 = (i 2).val by omega]

end Ref

end Cert.Half

end
-- ==== Proof.Outs.lean ====
/- The kernel's results on arguments of real numbers: the real gradients. -/
module

public import proofs.«01_k».proof.Proof.Blocks
public import proofs.«01_k».proof.Proof.Ref

@[expose] public section

open Idealize.ShloMosaic Idealize.ShloMosaic.TcCoe Idealize.ShloMosaic.Tactic Idealize.SL.Sem
open Cert.KernelIdeal Cert.KernelIdeal.Gen Cert.KernelIdeal.Hand

noncomputable section

namespace Cert.Half

set_option maxRecDepth 16384

variable (m : (ℓ : Loc nD τ sig) → Buf (Elt Ideal) ℓ) (c : Dev nD)

/-- Device `c`'s arguments hold the real numbers of `A`. -/
abbrev Real (A : Args) : Prop :=
  Holds A (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- Point `8 j + b` as a point of the grid. -/
theorem pt_at {n : ℕ} (h : n < 32) : (pt n).val = n := Nat.mod_eq_of_lt h

variable {m c} {A : Args} (H : Real m c A)

include H

omit H in
theorem ins_x (n : ℕ) : (ins m c n).x = iblk m c 0 (pt n) := rfl
omit H in
theorem ins_dy (n : ℕ) : (ins m c n).dy = iblk m c 1 (pt n) := rfl
omit H in
theorem ins_nw (n : ℕ) : (ins m c n).nw = iblk m c 2 (pt n) := rfl
omit H in
theorem ins_wg (n : ℕ) : (ins m c n).wg = iblk m c 3 (pt n) := rfl
omit H in
theorem ins_wu (n : ℕ) : (ins m c n).wu = iblk m c 4 (pt n) := rfl
omit H in
theorem ins_wd (n : ℕ) : (ins m c n).wd = iblk m c 5 (pt n) := rfl

/-- So the kernel's input blocks hold the blocks of `A`. -/
theorem feeds : Feeds A (ins m c) where
  x := fun j b hj hb p k => by
    have e := pt_at (n := 8 * j + b) (by omega)
    have q := blk0 m c (pt (8 * j + b)) (by omega) p k
    rw [H.x, ix2_0, ix2_1] at q
    simp only [e] at q
    rw [show (8 * j + b) % 8 = b by omega] at q
    rw [ins_x]
    exact q
  dy := fun j b hj hb p k => by
    have e := pt_at (n := 8 * j + b) (by omega)
    have q := blk1 m c (pt (8 * j + b)) (by omega) p k
    rw [H.dy, ix2_0, ix2_1] at q
    simp only [e] at q
    rw [show (8 * j + b) % 8 = b by omega] at q
    rw [ins_dy]
    exact q
  nw := fun n _ u k => by
    rw [ins_nw]
    exact (blk2 m c (pt n) u k).trans ((H.nw _).trans rfl)
  wg := fun j b hj hb h k r => by
    have e := pt_at (n := 8 * j + b) (by omega)
    have q := blk3 m c (pt (8 * j + b)) h k r
    rw [H.wg, ix2_0, ix2_1] at q
    simp only [e] at q
    rw [show (8 * j + b) / 8 = j by omega] at q
    rw [ins_wg]
    exact q
  wu := fun j b hj hb h k r => by
    have e := pt_at (n := 8 * j + b) (by omega)
    have q := blk4 m c (pt (8 * j + b)) h k r
    rw [H.wu, ix2_0, ix2_1] at q
    simp only [e] at q
    rw [show (8 * j + b) / 8 = j by omega] at q
    rw [ins_wu]
    exact q
  wd := fun j b hj hb h r k => by
    have e := pt_at (n := 8 * j + b) (by omega)
    have q := blk5 m c (pt (8 * j + b)) h r k
    rw [H.wd, ix2_0, ix2_1] at q
    simp only [e] at q
    rw [show (8 * j + b) / 8 = j by omega] at q
    rw [ins_wd]
    exact q

omit H in
theorem idx6 : ∀ t : Fin cfg0.N, 24 ≤ t.val → win0_6.index t = ![t.val % 8, 0] := by decide +kernel
omit H in
theorem idx7 : ∀ t : Fin cfg0.N, win0_7.index t = ![t.val / 8, 0, 0] := by decide +kernel
omit H in
theorem idx8 : ∀ t : Fin cfg0.N, win0_8.index t = ![t.val / 8, 0, 0] := by decide +kernel
omit H in
theorem idx9 : ∀ t : Fin cfg0.N, win0_9.index t = ![t.val / 8, 0, 0] := by decide +kernel

/-- The tokens' gradient. -/
theorem out6 : (dats m 0 c).arrAt 6 (cfgs 0).N = fun i => ((dx A (i 0).val (i 1).val : ℝ) : EReal) := by
  refine (dats m 0 c).arrAt_eq_of_covers 6 _ (by decide +kernel) fun t hf y => ?_
  have h24 : 24 ≤ t.val := (fl6 t).mp hf
  have h32 : t.val < 32 := lt_of_lt_of_eq t.isLt N_0
  have e := idx6 t h24
  blk_simp [e]
  rw [after_6]
  have hb : t.val % 8 < 8 := Nat.mod_lt _ (by decide)
  have h := dxOut_is (feeds H) hb
  rw [show 24 + t.val % 8 = t.val by omega] at h
  idx_vars y
  refine (h _ _).trans ?_
  simp only [ix2_0, ix2_1]
  congr 2 <;> omega

omit H in
/-- A weight's gradient regrouped from 704 hidden units to two blocks of 352. -/
theorem regroup (v : Vec Ideal S704x1024 .f32) (h : Fin 2) (r : Fin 352) (k : Fin 1024) :
    k0_pay3 v (ix3 h r k) = v (ix2 (⟨352 * h.val + r.val, by omega⟩ : Fin 704) k) := by
  pointwise [k0_pay3]
  blk_ext []

omit H in
theorem regroup4 (v : Vec Ideal S704x1024 .f32) : k0_pay4 v = k0_pay3 v := rfl
omit H in
theorem regroup5 (v : Vec Ideal S704x1024 .f32) : k0_pay5 v = k0_pay3 v := rfl

/-- The gate weight's gradient. -/
theorem out7 : (dats m 0 c).arrAt 7 (cfgs 0).N = fun i => ((wgPart A 2048 ((i 0).val * 352 + (i 1).val) (i 2).val : ℝ) : EReal) := by
  refine (dats m 0 c).arrAt_eq_of_covers 7 _ (by decide +kernel) fun t hf y => ?_
  have h32 : t.val < 32 := lt_of_lt_of_eq t.isLt N_0
  have e := idx7 t
  blk_simp [e]
  rw [after_7]
  have h := aG_is (feeds H) (j := t.val / 8) (by omega) 8 le_rfl
  idx_vars y
  rw [regroup]
  refine (h _ _).trans ?_
  simp only [ix3_0, ix3_1, ix3_2]
  congr 2 <;> omega

/-- The up weight's gradient. -/
theorem out8 : (dats m 0 c).arrAt 8 (cfgs 0).N = fun i => ((wuPart A 2048 ((i 0).val * 352 + (i 1).val) (i 2).val : ℝ) : EReal) := by
  refine (dats m 0 c).arrAt_eq_of_covers 8 _ (by decide +kernel) fun t hf y => ?_
  have h32 : t.val < 32 := lt_of_lt_of_eq t.isLt N_0
  have e := idx8 t
  blk_simp [e]
  rw [after_8]
  have h := aU_is (feeds H) (j := t.val / 8) (by omega) 8 le_rfl
  idx_vars y
  rw [regroup4, regroup]
  refine (h _ _).trans ?_
  simp only [ix3_0, ix3_1, ix3_2]
  congr 2 <;> omega

/-- The down weight's gradient. -/
theorem out9 : (dats m 0 c).arrAt 9 (cfgs 0).N = fun i => ((wdPart A 2048 ((i 0).val * 352 + (i 1).val) (i 2).val : ℝ) : EReal) := by
  refine (dats m 0 c).arrAt_eq_of_covers 9 _ (by decide +kernel) fun t hf y => ?_
  have h32 : t.val < 32 := lt_of_lt_of_eq t.isLt N_0
  have e := idx9 t
  blk_simp [e]
  rw [after_9]
  have h := aD_is (feeds H) (j := t.val / 8) (by omega) 8 le_rfl
  idx_vars y
  rw [regroup5, regroup]
  refine (h _ _).trans ?_
  simp only [ix3_0, ix3_1, ix3_2]
  congr 2 <;> omega

/-- The norm weight's gradient. -/
theorem out10 : (dats m 0 c).arrAt 10 (cfgs 0).N = fun i => ((nwPart A 2048 (i 1).val : ℝ) : EReal) := by
  refine (dats m 0 c).arrAt_eq_of_after_last 10 (pt 31) (by decide +kernel) _ fun j => ?_
  rw [after_10]
  idx_vars j
  have h := nwB_is (feeds H) 8 le_rfl
  exact h _ _

end Cert.Half

end
-- ==== Proof.Finite.lean ====
/- The precondition in words of real numbers: arguments whose entries are all finite hold real numbers. -/
module

public import proofs.«01_k».proof.Defs
public import proofs.«01_k».proof.Proof.Outs

@[expose] public section

open Idealize.ShloMosaic Idealize.ShloMosaic.TcCoe Idealize.ShloMosaic.Tactic Idealize.SL.Sem
open Cert.KernelIdeal Cert.KernelIdeal.Gen

noncomputable section

namespace Cert.Half

set_option maxRecDepth 16384

/-- The shape relations of the precondition's broadcasts. -/
instance preFacts : Cert.Pre_finite.Facts where
  bcast_S_S2048x1024 := by decide
  bcast_S_S1024 := by decide
  bcast_S_S1024x2816 := by decide
  bcast_S_S2816x1024 := by decide

/-- The word of the bound is `+∞`. -/
theorem top_word : Ideal.ofBits .f32 0x7F800000#32 = ⊤ := by
  simp [Ideal.ofBits, Ideal.ieee]

/-- An extended real of absolute value below `+∞` is a real. -/
theorem real_of_lt {x : EReal} (h : max x (-x) < ⊤) : x = ((x.toReal : ℝ) : EReal) := by
  refine (EReal.coe_toReal ?_ ?_).symm
  · rintro rfl; simp at h
  · rintro rfl; simp at h

/-- An array whose finiteness test is all ones holds reals. -/
theorem real_of_test {s : Shape} (h0 : Cert.Pre_finite.S_.BroadcastsInDim s (![] : Fin 0 → Fin s.rank)) (v : FVec Ideal s .f32)
    (h : cmpf .olt (Host.absf v) (broadcastInDim s ![] h0 (constant Cert.Pre_finite.S_ .f32 0x7F800000#32)) = fun _ => 1#1) (i : s.Idx) :
    v i = (((v i : EReal).toReal : ℝ) : EReal) := by
  have e := congrFun h i
  have e' : BitVec.ofBool (decide (max (v i : EReal) (-(v i : EReal)) < Ideal.ofBits .f32 0x7F800000#32)) = 1#1 := e
  rw [top_word] at e'
  refine real_of_lt ?_
  by_contra hn
  rw [decide_eq_false hn] at e'
  exact absurd e' (by decide)

variable (m : (ℓ : Loc nD τ sig) → Buf (Elt Ideal) ℓ)

/-- An index of natural numbers, kept inside a rank-2 array. -/
def at2 {a b : ℕ} (ha : 0 < a) (hb : 0 < b) (i j : ℕ) : (⟨2, ![a, b]⟩ : Shape).Idx :=
  ix2 (⟨i % a, Nat.mod_lt _ ha⟩ : Fin a) (⟨j % b, Nat.mod_lt _ hb⟩ : Fin b)

theorem at2_val {a b : ℕ} (ha : 0 < a) (hb : 0 < b) (i : (⟨2, ![a, b]⟩ : Shape).Idx) : at2 ha hb (i 0).val (i 1).val = i := by
  obtain ⟨p, q, rfl⟩ : ∃ (p : Fin a) (q : Fin b), i = ix2 p q := ⟨i 0, i 1, eq_ix2 i⟩
  unfold at2
  simp only [ix2_0, ix2_1]
  congr 1 <;> exact Fin.ext (Nat.mod_eq_of_lt (Fin.isLt _))

/-- The real numbers device `c`'s arguments hold. -/
def reals (c : Dev nD) : Args where
  x i j := EReal.toReal (m ((c : Thread nD τ).loc main_arg0) (at2 (a := 2048) (b := 1024) (by decide) (by decide) i j))
  dy i j := EReal.toReal (m ((c : Thread nD τ).loc main_arg1) (at2 (a := 2048) (b := 1024) (by decide) (by decide) i j))
  nw i := EReal.toReal (m ((c : Thread nD τ).loc main_arg2) (ix1 (⟨i % 1024, Nat.mod_lt _ (by decide)⟩ : Fin 1024)))
  wg i j := EReal.toReal (m ((c : Thread nD τ).loc main_arg3) (at2 (a := 1024) (b := 2816) (by decide) (by decide) i j))
  wu i j := EReal.toReal (m ((c : Thread nD τ).loc main_arg4) (at2 (a := 1024) (b := 2816) (by decide) (by decide) i j))
  wd i j := EReal.toReal (m ((c : Thread nD τ).loc main_arg5) (at2 (a := 2816) (b := 1024) (by decide) (by decide) i j))

/-- Finite arguments hold those real numbers. -/
theorem real_of_pre (h : Pre_KernelIdeal_finite m) (c : Dev nD) : Real m c (reals m c) := by
  obtain ⟨h0, h1, h2, h3, h4, h5⟩ := h c
  refine ⟨fun i => ?_, fun i => ?_, fun i => ?_, fun i => ?_, fun i => ?_, fun i => ?_⟩
  · refine (real_of_test _ _ h0 i).trans ?_
    unfold reals; dsimp only; rw [at2_val]
  · refine (real_of_test _ _ h1 i).trans ?_
    unfold reals; dsimp only; rw [at2_val]
  · refine (real_of_test _ _ h2 i).trans ?_
    unfold reals; dsimp only
    congr 3
    obtain ⟨a, rfl⟩ : ∃ a : Fin 1024, i = ix1 a := ⟨i 0, eq_ix1 i⟩
    congr 1; exact Fin.ext (Nat.mod_eq_of_lt a.isLt).symm
  · refine (real_of_test _ _ h3 i).trans ?_
    unfold reals; dsimp only; rw [at2_val]
  · refine (real_of_test _ _ h4 i).trans ?_
    unfold reals; dsimp only; rw [at2_val]
  · refine (real_of_test _ _ h5 i).trans ?_
    unfold reals; dsimp only; rw [at2_val]

end Cert.Half

end
-- ==== Proof.Value.lean ====
/- The value claim: on finite arguments the kernel's five results are the reference's. -/
module

public import proofs.«01_k».proof.Proof.Finite
public import proofs.«01_k».proof.Proof.Gen.ReferenceIdeal.Run

@[expose] public section

open Idealize.ShloMosaic Idealize.ShloMosaic.TcCoe Idealize.ShloMosaic.Tactic Idealize.SL.Sem
open Cert.KernelIdeal Cert.KernelIdeal.Gen Cert.KernelIdeal.Hand

noncomputable section

namespace Cert.Half

set_option maxRecDepth 16384

/-- The idealized kernel's run: every result is the real gradient, the arguments are as before. -/
theorem kernel_values (m : (ℓ : Loc nD τ sig) → Buf (Elt Ideal) ℓ) (g : Dev nD → PrngReg) (A : Dev nD → Args) (H : ∀ c, Real m c (A c)) :
    θ_run (defs (F := Ideal)) (onTc (τ := τ) (main (F := Ideal))) ⟨m, fun _ => 0, g⟩ (fun r => ∀ c : Dev nD,
      r.2.mem ((c.tc : Thread nD τ).loc main_v9_0) = (fun i => ((dx (A c) (i 0).val (i 1).val : ℝ) : EReal))
      ∧ r.2.mem ((c.tc : Thread nD τ).loc main_v9_1) = (fun i => ((wgPart (A c) 2048 ((i 0).val * 352 + (i 1).val) (i 2).val : ℝ) : EReal))
      ∧ r.2.mem ((c.tc : Thread nD τ).loc main_v9_2) = (fun i => ((wuPart (A c) 2048 ((i 0).val * 352 + (i 1).val) (i 2).val : ℝ) : EReal))
      ∧ r.2.mem ((c.tc : Thread nD τ).loc main_v9_3) = (fun i => ((wdPart (A c) 2048 ((i 0).val * 352 + (i 1).val) (i 2).val : ℝ) : EReal))
      ∧ r.2.mem ((c.tc : Thread nD τ).loc main_v9_4) = (fun i => ((nwPart (A c) 2048 (i 1).val : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun _ h c => ⟨((h.1 c).1 6).trans (out6 (H c)), ((h.1 c).1 7).trans (out7 (H c)), ((h.1 c).1 8).trans (out8 (H c)),
    ((h.1 c).1 9).trans (out9 (H c)), ((h.1 c).1 10).trans (out10 (H c)), h.2.1 c⟩) (θ_run_and (run_main m g) (frame_main m g))

/-- The reference's run: every result is the real gradient, the arguments are as before. -/
theorem reference_values (m : (ℓ : Loc Cert.ReferenceIdeal.nD Cert.ReferenceIdeal.τ Cert.ReferenceIdeal.sig) → Buf (Elt Ideal) ℓ)
    (g : Dev Cert.ReferenceIdeal.nD → PrngReg) (A : Dev Cert.ReferenceIdeal.nD → Args)
    (H : ∀ c, Holds (A c) (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg1))
      (m ((c.tc : Thread Cert.ReferenceIdeal.nD Cert.ReferenceIdeal.τ).loc Cert.ReferenceIdeal.main_arg2))
      (m ((c.tc : Thread Cert.ReferenceIdeal.nD Cert.ReferenceIdeal.τ).loc Cert.ReferenceIdeal.main_arg3))
      (m ((c.tc : Thread Cert.ReferenceIdeal.nD Cert.ReferenceIdeal.τ).loc Cert.ReferenceIdeal.main_arg4))
      (m ((c.tc : Thread Cert.ReferenceIdeal.nD Cert.ReferenceIdeal.τ).loc Cert.ReferenceIdeal.main_arg5))) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
      r.2.mem ((c.tc : Thread Cert.ReferenceIdeal.nD Cert.ReferenceIdeal.τ).loc Cert.ReferenceIdeal.main_v60) = (fun i => ((dx (A c) (i 0).val (i 1).val : ℝ) : EReal))
      ∧ r.2.mem ((c.tc : Thread Cert.ReferenceIdeal.nD Cert.ReferenceIdeal.τ).loc Cert.ReferenceIdeal.main_v63) = (fun i => ((wgPart (A c) 2048 ((i 0).val * 352 + (i 1).val) (i 2).val : ℝ) : EReal))
      ∧ r.2.mem ((c.tc : Thread Cert.ReferenceIdeal.nD Cert.ReferenceIdeal.τ).loc Cert.ReferenceIdeal.main_v66) = (fun i => ((wuPart (A c) 2048 ((i 0).val * 352 + (i 1).val) (i 2).val : ℝ) : EReal))
      ∧ r.2.mem ((c.tc : Thread Cert.ReferenceIdeal.nD Cert.ReferenceIdeal.τ).loc Cert.ReferenceIdeal.main_v68) = (fun i => ((wdPart (A c) 2048 ((i 0).val * 352 + (i 1).val) (i 2).val : ℝ) : EReal))
      ∧ r.2.mem ((c.tc : Thread Cert.ReferenceIdeal.nD Cert.ReferenceIdeal.τ).loc Cert.ReferenceIdeal.main_v69) = (fun i => ((nwPart (A c) 2048 (i 1).val : ℝ) : EReal))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)) :=
  (θ_run _ _ _).mono (fun _ h c =>
    ⟨((h c).1.trans (Cert.ReferenceIdeal.Read.val_main_v60_eq m c)).trans (funext (Ref.v60 (H c))),
      ((h c).2.1.trans (Cert.ReferenceIdeal.Read.val_main_v63_eq m c)).trans (funext (Ref.v63 (H c))),
      ((h c).2.2.1.trans (Cert.ReferenceIdeal.Read.val_main_v66_eq _ _ _ _ _)).trans (funext (Ref.v66 (H c))),
      ((h c).2.2.2.1.trans (Cert.ReferenceIdeal.Read.val_main_v68_eq _ _ _ _ _)).trans (funext (Ref.v68 (H c))),
      ((h c).2.2.2.2.1.trans (Cert.ReferenceIdeal.Read.val_main_v69_eq m c)).trans (funext (Ref.v69 (H c))),
      (h c).2.2.2.2.2⟩) (Cert.ReferenceIdeal.Value.run m g)

/-- On finite arguments the idealized kernel and the idealized reference end with the same five gradients, at every device. -/
theorem values : Cert.algebraic_KernelIdeal_ReferenceIdeal_pre_finite := by
  intro m g m' g' hp ha
  have H := real_of_pre m hp
  refine ⟨_, _, _, _, _, kernel_values m g (reals m) H, reference_values m' g' (reals m) fun c => ?_⟩
  obtain ⟨a0, a1, a2, a3, a4, a5⟩ := ha c
  rw [a0, a1, a2, a3, a4, a5]
  exact H c

end Cert.Half

end
-- ==== Proof.Same.lean ====
/- The printed kernel and its idealized print have one text: their body tables are one table, so a run of the one is a run of the other. -/
module

public import proofs.«01_k».proof.Proof.Gen.Kernel
public import proofs.«01_k».proof.Proof.Gen.KernelIdeal

@[expose] public section

open Idealize.ShloMosaic Idealize.SL.Sem

namespace Cert.Same

variable {F : FTy → Type} [FloatOps F]

set_option maxRecDepth 65536

/-- The kernels' body tables agree at their one label. -/
theorem bodies_eq : @Cert.Kernel.defs₀ F _ _ = @Cert.KernelIdeal.defs₀ F _ _ := by
  unfold Cert.Kernel.defs₀ Cert.KernelIdeal.defs₀
  refine congrArg (Defs.onTc (nD := Cert.KernelIdeal.nD) (τ := Cert.KernelIdeal.τ) (sig := Cert.KernelIdeal.sig) (Val := Elt F) (Λ := Cert.KernelIdeal.Λ₀)) ?_
  funext ℓ a
  match ℓ, a with
  | 0, (t, s) => rfl

/-- The whole tables agree. -/
theorem defs_eq : @Cert.Kernel.defs F _ _ = @Cert.KernelIdeal.defs F _ _ := by
  unfold Cert.Kernel.defs Cert.KernelIdeal.defs
  rw [← bodies_eq]
  rfl

/-- The two @main are one program. -/
theorem main_eq : @Cert.Kernel.main F _ _ = @Cert.KernelIdeal.main F _ _ := rfl

/-- A run of the idealized print, at any float values, is a run of the printed kernel at those values. -/
theorem run_of_ideal (s : MemSt Cert.KernelIdeal.nD Cert.KernelIdeal.τ Cert.KernelIdeal.sig (Elt F)) (Q)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  have e := congrFun (congr (congrArg (fun d p => θ_run d (onTc (τ := Cert.KernelIdeal.τ) p)) (defs_eq (F := F)).symm) (main_eq (F := F)).symm) s
  exact Eq.mp (congrArg (fun k => k Q) e) h

end Cert.Same

end
-- ==== Proof.Norm.lean ====
/- The root-mean-square norm of one token over the extended reals. -/
module

public import Idealize.ShloMosaic.Lib.Pointwise

@[expose] public section

open Idealize.ShloMosaic

noncomputable section

namespace Cert

/-- A token's entries over the root of their mean square with the small constant, times the norm weight. -/
def normed (f g : Fin 1024 → EReal) (k : Fin 1024) : EReal :=
  f k * Ideal.rsqrt (Ideal.div (∑ j : Fin 1024, f j * f j) (Ideal.ofBits .f32 0x44800000#32) + Ideal.ofBits .f32 0x358637BD#32) * g k

end Cert

end
-- ==== Proof.Feed.lean ====
/- The feed-forward layer: what the kernel accumulates over four blocks of hidden units is the reference's sum over all of them, whatever the arguments. -/
module

public import proofs.«01_k».proof.Defs
public import proofs.«01_k».proof.Proof.Gen.FeedIdeal
public import proofs.«01_k».proof.Proof.Gen.FeedIdeal.Value
public import proofs.«01_k».proof.Proof.Gen.FeedReferenceIdeal
public import proofs.«01_k».proof.Proof.Gen.FeedReferenceIdeal.Run
public import proofs.«01_k».proof.Proof.Gen.FeedReferenceIdeal.Read
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Lib.Pipeline.ValueKit.Held
public import proofs.«01_k».proof.Proof.Norm

@[expose] public section

open Idealize.ShloMosaic Idealize.ShloMosaic.TcCoe Idealize.ShloMosaic.Tactic Idealize.SL.Sem
open Cert.FeedIdeal Cert.FeedIdeal.Gen

noncomputable section

namespace Cert.FeedClaim

set_option maxRecDepth 16384

variable (m : (ℓ : Loc nD τ sig) → Buf (Elt Ideal) ℓ) (c : Dev nD)

theorem idx0 : ∀ t : Fin cfg0.N, win0_0.index t = ![t.val / 4, 0] := by decide +kernel
theorem idx1 : ∀ t : Fin cfg0.N, win0_1.index t = ![0, 0] := by decide +kernel
theorem idx2 : ∀ t : Fin cfg0.N, win0_2.index t = ![t.val % 4, 0, 0] := by decide +kernel
theorem idx3 : ∀ t : Fin cfg0.N, win0_3.index t = ![t.val % 4, 0, 0] := by decide +kernel
theorem idx4 : ∀ t : Fin cfg0.N, win0_4.index t = ![t.val % 4, 0, 0] := by decide +kernel
theorem idx5 : ∀ t : Fin cfg0.N, win0_5.index t = ![t.val / 4, 0] := by decide +kernel

/-- The bound of a block's rows, -/
theorem rows_lt (t : Fin cfg0.N) (p : Fin 1024) : 1024 * (t.val / 4) + p.val < 2048 := by
  have : t.val < 8 := lt_of_lt_of_eq t.isLt N_0
  omega

/-- and of a block's hidden units. -/
theorem units_lt (t : ℕ) (l : Fin 704) : t % 4 * 704 + l.val < 2816 := by
  omega

/-- A block of tokens, -/
theorem blk0 (t : Fin cfg0.N) (p k : Fin 1024) : iblk m c 0 t (ix2 p k) = m ((c : Thread nD τ).loc main_arg0) (ix2 (⟨1024 * (t.val / 4) + p.val, rows_lt t p⟩ : Fin 2048) k) := by
  have e := idx0 t
  blk_ext [iblk, V, e]

/-- the norm weight, -/
theorem blk1 (t : Fin cfg0.N) (a : Fin 1) (k : Fin 1024) : iblk m c 1 t (ix2 a k) = m ((c : Thread nD τ).loc main_arg1) (ix1 k) := by
  have e := idx1 t
  blk_simp [iblk, e]
  entry_read
  pointwise
  blk_ext [e]

/-- a block of the gate's weights, -/
theorem blk2 (t : Fin cfg0.N) (d : Fin 2) (k : Fin 1024) (l : Fin 352) : iblk m c 2 t (ix3 d k l) = m ((c : Thread nD τ).loc main_arg2) (ix2 k (⟨t.val % 4 * 704 + (352 * d.val + l.val), by omega⟩ : Fin 2816)) := by
  have e := idx2 t
  blk_simp [iblk, e]
  entry_read
  pointwise
  blk_ext [e]

/-- of the other projection's, -/
theorem blk3 (t : Fin cfg0.N) (d : Fin 2) (k : Fin 1024) (l : Fin 352) : iblk m c 3 t (ix3 d k l) = m ((c : Thread nD τ).loc main_arg3) (ix2 k (⟨t.val % 4 * 704 + (352 * d.val + l.val), by omega⟩ : Fin 2816)) := by
  have e := idx3 t
  blk_simp [iblk, e]
  entry_read
  pointwise
  blk_ext [e]

/-- and of the last projection's. -/
theorem blk4 (t : Fin cfg0.N) (d : Fin 2) (l : Fin 352) (q : Fin 1024) : iblk m c 4 t (ix3 d l q) = m ((c : Thread nD τ).loc main_arg4) (ix2 (⟨t.val % 4 * 704 + (352 * d.val + l.val), by omega⟩ : Fin 2816) q) := by
  have e := idx4 t
  blk_simp [iblk, e]
  entry_read
  pointwise
  blk_ext [e]

/-- A hidden unit's activation from a token's normed entries and the unit's weights: the gate's value times its logistic times the other projection. -/
def act (n g u : Fin 1024 → EReal) : EReal :=
  (∑ k, n k * g k) * Ideal.div 1 (1 + Ideal.exp (-(∑ k, n k * g k))) * ∑ k, n k * u k

/-- Two blocks of weights side by side. -/
def cat (a b : Vec Ideal S1x1024x352 .bf16) : Vec Ideal S1024x704 .bf16 :=
  concatenate S1024x704 1 [⟨S1024x352, shapeCast S1024x352 a shapeCasts_S1x1024x352_S1024x352⟩, ⟨S1024x352, shapeCast S1024x352 b shapeCasts_S1x1024x352_S1024x352⟩] concatenates_S1024x352_S1024x352_S1024x704_d1

theorem cat_left (a b : Vec Ideal S1x1024x352 .bf16) (k : Fin 1024) (l : Fin 704) (h : l.val < 352) : cat a b (ix2 k l) = a (ix3 (0 : Fin 1) k (⟨l.val, h⟩ : Fin 352)) := by
  rw [cat, concatenate_pair_apply_left (t := S1024x704) (s₁ := S1024x352) 1 _ _ _ _ rfl (ix2 k (⟨l.val, h⟩ : Fin 352)) (by intro b; fin_cases b <;> rfl)]
  pointwise

theorem cat_right (a b : Vec Ideal S1x1024x352 .bf16) (k : Fin 1024) (l : Fin 704) (h : 352 ≤ l.val) : cat a b (ix2 k l) = b (ix3 (0 : Fin 1) k (⟨l.val - 352, by omega⟩ : Fin 352)) := by
  rw [cat, concatenate_pair_apply_right (t := S1024x704) (s₁ := S1024x352) (s₂ := S1024x352) 1 _ _ _ _ rfl rfl (ix2 k (⟨l.val - 352, by omega⟩ : Fin 352))
    (by intro b hb; fin_cases b; · rfl
        · exact absurd rfl hb) (by show l.val - 352 + 352 = l.val; omega)]
  pointwise

/-- A token's normed entries, -/
theorem pay3 (x : Vec Ideal S1024x1024 .f32) (n : Vec Ideal S1x1024 .f32) (p k : Fin 1024) :
    k0_pay3 x n (ix2 p k) = normed (fun k => x (ix2 p k)) (fun k => n (ix2 (0 : Fin 1) k)) k := by
  pointwise [k0_pay3]
  rfl

/-- the accumulator's first value, -/
theorem pay4 (i) : k0_pay4 (F := Ideal) i = (0 : EReal) := by
  rw [eq_ix2 i]
  pointwise [k0_pay4]

/-- a block of activations, -/
theorem pay5 (x : Vec Ideal S1024x1024 .bf16) (a b a' b' : Vec Ideal S1x1024x352 .bf16) (p : Fin 1024) (l : Fin 704) :
    k0_pay5 x a b a' b' (ix2 p l) = act (fun k => x (ix2 p k)) (fun k => cat a b (ix2 k l)) (fun k => cat a' b' (ix2 k l)) := by
  unfold k0_pay5
  rw [show concatenate S1024x704 1 [⟨S1024x352, shapeCast S1024x352 a shapeCasts_S1x1024x352_S1024x352⟩, ⟨S1024x352, shapeCast S1024x352 b shapeCasts_S1x1024x352_S1024x352⟩] concatenates_S1024x352_S1024x352_S1024x704_d1 = cat a b from rfl,
    show concatenate S1024x704 1 [⟨S1024x352, shapeCast S1024x352 a' shapeCasts_S1x1024x352_S1024x352⟩, ⟨S1024x352, shapeCast S1024x352 b' shapeCasts_S1x1024x352_S1024x352⟩] concatenates_S1024x352_S1024x352_S1024x704_d1 = cat a' b' from rfl]
  pointwise
  rw [zero_sub]
  rfl

/-- a block of the last projection's weights, -/
theorem pay6 (w : Vec Ideal S2x352x1024 .bf16) (l : Fin 704) (q : Fin 1024) :
    k0_pay6 w (ix2 l q) = w (ix3 (⟨l.val / 352, by omega⟩ : Fin 2) (⟨l.val % 352, by omega⟩ : Fin 352) q) := by
  pointwise [k0_pay6]

/-- a block's addition to the accumulator, -/
theorem pay1 (h : Vec Ideal S1024x704 .bf16) (s : Vec Ideal S1024x1024 .f32) (w : Vec Ideal S704x1024 .bf16) (p q : Fin 1024) :
    k0_pay1 h s w (constant S1024x1024 .f32 0x00000000#32) (ix2 p q) = s (ix2 p q) + ∑ l : Fin 704, h (ix2 p l) * w (ix2 l q) := by
  pointwise [k0_pay1]

/-- and the result. -/
theorem pay2 (x s : Vec Ideal S1024x1024 .f32) (p q : Fin 1024) :
    k0_pay2 x s (ix2 p q) = x (ix2 p q) + Ideal.ofBits .f32 0x3F000000#32 * s (ix2 p q) := by
  pointwise [k0_pay2]

open Cert.FeedReferenceIdeal.Read in
/-- The reference's result. -/
theorem ref (x : (⟨S2048x1024, .f32⟩ : BufTy).Contents (Elt Ideal)) (n : (⟨S1024, .f32⟩ : BufTy).Contents (Elt Ideal)) (g u : (⟨S1024x2816, .f32⟩ : BufTy).Contents (Elt Ideal))
    (w : (⟨S2816x1024, .f32⟩ : BufTy).Contents (Elt Ideal)) (p : Fin 2048) (q : Fin 1024) :
    val_main_v20 (F := Ideal) x n g u w (ix2 p q) = x (ix2 p q) + Ideal.ofBits .f32 0x3F000000#32 *
      ∑ f : Fin 2816, act (normed (fun k => x (ix2 p k)) fun k => n (ix1 k)) (fun k => g (ix2 k f)) (fun k => u (ix2 k f)) * w (ix2 f q) := by
  pointwise [val_main_v20, val_main_v19, val_main_v18, val_main_cst_2, val_main_v17, val_main_v16, val_main_v15, val_main_v14, val_main_call0_v5, val_main_call0_v4, val_main_call0_cst_0, val_main_call0_v3, val_main_call0_v2, val_main_call0_cst, val_main_call0_v1, val_main_call0_v0, val_main_v13, val_main_v12, val_main_v11, val_main_v10, val_main_v9, val_main_v8, val_main_v7, val_main_v6, val_main_v5, val_main_cst_1, val_main_v4, val_main_v3, val_main_cst_0, val_main_v2, val_main_v1, val_main_cst, val_main_v0]
  rfl

/-- The normed tokens the scratch holds at every point. -/
theorem held (t : Fin cfg0.N) (p k : Fin 1024) : (outsAt0 m c t.val t.isLt).2.1 (ix2 p k)
    = normed (fun k => m ((c : Thread nD τ).loc main_arg0) (ix2 (⟨1024 * (t.val / 4) + p.val, rows_lt t p⟩ : Fin 2048) k)) (fun k => m ((c : Thread nD τ).loc main_arg1) (ix1 k)) k := by
  rw [Pipeline.eq_of_write_hold_apply (fun n h => (outsAt0 m c n h).2.1) 4 (fun t => k0_pay3 (iblk m c 0 t) (iblk m c 1 t)) (fun t h j => ?_) (fun t h j => ?_) t (ix2 p k), pay3]
  · simp only [blk0, blk1, Nat.mul_div_cancel_left _ (Nat.zero_lt_succ 3)]
  · rw [outsAt0_A m c t h (by omega)]
    frame_out
  · by_cases h3 : t.val % 4 = 3
    · rw [outsAt0_C m c t h h3]
      rfl
    · rw [outsAt0_B m c t h h3]
      rfl

/-- A point's addition to the accumulator. -/
def term (t : Fin cfg0.N) (p q : Fin 1024) : EReal :=
  ∑ l : Fin 704, act (normed (fun k => m ((c : Thread nD τ).loc main_arg0) (ix2 (⟨1024 * (t.val / 4) + p.val, rows_lt t p⟩ : Fin 2048) k)) fun k => m ((c : Thread nD τ).loc main_arg1) (ix1 k))
    (fun k => m ((c : Thread nD τ).loc main_arg2) (ix2 k (⟨t.val % 4 * 704 + l.val, units_lt _ l⟩ : Fin 2816))) (fun k => m ((c : Thread nD τ).loc main_arg3) (ix2 k (⟨t.val % 4 * 704 + l.val, units_lt _ l⟩ : Fin 2816)))
    * m ((c : Thread nD τ).loc main_arg4) (ix2 (⟨t.val % 4 * 704 + l.val, units_lt _ l⟩ : Fin 2816) q)

/-- A block's weights side by side, read as two stored pieces: the gate's, -/
theorem gate (t : Fin cfg0.N) (k : Fin 1024) (l : Fin 704) :
    cat (View.ld (iblk m c 2 t) (Rect.unit ![0, 0, 0] ![1, 1024, 352] inb_S2x1024x352_S1x1024x352_0_0_0))
      (View.ld (iblk m c 2 t) (Rect.unit ![1, 0, 0] ![1, 1024, 352] inb_S2x1024x352_S1x1024x352_1_0_0)) (ix2 k l)
    = m ((c : Thread nD τ).loc main_arg2) (ix2 k (⟨t.val % 4 * 704 + l.val, units_lt _ l⟩ : Fin 2816)) := by
  by_cases h : l.val < 352
  · rw [cat_left _ _ k l h]
    refine (View.ld_unit_apply_of _ _ _ _ _ (ix3 (0 : Fin 2) k (⟨l.val, h⟩ : Fin 352)) (fun a => by fin_cases a <;> simp [ix3])).trans ?_
    rw [blk2]
    exact congrArg (fun x : Fin 2816 => m ((c : Thread nD τ).loc main_arg2) (ix2 k x)) (Fin.ext (by simp))
  · rw [cat_right _ _ k l (not_lt.mp h)]
    refine (View.ld_unit_apply_of _ _ _ _ _ (ix3 (1 : Fin 2) k (⟨l.val - 352, by omega⟩ : Fin 352)) (fun a => by fin_cases a <;> simp [ix3])).trans ?_
    rw [blk2]
    exact congrArg (fun x : Fin 2816 => m ((c : Thread nD τ).loc main_arg2) (ix2 k x)) (Fin.ext (by simp; omega))

/-- and the other projection's. -/
theorem up (t : Fin cfg0.N) (k : Fin 1024) (l : Fin 704) :
    cat (View.ld (iblk m c 3 t) (Rect.unit ![0, 0, 0] ![1, 1024, 352] inb_S2x1024x352_S1x1024x352_0_0_0))
      (View.ld (iblk m c 3 t) (Rect.unit ![1, 0, 0] ![1, 1024, 352] inb_S2x1024x352_S1x1024x352_1_0_0)) (ix2 k l)
    = m ((c : Thread nD τ).loc main_arg3) (ix2 k (⟨t.val % 4 * 704 + l.val, units_lt _ l⟩ : Fin 2816)) := by
  by_cases h : l.val < 352
  · rw [cat_left _ _ k l h]
    refine (View.ld_unit_apply_of _ _ _ _ _ (ix3 (0 : Fin 2) k (⟨l.val, h⟩ : Fin 352)) (fun a => by fin_cases a <;> simp [ix3])).trans ?_
    rw [blk3]
    exact congrArg (fun x : Fin 2816 => m ((c : Thread nD τ).loc main_arg3) (ix2 k x)) (Fin.ext (by simp))
  · rw [cat_right _ _ k l (not_lt.mp h)]
    refine (View.ld_unit_apply_of _ _ _ _ _ (ix3 (1 : Fin 2) k (⟨l.val - 352, by omega⟩ : Fin 352)) (fun a => by fin_cases a <;> simp [ix3])).trans ?_
    rw [blk3]
    exact congrArg (fun x : Fin 2816 => m ((c : Thread nD τ).loc main_arg3) (ix2 k x)) (Fin.ext (by simp; omega))

/-- What a point adds to the accumulator, from normed tokens that are the reference's. -/
theorem added (t : Fin cfg0.N) (x : Vec Ideal S1024x1024 .bf16) (s : Vec Ideal S1024x1024 .f32)
    (hx : ∀ p k, x (ix2 p k) = normed (fun k => m ((c : Thread nD τ).loc main_arg0) (ix2 (⟨1024 * (t.val / 4) + p.val, rows_lt t p⟩ : Fin 2048) k)) (fun k => m ((c : Thread nD τ).loc main_arg1) (ix1 k)) k) (p q : Fin 1024) :
    k0_pay1 (k0_pay5 x
        (View.ld (iblk m c 2 t) (Rect.unit ![0, 0, 0] ![1, 1024, 352] inb_S2x1024x352_S1x1024x352_0_0_0))
        (View.ld (iblk m c 2 t) (Rect.unit ![1, 0, 0] ![1, 1024, 352] inb_S2x1024x352_S1x1024x352_1_0_0))
        (View.ld (iblk m c 3 t) (Rect.unit ![0, 0, 0] ![1, 1024, 352] inb_S2x1024x352_S1x1024x352_0_0_0))
        (View.ld (iblk m c 3 t) (Rect.unit ![1, 0, 0] ![1, 1024, 352] inb_S2x1024x352_S1x1024x352_1_0_0)))
      s (k0_pay6 (iblk m c 4 t)) (constant S1024x1024 .f32 0x00000000#32) (ix2 p q) = s (ix2 p q) + term m c t p q := by
  rw [pay1]
  refine congrArg _ (Finset.sum_congr rfl fun l _ => ?_)
  rw [pay5, pay6, blk4]
  simp only [gate, up, hx]
  exact congrArg (fun x : Fin 2816 => act _ _ _ * m ((c : Thread nD τ).loc main_arg4) (ix2 x q)) (Fin.ext (by simp only []; omega))

/-- The accumulator at a block's last point: the four points' terms. -/
theorem sum (t : Fin cfg0.N) (h3 : t.val % 4 = 3) (p q : Fin 1024) : (outsAt0 m c t.val t.isLt).2.2 (ix2 p q)
    = ∑ s : Fin 4, term m c ⟨4 * (t.val / 4) + s.val, Pipeline.run_point_lt_of_flush t h3 s⟩ p q := by
  rw [Pipeline.eq_sum_fin_of_reset_step_apply_of_flush (M := EReal) (N := cfg0.N) (ι := Fin 1024 × Fin 1024) (fun n h i => (outsAt0 m c n h).2.2 (ix2 i.1 i.2)) 4 (fun _ => 0)
    (fun t i => term m c t i.1 i.2) (fun t h j => ?_) (fun t h j => ?_) t h3 (p, q), zero_add]
  · obtain ⟨a, b⟩ := j
    dsimp only
    rw [outsAt0_A m c t h (by omega)]
    frame_out
    refine (added m c t _ _ (fun p k => ?_) a b).trans (congrArg (· + term m c t a b) (pay4 (ix2 a b)))
    rw [pay3]
    simp only [blk0, blk1]
  · obtain ⟨a, b⟩ := j
    dsimp only
    have hn : ∀ p k, View.read (Elt Ideal) (View.whole cc0_scratch0) ((Memref.isWhole_whole cc0_scratch0).unread (outsAt0 m c (t.val - 1) (by omega)).2.1) (ix2 p k)
        = normed (fun k => m ((c : Thread nD τ).loc main_arg0) (ix2 (⟨1024 * (t.val / 4) + p.val, rows_lt t p⟩ : Fin 2048) k)) (fun k => m ((c : Thread nD τ).loc main_arg1) (ix1 k)) k := fun p k => by
      rw [(Memref.isWhole_whole cc0_scratch0).read_unread _]
      refine (held m c ⟨t.val - 1, by omega⟩ p k).trans ?_
      have e : (t.val - 1) / 4 = t.val / 4 := by omega
      simp only [e]
    by_cases h3 : t.val % 4 = 3
    · rw [outsAt0_C m c t h h3]
      frame_out
      refine (added m c t _ _ hn a b).trans (congrArg (· + term m c t a b) ?_)
      exact congrFun ((Memref.isWhole_whole cc0_scratch1).read_unread _) _
    · rw [outsAt0_B m c t h h3]
      frame_out
      refine (added m c t _ _ hn a b).trans (congrArg (· + term m c t a b) ?_)
      exact congrFun ((Memref.isWhole_whole cc0_scratch1).read_unread _) _

/-- The kernel's result is the reference's. -/
theorem final : (dats m 0 c).arrAt 5 cfg0.N = Cert.FeedReferenceIdeal.Read.val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have h3 : t.val % 4 = 3 := (flush0_5 t).mp hf
  have e5 := idx5 t
  blk_simp [e5]
  rw [after0_5]
  obtain ⟨p, q, rfl⟩ : ∃ (p q : Fin 1024), y = ix2 p q := ⟨y 0, y 1, eq_ix2 y⟩
  have z : ((View.whole main_v9).slice (win0_5.rect t)).emb (ix2 p q) = ix2 (⟨1024 * (t.val / 4) + p.val, rows_lt t p⟩ : Fin 2048) q := by
    blk_ext [e5]
  have h : (outsAt0 m c t.val t.isLt).1 (ix2 p q) = k0_pay2 (iblk m c 0 t) ((outsAt0 m c t.val t.isLt).2.2) (ix2 p q) := by
    rw [outsAt0_C m c t (by omega) h3]
    frame_out
  rw [z, h, pay2, ref, blk0, sum m c t h3]
  refine congrArg _ (congrArg _ ?_)
  refine Fin.sum_mul_add_congr fun s l hl => ?_
  have e : (4 * (t.val / 4) + s.val) / 4 = t.val / 4 := by omega
  have e' : (4 * (t.val / 4) + s.val) % 4 = s.val := by omega
  simp only [e, e']

/-- The kernel and the reference end with one result, whatever the arguments. -/
theorem values : Cert.algebraic_FeedIdeal_FeedReferenceIdeal := by
  intro m g m' g' _ ha
  refine ⟨fun c => (dats m 0 c).arrAt 5 cfg0.N, Cert.FeedIdeal.Value.run_blocks m g, (θ_run _ _ _).mono (fun r h c => ?_) (Cert.FeedReferenceIdeal.Value.run m' g')⟩
  obtain ⟨a0, a1, a2, a3, a4⟩ := ha c
  refine ⟨((h c).1.trans (Cert.FeedReferenceIdeal.Read.val_main_v20_eq _ _ _ _ _)).trans ?_, (h c).2⟩
  rw [a0, a1, a2, a3, a4]
  exact (final m c).symm

end Cert.FeedClaim

end
-- ==== Proof.ConvOut.lean ====
/- The output projection of the convolution mixer: the kernel's blocks are the reference's product, whatever the arguments. -/
module

public import proofs.«01_k».proof.Defs
public import proofs.«01_k».proof.Proof.Gen.ConvOutIdeal
public import proofs.«01_k».proof.Proof.Gen.ConvOutIdeal.Value
public import proofs.«01_k».proof.Proof.Gen.ConvOutReferenceIdeal
public import proofs.«01_k».proof.Proof.Gen.ConvOutReferenceIdeal.Run
public import proofs.«01_k».proof.Proof.Gen.ConvOutReferenceIdeal.Read
public import Idealize.ShloMosaic.Lib.Pipeline.ValueKit
public import Idealize.ShloMosaic.Lib.Pointwise
public import Idealize.ShloMosaic.Lib.Claim

@[expose] public section

open Idealize.ShloMosaic Idealize.ShloMosaic.TcCoe Idealize.ShloMosaic.Tactic Idealize.SL.Sem
open Cert.ConvOutIdeal Cert.ConvOutIdeal.Gen

noncomputable section

namespace Cert.ConvOutClaim

set_option maxRecDepth 16384

variable (m : (ℓ : Loc nD τ sig) → Buf (Elt Ideal) ℓ) (c : Dev nD)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![t.val, 0] := by decide +kernel

/-- The weights' one block is the weight matrix. -/
theorem blk2 (t : Fin cfg0.N) (a b : Fin 1024) : iblk m c 2 t (ix2 a b) = m ((c : Thread nD τ).loc main_arg2) (ix2 a b) := by
  have e := idx2 t
  blk_simp [iblk, e]
  entry_read
  pointwise
  blk_ext [e]

/-- The bias's one block is the bias. -/
theorem blk3 (t : Fin cfg0.N) (a : Fin 1) (b : Fin 1024) : iblk m c 3 t (ix2 a b) = m ((c : Thread nD τ).loc main_arg3) (ix1 b) := by
  have e := idx3 t
  blk_simp [iblk, e]
  entry_read
  pointwise
  blk_ext [e]

/-- A grid point's result from its blocks. -/
theorem pay (x : Vec Ideal S512x1024 .f32) (b : Vec Ideal S1x1024 .f32) (u : Vec Ideal S512x1024 .f32) (w : Vec Ideal S1024x1024 .bf16) (p : Fin 512) (q : Fin 1024) :
    k0_pay1 x b u w (ix2 p q) = x (ix2 p q) + b (ix2 (0 : Fin 1) q) + ∑ k : Fin 1024, u (ix2 p k) * w (ix2 k q) := by
  pointwise [k0_pay1]

open Cert.ConvOutReferenceIdeal.Read in
/-- The reference's result. -/
theorem ref (x u : (⟨S2048x1024, .f32⟩ : BufTy).Contents (Elt Ideal)) (w : (⟨S1024x1024, .f32⟩ : BufTy).Contents (Elt Ideal)) (b : (⟨Cert.ConvOutReferenceIdeal.S1024, .f32⟩ : BufTy).Contents (Elt Ideal)) (p : Fin 2048) (q : Fin 1024) :
    val_main_v4 (F := Ideal) x u w b (ix2 p q) = x (ix2 p q) + (∑ k : Fin 1024, u (ix2 p k) * w (ix2 k q) + b (ix1 q)) := by
  pointwise [val_main_v4, val_main_v3, val_main_v2, val_main_v1, val_main_v0]

/-- The kernel's result is the reference's. -/
theorem final : (dats m 0 c).arrAt 4 cfg0.N = Cert.ConvOutReferenceIdeal.Read.val_main_v4 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t hf y => ?_
  have e0 := idx0 t
  have e1 := idx1 t
  have e4 := idx4 t
  blk_simp [e4]
  rw [after0_4]
  frame_out
  obtain ⟨p, q, rfl⟩ : ∃ (p : Fin 512) (q : Fin 1024), y = ix2 p q := ⟨y 0, y 1, eq_ix2 y⟩
  have ht : t.val < 4 := lt_of_lt_of_eq t.isLt N_0
  have z : ((View.whole main_v2).slice (win0_4.rect t)).emb (ix2 p q) = ix2 (⟨512 * t.val + p.val, by omega⟩ : Fin 2048) q := by
    blk_ext [e4]
  rw [z, pay, ref, blk3, add_assoc]
  have b0 : iblk m c 0 t (ix2 p q) = m ((c : Thread nD τ).loc main_arg0) (ix2 (⟨512 * t.val + p.val, by omega⟩ : Fin 2048) q) := by
    blk_ext [iblk, V, e0]
  have b1 (k : Fin 1024) : iblk m c 1 t (ix2 p k) = m ((c : Thread nD τ).loc main_arg1) (ix2 (⟨512 * t.val + p.val, by omega⟩ : Fin 2048) k) := by
    blk_ext [iblk, V, e1]
  simp only [b0, b1, blk2]
  exact congrArg _ (add_comm (G := EReal) _ _)

/-- The kernel and the reference end with one result, whatever the arguments. -/
theorem values : Cert.algebraic_ConvOutIdeal_ConvOutReferenceIdeal := by
  intro m g m' g' _ ha
  refine ⟨fun c => (dats m 0 c).arrAt 4 cfg0.N, Cert.ConvOutIdeal.Value.run_blocks m g, (θ_run _ _ _).mono (fun r h c => ?_) (Cert.ConvOutReferenceIdeal.Value.run m' g')⟩
  obtain ⟨a0, a1, a2, a3⟩ := ha c
  refine ⟨((h c).1.trans (Cert.ConvOutReferenceIdeal.Read.val_main_v4_eq _ _ _ _)).trans ?_, (h c).2⟩
  rw [a0, a1, a2, a3]
  exact (final m c).symm

end Cert.ConvOutClaim

end
-- ==== Proof.MixOut.lean ====
/- The output projection of the attention and delta mixer: the kernel's blocks are the reference's product of the two heads' outputs side by side, whatever the arguments. -/
module

public import proofs.«01_k».proof.Defs
public import proofs.«01_k».proof.Proof.Gen.MixOutIdeal
public import proofs.«01_k».proof.Proof.Gen.MixOutIdeal.Value
public import proofs.«01_k».proof.Proof.Gen.MixOutReferenceIdeal
public import proofs.«01_k».proof.Proof.Gen.MixOutReferenceIdeal.Run
public import proofs.«01_k».proof.Proof.Gen.MixOutReferenceIdeal.Read
public import Idealize.ShloMosaic.Lib.Pipeline.ValueKit
public import Idealize.ShloMosaic.Lib.Pointwise
public import Idealize.ShloMosaic.Lib.Claim

@[expose] public section

open Idealize.ShloMosaic Idealize.ShloMosaic.TcCoe Idealize.ShloMosaic.Tactic Idealize.SL.Sem
open Cert.MixOutIdeal Cert.MixOutIdeal.Gen

noncomputable section

namespace Cert.MixOutClaim

set_option maxRecDepth 16384

variable (m : (ℓ : Loc nD τ sig) → Buf (Elt Ideal) ℓ) (c : Dev nD)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![t.val, 0] := by decide +kernel

/-- The weights' one block is the weight matrix. -/
theorem blk3 (t : Fin cfg0.N) (a : Fin 1024) (b : Fin 1024) : iblk m c 3 t (ix2 a b) = m ((c : Thread nD τ).loc main_arg3) (ix2 a b) := by
  have e := idx3 t
  blk_simp [iblk, e]
  entry_read
  pointwise
  blk_ext [e]

/-- The bias is zero. -/
theorem blk4 (t : Fin cfg0.N) (a : Fin 1) (b : Fin 1024) : iblk m c 4 t (ix2 a b) = (0 : EReal) := by
  have e := idx4 t
  blk_simp [iblk, e]
  entry_read
  pointwise

/-- A grid point's result from its blocks. -/
theorem pay (x : Vec Ideal S512x1024 .f32) (b : Vec Ideal S1x1024 .f32) (u : Vec Ideal S512x512 .f32) (w : Vec Ideal S512x1024 .bf16) (u' : Vec Ideal S512x512 .f32) (w' : Vec Ideal S512x1024 .bf16) (p : Fin 512) (q : Fin 1024) :
    k0_pay1 x b u w u' w' (ix2 p q) = x (ix2 p q) + b (ix2 (0 : Fin 1) q) + ∑ k : Fin 512, u (ix2 p k) * w (ix2 k q) + ∑ k : Fin 512, u' (ix2 p k) * w' (ix2 k q) := by
  pointwise [k0_pay1]

open Cert.MixOutReferenceIdeal.Read in
/-- The reference's result. -/
theorem ref (x : (⟨S2048x1024, .f32⟩ : BufTy).Contents (Elt Ideal)) (u u' : (⟨S2048x512, .f32⟩ : BufTy).Contents (Elt Ideal)) (w : (⟨S1024x1024, .f32⟩ : BufTy).Contents (Elt Ideal)) (p : Fin 2048) (q : Fin 1024) :
    val_main_v2 (F := Ideal) x u u' w (ix2 p q) = x (ix2 p q) + ∑ k : Fin 1024, val_main_v0 (F := Ideal) u u' (ix2 p k) * w (ix2 k q) := by
  pointwise [val_main_v2, val_main_v1]

open Cert.MixOutReferenceIdeal.Read in
/-- The joined heads' first half is the first operand, -/
theorem left (u u' : (⟨S2048x512, .f32⟩ : BufTy).Contents (Elt Ideal)) (p : Fin 2048) (k : Fin 512) :
    val_main_v0 (F := Ideal) u u' (ix2 p (Fin.castAdd 512 k)) = u (ix2 p k) := by
  rw [val_main_v0]
  refine concatenate_pair_apply_left (t := S2048x1024) (s₁ := S2048x512) 1 _ _ _ _ rfl (ix2 p k) fun b => ?_
  fin_cases b <;> rfl

open Cert.MixOutReferenceIdeal.Read in
/-- and its second half the second. -/
theorem right (u u' : (⟨S2048x512, .f32⟩ : BufTy).Contents (Elt Ideal)) (p : Fin 2048) (k : Fin 512) :
    val_main_v0 (F := Ideal) u u' (ix2 p (Fin.natAdd 512 k)) = u' (ix2 p k) := by
  rw [val_main_v0]
  refine concatenate_pair_apply_right (t := S2048x1024) (s₁ := S2048x512) (s₂ := S2048x512) 1 _ _ _ _ rfl rfl (ix2 p k) (fun b hb => ?_) (Nat.add_comm _ _)
  fin_cases b
  · rfl
  · exact absurd rfl hb

/-- The kernel's result is the reference's. -/
theorem final : (dats m 0 c).arrAt 5 cfg0.N = Cert.MixOutReferenceIdeal.Read.val_main_v2 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 5 _ (by decide +kernel) fun t hf y => ?_
  have e0 := idx0 t
  have e1 := idx1 t
  have e2 := idx2 t
  have e5 := idx5 t
  blk_simp [e5]
  rw [after0_5]
  frame_out
  obtain ⟨p, q, rfl⟩ : ∃ (p : Fin 512) (q : Fin 1024), y = ix2 p q := ⟨y 0, y 1, eq_ix2 y⟩
  have ht : t.val < 4 := lt_of_lt_of_eq t.isLt N_0
  have z : ((View.whole main_v2).slice (win0_5.rect t)).emb (ix2 p q) = ix2 (⟨512 * t.val + p.val, by omega⟩ : Fin 2048) q := by
    blk_ext [e5]
  rw [z, pay, ref, blk4, add_zero]
  have b0 : iblk m c 0 t (ix2 p q) = m ((c : Thread nD τ).loc main_arg0) (ix2 (⟨512 * t.val + p.val, by omega⟩ : Fin 2048) q) := by
    blk_ext [iblk, V, e0]
  have b1 (k : Fin 512) : iblk m c 1 t (ix2 p k) = m ((c : Thread nD τ).loc main_arg1) (ix2 (⟨512 * t.val + p.val, by omega⟩ : Fin 2048) k) := by
    blk_ext [iblk, V, e1]
  have b2 (k : Fin 512) : iblk m c 2 t (ix2 p k) = m ((c : Thread nD τ).loc main_arg2) (ix2 (⟨512 * t.val + p.val, by omega⟩ : Fin 2048) k) := by
    blk_ext [iblk, V, e2]
  have l3 (k : Fin 512) : View.ld (iblk m c 3 t) r0_3 (ix2 k q) = m ((c : Thread nD τ).loc main_arg3) (ix2 (Fin.castAdd 512 k) q) := by
    rw [View.ld_unit_apply_of _ _ _ _ _ (ix2 (Fin.castAdd 512 k) q) (by intro a; fin_cases a <;> simp [ix2] <;> omega)]
    exact blk3 m c t _ _
  have l4 (k : Fin 512) : View.ld (iblk m c 3 t) r0_4 (ix2 k q) = m ((c : Thread nD τ).loc main_arg3) (ix2 (Fin.natAdd 512 k) q) := by
    rw [View.ld_unit_apply_of _ _ _ _ _ (ix2 (Fin.natAdd 512 k) q) (by intro a; fin_cases a <;> simp [ix2] <;> omega)]
    exact blk3 m c t _ _
  simp only [b0, b1, b2, l3, l4]
  rw [add_assoc]
  refine congrArg _ (Eq.symm ?_)
  refine (Fin.sum_univ_add (a := 512) (b := 512) _).trans (congrArg₂ _ (Finset.sum_congr rfl fun k _ => ?_) (Finset.sum_congr rfl fun k _ => ?_))
  · rw [left]
  · rw [right]

/-- The kernel and the reference end with one result, whatever the arguments. -/
theorem values : Cert.algebraic_MixOutIdeal_MixOutReferenceIdeal := by
  intro m g m' g' _ ha
  refine ⟨fun c => (dats m 0 c).arrAt 5 cfg0.N, Cert.MixOutIdeal.Value.run_blocks m g, (θ_run _ _ _).mono (fun r h c => ?_) (Cert.MixOutReferenceIdeal.Value.run m' g')⟩
  obtain ⟨a0, a1, a2, a3⟩ := ha c
  refine ⟨((h c).1.trans (Cert.MixOutReferenceIdeal.Read.val_main_v2_eq _ _ _ _)).trans ?_, (h c).2⟩
  rw [a0, a1, a2, a3]
  exact (final m c).symm

end Cert.MixOutClaim

end
-- ==== Proof.ConvIn.lean ====
/- The input projection of the convolution mixer behind its norm: the kernel's blocks are the reference's, whatever the arguments. -/
module

public import proofs.«01_k».proof.Defs
public import proofs.«01_k».proof.Proof.Gen.ConvInIdeal
public import proofs.«01_k».proof.Proof.Gen.ConvInIdeal.Value
public import proofs.«01_k».proof.Proof.Gen.ConvInReferenceIdeal
public import proofs.«01_k».proof.Proof.Gen.ConvInReferenceIdeal.Run
public import proofs.«01_k».proof.Proof.Gen.ConvInReferenceIdeal.Read
public import Idealize.ShloMosaic.Lib.Pipeline.ValueKit
public import Idealize.ShloMosaic.Lib.Pointwise
public import Idealize.ShloMosaic.Lib.Claim
public import proofs.«01_k».proof.Proof.Norm

@[expose] public section

open Idealize.ShloMosaic Idealize.ShloMosaic.TcCoe Idealize.ShloMosaic.Tactic Idealize.SL.Sem
open Cert.ConvInIdeal Cert.ConvInIdeal.Gen

noncomputable section

namespace Cert.ConvInClaim

set_option maxRecDepth 16384

variable (m : (ℓ : Loc nD τ sig) → Buf (Elt Ideal) ℓ) (c : Dev nD)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![t.val, 0] := by decide +kernel

/-- The norm weight's one block is the norm weight. -/
theorem blk1 (t : Fin cfg0.N) (a : Fin 1) (b : Fin 1024) : iblk m c 1 t (ix2 a b) = m ((c : Thread nD τ).loc main_arg1) (ix1 b) := by
  have e := idx1 t
  blk_simp [iblk, e]
  entry_read
  pointwise
  blk_ext [e]

/-- The weights' one block is the weight matrix. -/
theorem blk2 (t : Fin cfg0.N) (a : Fin 1024) (b : Fin 2048) : iblk m c 2 t (ix2 a b) = m ((c : Thread nD τ).loc main_arg2) (ix2 a b) := by
  have e := idx2 t
  blk_simp [iblk, e]
  entry_read
  pointwise
  blk_ext [e]

/-- The bias's one block is the bias. -/
theorem blk3 (t : Fin cfg0.N) (a : Fin 1) (b : Fin 2048) : iblk m c 3 t (ix2 a b) = m ((c : Thread nD τ).loc main_arg3) (ix1 b) := by
  have e := idx3 t
  blk_simp [iblk, e]
  entry_read
  pointwise
  blk_ext [e]

/-- A grid point's result from its blocks. -/
theorem pay (x : Vec Ideal S256x1024 .f32) (n : Vec Ideal S1x1024 .f32) (w : Vec Ideal S1024x2048 .bf16) (b : Vec Ideal S1x2048 .f32) (p : Fin 256) (q : Fin 2048) :
    k0_pay1 x n w b (ix2 p q) = ∑ k : Fin 1024, normed (fun k => x (ix2 p k)) (fun k => n (ix2 (0 : Fin 1) k)) k * w (ix2 k q) + b (ix2 (0 : Fin 1) q) := by
  pointwise [k0_pay1]
  rfl

open Cert.ConvInReferenceIdeal.Read in
/-- The reference's result. -/
theorem ref (x : (⟨S2048x1024, .f32⟩ : BufTy).Contents (Elt Ideal)) (n : (⟨S1024, .f32⟩ : BufTy).Contents (Elt Ideal)) (w : (⟨S1024x2048, .f32⟩ : BufTy).Contents (Elt Ideal)) (b : (⟨S2048, .f32⟩ : BufTy).Contents (Elt Ideal)) (p : Fin 2048) (q : Fin 2048) :
    val_main_v16 (F := Ideal) x n w b (ix2 p q) = ∑ k : Fin 1024, normed (fun k => x (ix2 p k)) (fun k => n (ix1 k)) k * w (ix2 k q) + b (ix1 q) := by
  pointwise [val_main_v16, val_main_v15, val_main_v14, val_main_v13, val_main_v12, val_main_v11, val_main_v10, val_main_v9, val_main_v8, val_main_v7, val_main_v6, val_main_v5, val_main_cst_1, val_main_v4, val_main_v3, val_main_cst_0, val_main_v2, val_main_v1, val_main_cst, val_main_v0]
  rfl

/-- The kernel's result is the reference's. -/
theorem final : (dats m 0 c).arrAt 4 cfg0.N = Cert.ConvInReferenceIdeal.Read.val_main_v16 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have e0 := idx0 t
  have e4 := idx4 t
  blk_simp [e4]
  rw [after0_4]
  frame_out
  obtain ⟨p, q, rfl⟩ : ∃ (p : Fin 256) (q : Fin 2048), y = ix2 p q := ⟨y 0, y 1, eq_ix2 y⟩
  have ht : t.val < 8 := lt_of_lt_of_eq t.isLt N_0
  have z : ((View.whole main_v3).slice (win0_4.rect t)).emb (ix2 p q) = ix2 (⟨256 * t.val + p.val, by omega⟩ : Fin 2048) q := by
    blk_ext [e4]
  have b0 (k : Fin 1024) : iblk m c 0 t (ix2 p k) = m ((c : Thread nD τ).loc main_arg0) (ix2 (⟨256 * t.val + p.val, by omega⟩ : Fin 2048) k) := by
    blk_ext [iblk, V, e0]
  rw [z, pay, ref, blk3]
  simp only [b0, blk1, blk2]

/-- The kernel and the reference end with one result, whatever the arguments. -/
theorem values : Cert.algebraic_ConvInIdeal_ConvInReferenceIdeal := by
  intro m g m' g' _ ha
  refine ⟨fun c => (dats m 0 c).arrAt 4 cfg0.N, Cert.ConvInIdeal.Value.run_blocks m g, (θ_run _ _ _).mono (fun r h c => ?_) (Cert.ConvInReferenceIdeal.Value.run m' g')⟩
  obtain ⟨a0, a1, a2, a3⟩ := ha c
  refine ⟨((h c).1.trans (Cert.ConvInReferenceIdeal.Read.val_main_v16_eq _ _ _ _)).trans ?_, (h c).2⟩
  rw [a0, a1, a2, a3]
  exact (final m c).symm

end Cert.ConvInClaim

end
-- ==== Proof.MixIn.lean ====
/- The input projection of the attention and delta mixer behind its norm: the kernel's blocks are the reference's, whatever the arguments. -/
module

public import proofs.«01_k».proof.Defs
public import proofs.«01_k».proof.Proof.Gen.MixInIdeal
public import proofs.«01_k».proof.Proof.Gen.MixInIdeal.Value
public import proofs.«01_k».proof.Proof.Gen.MixInReferenceIdeal
public import proofs.«01_k».proof.Proof.Gen.MixInReferenceIdeal.Run
public import proofs.«01_k».proof.Proof.Gen.MixInReferenceIdeal.Read
public import Idealize.ShloMosaic.Lib.Pipeline.ValueKit
public import Idealize.ShloMosaic.Lib.Pointwise
public import Idealize.ShloMosaic.Lib.Claim
public import proofs.«01_k».proof.Proof.Norm

@[expose] public section

open Idealize.ShloMosaic Idealize.ShloMosaic.TcCoe Idealize.ShloMosaic.Tactic Idealize.SL.Sem
open Cert.MixInIdeal Cert.MixInIdeal.Gen

noncomputable section

namespace Cert.MixInClaim

set_option maxRecDepth 16384

variable (m : (ℓ : Loc nD τ sig) → Buf (Elt Ideal) ℓ) (c : Dev nD)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![t.val, 0] := by decide +kernel

/-- The norm weight as the pipeline finds it, -/
theorem entry0 : V m c main_v0 = broadcastInDim S1x1024 ![1] bcast_S1024_S1x1024_1 (m ((c : Thread nD τ).loc main_arg1)) := by
  show StableHlo.after (hostOps0 ++ (hostOps0_1 ++ hostOps0_2)) _ _ = _
  unfold hostOps0 hostOps0_1 hostOps0_2
  simp only [List.cons_append, List.nil_append]
  after_results_simp

/-- the weights, -/
theorem entry2 : V m c main_v2 = Cert.MixInReferenceIdeal.Read.val_main_v13 (F := Ideal) (m ((c : Thread nD τ).loc main_arg2)) := by
  show StableHlo.after (hostOps0 ++ (hostOps0_1 ++ hostOps0_2)) _ _ = _
  unfold hostOps0 hostOps0_1 hostOps0_2
  simp only [List.cons_append, List.nil_append]
  after_results_simp
  rfl

/-- and the bias. -/
theorem entry3 : V m c main_v3 = broadcastInDim S1x3072 ![] bcast_S_S1x3072 (constant (F := Ideal) S_ .f32 0x00000000#32) := by
  show StableHlo.after (hostOps0 ++ (hostOps0_1 ++ hostOps0_2)) _ _ = _
  unfold hostOps0 hostOps0_1 hostOps0_2
  simp only [List.cons_append, List.nil_append]
  after_results_simp

/-- The norm weight's one block is the norm weight. -/
theorem blk1 (t : Fin cfg0.N) (a : Fin 1) (b : Fin 1024) : iblk m c 1 t (ix2 a b) = m ((c : Thread nD τ).loc main_arg1) (ix1 b) := by
  have e := idx1 t
  blk_simp [iblk, e]
  rw [entry0]
  pointwise
  blk_ext [e]

/-- The weights' one block is the reference's padded weight matrix. -/
theorem blk2 (t : Fin cfg0.N) (a : Fin 1024) (b : Fin 3072) : iblk m c 2 t (ix2 a b) = Cert.MixInReferenceIdeal.Read.val_main_v13 (F := Ideal) (m ((c : Thread nD τ).loc main_arg2)) (ix2 a b) := by
  have e := idx2 t
  blk_simp [iblk, e]
  rw [entry2]
  pointwise
  blk_ext [e]

/-- The bias is zero. -/
theorem blk3 (t : Fin cfg0.N) (a : Fin 1) (b : Fin 3072) : iblk m c 3 t (ix2 a b) = (0 : EReal) := by
  have e := idx3 t
  blk_simp [iblk, e]
  rw [entry3]
  pointwise

/-- A grid point's result from its blocks. -/
theorem pay (x : Vec Ideal S256x1024 .f32) (n : Vec Ideal S1x1024 .f32) (w : Vec Ideal S1024x3072 .bf16) (b : Vec Ideal S1x3072 .f32) (p : Fin 256) (q : Fin 3072) :
    k0_pay1 x n w b (ix2 p q) = ∑ k : Fin 1024, normed (fun k => x (ix2 p k)) (fun k => n (ix2 (0 : Fin 1) k)) k * w (ix2 k q) + b (ix2 (0 : Fin 1) q) := by
  pointwise [k0_pay1]
  rfl

open Cert.MixInReferenceIdeal.Read in
/-- The reference's result. -/
theorem ref (x : (⟨S2048x1024, .f32⟩ : BufTy).Contents (Elt Ideal)) (n : (⟨S1024, .f32⟩ : BufTy).Contents (Elt Ideal)) (w : (⟨S1024x2832, .f32⟩ : BufTy).Contents (Elt Ideal)) (p : Fin 2048) (q : Fin 3072) :
    val_main_v14 (F := Ideal) x n w (ix2 p q) = ∑ k : Fin 1024, normed (fun k => x (ix2 p k)) (fun k => n (ix1 k)) k * val_main_v13 (F := Ideal) w (ix2 k q) := by
  pointwise [val_main_v14, val_main_v12, val_main_v11, val_main_v10, val_main_v9, val_main_v8, val_main_v7, val_main_v6, val_main_v5, val_main_cst_1, val_main_v4, val_main_v3, val_main_cst_0, val_main_v2, val_main_v1, val_main_cst, val_main_v0]
  rfl

/-- The kernel's result is the reference's. -/
theorem final : (dats m 0 c).arrAt 4 cfg0.N = Cert.MixInReferenceIdeal.Read.val_main_v14 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  have e0 := idx0 t
  have e4 := idx4 t
  blk_simp [e4]
  rw [after0_4]
  frame_out
  obtain ⟨p, q, rfl⟩ : ∃ (p : Fin 256) (q : Fin 3072), y = ix2 p q := ⟨y 0, y 1, eq_ix2 y⟩
  have ht : t.val < 8 := lt_of_lt_of_eq t.isLt N_0
  have z : ((View.whole main_v4).slice (win0_4.rect t)).emb (ix2 p q) = ix2 (⟨256 * t.val + p.val, by omega⟩ : Fin 2048) q := by
    blk_ext [e4]
  have b0 (k : Fin 1024) : iblk m c 0 t (ix2 p k) = m ((c : Thread nD τ).loc main_arg0) (ix2 (⟨256 * t.val + p.val, by omega⟩ : Fin 2048) k) := by
    blk_ext [iblk, V, e0]
  rw [z, pay, ref, blk3]
  simp only [b0, blk1, blk2, add_zero]

/-- The kernel and the reference end with one result, whatever the arguments. -/
theorem values : Cert.algebraic_MixInIdeal_MixInReferenceIdeal := by
  intro m g m' g' _ ha
  refine ⟨fun c => (dats m 0 c).arrAt 4 cfg0.N, Cert.MixInIdeal.Value.run_blocks m g, (θ_run _ _ _).mono (fun r h c => ?_) (Cert.MixInReferenceIdeal.Value.run m' g')⟩
  obtain ⟨a0, a1, a2⟩ := ha c
  refine ⟨((h c).1.trans (Cert.MixInReferenceIdeal.Read.val_main_v14_eq _ _ _)).trans ?_, (h c).2⟩
  rw [a0, a1, a2]
  exact (final m c).symm

end Cert.MixInClaim

end
-- ==== Proof.ConvOutGrad.lean ====
/- The gradients of the convolution mixer's output projection: what the kernel accumulates over four blocks of tokens is the reference's sum over all tokens, whatever the arguments. -/
module

public import proofs.«01_k».proof.Defs
public import proofs.«01_k».proof.Proof.Gen.ConvOutGradIdeal
public import proofs.«01_k».proof.Proof.Gen.ConvOutGradIdeal.Value
public import proofs.«01_k».proof.Proof.Gen.ConvOutGradReferenceIdeal
public import proofs.«01_k».proof.Proof.Gen.ConvOutGradReferenceIdeal.Run
public import proofs.«01_k».proof.Proof.Gen.ConvOutGradReferenceIdeal.Read
public import Idealize.ShloMosaic.Lib.Pipeline.ValueKit
public import Idealize.ShloMosaic.Lib.Pointwise
public import Idealize.ShloMosaic.Lib.Claim

@[expose] public section

open Idealize.ShloMosaic Idealize.ShloMosaic.TcCoe Idealize.ShloMosaic.Tactic Idealize.SL.Sem
open Cert.ConvOutGradIdeal Cert.ConvOutGradIdeal.Gen

noncomputable section

namespace Cert.ConvOutGradClaim

set_option maxRecDepth 16384

variable (m : (ℓ : Loc nD τ sig) → Buf (Elt Ideal) ℓ) (c : Dev nD)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![0, 0] := by decide +kernel
theorem idx3 : ∀ t : Fin cfg0.N, win0_3.index t = ![t.val, 0] := by decide +kernel
theorem idx4 : ∀ t : Fin cfg0.N, win0_4.index t = ![0, 0] := by decide +kernel
theorem idx5 : ∀ t : Fin cfg0.N, win0_5.index t = ![0, 0] := by decide +kernel

/-- The weights' one block is the weight matrix. -/
theorem blk2 (t : Fin cfg0.N) (a : Fin 1024) (b : Fin 1024) : iblk m c 2 t (ix2 a b) = m ((c : Thread nD τ).loc main_arg2) (ix2 a b) := by
  have e := idx2 t
  blk_simp [iblk, e]
  entry_read
  pointwise
  blk_ext [e]

/-- A block of the layer's input, -/
theorem blk0 (t : Fin cfg0.N) (p : Fin 512) (k : Fin 1024) : iblk m c 0 t (ix2 p k) = m ((c : Thread nD τ).loc main_arg0) (ix2 (⟨512 * t.val + p.val, by have : t.val < 4 := lt_of_lt_of_eq t.isLt N_0; omega⟩ : Fin 2048) k) := by
  have e := idx0 t
  blk_ext [iblk, V, e]

/-- and of the cotangent. -/
theorem blk1 (t : Fin cfg0.N) (p : Fin 512) (k : Fin 1024) : iblk m c 1 t (ix2 p k) = m ((c : Thread nD τ).loc main_arg1) (ix2 (⟨512 * t.val + p.val, by have : t.val < 4 := lt_of_lt_of_eq t.isLt N_0; omega⟩ : Fin 2048) k) := by
  have e := idx1 t
  blk_ext [iblk, V, e]

/-- The zeros each accumulation starts from, -/
theorem pay1 (i) : k0_pay1 (F := Ideal) i = (0 : EReal) := by
  rw [eq_ix2 i]
  pointwise [k0_pay1]

theorem pay2 (i) : k0_pay2 (F := Ideal) i = (0 : EReal) := by
  rw [eq_ix2 i]
  pointwise [k0_pay2]

/-- the input's gradient, -/
theorem pay4 (y : Vec Ideal S512x1024 .f32) (w : Vec Ideal S1024x1024 .bf16) (p : Fin 512) (q : Fin 1024) :
    k0_pay4 y w (ix2 p q) = ∑ k : Fin 1024, y (ix2 p k) * w (ix2 q k) := by
  pointwise [k0_pay4, k0_pay3]

/-- a block's addition to the weights' gradient, -/
theorem pay5 (y : Vec Ideal S512x1024 .f32) (s : Vec Ideal S1024x1024 .f32) (u : Vec Ideal S512x1024 .f32) (p q : Fin 1024) :
    k0_pay5 y s u (ix2 p q) = s (ix2 p q) + ∑ r : Fin 512, u (ix2 r p) * y (ix2 r q) := by
  pointwise [k0_pay5, k0_pay3]

/-- and to the bias's. -/
theorem pay6 (y : Vec Ideal S512x1024 .f32) (s : Vec Ideal S1x1024 .f32) (q : Fin 1024) :
    k0_pay6 y s (ix2 (0 : Fin 1) q) = s (ix2 (0 : Fin 1) q) + ∑ r : Fin 512, y (ix2 r q) := by
  pointwise [k0_pay6]

/-- The weights' gradient is stored as it was accumulated. -/
theorem pay7 (s : Vec Ideal S1024x1024 .f32) (i) : k0_pay7 s i = s i := by
  rw [eq_ix2 i]
  pointwise [k0_pay7]

section
open Cert.ConvOutGradReferenceIdeal.Read

variable (u y : (⟨S2048x1024, .f32⟩ : BufTy).Contents (Elt Ideal)) (w : (⟨S1024x1024, .f32⟩ : BufTy).Contents (Elt Ideal))

/-- The reference's gradient of the layer's input, -/
theorem ref11 (p : Fin 2048) (q : Fin 1024) : val_main_v11 (F := Ideal) y w (ix2 p q) = ∑ k : Fin 1024, y (ix2 p k) * w (ix2 q k) := by
  pointwise [val_main_v11, val_main_v5]

/-- of the weights, -/
theorem ref12 (p q : Fin 1024) : val_main_v12 (F := Ideal) u y (ix2 p q) = ∑ r : Fin 2048, u (ix2 r p) * y (ix2 r q) := by
  pointwise [val_main_v12, val_main_v10, val_main_v9, val_main_v5]
  exact Finset.sum_congr rfl fun r _ => mul_comm (G := EReal) _ _

/-- and of the bias. -/
theorem ref13 (q : Fin 1024) : val_main_v13 (F := Ideal) y (ix2 (0 : Fin 1) q) = ∑ r : Fin 2048, y (ix2 r q) := by
  pointwise [val_main_v13, val_main_v8, val_main_v7, val_main_v6, val_main_cst_0, val_main_cst_1]
  exact Fin.sum_univ_one _

end

/-- The input's gradient is the reference's. -/
theorem final3 : (dats m 0 c).arrAt 3 cfg0.N = Cert.ConvOutGradReferenceIdeal.Read.val_main_v11 (F := Ideal) (m ((c : Thread nD τ).loc main_arg1)) (m ((c : Thread nD τ).loc main_arg2)) := by
  refine (dats m 0 c).arrAt_eq_of_covers 3 _ (by decide +kernel) fun t hf y => ?_
  have e3 := idx3 t
  blk_simp [e3]
  obtain ⟨p, q, rfl⟩ : ∃ (p : Fin 512) (q : Fin 1024), y = ix2 p q := ⟨y 0, y 1, eq_ix2 y⟩
  have ht : t.val < 4 := lt_of_lt_of_eq t.isLt N_0
  have z : ((View.whole main_v1_0).slice (win0_3.rect t)).emb (ix2 p q) = ix2 (⟨512 * t.val + p.val, by omega⟩ : Fin 2048) q := by
    blk_ext [e3]
  have h : (outsAt0 m c t.val t.isLt).1 (ix2 p q) = k0_pay4 (iblk m c 1 t) (iblk m c 2 t) (ix2 p q) := by
    rcases (by omega : (t.val % 4 = 0 ∧ ¬t.val % 4 = 3) ∨ (¬t.val % 4 = 0 ∧ ¬t.val % 4 = 3) ∨ (¬t.val % 4 = 0 ∧ t.val % 4 = 3)) with h | h | h
    · rw [outsAt0_A m c t h.1 h.2]
      frame_out
    · rw [outsAt0_B m c t h.1 h.2]
      frame_out
    · rw [outsAt0_C m c t h.1 h.2]
      frame_out
  rw [after0_3, z, h, pay4, ref11]
  simp only [blk1, blk2]

/-- A block of the layer's input and of the cotangent, as extended reals. -/
abbrev ub (t : Fin cfg0.N) : Vec Ideal S512x1024 .f32 := iblk m c 0 t
abbrev yb (t : Fin cfg0.N) : Vec Ideal S512x1024 .f32 := iblk m c 1 t

/-- What the scratch holds after the last block. -/
theorem sum3 (p q : Fin 1024) : (outsAt0 m c t0_3.val t0_3.isLt).2.2.2 (ix2 p q)
    = ∑ t : Fin cfg0.N, ∑ r : Fin 512, ub m c t (ix2 r p) * yb m c t (ix2 r q) := by
  rw [Pipeline.eq_sum_fin_of_reset_step_apply_last (M := EReal) (N := cfg0.N) (fun n h => (outsAt0 m c n h).2.2.2) 4 (fun _ => 0)
    (fun t i => ∑ r : Fin 512, ub m c t (ix2 r (i 0)) * yb m c t (ix2 r (i 1)))
    (fun t h j => ?_) (fun t h j => ?_) (le_of_eq N_0) t0_3 N_0.symm (ix2 p q), zero_add]
  · rfl
  · obtain ⟨a, b, rfl⟩ : ∃ (a b : Fin 1024), j = ix2 a b := ⟨j 0, j 1, eq_ix2 j⟩
    rw [outsAt0_A m c t h (by omega)]
    frame_out
    rw [pay5, pay1]
    rfl
  · obtain ⟨a, b, rfl⟩ : ∃ (a b : Fin 1024), j = ix2 a b := ⟨j 0, j 1, eq_ix2 j⟩
    by_cases h3 : t.val % 4 = 3
    · rw [outsAt0_C m c t h h3]
      frame_out
      rw [pay5]
      exact congrArg₂ (· + ·) (congrFun ((Memref.isWhole_whole cc0_scratch0).read_unread _) _) rfl
    · rw [outsAt0_B m c t h h3]
      frame_out
      rw [pay5]
      exact congrArg₂ (· + ·) (congrFun ((Memref.isWhole_whole cc0_scratch0).read_unread _) _) rfl

/-- What the bias's gradient holds after the last block. -/
theorem sum5 (q : Fin 1024) : (outsAt0 m c t0_3.val t0_3.isLt).2.2.1 (ix2 (0 : Fin 1) q)
    = ∑ t : Fin cfg0.N, ∑ r : Fin 512, yb m c t (ix2 r q) := by
  rw [Pipeline.eq_sum_fin_of_reset_step_apply_last (M := EReal) (N := cfg0.N) (fun n h => (outsAt0 m c n h).2.2.1) 4 (fun _ => 0)
    (fun t i => ∑ r : Fin 512, yb m c t (ix2 r (i 1)))
    (fun t h j => ?_) (fun t h j => ?_) (le_of_eq N_0) t0_3 N_0.symm (ix2 (0 : Fin 1) q), zero_add]
  · rfl
  · obtain ⟨b, rfl⟩ : ∃ b : Fin 1024, j = ix2 (0 : Fin 1) b := ⟨j 1, (eq_ix2 j).trans (congrArg (fun a => ix2 a (j 1)) (Subsingleton.elim _ _))⟩
    rw [outsAt0_A m c t h (by omega)]
    frame_out
    rw [pay6, pay2]
    rfl
  · obtain ⟨b, rfl⟩ : ∃ b : Fin 1024, j = ix2 (0 : Fin 1) b := ⟨j 1, (eq_ix2 j).trans (congrArg (fun a => ix2 a (j 1)) (Subsingleton.elim _ _))⟩
    by_cases h3 : t.val % 4 = 3
    · rw [outsAt0_C m c t h h3]
      frame_out
      rw [pay6]
      rfl
    · rw [outsAt0_B m c t h h3]
      frame_out
      rw [pay6]
      rfl

/-- The weights' gradient is the reference's. -/
theorem final4 : (dats m 0 c).arrAt 4 cfg0.N = Cert.ConvOutGradReferenceIdeal.Read.val_main_v12 (F := Ideal) (m ((c : Thread nD τ).loc main_arg0)) (m ((c : Thread nD τ).loc main_arg1)) := by
  refine (dats m 0 c).arrAt_eq_of_covers 4 _ (by decide +kernel) fun t hf y => ?_
  have h3 : t = t0_3 := Fin.ext (by have := (flush0_4 t).mp hf; have : t.val < 4 := lt_of_lt_of_eq t.isLt N_0; show t.val = 3; omega)
  subst h3
  have e := idx4 t0_3
  blk_simp [e]
  obtain ⟨p, q, rfl⟩ : ∃ (p q : Fin 1024), y = ix2 p q := ⟨y 0, y 1, eq_ix2 y⟩
  have z : ((View.whole main_v1_1).slice (win0_4.rect t0_3)).emb (ix2 p q) = ix2 p q := by
    blk_ext [e]
  have h : (outsAt0 m c t0_3.val t0_3.isLt).2.1 (ix2 p q) = (outsAt0 m c t0_3.val t0_3.isLt).2.2.2 (ix2 p q) := by
    rw [outsAt0_C m c t0_3 (by decide) (by decide)]
    frame_out
    rw [pay7]
  rw [after0_4, z, h, sum3, ref12]
  refine Fin.sum_mul_add_congr fun t r hl => ?_
  have z (k : Fin 1024) : (ix2 (⟨512 * t.val + r.val, by omega⟩ : Fin 2048) k : S2048x1024.Idx) = ix2 (⟨t.val * 512 + r.val, hl⟩ : Fin 2048) k :=
    congrArg (fun a => ix2 a k) (Fin.ext (by show 512 * t.val + r.val = t.val * 512 + r.val; omega))
  rw [ub, yb, blk0, blk1, z, z]

/-- The bias's gradient is the reference's. -/
theorem final5 : (dats m 0 c).arrAt 5 cfg0.N = Cert.ConvOutGradReferenceIdeal.Read.val_main_v13 (F := Ideal) (m ((c : Thread nD τ).loc main_arg1)) := by
  refine (dats m 0 c).arrAt_eq_of_covers 5 _ (by decide +kernel) fun t hf y => ?_
  have h3 : t = t0_3 := Fin.ext (by have := (flush0_5 t).mp hf; have : t.val < 4 := lt_of_lt_of_eq t.isLt N_0; show t.val = 3; omega)
  subst h3
  have e := idx5 t0_3
  blk_simp [e]
  obtain ⟨q, rfl⟩ : ∃ q : Fin 1024, y = ix2 (0 : Fin 1) q := ⟨y 1, (eq_ix2 y).trans (congrArg (fun a => ix2 a (y 1)) (Subsingleton.elim _ _))⟩
  have z : ((View.whole main_v1_2).slice (win0_5.rect t0_3)).emb (ix2 (0 : Fin 1) q) = ix2 (0 : Fin 1) q := by
    blk_ext [e]
  rw [after0_5, z, sum5, ref13]
  refine Fin.sum_mul_add_congr fun t r hl => ?_
  rw [yb, blk1]
  exact congrArg (fun a => m ((c : Thread nD τ).loc main_arg1) (ix2 a q)) (Fin.ext (by show 512 * t.val + r.val = t.val * 512 + r.val; omega))

/-- The kernel and the reference end with the same three results, whatever the arguments. -/
theorem values : Cert.algebraic_ConvOutGradIdeal_ConvOutGradReferenceIdeal := by
  intro m g m' g' _ ha
  refine ⟨fun c => (dats m 0 c).arrAt 3 cfg0.N, fun c => (dats m 0 c).arrAt 4 cfg0.N, fun c => (dats m 0 c).arrAt 5 cfg0.N,
    Cert.ConvOutGradIdeal.Value.run_blocks m g, (θ_run _ _ _).mono (fun r h c => ?_) (Cert.ConvOutGradReferenceIdeal.Value.run m' g')⟩
  obtain ⟨a0, a1, a2⟩ := ha c
  refine ⟨((h c).1.trans (Cert.ConvOutGradReferenceIdeal.Read.val_main_v11_eq _ _)).trans ?_,
    ((h c).2.1.trans (Cert.ConvOutGradReferenceIdeal.Read.val_main_v12_eq _ _)).trans ?_,
    ((h c).2.2.1.trans (Cert.ConvOutGradReferenceIdeal.Read.val_main_v13_eq _)).trans ?_, (h c).2.2.2⟩
  · rw [a1, a2]
    exact (final3 m c).symm
  · rw [a0, a1]
    exact (final4 m c).symm
  · rw [a1]
    exact (final5 m c).symm

end Cert.ConvOutGradClaim

end
-- ==== Proof.MixOutGrad.lean ====
/- The gradients of the attention and delta mixer's output projection: what the kernel accumulates over four blocks of tokens is the reference's sum over all tokens, whatever the arguments. -/
module

public import proofs.«01_k».proof.Defs
public import proofs.«01_k».proof.Proof.Gen.MixOutGradIdeal
public import proofs.«01_k».proof.Proof.Gen.MixOutGradIdeal.Value
public import proofs.«01_k».proof.Proof.Gen.MixOutGradReferenceIdeal
public import proofs.«01_k».proof.Proof.Gen.MixOutGradReferenceIdeal.Run
public import proofs.«01_k».proof.Proof.Gen.MixOutGradReferenceIdeal.Read
public import Idealize.ShloMosaic.Lib.Pipeline.ValueKit
public import Idealize.ShloMosaic.Lib.Pointwise
public import Idealize.ShloMosaic.Lib.Claim
public import Idealize.ShloMosaic.Lib.Pipeline.ReadBack

@[expose] public section

open Idealize.ShloMosaic Idealize.ShloMosaic.TcCoe Idealize.ShloMosaic.Tactic Idealize.SL.Sem
open Cert.MixOutGradIdeal Cert.MixOutGradIdeal.Gen

noncomputable section

namespace Cert.MixOutGradClaim

set_option maxRecDepth 16384

variable (m : (ℓ : Loc nD τ sig) → Buf (Elt Ideal) ℓ) (c : Dev nD)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![0, 0] := by decide +kernel
theorem idx4 : ∀ t : Fin cfg0.N, win0_4.index t = ![t.val, 0] := by decide +kernel
theorem idx5 : ∀ t : Fin cfg0.N, win0_5.index t = ![0, 0] := by decide +kernel
theorem idx6 : ∀ t : Fin cfg0.N, win0_6.index t = ![0, 0] := by decide +kernel

/-- The weights' one block is the weight matrix. -/
theorem blk3 (t : Fin cfg0.N) (a b : Fin 1024) : iblk m c 3 t (ix2 a b) = m ((c : Thread nD τ).loc main_arg3) (ix2 a b) := by
  have e := idx3 t
  blk_simp [iblk, e]
  entry_read
  pointwise
  blk_ext [e]

/-- A block of the attention's output, -/
theorem blk0 (t : Fin cfg0.N) (p : Fin 512) (k : Fin 512) : iblk m c 0 t (ix2 p k) = m ((c : Thread nD τ).loc main_arg0) (ix2 (⟨512 * t.val + p.val, by have : t.val < 4 := lt_of_lt_of_eq t.isLt N_0; omega⟩ : Fin 2048) k) := by
  have e := idx0 t
  blk_ext [iblk, V, e]

/-- of the delta rule's, -/
theorem blk1 (t : Fin cfg0.N) (p : Fin 512) (k : Fin 512) : iblk m c 1 t (ix2 p k) = m ((c : Thread nD τ).loc main_arg1) (ix2 (⟨512 * t.val + p.val, by have : t.val < 4 := lt_of_lt_of_eq t.isLt N_0; omega⟩ : Fin 2048) k) := by
  have e := idx1 t
  blk_ext [iblk, V, e]

/-- and of the cotangent. -/
theorem blk2 (t : Fin cfg0.N) (p : Fin 512) (k : Fin 1024) : iblk m c 2 t (ix2 p k) = m ((c : Thread nD τ).loc main_arg2) (ix2 (⟨512 * t.val + p.val, by have : t.val < 4 := lt_of_lt_of_eq t.isLt N_0; omega⟩ : Fin 2048) k) := by
  have e := idx2 t
  blk_ext [iblk, V, e]

/-- The zeros each accumulation starts from, -/
theorem pay3 (i) : k0_pay3 (F := Ideal) i = (0 : EReal) := by
  rw [eq_ix2 i]
  pointwise [k0_pay3]

theorem pay4 (i) : k0_pay4 (F := Ideal) i = (0 : EReal) := by
  rw [eq_ix2 i]
  pointwise [k0_pay4]

/-- the input's gradient, -/
theorem pay6 (y : Vec Ideal S512x1024 .f32) (w : Vec Ideal S1024x1024 .bf16) (p : Fin 512) (q : Fin 1024) :
    k0_pay6 y w (ix2 p q) = ∑ k : Fin 1024, y (ix2 p k) * w (ix2 q k) := by
  pointwise [k0_pay6, k0_pay5]

/-- a block's addition to the upper half of the weights' gradient, -/
theorem pay7 (y : Vec Ideal S512x1024 .f32) (s : Vec Ideal S512x1024 .f32) (u : Vec Ideal S512x512 .f32) (p : Fin 512) (q : Fin 1024) :
    k0_pay7 y s u (ix2 p q) = s (ix2 p q) + ∑ r : Fin 512, u (ix2 r p) * y (ix2 r q) := by
  pointwise [k0_pay7, k0_pay5]

/-- to the lower half, -/
theorem pay8 (y : Vec Ideal S512x1024 .f32) (s : Vec Ideal S512x1024 .f32) (u : Vec Ideal S512x512 .f32) (p : Fin 512) (q : Fin 1024) :
    k0_pay8 y s u (ix2 p q) = s (ix2 p q) + ∑ r : Fin 512, u (ix2 r p) * y (ix2 r q) := by
  pointwise [k0_pay8, k0_pay5]

/-- and to the bias's. -/
theorem pay1 (y : Vec Ideal S512x1024 .f32) (s : Vec Ideal S1x1024 .f32) (q : Fin 1024) :
    k0_pay1 (k0_pay9 s) (k0_pay10 y) (ix2 (0 : Fin 1) q) = s (ix2 (0 : Fin 1) q) + ∑ r : Fin 512, y (ix2 r q) := by
  pointwise [k0_pay1, k0_pay9, k0_pay10]

/-- The weights' gradient is stored as it was accumulated. -/
theorem pay2 (s : Vec Ideal S1024x1024 .f32) (i) : k0_pay2 s i = s i := by
  rw [eq_ix2 i]
  pointwise [k0_pay2]

section
open Cert.MixOutGradReferenceIdeal.Read

variable (u u' : (⟨S2048x512, .f32⟩ : BufTy).Contents (Elt Ideal)) (y : (⟨S2048x1024, .f32⟩ : BufTy).Contents (Elt Ideal)) (w : (⟨S1024x1024, .f32⟩ : BufTy).Contents (Elt Ideal))

/-- The joined heads' first half is the first operand, -/
theorem left (p : Fin 2048) (k : Fin 512) : val_main_v0 (F := Ideal) u u' (ix2 p (Fin.castAdd 512 k)) = u (ix2 p k) := by
  rw [val_main_v0]
  refine concatenate_pair_apply_left (t := S2048x1024) (s₁ := S2048x512) 1 _ _ _ _ rfl (ix2 p k) fun b => ?_
  fin_cases b <;> rfl

/-- and its second half the second. -/
theorem right (p : Fin 2048) (k : Fin 512) : val_main_v0 (F := Ideal) u u' (ix2 p (Fin.natAdd 512 k)) = u' (ix2 p k) := by
  rw [val_main_v0]
  refine concatenate_pair_apply_right (t := S2048x1024) (s₁ := S2048x512) (s₂ := S2048x512) 1 _ _ _ _ rfl rfl (ix2 p k) (fun b hb => ?_) (Nat.add_comm _ _)
  fin_cases b
  · rfl
  · exact absurd rfl hb

/-- The reference's gradient of the layer's input, -/
theorem ref12 (p : Fin 2048) (q : Fin 1024) : val_main_v12 (F := Ideal) y w (ix2 p q) = ∑ k : Fin 1024, y (ix2 p k) * w (ix2 q k) := by
  pointwise [val_main_v12, val_main_v6]

/-- of the weights, -/
theorem ref13 (p q : Fin 1024) : val_main_v13 (F := Ideal) u u' y (ix2 p q) = ∑ r : Fin 2048, val_main_v0 (F := Ideal) u u' (ix2 r p) * y (ix2 r q) := by
  pointwise [val_main_v13, val_main_v11, val_main_v10, val_main_v6]
  exact Finset.sum_congr rfl fun r _ => mul_comm (G := EReal) _ _

/-- and of the bias. -/
theorem ref14 (q : Fin 1024) : val_main_v14 (F := Ideal) y (ix2 (0 : Fin 1) q) = ∑ r : Fin 2048, y (ix2 r q) := by
  pointwise [val_main_v14, val_main_v9, val_main_v8, val_main_v7, val_main_cst_0, val_main_cst_1]
  exact Fin.sum_univ_one _

end

/-- The input's gradient is the reference's. -/
theorem final4 : (dats m 0 c).arrAt 4 cfg0.N = Cert.MixOutGradReferenceIdeal.Read.val_main_v12 (F := Ideal) (m ((c : Thread nD τ).loc main_arg2)) (m ((c : Thread nD τ).loc main_arg3)) := by
  refine (dats m 0 c).arrAt_eq_of_covers 4 _ (by decide +kernel) fun t hf y => ?_
  have e4 := idx4 t
  blk_simp [e4]
  obtain ⟨p, q, rfl⟩ : ∃ (p : Fin 512) (q : Fin 1024), y = ix2 p q := ⟨y 0, y 1, eq_ix2 y⟩
  have ht : t.val < 4 := lt_of_lt_of_eq t.isLt N_0
  have z : ((View.whole main_v1_0).slice (win0_4.rect t)).emb (ix2 p q) = ix2 (⟨512 * t.val + p.val, by omega⟩ : Fin 2048) q := by
    blk_ext [e4]
  have h : (outsAt0 m c t.val t.isLt).1 (ix2 p q) = k0_pay6 (iblk m c 2 t) (iblk m c 3 t) (ix2 p q) := by
    rcases (by omega : (t.val % 4 = 0 ∧ ¬t.val % 4 = 3) ∨ (¬t.val % 4 = 0 ∧ ¬t.val % 4 = 3) ∨ (¬t.val % 4 = 0 ∧ t.val % 4 = 3)) with h | h | h
    · rw [outsAt0_A m c t h.1 h.2]
      frame_out
    · rw [outsAt0_B m c t h.1 h.2]
      frame_out
    · rw [outsAt0_C m c t h.1 h.2]
      frame_out
  rw [after0_4, z, h, pay6, ref12]
  simp only [blk2, blk3]

/-- A block of the layer's input and of the cotangent, as extended reals. -/
abbrev ub (t : Fin cfg0.N) : Vec Ideal S512x512 .f32 := iblk m c 0 t
abbrev ob (t : Fin cfg0.N) : Vec Ideal S512x512 .f32 := iblk m c 1 t
abbrev yb (t : Fin cfg0.N) : Vec Ideal S512x1024 .f32 := iblk m c 2 t

/-- The two halves of the accumulator's rows. -/
abbrev up : Rect S1024x1024 := Rect.unit (s := S1024x1024) ![0, 0] ![512, 1024] inb_S1024x1024_S512x1024_0_0
abbrev low : Rect S1024x1024 := Rect.unit (s := S1024x1024) ![512, 0] ![512, 1024] inb_S1024x1024_S512x1024_512_0

theorem up_emb (a : Fin 512) (b : Fin 1024) : up.emb (ix2 a b : Shape.Idx ⟨2, ![512, 1024]⟩) = ix2 (Fin.castAdd 512 a) b := by
  funext d
  fin_cases d <;> (refine Fin.ext ((Rect.idx_unit_val _ _ _ _ _).trans ?_); simp [ix2])

theorem low_emb (a : Fin 512) (b : Fin 1024) : low.emb (ix2 a b : Shape.Idx ⟨2, ![512, 1024]⟩) = ix2 (Fin.natAdd 512 a) b := by
  funext d
  fin_cases d <;> (refine Fin.ext ((Rect.idx_unit_val _ _ _ _ _).trans ?_); simp [ix2]) <;> omega

/-- A store to the lower half leaves the upper rows. -/
theorem not_low (a : Fin 512) (b : Fin 1024) : ix2 (Fin.castAdd 512 a) b ∉ low.set := by
  exact fun h => absurd ((Rect.mem_set_unit.mp h) 0).1 (by show ¬512 ≤ a.val; omega)

theorem canon_low (w : (⟨2, ![512, 1024]⟩ : Shape).Idx → Elt Ideal .f32) (L : List (View.Piece (Elt Ideal) S1024x1024 .f32)) (a : Fin 512) (b : Fin 1024) :
    View.canon (⟨low, w⟩ :: L) (ix2 (Fin.natAdd 512 a) b) = w (ix2 a b) := by
  exact (congrArg _ (low_emb a b).symm).trans (View.canon_cons_emb low w L (ix2 a b : Shape.Idx ⟨2, ![512, 1024]⟩))

theorem canon_up (w w' : (⟨2, ![512, 1024]⟩ : Shape).Idx → Elt Ideal .f32) (L : List (View.Piece (Elt Ideal) S1024x1024 .f32)) (a : Fin 512) (b : Fin 1024) :
    View.canon (⟨low, w'⟩ :: ⟨up, w⟩ :: L) (ix2 (Fin.castAdd 512 a) b) = w (ix2 a b) := by
  refine (View.canon_cons_of_not_mem (⟨low, w'⟩ : View.Piece (Elt Ideal) S1024x1024 .f32) (⟨up, w⟩ :: L) (not_low a b)).trans ?_
  exact (congrArg _ (up_emb a b).symm).trans (View.canon_cons_emb up w L (ix2 a b : Shape.Idx ⟨2, ![512, 1024]⟩))

theorem ld_up (X : S1024x1024.Idx → Elt Ideal .f32) (a : Fin 512) (b : Fin 1024) : View.ld X up (ix2 a b : Shape.Idx ⟨2, ![512, 1024]⟩) = X (ix2 (Fin.castAdd 512 a) b) :=
  congrArg X (up_emb a b)

theorem ld_low (X : S1024x1024.Idx → Elt Ideal .f32) (a : Fin 512) (b : Fin 1024) : View.ld X low (ix2 a b : Shape.Idx ⟨2, ![512, 1024]⟩) = X (ix2 (Fin.natAdd 512 a) b) :=
  congrArg X (low_emb a b)

/-- What the scratch's upper half holds after the last block, -/
theorem sum3 (p : Fin 512) (q : Fin 1024) : (outsAt0 m c t0_3.val t0_3.isLt).2.2.2 (ix2 (Fin.castAdd 512 p) q)
    = ∑ t : Fin cfg0.N, ∑ r : Fin 512, ub m c t (ix2 r p) * yb m c t (ix2 r q) := by
  rw [Pipeline.eq_sum_fin_of_reset_step_apply_last (M := EReal) (N := cfg0.N) (ι := Fin 512 × Fin 1024) (fun n h i => (outsAt0 m c n h).2.2.2 (ix2 (Fin.castAdd 512 i.1) i.2)) 4 (fun _ => 0)
    (fun t i => ∑ r : Fin 512, ub m c t (ix2 r i.1) * yb m c t (ix2 r i.2))
    (fun t h j => ?_) (fun t h j => ?_) (le_of_eq N_0) t0_3 N_0.symm (p, q), zero_add]
  · obtain ⟨a, b⟩ := j
    dsimp only
    rw [outsAt0_A m c t h (by omega)]
    frame_out
    refine (canon_up _ _ _ a b).trans ?_
    rw [pay7]
    refine congrArg₂ (· + ·) ?_ rfl
    rw [View.readCov_fill _ _ _ _ _ (by intro a; fin_cases a <;> rfl)]
    exact ((ld_up _ a b).trans (pay3 _))
  · obtain ⟨a, b⟩ := j
    dsimp only
    by_cases h3 : t.val % 4 = 3
    · rw [outsAt0_C m c t h h3]
      frame_out
      refine (canon_up _ _ _ a b).trans ?_
      rw [pay7]
      exact congrArg₂ (· + ·) ((ld_up _ a b).trans (congrFun ((Memref.isWhole_whole cc0_scratch0).read_unread _) _)) rfl
    · rw [outsAt0_B m c t h h3]
      frame_out
      refine (canon_up _ _ _ a b).trans ?_
      rw [pay7]
      exact congrArg₂ (· + ·) ((ld_up _ a b).trans (congrFun ((Memref.isWhole_whole cc0_scratch0).read_unread _) _)) rfl

/-- and its lower half. -/
theorem sum3_low (p : Fin 512) (q : Fin 1024) : (outsAt0 m c t0_3.val t0_3.isLt).2.2.2 (ix2 (Fin.natAdd 512 p) q)
    = ∑ t : Fin cfg0.N, ∑ r : Fin 512, ob m c t (ix2 r p) * yb m c t (ix2 r q) := by
  rw [Pipeline.eq_sum_fin_of_reset_step_apply_last (M := EReal) (N := cfg0.N) (ι := Fin 512 × Fin 1024) (fun n h i => (outsAt0 m c n h).2.2.2 (ix2 (Fin.natAdd 512 i.1) i.2)) 4 (fun _ => 0)
    (fun t i => ∑ r : Fin 512, ob m c t (ix2 r i.1) * yb m c t (ix2 r i.2))
    (fun t h j => ?_) (fun t h j => ?_) (le_of_eq N_0) t0_3 N_0.symm (p, q), zero_add]
  · obtain ⟨a, b⟩ := j
    dsimp only
    rw [outsAt0_A m c t h (by omega)]
    frame_out
    refine (canon_low _ _ a b).trans ?_
    rw [pay8]
    refine congrArg₂ (· + ·) ?_ rfl
    rw [View.readCov_skip _ _ _ _ _ (by decide), View.readCov_fill _ _ _ _ _ (by intro a; fin_cases a <;> rfl)]
    exact ((ld_low _ a b).trans (pay3 _))
  · obtain ⟨a, b⟩ := j
    dsimp only
    by_cases h3 : t.val % 4 = 3
    · rw [outsAt0_C m c t h h3]
      frame_out
      refine (canon_low _ _ a b).trans ?_
      rw [pay8]
      exact congrArg₂ (· + ·) ((ld_low _ a b).trans (congrFun ((Memref.isWhole_whole cc0_scratch0).read_unread _) _)) rfl
    · rw [outsAt0_B m c t h h3]
      frame_out
      refine (canon_low _ _ a b).trans ?_
      rw [pay8]
      exact congrArg₂ (· + ·) ((ld_low _ a b).trans (congrFun ((Memref.isWhole_whole cc0_scratch0).read_unread _) _)) rfl

/-- What the bias's gradient holds after the last block. -/
theorem sum6 (q : Fin 1024) : (outsAt0 m c t0_3.val t0_3.isLt).2.2.1 (ix2 (0 : Fin 1) q)
    = ∑ t : Fin cfg0.N, ∑ r : Fin 512, yb m c t (ix2 r q) := by
  rw [Pipeline.eq_sum_fin_of_reset_step_apply_last (M := EReal) (N := cfg0.N) (fun n h => (outsAt0 m c n h).2.2.1) 4 (fun _ => 0)
    (fun t i => ∑ r : Fin 512, yb m c t (ix2 r (i 1)))
    (fun t h j => ?_) (fun t h j => ?_) (le_of_eq N_0) t0_3 N_0.symm (ix2 (0 : Fin 1) q), zero_add]
  · rfl
  · obtain ⟨b, rfl⟩ : ∃ b : Fin 1024, j = ix2 (0 : Fin 1) b := ⟨j 1, (eq_ix2 j).trans (congrArg (fun a => ix2 a (j 1)) (Subsingleton.elim _ _))⟩
    rw [outsAt0_A m c t h (by omega)]
    frame_out
    rw [pay1, pay4]
    rfl
  · obtain ⟨b, rfl⟩ : ∃ b : Fin 1024, j = ix2 (0 : Fin 1) b := ⟨j 1, (eq_ix2 j).trans (congrArg (fun a => ix2 a (j 1)) (Subsingleton.elim _ _))⟩
    by_cases h3 : t.val % 4 = 3
    · rw [outsAt0_C m c t h h3]
      frame_out
      rw [pay1]
      rfl
    · rw [outsAt0_B m c t h h3]
      frame_out
      rw [pay1]
      rfl

/-- The weights' gradient is the reference's. -/
theorem final5 : (dats m 0 c).arrAt 5 cfg0.N = Cert.MixOutGradReferenceIdeal.Read.val_main_v13 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  have h3 : t = t0_3 := Fin.ext (by have := (flush0_5 t).mp hf; have : t.val < 4 := lt_of_lt_of_eq t.isLt N_0; show t.val = 3; omega)
  subst h3
  have e := idx5 t0_3
  blk_simp [e]
  obtain ⟨p, q, rfl⟩ : ∃ (p q : Fin 1024), y = ix2 p q := ⟨y 0, y 1, eq_ix2 y⟩
  have z : ((View.whole main_v1_1).slice (win0_5.rect t0_3)).emb (ix2 p q) = ix2 p q := by
    blk_ext [e]
  have h : (outsAt0 m c t0_3.val t0_3.isLt).2.1 (ix2 p q) = (outsAt0 m c t0_3.val t0_3.isLt).2.2.2 (ix2 p q) := by
    rw [outsAt0_C m c t0_3 (by decide) (by decide)]
    frame_out
    rw [pay2, View.readCov_eq_canon']
    refine congrArg _ ?_
    funext d
    fin_cases d <;> (refine Fin.ext ((Rect.idx_unit_val _ _ _ _ _).trans ?_); simp [ix2])
  rw [after0_5, z, h, ref13]
  rcases (by omega : p.val < 512 ∨ 512 ≤ p.val) with hp | hp
  · obtain ⟨a, rfl⟩ : ∃ a : Fin 512, p = Fin.castAdd 512 a := ⟨⟨p.val, hp⟩, rfl⟩
    rw [sum3]
    refine Fin.sum_mul_add_congr fun t r hl => ?_
    have z (k : Fin 512) : (ix2 (⟨512 * t.val + r.val, by omega⟩ : Fin 2048) k : S2048x512.Idx) = ix2 (⟨t.val * 512 + r.val, hl⟩ : Fin 2048) k :=
      congrArg (fun a => ix2 a k) (Fin.ext (by show 512 * t.val + r.val = t.val * 512 + r.val; omega))
    have z' (k : Fin 1024) : (ix2 (⟨512 * t.val + r.val, by omega⟩ : Fin 2048) k : S2048x1024.Idx) = ix2 (⟨t.val * 512 + r.val, hl⟩ : Fin 2048) k :=
      congrArg (fun a => ix2 a k) (Fin.ext (by show 512 * t.val + r.val = t.val * 512 + r.val; omega))
    rw [ub, yb, blk0, blk2, left, z, z']
  · obtain ⟨a, rfl⟩ : ∃ a : Fin 512, p = Fin.natAdd 512 a := ⟨⟨p.val - 512, by omega⟩, Fin.ext (by show p.val = 512 + (p.val - 512); omega)⟩
    rw [sum3_low]
    refine Fin.sum_mul_add_congr fun t r hl => ?_
    have z (k : Fin 512) : (ix2 (⟨512 * t.val + r.val, by omega⟩ : Fin 2048) k : S2048x512.Idx) = ix2 (⟨t.val * 512 + r.val, hl⟩ : Fin 2048) k :=
      congrArg (fun a => ix2 a k) (Fin.ext (by show 512 * t.val + r.val = t.val * 512 + r.val; omega))
    have z' (k : Fin 1024) : (ix2 (⟨512 * t.val + r.val, by omega⟩ : Fin 2048) k : S2048x1024.Idx) = ix2 (⟨t.val * 512 + r.val, hl⟩ : Fin 2048) k :=
      congrArg (fun a => ix2 a k) (Fin.ext (by show 512 * t.val + r.val = t.val * 512 + r.val; omega))
    rw [ob, yb, blk1, blk2, right, z, z']

/-- The bias's gradient is the reference's. -/
theorem final6 : (dats m 0 c).arrAt 6 cfg0.N = Cert.MixOutGradReferenceIdeal.Read.val_main_v14 (F := Ideal) (m ((c : Thread nD τ).loc main_arg2)) := by
  refine (dats m 0 c).arrAt_eq_of_covers 6 _ (by decide +kernel) fun t hf y => ?_
  have h3 : t = t0_3 := Fin.ext (by have := (flush0_6 t).mp hf; have : t.val < 4 := lt_of_lt_of_eq t.isLt N_0; show t.val = 3; omega)
  subst h3
  have e := idx6 t0_3
  blk_simp [e]
  obtain ⟨q, rfl⟩ : ∃ q : Fin 1024, y = ix2 (0 : Fin 1) q := ⟨y 1, (eq_ix2 y).trans (congrArg (fun a => ix2 a (y 1)) (Subsingleton.elim _ _))⟩
  have z : ((View.whole main_v1_2).slice (win0_6.rect t0_3)).emb (ix2 (0 : Fin 1) q) = ix2 (0 : Fin 1) q := by
    blk_ext [e]
  rw [after0_6, z, sum6, ref14]
  refine Fin.sum_mul_add_congr fun t r hl => ?_
  rw [yb, blk2]
  exact congrArg (fun a => m ((c : Thread nD τ).loc main_arg2) (ix2 a q)) (Fin.ext (by show 512 * t.val + r.val = t.val * 512 + r.val; omega))

/-- The kernel and the reference end with the same three results, whatever the arguments. -/
theorem values : Cert.algebraic_MixOutGradIdeal_MixOutGradReferenceIdeal := by
  intro m g m' g' _ ha
  refine ⟨fun c => (dats m 0 c).arrAt 4 cfg0.N, fun c => (dats m 0 c).arrAt 5 cfg0.N, fun c => (dats m 0 c).arrAt 6 cfg0.N,
    Cert.MixOutGradIdeal.Value.run_blocks m g, (θ_run _ _ _).mono (fun r h c => ?_) (Cert.MixOutGradReferenceIdeal.Value.run m' g')⟩
  obtain ⟨a0, a1, a2, a3⟩ := ha c
  refine ⟨((h c).1.trans (Cert.MixOutGradReferenceIdeal.Read.val_main_v12_eq _ _)).trans ?_,
    ((h c).2.1.trans (Cert.MixOutGradReferenceIdeal.Read.val_main_v13_eq _ _ _)).trans ?_,
    ((h c).2.2.1.trans (Cert.MixOutGradReferenceIdeal.Read.val_main_v14_eq _)).trans ?_, (h c).2.2.2⟩
  · rw [a2, a3]
    exact (final4 m c).symm
  · rw [a0, a1, a2]
    exact (final5 m c).symm
  · rw [a2]
    exact (final6 m c).symm

end Cert.MixOutGradClaim

end
-- ==== Proof.ConvInGradStep.lean ====
/- What one grid point of the norm-and-projection gradient kernel leaves in its buffers, as a function of what it finds there. -/
module

public import proofs.«01_k».proof.Proof.Gen.ConvInGradIdeal.Frame
public import proofs.«01_k».proof.Proof.Gen.ConvInGradIdeal.Skeleton
public import Idealize.ShloMosaic.Lib.VecWindow

@[expose] public section

set_option maxRecDepth 16384

noncomputable section

namespace Cert.ConvInGradIdeal.Hand

open Idealize.ShloMosaic Idealize.ShloMosaic.TcCoe
open Cert.ConvInGradIdeal Cert.ConvInGradIdeal.Gen
open Idealize.ShloMosaic.VecWindow

variable {F : FTy → Type} [FloatOps F]

/-- The input blocks a grid point sees: tokens, cotangent of the residual, cotangent block of the projection, norm scale, weight block. -/
structure Ins (F : FTy → Type) where
  x : Vec F S512x1024 .f32
  dres : Vec F S512x1024 .f32
  dp : Vec F S512x1024 .f32
  nw : Vec F S1x1024 .f32
  w : Vec F S1024x1024 .bf16

/-- What a grid point finds and leaves: the four output blocks and the three scratch buffers. -/
structure St (F : FTy → Type) where
  dx : Vec F S512x1024 .f32
  dw : Vec F S1024x1024 .bf16
  db : Vec F S1x1024 .f32
  dnw : Vec F S1x1024 .f32
  xn : Vec F S2048x1024 .bf16
  dxn : Vec F S2048x1024 .f32
  acc : Vec F S1024x1024 .f32

/-- The kernel is in the first block of columns. -/
abbrev c1 (i : grid0.Coords) : Prop := k0_cond1 i = 1#1
/-- The very first point. -/
abbrev c2 (i : grid0.Coords) : Prop := k0_cond2 i = 1#1
/-- The first token block of a block of columns. -/
abbrev c3 (i : grid0.Coords) : Prop := Scalar.cmpi .ne (Scalar.extui (Scalar.cmpi .eq (BitVec.ofNat 32 (i 1).val) 0#32)) 0#32 = 1#1
/-- The last token block of a block of columns. -/
abbrev c4 (i : grid0.Coords) : Prop := k0_cond4 i = 1#1
/-- The last block of columns. -/
abbrev c5 (i : grid0.Coords) : Prop := k0_cond5 i = 1#1

/-- Rows `off …` of a 2048-row buffer, as a block of 512 rows. -/
abbrev rows {e : EltTy} (a : Vec F S2048x1024 e) (off : Fin 2 → ℕ) (inb : ∀ k, off k + S512x1024.size k ≤ S2048x1024.size k) : Vec F S512x1024 e :=
  window (s := S2048x1024) a off S512x1024.size inb

section Pieces
variable (i : grid0.Coords) (I : Ins F)
/-- The normalised tokens of a block. -/
abbrev xnOf : FVec F S512x1024 .bf16 := k0_pay7 I.x I.nw
/-- The weight gradient's accumulator after a block. -/
abbrev accOf (v : Vec F S512x1024 .bf16) (a : Vec F S1024x1024 .f32) : FVec F S1024x1024 .f32 := k0_pay13 I.dp a v
/-- The bias gradient after a block. -/
abbrev dbOf (b : Vec F S1x1024 .f32) : FVec F S1x1024 .f32 := k0_pay14 I.dp b
/-- The cotangent of the normalised tokens after a block. -/
abbrev dxnOf (a : Vec F S512x1024 .f32) : FVec F S512x1024 .f32 := k0_pay1 (k0_pay12 I.dp) a I.w
/-- The tokens' gradient from the cotangent of the normalised tokens. -/
abbrev dxOf (r : Vec F S512x1024 .f32) : FVec F S512x1024 .f32 := k0_pay5 I.x I.nw r I.dres
/-- The norm scale's gradient after a block. -/
abbrev dnwOf (r : Vec F S512x1024 .f32) (g : Vec F S1x1024 .f32) : FVec F S1x1024 .f32 := k0_pay6 I.x r g
end Pieces

open Classical in
/-- The buffers after the preparations at the head of a point. -/
def prep (i : grid0.Coords) (I : Ins F) (s : St F) : St F where
  dx := s.dx
  dw := s.dw
  db := if c3 i then k0_pay11 else s.db
  dnw := if c2 i then k0_pay9 else s.dnw
  xn := if c1 i then put (s := S2048x1024) s.xn (k0_off1 i) S512x1024.size (xnOf I) else s.xn
  dxn := if c1 i then put (s := S2048x1024) s.dxn (k0_off1 i) S512x1024.size k0_pay8 else s.dxn
  acc := if c3 i then k0_pay10 else s.acc

/-- The products of a point, over prepared buffers. -/
def prod (i : grid0.Coords) (I : Ins F) (s : St F) : St F where
  dx := s.dx
  dw := s.dw
  db := dbOf I s.db
  dnw := s.dnw
  xn := s.xn
  dxn := put (s := S2048x1024) s.dxn (k0_off2 i) S512x1024.size (dxnOf I (rows s.dxn (k0_off2 i) (k0_off2_inb i)))
  acc := accOf I (rows s.xn (k0_off2 i) (k0_off2_inb i)) s.acc

open Classical in
/-- The outputs a point stores at its end. -/
def emit (i : grid0.Coords) (I : Ins F) (s : St F) : St F where
  dx := if h : c5 i then dxOf I (rows s.dxn (k0_off3 i) (k0_off3_inb i h)) else s.dx
  dw := if c4 i then k0_pay2 s.acc else s.dw
  db := s.db
  dnw := if h : c5 i then dnwOf I (rows s.dxn (k0_off3 i) (k0_off3_inb i h)) s.dnw else s.dnw
  xn := s.xn
  dxn := s.dxn
  acc := s.acc

/-- One whole grid point. -/
def step (i : grid0.Coords) (I : Ins F) (s : St F) : St F := emit i I (prod i I (prep i I s))

end Cert.ConvInGradIdeal.Hand

end
-- ==== Proof.ConvInGradHeld.lean ====
/- The kernel's buffers, held whole, and how loads and stores of whole blocks and of token blocks read. -/
module

public import proofs.«01_k».proof.Proof.ConvInGradStep
public import proofs.«01_k».proof.Proof.Held

@[expose] public section

set_option maxRecDepth 16384

noncomputable section

namespace Cert.ConvInGradIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ConvInGradIdeal Cert.ConvInGradIdeal.Gen
open Idealize.ShloMosaic.VecWindow
open Cert.KernelIdeal.Hand (readAt_win read_writes_put readAt_all read_writes_all window_all put_all cov_same)

variable {F : FTy → Type} [FloatOps F]

local notation "𝕄" => MT nD τ sig Unit (Elt F) ℕ (UR sig nD τ) ℕ

/-- The window of all of a 512x1024 block. -/
theorem window_512x1024 {α : Type} (x : S512x1024.Idx → α) (h : ∀ a, ![0, 0] a + S512x1024.size a ≤ S512x1024.size a) :
    window (s := S512x1024) x ![0, 0] ![512, 1024] h = x := window_all (s := S512x1024) x h

/-- All of a 512x1024 block written over. -/
theorem put_512x1024 {α : Type} (x : S512x1024.Idx → α) (w : S512x1024.Idx → α) : put (s := S512x1024) x ![0, 0] ![512, 1024] w = w :=
  put_all (s := S512x1024) x w inb_S512x1024_S512x1024_0_0

/-- The window of all of a 1x1024 block. -/
theorem window_1x1024 {α : Type} (x : S1x1024.Idx → α) (h : ∀ a, ![0, 0] a + S1x1024.size a ≤ S1x1024.size a) :
    window (s := S1x1024) x ![0, 0] ![1, 1024] h = x := window_all (s := S1x1024) x h

/-- All of a 1x1024 block written over. -/
theorem put_1x1024 {α : Type} (x : S1x1024.Idx → α) (w : S1x1024.Idx → α) : put (s := S1x1024) x ![0, 0] ![1, 1024] w = w :=
  put_all (s := S1x1024) x w inb_S1x1024_S1x1024_0_0

/-- The window of all of a 1024x1024 block. -/
theorem window_1024x1024 {α : Type} (x : S1024x1024.Idx → α) (h : ∀ a, ![0, 0] a + S1024x1024.size a ≤ S1024x1024.size a) :
    window (s := S1024x1024) x ![0, 0] ![1024, 1024] h = x := window_all (s := S1024x1024) x h

/-- All of a 1024x1024 block written over. -/
theorem put_1024x1024 {α : Type} (x : S1024x1024.Idx → α) (w : S1024x1024.Idx → α) : put (s := S1024x1024) x ![0, 0] ![1024, 1024] w = w :=
  put_all (s := S1024x1024) x w inb_S1024x1024_S1024x1024_0_0

/-- The addresses of a point's token block agree. -/
theorem off12 (i : grid0.Coords) : k0_off1 i = k0_off2 i := rfl
/-- The addresses of a point's token block agree. -/
theorem off32 (i : grid0.Coords) : k0_off3 i = k0_off2 i := rfl

/-- The token block just stored is the payload. -/
theorem rows_put12 {α : Type} (x : S2048x1024.Idx → α) (i : grid0.Coords) (w : S512x1024.Idx → α) (h : ∀ a, k0_off2 i a + S512x1024.size a ≤ S2048x1024.size a) :
    window (s := S2048x1024) (put (s := S2048x1024) x (k0_off1 i) ![512, 1024] w) (k0_off2 i) ![512, 1024] h = w :=
  window_put_same (s := S2048x1024) x (k0_off2 i) S512x1024.size h w

/-- The token block just stored is the payload. -/
theorem rows_put23 {α : Type} (x : S2048x1024.Idx → α) (i : grid0.Coords) (w : S512x1024.Idx → α) (h : ∀ a, k0_off3 i a + S512x1024.size a ≤ S2048x1024.size a) :
    window (s := S2048x1024) (put (s := S2048x1024) x (k0_off2 i) ![512, 1024] w) (k0_off3 i) ![512, 1024] h = w :=
  window_put_same (s := S2048x1024) x (k0_off2 i) S512x1024.size h w

section Covered
variable {sig : RefSig} {κ : Kind} {sp : Space} {e : EltTy} {Val : EltTy → Type} [∀ e, Nonempty (Val e)]

/-- A load of the token block just stored reads the payload. -/
theorem cov12 (v : View sig κ sp S2048x1024 e) (i : grid0.Coords) (h : ∀ a, k0_off1 i a + S512x1024.size a ≤ S2048x1024.size a)
    (h' : ∀ a, k0_off2 i a + S512x1024.size a ≤ S2048x1024.size a) (w : S512x1024.Idx → Val e) (L : List (View.Piece Val S2048x1024 e)) :
    v.readCov (⟨Rect.unit (s := S2048x1024) (k0_off1 i) ![512, 1024] h, w⟩ :: L) (Rect.unit (s := S2048x1024) (k0_off2 i) ![512, 1024] h').toLoadRect = w :=
  cov_same v (off := k0_off2 i) (size := S512x1024.size) h h' w L

/-- A load of the token block just stored reads the payload. -/
theorem cov23 (v : View sig κ sp S2048x1024 e) (i : grid0.Coords) (h : ∀ a, k0_off2 i a + S512x1024.size a ≤ S2048x1024.size a)
    (h' : ∀ a, k0_off3 i a + S512x1024.size a ≤ S2048x1024.size a) (w : S512x1024.Idx → Val e) (L : List (View.Piece Val S2048x1024 e)) :
    v.readCov (⟨Rect.unit (s := S2048x1024) (k0_off2 i) ![512, 1024] h, w⟩ :: L) (Rect.unit (s := S2048x1024) (k0_off3 i) ![512, 1024] h').toLoadRect = w :=
  cov_same v (off := k0_off2 i) (size := S512x1024.size) h h' w L

/-- A load of a whole 1024x1024 block just stored reads the payload. -/
theorem cov_1024x1024 (v : View sig κ sp S1024x1024 e) (h h' : ∀ a, ![0, 0] a + S1024x1024.size a ≤ S1024x1024.size a) (w : S1024x1024.Idx → Val e)
    (L : List (View.Piece Val S1024x1024 e)) :
    v.readCov (⟨Rect.unit (s := S1024x1024) ![0, 0] ![1024, 1024] h, w⟩ :: L) (Rect.unit (s := S1024x1024) ![0, 0] ![1024, 1024] h').toLoadRect = w :=
  cov_same v (off := ![0, 0]) (size := S1024x1024.size) h h' w L

/-- A load of a whole 1x1024 block just stored reads the payload. -/
theorem cov_1x1024 (v : View sig κ sp S1x1024 e) (h h' : ∀ a, ![0, 0] a + S1x1024.size a ≤ S1x1024.size a) (w : S1x1024.Idx → Val e)
    (L : List (View.Piece Val S1x1024 e)) :
    v.readCov (⟨Rect.unit (s := S1x1024) ![0, 0] ![1, 1024] h, w⟩ :: L) (Rect.unit (s := S1x1024) ![0, 0] ![1, 1024] h').toLoadRect = w :=
  cov_same v (off := ![0, 0]) (size := S1x1024.size) h h' w L

end Covered

/-- The kernel's buffers held whole: the input blocks at `I`, the output blocks and the scratch buffers at `s`. -/
def holds (c : Dev nD) (arg2 : Memref sig .tc .vmem S512x1024 .f32) (arg3 : Memref sig .tc .vmem S512x1024 .f32) (arg4 : Memref sig .tc .vmem S512x1024 .f32) (arg5 : Memref sig .tc .vmem S1x1024 .f32) (arg6 : Memref sig .tc .vmem S1024x1024 .bf16) (arg7 : Memref sig .tc .vmem S512x1024 .f32) (arg8 : Memref sig .tc .vmem S1024x1024 .bf16) (arg9 : Memref sig .tc .vmem S1x1024 .f32) (arg10 : Memref sig .tc .vmem S1x1024 .f32) (arg11 : Memref sig .tc .vmem S2048x1024 .bf16) (arg12 : Memref sig .tc .vmem S2048x1024 .f32) (arg13 : Memref sig .tc .vmem S1024x1024 .f32)
    (I : Ins F) (s : St F) : sProp 𝕄 :=
  iprop(owns (c : Thread nD τ) arg2 fullShare I.x ∗ owns (c : Thread nD τ) arg3 fullShare I.dres ∗ owns (c : Thread nD τ) arg4 fullShare I.dp ∗ owns (c : Thread nD τ) arg5 fullShare I.nw ∗ owns (c : Thread nD τ) arg6 fullShare I.w ∗ owns (c : Thread nD τ) arg7 fullShare s.dx ∗ owns (c : Thread nD τ) arg8 fullShare s.dw ∗ owns (c : Thread nD τ) arg9 fullShare s.db ∗ owns (c : Thread nD τ) arg10 fullShare s.dnw ∗ owns (c : Thread nD τ) arg11 fullShare s.xn ∗ owns (c : Thread nD τ) arg12 fullShare s.dxn ∗ owns (c : Thread nD τ) arg13 fullShare s.acc)

end Cert.ConvInGradIdeal.Hand

end
-- ==== Proof.ConvInGradSched.lean ====
/- What the kernel's buffers hold after any number of grid points: closed forms by token block and column block, and that one point keeps them. -/
module

public import proofs.«01_k».proof.Proof.ConvInGradHeld

@[expose] public section

set_option maxRecDepth 16384

noncomputable section

namespace Cert.ConvInGradIdeal.Hand

open Idealize.ShloMosaic Idealize.ShloMosaic.TcCoe
open Cert.ConvInGradIdeal Cert.ConvInGradIdeal.Gen
open Idealize.ShloMosaic.VecWindow

variable {F : FTy → Type} [FloatOps F]

/-- The first row of token block `b` in a 2048-row buffer. -/
def offB (b : ℕ) : Fin 2 → ℕ := ![512 * (b % 4), 0]

theorem offB_inb (b : ℕ) : ∀ k, offB b k + S512x1024.size k ≤ S2048x1024.size k := by
  intro k
  fin_cases k
  · show 512 * (b % 4) + 512 ≤ 2048
    omega
  · show 0 + 1024 ≤ 1024
    omega

/-- Token block `b` of a 2048-row buffer. -/
def rowsAt {e : EltTy} (a : Vec F S2048x1024 e) (b : ℕ) : Vec F S512x1024 e := rows a (offB b) (offB_inb b)

theorem rows_eq {e : EltTy} (a : Vec F S2048x1024 e) (off : Fin 2 → ℕ) (inb : ∀ k, off k + S512x1024.size k ≤ S2048x1024.size k)
    (b : ℕ) (h : off = offB b) : rows a off inb = rowsAt a b := by
  subst h; rfl

/-- Reading a token block back after storing it. -/
theorem rowsAt_put {e : EltTy} (a : Vec F S2048x1024 e) (w : Vec F S512x1024 e) (b b' : ℕ) (h : b % 4 = b' % 4) :
    rowsAt (put (s := S2048x1024) a (offB b) S512x1024.size w) b' = w := by
  have e : offB b' = offB b := by unfold offB; rw [h]
  rw [← rows_eq _ (offB b) (offB_inb b) b' e.symm]
  exact window_put_same (s := S2048x1024) a (offB b) S512x1024.size (offB_inb b) w

/-- Storing one token block leaves the others. -/
theorem rowsAt_put_ne {e : EltTy} (a : Vec F S2048x1024 e) (w : Vec F S512x1024 e) (b b' : ℕ) (h : b % 4 ≠ b' % 4) :
    rowsAt (put (s := S2048x1024) a (offB b) S512x1024.size w) b' = rowsAt a b' := by
  refine window_put_of_disjoint (s := S2048x1024) a (offB b) S512x1024.size (offB b') S512x1024.size (offB_inb b') w (0 : Fin 2) ?_
  show 512 * (b' % 4) + 512 ≤ 512 * (b % 4) ∨ 512 * (b % 4) + 512 ≤ 512 * (b' % 4)
  omega

/-- The coordinates of point number `n` (taken modulo the grid's 8 points). -/
def co (n : ℕ) : grid0.Coords := grid0.coords ⟨n % 8, lt_of_lt_of_eq (Nat.mod_lt n (by decide)) N_0.symm⟩

section Folds
variable (I : ℕ → Ins F)

/-- The normalised tokens of block `b`. -/
def xnB (b : ℕ) : Vec F S512x1024 .bf16 := xnOf (I b)

/-- The cotangent of the normalised tokens of block `b` after `j` blocks of columns. -/
def dxB (b : ℕ) : ℕ → Vec F S512x1024 .f32
  | 0 => k0_pay8
  | j + 1 => dxnOf (I (4 * j + b)) (dxB b j)

/-- The weight gradient of column block `j` after `b` token blocks. -/
def aW (j : ℕ) : ℕ → Vec F S1024x1024 .f32
  | 0 => k0_pay10
  | b + 1 => accOf (I (4 * j + b)) (xnB I b) (aW j b)

/-- The bias gradient of column block `j` after `b` token blocks. -/
def aB (j : ℕ) : ℕ → Vec F S1x1024 .f32
  | 0 => k0_pay11
  | b + 1 => dbOf (I (4 * j + b)) (aB j b)

/-- The norm scale's gradient after `b` token blocks. -/
def nwB : ℕ → Vec F S1x1024 .f32
  | 0 => k0_pay9
  | b + 1 => dnwOf (I (4 + b)) (dxB I b 2) (nwB b)

/-- What the three scratch buffers hold before point `n`. -/
structure Inv (n : ℕ) (s : St F) : Prop where
  xn : ∀ b, b < 4 → b < n → rowsAt s.xn b = xnB I b
  dxn : ∀ b, b < 4 → b < n → rowsAt s.dxn b = dxB I b ((n + 3 - b) / 4)
  acc : n % 4 ≠ 0 → s.acc = aW I (n / 4) (n % 4)

/-- The branch conditions and the row offset of a point, by its number. -/
structure At (i : grid0.Coords) (n : ℕ) : Prop where
  lt : n < 8
  h1 : c1 i ↔ n < 4
  h2 : c2 i ↔ n = 0
  h3 : c3 i ↔ n % 4 = 0
  h4 : c4 i ↔ n % 4 = 3
  h5 : c5 i ↔ 4 ≤ n
  off : k0_off2 i = offB n
  co : i = co n

variable {I}
variable {i : grid0.Coords} {n : ℕ} {s : St F}

theorem off1_eq (h : At i n) : k0_off1 i = offB n := (off12 (i := i)).trans h.off

theorem off3_eq (h : At i n) : k0_off3 i = offB n := (off32 (i := i)).trans h.off

theorem prep_xn (a : At i n) (v : Inv I n s) (b : ℕ) (hb : b < 4) (hn : b < n + 1) : rowsAt (prep i (I n) s).xn b = xnB I b := by
  have hlt := a.lt
  by_cases h : c1 i
  · have h8 := a.h1.mp h
    rw [show (prep i (I n) s).xn = put (s := S2048x1024) s.xn (k0_off1 i) S512x1024.size (xnOf (I n)) from if_pos h, off1_eq a]
    by_cases e : b = n
    · subst e; exact rowsAt_put _ _ _ _ rfl
    · rw [rowsAt_put_ne _ _ _ _ (by omega)]; exact v.xn b hb (by omega)
  · have h8 := mt a.h1.mpr h
    rw [show (prep i (I n) s).xn = s.xn from if_neg h]
    exact v.xn b hb (by omega)

theorem prep_dxn (a : At i n) (v : Inv I n s) (b : ℕ) (hb : b < 4) (hn : b < n + 1) :
    rowsAt (prep i (I n) s).dxn b = dxB I b ((n + 3 - b) / 4) := by
  have hlt := a.lt
  by_cases h : c1 i
  · have h8 := a.h1.mp h
    rw [show (prep i (I n) s).dxn = put (s := S2048x1024) s.dxn (k0_off1 i) S512x1024.size k0_pay8 from if_pos h, off1_eq a]
    by_cases e : b = n
    · subst e
      rw [rowsAt_put _ _ _ _ rfl, show (b + 3 - b) / 4 = 0 by omega]
      rfl
    · rw [rowsAt_put_ne _ _ _ _ (by omega)]; exact v.dxn b hb (by omega)
  · have h8 := mt a.h1.mpr h
    rw [show (prep i (I n) s).dxn = s.dxn from if_neg h]
    exact v.dxn b hb (by omega)

theorem prep_acc (a : At i n) (v : Inv I n s) : (prep i (I n) s).acc = aW I (n / 4) (n % 4) := by
  by_cases h : c3 i
  · rw [show (prep i (I n) s).acc = k0_pay10 from if_pos h, a.h3.mp h]; rfl
  · rw [show (prep i (I n) s).acc = s.acc from if_neg h]; exact v.acc (mt a.h3.mpr h)

theorem point_eq (n : ℕ) : 4 * (n / 4) + n % 4 = n := Nat.div_add_mod n 4

theorem xn_here (a : At i n) (v : Inv I n s) : rows (prep i (I n) s).xn (k0_off2 i) (k0_off2_inb i) = xnB I (n % 4) := by
  rw [rows_eq _ _ _ (n % 4) (a.off.trans (by unfold offB; rw [Nat.mod_mod]))]
  exact prep_xn a v _ (Nat.mod_lt _ (by decide)) (by have := Nat.mod_le n 4; omega)

theorem dxn_here (a : At i n) (v : Inv I n s) : rows (prep i (I n) s).dxn (k0_off2 i) (k0_off2_inb i) = dxB I (n % 4) (n / 4) := by
  rw [rows_eq _ _ _ (n % 4) (a.off.trans (by unfold offB; rw [Nat.mod_mod]))]
  rw [prep_dxn a v _ (Nat.mod_lt _ (by decide)) (by have := Nat.mod_le n 4; omega), show (n + 3 - n % 4) / 4 = n / 4 by omega]

/-- The weight gradient's accumulator after a point. -/
theorem prod_acc (a : At i n) (v : Inv I n s) : (step i (I n) s).acc = aW I (n / 4) (n % 4 + 1) := by
  show accOf (I n) (rows (prep i (I n) s).xn (k0_off2 i) (k0_off2_inb i)) (prep i (I n) s).acc = _
  rw [xn_here a v, prep_acc a v, aW, point_eq]

/-- The tokens' cotangent after a point, block by block. -/
theorem prod_dxn (a : At i n) (v : Inv I n s) (b : ℕ) (hb : b < 4) (hn : b < n + 1) :
    rowsAt (step i (I n) s).dxn b = dxB I b ((n + 1 + 3 - b) / 4) := by
  show rowsAt (put (s := S2048x1024) (prep i (I n) s).dxn (k0_off2 i) S512x1024.size (dxnOf (I n)
    (rows (prep i (I n) s).dxn (k0_off2 i) (k0_off2_inb i)))) b = _
  rw [dxn_here a v, a.off]
  by_cases e : b = n % 4
  · rw [rowsAt_put _ _ _ _ (by omega), e, show (n + 1 + 3 - n % 4) / 4 = n / 4 + 1 by omega, dxB, point_eq]
  · rw [rowsAt_put_ne _ _ _ _ (by omega), prep_dxn a v b hb hn]
    congr 1
    omega

/-- One point keeps the invariant. -/
theorem Inv.step (a : At i n) (v : Inv I n s) : Inv I (n + 1) (step i (I n) s) where
  xn b hb hn := prep_xn a v b hb hn
  dxn b hb hn := prod_dxn a v b hb hn
  acc h := by rw [prod_acc a v]; congr 1 <;> omega

theorem dx_idle (a : At i n) (h : ¬ 4 ≤ n) : (Hand.step i (I n) s).dx = s.dx := dif_neg (mt a.h5.mp h)

theorem dxn_last (a : At i n) (v : Inv I n s) (h : 4 ≤ n) (h5 : c5 i) :
    rows (prod i (I n) (prep i (I n) s)).dxn (k0_off3 i) (k0_off3_inb i h5) = dxB I (n % 4) 2 := by
  have hlt := a.lt
  rw [rows_eq _ _ _ (n % 4) ((off3_eq a).trans (by unfold offB; rw [Nat.mod_mod]))]
  refine (prod_dxn a v (n % 4) (Nat.mod_lt _ (by decide)) (by omega)).trans ?_
  congr 1
  omega

/-- The tokens' gradient at the last block of columns. -/
theorem dx_live (a : At i n) (v : Inv I n s) (h : 4 ≤ n) :
    (Hand.step i (I n) s).dx = dxOf (I n) (dxB I (n % 4) 2) := by
  rw [← dxn_last a v h (a.h5.mpr h)]
  exact dif_pos (a.h5.mpr h)

theorem dw_idle (a : At i n) (h : ¬ n % 4 = 3) : (Hand.step i (I n) s).dw = s.dw := if_neg (mt a.h4.mp h)

/-- The weight gradient at the last token block. -/
theorem dw_live (a : At i n) (v : Inv I n s) (h : n % 4 = 3) : (Hand.step i (I n) s).dw = k0_pay2 (aW I (n / 4) 4) := by
  have e := prod_acc a v
  rw [h] at e
  rw [← e]
  exact if_pos (a.h4.mpr h)

/-- The bias gradient's buffer after a point. -/
theorem db_step (a : At i n) (hd : n % 4 ≠ 0 → s.db = aB I (n / 4) (n % 4)) :
    (Hand.step i (I n) s).db = aB I (n / 4) (n % 4 + 1) := by
  have hp : (prep i (I n) s).db = aB I (n / 4) (n % 4) := by
    by_cases h : c3 i
    · rw [show (prep i (I n) s).db = k0_pay11 from if_pos h, a.h3.mp h]; rfl
    · rw [show (prep i (I n) s).db = s.db from if_neg h]; exact hd (mt a.h3.mpr h)
  show dbOf (I n) (prep i (I n) s).db = _
  rw [hp, aB, point_eq]

/-- The norm scale's gradient buffer after a point. -/
theorem dnw_step (a : At i n) (v : Inv I n s) (hd : n ≠ 0 → s.dnw = nwB I (n - 4)) :
    (Hand.step i (I n) s).dnw = nwB I (n + 1 - 4) := by
  have hlt := a.lt
  have hp : (prep i (I n) s).dnw = nwB I (n - 4) := by
    by_cases h : c2 i
    · rw [show (prep i (I n) s).dnw = k0_pay9 from if_pos h, a.h2.mp h]; rfl
    · rw [show (prep i (I n) s).dnw = s.dnw from if_neg h]; exact hd (mt a.h2.mpr h)
  by_cases h : 4 ≤ n
  · refine (dif_pos (a.h5.mpr h)).trans ?_
    rw [dxn_last a v h (a.h5.mpr h), show n + 1 - 4 = (n - 4) + 1 by omega, nwB, show 4 + (n - 4) = n by omega,
      show n % 4 = n - 4 by omega, ← hp]
    rfl
  · rw [show n + 1 - 4 = n - 4 by omega, ← hp]
    exact dif_neg (mt a.h5.mp h)

end Folds

/-- The branch conditions and the row offset of each point. -/
theorem at_point : ∀ t : Fin cfg0.N, At (grid0.coords t) t.val := by
  have h : ∀ t : Fin cfg0.N, t.val < 8 ∧ (c1 (grid0.coords t) ↔ t.val < 4) ∧ (c2 (grid0.coords t) ↔ t.val = 0) ∧ (c3 (grid0.coords t) ↔ t.val % 4 = 0)
      ∧ (c4 (grid0.coords t) ↔ t.val % 4 = 3) ∧ (c5 (grid0.coords t) ↔ 4 ≤ t.val) ∧ k0_off2 (grid0.coords t) = offB t.val := by
    decide +kernel
  intro t
  obtain ⟨a, b, c, d, e, f, g⟩ := h t
  exact ⟨a, b, c, d, e, f, g, congrArg grid0.coords (Fin.ext (Nat.mod_eq_of_lt a).symm)⟩

end Cert.ConvInGradIdeal.Hand

end
-- ==== Proof.ConvInGradRunFirst.lean ====
/- Runs of the kernel's body in the first block of columns. -/
module

public import proofs.«01_k».proof.Proof.ConvInGradHeld

@[expose] public section

set_option maxRecDepth 16384

noncomputable section

namespace Cert.ConvInGradIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ConvInGradIdeal Cert.ConvInGradIdeal.Gen
open Idealize.ShloMosaic.VecWindow
open Cert.KernelIdeal.Hand (readAt_win read_writes_put readAt_all read_writes_all window_all put_all cov_same)

variable {F : FTy → Type} [FloatOps F]

local notation "𝕄" => MT nD τ sig Unit (Elt F) ℕ (UR sig nD τ) ℕ

variable (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S2048x1024 .bf16) (harg11 : arg11.IsWhole) (arg12 : Memref sig .tc .vmem S2048x1024 .f32) (harg12 : arg12.IsWhole) (arg13 : Memref sig .tc .vmem S1024x1024 .f32) (harg13 : arg13.IsWhole)
    (I : Ins F) (s : St F)

set_option maxHeartbeats 8000000 in
/-- A point of the first token block there. -/
theorem runFirstFirst (hc1 : c1 i) (hc2 : c2 i) (hc3 : c3 i) (hc4 : ¬ c4 i) (hc5 : ¬ c5 i) (E : Set ℕ) (K : PUnit → sProp 𝕄) :
    iprop(holds c arg2 arg3 arg4 arg5 arg6 arg7 arg8 arg9 arg10 arg11 arg12 arg13 I s ∗ (holds c arg2 arg3 arg4 arg5 arg6 arg7 arg8 arg9 arg10 arg11 arg12 arg13 I (step i I s) -∗ K ⟨⟩))
      ⊢ wp frame (wpE (defs₀ (F := F)) Variants.none c none) E (cc0_rmslin_bwd i arg2 harg2 arg3 harg3 arg4 harg4 arg5 harg5 arg6 harg6 arg7 harg7 arg8 harg8 arg9 harg9 arg10 harg10 arg11 harg11 arg12 harg12 arg13 harg13) K := by
  simp only [cc0_rmslin_bwd_eq_skeleton]; unfold cc0_rmslin_bwd_skel
  unfold holds owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  clear hf0 hf1 hf2 hf3 hf4 hf5 hf6 hf7 hf8 hf9 hf10 hf11
  sl_exec (disch := first | sl_exact hc1 | sl_exact hc2 | sl_exact hc3 | sl_exact hc4 | sl_exact hc5)
  sl_step
  iapply Hk
  isplitl [H0]; iexists _; isplitr; swap; iexact H0; rotate_left
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [H9]; iexists _; isplitr; swap; iexact H9; rotate_left
  isplitl [H10]; iexists _; isplitr; swap; iexact H10; rotate_left
  iexists _; isplitr; swap; iexact H11
  all_goals ipureintro
  all_goals repeat (first | unfold runFirstFirst.sl.r | unfold runFirstFirst.sl.H7_1 | unfold runFirstFirst.sl.H9_1 | unfold runFirstFirst.sl.H10_1 | unfold runFirstFirst.sl.H11_1 | unfold runFirstFirst.sl.v0 | unfold runFirstFirst.sl.v1 | unfold runFirstFirst.sl.v10 | unfold runFirstFirst.sl.v11 | unfold runFirstFirst.sl.v12 | unfold runFirstFirst.sl.v13 | unfold runFirstFirst.sl.v15 | unfold runFirstFirst.sl.v17 | unfold runFirstFirst.sl.v20 | unfold runFirstFirst.sl.v23 | unfold runFirstFirst.sl.v28 | unfold runFirstFirst.sl.v30 | unfold runFirstFirst.sl.v31 | unfold runFirstFirst.sl.v36 | unfold runFirstFirst.sl.v45 | unfold runFirstFirst.sl.v46 | unfold runFirstFirst.sl.v47 | unfold runFirstFirst.sl.v49 | unfold runFirstFirst.sl.v50 | unfold runFirstFirst.sl.v62 | unfold runFirstFirst.sl.v67 | unfold runFirstFirst.sl.v75 | unfold runFirstFirst.sl.v77 | unfold runFirstFirst.sl.v78 | unfold runFirstFirst.sl.v81)
  all_goals simp only [↓read_writes_all, ↓readAt_all, ↓readAt_win, ↓read_writes_put, step, emit, prod, prep, rows, rows_put12, rows_put23, cov12, cov23, cov_1024x1024, cov_1x1024, if_pos hc1, if_pos hc2, if_pos hc3, if_neg hc4, if_neg hc5, dif_neg hc5, View.writes_nil, Memref.IsWhole.read_unread, window_512x1024, put_512x1024, window_1x1024, put_1x1024, window_1024x1024, put_1024x1024]
  all_goals try rfl

set_option maxHeartbeats 8000000 in
/-- A point of the middle token block there. -/
theorem runFirstMid (hc1 : c1 i) (hc2 : ¬ c2 i) (hc3 : ¬ c3 i) (hc4 : ¬ c4 i) (hc5 : ¬ c5 i) (E : Set ℕ) (K : PUnit → sProp 𝕄) :
    iprop(holds c arg2 arg3 arg4 arg5 arg6 arg7 arg8 arg9 arg10 arg11 arg12 arg13 I s ∗ (holds c arg2 arg3 arg4 arg5 arg6 arg7 arg8 arg9 arg10 arg11 arg12 arg13 I (step i I s) -∗ K ⟨⟩))
      ⊢ wp frame (wpE (defs₀ (F := F)) Variants.none c none) E (cc0_rmslin_bwd i arg2 harg2 arg3 harg3 arg4 harg4 arg5 harg5 arg6 harg6 arg7 harg7 arg8 harg8 arg9 harg9 arg10 harg10 arg11 harg11 arg12 harg12 arg13 harg13) K := by
  simp only [cc0_rmslin_bwd_eq_skeleton]; unfold cc0_rmslin_bwd_skel
  unfold holds owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  clear hf0 hf1 hf2 hf3 hf4 hf5 hf6 hf7 hf8 hf9 hf10 hf11
  sl_exec (disch := first | sl_exact hc1 | sl_exact hc2 | sl_exact hc3 | sl_exact hc4 | sl_exact hc5)
  sl_step
  iapply Hk
  isplitl [H0]; iexists _; isplitr; swap; iexact H0; rotate_left
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [H9]; iexists _; isplitr; swap; iexact H9; rotate_left
  isplitl [H10]; iexists _; isplitr; swap; iexact H10; rotate_left
  iexists _; isplitr; swap; iexact H11
  all_goals ipureintro
  all_goals repeat (first | unfold runFirstMid.sl.r | unfold runFirstMid.sl.H7_1 | unfold runFirstMid.sl.H9_1 | unfold runFirstMid.sl.H10_1 | unfold runFirstMid.sl.H11_1 | unfold runFirstMid.sl.v0 | unfold runFirstMid.sl.v1 | unfold runFirstMid.sl.v10 | unfold runFirstMid.sl.v11 | unfold runFirstMid.sl.v12 | unfold runFirstMid.sl.v13 | unfold runFirstMid.sl.v15 | unfold runFirstMid.sl.v17 | unfold runFirstMid.sl.v20 | unfold runFirstMid.sl.v23 | unfold runFirstMid.sl.v28 | unfold runFirstMid.sl.v30 | unfold runFirstMid.sl.v31 | unfold runFirstMid.sl.v36 | unfold runFirstMid.sl.v45 | unfold runFirstMid.sl.v46 | unfold runFirstMid.sl.v47 | unfold runFirstMid.sl.v49 | unfold runFirstMid.sl.v50 | unfold runFirstMid.sl.v62 | unfold runFirstMid.sl.v67 | unfold runFirstMid.sl.v75 | unfold runFirstMid.sl.v77 | unfold runFirstMid.sl.v78 | unfold runFirstMid.sl.v81)
  all_goals simp only [↓read_writes_all, ↓readAt_all, ↓readAt_win, ↓read_writes_put, step, emit, prod, prep, rows, rows_put12, rows_put23, cov12, cov23, cov_1024x1024, cov_1x1024, if_pos hc1, if_neg hc2, if_neg hc3, if_neg hc4, if_neg hc5, dif_neg hc5, View.writes_nil, Memref.IsWhole.read_unread, window_512x1024, put_512x1024, window_1x1024, put_1x1024, window_1024x1024, put_1024x1024]
  all_goals try rfl

set_option maxHeartbeats 8000000 in
/-- A point of the last token block there. -/
theorem runFirstLast (hc1 : c1 i) (hc2 : ¬ c2 i) (hc3 : ¬ c3 i) (hc4 : c4 i) (hc5 : ¬ c5 i) (E : Set ℕ) (K : PUnit → sProp 𝕄) :
    iprop(holds c arg2 arg3 arg4 arg5 arg6 arg7 arg8 arg9 arg10 arg11 arg12 arg13 I s ∗ (holds c arg2 arg3 arg4 arg5 arg6 arg7 arg8 arg9 arg10 arg11 arg12 arg13 I (step i I s) -∗ K ⟨⟩))
      ⊢ wp frame (wpE (defs₀ (F := F)) Variants.none c none) E (cc0_rmslin_bwd i arg2 harg2 arg3 harg3 arg4 harg4 arg5 harg5 arg6 harg6 arg7 harg7 arg8 harg8 arg9 harg9 arg10 harg10 arg11 harg11 arg12 harg12 arg13 harg13) K := by
  simp only [cc0_rmslin_bwd_eq_skeleton]; unfold cc0_rmslin_bwd_skel
  unfold holds owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  clear hf0 hf1 hf2 hf3 hf4 hf5 hf6 hf7 hf8 hf9 hf10 hf11
  sl_exec (disch := first | sl_exact hc1 | sl_exact hc2 | sl_exact hc3 | sl_exact hc4 | sl_exact hc5)
  sl_step
  iapply Hk
  isplitl [H0]; iexists _; isplitr; swap; iexact H0; rotate_left
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [H9]; iexists _; isplitr; swap; iexact H9; rotate_left
  isplitl [H10]; iexists _; isplitr; swap; iexact H10; rotate_left
  iexists _; isplitr; swap; iexact H11
  all_goals ipureintro
  all_goals repeat (first | unfold runFirstLast.sl.r | unfold runFirstLast.sl.H7_1 | unfold runFirstLast.sl.H9_1 | unfold runFirstLast.sl.H10_1 | unfold runFirstLast.sl.H11_1 | unfold runFirstLast.sl.v0 | unfold runFirstLast.sl.v1 | unfold runFirstLast.sl.v10 | unfold runFirstLast.sl.v11 | unfold runFirstLast.sl.v12 | unfold runFirstLast.sl.v13 | unfold runFirstLast.sl.v15 | unfold runFirstLast.sl.v17 | unfold runFirstLast.sl.v20 | unfold runFirstLast.sl.v23 | unfold runFirstLast.sl.v28 | unfold runFirstLast.sl.v30 | unfold runFirstLast.sl.v31 | unfold runFirstLast.sl.v36 | unfold runFirstLast.sl.v45 | unfold runFirstLast.sl.v46 | unfold runFirstLast.sl.v47 | unfold runFirstLast.sl.v49 | unfold runFirstLast.sl.v50 | unfold runFirstLast.sl.v62 | unfold runFirstLast.sl.v67 | unfold runFirstLast.sl.v75 | unfold runFirstLast.sl.v77 | unfold runFirstLast.sl.v78 | unfold runFirstLast.sl.v81)
  all_goals simp only [↓read_writes_all, ↓readAt_all, ↓readAt_win, ↓read_writes_put, step, emit, prod, prep, rows, rows_put12, rows_put23, cov12, cov23, cov_1024x1024, cov_1x1024, if_pos hc1, if_neg hc2, if_neg hc3, if_pos hc4, if_neg hc5, dif_neg hc5, View.writes_nil, Memref.IsWhole.read_unread, window_512x1024, put_512x1024, window_1x1024, put_1x1024, window_1024x1024, put_1024x1024]
  all_goals try rfl

end Cert.ConvInGradIdeal.Hand

end
-- ==== Proof.ConvInGradRunLast.lean ====
/- Runs of the kernel's body in the last block of columns. -/
module

public import proofs.«01_k».proof.Proof.ConvInGradHeld

@[expose] public section

set_option maxRecDepth 16384

noncomputable section

namespace Cert.ConvInGradIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ConvInGradIdeal Cert.ConvInGradIdeal.Gen
open Idealize.ShloMosaic.VecWindow
open Cert.KernelIdeal.Hand (readAt_win read_writes_put readAt_all read_writes_all window_all put_all cov_same)

variable {F : FTy → Type} [FloatOps F]

local notation "𝕄" => MT nD τ sig Unit (Elt F) ℕ (UR sig nD τ) ℕ

variable (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S2048x1024 .bf16) (harg11 : arg11.IsWhole) (arg12 : Memref sig .tc .vmem S2048x1024 .f32) (harg12 : arg12.IsWhole) (arg13 : Memref sig .tc .vmem S1024x1024 .f32) (harg13 : arg13.IsWhole)
    (I : Ins F) (s : St F)

set_option maxHeartbeats 8000000 in
/-- A point of the first token block there. -/
theorem runLastFirst (hc1 : ¬ c1 i) (hc2 : ¬ c2 i) (hc3 : c3 i) (hc4 : ¬ c4 i) (hc5 : c5 i) (E : Set ℕ) (K : PUnit → sProp 𝕄) :
    iprop(holds c arg2 arg3 arg4 arg5 arg6 arg7 arg8 arg9 arg10 arg11 arg12 arg13 I s ∗ (holds c arg2 arg3 arg4 arg5 arg6 arg7 arg8 arg9 arg10 arg11 arg12 arg13 I (step i I s) -∗ K ⟨⟩))
      ⊢ wp frame (wpE (defs₀ (F := F)) Variants.none c none) E (cc0_rmslin_bwd i arg2 harg2 arg3 harg3 arg4 harg4 arg5 harg5 arg6 harg6 arg7 harg7 arg8 harg8 arg9 harg9 arg10 harg10 arg11 harg11 arg12 harg12 arg13 harg13) K := by
  simp only [cc0_rmslin_bwd_eq_skeleton]; unfold cc0_rmslin_bwd_skel
  unfold holds owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  clear hf0 hf1 hf2 hf3 hf4 hf5 hf6 hf7 hf8 hf9 hf10 hf11
  sl_exec (disch := first | sl_exact hc1 | sl_exact hc2 | sl_exact hc3 | sl_exact hc4 | sl_exact hc5)
  sl_step
  iapply Hk
  isplitl [H0]; iexists _; isplitr; swap; iexact H0; rotate_left
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [H9]; iexists _; isplitr; swap; iexact H9; rotate_left
  isplitl [H10]; iexists _; isplitr; swap; iexact H10; rotate_left
  iexists _; isplitr; swap; iexact H11
  all_goals ipureintro
  all_goals repeat (first | unfold runLastFirst.sl.r | unfold runLastFirst.sl.r_1 | unfold runLastFirst.sl.H7_1 | unfold runLastFirst.sl.H10_1 | unfold runLastFirst.sl.H11_1 | unfold runLastFirst.sl.v0 | unfold runLastFirst.sl.v1 | unfold runLastFirst.sl.v10 | unfold runLastFirst.sl.v11 | unfold runLastFirst.sl.v12 | unfold runLastFirst.sl.v13 | unfold runLastFirst.sl.v15 | unfold runLastFirst.sl.v17 | unfold runLastFirst.sl.v20 | unfold runLastFirst.sl.v23 | unfold runLastFirst.sl.v28 | unfold runLastFirst.sl.v30 | unfold runLastFirst.sl.v31 | unfold runLastFirst.sl.v36 | unfold runLastFirst.sl.v45 | unfold runLastFirst.sl.v46 | unfold runLastFirst.sl.v47 | unfold runLastFirst.sl.v49 | unfold runLastFirst.sl.v50 | unfold runLastFirst.sl.v62 | unfold runLastFirst.sl.v67 | unfold runLastFirst.sl.v75 | unfold runLastFirst.sl.v77 | unfold runLastFirst.sl.v78 | unfold runLastFirst.sl.v81)
  all_goals simp only [↓read_writes_all, ↓readAt_all, ↓readAt_win, ↓read_writes_put, step, emit, prod, prep, rows, rows_put12, rows_put23, cov12, cov23, cov_1024x1024, cov_1x1024, if_neg hc1, if_neg hc2, if_pos hc3, if_neg hc4, if_pos hc5, dif_pos hc5, View.writes_nil, Memref.IsWhole.read_unread, window_512x1024, put_512x1024, window_1x1024, put_1x1024, window_1024x1024, put_1024x1024]
  all_goals try rfl

set_option maxHeartbeats 8000000 in
/-- A point of the middle token block there. -/
theorem runLastMid (hc1 : ¬ c1 i) (hc2 : ¬ c2 i) (hc3 : ¬ c3 i) (hc4 : ¬ c4 i) (hc5 : c5 i) (E : Set ℕ) (K : PUnit → sProp 𝕄) :
    iprop(holds c arg2 arg3 arg4 arg5 arg6 arg7 arg8 arg9 arg10 arg11 arg12 arg13 I s ∗ (holds c arg2 arg3 arg4 arg5 arg6 arg7 arg8 arg9 arg10 arg11 arg12 arg13 I (step i I s) -∗ K ⟨⟩))
      ⊢ wp frame (wpE (defs₀ (F := F)) Variants.none c none) E (cc0_rmslin_bwd i arg2 harg2 arg3 harg3 arg4 harg4 arg5 harg5 arg6 harg6 arg7 harg7 arg8 harg8 arg9 harg9 arg10 harg10 arg11 harg11 arg12 harg12 arg13 harg13) K := by
  simp only [cc0_rmslin_bwd_eq_skeleton]; unfold cc0_rmslin_bwd_skel
  unfold holds owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  clear hf0 hf1 hf2 hf3 hf4 hf5 hf6 hf7 hf8 hf9 hf10 hf11
  sl_exec (disch := first | sl_exact hc1 | sl_exact hc2 | sl_exact hc3 | sl_exact hc4 | sl_exact hc5)
  sl_step
  iapply Hk
  isplitl [H0]; iexists _; isplitr; swap; iexact H0; rotate_left
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [H9]; iexists _; isplitr; swap; iexact H9; rotate_left
  isplitl [H10]; iexists _; isplitr; swap; iexact H10; rotate_left
  iexists _; isplitr; swap; iexact H11
  all_goals ipureintro
  all_goals repeat (first | unfold runLastMid.sl.r | unfold runLastMid.sl.r_1 | unfold runLastMid.sl.H7_1 | unfold runLastMid.sl.H10_1 | unfold runLastMid.sl.H11_1 | unfold runLastMid.sl.v0 | unfold runLastMid.sl.v1 | unfold runLastMid.sl.v10 | unfold runLastMid.sl.v11 | unfold runLastMid.sl.v12 | unfold runLastMid.sl.v13 | unfold runLastMid.sl.v15 | unfold runLastMid.sl.v17 | unfold runLastMid.sl.v20 | unfold runLastMid.sl.v23 | unfold runLastMid.sl.v28 | unfold runLastMid.sl.v30 | unfold runLastMid.sl.v31 | unfold runLastMid.sl.v36 | unfold runLastMid.sl.v45 | unfold runLastMid.sl.v46 | unfold runLastMid.sl.v47 | unfold runLastMid.sl.v49 | unfold runLastMid.sl.v50 | unfold runLastMid.sl.v62 | unfold runLastMid.sl.v67 | unfold runLastMid.sl.v75 | unfold runLastMid.sl.v77 | unfold runLastMid.sl.v78 | unfold runLastMid.sl.v81)
  all_goals simp only [↓read_writes_all, ↓readAt_all, ↓readAt_win, ↓read_writes_put, step, emit, prod, prep, rows, rows_put12, rows_put23, cov12, cov23, cov_1024x1024, cov_1x1024, if_neg hc1, if_neg hc2, if_neg hc3, if_neg hc4, if_pos hc5, dif_pos hc5, View.writes_nil, Memref.IsWhole.read_unread, window_512x1024, put_512x1024, window_1x1024, put_1x1024, window_1024x1024, put_1024x1024]
  all_goals try rfl

set_option maxHeartbeats 8000000 in
/-- A point of the last token block there. -/
theorem runLastLast (hc1 : ¬ c1 i) (hc2 : ¬ c2 i) (hc3 : ¬ c3 i) (hc4 : c4 i) (hc5 : c5 i) (E : Set ℕ) (K : PUnit → sProp 𝕄) :
    iprop(holds c arg2 arg3 arg4 arg5 arg6 arg7 arg8 arg9 arg10 arg11 arg12 arg13 I s ∗ (holds c arg2 arg3 arg4 arg5 arg6 arg7 arg8 arg9 arg10 arg11 arg12 arg13 I (step i I s) -∗ K ⟨⟩))
      ⊢ wp frame (wpE (defs₀ (F := F)) Variants.none c none) E (cc0_rmslin_bwd i arg2 harg2 arg3 harg3 arg4 harg4 arg5 harg5 arg6 harg6 arg7 harg7 arg8 harg8 arg9 harg9 arg10 harg10 arg11 harg11 arg12 harg12 arg13 harg13) K := by
  simp only [cc0_rmslin_bwd_eq_skeleton]; unfold cc0_rmslin_bwd_skel
  unfold holds owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  clear hf0 hf1 hf2 hf3 hf4 hf5 hf6 hf7 hf8 hf9 hf10 hf11
  sl_exec (disch := first | sl_exact hc1 | sl_exact hc2 | sl_exact hc3 | sl_exact hc4 | sl_exact hc5)
  sl_step
  iapply Hk
  isplitl [H0]; iexists _; isplitr; swap; iexact H0; rotate_left
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [H9]; iexists _; isplitr; swap; iexact H9; rotate_left
  isplitl [H10]; iexists _; isplitr; swap; iexact H10; rotate_left
  iexists _; isplitr; swap; iexact H11
  all_goals ipureintro
  all_goals repeat (first | unfold runLastLast.sl.r | unfold runLastLast.sl.r_1 | unfold runLastLast.sl.H7_1 | unfold runLastLast.sl.H10_1 | unfold runLastLast.sl.H11_1 | unfold runLastLast.sl.v0 | unfold runLastLast.sl.v1 | unfold runLastLast.sl.v10 | unfold runLastLast.sl.v11 | unfold runLastLast.sl.v12 | unfold runLastLast.sl.v13 | unfold runLastLast.sl.v15 | unfold runLastLast.sl.v17 | unfold runLastLast.sl.v20 | unfold runLastLast.sl.v23 | unfold runLastLast.sl.v28 | unfold runLastLast.sl.v30 | unfold runLastLast.sl.v31 | unfold runLastLast.sl.v36 | unfold runLastLast.sl.v45 | unfold runLastLast.sl.v46 | unfold runLastLast.sl.v47 | unfold runLastLast.sl.v49 | unfold runLastLast.sl.v50 | unfold runLastLast.sl.v62 | unfold runLastLast.sl.v67 | unfold runLastLast.sl.v75 | unfold runLastLast.sl.v77 | unfold runLastLast.sl.v78 | unfold runLastLast.sl.v81)
  all_goals simp only [↓read_writes_all, ↓readAt_all, ↓readAt_win, ↓read_writes_put, step, emit, prod, prep, rows, rows_put12, rows_put23, cov12, cov23, cov_1024x1024, cov_1x1024, if_neg hc1, if_neg hc2, if_neg hc3, if_pos hc4, if_pos hc5, dif_pos hc5, View.writes_nil, Memref.IsWhole.read_unread, window_512x1024, put_512x1024, window_1x1024, put_1x1024, window_1024x1024, put_1024x1024]
  all_goals try rfl

end Cert.ConvInGradIdeal.Hand

end
-- ==== Proof.ConvInGradMain.lean ====
/- The whole norm-and-projection gradient program: the body at any point, what each point leaves, the launch, the frame. -/
module

public import proofs.«01_k».proof.Proof.ConvInGradSched
public import proofs.«01_k».proof.Proof.ConvInGradRunFirst
public import proofs.«01_k».proof.Proof.ConvInGradRunLast
public import Idealize.ShloMosaic.Lib.Claim

@[expose] public section

set_option maxRecDepth 16384

noncomputable section

namespace Cert.ConvInGradIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ConvInGradIdeal Cert.ConvInGradIdeal.Gen
open Idealize.ShloMosaic.VecWindow

variable {F : FTy → Type} [FloatOps F]

local notation "𝕄" => MT nD τ sig Unit (Elt F) ℕ (UR sig nD τ) ℕ

/-- The body takes what it finds to `step` of it, at any point. -/
theorem body_step (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S2048x1024 .bf16) (harg11 : arg11.IsWhole) (arg12 : Memref sig .tc .vmem S2048x1024 .f32) (harg12 : arg12.IsWhole) (arg13 : Memref sig .tc .vmem S1024x1024 .f32) (harg13 : arg13.IsWhole) (n : ℕ) (a : At i n)
    (I : Ins F) (s : St F) (E : Set ℕ) (K : PUnit → sProp 𝕄) :
    iprop(holds c arg2 arg3 arg4 arg5 arg6 arg7 arg8 arg9 arg10 arg11 arg12 arg13 I s ∗ (holds c arg2 arg3 arg4 arg5 arg6 arg7 arg8 arg9 arg10 arg11 arg12 arg13 I (step i I s) -∗ K ⟨⟩))
      ⊢ wp frame (wpE (defs₀ (F := F)) Variants.none c none) E (cc0_rmslin_bwd i arg2 harg2 arg3 harg3 arg4 harg4 arg5 harg5 arg6 harg6 arg7 harg7 arg8 harg8 arg9 harg9 arg10 harg10 arg11 harg11 arg12 harg12 arg13 harg13) K := by
  have hlt := a.lt
  by_cases jFirst : n < 4
  · by_cases kFirst : n % 4 = 0
    · exact runFirstFirst c i _ harg2 _ harg3 _ harg4 _ harg5 _ harg6 _ harg7 _ harg8 _ harg9 _ harg10 _ harg11 _ harg12 _ harg13 I s (a.h1.mpr (by omega)) (a.h2.mpr (by omega)) (a.h3.mpr (by omega)) (mt a.h4.mp (by omega)) (mt a.h5.mp (by omega)) E K
    by_cases kLast : n % 4 = 3
    · exact runFirstLast c i _ harg2 _ harg3 _ harg4 _ harg5 _ harg6 _ harg7 _ harg8 _ harg9 _ harg10 _ harg11 _ harg12 _ harg13 I s (a.h1.mpr (by omega)) (mt a.h2.mp (by omega)) (mt a.h3.mp (by omega)) (a.h4.mpr (by omega)) (mt a.h5.mp (by omega)) E K
    exact runFirstMid c i _ harg2 _ harg3 _ harg4 _ harg5 _ harg6 _ harg7 _ harg8 _ harg9 _ harg10 _ harg11 _ harg12 _ harg13 I s (a.h1.mpr (by omega)) (mt a.h2.mp (by omega)) (mt a.h3.mp (by omega)) (mt a.h4.mp (by omega)) (mt a.h5.mp (by omega)) E K
  by_cases kFirst : n % 4 = 0
  · exact runLastFirst c i _ harg2 _ harg3 _ harg4 _ harg5 _ harg6 _ harg7 _ harg8 _ harg9 _ harg10 _ harg11 _ harg12 _ harg13 I s (mt a.h1.mp (by omega)) (mt a.h2.mp (by omega)) (a.h3.mpr (by omega)) (mt a.h4.mp (by omega)) (a.h5.mpr (by omega)) E K
  by_cases kLast : n % 4 = 3
  · exact runLastLast c i _ harg2 _ harg3 _ harg4 _ harg5 _ harg6 _ harg7 _ harg8 _ harg9 _ harg10 _ harg11 _ harg12 _ harg13 I s (mt a.h1.mp (by omega)) (mt a.h2.mp (by omega)) (mt a.h3.mp (by omega)) (a.h4.mpr (by omega)) (a.h5.mpr (by omega)) E K
  exact runLastMid c i _ harg2 _ harg3 _ harg4 _ harg5 _ harg6 _ harg7 _ harg8 _ harg9 _ harg10 _ harg11 _ harg12 _ harg13 I s (mt a.h1.mp (by omega)) (mt a.h2.mp (by omega)) (mt a.h3.mp (by omega)) (mt a.h4.mp (by omega)) (a.h5.mpr (by omega)) E K

variable (m : (ℓ : Loc nD τ sig) → Buf (Elt F) ℓ) (ρ : Dev nD → PrngReg)

/-- Point number `n` of the grid (`n` taken modulo its 8 points). -/
def pt (n : ℕ) : Fin cfg0.N := ⟨n % 8, lt_of_lt_of_eq (Nat.mod_lt n (by decide)) N_0.symm⟩

theorem pt_val (t : Fin cfg0.N) : pt t.val = t := Fin.ext (Nat.mod_eq_of_lt (lt_of_lt_of_eq t.isLt N_0))

/-- The input blocks at a point. -/
def insAt (c : Dev nD) (t : Fin cfg0.N) : Ins F where
  x := iblk m c 0 t
  dres := iblk m c 1 t
  dp := iblk m c 2 t
  nw := iblk m c 3 t
  w := iblk m c 4 t

/-- The input blocks at point number `n`. -/
def ins (c : Dev nD) (n : ℕ) : Ins F := insAt m c (pt n)

theorem ins_val (c : Dev nD) (t : Fin cfg0.N) : ins m c t.val = insAt m c t := by unfold ins; rw [pt_val]

/-- Window 0's staging buffer at a point. -/
abbrev ms0 (t : Fin cfg0.N) : Memref sig .tc .vmem S512x1024 .f32 := win0_0.stage (cfg0.slots t 0)
theorem hs0 (t : Fin cfg0.N) : (ms0 t).IsWhole := hstage0_0 ((cfg0.slots t 0).cast nbuf0_0)
/-- Window 1's staging buffer at a point. -/
abbrev ms1 (t : Fin cfg0.N) : Memref sig .tc .vmem S512x1024 .f32 := win0_1.stage (cfg0.slots t 1)
theorem hs1 (t : Fin cfg0.N) : (ms1 t).IsWhole := hstage0_1 ((cfg0.slots t 1).cast nbuf0_1)
/-- Window 2's staging buffer at a point. -/
abbrev ms2 (t : Fin cfg0.N) : Memref sig .tc .vmem S512x1024 .f32 := win0_2.stage (cfg0.slots t 2)
theorem hs2 (t : Fin cfg0.N) : (ms2 t).IsWhole := hstage0_2 ((cfg0.slots t 2).cast nbuf0_2)
/-- Window 3's staging buffer at a point. -/
abbrev ms3 (t : Fin cfg0.N) : Memref sig .tc .vmem S1x1024 .f32 := win0_3.stage (cfg0.slots t 3)
theorem hs3 (t : Fin cfg0.N) : (ms3 t).IsWhole := hstage0_3 ((cfg0.slots t 3).cast nbuf0_3)
/-- Window 4's staging buffer at a point. -/
abbrev ms4 (t : Fin cfg0.N) : Memref sig .tc .vmem S1024x1024 .bf16 := win0_4.stage (cfg0.slots t 4)
theorem hs4 (t : Fin cfg0.N) : (ms4 t).IsWhole := hstage0_4 ((cfg0.slots t 4).cast nbuf0_4)
/-- Window 5's staging buffer at a point. -/
abbrev ms5 (t : Fin cfg0.N) : Memref sig .tc .vmem S512x1024 .f32 := win0_5.stage (cfg0.slots t 5)
theorem hs5 (t : Fin cfg0.N) : (ms5 t).IsWhole := hstage0_5 ((cfg0.slots t 5).cast nbuf0_5)
/-- Window 6's staging buffer at a point. -/
abbrev ms6 (t : Fin cfg0.N) : Memref sig .tc .vmem S1024x1024 .bf16 := win0_6.stage (cfg0.slots t 6)
theorem hs6 (t : Fin cfg0.N) : (ms6 t).IsWhole := hstage0_6 ((cfg0.slots t 6).cast nbuf0_6)
/-- Window 7's staging buffer at a point. -/
abbrev ms7 (t : Fin cfg0.N) : Memref sig .tc .vmem S1x1024 .f32 := win0_7.stage (cfg0.slots t 7)
theorem hs7 (t : Fin cfg0.N) : (ms7 t).IsWhole := hstage0_7 ((cfg0.slots t 7).cast nbuf0_7)
/-- Window 8's staging buffer at a point. -/
abbrev ms8 (t : Fin cfg0.N) : Memref sig .tc .vmem S1x1024 .f32 := win0_8.stage (cfg0.slots t 8)
theorem hs8 (t : Fin cfg0.N) : (ms8 t).IsWhole := hstage0_8 ((cfg0.slots t 8).cast nbuf0_8)
/-- A scratch buffer of the kernel. -/
abbrev scM0 : Memref sig .tc .vmem S2048x1024 .bf16 := Memref.whole cc0_scratch0
/-- A scratch buffer of the kernel. -/
abbrev scM1 : Memref sig .tc .vmem S2048x1024 .f32 := Memref.whole cc0_scratch1
/-- A scratch buffer of the kernel. -/
abbrev scM2 : Memref sig .tc .vmem S1024x1024 .f32 := Memref.whole cc0_scratch2

/-- The region's start and end: every scratch buffer at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-- Before point `n` the scratch buffers hold what the invariant says. -/
def PhiS (c : Dev nD) (n : ℕ) : sProp 𝕄 :=
  iprop(∃ s : St F, ⌜Inv (ins m c) n s⌝ ∗ owns (c : Thread nD τ) scM0 fullShare s.xn ∗ owns (c : Thread nD τ) scM1 fullShare s.dxn ∗ owns (c : Thread nD τ) scM2 fullShare s.acc ∗ (∃ r, prngReg c r))

/-- What each window's staging buffer holds after each point, and the invariant between points. -/
def dats : (p : Fin 1) → (c : Dev nD) → Dat τ (Elt F) Unit ℕ (UR sig nD τ) ℕ (cfgs p) c := fun _ c =>
  { A := fun w => V m c (Pipeline.arrRef spec0 w)
    after := fun w t => match w with
      | 0 => iblk m c 0 t
      | 1 => iblk m c 1 t
      | 2 => iblk m c 2 t
      | 3 => iblk m c 3 t
      | 4 => iblk m c 4 t
      | 5 => (dxOf (ins m c t.val) (dxB (ins m c) (t.val % 4) 2) : Vec F S512x1024 .f32)
      | 6 => (k0_pay2 (aW (ins m c) (t.val / 4) 4) : Vec F S1024x1024 .bf16)
      | 7 => (aB (ins m c) (t.val / 4) (t.val % 4 + 1) : Vec F S1x1024 .f32)
      | 8 => (nwB (ins m c) (t.val + 1 - 4) : Vec F S1x1024 .f32)
      | ⟨_ + 9, h⟩ => absurd h (Nat.not_lt.2 (Nat.le_add_left _ _))
    Φ := fun t => PhiS m c t.val
    q := fun _ => fullShare
    owed := fun _ => 0 }

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t := before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t := before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t := before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t := before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t := before0_4_of m (dats m 0 c) (A_eq m c 4) (after_4 m c) t d
theorem after_5 (c : Dev nD) (t : Fin cfg0.N) : (dats m 0 c).after 5 t = (dxOf (ins m c t.val) (dxB (ins m c) (t.val % 4) 2) : Vec F S512x1024 .f32) := by dsimp only [dats]
theorem after_6 (c : Dev nD) (t : Fin cfg0.N) : (dats m 0 c).after 6 t = (k0_pay2 (aW (ins m c) (t.val / 4) 4) : Vec F S1024x1024 .bf16) := by dsimp only [dats]
theorem after_7 (c : Dev nD) (t : Fin cfg0.N) : (dats m 0 c).after 7 t = (aB (ins m c) (t.val / 4) (t.val % 4 + 1) : Vec F S1x1024 .f32) := by dsimp only [dats]
theorem after_8 (c : Dev nD) (t : Fin cfg0.N) : (dats m 0 c).after 8 t = (nwB (ins m c) (t.val + 1 - 4) : Vec F S1x1024 .f32) := by dsimp only [dats]

theorem fl5 : ∀ t : Fin cfg0.N, (cfg0.win 5).flush t = true ↔ 4 ≤ t.val := by decide +kernel
theorem id5 : ∀ t : Fin cfg0.N, cfg0.idle 5 (grid0.coords t) = true ↔ ¬ 4 ≤ t.val := by decide +kernel
theorem id6 : ∀ t : Fin cfg0.N, cfg0.idle 6 (grid0.coords t) = true ↔ ¬ t.val % 4 = 3 := by decide +kernel
theorem id7 : ∀ t : Fin cfg0.N, cfg0.idle 7 (grid0.coords t) = true ↔ ¬ True := by decide +kernel
theorem id8 : ∀ t : Fin cfg0.N, cfg0.idle 8 (grid0.coords t) = true ↔ ¬ (t.val = 0 ∨ 4 ≤ t.val) := by decide +kernel
theorem fetch7 : ∀ t : Fin cfg0.N, (cfg0.win 7).fetch t = false := by decide +kernel
theorem fetch8 : ∀ t : Fin cfg0.N, (cfg0.win 8).fetch t = false := by decide +kernel

/-- What a window's buffer is left at: what the window states where it is stored, what was there where it is not. -/
theorem leaves_of {c : Dev nD} (dat : Dat τ (Elt F) Unit ℕ (UR sig nD τ) ℕ cfg0 c) (w : Fin cfg0.W) (t : Fin cfg0.N)
    (X : (cfg0.win w).block.Idx → Elt F (cfg0.win w).elt) (P : Prop)
    (hi : cfg0.idle w (grid0.coords t) = true ↔ ¬ P) (hf : (cfg0.win w).flush t = true → P)
    (hl : P → X = dat.after w t) (hd : ¬ P → ∃ d, X = dat.before w t d) :
    owns (c : Thread nD τ) ((cfg0.win w).stage (cfg0.slots t w)) fullShare X ⊢ (dat.leavesExact w t : sProp 𝕄) := by
  by_cases h : P
  · have e : cfg0.idle w (grid0.coords t) = false := by
      cases hh : cfg0.idle w (grid0.coords t)
      · rfl
      · exact absurd h (hi.mp hh)
    rw [show dat.leavesExact w t = owns (c : Thread nD τ) ((cfg0.win w).stage (cfg0.slots t w)) fullShare (dat.after w t) from by
      unfold Dat.leavesExact; rw [e], ← hl h]
  · have e : (cfg0.win w).flush t = false := by
      cases hh : (cfg0.win w).flush t
      · rfl
      · exact absurd (hf hh) h
    obtain ⟨d, hd⟩ := hd h
    rw [dat.leavesExact_idle w t (hi.mpr h) e, hd]
    iintro H
    iexists d
    iexact H

/-- The bias gradient's buffer before a point that does not begin a block of columns. -/
theorem before_7 (c : Dev nD) (n : ℕ) (hn : n < cfg0.N) (h0 : n % 4 ≠ 0) (d) :
    (dats m 0 c).before 7 ⟨n, hn⟩ d = (aB (ins m c) (n / 4) (n % 4) : Vec F S1x1024 .f32) := by
  cases n with
  | zero => exact absurd rfl h0
  | succ n =>
    have hn' : n < cfg0.N := Nat.lt_of_succ_lt hn
    have hf : ¬ (cfg0.win 7).flush ⟨n, hn'⟩ = true := fun h => by
      have h := (flush0_7 ⟨n, hn'⟩).mp h
      dsimp only at h
      omega
    rw [(dats m 0 c).before_of_pos 7 ⟨n + 1, hn⟩ (Nat.succ_ne_zero n) (fetch7 _) d]
    show (if (cfg0.win 7).flush ⟨n, hn'⟩ = true then d else (dats m 0 c).left 7 ⟨n, hn'⟩ d) = _
    rw [if_neg hf]
    unfold Dat.left
    have hi := id7 ⟨n, hn'⟩
    change cfg0.idle 7 (cfg0.grid.coords ⟨n, hn'⟩) = true ↔ _ at hi
    cases hh : cfg0.idle 7 (cfg0.grid.coords ⟨n, hn'⟩)
    · show (dats m 0 c).after 7 ⟨n, hn'⟩ = _
      rw [after_7]
      dsimp only
      rw [show (n + 1) / 4 = n / 4 by omega, show (n + 1) % 4 = n % 4 + 1 by omega]
    · exact absurd trivial (hi.mp hh)

/-- The norm scale's gradient buffer before a point that is not the first. -/
theorem before_8 (c : Dev nD) : ∀ (n : ℕ) (hn : n < cfg0.N) (h0 : n ≠ 0) (d), (dats m 0 c).before 8 ⟨n, hn⟩ d = (nwB (ins m c) (n - 4) : Vec F S1x1024 .f32) := by
  intro n
  induction n with
  | zero => intro _ h0; exact absurd rfl h0
  | succ n ih =>
    intro hn h0 d
    have hn' : n < cfg0.N := Nat.lt_of_succ_lt hn
    have hN : n + 1 < 8 := lt_of_lt_of_eq hn N_0
    have hf : ¬ (cfg0.win 8).flush ⟨n, hn'⟩ = true := fun h => by
      have h := (flush0_8 ⟨n, hn'⟩).mp h
      dsimp only at h
      omega
    rw [(dats m 0 c).before_of_pos 8 ⟨n + 1, hn⟩ h0 (fetch8 _) d]
    show (if (cfg0.win 8).flush ⟨n, hn'⟩ = true then d else (dats m 0 c).left 8 ⟨n, hn'⟩ d) = _
    rw [if_neg hf]
    unfold Dat.left
    have hi := id8 ⟨n, hn'⟩
    change cfg0.idle 8 (cfg0.grid.coords ⟨n, hn'⟩) = true ↔ _ at hi
    cases hh : cfg0.idle 8 (cfg0.grid.coords ⟨n, hn'⟩)
    · show (dats m 0 c).after 8 ⟨n, hn'⟩ = _
      rw [after_8]
    · have hi := hi.mp hh
      dsimp only at hi ⊢
      rw [ih hn' (by omega) d, show n + 1 - 4 = n - 4 by omega]

/-- What the body is given at a point. -/
def bodyPre (c : Dev nD) (t : Fin cfg0.N) : sProp 𝕄 :=
  iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)))

/-- What it gives back. -/
def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t)

set_option maxHeartbeats 4000000 in
/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rewrite [show (dats m 0 c).owesAt () t.succ = (dats m 0 c).owesAt () t.castSucc from rfl]
  rewrite [show (dats m 0 c).Φ t.succ = PhiS m c (t.val + 1) from rfl, show (dats m 0 c).Φ t.castSucc = PhiS m c t.val from rfl]
  unfold PhiS
  simp only [before_0, before_1, before_2, before_3, before_4]
  iintro ⟨⟨%s, %hs, S0, S1, S2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have a := at_point t
  have v : Inv (ins m c) t.val { s with dx := (dats m 0 c).before 5 t d5, dw := (dats m 0 c).before 6 t d6, db := (dats m 0 c).before 7 t d7, dnw := (dats m 0 c).before 8 t d8 } := ⟨hs.xn, hs.dxn, hs.acc⟩
  have hb : t.val % 4 ≠ 0 → ({ s with dx := (dats m 0 c).before 5 t d5, dw := (dats m 0 c).before 6 t d6, db := (dats m 0 c).before 7 t d7, dnw := (dats m 0 c).before 8 t d8 } : St F).db = aB (ins m c) (t.val / 4) (t.val % 4) := fun h => before_7 m c t.val t.isLt h d7
  have hd : t.val ≠ 0 → ({ s with dx := (dats m 0 c).before 5 t d5, dw := (dats m 0 c).before 6 t d6, db := (dats m 0 c).before 7 t d7, dnw := (dats m 0 c).before 8 t d8 } : St F).dnw = nwB (ins m c) (t.val - 4) := fun h => before_8 m c t.val t.isLt h d8
  generalize hS : ({ s with dx := (dats m 0 c).before 5 t d5, dw := (dats m 0 c).before 6 t d6, db := (dats m 0 c).before 7 t d7, dnw := (dats m 0 c).before 8 t d8 } : St F) = S at v hb hd
  iapply (body_step c (grid0.coords t) _ (hs0 t) _ (hs1 t) _ (hs2 t) _ (hs3 t) _ (hs4 t) _ (hs5 t) _ (hs6 t) _ (hs7 t) _ (hs8 t) scM0 (Memref.isWhole_whole _) scM1 (Memref.isWhole_whole _) scM2 (Memref.isWhole_whole _) t.val a (ins m c t.val) S Set.univ _)
  isplitl [H0 H1 H2 H3 H4 H5 H6 H7 H8 S0 S1 S2]
  · unfold holds
    rewrite [ins_val]
    unfold insAt
    rewrite [← hS]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    iexact S2
  unfold holds
  iintro ⟨H0, H1, H2, H3, H4, H5, H6, H7, H8, S0, S1, S2⟩
  isplitl [Hg S0 S1 S2]
  · iexists (step (grid0.coords t) (ins m c t.val) S)
    isplitl []; · ipureintro; exact v.step a
    isplitl [S0]; · iexact S0
    isplitl [S1]; · iexact S1
    isplitl [S2]; · iexact S2
    iexact Hg
  isplitl [Ho]; · iexact Ho
  isplitl [H0]
  · iapply (leaves_of (dats m 0 c) 0 t (ins m c t.val).x True ⟨fun h => absurd (h : false = true) Bool.false_ne_true, fun h => absurd trivial h⟩ (fun _ => trivial)
      (fun _ => by rw [after_0, ins_val]; rfl) (fun h => absurd trivial h))
    iexact H0
  isplitl [H1]
  · iapply (leaves_of (dats m 0 c) 1 t (ins m c t.val).dres True ⟨fun h => absurd (h : false = true) Bool.false_ne_true, fun h => absurd trivial h⟩ (fun _ => trivial)
      (fun _ => by rw [after_1, ins_val]; rfl) (fun h => absurd trivial h))
    iexact H1
  isplitl [H2]
  · iapply (leaves_of (dats m 0 c) 2 t (ins m c t.val).dp True ⟨fun h => absurd (h : false = true) Bool.false_ne_true, fun h => absurd trivial h⟩ (fun _ => trivial)
      (fun _ => by rw [after_2, ins_val]; rfl) (fun h => absurd trivial h))
    iexact H2
  isplitl [H3]
  · iapply (leaves_of (dats m 0 c) 3 t (ins m c t.val).nw True ⟨fun h => absurd (h : false = true) Bool.false_ne_true, fun h => absurd trivial h⟩ (fun _ => trivial)
      (fun _ => by rw [after_3, ins_val]; rfl) (fun h => absurd trivial h))
    iexact H3
  isplitl [H4]
  · iapply (leaves_of (dats m 0 c) 4 t (ins m c t.val).w True ⟨fun h => absurd (h : false = true) Bool.false_ne_true, fun h => absurd trivial h⟩ (fun _ => trivial)
      (fun _ => by rw [after_4, ins_val]; rfl) (fun h => absurd trivial h))
    iexact H4
  isplitl [H5]
  · iapply (leaves_of (dats m 0 c) 5 t (step (grid0.coords t) (ins m c t.val) S).dx (4 ≤ t.val) (id5 t) (fl5 t).mp
        (fun h => by rw [after_5]; exact dx_live a v h)
        (fun h => ⟨d5, (dx_idle a h).trans (show S.dx = (dats m 0 c).before 5 t d5 by rw [← hS])⟩))
    iexact H5
  isplitl [H6]
  · iapply (leaves_of (dats m 0 c) 6 t (step (grid0.coords t) (ins m c t.val) S).dw (t.val % 4 = 3) (id6 t) (flush0_6 t).mp
        (fun h => by rw [after_6]; exact dw_live a v h)
        (fun h => ⟨d6, (dw_idle a h).trans (show S.dw = (dats m 0 c).before 6 t d6 by rw [← hS])⟩))
    iexact H6
  isplitl [H7]
  · iapply (leaves_of (dats m 0 c) 7 t (step (grid0.coords t) (ins m c t.val) S).db True (id7 t) (fun _ => trivial)
        (fun _ => by rw [after_7]; exact db_step a hb) (fun h => absurd trivial h))
    iexact H7
  iapply (leaves_of (dats m 0 c) 8 t (step (grid0.coords t) (ins m c t.val) S).dnw (t.val = 0 ∨ 4 ≤ t.val) (id8 t) (fun h => .inr (by have := (flush0_8 t).mp h; omega))
      (fun h => by rw [after_8]; exact dnw_step a v hd)
      (fun h => ⟨d8, (dnw_step a v hd).trans (by rw [show t.val + 1 - 4 = t.val - 4 by omega]; exact (before_8 m c t.val t.isLt (by omega) d8).symm)⟩))
  iexact H8

theorem defs₀_row (t : Fin cfg0.N) : defs₀ (F := F) .tc cfg0.body (cfg0.bodyArgs t (cfg0.slots t)) = bodyAt0 t := by
  unfold defs₀; rw [Defs.onTc_tc]

set_option maxRecDepth 8192 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rewrite [show (dats m 0 c).Φ 0 = PhiS m c 0 from rfl, PhiA_eq]
  unfold PhiS
  iintro ⟨⟨⟨%s0, S0⟩, ⟨%s1, S1⟩, ⟨%s2, S2⟩⟩, Hg⟩
  iexists (⟨k0_pay8, k0_pay2 s2, k0_pay11, k0_pay9, s0, s1, s2⟩ : St F)
  isplitl []
  · ipureintro
    exact ⟨fun _ _ h => absurd h (Nat.not_lt_zero _), fun _ _ h => absurd h (Nat.not_lt_zero _), fun h => absurd rfl h⟩
  isplitl [S0]; · iexact S0
  isplitl [S1]; · iexact S1
  isplitl [S2]; · iexact S2
  iexact Hg

theorem hout (c : Dev nD) : (dats m 0 c).Φ (Fin.last cfg0.N) ⊢ Pipeline.ΦA spec0 c := by
  rewrite [show (dats m 0 c).Φ (Fin.last cfg0.N) = PhiS m c (Fin.last cfg0.N).val from rfl, PhiA_eq]
  unfold PhiS
  iintro ⟨%s, %hs, S0, S1, S2, Hg⟩
  isplitl [S0 S1 S2]
  · isplitl [S0]; · iexists _; iexact S0
    isplitl [S1]; · iexists _; iexact S1
    iexists _; iexact S2
  iexact Hg

set_option backward.isDefEq.respectTransparency.types false in
/-- The launch: it ends, with every output array assembled from what the points left, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and the counters at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.ConvInGradIdeal.Hand

end
-- ==== Proof.ConvInGradSame.lean ====
/- The printed kernel and its idealized print have one text: their body tables are one table, so a run of the one is a run of the other. -/
module

public import proofs.«01_k».proof.Proof.Gen.ConvInGrad
public import proofs.«01_k».proof.Proof.Gen.ConvInGradIdeal

@[expose] public section

open Idealize.ShloMosaic Idealize.SL.Sem

namespace Cert.ConvInGradSame

variable {F : FTy → Type} [FloatOps F]

set_option maxRecDepth 65536

/-- The kernels' body tables agree at their one label. -/
theorem bodies_eq : @Cert.ConvInGrad.defs₀ F _ _ = @Cert.ConvInGradIdeal.defs₀ F _ _ := by
  unfold Cert.ConvInGrad.defs₀ Cert.ConvInGradIdeal.defs₀
  refine congrArg (Defs.onTc (nD := Cert.ConvInGradIdeal.nD) (τ := Cert.ConvInGradIdeal.τ) (sig := Cert.ConvInGradIdeal.sig) (Val := Elt F) (Λ := Cert.ConvInGradIdeal.Λ₀)) ?_
  funext ℓ a
  match ℓ, a with
  | 0, (t, s) => rfl

/-- The whole tables agree. -/
theorem defs_eq : @Cert.ConvInGrad.defs F _ _ = @Cert.ConvInGradIdeal.defs F _ _ := by
  unfold Cert.ConvInGrad.defs Cert.ConvInGradIdeal.defs
  rw [← bodies_eq]
  rfl

/-- The two @main are one program. -/
theorem main_eq : @Cert.ConvInGrad.main F _ _ = @Cert.ConvInGradIdeal.main F _ _ := rfl

/-- A run of the idealized print, at any float values, is a run of the printed kernel at those values. -/
theorem run_of_ideal (s : MemSt Cert.ConvInGradIdeal.nD Cert.ConvInGradIdeal.τ Cert.ConvInGradIdeal.sig (Elt F)) (Q)
    (h : θ_run (Cert.ConvInGradIdeal.defs (F := F)) (onTc (τ := Cert.ConvInGradIdeal.τ) (Cert.ConvInGradIdeal.main (F := F))) s Q) :
    θ_run (Cert.ConvInGrad.defs (F := F)) (onTc (τ := Cert.ConvInGrad.τ) (Cert.ConvInGrad.main (F := F))) s Q := by
  have e := congrFun (congr (congrArg (fun d p => θ_run d (onTc (τ := Cert.ConvInGradIdeal.τ) p)) (defs_eq (F := F)).symm) (main_eq (F := F)).symm) s
  exact Eq.mp (congrArg (fun k => k Q) e) h

end Cert.ConvInGradSame

end
-- ==== Proof.NormGrad.lean ====
/- The gradient of a normalised product's step over the extended reals: the factored form, and its equality with the chain rule's form. -/
module

public import proofs.«01_k».proof.Proof.Reals
public import Idealize.ShloMosaic.Lib.Pointwise

@[expose] public section

open Idealize.ShloMosaic

noncomputable section

namespace Cert.NormGrad

open Finset

/-- The number of a row's entries and the norm's small constant, as the words of the program. -/
abbrev wid : EReal := Ideal.ofBits .f32 0x44800000#32
abbrev sml : EReal := Ideal.ofBits .f32 0x358637BD#32
/-- Minus one half. -/
abbrev mhf : EReal := Ideal.ofBits .f32 0xBF000000#32

/-- A matrix whose entries are those of `f`. -/
abbrev Has {n m : ℕ} (v : (⟨2, ![n, m]⟩ : Shape).Idx → EReal) (f : ℕ → ℕ → EReal) : Prop :=
  ∀ (a : Fin n) (b : Fin m), v (ix2 a b) = f a.val b.val

/-- A matrix, as a function of two numbers that is zero beyond it. -/
def ext2 {n m : ℕ} (v : (⟨2, ![n, m]⟩ : Shape).Idx → EReal) (a b : ℕ) : EReal := if h : a < n ∧ b < m then v (ix2 ⟨a, h.1⟩ ⟨b, h.2⟩) else 0
/-- A row, as a function of a number that is zero beyond it. -/
def ext1 {n : ℕ} (v : (⟨1, ![n]⟩ : Shape).Idx → EReal) (a : ℕ) : EReal := if h : a < n then v (ix1 ⟨a, h⟩) else 0

theorem ext2_at {n m : ℕ} (v : (⟨2, ![n, m]⟩ : Shape).Idx → EReal) (i : (⟨2, ![n, m]⟩ : Shape).Idx) : v i = ext2 v (i 0).val (i 1).val := by
  have h : (i 0).val < n ∧ (i 1).val < m := ⟨(i 0).isLt, (i 1).isLt⟩
  rw [ext2, dif_pos h]
  exact congrArg v (eq_ix2 i)
theorem ext1_at {n : ℕ} (v : (⟨1, ![n]⟩ : Shape).Idx → EReal) (i : (⟨1, ![n]⟩ : Shape).Idx) : v i = ext1 v (i 0).val := by
  have h : (i 0).val < n := (i 0).isLt
  rw [ext1, dif_pos h]
  exact congrArg v (eq_ix1 i)

/-- A sum over a finite type, as a sum over the first numbers. -/
theorem sum_range (n : ℕ) (f : ℕ → EReal) : ∑ k : Fin n, f k.val = ∑ k ∈ range n, f k := (Finset.sum_range f).symm

/-- The arguments of the gradient: rows `x`, their direct cotangent `dres`, the product's cotangent `dp`, the norm's weight and the product's weight. -/
structure Args where
  x : ℕ → ℕ → EReal
  dres : ℕ → ℕ → EReal
  dp : ℕ → ℕ → EReal
  nw : ℕ → EReal
  w : ℕ → ℕ → EReal

variable (A : Args)

/-- The mean square of a row with the small constant. -/
def ms (X : ℕ → EReal) : EReal := Ideal.div (∑ k ∈ range 1024, X k * X k) wid + sml
/-- The normalised rows before the weight. -/
def xh (i k : ℕ) : EReal := A.x i k * Ideal.rsqrt (ms (A.x i))
/-- The normalised rows. -/
def hn (i k : ℕ) : EReal := xh A i k * A.nw k
/-- The normalised rows' cotangent from the first `n` columns of the product. -/
def aPart (n i d : ℕ) : EReal := ∑ k ∈ range n, A.dp i k * A.w d k
/-- The weight's gradient from the first `n` rows. -/
def dwPart (n d k : ℕ) : EReal := ∑ i ∈ range n, hn A i d * A.dp i k
/-- The bias's gradient from the first `n` rows. -/
def dbPart (n k : ℕ) : EReal := ∑ i ∈ range n, A.dp i k
/-- The norm weight's gradient from the first `n` rows, for a product of `N` columns. -/
def nwPart (N n d : ℕ) : EReal := ∑ i ∈ range n, aPart A N i d * xh A i d
/-- The rows' gradient in the factored form. -/
def dx (N i d : ℕ) : EReal :=
  A.dres i d + Ideal.rsqrt (ms (A.x i)) * (aPart A N i d * A.nw d
    - xh A i d * Ideal.div (∑ k ∈ range 1024, aPart A N i k * A.nw k * xh A i k) wid)

theorem aPart_add (a b i d : ℕ) : aPart A (a + b) i d = aPart A a i d + ∑ k ∈ range b, A.dp i (a + k) * A.w d (a + k) := sum_range_add _ _ _
theorem dwPart_add (a b d k : ℕ) : dwPart A (a + b) d k = dwPart A a d k + ∑ i ∈ range b, hn A (a + i) d * A.dp (a + i) k := sum_range_add _ _ _
theorem dbPart_add (a b k : ℕ) : dbPart A (a + b) k = dbPart A a k + ∑ i ∈ range b, A.dp (a + i) k := sum_range_add _ _ _
theorem nwPart_add (N a b d : ℕ) : nwPart A N (a + b) d = nwPart A N a d + ∑ i ∈ range b, aPart A N (a + i) d * xh A (a + i) d := sum_range_add _ _ _

/-! ## The two forms agree -/

/-- A sum times a nonnegative real, distributed. -/
theorem sum_mul_coe {ρ : ℝ} (h : 0 ≤ ρ) (s : Finset ℕ) (f : ℕ → EReal) : ∑ k ∈ s, f k * (ρ : EReal) = (∑ k ∈ s, f k) * (ρ : EReal) := by
  classical
  induction s using Finset.induction_on with
  | empty => simp
  | insert a s ha ih =>
    rw [sum_insert ha, sum_insert ha, ih, EReal.right_distrib_of_nonneg_of_ne_top (EReal.coe_nonneg.mpr h) (EReal.coe_ne_top _)]

theorem div_wid (a : EReal) : Ideal.div a wid = a * ((1 / 1024 : ℝ) : EReal) := by
  rw [wid, Half.thousand_word]
  exact Ideal.div_coe (by norm_num) a

/-- A sum of reals over the first numbers. -/
theorem range_coe (n : ℕ) (f : ℕ → ℝ) : ∑ k ∈ range n, (f k : EReal) = ((∑ k ∈ range n, f k : ℝ) : EReal) := by
  rw [Half.coe_range, sum_range n fun k => (f k : EReal)]

/-- The sum of a row's squares is infinite when an entry is. -/
theorem sq_top {X : ℕ → EReal} {k : ℕ} (hk : k ∈ range 1024) (h : X k = ⊤ ∨ X k = ⊥) : ∑ j ∈ range 1024, X j * X j = ⊤ := by
  have hs : X k * X k = ⊤ := by rcases h with h | h <;> rw [h] <;> rfl
  have hn : ∀ j, 0 ≤ X j * X j := fun j => by
    rcases le_total 0 (X j) with h | h
    · exact mul_nonneg h h
    · rw [← neg_mul_neg]; exact mul_nonneg (EReal.neg_nonneg.mpr h) (EReal.neg_nonneg.mpr h)
  refine top_unique ?_
  rw [← hs]
  exact single_le_sum (f := fun j => X j * X j) (fun j _ => hn j) hk

/-- Twice a half. -/
theorem twice (T : EReal) (a : ℝ) : T * ((a / 2 : ℝ) : EReal) + T * ((a / 2 : ℝ) : EReal) = T * ((a / 2 * 2 : ℝ) : EReal) := by
  have h : ∀ y : EReal, y + y = y * ((2 : ℝ) : EReal) := fun y => by
    induction y with
    | bot => rw [EReal.bot_mul_coe_of_pos (by norm_num)]; rfl
    | top => rw [EReal.top_mul_coe_of_pos (by norm_num)]; rfl
    | coe y => rw [← EReal.coe_add, ← EReal.coe_mul, mul_two]
  rw [h, mul_assoc, ← EReal.coe_mul]

/-- And so is the mean square. -/
theorem ms_top {X : ℕ → EReal} {k : ℕ} (hk : k ∈ range 1024) (h : X k = ⊤ ∨ X k = ⊥) : ms X = ⊤ := by
  rw [ms, sq_top hk h, div_wid, EReal.top_mul_coe_of_pos (by norm_num), sml, Half.eps_word]
  exact EReal.top_add_coe _

/-- The rows' gradient as the chain rule writes it: the norm's slope appears twice, once for each factor of the square. -/
theorem dx_eq (X D E : ℕ → EReal) {d : ℕ} (hd : d < 1024) :
    D d + Ideal.rsqrt (ms X) * (E d - X d * Ideal.rsqrt (ms X) * Ideal.div (∑ k ∈ range 1024, E k * (X k * Ideal.rsqrt (ms X))) wid)
      = D d + E d * Ideal.rsqrt (ms X)
        + X d * Ideal.div ((∑ k ∈ range 1024, X k * E k) * (mhf * Ideal.div (Ideal.rsqrt (ms X)) (ms X))) wid
        + Ideal.div ((∑ k ∈ range 1024, X k * E k) * (mhf * Ideal.div (Ideal.rsqrt (ms X)) (ms X))) wid * X d := by
  by_cases hx : ∃ k ∈ range 1024, X k = ⊤ ∨ X k = ⊥
  · obtain ⟨k, hk, h⟩ := hx
    rw [ms_top hk h, Ideal.rsqrt_top, show Ideal.div 0 ⊤ = 0 by simp [Ideal.div], mul_zero, mul_zero]
    simp [div_wid]
  · have hreal : ∀ k ∈ range 1024, X k = ((X k).toReal : EReal) := fun k hk =>
      (EReal.coe_toReal (fun h => hx ⟨k, hk, .inl h⟩) (fun h => hx ⟨k, hk, .inr h⟩)).symm
    set Y : ℕ → ℝ := fun k => (X k).toReal with hY
    have hms : ms X = ((Half.ms Y : ℝ) : EReal) := by
      rw [ms, sum_congr rfl fun k hk => show X k * X k = ((Y k * Y k : ℝ) : EReal) by rw [EReal.coe_mul, ← hreal k hk]]
      rw [range_coe, wid, sml, Half.thousand_word, Half.eps_word, Half.div_real (by norm_num), ← EReal.coe_add]
      rfl
    have hp := Half.ms_pos Y
    have hd' := hreal d (mem_range.mpr hd)
    set T := ∑ k ∈ range 1024, X k * E k with hT
    have hsq : (√(Half.ms Y))⁻¹ * (√(Half.ms Y))⁻¹ = (Half.ms Y)⁻¹ := Half.rinv_sq Y
    rw [hms, Half.rsqrt_real hp]
    set ρ : ℝ := (√(Half.ms Y))⁻¹ with hρ
    have hρ0 : 0 ≤ ρ := inv_nonneg.mpr (Real.sqrt_nonneg _)
    have hS : ∑ k ∈ range 1024, E k * (X k * (ρ : EReal)) = T * (ρ : EReal) := by
      rw [hT, ← sum_mul_coe hρ0]
      exact sum_congr rfl fun k _ => by rw [← mul_assoc, mul_comm (E k)]
    rw [hS, div_wid, div_wid, mhf, Half.neg_half_word, Half.div_real hp.ne', hd']
    change D d + (ρ : EReal) * (E d - (Y d : EReal) * (ρ : EReal) * _) = D d + E d * (ρ : EReal) + (Y d : EReal) * _ + _ * (Y d : EReal)
    have hK : (ρ : EReal) * (E d - (Y d : EReal) * ρ * (T * ρ * ((1 / 1024 : ℝ) : EReal))) = E d * ρ + T * ((-(Y d * ρ * ρ * ρ * (1 / 1024)) : ℝ) : EReal) := by
      rw [sub_eq_add_neg, EReal.left_distrib_of_nonneg_of_ne_top (EReal.coe_nonneg.mpr hρ0) (EReal.coe_ne_top _), mul_comm (ρ : EReal) (E d)]
      congr 1
      rw [EReal.coe_neg, mul_neg, mul_neg]
      congr 1
      rw [← EReal.coe_mul, mul_assoc T, ← EReal.coe_mul, mul_left_comm _ T, ← EReal.coe_mul, mul_left_comm _ T, ← EReal.coe_mul]
      congr 2
      ring
    have hR : (Y d : EReal) * (T * (((-(1 / 2) : ℝ) : EReal) * ((ρ / Half.ms Y : ℝ) : EReal)) * ((1 / 1024 : ℝ) : EReal))
        = T * ((-(Y d * ρ * ρ * ρ * (1 / 1024)) / 2 : ℝ) : EReal) := by
      rw [← EReal.coe_mul, mul_assoc T, ← EReal.coe_mul, mul_left_comm _ T, ← EReal.coe_mul]
      congr 2
      rw [show ρ / Half.ms Y = ρ * (ρ * ρ) by rw [hsq, div_eq_mul_inv]]
      ring
    rw [hK, mul_comm _ (Y d : EReal), hR, add_assoc, add_assoc, twice, div_mul_cancel₀ _ (by norm_num)]

end Cert.NormGrad

end
-- ==== Proof.ConvInGradPay.lean ====
/- The kernel's operations at an index, over the extended reals: what each stage of a grid point computes from its blocks. -/
module

public import proofs.«01_k».proof.Proof.ConvInGradStep
public import proofs.«01_k».proof.Proof.NormGrad

@[expose] public section

open Idealize.ShloMosaic Cert.ConvInGradIdeal Cert.ConvInGradIdeal.Gen Cert.ConvInGradIdeal.Hand

noncomputable section

namespace Cert.ConvInGradClaim

open Finset Cert.NormGrad

set_option maxRecDepth 16384

/-- The reciprocal root mean square of a block's rows. -/
theorem pay3_has {x : Vec Ideal S512x1024 .f32} {X : ℕ → ℕ → EReal} (hx : Has x X) : Has (k0_pay3 x) fun a _ => Ideal.rsqrt (ms (X a)) := by
  intro a k
  pointwise [k0_pay3]
  simp only [hx _ _]
  rw [sum_range 1024 fun k => X a.val k * X a.val k]
  rfl

/-- The normalised rows of a block, before the weight. -/
theorem pay4_has {x : Vec Ideal S512x1024 .f32} {X : ℕ → ℕ → EReal} (hx : Has x X) : Has (k0_pay4 x) fun a k => X a k * Ideal.rsqrt (ms (X a)) := by
  intro a k
  pointwise [k0_pay4]
  rw [hx, pay3_has hx]

/-- The normalised rows of a block. -/
theorem pay7_has {x : Vec Ideal S512x1024 .f32} {w : Vec Ideal S1x1024 .f32} {X : ℕ → ℕ → EReal} {W : ℕ → EReal} (hx : Has x X) (hw : Has w fun _ => W) :
    Has (k0_pay7 x w) fun a k => X a k * Ideal.rsqrt (ms (X a)) * W k := by
  intro a k
  pointwise [k0_pay7]
  simp only [hx _ _, hw _ _]
  rw [sum_range 1024 fun k => X a.val k * X a.val k]
  rfl

theorem pay8_has : Has (k0_pay8 (F := Ideal)) fun _ _ => 0 := by
  intro a k
  pointwise [k0_pay8]
theorem pay9_has : Has (k0_pay9 (F := Ideal)) fun _ _ => 0 := by
  intro a k
  pointwise [k0_pay9]
theorem pay10_has : Has (k0_pay10 (F := Ideal)) fun _ _ => 0 := by
  intro a k
  pointwise [k0_pay10]
theorem pay11_has : Has (k0_pay11 (F := Ideal)) fun _ _ => 0 := by
  intro a k
  pointwise [k0_pay11]

/-- A block's addition to the weight's gradient. -/
theorem pay13_has {dp : Vec Ideal S512x1024 .f32} {acc : Vec Ideal S1024x1024 .f32} {v : Vec Ideal S512x1024 .bf16} {D P V : ℕ → ℕ → EReal}
    (hd : Has dp D) (hp : Has acc P) (hv : Has v V) : Has (k0_pay13 dp acc v) fun d k => P d k + ∑ i ∈ range 512, V i d * D i k := by
  intro d k
  pointwise [k0_pay13, k0_pay12]
  simp only [hd _ _, hp _ _, hv _ _]
  rw [sum_range 512 fun i => V i d.val * D i k.val]

/-- A block's addition to the bias's gradient. -/
theorem pay14_has {dp : Vec Ideal S512x1024 .f32} {b : Vec Ideal S1x1024 .f32} {D : ℕ → ℕ → EReal} {B : ℕ → EReal}
    (hd : Has dp D) (hb : Has b fun _ => B) : Has (k0_pay14 dp b) fun _ k => B k + ∑ i ∈ range 512, D i k := by
  intro u k
  pointwise [k0_pay14]
  simp only [hd _ _, hb _ _]
  rw [sum_range 512 fun i => D i k.val]

/-- A block's addition to the normalised rows' cotangent. -/
theorem pay1_has {dp : Vec Ideal S512x1024 .f32} {r : Vec Ideal S512x1024 .f32} {w : Vec Ideal S1024x1024 .bf16} {D R W : ℕ → ℕ → EReal}
    (hd : Has dp D) (hr : Has r R) (hw : Has w W) : Has (k0_pay1 (k0_pay12 dp) r w) fun a d => R a d + ∑ k ∈ range 1024, D a k * W d k := by
  intro a d
  pointwise [k0_pay1, k0_pay12]
  simp only [hd _ _, hr _ _, hw _ _]
  rw [sum_range 1024 fun k => D a.val k * W d.val k]

/-- The rows' gradient of a block. -/
theorem pay5_has {x r y : Vec Ideal S512x1024 .f32} {w : Vec Ideal S1x1024 .f32} {X R Y : ℕ → ℕ → EReal} {W : ℕ → EReal}
    (hx : Has x X) (hw : Has w fun _ => W) (hr : Has r R) (hy : Has y Y) :
    Has (k0_pay5 x w r y) fun a d => Y a d + Ideal.rsqrt (ms (X a)) * (R a d * W d
      - X a d * Ideal.rsqrt (ms (X a)) * Ideal.div (∑ k ∈ range 1024, R a k * W k * (X a k * Ideal.rsqrt (ms (X a)))) wid) := by
  intro a d
  pointwise [k0_pay5]
  simp only [pay4_has hx _ _, pay3_has hx _ _, hw _ _, hr _ _, hy _ _]
  rw [sum_range 1024 fun k => R a.val k * W k * (X a.val k * Ideal.rsqrt (ms (X a.val)))]

/-- A block's addition to the norm weight's gradient. -/
theorem pay6_has {x r : Vec Ideal S512x1024 .f32} {g : Vec Ideal S1x1024 .f32} {X R : ℕ → ℕ → EReal} {G : ℕ → EReal}
    (hx : Has x X) (hr : Has r R) (hg : Has g fun _ => G) :
    Has (k0_pay6 x r g) fun _ d => G d + ∑ i ∈ range 512, R i d * (X i d * Ideal.rsqrt (ms (X i))) := by
  intro u d
  pointwise [k0_pay6]
  simp only [pay4_has hx _ _, hr _ _, hg _ _]
  rw [sum_range 512 fun i => R i d.val * (X i d.val * Ideal.rsqrt (ms (X i)))]

end Cert.ConvInGradClaim

end
-- ==== Proof.ConvInGradFold.lean ====
/- The kernel's running sums over the extended reals: after any number of blocks they are the gradient's partial sums. -/
module

public import proofs.«01_k».proof.Proof.ConvInGradSched
public import proofs.«01_k».proof.Proof.ConvInGradPay

@[expose] public section

open Idealize.ShloMosaic Cert.ConvInGradIdeal Cert.ConvInGradIdeal.Gen Cert.ConvInGradIdeal.Hand

noncomputable section

namespace Cert.ConvInGradClaim

open Finset Cert.NormGrad

set_option maxRecDepth 16384

/-- The grid points' input blocks hold the blocks of `A`: point `4 j + b` reads row block `b` and column block `j`. The rows' direct
    cotangent is asked for at the last column block only, where it is read. -/
structure Feeds (A : Args) (I : ℕ → Ins Ideal) : Prop where
  x : ∀ j b, j = 0 ∨ j = 1 → b < 4 → Has (I (4 * j + b)).x fun p k => A.x (512 * b + p) k
  dres : ∀ b, b < 4 → Has (I (4 + b)).dres fun p k => A.dres (512 * b + p) k
  dp : ∀ j b, j < 2 → b < 4 → Has (I (4 * j + b)).dp fun p l => A.dp (512 * b + p) (1024 * j + l)
  nw : ∀ n, n < 8 → Has (I n).nw fun _ => A.nw
  w : ∀ j b, j < 2 → b < 4 → Has (I (4 * j + b)).w fun d l => A.w d (1024 * j + l)

variable {A : Args} {I : ℕ → Ins Ideal} (H : Feeds A I)

include H

/-- The kept normalised rows. -/
theorem xnB_has {b : ℕ} (hb : b < 4) : Has (xnB I b) fun p k => hn A (512 * b + p) k := by
  have h := H.x 0 b (.inl rfl) hb
  simp only [Nat.mul_zero, Nat.zero_add] at h
  exact pay7_has h (H.nw b (by omega))

/-- The normalised rows' cotangent after `j` column blocks. -/
theorem dxB_has {b : ℕ} (hb : b < 4) : ∀ j, j ≤ 2 → Has (dxB I b j) fun p d => aPart A (1024 * j) (512 * b + p) d
  | 0, _ => by
    intro p d
    rw [dxB, pay8_has]
    simp [aPart]
  | j + 1, h => by
    intro p d
    have hj : j < 2 := h
    beta_reduce
    rw [dxB, Nat.mul_succ, aPart_add]
    exact pay1_has (H.dp j b hj hb) (dxB_has hb j (by omega)) (H.w j b hj hb) p d

/-- The weight's gradient after `b` row blocks. -/
theorem aW_has {j : ℕ} (hj : j < 2) : ∀ b, b ≤ 4 → Has (aW I j b) fun d l => dwPart A (512 * b) d (1024 * j + l)
  | 0, _ => by
    intro d l
    rw [aW, pay10_has]
    simp [dwPart]
  | b + 1, h => by
    intro d l
    have hb : b < 4 := h
    beta_reduce
    rw [aW, Nat.mul_succ, dwPart_add]
    exact pay13_has (H.dp j b hj hb) (aW_has hj b (by omega)) (xnB_has H hb) d l

/-- The bias's gradient after `b` row blocks. -/
theorem aB_has {j : ℕ} (hj : j < 2) : ∀ b, b ≤ 4 → Has (aB I j b) fun _ l => dbPart A (512 * b) (1024 * j + l)
  | 0, _ => by
    intro u l
    rw [aB, pay11_has]
    simp [dbPart]
  | b + 1, h => by
    intro u l
    have hb : b < 4 := h
    beta_reduce
    rw [aB, Nat.mul_succ, dbPart_add]
    exact pay14_has (H.dp j b hj hb) (aB_has hj b (by omega)) u l

/-- The norm weight's gradient after `b` row blocks. -/
theorem nwB_has : ∀ b, b ≤ 4 → Has (nwB I b) fun _ d => nwPart A 2048 (512 * b) d
  | 0, _ => by
    intro u d
    rw [nwB, pay9_has]
    simp [nwPart]
  | b + 1, h => by
    intro u d
    have hb : b < 4 := h
    beta_reduce
    rw [nwB, Nat.mul_succ, nwPart_add]
    exact pay6_has (H.x 1 b (.inr rfl) hb) (dxB_has H hb 2 le_rfl) (nwB_has b (by omega)) u d

/-- The rows' gradient of a block. -/
theorem dxOut_has {b : ℕ} (hb : b < 4) : Has (dxOf (I (4 + b)) (dxB I b 2)) fun p d => dx A 2048 (512 * b + p) d :=
  pay5_has (H.x 1 b (.inr rfl) hb) (H.nw (4 + b) (by omega)) (dxB_has H hb 2 le_rfl) (H.dres b hb)

end Cert.ConvInGradClaim

end
-- ==== Proof.ConvInGradRef.lean ====
/- The reference's results over the extended reals, one operation of its program at a time. -/
module

public import proofs.«01_k».proof.Proof.Gen.ConvInGradReferenceIdeal.Read
public import proofs.«01_k».proof.Proof.NormGrad

@[expose] public section

open Idealize.ShloMosaic Cert.ConvInGradReferenceIdeal Cert.ConvInGradReferenceIdeal.Gen Cert.ConvInGradReferenceIdeal.Read

noncomputable section

namespace Cert.ConvInGradClaim

open Finset Cert.NormGrad

set_option maxRecDepth 16384

/-- The five argument arrays hold the entries of `A`. -/
structure Holds (A : Args) (x0 x1 : (⟨S2048x1024, .f32⟩ : BufTy).Contents (Elt Ideal)) (x2 : (⟨S2048x2048, .f32⟩ : BufTy).Contents (Elt Ideal))
    (x3 : (⟨S1024, .f32⟩ : BufTy).Contents (Elt Ideal)) (x4 : (⟨S1024x2048, .f32⟩ : BufTy).Contents (Elt Ideal)) : Prop where
  x : ∀ i, x0 i = A.x (i 0).val (i 1).val
  dres : ∀ i, x1 i = A.dres (i 0).val (i 1).val
  dp : ∀ i, x2 i = A.dp (i 0).val (i 1).val
  nw : ∀ i, x3 i = A.nw (i 0).val
  w : ∀ i, x4 i = A.w (i 0).val (i 1).val

namespace Ref

variable {A : Args} {x0 x1 : (⟨S2048x1024, .f32⟩ : BufTy).Contents (Elt Ideal)} {x2 : (⟨S2048x2048, .f32⟩ : BufTy).Contents (Elt Ideal)}
  {x3 : (⟨S1024, .f32⟩ : BufTy).Contents (Elt Ideal)} {x4 : (⟨S1024x2048, .f32⟩ : BufTy).Contents (Elt Ideal)}
  (H : Holds A x0 x1 x2 x3 x4)

include H

/-- The mean square with the small constant. -/
theorem v7 (i) : val_main_v7 (F := Ideal) x0 i = ms (A.x (i 0).val) := by
  rw [val_main_v7_apply, val_main_v5_apply, val_main_v3_apply, val_main_v2_apply, val_main_v4_apply, val_main_v6_apply]
  simp only [val_main_cst_apply, val_main_cst_0_apply, val_main_cst_1_apply, val_main_cst_2_apply, val_main_v1_apply, Ideal.mulf_def, Ideal.addf_def, Ideal.hostDivf_def,
    Ideal.ofBits_def, Half.zero_word, zero_add, H.x]
  rw [ms, ← sum_range 1024]

/-- The reciprocal root mean square. -/
theorem v8 (i) : val_main_v8 (F := Ideal) x0 i = Ideal.rsqrt (ms (A.x (i 0).val)) := by
  rw [val_main_v8_apply, v7 H]
  rfl

theorem v13 (i) : val_main_v13 (F := Ideal) x0 i = xh A (i 0).val (i 1).val := by
  rw [val_main_v13_apply, val_main_v12_apply, v8 H, H.x]
  rfl

/-- The normalised rows. -/
theorem v16 (i) : val_main_v16 (F := Ideal) x0 x3 i = hn A (i 0).val (i 1).val := by
  rw [val_main_v16_apply, v13 H, val_main_v15_apply, val_main_v14_apply, H.nw]
  rfl

theorem v21 (i) : val_main_v21 (F := Ideal) x2 i = A.dp (i 0).val (i 1).val := by
  rw [val_main_v21_apply, H.dp]
  have h0 : (i 0).val < 2048 := (i 0).isLt
  have h1 : (i 1).val < 2048 := (i 1).isLt
  show A.dp (((i 0).val * 2048 + (i 1).val) / 2048) (((i 0).val * 2048 + (i 1).val) % 2048) = _
  rw [show ((i 0).val * 2048 + (i 1).val) / 2048 = (i 0).val by omega, show ((i 0).val * 2048 + (i 1).val) % 2048 = (i 1).val by omega]

/-- The normalised rows' cotangent. -/
theorem v27 (i) : val_main_v27 (F := Ideal) x2 x4 i = aPart A 2048 (i 0).val (i 1).val := by
  rw [val_main_v27_apply, aPart, ← sum_range 2048]
  refine Finset.sum_congr rfl fun k _ => ?_
  rw [v21 H, H.w]

/-- The weight's gradient. -/
theorem v49 (i) : val_main_v49 (F := Ideal) x0 x2 x3 i = dwPart A 2048 (i 0).val (i 1).val := by
  rw [val_main_v49_apply, val_main_v26_apply, val_main_v25_apply, dwPart, ← sum_range 2048]
  refine Finset.sum_congr rfl fun k _ => ?_
  rw [v21 H, v16 H, mul_comm]

/-- The bias's gradient. -/
theorem v50 (i) : val_main_v50 (F := Ideal) x2 i = dbPart A 2048 (i 1).val := by
  rw [val_main_v50_apply, val_main_v24_apply, Fin.sum_univ_one, val_main_v23_apply, val_main_v22_apply]
  simp only [val_main_cst_4_apply, val_main_cst_5_apply, Ideal.ofBits_def, Half.zero_word, zero_add, H.dp]
  rw [dbPart, ← sum_range 2048]
  refine Finset.sum_congr rfl fun k _ => ?_
  show A.dp k.val (0 * 2048 + (i 1).val) = _
  rw [Nat.zero_mul, Nat.zero_add]

/-- The norm weight's gradient. -/
theorem v51 (i) : val_main_v51 (F := Ideal) x0 x2 x4 i = nwPart A 2048 2048 (i 1).val := by
  rw [val_main_v51_apply, val_main_v33_apply, Fin.sum_univ_one, val_main_v30_apply, val_main_v29_apply]
  simp only [val_main_cst_6_apply, val_main_cst_7_apply, Ideal.ofBits_def, Half.zero_word, zero_add, val_main_v28_apply, v13 H, v27 H, Ideal.mulf_def]
  rw [nwPart, ← sum_range 2048]
  refine Finset.sum_congr rfl fun k _ => ?_
  show xh A k.val (0 * 1024 + (i 1).val) * aPart A 2048 k.val (0 * 1024 + (i 1).val) = _
  rw [Nat.zero_mul, Nat.zero_add, mul_comm]

theorem v32 (i) : val_main_v32 (F := Ideal) x2 x3 x4 i = aPart A 2048 (i 0).val (i 1).val * A.nw (i 1).val := by
  rw [val_main_v32_apply, v27 H, val_main_v31_apply, val_main_v14_apply, H.nw]
  rfl

/-- The norm's slope times the inner product it multiplies, over the row's length. -/
theorem v44 (i) : val_main_v44 (F := Ideal) x0 x2 x3 x4 i
    = Ideal.div ((∑ k ∈ range 1024, A.x (i 0).val k * (aPart A 2048 (i 0).val k * A.nw k))
        * (mhf * Ideal.div (Ideal.rsqrt (ms (A.x (i 0).val))) (ms (A.x (i 0).val)))) wid := by
  rw [val_main_v44_apply, val_main_v43_apply, Fin.sum_univ_one, val_main_v42_apply, val_main_v40_apply, val_main_v36_apply, val_main_v35_apply,
    val_main_v11_apply, val_main_v10_apply, val_main_v9_apply, val_main_v41_apply, v8 H, v7 H]
  simp only [val_main_cst_3_apply, val_main_cst_8_apply, val_main_cst_9_apply, val_main_cst_10_apply, val_main_v34_apply, v32 H, H.x,
    Ideal.ofBits_def, Half.zero_word, zero_add, Ideal.mulf_def, Ideal.hostDivf_def, mul_one, Fin.val_eq_zero, add_zero]
  rw [← sum_range 1024]

/-- The rows' gradient: the chain rule's form is the factored one. -/
theorem v48 (i) : val_main_v48 (F := Ideal) x0 x1 x2 x3 x4 i = dx A 2048 (i 0).val (i 1).val := by
  rw [val_main_v48_apply, val_main_v46_apply, val_main_v47_apply, val_main_v45_apply, val_main_v39_apply, val_main_v38_apply, val_main_v37_apply,
    v44 H, v32 H, v8 H, H.x, H.dres]
  exact (dx_eq (A.x (i 0).val) (A.dres (i 0).val) (fun k => aPart A 2048 (i 0).val k * A.nw k) (i 1).isLt).symm

end Ref

end Cert.ConvInGradClaim

end
-- ==== Proof.ConvInGrad.lean ====
/- The gradient of the convolution's input projection and its norm: the kernel's four results are the reference's, whatever the arguments. -/
module

public import proofs.«01_k».proof.Proof.ConvInGradMain
public import proofs.«01_k».proof.Proof.ConvInGradFold
public import proofs.«01_k».proof.Proof.ConvInGradRef
public import proofs.«01_k».proof.Proof.Gen.ConvInGradReferenceIdeal.Run
public import proofs.«01_k».proof.Defs
public import Idealize.ShloMosaic.Lib.Pipeline.ValueKit
public import Idealize.ShloMosaic.Lib.Pointwise
public import Idealize.ShloMosaic.Lib.Claim

@[expose] public section

open Idealize.ShloMosaic Idealize.ShloMosaic.TcCoe Idealize.ShloMosaic.Tactic Idealize.SL.Sem
open Cert.ConvInGradIdeal Cert.ConvInGradIdeal.Gen Cert.ConvInGradIdeal.Hand

noncomputable section

namespace Cert.ConvInGradClaim

open Cert.NormGrad

set_option maxRecDepth 16384

/-- The idealized kernel's argument arrays hold the entries of `A`. -/
abbrev Fed (m : (ℓ : Loc nD τ sig) → Buf (Elt Ideal) ℓ) (c : Dev nD) (A : Args) : Prop :=
  Holds A (m ((c : Thread nD τ).loc main_arg0)) (m ((c : Thread nD τ).loc main_arg1)) (m ((c : Thread nD τ).loc main_arg2))
    (m ((c : Thread nD τ).loc main_arg3)) (m ((c : Thread nD τ).loc main_arg4))

section Blocks
variable (m : (ℓ : Loc nD τ sig) → Buf (Elt Ideal) ℓ) (c : Dev nD)

/-- Each window's block at a point: the row block, the column block, or the whole. -/
theorem idx0 : ∀ t : Fin cfg0.N, win0_0.index t = ![t.val % 4, 0] := by decide +kernel
theorem idx1 : ∀ t : Fin cfg0.N, 4 ≤ t.val → win0_1.index t = ![t.val % 4, 0] := by decide +kernel
theorem idx2 : ∀ t : Fin cfg0.N, win0_2.index t = ![t.val % 4, t.val / 4] := by decide +kernel
theorem idx3 : ∀ t : Fin cfg0.N, win0_3.index t = ![0, 0] := by decide +kernel
theorem idx4 : ∀ t : Fin cfg0.N, win0_4.index t = ![0, t.val / 4] := by decide +kernel
theorem idx5 : ∀ t : Fin cfg0.N, 4 ≤ t.val → win0_5.index t = ![t.val % 4, 0] := by decide +kernel
theorem idx6 : ∀ t : Fin cfg0.N, win0_6.index t = ![0, t.val / 4] := by decide +kernel
theorem idx7 : ∀ t : Fin cfg0.N, win0_7.index t = ![0, t.val / 4] := by decide +kernel
theorem idx8 : ∀ t : Fin cfg0.N, win0_8.index t = ![0, 0] := by decide +kernel

/-- The rows of a block. -/
theorem blk0 (t : Fin cfg0.N) (a : Fin 512) (b : Fin 1024) :
    iblk m c 0 t (ix2 a b) = m ((c : Thread nD τ).loc main_arg0) (ix2 (⟨512 * (t.val % 4) + a.val, by omega⟩ : Fin 2048) b) := by
  have e := idx0 t
  blk_ext [iblk, V, e]

/-- Their direct cotangent. -/
theorem blk1 (t : Fin cfg0.N) (ht : 4 ≤ t.val) (a : Fin 512) (b : Fin 1024) :
    iblk m c 1 t (ix2 a b) = m ((c : Thread nD τ).loc main_arg1) (ix2 (⟨512 * (t.val % 4) + a.val, by omega⟩ : Fin 2048) b) := by
  have e := idx1 t ht
  blk_ext [iblk, V, e]

/-- The product's cotangent: a block of rows and columns. -/
theorem blk2 (t : Fin cfg0.N) (a : Fin 512) (b : Fin 1024) :
    iblk m c 2 t (ix2 a b) = m ((c : Thread nD τ).loc main_arg2) (ix2 (⟨512 * (t.val % 4) + a.val, by omega⟩ : Fin 2048)
      (⟨1024 * (t.val / 4) + b.val, by have := lt_of_lt_of_eq t.isLt N_0; omega⟩ : Fin 2048)) := by
  have e := idx2 t
  blk_ext [iblk, V, e]

/-- The norm weight's row. -/
theorem blk3 (t : Fin cfg0.N) (a : Fin 1) (b : Fin 1024) :
    iblk m c 3 t (ix2 a b) = m ((c : Thread nD τ).loc main_arg3) (ix1 b) := by
  have e := idx3 t
  blk_simp [iblk, e]
  entry_read
  pointwise
  blk_ext [e]

/-- A block of the weight's columns. -/
theorem blk4 (t : Fin cfg0.N) (a b : Fin 1024) :
    iblk m c 4 t (ix2 a b) = m ((c : Thread nD τ).loc main_arg4) (ix2 a (⟨1024 * (t.val / 4) + b.val, by have := lt_of_lt_of_eq t.isLt N_0; omega⟩ : Fin 2048)) := by
  have e := idx4 t
  blk_simp [iblk, e]
  entry_read
  pointwise
  blk_ext [e]

end Blocks

variable {m : (ℓ : Loc nD τ sig) → Buf (Elt Ideal) ℓ} {c : Dev nD} {A : Args} (H : Fed m c A)

/-- Point number `n` as a point of the grid. -/
theorem pt_at {n : ℕ} (h : n < 8) : (pt n).val = n := Nat.mod_eq_of_lt h

theorem ins_x (n : ℕ) : (ins m c n).x = iblk m c 0 (pt n) := rfl
theorem ins_dres (n : ℕ) : (ins m c n).dres = iblk m c 1 (pt n) := rfl
theorem ins_dp (n : ℕ) : (ins m c n).dp = iblk m c 2 (pt n) := rfl
theorem ins_nw (n : ℕ) : (ins m c n).nw = iblk m c 3 (pt n) := rfl
theorem ins_w (n : ℕ) : (ins m c n).w = iblk m c 4 (pt n) := rfl

include H

/-- So the kernel's input blocks hold the blocks of `A`. -/
theorem feeds : Feeds A (ins m c) where
  x := fun j b hj hb p k => by
    have e := pt_at (n := 4 * j + b) (by omega)
    have q := blk0 m c (pt (4 * j + b)) p k
    rw [H.x, ix2_0, ix2_1] at q
    simp only [e] at q
    rw [show (4 * j + b) % 4 = b by omega] at q
    rw [ins_x]
    exact q
  dres := fun b hb p k => by
    have e := pt_at (n := 4 + b) (by omega)
    have q := blk1 m c (pt (4 + b)) (by omega) p k
    rw [H.dres, ix2_0, ix2_1] at q
    simp only [e] at q
    rw [show (4 + b) % 4 = b by omega] at q
    rw [ins_dres]
    exact q
  dp := fun j b hj hb p l => by
    have e := pt_at (n := 4 * j + b) (by omega)
    have q := blk2 m c (pt (4 * j + b)) p l
    rw [H.dp, ix2_0, ix2_1] at q
    simp only [e] at q
    rw [show (4 * j + b) % 4 = b by omega, show (4 * j + b) / 4 = j by omega] at q
    rw [ins_dp]
    exact q
  nw := fun n _ u k => by
    rw [ins_nw]
    exact (blk3 m c (pt n) u k).trans ((H.nw _).trans rfl)
  w := fun j b hj hb d l => by
    have e := pt_at (n := 4 * j + b) (by omega)
    have q := blk4 m c (pt (4 * j + b)) d l
    rw [H.w, ix2_0, ix2_1] at q
    simp only [e] at q
    rw [show (4 * j + b) / 4 = j by omega] at q
    rw [ins_w]
    exact q

/-- The rows' gradient. -/
theorem out5 : (dats m 0 c).arrAt 5 (cfgs 0).N = fun i => dx A 2048 (i 0).val (i 1).val := by
  refine (dats m 0 c).arrAt_eq_of_covers 5 _ (by decide +kernel) fun t hf y => ?_
  have h4 : 4 ≤ t.val := (fl5 t).mp hf
  have h8 : t.val < 8 := lt_of_lt_of_eq t.isLt N_0
  have e := idx5 t h4
  blk_simp [e]
  rw [after_5]
  have hb : t.val % 4 < 4 := Nat.mod_lt _ (by decide)
  have h := dxOut_has (feeds H) hb
  rw [show 4 + t.val % 4 = t.val by omega] at h
  idx_vars y
  refine (h _ _).trans ?_
  simp only [ix2_0, ix2_1]
  congr 1 <;> omega

/-- The weight's gradient. -/
theorem out6 : (dats m 0 c).arrAt 6 (cfgs 0).N = fun i => dwPart A 2048 (i 0).val (i 1).val := by
  refine (dats m 0 c).arrAt_eq_of_covers 6 _ (by decide +kernel) fun t hf y => ?_
  have h8 : t.val < 8 := lt_of_lt_of_eq t.isLt N_0
  have e := idx6 t
  blk_simp [e]
  rw [after_6]
  have h := aW_has (feeds H) (j := t.val / 4) (by omega) 4 le_rfl
  idx_vars y
  refine (h _ _).trans ?_
  simp only [ix2_0, ix2_1]
  congr 1 <;> omega

/-- The bias's gradient. -/
theorem out7 : (dats m 0 c).arrAt 7 (cfgs 0).N = fun i => dbPart A 2048 (i 1).val := by
  refine (dats m 0 c).arrAt_eq_of_covers 7 _ (by decide +kernel) fun t hf y => ?_
  have h8 : t.val < 8 := lt_of_lt_of_eq t.isLt N_0
  have h3 : t.val % 4 = 3 := by have := (flush0_7 t).mp hf; omega
  have e := idx7 t
  blk_simp [e]
  rw [after_7, h3]
  have h := aB_has (feeds H) (j := t.val / 4) (by omega) 4 le_rfl
  idx_vars y
  refine (h _ _).trans ?_
  simp only [ix2_0, ix2_1]
  congr 1 <;> omega

/-- The norm weight's gradient. -/
theorem out8 : (dats m 0 c).arrAt 8 (cfgs 0).N = fun i => nwPart A 2048 2048 (i 1).val := by
  refine (dats m 0 c).arrAt_eq_of_covers 8 _ (by decide +kernel) fun t hf y => ?_
  have h8 : t.val < 8 := lt_of_lt_of_eq t.isLt N_0
  have h7 : t.val = 7 := by have := (flush0_8 t).mp hf; omega
  have e := idx8 t
  blk_simp [e]
  rw [after_8, h7]
  have h := nwB_has (feeds H) 4 le_rfl
  idx_vars y
  refine (h _ _).trans ?_
  simp only [ix2_0, ix2_1]

omit H in
/-- The arguments of a memory. -/
def argsOf (m : (ℓ : Loc nD τ sig) → Buf (Elt Ideal) ℓ) (c : Dev nD) : Args where
  x := ext2 (n := 2048) (m := 1024) (m ((c : Thread nD τ).loc main_arg0))
  dres := ext2 (n := 2048) (m := 1024) (m ((c : Thread nD τ).loc main_arg1))
  dp := ext2 (n := 2048) (m := 2048) (m ((c : Thread nD τ).loc main_arg2))
  nw := ext1 (n := 1024) (m ((c : Thread nD τ).loc main_arg3))
  w := ext2 (n := 1024) (m := 2048) (m ((c : Thread nD τ).loc main_arg4))

omit H in
theorem fed (m : (ℓ : Loc nD τ sig) → Buf (Elt Ideal) ℓ) (c : Dev nD) : Fed m c (argsOf m c) where
  x := fun i => ext2_at _ i
  dres := fun i => ext2_at _ i
  dp := fun i => ext2_at _ i
  nw := fun i => ext1_at _ i
  w := fun i => ext2_at _ i

omit H in
/-- The kernel and the reference end with the same four results, whatever the arguments. -/
theorem values : Cert.algebraic_ConvInGradIdeal_ConvInGradReferenceIdeal := by
  intro m g m' g' _ ha
  refine ⟨fun c i => dx (argsOf m c) 2048 (i 0).val (i 1).val, fun c i => dwPart (argsOf m c) 2048 (i 0).val (i 1).val,
    fun c i => dbPart (argsOf m c) 2048 (i 1).val, fun c i => nwPart (argsOf m c) 2048 2048 (i 1).val,
    (θ_run _ _ _).mono (fun _ h c => ⟨((h.1 c).1 5).trans (out5 (fed m c)), ((h.1 c).1 6).trans (out6 (fed m c)), ((h.1 c).1 7).trans (out7 (fed m c)),
      ((h.1 c).1 8).trans (out8 (fed m c)), h.2.1 c⟩) (θ_run_and (run_main m g) (frame_main m g)),
    (θ_run _ _ _).mono (fun r h c => ?_) (Cert.ConvInGradReferenceIdeal.Value.run m' g')⟩
  obtain ⟨a0, a1, a2, a3, a4⟩ := ha c
  have q := fed m c
  rw [Fed, ← a0, ← a1, ← a2, ← a3, ← a4] at q
  exact ⟨((h c).1.trans (Cert.ConvInGradReferenceIdeal.Read.val_main_v48_eq _ _)).trans (funext (Ref.v48 q)),
    ((h c).2.1.trans (Cert.ConvInGradReferenceIdeal.Read.val_main_v49_eq _ _ _)).trans (funext (Ref.v49 q)),
    ((h c).2.2.1.trans (Cert.ConvInGradReferenceIdeal.Read.val_main_v50_eq _)).trans (funext (Ref.v50 q)),
    ((h c).2.2.2.1.trans (Cert.ConvInGradReferenceIdeal.Read.val_main_v51_eq _ _ _)).trans (funext (Ref.v51 q)), (h c).2.2.2.2⟩

end Cert.ConvInGradClaim

end
-- ==== Proof.MixInGradStep.lean ====
/- What one grid point of the norm-and-projection gradient kernel leaves in its buffers, as a function of what it finds there. -/
module

public import proofs.«01_k».proof.Proof.Gen.MixInGradIdeal.Frame
public import proofs.«01_k».proof.Proof.Gen.MixInGradIdeal.Skeleton
public import Idealize.ShloMosaic.Lib.VecWindow

@[expose] public section

set_option maxRecDepth 16384

noncomputable section

namespace Cert.MixInGradIdeal.Hand

open Idealize.ShloMosaic Idealize.ShloMosaic.TcCoe
open Cert.MixInGradIdeal Cert.MixInGradIdeal.Gen
open Idealize.ShloMosaic.VecWindow

variable {F : FTy → Type} [FloatOps F]

/-- The input blocks a grid point sees: tokens, cotangent of the residual, the four cotangent pieces of the projection, norm scale, weight block. -/
structure Ins (F : FTy → Type) where
  x : Vec F S512x1024 .f32
  dres : Vec F S512x1024 .f32
  dq : Vec F S512x512 .f32
  dkv : Vec F S512x256 .f32
  dm : Vec F S512x768 .f32
  dz : Vec F S512x768 .f32
  nw : Vec F S1x1024 .f32
  w : Vec F S1024x768 .bf16

/-- What a grid point finds and leaves: the four output blocks and the three scratch buffers. -/
structure St (F : FTy → Type) where
  dx : Vec F S512x1024 .f32
  dw : Vec F S1024x768 .bf16
  db : Vec F S1x768 .f32
  dnw : Vec F S1x1024 .f32
  xn : Vec F S2048x1024 .bf16
  dxn : Vec F S2048x1024 .f32
  acc : Vec F S1024x768 .f32

/-- The kernel is in the first block of columns. -/
abbrev c1 (i : grid0.Coords) : Prop := k0_cond1 i = 1#1
/-- The very first point. -/
abbrev c2 (i : grid0.Coords) : Prop := k0_cond2 i = 1#1
/-- The first token block of a block of columns. -/
abbrev c3 (i : grid0.Coords) : Prop := Scalar.cmpi .ne (Scalar.extui (Scalar.cmpi .eq (BitVec.ofNat 32 (i 1).val) 0#32)) 0#32 = 1#1
/-- The last token block of a block of columns. -/
abbrev c4 (i : grid0.Coords) : Prop := k0_cond4 i = 1#1
/-- The last block of columns. -/
abbrev c5 (i : grid0.Coords) : Prop := k0_cond5 i = 1#1

/-- Rows `off …` of a 2048-row buffer, as a block of 512 rows. -/
abbrev rows {e : EltTy} (a : Vec F S2048x1024 e) (off : Fin 2 → ℕ) (inb : ∀ k, off k + S512x1024.size k ≤ S2048x1024.size k) : Vec F S512x1024 e :=
  window (s := S2048x1024) a off S512x1024.size inb

section Pieces
variable (i : grid0.Coords) (I : Ins F)
/-- The normalised tokens of a block. -/
abbrev xnOf : FVec F S512x1024 .bf16 := k0_pay8 I.x I.nw
/-- The weight gradient's accumulator after a block. -/
abbrev accOf (v : Vec F S512x1024 .bf16) (a : Vec F S1024x768 .f32) : FVec F S1024x768 .f32 := k0_pay15 i I.dq I.dkv I.dz I.dm a v
/-- The bias gradient after a block. -/
abbrev dbOf (b : Vec F S1x768 .f32) : FVec F S1x768 .f32 := k0_pay1 (k0_pay13 i I.dq I.dkv I.dz I.dm) b
/-- The cotangent of the normalised tokens after a block. -/
abbrev dxnOf (a : Vec F S512x1024 .f32) : FVec F S512x1024 .f32 := k0_pay2 (k0_pay14 i I.dq I.dkv I.dz I.dm) a I.w
/-- The tokens' gradient from the cotangent of the normalised tokens. -/
abbrev dxOf (r : Vec F S512x1024 .f32) : FVec F S512x1024 .f32 := k0_pay6 I.x I.nw r I.dres
/-- The norm scale's gradient after a block. -/
abbrev dnwOf (r : Vec F S512x1024 .f32) (g : Vec F S1x1024 .f32) : FVec F S1x1024 .f32 := k0_pay7 I.x r g
end Pieces

open Classical in
/-- The buffers after the preparations at the head of a point. -/
def prep (i : grid0.Coords) (I : Ins F) (s : St F) : St F where
  dx := s.dx
  dw := s.dw
  db := if c3 i then k0_pay12 else s.db
  dnw := if c2 i then k0_pay10 else s.dnw
  xn := if c1 i then put (s := S2048x1024) s.xn (k0_off1 i) S512x1024.size (xnOf I) else s.xn
  dxn := if c1 i then put (s := S2048x1024) s.dxn (k0_off1 i) S512x1024.size k0_pay9 else s.dxn
  acc := if c3 i then k0_pay11 else s.acc

/-- The products of a point, over prepared buffers. -/
def prod (i : grid0.Coords) (I : Ins F) (s : St F) : St F where
  dx := s.dx
  dw := s.dw
  db := dbOf i I s.db
  dnw := s.dnw
  xn := s.xn
  dxn := put (s := S2048x1024) s.dxn (k0_off2 i) S512x1024.size (dxnOf i I (rows s.dxn (k0_off2 i) (k0_off2_inb i)))
  acc := accOf i I (rows s.xn (k0_off2 i) (k0_off2_inb i)) s.acc

open Classical in
/-- The outputs a point stores at its end. -/
def emit (i : grid0.Coords) (I : Ins F) (s : St F) : St F where
  dx := if h : c5 i then dxOf I (rows s.dxn (k0_off3 i) (k0_off3_inb i h)) else s.dx
  dw := if c4 i then k0_pay3 s.acc else s.dw
  db := s.db
  dnw := if h : c5 i then dnwOf I (rows s.dxn (k0_off3 i) (k0_off3_inb i h)) s.dnw else s.dnw
  xn := s.xn
  dxn := s.dxn
  acc := s.acc

/-- One whole grid point. -/
def step (i : grid0.Coords) (I : Ins F) (s : St F) : St F := emit i I (prod i I (prep i I s))

end Cert.MixInGradIdeal.Hand

end
-- ==== Proof.MixInGradHeld.lean ====
/- The kernel's buffers, held whole, and how loads and stores of whole blocks and of token blocks read. -/
module

public import proofs.«01_k».proof.Proof.MixInGradStep
public import proofs.«01_k».proof.Proof.Held

@[expose] public section

set_option maxRecDepth 16384

noncomputable section

namespace Cert.MixInGradIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixInGradIdeal Cert.MixInGradIdeal.Gen
open Idealize.ShloMosaic.VecWindow
open Cert.KernelIdeal.Hand (readAt_win read_writes_put readAt_all read_writes_all window_all put_all cov_same)

variable {F : FTy → Type} [FloatOps F]

local notation "𝕄" => MT nD τ sig Unit (Elt F) ℕ (UR sig nD τ) ℕ

/-- The window of all of a 512x1024 block. -/
theorem window_512x1024 {α : Type} (x : S512x1024.Idx → α) (h : ∀ a, ![0, 0] a + S512x1024.size a ≤ S512x1024.size a) :
    window (s := S512x1024) x ![0, 0] ![512, 1024] h = x := window_all (s := S512x1024) x h

/-- All of a 512x1024 block written over. -/
theorem put_512x1024 {α : Type} (x : S512x1024.Idx → α) (w : S512x1024.Idx → α) : put (s := S512x1024) x ![0, 0] ![512, 1024] w = w :=
  put_all (s := S512x1024) x w inb_S512x1024_S512x1024_0_0

/-- The window of all of a 1x1024 block. -/
theorem window_1x1024 {α : Type} (x : S1x1024.Idx → α) (h : ∀ a, ![0, 0] a + S1x1024.size a ≤ S1x1024.size a) :
    window (s := S1x1024) x ![0, 0] ![1, 1024] h = x := window_all (s := S1x1024) x h

/-- All of a 1x1024 block written over. -/
theorem put_1x1024 {α : Type} (x : S1x1024.Idx → α) (w : S1x1024.Idx → α) : put (s := S1x1024) x ![0, 0] ![1, 1024] w = w :=
  put_all (s := S1x1024) x w inb_S1x1024_S1x1024_0_0

/-- The window of all of a 1024x768 block. -/
theorem window_1024x768 {α : Type} (x : S1024x768.Idx → α) (h : ∀ a, ![0, 0] a + S1024x768.size a ≤ S1024x768.size a) :
    window (s := S1024x768) x ![0, 0] ![1024, 768] h = x := window_all (s := S1024x768) x h

/-- All of a 1024x768 block written over. -/
theorem put_1024x768 {α : Type} (x : S1024x768.Idx → α) (w : S1024x768.Idx → α) : put (s := S1024x768) x ![0, 0] ![1024, 768] w = w :=
  put_all (s := S1024x768) x w inb_S1024x768_S1024x768_0_0

/-- The window of all of a 1x768 block. -/
theorem window_1x768 {α : Type} (x : S1x768.Idx → α) (h : ∀ a, ![0, 0] a + S1x768.size a ≤ S1x768.size a) :
    window (s := S1x768) x ![0, 0] ![1, 768] h = x := window_all (s := S1x768) x h

/-- All of a 1x768 block written over. -/
theorem put_1x768 {α : Type} (x : S1x768.Idx → α) (w : S1x768.Idx → α) : put (s := S1x768) x ![0, 0] ![1, 768] w = w :=
  put_all (s := S1x768) x w inb_S1x768_S1x768_0_0

/-- The window of all of a 512x512 block. -/
theorem window_512x512 {α : Type} (x : S512x512.Idx → α) (h : ∀ a, ![0, 0] a + S512x512.size a ≤ S512x512.size a) :
    window (s := S512x512) x ![0, 0] ![512, 512] h = x := window_all (s := S512x512) x h

/-- All of a 512x512 block written over. -/
theorem put_512x512 {α : Type} (x : S512x512.Idx → α) (w : S512x512.Idx → α) : put (s := S512x512) x ![0, 0] ![512, 512] w = w :=
  put_all (s := S512x512) x w inb_S512x512_S512x512_0_0

/-- The window of all of a 512x256 block. -/
theorem window_512x256 {α : Type} (x : S512x256.Idx → α) (h : ∀ a, ![0, 0] a + S512x256.size a ≤ S512x256.size a) :
    window (s := S512x256) x ![0, 0] ![512, 256] h = x := window_all (s := S512x256) x h

/-- All of a 512x256 block written over. -/
theorem put_512x256 {α : Type} (x : S512x256.Idx → α) (w : S512x256.Idx → α) : put (s := S512x256) x ![0, 0] ![512, 256] w = w :=
  put_all (s := S512x256) x w inb_S512x256_S512x256_0_0

/-- The window of all of a 512x768 block. -/
theorem window_512x768 {α : Type} (x : S512x768.Idx → α) (h : ∀ a, ![0, 0] a + S512x768.size a ≤ S512x768.size a) :
    window (s := S512x768) x ![0, 0] ![512, 768] h = x := window_all (s := S512x768) x h

/-- All of a 512x768 block written over. -/
theorem put_512x768 {α : Type} (x : S512x768.Idx → α) (w : S512x768.Idx → α) : put (s := S512x768) x ![0, 0] ![512, 768] w = w :=
  put_all (s := S512x768) x w inb_S512x768_S512x768_0_0

/-- The addresses of a point's token block agree. -/
theorem off12 (i : grid0.Coords) : k0_off1 i = k0_off2 i := rfl
/-- The addresses of a point's token block agree. -/
theorem off32 (i : grid0.Coords) : k0_off3 i = k0_off2 i := rfl

/-- The token block just stored is the payload. -/
theorem rows_put12 {α : Type} (x : S2048x1024.Idx → α) (i : grid0.Coords) (w : S512x1024.Idx → α) (h : ∀ a, k0_off2 i a + S512x1024.size a ≤ S2048x1024.size a) :
    window (s := S2048x1024) (put (s := S2048x1024) x (k0_off1 i) ![512, 1024] w) (k0_off2 i) ![512, 1024] h = w :=
  window_put_same (s := S2048x1024) x (k0_off2 i) S512x1024.size h w

/-- The token block just stored is the payload. -/
theorem rows_put23 {α : Type} (x : S2048x1024.Idx → α) (i : grid0.Coords) (w : S512x1024.Idx → α) (h : ∀ a, k0_off3 i a + S512x1024.size a ≤ S2048x1024.size a) :
    window (s := S2048x1024) (put (s := S2048x1024) x (k0_off2 i) ![512, 1024] w) (k0_off3 i) ![512, 1024] h = w :=
  window_put_same (s := S2048x1024) x (k0_off2 i) S512x1024.size h w

section Covered
variable {sig : RefSig} {κ : Kind} {sp : Space} {e : EltTy} {Val : EltTy → Type} [∀ e, Nonempty (Val e)]

/-- A load of the token block just stored reads the payload. -/
theorem cov12 (v : View sig κ sp S2048x1024 e) (i : grid0.Coords) (h : ∀ a, k0_off1 i a + S512x1024.size a ≤ S2048x1024.size a)
    (h' : ∀ a, k0_off2 i a + S512x1024.size a ≤ S2048x1024.size a) (w : S512x1024.Idx → Val e) (L : List (View.Piece Val S2048x1024 e)) :
    v.readCov (⟨Rect.unit (s := S2048x1024) (k0_off1 i) ![512, 1024] h, w⟩ :: L) (Rect.unit (s := S2048x1024) (k0_off2 i) ![512, 1024] h').toLoadRect = w :=
  cov_same v (off := k0_off2 i) (size := S512x1024.size) h h' w L

/-- A load of the token block just stored reads the payload. -/
theorem cov23 (v : View sig κ sp S2048x1024 e) (i : grid0.Coords) (h : ∀ a, k0_off2 i a + S512x1024.size a ≤ S2048x1024.size a)
    (h' : ∀ a, k0_off3 i a + S512x1024.size a ≤ S2048x1024.size a) (w : S512x1024.Idx → Val e) (L : List (View.Piece Val S2048x1024 e)) :
    v.readCov (⟨Rect.unit (s := S2048x1024) (k0_off2 i) ![512, 1024] h, w⟩ :: L) (Rect.unit (s := S2048x1024) (k0_off3 i) ![512, 1024] h').toLoadRect = w :=
  cov_same v (off := k0_off2 i) (size := S512x1024.size) h h' w L

/-- A load of a whole 1024x768 block just stored reads the payload. -/
theorem cov_1024x768 (v : View sig κ sp S1024x768 e) (h h' : ∀ a, ![0, 0] a + S1024x768.size a ≤ S1024x768.size a) (w : S1024x768.Idx → Val e)
    (L : List (View.Piece Val S1024x768 e)) :
    v.readCov (⟨Rect.unit (s := S1024x768) ![0, 0] ![1024, 768] h, w⟩ :: L) (Rect.unit (s := S1024x768) ![0, 0] ![1024, 768] h').toLoadRect = w :=
  cov_same v (off := ![0, 0]) (size := S1024x768.size) h h' w L

/-- A load of a whole 1x768 block just stored reads the payload. -/
theorem cov_1x768 (v : View sig κ sp S1x768 e) (h h' : ∀ a, ![0, 0] a + S1x768.size a ≤ S1x768.size a) (w : S1x768.Idx → Val e)
    (L : List (View.Piece Val S1x768 e)) :
    v.readCov (⟨Rect.unit (s := S1x768) ![0, 0] ![1, 768] h, w⟩ :: L) (Rect.unit (s := S1x768) ![0, 0] ![1, 768] h').toLoadRect = w :=
  cov_same v (off := ![0, 0]) (size := S1x768.size) h h' w L

/-- A load of a whole 1x1024 block just stored reads the payload. -/
theorem cov_1x1024 (v : View sig κ sp S1x1024 e) (h h' : ∀ a, ![0, 0] a + S1x1024.size a ≤ S1x1024.size a) (w : S1x1024.Idx → Val e)
    (L : List (View.Piece Val S1x1024 e)) :
    v.readCov (⟨Rect.unit (s := S1x1024) ![0, 0] ![1, 1024] h, w⟩ :: L) (Rect.unit (s := S1x1024) ![0, 0] ![1, 1024] h').toLoadRect = w :=
  cov_same v (off := ![0, 0]) (size := S1x1024.size) h h' w L

end Covered

/-- The kernel's buffers held whole: the input blocks at `I`, the output blocks and the scratch buffers at `s`. -/
def holds (c : Dev nD) (arg2 : Memref sig .tc .vmem S512x1024 .f32) (arg3 : Memref sig .tc .vmem S512x1024 .f32) (arg4 : Memref sig .tc .vmem S512x512 .f32) (arg5 : Memref sig .tc .vmem S512x256 .f32) (arg6 : Memref sig .tc .vmem S512x768 .f32) (arg7 : Memref sig .tc .vmem S512x768 .f32) (arg8 : Memref sig .tc .vmem S1x1024 .f32) (arg9 : Memref sig .tc .vmem S1024x768 .bf16) (arg10 : Memref sig .tc .vmem S512x1024 .f32) (arg11 : Memref sig .tc .vmem S1024x768 .bf16) (arg12 : Memref sig .tc .vmem S1x768 .f32) (arg13 : Memref sig .tc .vmem S1x1024 .f32) (arg14 : Memref sig .tc .vmem S2048x1024 .bf16) (arg15 : Memref sig .tc .vmem S2048x1024 .f32) (arg16 : Memref sig .tc .vmem S1024x768 .f32)
    (I : Ins F) (s : St F) : sProp 𝕄 :=
  iprop(owns (c : Thread nD τ) arg2 fullShare I.x ∗ owns (c : Thread nD τ) arg3 fullShare I.dres ∗ owns (c : Thread nD τ) arg4 fullShare I.dq ∗ owns (c : Thread nD τ) arg5 fullShare I.dkv ∗ owns (c : Thread nD τ) arg6 fullShare I.dm ∗ owns (c : Thread nD τ) arg7 fullShare I.dz ∗ owns (c : Thread nD τ) arg8 fullShare I.nw ∗ owns (c : Thread nD τ) arg9 fullShare I.w ∗ owns (c : Thread nD τ) arg10 fullShare s.dx ∗ owns (c : Thread nD τ) arg11 fullShare s.dw ∗ owns (c : Thread nD τ) arg12 fullShare s.db ∗ owns (c : Thread nD τ) arg13 fullShare s.dnw ∗ owns (c : Thread nD τ) arg14 fullShare s.xn ∗ owns (c : Thread nD τ) arg15 fullShare s.dxn ∗ owns (c : Thread nD τ) arg16 fullShare s.acc)

end Cert.MixInGradIdeal.Hand

end
-- ==== Proof.MixInGradSched.lean ====
/- What the kernel's buffers hold after any number of grid points: closed forms by token block and column block, and that one point keeps them. -/
module

public import proofs.«01_k».proof.Proof.MixInGradHeld

@[expose] public section

set_option maxRecDepth 16384

noncomputable section

namespace Cert.MixInGradIdeal.Hand

open Idealize.ShloMosaic Idealize.ShloMosaic.TcCoe
open Cert.MixInGradIdeal Cert.MixInGradIdeal.Gen
open Idealize.ShloMosaic.VecWindow

variable {F : FTy → Type} [FloatOps F]

/-- The first row of token block `b` in a 2048-row buffer. -/
def offB (b : ℕ) : Fin 2 → ℕ := ![512 * (b % 4), 0]

theorem offB_inb (b : ℕ) : ∀ k, offB b k + S512x1024.size k ≤ S2048x1024.size k := by
  intro k
  fin_cases k
  · show 512 * (b % 4) + 512 ≤ 2048
    omega
  · show 0 + 1024 ≤ 1024
    omega

/-- Token block `b` of a 2048-row buffer. -/
def rowsAt {e : EltTy} (a : Vec F S2048x1024 e) (b : ℕ) : Vec F S512x1024 e := rows a (offB b) (offB_inb b)

theorem rows_eq {e : EltTy} (a : Vec F S2048x1024 e) (off : Fin 2 → ℕ) (inb : ∀ k, off k + S512x1024.size k ≤ S2048x1024.size k)
    (b : ℕ) (h : off = offB b) : rows a off inb = rowsAt a b := by
  subst h; rfl

/-- Reading a token block back after storing it. -/
theorem rowsAt_put {e : EltTy} (a : Vec F S2048x1024 e) (w : Vec F S512x1024 e) (b b' : ℕ) (h : b % 4 = b' % 4) :
    rowsAt (put (s := S2048x1024) a (offB b) S512x1024.size w) b' = w := by
  have e : offB b' = offB b := by unfold offB; rw [h]
  rw [← rows_eq _ (offB b) (offB_inb b) b' e.symm]
  exact window_put_same (s := S2048x1024) a (offB b) S512x1024.size (offB_inb b) w

/-- Storing one token block leaves the others. -/
theorem rowsAt_put_ne {e : EltTy} (a : Vec F S2048x1024 e) (w : Vec F S512x1024 e) (b b' : ℕ) (h : b % 4 ≠ b' % 4) :
    rowsAt (put (s := S2048x1024) a (offB b) S512x1024.size w) b' = rowsAt a b' := by
  refine window_put_of_disjoint (s := S2048x1024) a (offB b) S512x1024.size (offB b') S512x1024.size (offB_inb b') w (0 : Fin 2) ?_
  show 512 * (b' % 4) + 512 ≤ 512 * (b % 4) ∨ 512 * (b % 4) + 512 ≤ 512 * (b' % 4)
  omega

/-- The coordinates of point number `n` (taken modulo the grid's 16 points). -/
def co (n : ℕ) : grid0.Coords := grid0.coords ⟨n % 16, lt_of_lt_of_eq (Nat.mod_lt n (by decide)) N_0.symm⟩

section Folds
variable (I : ℕ → Ins F)

/-- The normalised tokens of block `b`. -/
def xnB (b : ℕ) : Vec F S512x1024 .bf16 := xnOf (I b)

/-- The cotangent of the normalised tokens of block `b` after `j` blocks of columns. -/
def dxB (b : ℕ) : ℕ → Vec F S512x1024 .f32
  | 0 => k0_pay9
  | j + 1 => dxnOf (co (4 * j + b)) (I (4 * j + b)) (dxB b j)

/-- The weight gradient of column block `j` after `b` token blocks. -/
def aW (j : ℕ) : ℕ → Vec F S1024x768 .f32
  | 0 => k0_pay11
  | b + 1 => accOf (co (4 * j + b)) (I (4 * j + b)) (xnB I b) (aW j b)

/-- The bias gradient of column block `j` after `b` token blocks. -/
def aB (j : ℕ) : ℕ → Vec F S1x768 .f32
  | 0 => k0_pay12
  | b + 1 => dbOf (co (4 * j + b)) (I (4 * j + b)) (aB j b)

/-- The norm scale's gradient after `b` token blocks. -/
def nwB : ℕ → Vec F S1x1024 .f32
  | 0 => k0_pay10
  | b + 1 => dnwOf (I (12 + b)) (dxB I b 4) (nwB b)

/-- What the three scratch buffers hold before point `n`. -/
structure Inv (n : ℕ) (s : St F) : Prop where
  xn : ∀ b, b < 4 → b < n → rowsAt s.xn b = xnB I b
  dxn : ∀ b, b < 4 → b < n → rowsAt s.dxn b = dxB I b ((n + 3 - b) / 4)
  acc : n % 4 ≠ 0 → s.acc = aW I (n / 4) (n % 4)

/-- The branch conditions and the row offset of a point, by its number. -/
structure At (i : grid0.Coords) (n : ℕ) : Prop where
  lt : n < 16
  h1 : c1 i ↔ n < 4
  h2 : c2 i ↔ n = 0
  h3 : c3 i ↔ n % 4 = 0
  h4 : c4 i ↔ n % 4 = 3
  h5 : c5 i ↔ 12 ≤ n
  off : k0_off2 i = offB n
  co : i = co n

variable {I}
variable {i : grid0.Coords} {n : ℕ} {s : St F}

theorem off1_eq (h : At i n) : k0_off1 i = offB n := (off12 (i := i)).trans h.off

theorem off3_eq (h : At i n) : k0_off3 i = offB n := (off32 (i := i)).trans h.off

theorem prep_xn (a : At i n) (v : Inv I n s) (b : ℕ) (hb : b < 4) (hn : b < n + 1) : rowsAt (prep i (I n) s).xn b = xnB I b := by
  have hlt := a.lt
  by_cases h : c1 i
  · have h8 := a.h1.mp h
    rw [show (prep i (I n) s).xn = put (s := S2048x1024) s.xn (k0_off1 i) S512x1024.size (xnOf (I n)) from if_pos h, off1_eq a]
    by_cases e : b = n
    · subst e; exact rowsAt_put _ _ _ _ rfl
    · rw [rowsAt_put_ne _ _ _ _ (by omega)]; exact v.xn b hb (by omega)
  · have h8 := mt a.h1.mpr h
    rw [show (prep i (I n) s).xn = s.xn from if_neg h]
    exact v.xn b hb (by omega)

theorem prep_dxn (a : At i n) (v : Inv I n s) (b : ℕ) (hb : b < 4) (hn : b < n + 1) :
    rowsAt (prep i (I n) s).dxn b = dxB I b ((n + 3 - b) / 4) := by
  have hlt := a.lt
  by_cases h : c1 i
  · have h8 := a.h1.mp h
    rw [show (prep i (I n) s).dxn = put (s := S2048x1024) s.dxn (k0_off1 i) S512x1024.size k0_pay9 from if_pos h, off1_eq a]
    by_cases e : b = n
    · subst e
      rw [rowsAt_put _ _ _ _ rfl, show (b + 3 - b) / 4 = 0 by omega]
      rfl
    · rw [rowsAt_put_ne _ _ _ _ (by omega)]; exact v.dxn b hb (by omega)
  · have h8 := mt a.h1.mpr h
    rw [show (prep i (I n) s).dxn = s.dxn from if_neg h]
    exact v.dxn b hb (by omega)

theorem prep_acc (a : At i n) (v : Inv I n s) : (prep i (I n) s).acc = aW I (n / 4) (n % 4) := by
  by_cases h : c3 i
  · rw [show (prep i (I n) s).acc = k0_pay11 from if_pos h, a.h3.mp h]; rfl
  · rw [show (prep i (I n) s).acc = s.acc from if_neg h]; exact v.acc (mt a.h3.mpr h)

theorem point_eq (n : ℕ) : 4 * (n / 4) + n % 4 = n := Nat.div_add_mod n 4

theorem xn_here (a : At i n) (v : Inv I n s) : rows (prep i (I n) s).xn (k0_off2 i) (k0_off2_inb i) = xnB I (n % 4) := by
  rw [rows_eq _ _ _ (n % 4) (a.off.trans (by unfold offB; rw [Nat.mod_mod]))]
  exact prep_xn a v _ (Nat.mod_lt _ (by decide)) (by have := Nat.mod_le n 4; omega)

theorem dxn_here (a : At i n) (v : Inv I n s) : rows (prep i (I n) s).dxn (k0_off2 i) (k0_off2_inb i) = dxB I (n % 4) (n / 4) := by
  rw [rows_eq _ _ _ (n % 4) (a.off.trans (by unfold offB; rw [Nat.mod_mod]))]
  rw [prep_dxn a v _ (Nat.mod_lt _ (by decide)) (by have := Nat.mod_le n 4; omega), show (n + 3 - n % 4) / 4 = n / 4 by omega]

/-- The weight gradient's accumulator after a point. -/
theorem prod_acc (a : At i n) (v : Inv I n s) : (step i (I n) s).acc = aW I (n / 4) (n % 4 + 1) := by
  show accOf i (I n) (rows (prep i (I n) s).xn (k0_off2 i) (k0_off2_inb i)) (prep i (I n) s).acc = _
  rw [xn_here a v, prep_acc a v, aW, point_eq, ← a.co]

/-- The tokens' cotangent after a point, block by block. -/
theorem prod_dxn (a : At i n) (v : Inv I n s) (b : ℕ) (hb : b < 4) (hn : b < n + 1) :
    rowsAt (step i (I n) s).dxn b = dxB I b ((n + 1 + 3 - b) / 4) := by
  show rowsAt (put (s := S2048x1024) (prep i (I n) s).dxn (k0_off2 i) S512x1024.size (dxnOf i (I n)
    (rows (prep i (I n) s).dxn (k0_off2 i) (k0_off2_inb i)))) b = _
  rw [dxn_here a v, a.off]
  by_cases e : b = n % 4
  · rw [rowsAt_put _ _ _ _ (by omega), e, show (n + 1 + 3 - n % 4) / 4 = n / 4 + 1 by omega, dxB, point_eq, ← a.co]
  · rw [rowsAt_put_ne _ _ _ _ (by omega), prep_dxn a v b hb hn]
    congr 1
    omega

/-- One point keeps the invariant. -/
theorem Inv.step (a : At i n) (v : Inv I n s) : Inv I (n + 1) (step i (I n) s) where
  xn b hb hn := prep_xn a v b hb hn
  dxn b hb hn := prod_dxn a v b hb hn
  acc h := by rw [prod_acc a v]; congr 1 <;> omega

theorem dx_idle (a : At i n) (h : ¬ 12 ≤ n) : (Hand.step i (I n) s).dx = s.dx := dif_neg (mt a.h5.mp h)

theorem dxn_last (a : At i n) (v : Inv I n s) (h : 12 ≤ n) (h5 : c5 i) :
    rows (prod i (I n) (prep i (I n) s)).dxn (k0_off3 i) (k0_off3_inb i h5) = dxB I (n % 4) 4 := by
  have hlt := a.lt
  rw [rows_eq _ _ _ (n % 4) ((off3_eq a).trans (by unfold offB; rw [Nat.mod_mod]))]
  refine (prod_dxn a v (n % 4) (Nat.mod_lt _ (by decide)) (by omega)).trans ?_
  congr 1
  omega

/-- The tokens' gradient at the last block of columns. -/
theorem dx_live (a : At i n) (v : Inv I n s) (h : 12 ≤ n) :
    (Hand.step i (I n) s).dx = dxOf (I n) (dxB I (n % 4) 4) := by
  rw [← dxn_last a v h (a.h5.mpr h)]
  exact dif_pos (a.h5.mpr h)

theorem dw_idle (a : At i n) (h : ¬ n % 4 = 3) : (Hand.step i (I n) s).dw = s.dw := if_neg (mt a.h4.mp h)

/-- The weight gradient at the last token block. -/
theorem dw_live (a : At i n) (v : Inv I n s) (h : n % 4 = 3) : (Hand.step i (I n) s).dw = k0_pay3 (aW I (n / 4) 4) := by
  have e := prod_acc a v
  rw [h] at e
  rw [← e]
  exact if_pos (a.h4.mpr h)

/-- The bias gradient's buffer after a point. -/
theorem db_step (a : At i n) (hd : n % 4 ≠ 0 → s.db = aB I (n / 4) (n % 4)) :
    (Hand.step i (I n) s).db = aB I (n / 4) (n % 4 + 1) := by
  have hp : (prep i (I n) s).db = aB I (n / 4) (n % 4) := by
    by_cases h : c3 i
    · rw [show (prep i (I n) s).db = k0_pay12 from if_pos h, a.h3.mp h]; rfl
    · rw [show (prep i (I n) s).db = s.db from if_neg h]; exact hd (mt a.h3.mpr h)
  show dbOf i (I n) (prep i (I n) s).db = _
  rw [hp, aB, point_eq, ← a.co]

/-- The norm scale's gradient buffer after a point. -/
theorem dnw_step (a : At i n) (v : Inv I n s) (hd : n ≠ 0 → s.dnw = nwB I (n - 12)) :
    (Hand.step i (I n) s).dnw = nwB I (n + 1 - 12) := by
  have hlt := a.lt
  have hp : (prep i (I n) s).dnw = nwB I (n - 12) := by
    by_cases h : c2 i
    · rw [show (prep i (I n) s).dnw = k0_pay10 from if_pos h, a.h2.mp h]; rfl
    · rw [show (prep i (I n) s).dnw = s.dnw from if_neg h]; exact hd (mt a.h2.mpr h)
  by_cases h : 12 ≤ n
  · refine (dif_pos (a.h5.mpr h)).trans ?_
    rw [dxn_last a v h (a.h5.mpr h), show n + 1 - 12 = (n - 12) + 1 by omega, nwB, show 12 + (n - 12) = n by omega,
      show n % 4 = n - 12 by omega, ← hp]
    rfl
  · rw [show n + 1 - 12 = n - 12 by omega, ← hp]
    exact dif_neg (mt a.h5.mp h)

end Folds

/-- The branch conditions and the row offset of each point. -/
theorem at_point : ∀ t : Fin cfg0.N, At (grid0.coords t) t.val := by
  have h : ∀ t : Fin cfg0.N, t.val < 16 ∧ (c1 (grid0.coords t) ↔ t.val < 4) ∧ (c2 (grid0.coords t) ↔ t.val = 0) ∧ (c3 (grid0.coords t) ↔ t.val % 4 = 0)
      ∧ (c4 (grid0.coords t) ↔ t.val % 4 = 3) ∧ (c5 (grid0.coords t) ↔ 12 ≤ t.val) ∧ k0_off2 (grid0.coords t) = offB t.val := by
    decide +kernel
  intro t
  obtain ⟨a, b, c, d, e, f, g⟩ := h t
  exact ⟨a, b, c, d, e, f, g, congrArg grid0.coords (Fin.ext (Nat.mod_eq_of_lt a).symm)⟩

end Cert.MixInGradIdeal.Hand

end
-- ==== Proof.MixInGradRunFirst.lean ====
/- Runs of the kernel's body in the first block of columns. -/
module

public import proofs.«01_k».proof.Proof.MixInGradHeld

@[expose] public section

set_option maxRecDepth 16384

noncomputable section

namespace Cert.MixInGradIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixInGradIdeal Cert.MixInGradIdeal.Gen
open Idealize.ShloMosaic.VecWindow
open Cert.KernelIdeal.Hand (readAt_win read_writes_put readAt_all read_writes_all window_all put_all cov_same)

variable {F : FTy → Type} [FloatOps F]

local notation "𝕄" => MT nD τ sig Unit (Elt F) ℕ (UR sig nD τ) ℕ

variable (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x256 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S1x1024 .f32) (harg8 : arg8.IsWhole) (arg9 : Memref sig .tc .vmem S1024x768 .bf16) (harg9 : arg9.IsWhole) (arg10 : Memref sig .tc .vmem S512x1024 .f32) (harg10 : arg10.IsWhole) (arg11 : Memref sig .tc .vmem S1024x768 .bf16) (harg11 : arg11.IsWhole) (arg12 : Memref sig .tc .vmem S1x768 .f32) (harg12 : arg12.IsWhole) (arg13 : Memref sig .tc .vmem S1x1024 .f32) (harg13 : arg13.IsWhole) (arg14 : Memref sig .tc .vmem S2048x1024 .bf16) (harg14 : arg14.IsWhole) (arg15 : Memref sig .tc .vmem S2048x1024 .f32) (harg15 : arg15.IsWhole) (arg16 : Memref sig .tc .vmem S1024x768 .f32) (harg16 : arg16.IsWhole)
    (I : Ins F) (s : St F)

set_option maxHeartbeats 8000000 in
/-- A point of the first token block there. -/
theorem runFirstFirst (hc1 : c1 i) (hc2 : c2 i) (hc3 : c3 i) (hc4 : ¬ c4 i) (hc5 : ¬ c5 i) (E : Set ℕ) (K : PUnit → sProp 𝕄) :
    iprop(holds c arg2 arg3 arg4 arg5 arg6 arg7 arg8 arg9 arg10 arg11 arg12 arg13 arg14 arg15 arg16 I s ∗ (holds c arg2 arg3 arg4 arg5 arg6 arg7 arg8 arg9 arg10 arg11 arg12 arg13 arg14 arg15 arg16 I (step i I s) -∗ K ⟨⟩))
      ⊢ wp frame (wpE (defs₀ (F := F)) Variants.none c none) E (cc0_rmslin_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_rmslin_bwd_eq_skeleton]; unfold cc0_rmslin_bwd_skel
  unfold holds owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
  clear hf0 hf1 hf2 hf3 hf4 hf5 hf6 hf7 hf8 hf9 hf10 hf11 hf12 hf13 hf14
  sl_exec (disch := first | sl_exact hc1 | sl_exact hc2 | sl_exact hc3 | sl_exact hc4 | sl_exact hc5)
  sl_step
  iapply Hk
  isplitl [H0]; iexists _; isplitr; swap; iexact H0; rotate_left
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [H9]; iexists _; isplitr; swap; iexact H9; rotate_left
  isplitl [H10]; iexists _; isplitr; swap; iexact H10; rotate_left
  isplitl [H11]; iexists _; isplitr; swap; iexact H11; rotate_left
  isplitl [H12]; iexists _; isplitr; swap; iexact H12; rotate_left
  isplitl [H13]; iexists _; isplitr; swap; iexact H13; rotate_left
  iexists _; isplitr; swap; iexact H14
  all_goals ipureintro
  all_goals repeat (first | unfold runFirstFirst.sl.r | unfold runFirstFirst.sl.r_1 | unfold runFirstFirst.sl.r_2 | unfold runFirstFirst.sl.H10_1 | unfold runFirstFirst.sl.H12_1 | unfold runFirstFirst.sl.H13_1 | unfold runFirstFirst.sl.H14_1 | unfold runFirstFirst.sl.v0 | unfold runFirstFirst.sl.v1 | unfold runFirstFirst.sl.v10 | unfold runFirstFirst.sl.v11 | unfold runFirstFirst.sl.v12 | unfold runFirstFirst.sl.v14 | unfold runFirstFirst.sl.v15 | unfold runFirstFirst.sl.v18 | unfold runFirstFirst.sl.v19 | unfold runFirstFirst.sl.v23 | unfold runFirstFirst.sl.v25 | unfold runFirstFirst.sl.v28 | unfold runFirstFirst.sl.v31 | unfold runFirstFirst.sl.v36 | unfold runFirstFirst.sl.v38 | unfold runFirstFirst.sl.v39 | unfold runFirstFirst.sl.v44 | unfold runFirstFirst.sl.v53 | unfold runFirstFirst.sl.v54 | unfold runFirstFirst.sl.v55 | unfold runFirstFirst.sl.v57 | unfold runFirstFirst.sl.v58 | unfold runFirstFirst.sl.v70 | unfold runFirstFirst.sl.v75 | unfold runFirstFirst.sl.v83 | unfold runFirstFirst.sl.v85 | unfold runFirstFirst.sl.v86 | unfold runFirstFirst.sl.v89)
  all_goals simp only [↓read_writes_all, ↓readAt_all, ↓readAt_win, ↓read_writes_put, step, emit, prod, prep, rows, rows_put12, rows_put23, cov12, cov23, cov_1024x768, cov_1x768, cov_1x1024, if_pos hc1, if_pos hc2, if_pos hc3, if_neg hc4, if_neg hc5, dif_neg hc5, View.writes_nil, Memref.IsWhole.read_unread, window_512x1024, put_512x1024, window_1x1024, put_1x1024, window_1024x768, put_1024x768, window_1x768, put_1x768, window_512x512, put_512x512, window_512x256, put_512x256, window_512x768, put_512x768]
  all_goals try rfl

set_option maxHeartbeats 8000000 in
/-- A point of the middle token block there. -/
theorem runFirstMid (hc1 : c1 i) (hc2 : ¬ c2 i) (hc3 : ¬ c3 i) (hc4 : ¬ c4 i) (hc5 : ¬ c5 i) (E : Set ℕ) (K : PUnit → sProp 𝕄) :
    iprop(holds c arg2 arg3 arg4 arg5 arg6 arg7 arg8 arg9 arg10 arg11 arg12 arg13 arg14 arg15 arg16 I s ∗ (holds c arg2 arg3 arg4 arg5 arg6 arg7 arg8 arg9 arg10 arg11 arg12 arg13 arg14 arg15 arg16 I (step i I s) -∗ K ⟨⟩))
      ⊢ wp frame (wpE (defs₀ (F := F)) Variants.none c none) E (cc0_rmslin_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_rmslin_bwd_eq_skeleton]; unfold cc0_rmslin_bwd_skel
  unfold holds owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
  clear hf0 hf1 hf2 hf3 hf4 hf5 hf6 hf7 hf8 hf9 hf10 hf11 hf12 hf13 hf14
  sl_exec (disch := first | sl_exact hc1 | sl_exact hc2 | sl_exact hc3 | sl_exact hc4 | sl_exact hc5)
  sl_step
  iapply Hk
  isplitl [H0]; iexists _; isplitr; swap; iexact H0; rotate_left
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [H9]; iexists _; isplitr; swap; iexact H9; rotate_left
  isplitl [H10]; iexists _; isplitr; swap; iexact H10; rotate_left
  isplitl [H11]; iexists _; isplitr; swap; iexact H11; rotate_left
  isplitl [H12]; iexists _; isplitr; swap; iexact H12; rotate_left
  isplitl [H13]; iexists _; isplitr; swap; iexact H13; rotate_left
  iexists _; isplitr; swap; iexact H14
  all_goals ipureintro
  all_goals repeat (first | unfold runFirstMid.sl.r | unfold runFirstMid.sl.r_1 | unfold runFirstMid.sl.r_2 | unfold runFirstMid.sl.H10_1 | unfold runFirstMid.sl.H12_1 | unfold runFirstMid.sl.H13_1 | unfold runFirstMid.sl.H14_1 | unfold runFirstMid.sl.v0 | unfold runFirstMid.sl.v1 | unfold runFirstMid.sl.v10 | unfold runFirstMid.sl.v11 | unfold runFirstMid.sl.v12 | unfold runFirstMid.sl.v14 | unfold runFirstMid.sl.v15 | unfold runFirstMid.sl.v18 | unfold runFirstMid.sl.v19 | unfold runFirstMid.sl.v23 | unfold runFirstMid.sl.v25 | unfold runFirstMid.sl.v28 | unfold runFirstMid.sl.v31 | unfold runFirstMid.sl.v36 | unfold runFirstMid.sl.v38 | unfold runFirstMid.sl.v39 | unfold runFirstMid.sl.v44 | unfold runFirstMid.sl.v53 | unfold runFirstMid.sl.v54 | unfold runFirstMid.sl.v55 | unfold runFirstMid.sl.v57 | unfold runFirstMid.sl.v58 | unfold runFirstMid.sl.v70 | unfold runFirstMid.sl.v75 | unfold runFirstMid.sl.v83 | unfold runFirstMid.sl.v85 | unfold runFirstMid.sl.v86 | unfold runFirstMid.sl.v89)
  all_goals simp only [↓read_writes_all, ↓readAt_all, ↓readAt_win, ↓read_writes_put, step, emit, prod, prep, rows, rows_put12, rows_put23, cov12, cov23, cov_1024x768, cov_1x768, cov_1x1024, if_pos hc1, if_neg hc2, if_neg hc3, if_neg hc4, if_neg hc5, dif_neg hc5, View.writes_nil, Memref.IsWhole.read_unread, window_512x1024, put_512x1024, window_1x1024, put_1x1024, window_1024x768, put_1024x768, window_1x768, put_1x768, window_512x512, put_512x512, window_512x256, put_512x256, window_512x768, put_512x768]
  all_goals try rfl

set_option maxHeartbeats 8000000 in
/-- A point of the last token block there. -/
theorem runFirstLast (hc1 : c1 i) (hc2 : ¬ c2 i) (hc3 : ¬ c3 i) (hc4 : c4 i) (hc5 : ¬ c5 i) (E : Set ℕ) (K : PUnit → sProp 𝕄) :
    iprop(holds c arg2 arg3 arg4 arg5 arg6 arg7 arg8 arg9 arg10 arg11 arg12 arg13 arg14 arg15 arg16 I s ∗ (holds c arg2 arg3 arg4 arg5 arg6 arg7 arg8 arg9 arg10 arg11 arg12 arg13 arg14 arg15 arg16 I (step i I s) -∗ K ⟨⟩))
      ⊢ wp frame (wpE (defs₀ (F := F)) Variants.none c none) E (cc0_rmslin_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_rmslin_bwd_eq_skeleton]; unfold cc0_rmslin_bwd_skel
  unfold holds owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
  clear hf0 hf1 hf2 hf3 hf4 hf5 hf6 hf7 hf8 hf9 hf10 hf11 hf12 hf13 hf14
  sl_exec (disch := first | sl_exact hc1 | sl_exact hc2 | sl_exact hc3 | sl_exact hc4 | sl_exact hc5)
  sl_step
  iapply Hk
  isplitl [H0]; iexists _; isplitr; swap; iexact H0; rotate_left
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [H9]; iexists _; isplitr; swap; iexact H9; rotate_left
  isplitl [H10]; iexists _; isplitr; swap; iexact H10; rotate_left
  isplitl [H11]; iexists _; isplitr; swap; iexact H11; rotate_left
  isplitl [H12]; iexists _; isplitr; swap; iexact H12; rotate_left
  isplitl [H13]; iexists _; isplitr; swap; iexact H13; rotate_left
  iexists _; isplitr; swap; iexact H14
  all_goals ipureintro
  all_goals repeat (first | unfold runFirstLast.sl.r | unfold runFirstLast.sl.r_1 | unfold runFirstLast.sl.r_2 | unfold runFirstLast.sl.H10_1 | unfold runFirstLast.sl.H12_1 | unfold runFirstLast.sl.H13_1 | unfold runFirstLast.sl.H14_1 | unfold runFirstLast.sl.v0 | unfold runFirstLast.sl.v1 | unfold runFirstLast.sl.v10 | unfold runFirstLast.sl.v11 | unfold runFirstLast.sl.v12 | unfold runFirstLast.sl.v14 | unfold runFirstLast.sl.v15 | unfold runFirstLast.sl.v18 | unfold runFirstLast.sl.v19 | unfold runFirstLast.sl.v23 | unfold runFirstLast.sl.v25 | unfold runFirstLast.sl.v28 | unfold runFirstLast.sl.v31 | unfold runFirstLast.sl.v36 | unfold runFirstLast.sl.v38 | unfold runFirstLast.sl.v39 | unfold runFirstLast.sl.v44 | unfold runFirstLast.sl.v53 | unfold runFirstLast.sl.v54 | unfold runFirstLast.sl.v55 | unfold runFirstLast.sl.v57 | unfold runFirstLast.sl.v58 | unfold runFirstLast.sl.v70 | unfold runFirstLast.sl.v75 | unfold runFirstLast.sl.v83 | unfold runFirstLast.sl.v85 | unfold runFirstLast.sl.v86 | unfold runFirstLast.sl.v89)
  all_goals simp only [↓read_writes_all, ↓readAt_all, ↓readAt_win, ↓read_writes_put, step, emit, prod, prep, rows, rows_put12, rows_put23, cov12, cov23, cov_1024x768, cov_1x768, cov_1x1024, if_pos hc1, if_neg hc2, if_neg hc3, if_pos hc4, if_neg hc5, dif_neg hc5, View.writes_nil, Memref.IsWhole.read_unread, window_512x1024, put_512x1024, window_1x1024, put_1x1024, window_1024x768, put_1024x768, window_1x768, put_1x768, window_512x512, put_512x512, window_512x256, put_512x256, window_512x768, put_512x768]
  all_goals try rfl

end Cert.MixInGradIdeal.Hand

end
-- ==== Proof.MixInGradRunMid.lean ====
/- Runs of the kernel's body in the middle block of columns. -/
module

public import proofs.«01_k».proof.Proof.MixInGradHeld

@[expose] public section

set_option maxRecDepth 16384

noncomputable section

namespace Cert.MixInGradIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixInGradIdeal Cert.MixInGradIdeal.Gen
open Idealize.ShloMosaic.VecWindow
open Cert.KernelIdeal.Hand (readAt_win read_writes_put readAt_all read_writes_all window_all put_all cov_same)

variable {F : FTy → Type} [FloatOps F]

local notation "𝕄" => MT nD τ sig Unit (Elt F) ℕ (UR sig nD τ) ℕ

variable (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x256 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S1x1024 .f32) (harg8 : arg8.IsWhole) (arg9 : Memref sig .tc .vmem S1024x768 .bf16) (harg9 : arg9.IsWhole) (arg10 : Memref sig .tc .vmem S512x1024 .f32) (harg10 : arg10.IsWhole) (arg11 : Memref sig .tc .vmem S1024x768 .bf16) (harg11 : arg11.IsWhole) (arg12 : Memref sig .tc .vmem S1x768 .f32) (harg12 : arg12.IsWhole) (arg13 : Memref sig .tc .vmem S1x1024 .f32) (harg13 : arg13.IsWhole) (arg14 : Memref sig .tc .vmem S2048x1024 .bf16) (harg14 : arg14.IsWhole) (arg15 : Memref sig .tc .vmem S2048x1024 .f32) (harg15 : arg15.IsWhole) (arg16 : Memref sig .tc .vmem S1024x768 .f32) (harg16 : arg16.IsWhole)
    (I : Ins F) (s : St F)

set_option maxHeartbeats 8000000 in
/-- A point of the first token block there. -/
theorem runMidFirst (hc1 : ¬ c1 i) (hc2 : ¬ c2 i) (hc3 : c3 i) (hc4 : ¬ c4 i) (hc5 : ¬ c5 i) (E : Set ℕ) (K : PUnit → sProp 𝕄) :
    iprop(holds c arg2 arg3 arg4 arg5 arg6 arg7 arg8 arg9 arg10 arg11 arg12 arg13 arg14 arg15 arg16 I s ∗ (holds c arg2 arg3 arg4 arg5 arg6 arg7 arg8 arg9 arg10 arg11 arg12 arg13 arg14 arg15 arg16 I (step i I s) -∗ K ⟨⟩))
      ⊢ wp frame (wpE (defs₀ (F := F)) Variants.none c none) E (cc0_rmslin_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_rmslin_bwd_eq_skeleton]; unfold cc0_rmslin_bwd_skel
  unfold holds owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
  clear hf0 hf1 hf2 hf3 hf4 hf5 hf6 hf7 hf8 hf9 hf10 hf11 hf12 hf13 hf14
  sl_exec (disch := first | sl_exact hc1 | sl_exact hc2 | sl_exact hc3 | sl_exact hc4 | sl_exact hc5)
  sl_step
  iapply Hk
  isplitl [H0]; iexists _; isplitr; swap; iexact H0; rotate_left
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [H9]; iexists _; isplitr; swap; iexact H9; rotate_left
  isplitl [H10]; iexists _; isplitr; swap; iexact H10; rotate_left
  isplitl [H11]; iexists _; isplitr; swap; iexact H11; rotate_left
  isplitl [H12]; iexists _; isplitr; swap; iexact H12; rotate_left
  isplitl [H13]; iexists _; isplitr; swap; iexact H13; rotate_left
  iexists _; isplitr; swap; iexact H14
  all_goals ipureintro
  all_goals repeat (first | unfold runMidFirst.sl.r | unfold runMidFirst.sl.r_1 | unfold runMidFirst.sl.r_2 | unfold runMidFirst.sl.H10_1 | unfold runMidFirst.sl.H14_1 | unfold runMidFirst.sl.v0 | unfold runMidFirst.sl.v1 | unfold runMidFirst.sl.v10 | unfold runMidFirst.sl.v11 | unfold runMidFirst.sl.v12 | unfold runMidFirst.sl.v14 | unfold runMidFirst.sl.v15 | unfold runMidFirst.sl.v18 | unfold runMidFirst.sl.v19 | unfold runMidFirst.sl.v23 | unfold runMidFirst.sl.v25 | unfold runMidFirst.sl.v28 | unfold runMidFirst.sl.v31 | unfold runMidFirst.sl.v36 | unfold runMidFirst.sl.v38 | unfold runMidFirst.sl.v39 | unfold runMidFirst.sl.v44 | unfold runMidFirst.sl.v53 | unfold runMidFirst.sl.v54 | unfold runMidFirst.sl.v55 | unfold runMidFirst.sl.v57 | unfold runMidFirst.sl.v58 | unfold runMidFirst.sl.v70 | unfold runMidFirst.sl.v75 | unfold runMidFirst.sl.v83 | unfold runMidFirst.sl.v85 | unfold runMidFirst.sl.v86 | unfold runMidFirst.sl.v89)
  all_goals simp only [↓read_writes_all, ↓readAt_all, ↓readAt_win, ↓read_writes_put, step, emit, prod, prep, rows, rows_put12, rows_put23, cov12, cov23, cov_1024x768, cov_1x768, cov_1x1024, if_neg hc1, if_neg hc2, if_pos hc3, if_neg hc4, if_neg hc5, dif_neg hc5, View.writes_nil, Memref.IsWhole.read_unread, window_512x1024, put_512x1024, window_1x1024, put_1x1024, window_1024x768, put_1024x768, window_1x768, put_1x768, window_512x512, put_512x512, window_512x256, put_512x256, window_512x768, put_512x768]
  all_goals try rfl

set_option maxHeartbeats 8000000 in
/-- A point of the middle token block there. -/
theorem runMidMid (hc1 : ¬ c1 i) (hc2 : ¬ c2 i) (hc3 : ¬ c3 i) (hc4 : ¬ c4 i) (hc5 : ¬ c5 i) (E : Set ℕ) (K : PUnit → sProp 𝕄) :
    iprop(holds c arg2 arg3 arg4 arg5 arg6 arg7 arg8 arg9 arg10 arg11 arg12 arg13 arg14 arg15 arg16 I s ∗ (holds c arg2 arg3 arg4 arg5 arg6 arg7 arg8 arg9 arg10 arg11 arg12 arg13 arg14 arg15 arg16 I (step i I s) -∗ K ⟨⟩))
      ⊢ wp frame (wpE (defs₀ (F := F)) Variants.none c none) E (cc0_rmslin_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_rmslin_bwd_eq_skeleton]; unfold cc0_rmslin_bwd_skel
  unfold holds owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
  clear hf0 hf1 hf2 hf3 hf4 hf5 hf6 hf7 hf8 hf9 hf10 hf11 hf12 hf13 hf14
  sl_exec (disch := first | sl_exact hc1 | sl_exact hc2 | sl_exact hc3 | sl_exact hc4 | sl_exact hc5)
  sl_step
  iapply Hk
  isplitl [H0]; iexists _; isplitr; swap; iexact H0; rotate_left
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [H9]; iexists _; isplitr; swap; iexact H9; rotate_left
  isplitl [H10]; iexists _; isplitr; swap; iexact H10; rotate_left
  isplitl [H11]; iexists _; isplitr; swap; iexact H11; rotate_left
  isplitl [H12]; iexists _; isplitr; swap; iexact H12; rotate_left
  isplitl [H13]; iexists _; isplitr; swap; iexact H13; rotate_left
  iexists _; isplitr; swap; iexact H14
  all_goals ipureintro
  all_goals repeat (first | unfold runMidMid.sl.r | unfold runMidMid.sl.r_1 | unfold runMidMid.sl.r_2 | unfold runMidMid.sl.H10_1 | unfold runMidMid.sl.H14_1 | unfold runMidMid.sl.v0 | unfold runMidMid.sl.v1 | unfold runMidMid.sl.v10 | unfold runMidMid.sl.v11 | unfold runMidMid.sl.v12 | unfold runMidMid.sl.v14 | unfold runMidMid.sl.v15 | unfold runMidMid.sl.v18 | unfold runMidMid.sl.v19 | unfold runMidMid.sl.v23 | unfold runMidMid.sl.v25 | unfold runMidMid.sl.v28 | unfold runMidMid.sl.v31 | unfold runMidMid.sl.v36 | unfold runMidMid.sl.v38 | unfold runMidMid.sl.v39 | unfold runMidMid.sl.v44 | unfold runMidMid.sl.v53 | unfold runMidMid.sl.v54 | unfold runMidMid.sl.v55 | unfold runMidMid.sl.v57 | unfold runMidMid.sl.v58 | unfold runMidMid.sl.v70 | unfold runMidMid.sl.v75 | unfold runMidMid.sl.v83 | unfold runMidMid.sl.v85 | unfold runMidMid.sl.v86 | unfold runMidMid.sl.v89)
  all_goals simp only [↓read_writes_all, ↓readAt_all, ↓readAt_win, ↓read_writes_put, step, emit, prod, prep, rows, rows_put12, rows_put23, cov12, cov23, cov_1024x768, cov_1x768, cov_1x1024, if_neg hc1, if_neg hc2, if_neg hc3, if_neg hc4, if_neg hc5, dif_neg hc5, View.writes_nil, Memref.IsWhole.read_unread, window_512x1024, put_512x1024, window_1x1024, put_1x1024, window_1024x768, put_1024x768, window_1x768, put_1x768, window_512x512, put_512x512, window_512x256, put_512x256, window_512x768, put_512x768]
  all_goals try rfl

set_option maxHeartbeats 8000000 in
/-- A point of the last token block there. -/
theorem runMidLast (hc1 : ¬ c1 i) (hc2 : ¬ c2 i) (hc3 : ¬ c3 i) (hc4 : c4 i) (hc5 : ¬ c5 i) (E : Set ℕ) (K : PUnit → sProp 𝕄) :
    iprop(holds c arg2 arg3 arg4 arg5 arg6 arg7 arg8 arg9 arg10 arg11 arg12 arg13 arg14 arg15 arg16 I s ∗ (holds c arg2 arg3 arg4 arg5 arg6 arg7 arg8 arg9 arg10 arg11 arg12 arg13 arg14 arg15 arg16 I (step i I s) -∗ K ⟨⟩))
      ⊢ wp frame (wpE (defs₀ (F := F)) Variants.none c none) E (cc0_rmslin_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_rmslin_bwd_eq_skeleton]; unfold cc0_rmslin_bwd_skel
  unfold holds owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
  clear hf0 hf1 hf2 hf3 hf4 hf5 hf6 hf7 hf8 hf9 hf10 hf11 hf12 hf13 hf14
  sl_exec (disch := first | sl_exact hc1 | sl_exact hc2 | sl_exact hc3 | sl_exact hc4 | sl_exact hc5)
  sl_step
  iapply Hk
  isplitl [H0]; iexists _; isplitr; swap; iexact H0; rotate_left
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [H9]; iexists _; isplitr; swap; iexact H9; rotate_left
  isplitl [H10]; iexists _; isplitr; swap; iexact H10; rotate_left
  isplitl [H11]; iexists _; isplitr; swap; iexact H11; rotate_left
  isplitl [H12]; iexists _; isplitr; swap; iexact H12; rotate_left
  isplitl [H13]; iexists _; isplitr; swap; iexact H13; rotate_left
  iexists _; isplitr; swap; iexact H14
  all_goals ipureintro
  all_goals repeat (first | unfold runMidLast.sl.r | unfold runMidLast.sl.r_1 | unfold runMidLast.sl.r_2 | unfold runMidLast.sl.H10_1 | unfold runMidLast.sl.H14_1 | unfold runMidLast.sl.v0 | unfold runMidLast.sl.v1 | unfold runMidLast.sl.v10 | unfold runMidLast.sl.v11 | unfold runMidLast.sl.v12 | unfold runMidLast.sl.v14 | unfold runMidLast.sl.v15 | unfold runMidLast.sl.v18 | unfold runMidLast.sl.v19 | unfold runMidLast.sl.v23 | unfold runMidLast.sl.v25 | unfold runMidLast.sl.v28 | unfold runMidLast.sl.v31 | unfold runMidLast.sl.v36 | unfold runMidLast.sl.v38 | unfold runMidLast.sl.v39 | unfold runMidLast.sl.v44 | unfold runMidLast.sl.v53 | unfold runMidLast.sl.v54 | unfold runMidLast.sl.v55 | unfold runMidLast.sl.v57 | unfold runMidLast.sl.v58 | unfold runMidLast.sl.v70 | unfold runMidLast.sl.v75 | unfold runMidLast.sl.v83 | unfold runMidLast.sl.v85 | unfold runMidLast.sl.v86 | unfold runMidLast.sl.v89)
  all_goals simp only [↓read_writes_all, ↓readAt_all, ↓readAt_win, ↓read_writes_put, step, emit, prod, prep, rows, rows_put12, rows_put23, cov12, cov23, cov_1024x768, cov_1x768, cov_1x1024, if_neg hc1, if_neg hc2, if_neg hc3, if_pos hc4, if_neg hc5, dif_neg hc5, View.writes_nil, Memref.IsWhole.read_unread, window_512x1024, put_512x1024, window_1x1024, put_1x1024, window_1024x768, put_1024x768, window_1x768, put_1x768, window_512x512, put_512x512, window_512x256, put_512x256, window_512x768, put_512x768]
  all_goals try rfl

end Cert.MixInGradIdeal.Hand

end
-- ==== Proof.MixInGradRunLast.lean ====
/- Runs of the kernel's body in the last block of columns. -/
module

public import proofs.«01_k».proof.Proof.MixInGradHeld

@[expose] public section

set_option maxRecDepth 16384

noncomputable section

namespace Cert.MixInGradIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixInGradIdeal Cert.MixInGradIdeal.Gen
open Idealize.ShloMosaic.VecWindow
open Cert.KernelIdeal.Hand (readAt_win read_writes_put readAt_all read_writes_all window_all put_all cov_same)

variable {F : FTy → Type} [FloatOps F]

local notation "𝕄" => MT nD τ sig Unit (Elt F) ℕ (UR sig nD τ) ℕ

variable (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x256 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S1x1024 .f32) (harg8 : arg8.IsWhole) (arg9 : Memref sig .tc .vmem S1024x768 .bf16) (harg9 : arg9.IsWhole) (arg10 : Memref sig .tc .vmem S512x1024 .f32) (harg10 : arg10.IsWhole) (arg11 : Memref sig .tc .vmem S1024x768 .bf16) (harg11 : arg11.IsWhole) (arg12 : Memref sig .tc .vmem S1x768 .f32) (harg12 : arg12.IsWhole) (arg13 : Memref sig .tc .vmem S1x1024 .f32) (harg13 : arg13.IsWhole) (arg14 : Memref sig .tc .vmem S2048x1024 .bf16) (harg14 : arg14.IsWhole) (arg15 : Memref sig .tc .vmem S2048x1024 .f32) (harg15 : arg15.IsWhole) (arg16 : Memref sig .tc .vmem S1024x768 .f32) (harg16 : arg16.IsWhole)
    (I : Ins F) (s : St F)

set_option maxHeartbeats 8000000 in
/-- A point of the first token block there. -/
theorem runLastFirst (hc1 : ¬ c1 i) (hc2 : ¬ c2 i) (hc3 : c3 i) (hc4 : ¬ c4 i) (hc5 : c5 i) (E : Set ℕ) (K : PUnit → sProp 𝕄) :
    iprop(holds c arg2 arg3 arg4 arg5 arg6 arg7 arg8 arg9 arg10 arg11 arg12 arg13 arg14 arg15 arg16 I s ∗ (holds c arg2 arg3 arg4 arg5 arg6 arg7 arg8 arg9 arg10 arg11 arg12 arg13 arg14 arg15 arg16 I (step i I s) -∗ K ⟨⟩))
      ⊢ wp frame (wpE (defs₀ (F := F)) Variants.none c none) E (cc0_rmslin_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_rmslin_bwd_eq_skeleton]; unfold cc0_rmslin_bwd_skel
  unfold holds owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
  clear hf0 hf1 hf2 hf3 hf4 hf5 hf6 hf7 hf8 hf9 hf10 hf11 hf12 hf13 hf14
  sl_exec (disch := first | sl_exact hc1 | sl_exact hc2 | sl_exact hc3 | sl_exact hc4 | sl_exact hc5)
  sl_step
  iapply Hk
  isplitl [H0]; iexists _; isplitr; swap; iexact H0; rotate_left
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [H9]; iexists _; isplitr; swap; iexact H9; rotate_left
  isplitl [H10]; iexists _; isplitr; swap; iexact H10; rotate_left
  isplitl [H11]; iexists _; isplitr; swap; iexact H11; rotate_left
  isplitl [H12]; iexists _; isplitr; swap; iexact H12; rotate_left
  isplitl [H13]; iexists _; isplitr; swap; iexact H13; rotate_left
  iexists _; isplitr; swap; iexact H14
  all_goals ipureintro
  all_goals repeat (first | unfold runLastFirst.sl.r | unfold runLastFirst.sl.r_1 | unfold runLastFirst.sl.r_2 | unfold runLastFirst.sl.H10_1 | unfold runLastFirst.sl.H13_1 | unfold runLastFirst.sl.H14_1 | unfold runLastFirst.sl.v0 | unfold runLastFirst.sl.v1 | unfold runLastFirst.sl.v10 | unfold runLastFirst.sl.v11 | unfold runLastFirst.sl.v12 | unfold runLastFirst.sl.v14 | unfold runLastFirst.sl.v15 | unfold runLastFirst.sl.v18 | unfold runLastFirst.sl.v19 | unfold runLastFirst.sl.v23 | unfold runLastFirst.sl.v25 | unfold runLastFirst.sl.v28 | unfold runLastFirst.sl.v31 | unfold runLastFirst.sl.v36 | unfold runLastFirst.sl.v38 | unfold runLastFirst.sl.v39 | unfold runLastFirst.sl.v44 | unfold runLastFirst.sl.v53 | unfold runLastFirst.sl.v54 | unfold runLastFirst.sl.v55 | unfold runLastFirst.sl.v57 | unfold runLastFirst.sl.v58 | unfold runLastFirst.sl.v70 | unfold runLastFirst.sl.v75 | unfold runLastFirst.sl.v83 | unfold runLastFirst.sl.v85 | unfold runLastFirst.sl.v86 | unfold runLastFirst.sl.v89)
  all_goals simp only [↓read_writes_all, ↓readAt_all, ↓readAt_win, ↓read_writes_put, step, emit, prod, prep, rows, rows_put12, rows_put23, cov12, cov23, cov_1024x768, cov_1x768, cov_1x1024, if_neg hc1, if_neg hc2, if_pos hc3, if_neg hc4, if_pos hc5, dif_pos hc5, View.writes_nil, Memref.IsWhole.read_unread, window_512x1024, put_512x1024, window_1x1024, put_1x1024, window_1024x768, put_1024x768, window_1x768, put_1x768, window_512x512, put_512x512, window_512x256, put_512x256, window_512x768, put_512x768]
  all_goals try rfl

set_option maxHeartbeats 8000000 in
/-- A point of the middle token block there. -/
theorem runLastMid (hc1 : ¬ c1 i) (hc2 : ¬ c2 i) (hc3 : ¬ c3 i) (hc4 : ¬ c4 i) (hc5 : c5 i) (E : Set ℕ) (K : PUnit → sProp 𝕄) :
    iprop(holds c arg2 arg3 arg4 arg5 arg6 arg7 arg8 arg9 arg10 arg11 arg12 arg13 arg14 arg15 arg16 I s ∗ (holds c arg2 arg3 arg4 arg5 arg6 arg7 arg8 arg9 arg10 arg11 arg12 arg13 arg14 arg15 arg16 I (step i I s) -∗ K ⟨⟩))
      ⊢ wp frame (wpE (defs₀ (F := F)) Variants.none c none) E (cc0_rmslin_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_rmslin_bwd_eq_skeleton]; unfold cc0_rmslin_bwd_skel
  unfold holds owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
  clear hf0 hf1 hf2 hf3 hf4 hf5 hf6 hf7 hf8 hf9 hf10 hf11 hf12 hf13 hf14
  sl_exec (disch := first | sl_exact hc1 | sl_exact hc2 | sl_exact hc3 | sl_exact hc4 | sl_exact hc5)
  sl_step
  iapply Hk
  isplitl [H0]; iexists _; isplitr; swap; iexact H0; rotate_left
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [H9]; iexists _; isplitr; swap; iexact H9; rotate_left
  isplitl [H10]; iexists _; isplitr; swap; iexact H10; rotate_left
  isplitl [H11]; iexists _; isplitr; swap; iexact H11; rotate_left
  isplitl [H12]; iexists _; isplitr; swap; iexact H12; rotate_left
  isplitl [H13]; iexists _; isplitr; swap; iexact H13; rotate_left
  iexists _; isplitr; swap; iexact H14
  all_goals ipureintro
  all_goals repeat (first | unfold runLastMid.sl.r | unfold runLastMid.sl.r_1 | unfold runLastMid.sl.r_2 | unfold runLastMid.sl.H10_1 | unfold runLastMid.sl.H13_1 | unfold runLastMid.sl.H14_1 | unfold runLastMid.sl.v0 | unfold runLastMid.sl.v1 | unfold runLastMid.sl.v10 | unfold runLastMid.sl.v11 | unfold runLastMid.sl.v12 | unfold runLastMid.sl.v14 | unfold runLastMid.sl.v15 | unfold runLastMid.sl.v18 | unfold runLastMid.sl.v19 | unfold runLastMid.sl.v23 | unfold runLastMid.sl.v25 | unfold runLastMid.sl.v28 | unfold runLastMid.sl.v31 | unfold runLastMid.sl.v36 | unfold runLastMid.sl.v38 | unfold runLastMid.sl.v39 | unfold runLastMid.sl.v44 | unfold runLastMid.sl.v53 | unfold runLastMid.sl.v54 | unfold runLastMid.sl.v55 | unfold runLastMid.sl.v57 | unfold runLastMid.sl.v58 | unfold runLastMid.sl.v70 | unfold runLastMid.sl.v75 | unfold runLastMid.sl.v83 | unfold runLastMid.sl.v85 | unfold runLastMid.sl.v86 | unfold runLastMid.sl.v89)
  all_goals simp only [↓read_writes_all, ↓readAt_all, ↓readAt_win, ↓read_writes_put, step, emit, prod, prep, rows, rows_put12, rows_put23, cov12, cov23, cov_1024x768, cov_1x768, cov_1x1024, if_neg hc1, if_neg hc2, if_neg hc3, if_neg hc4, if_pos hc5, dif_pos hc5, View.writes_nil, Memref.IsWhole.read_unread, window_512x1024, put_512x1024, window_1x1024, put_1x1024, window_1024x768, put_1024x768, window_1x768, put_1x768, window_512x512, put_512x512, window_512x256, put_512x256, window_512x768, put_512x768]
  all_goals try rfl

set_option maxHeartbeats 8000000 in
/-- A point of the last token block there. -/
theorem runLastLast (hc1 : ¬ c1 i) (hc2 : ¬ c2 i) (hc3 : ¬ c3 i) (hc4 : c4 i) (hc5 : c5 i) (E : Set ℕ) (K : PUnit → sProp 𝕄) :
    iprop(holds c arg2 arg3 arg4 arg5 arg6 arg7 arg8 arg9 arg10 arg11 arg12 arg13 arg14 arg15 arg16 I s ∗ (holds c arg2 arg3 arg4 arg5 arg6 arg7 arg8 arg9 arg10 arg11 arg12 arg13 arg14 arg15 arg16 I (step i I s) -∗ K ⟨⟩))
      ⊢ wp frame (wpE (defs₀ (F := F)) Variants.none c none) E (cc0_rmslin_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_rmslin_bwd_eq_skeleton]; unfold cc0_rmslin_bwd_skel
  unfold holds owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
  clear hf0 hf1 hf2 hf3 hf4 hf5 hf6 hf7 hf8 hf9 hf10 hf11 hf12 hf13 hf14
  sl_exec (disch := first | sl_exact hc1 | sl_exact hc2 | sl_exact hc3 | sl_exact hc4 | sl_exact hc5)
  sl_step
  iapply Hk
  isplitl [H0]; iexists _; isplitr; swap; iexact H0; rotate_left
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [H9]; iexists _; isplitr; swap; iexact H9; rotate_left
  isplitl [H10]; iexists _; isplitr; swap; iexact H10; rotate_left
  isplitl [H11]; iexists _; isplitr; swap; iexact H11; rotate_left
  isplitl [H12]; iexists _; isplitr; swap; iexact H12; rotate_left
  isplitl [H13]; iexists _; isplitr; swap; iexact H13; rotate_left
  iexists _; isplitr; swap; iexact H14
  all_goals ipureintro
  all_goals repeat (first | unfold runLastLast.sl.r | unfold runLastLast.sl.r_1 | unfold runLastLast.sl.r_2 | unfold runLastLast.sl.H10_1 | unfold runLastLast.sl.H13_1 | unfold runLastLast.sl.H14_1 | unfold runLastLast.sl.v0 | unfold runLastLast.sl.v1 | unfold runLastLast.sl.v10 | unfold runLastLast.sl.v11 | unfold runLastLast.sl.v12 | unfold runLastLast.sl.v14 | unfold runLastLast.sl.v15 | unfold runLastLast.sl.v18 | unfold runLastLast.sl.v19 | unfold runLastLast.sl.v23 | unfold runLastLast.sl.v25 | unfold runLastLast.sl.v28 | unfold runLastLast.sl.v31 | unfold runLastLast.sl.v36 | unfold runLastLast.sl.v38 | unfold runLastLast.sl.v39 | unfold runLastLast.sl.v44 | unfold runLastLast.sl.v53 | unfold runLastLast.sl.v54 | unfold runLastLast.sl.v55 | unfold runLastLast.sl.v57 | unfold runLastLast.sl.v58 | unfold runLastLast.sl.v70 | unfold runLastLast.sl.v75 | unfold runLastLast.sl.v83 | unfold runLastLast.sl.v85 | unfold runLastLast.sl.v86 | unfold runLastLast.sl.v89)
  all_goals simp only [↓read_writes_all, ↓readAt_all, ↓readAt_win, ↓read_writes_put, step, emit, prod, prep, rows, rows_put12, rows_put23, cov12, cov23, cov_1024x768, cov_1x768, cov_1x1024, if_neg hc1, if_neg hc2, if_neg hc3, if_pos hc4, if_pos hc5, dif_pos hc5, View.writes_nil, Memref.IsWhole.read_unread, window_512x1024, put_512x1024, window_1x1024, put_1x1024, window_1024x768, put_1024x768, window_1x768, put_1x768, window_512x512, put_512x512, window_512x256, put_512x256, window_512x768, put_512x768]
  all_goals try rfl

end Cert.MixInGradIdeal.Hand

end
-- ==== Proof.MixInGradMain.lean ====
/- The whole norm-and-projection gradient program: the body at any point, what each point leaves, the launch, the frame. -/
module

public import proofs.«01_k».proof.Proof.MixInGradSched
public import proofs.«01_k».proof.Proof.MixInGradRunFirst
public import proofs.«01_k».proof.Proof.MixInGradRunMid
public import proofs.«01_k».proof.Proof.MixInGradRunLast
public import Idealize.ShloMosaic.Lib.Claim

@[expose] public section

set_option maxRecDepth 16384

noncomputable section

namespace Cert.MixInGradIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixInGradIdeal Cert.MixInGradIdeal.Gen
open Idealize.ShloMosaic.VecWindow

variable {F : FTy → Type} [FloatOps F]

local notation "𝕄" => MT nD τ sig Unit (Elt F) ℕ (UR sig nD τ) ℕ

/-- The body takes what it finds to `step` of it, at any point. -/
theorem body_step (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x256 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S1x1024 .f32) (harg8 : arg8.IsWhole) (arg9 : Memref sig .tc .vmem S1024x768 .bf16) (harg9 : arg9.IsWhole) (arg10 : Memref sig .tc .vmem S512x1024 .f32) (harg10 : arg10.IsWhole) (arg11 : Memref sig .tc .vmem S1024x768 .bf16) (harg11 : arg11.IsWhole) (arg12 : Memref sig .tc .vmem S1x768 .f32) (harg12 : arg12.IsWhole) (arg13 : Memref sig .tc .vmem S1x1024 .f32) (harg13 : arg13.IsWhole) (arg14 : Memref sig .tc .vmem S2048x1024 .bf16) (harg14 : arg14.IsWhole) (arg15 : Memref sig .tc .vmem S2048x1024 .f32) (harg15 : arg15.IsWhole) (arg16 : Memref sig .tc .vmem S1024x768 .f32) (harg16 : arg16.IsWhole) (n : ℕ) (a : At i n)
    (I : Ins F) (s : St F) (E : Set ℕ) (K : PUnit → sProp 𝕄) :
    iprop(holds c arg2 arg3 arg4 arg5 arg6 arg7 arg8 arg9 arg10 arg11 arg12 arg13 arg14 arg15 arg16 I s ∗ (holds c arg2 arg3 arg4 arg5 arg6 arg7 arg8 arg9 arg10 arg11 arg12 arg13 arg14 arg15 arg16 I (step i I s) -∗ K ⟨⟩))
      ⊢ wp frame (wpE (defs₀ (F := F)) Variants.none c none) E (cc0_rmslin_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have hlt := a.lt
  by_cases jFirst : n < 4
  · by_cases kFirst : n % 4 = 0
    · exact runFirstFirst c i _ harg2 _ harg3 _ harg4 _ harg5 _ harg6 _ harg7 _ harg8 _ harg9 _ harg10 _ harg11 _ harg12 _ harg13 _ harg14 _ harg15 _ harg16 I s (a.h1.mpr (by omega)) (a.h2.mpr (by omega)) (a.h3.mpr (by omega)) (mt a.h4.mp (by omega)) (mt a.h5.mp (by omega)) E K
    by_cases kLast : n % 4 = 3
    · exact runFirstLast c i _ harg2 _ harg3 _ harg4 _ harg5 _ harg6 _ harg7 _ harg8 _ harg9 _ harg10 _ harg11 _ harg12 _ harg13 _ harg14 _ harg15 _ harg16 I s (a.h1.mpr (by omega)) (mt a.h2.mp (by omega)) (mt a.h3.mp (by omega)) (a.h4.mpr (by omega)) (mt a.h5.mp (by omega)) E K
    exact runFirstMid c i _ harg2 _ harg3 _ harg4 _ harg5 _ harg6 _ harg7 _ harg8 _ harg9 _ harg10 _ harg11 _ harg12 _ harg13 _ harg14 _ harg15 _ harg16 I s (a.h1.mpr (by omega)) (mt a.h2.mp (by omega)) (mt a.h3.mp (by omega)) (mt a.h4.mp (by omega)) (mt a.h5.mp (by omega)) E K
  by_cases jLast : 12 ≤ n
  · by_cases kFirst : n % 4 = 0
    · exact runLastFirst c i _ harg2 _ harg3 _ harg4 _ harg5 _ harg6 _ harg7 _ harg8 _ harg9 _ harg10 _ harg11 _ harg12 _ harg13 _ harg14 _ harg15 _ harg16 I s (mt a.h1.mp (by omega)) (mt a.h2.mp (by omega)) (a.h3.mpr (by omega)) (mt a.h4.mp (by omega)) (a.h5.mpr (by omega)) E K
    by_cases kLast : n % 4 = 3
    · exact runLastLast c i _ harg2 _ harg3 _ harg4 _ harg5 _ harg6 _ harg7 _ harg8 _ harg9 _ harg10 _ harg11 _ harg12 _ harg13 _ harg14 _ harg15 _ harg16 I s (mt a.h1.mp (by omega)) (mt a.h2.mp (by omega)) (mt a.h3.mp (by omega)) (a.h4.mpr (by omega)) (a.h5.mpr (by omega)) E K
    exact runLastMid c i _ harg2 _ harg3 _ harg4 _ harg5 _ harg6 _ harg7 _ harg8 _ harg9 _ harg10 _ harg11 _ harg12 _ harg13 _ harg14 _ harg15 _ harg16 I s (mt a.h1.mp (by omega)) (mt a.h2.mp (by omega)) (mt a.h3.mp (by omega)) (mt a.h4.mp (by omega)) (a.h5.mpr (by omega)) E K
  by_cases kFirst : n % 4 = 0
  · exact runMidFirst c i _ harg2 _ harg3 _ harg4 _ harg5 _ harg6 _ harg7 _ harg8 _ harg9 _ harg10 _ harg11 _ harg12 _ harg13 _ harg14 _ harg15 _ harg16 I s (mt a.h1.mp (by omega)) (mt a.h2.mp (by omega)) (a.h3.mpr (by omega)) (mt a.h4.mp (by omega)) (mt a.h5.mp (by omega)) E K
  by_cases kLast : n % 4 = 3
  · exact runMidLast c i _ harg2 _ harg3 _ harg4 _ harg5 _ harg6 _ harg7 _ harg8 _ harg9 _ harg10 _ harg11 _ harg12 _ harg13 _ harg14 _ harg15 _ harg16 I s (mt a.h1.mp (by omega)) (mt a.h2.mp (by omega)) (mt a.h3.mp (by omega)) (a.h4.mpr (by omega)) (mt a.h5.mp (by omega)) E K
  exact runMidMid c i _ harg2 _ harg3 _ harg4 _ harg5 _ harg6 _ harg7 _ harg8 _ harg9 _ harg10 _ harg11 _ harg12 _ harg13 _ harg14 _ harg15 _ harg16 I s (mt a.h1.mp (by omega)) (mt a.h2.mp (by omega)) (mt a.h3.mp (by omega)) (mt a.h4.mp (by omega)) (mt a.h5.mp (by omega)) E K

variable (m : (ℓ : Loc nD τ sig) → Buf (Elt F) ℓ) (ρ : Dev nD → PrngReg)

/-- Point number `n` of the grid (`n` taken modulo its 16 points). -/
def pt (n : ℕ) : Fin cfg0.N := ⟨n % 16, lt_of_lt_of_eq (Nat.mod_lt n (by decide)) N_0.symm⟩

theorem pt_val (t : Fin cfg0.N) : pt t.val = t := Fin.ext (Nat.mod_eq_of_lt (lt_of_lt_of_eq t.isLt N_0))

/-- The input blocks at a point. -/
def insAt (c : Dev nD) (t : Fin cfg0.N) : Ins F where
  x := iblk m c 0 t
  dres := iblk m c 1 t
  dq := iblk m c 2 t
  dkv := iblk m c 3 t
  dm := iblk m c 4 t
  dz := iblk m c 5 t
  nw := iblk m c 6 t
  w := iblk m c 7 t

/-- The input blocks at point number `n`. -/
def ins (c : Dev nD) (n : ℕ) : Ins F := insAt m c (pt n)

theorem ins_val (c : Dev nD) (t : Fin cfg0.N) : ins m c t.val = insAt m c t := by unfold ins; rw [pt_val]

/-- Window 0's staging buffer at a point. -/
abbrev ms0 (t : Fin cfg0.N) : Memref sig .tc .vmem S512x1024 .f32 := win0_0.stage (cfg0.slots t 0)
theorem hs0 (t : Fin cfg0.N) : (ms0 t).IsWhole := hstage0_0 ((cfg0.slots t 0).cast nbuf0_0)
/-- Window 1's staging buffer at a point. -/
abbrev ms1 (t : Fin cfg0.N) : Memref sig .tc .vmem S512x1024 .f32 := win0_1.stage (cfg0.slots t 1)
theorem hs1 (t : Fin cfg0.N) : (ms1 t).IsWhole := hstage0_1 ((cfg0.slots t 1).cast nbuf0_1)
/-- Window 2's staging buffer at a point. -/
abbrev ms2 (t : Fin cfg0.N) : Memref sig .tc .vmem S512x512 .f32 := win0_2.stage (cfg0.slots t 2)
theorem hs2 (t : Fin cfg0.N) : (ms2 t).IsWhole := hstage0_2 ((cfg0.slots t 2).cast nbuf0_2)
/-- Window 3's staging buffer at a point. -/
abbrev ms3 (t : Fin cfg0.N) : Memref sig .tc .vmem S512x256 .f32 := win0_3.stage (cfg0.slots t 3)
theorem hs3 (t : Fin cfg0.N) : (ms3 t).IsWhole := hstage0_3 ((cfg0.slots t 3).cast nbuf0_3)
/-- Window 4's staging buffer at a point. -/
abbrev ms4 (t : Fin cfg0.N) : Memref sig .tc .vmem S512x768 .f32 := win0_4.stage (cfg0.slots t 4)
theorem hs4 (t : Fin cfg0.N) : (ms4 t).IsWhole := hstage0_4 ((cfg0.slots t 4).cast nbuf0_4)
/-- Window 5's staging buffer at a point. -/
abbrev ms5 (t : Fin cfg0.N) : Memref sig .tc .vmem S512x768 .f32 := win0_5.stage (cfg0.slots t 5)
theorem hs5 (t : Fin cfg0.N) : (ms5 t).IsWhole := hstage0_5 ((cfg0.slots t 5).cast nbuf0_5)
/-- Window 6's staging buffer at a point. -/
abbrev ms6 (t : Fin cfg0.N) : Memref sig .tc .vmem S1x1024 .f32 := win0_6.stage (cfg0.slots t 6)
theorem hs6 (t : Fin cfg0.N) : (ms6 t).IsWhole := hstage0_6 ((cfg0.slots t 6).cast nbuf0_6)
/-- Window 7's staging buffer at a point. -/
abbrev ms7 (t : Fin cfg0.N) : Memref sig .tc .vmem S1024x768 .bf16 := win0_7.stage (cfg0.slots t 7)
theorem hs7 (t : Fin cfg0.N) : (ms7 t).IsWhole := hstage0_7 ((cfg0.slots t 7).cast nbuf0_7)
/-- Window 8's staging buffer at a point. -/
abbrev ms8 (t : Fin cfg0.N) : Memref sig .tc .vmem S512x1024 .f32 := win0_8.stage (cfg0.slots t 8)
theorem hs8 (t : Fin cfg0.N) : (ms8 t).IsWhole := hstage0_8 ((cfg0.slots t 8).cast nbuf0_8)
/-- Window 9's staging buffer at a point. -/
abbrev ms9 (t : Fin cfg0.N) : Memref sig .tc .vmem S1024x768 .bf16 := win0_9.stage (cfg0.slots t 9)
theorem hs9 (t : Fin cfg0.N) : (ms9 t).IsWhole := hstage0_9 ((cfg0.slots t 9).cast nbuf0_9)
/-- Window 10's staging buffer at a point. -/
abbrev ms10 (t : Fin cfg0.N) : Memref sig .tc .vmem S1x768 .f32 := win0_10.stage (cfg0.slots t 10)
theorem hs10 (t : Fin cfg0.N) : (ms10 t).IsWhole := hstage0_10 ((cfg0.slots t 10).cast nbuf0_10)
/-- Window 11's staging buffer at a point. -/
abbrev ms11 (t : Fin cfg0.N) : Memref sig .tc .vmem S1x1024 .f32 := win0_11.stage (cfg0.slots t 11)
theorem hs11 (t : Fin cfg0.N) : (ms11 t).IsWhole := hstage0_11 ((cfg0.slots t 11).cast nbuf0_11)
/-- A scratch buffer of the kernel. -/
abbrev scM0 : Memref sig .tc .vmem S2048x1024 .bf16 := Memref.whole cc0_scratch0
/-- A scratch buffer of the kernel. -/
abbrev scM1 : Memref sig .tc .vmem S2048x1024 .f32 := Memref.whole cc0_scratch1
/-- A scratch buffer of the kernel. -/
abbrev scM2 : Memref sig .tc .vmem S1024x768 .f32 := Memref.whole cc0_scratch2

/-- The region's start and end: every scratch buffer at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-- Before point `n` the scratch buffers hold what the invariant says. -/
def PhiS (c : Dev nD) (n : ℕ) : sProp 𝕄 :=
  iprop(∃ s : St F, ⌜Inv (ins m c) n s⌝ ∗ owns (c : Thread nD τ) scM0 fullShare s.xn ∗ owns (c : Thread nD τ) scM1 fullShare s.dxn ∗ owns (c : Thread nD τ) scM2 fullShare s.acc ∗ (∃ r, prngReg c r))

/-- What each window's staging buffer holds after each point, and the invariant between points. -/
def dats : (p : Fin 1) → (c : Dev nD) → Dat τ (Elt F) Unit ℕ (UR sig nD τ) ℕ (cfgs p) c := fun _ c =>
  { A := fun w => V m c (Pipeline.arrRef spec0 w)
    after := fun w t => match w with
      | 0 => iblk m c 0 t
      | 1 => iblk m c 1 t
      | 2 => iblk m c 2 t
      | 3 => iblk m c 3 t
      | 4 => iblk m c 4 t
      | 5 => iblk m c 5 t
      | 6 => iblk m c 6 t
      | 7 => iblk m c 7 t
      | 8 => (dxOf (ins m c t.val) (dxB (ins m c) (t.val % 4) 4) : Vec F S512x1024 .f32)
      | 9 => (k0_pay3 (aW (ins m c) (t.val / 4) 4) : Vec F S1024x768 .bf16)
      | 10 => (aB (ins m c) (t.val / 4) (t.val % 4 + 1) : Vec F S1x768 .f32)
      | 11 => (nwB (ins m c) (t.val + 1 - 12) : Vec F S1x1024 .f32)
      | ⟨_ + 12, h⟩ => absurd h (Nat.not_lt.2 (Nat.le_add_left _ _))
    Φ := fun t => PhiS m c t.val
    q := fun _ => fullShare
    owed := fun _ => 0 }

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t := before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t := before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t := before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t := before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t := before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t := before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t := before0_6_of m (dats m 0 c) (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t := before0_7_of m (dats m 0 c) (A_eq m c 7) (after_7 m c) t d
theorem after_8 (c : Dev nD) (t : Fin cfg0.N) : (dats m 0 c).after 8 t = (dxOf (ins m c t.val) (dxB (ins m c) (t.val % 4) 4) : Vec F S512x1024 .f32) := by dsimp only [dats]
theorem after_9 (c : Dev nD) (t : Fin cfg0.N) : (dats m 0 c).after 9 t = (k0_pay3 (aW (ins m c) (t.val / 4) 4) : Vec F S1024x768 .bf16) := by dsimp only [dats]
theorem after_10 (c : Dev nD) (t : Fin cfg0.N) : (dats m 0 c).after 10 t = (aB (ins m c) (t.val / 4) (t.val % 4 + 1) : Vec F S1x768 .f32) := by dsimp only [dats]
theorem after_11 (c : Dev nD) (t : Fin cfg0.N) : (dats m 0 c).after 11 t = (nwB (ins m c) (t.val + 1 - 12) : Vec F S1x1024 .f32) := by dsimp only [dats]

theorem fl8 : ∀ t : Fin cfg0.N, (cfg0.win 8).flush t = true ↔ 12 ≤ t.val := by decide +kernel
theorem id8 : ∀ t : Fin cfg0.N, cfg0.idle 8 (grid0.coords t) = true ↔ ¬ 12 ≤ t.val := by decide +kernel
theorem id9 : ∀ t : Fin cfg0.N, cfg0.idle 9 (grid0.coords t) = true ↔ ¬ t.val % 4 = 3 := by decide +kernel
theorem id10 : ∀ t : Fin cfg0.N, cfg0.idle 10 (grid0.coords t) = true ↔ ¬ True := by decide +kernel
theorem id11 : ∀ t : Fin cfg0.N, cfg0.idle 11 (grid0.coords t) = true ↔ ¬ (t.val = 0 ∨ 12 ≤ t.val) := by decide +kernel
theorem fetch10 : ∀ t : Fin cfg0.N, (cfg0.win 10).fetch t = false := by decide +kernel
theorem fetch11 : ∀ t : Fin cfg0.N, (cfg0.win 11).fetch t = false := by decide +kernel

/-- What a window's buffer is left at: what the window states where it is stored, what was there where it is not. -/
theorem leaves_of {c : Dev nD} (dat : Dat τ (Elt F) Unit ℕ (UR sig nD τ) ℕ cfg0 c) (w : Fin cfg0.W) (t : Fin cfg0.N)
    (X : (cfg0.win w).block.Idx → Elt F (cfg0.win w).elt) (P : Prop)
    (hi : cfg0.idle w (grid0.coords t) = true ↔ ¬ P) (hf : (cfg0.win w).flush t = true → P)
    (hl : P → X = dat.after w t) (hd : ¬ P → ∃ d, X = dat.before w t d) :
    owns (c : Thread nD τ) ((cfg0.win w).stage (cfg0.slots t w)) fullShare X ⊢ (dat.leavesExact w t : sProp 𝕄) := by
  by_cases h : P
  · have e : cfg0.idle w (grid0.coords t) = false := by
      cases hh : cfg0.idle w (grid0.coords t)
      · rfl
      · exact absurd h (hi.mp hh)
    rw [show dat.leavesExact w t = owns (c : Thread nD τ) ((cfg0.win w).stage (cfg0.slots t w)) fullShare (dat.after w t) from by
      unfold Dat.leavesExact; rw [e], ← hl h]
  · have e : (cfg0.win w).flush t = false := by
      cases hh : (cfg0.win w).flush t
      · rfl
      · exact absurd (hf hh) h
    obtain ⟨d, hd⟩ := hd h
    rw [dat.leavesExact_idle w t (hi.mpr h) e, hd]
    iintro H
    iexists d
    iexact H

/-- The bias gradient's buffer before a point that does not begin a block of columns. -/
theorem before_10 (c : Dev nD) (n : ℕ) (hn : n < cfg0.N) (h0 : n % 4 ≠ 0) (d) :
    (dats m 0 c).before 10 ⟨n, hn⟩ d = (aB (ins m c) (n / 4) (n % 4) : Vec F S1x768 .f32) := by
  cases n with
  | zero => exact absurd rfl h0
  | succ n =>
    have hn' : n < cfg0.N := Nat.lt_of_succ_lt hn
    have hf : ¬ (cfg0.win 10).flush ⟨n, hn'⟩ = true := fun h => by
      have h := (flush0_10 ⟨n, hn'⟩).mp h
      dsimp only at h
      omega
    rw [(dats m 0 c).before_of_pos 10 ⟨n + 1, hn⟩ (Nat.succ_ne_zero n) (fetch10 _) d]
    show (if (cfg0.win 10).flush ⟨n, hn'⟩ = true then d else (dats m 0 c).left 10 ⟨n, hn'⟩ d) = _
    rw [if_neg hf]
    unfold Dat.left
    have hi := id10 ⟨n, hn'⟩
    change cfg0.idle 10 (cfg0.grid.coords ⟨n, hn'⟩) = true ↔ _ at hi
    cases hh : cfg0.idle 10 (cfg0.grid.coords ⟨n, hn'⟩)
    · show (dats m 0 c).after 10 ⟨n, hn'⟩ = _
      rw [after_10]
      dsimp only
      rw [show (n + 1) / 4 = n / 4 by omega, show (n + 1) % 4 = n % 4 + 1 by omega]
    · exact absurd trivial (hi.mp hh)

/-- The norm scale's gradient buffer before a point that is not the first. -/
theorem before_11 (c : Dev nD) : ∀ (n : ℕ) (hn : n < cfg0.N) (h0 : n ≠ 0) (d), (dats m 0 c).before 11 ⟨n, hn⟩ d = (nwB (ins m c) (n - 12) : Vec F S1x1024 .f32) := by
  intro n
  induction n with
  | zero => intro _ h0; exact absurd rfl h0
  | succ n ih =>
    intro hn h0 d
    have hn' : n < cfg0.N := Nat.lt_of_succ_lt hn
    have hN : n + 1 < 16 := lt_of_lt_of_eq hn N_0
    have hf : ¬ (cfg0.win 11).flush ⟨n, hn'⟩ = true := fun h => by
      have h := (flush0_11 ⟨n, hn'⟩).mp h
      dsimp only at h
      omega
    rw [(dats m 0 c).before_of_pos 11 ⟨n + 1, hn⟩ h0 (fetch11 _) d]
    show (if (cfg0.win 11).flush ⟨n, hn'⟩ = true then d else (dats m 0 c).left 11 ⟨n, hn'⟩ d) = _
    rw [if_neg hf]
    unfold Dat.left
    have hi := id11 ⟨n, hn'⟩
    change cfg0.idle 11 (cfg0.grid.coords ⟨n, hn'⟩) = true ↔ _ at hi
    cases hh : cfg0.idle 11 (cfg0.grid.coords ⟨n, hn'⟩)
    · show (dats m 0 c).after 11 ⟨n, hn'⟩ = _
      rw [after_11]
    · have hi := hi.mp hh
      dsimp only at hi ⊢
      rw [ih hn' (by omega) d, show n + 1 - 12 = n - 12 by omega]

/-- What the body is given at a point. -/
def bodyPre (c : Dev nD) (t : Fin cfg0.N) : sProp 𝕄 :=
  iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)) ∗ (∃ d, owns (c : Thread nD τ) (ms9 t) fullShare ((dats m 0 c).before 9 t d)) ∗ (∃ d, owns (c : Thread nD τ) (ms10 t) fullShare ((dats m 0 c).before 10 t d)) ∗ (∃ d, owns (c : Thread nD τ) (ms11 t) fullShare ((dats m 0 c).before 11 t d)))

/-- What it gives back. -/
def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t)

set_option maxHeartbeats 4000000 in
/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rewrite [show (dats m 0 c).owesAt () t.succ = (dats m 0 c).owesAt () t.castSucc from rfl]
  rewrite [show (dats m 0 c).Φ t.succ = PhiS m c (t.val + 1) from rfl, show (dats m 0 c).Φ t.castSucc = PhiS m c t.val from rfl]
  unfold PhiS
  simp only [before_0, before_1, before_2, before_3, before_4, before_5, before_6, before_7]
  iintro ⟨⟨%s, %hs, S0, S1, S2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have a := at_point t
  have v : Inv (ins m c) t.val { s with dx := (dats m 0 c).before 8 t d8, dw := (dats m 0 c).before 9 t d9, db := (dats m 0 c).before 10 t d10, dnw := (dats m 0 c).before 11 t d11 } := ⟨hs.xn, hs.dxn, hs.acc⟩
  have hb : t.val % 4 ≠ 0 → ({ s with dx := (dats m 0 c).before 8 t d8, dw := (dats m 0 c).before 9 t d9, db := (dats m 0 c).before 10 t d10, dnw := (dats m 0 c).before 11 t d11 } : St F).db = aB (ins m c) (t.val / 4) (t.val % 4) := fun h => before_10 m c t.val t.isLt h d10
  have hd : t.val ≠ 0 → ({ s with dx := (dats m 0 c).before 8 t d8, dw := (dats m 0 c).before 9 t d9, db := (dats m 0 c).before 10 t d10, dnw := (dats m 0 c).before 11 t d11 } : St F).dnw = nwB (ins m c) (t.val - 12) := fun h => before_11 m c t.val t.isLt h d11
  generalize hS : ({ s with dx := (dats m 0 c).before 8 t d8, dw := (dats m 0 c).before 9 t d9, db := (dats m 0 c).before 10 t d10, dnw := (dats m 0 c).before 11 t d11 } : St F) = S at v hb hd
  iapply (body_step c (grid0.coords t) _ (hs0 t) _ (hs1 t) _ (hs2 t) _ (hs3 t) _ (hs4 t) _ (hs5 t) _ (hs6 t) _ (hs7 t) _ (hs8 t) _ (hs9 t) _ (hs10 t) _ (hs11 t) scM0 (Memref.isWhole_whole _) scM1 (Memref.isWhole_whole _) scM2 (Memref.isWhole_whole _) t.val a (ins m c t.val) S Set.univ _)
  isplitl [H0 H1 H2 H3 H4 H5 H6 H7 H8 H9 H10 H11 S0 S1 S2]
  · unfold holds
    rewrite [ins_val]
    unfold insAt
    rewrite [← hS]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    iexact S2
  unfold holds
  iintro ⟨H0, H1, H2, H3, H4, H5, H6, H7, H8, H9, H10, H11, S0, S1, S2⟩
  isplitl [Hg S0 S1 S2]
  · iexists (step (grid0.coords t) (ins m c t.val) S)
    isplitl []; · ipureintro; exact v.step a
    isplitl [S0]; · iexact S0
    isplitl [S1]; · iexact S1
    isplitl [S2]; · iexact S2
    iexact Hg
  isplitl [Ho]; · iexact Ho
  isplitl [H0]
  · iapply (leaves_of (dats m 0 c) 0 t (ins m c t.val).x True ⟨fun h => absurd (h : false = true) Bool.false_ne_true, fun h => absurd trivial h⟩ (fun _ => trivial)
      (fun _ => by rw [after_0, ins_val]; rfl) (fun h => absurd trivial h))
    iexact H0
  isplitl [H1]
  · iapply (leaves_of (dats m 0 c) 1 t (ins m c t.val).dres True ⟨fun h => absurd (h : false = true) Bool.false_ne_true, fun h => absurd trivial h⟩ (fun _ => trivial)
      (fun _ => by rw [after_1, ins_val]; rfl) (fun h => absurd trivial h))
    iexact H1
  isplitl [H2]
  · iapply (leaves_of (dats m 0 c) 2 t (ins m c t.val).dq True ⟨fun h => absurd (h : false = true) Bool.false_ne_true, fun h => absurd trivial h⟩ (fun _ => trivial)
      (fun _ => by rw [after_2, ins_val]; rfl) (fun h => absurd trivial h))
    iexact H2
  isplitl [H3]
  · iapply (leaves_of (dats m 0 c) 3 t (ins m c t.val).dkv True ⟨fun h => absurd (h : false = true) Bool.false_ne_true, fun h => absurd trivial h⟩ (fun _ => trivial)
      (fun _ => by rw [after_3, ins_val]; rfl) (fun h => absurd trivial h))
    iexact H3
  isplitl [H4]
  · iapply (leaves_of (dats m 0 c) 4 t (ins m c t.val).dm True ⟨fun h => absurd (h : false = true) Bool.false_ne_true, fun h => absurd trivial h⟩ (fun _ => trivial)
      (fun _ => by rw [after_4, ins_val]; rfl) (fun h => absurd trivial h))
    iexact H4
  isplitl [H5]
  · iapply (leaves_of (dats m 0 c) 5 t (ins m c t.val).dz True ⟨fun h => absurd (h : false = true) Bool.false_ne_true, fun h => absurd trivial h⟩ (fun _ => trivial)
      (fun _ => by rw [after_5, ins_val]; rfl) (fun h => absurd trivial h))
    iexact H5
  isplitl [H6]
  · iapply (leaves_of (dats m 0 c) 6 t (ins m c t.val).nw True ⟨fun h => absurd (h : false = true) Bool.false_ne_true, fun h => absurd trivial h⟩ (fun _ => trivial)
      (fun _ => by rw [after_6, ins_val]; rfl) (fun h => absurd trivial h))
    iexact H6
  isplitl [H7]
  · iapply (leaves_of (dats m 0 c) 7 t (ins m c t.val).w True ⟨fun h => absurd (h : false = true) Bool.false_ne_true, fun h => absurd trivial h⟩ (fun _ => trivial)
      (fun _ => by rw [after_7, ins_val]; rfl) (fun h => absurd trivial h))
    iexact H7
  isplitl [H8]
  · iapply (leaves_of (dats m 0 c) 8 t (step (grid0.coords t) (ins m c t.val) S).dx (12 ≤ t.val) (id8 t) (fl8 t).mp
        (fun h => by rw [after_8]; exact dx_live a v h)
        (fun h => ⟨d8, (dx_idle a h).trans (show S.dx = (dats m 0 c).before 8 t d8 by rw [← hS])⟩))
    iexact H8
  isplitl [H9]
  · iapply (leaves_of (dats m 0 c) 9 t (step (grid0.coords t) (ins m c t.val) S).dw (t.val % 4 = 3) (id9 t) (flush0_9 t).mp
        (fun h => by rw [after_9]; exact dw_live a v h)
        (fun h => ⟨d9, (dw_idle a h).trans (show S.dw = (dats m 0 c).before 9 t d9 by rw [← hS])⟩))
    iexact H9
  isplitl [H10]
  · iapply (leaves_of (dats m 0 c) 10 t (step (grid0.coords t) (ins m c t.val) S).db True (id10 t) (fun _ => trivial)
        (fun _ => by rw [after_10]; exact db_step a hb) (fun h => absurd trivial h))
    iexact H10
  iapply (leaves_of (dats m 0 c) 11 t (step (grid0.coords t) (ins m c t.val) S).dnw (t.val = 0 ∨ 12 ≤ t.val) (id11 t) (fun h => .inr (by have := (flush0_11 t).mp h; omega))
      (fun h => by rw [after_11]; exact dnw_step a v hd)
      (fun h => ⟨d11, (dnw_step a v hd).trans (by rw [show t.val + 1 - 12 = t.val - 12 by omega]; exact (before_11 m c t.val t.isLt (by omega) d11).symm)⟩))
  iexact H11

theorem defs₀_row (t : Fin cfg0.N) : defs₀ (F := F) .tc cfg0.body (cfg0.bodyArgs t (cfg0.slots t)) = bodyAt0 t := by
  unfold defs₀; rw [Defs.onTc_tc]

set_option maxRecDepth 8192 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rewrite [show (dats m 0 c).Φ 0 = PhiS m c 0 from rfl, PhiA_eq]
  unfold PhiS
  iintro ⟨⟨⟨%s0, S0⟩, ⟨%s1, S1⟩, ⟨%s2, S2⟩⟩, Hg⟩
  iexists (⟨k0_pay9, k0_pay3 s2, k0_pay12, k0_pay10, s0, s1, s2⟩ : St F)
  isplitl []
  · ipureintro
    exact ⟨fun _ _ h => absurd h (Nat.not_lt_zero _), fun _ _ h => absurd h (Nat.not_lt_zero _), fun h => absurd rfl h⟩
  isplitl [S0]; · iexact S0
  isplitl [S1]; · iexact S1
  isplitl [S2]; · iexact S2
  iexact Hg

theorem hout (c : Dev nD) : (dats m 0 c).Φ (Fin.last cfg0.N) ⊢ Pipeline.ΦA spec0 c := by
  rewrite [show (dats m 0 c).Φ (Fin.last cfg0.N) = PhiS m c (Fin.last cfg0.N).val from rfl, PhiA_eq]
  unfold PhiS
  iintro ⟨%s, %hs, S0, S1, S2, Hg⟩
  isplitl [S0 S1 S2]
  · isplitl [S0]; · iexists _; iexact S0
    isplitl [S1]; · iexists _; iexact S1
    iexists _; iexact S2
  iexact Hg

set_option backward.isDefEq.respectTransparency.types false in
/-- The launch: it ends, with every output array assembled from what the points left, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and the counters at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.MixInGradIdeal.Hand

end
-- ==== Proof.MixInGradSame.lean ====
/- The printed kernel and its idealized print have one text: their body tables are one table, so a run of the one is a run of the other. -/
module

public import proofs.«01_k».proof.Proof.Gen.MixInGrad
public import proofs.«01_k».proof.Proof.Gen.MixInGradIdeal

@[expose] public section

open Idealize.ShloMosaic Idealize.SL.Sem

namespace Cert.MixInGradSame

variable {F : FTy → Type} [FloatOps F]

set_option maxRecDepth 65536

/-- The kernels' body tables agree at their one label. -/
theorem bodies_eq : @Cert.MixInGrad.defs₀ F _ _ = @Cert.MixInGradIdeal.defs₀ F _ _ := by
  unfold Cert.MixInGrad.defs₀ Cert.MixInGradIdeal.defs₀
  refine congrArg (Defs.onTc (nD := Cert.MixInGradIdeal.nD) (τ := Cert.MixInGradIdeal.τ) (sig := Cert.MixInGradIdeal.sig) (Val := Elt F) (Λ := Cert.MixInGradIdeal.Λ₀)) ?_
  funext ℓ a
  match ℓ, a with
  | 0, (t, s) => rfl

/-- The whole tables agree. -/
theorem defs_eq : @Cert.MixInGrad.defs F _ _ = @Cert.MixInGradIdeal.defs F _ _ := by
  unfold Cert.MixInGrad.defs Cert.MixInGradIdeal.defs
  rw [← bodies_eq]
  rfl

/-- The two @main are one program. -/
theorem main_eq : @Cert.MixInGrad.main F _ _ = @Cert.MixInGradIdeal.main F _ _ := rfl

/-- A run of the idealized print, at any float values, is a run of the printed kernel at those values. -/
theorem run_of_ideal (s : MemSt Cert.MixInGradIdeal.nD Cert.MixInGradIdeal.τ Cert.MixInGradIdeal.sig (Elt F)) (Q)
    (h : θ_run (Cert.MixInGradIdeal.defs (F := F)) (onTc (τ := Cert.MixInGradIdeal.τ) (Cert.MixInGradIdeal.main (F := F))) s Q) :
    θ_run (Cert.MixInGrad.defs (F := F)) (onTc (τ := Cert.MixInGrad.τ) (Cert.MixInGrad.main (F := F))) s Q := by
  have e := congrFun (congr (congrArg (fun d p => θ_run d (onTc (τ := Cert.MixInGradIdeal.τ) p)) (defs_eq (F := F)).symm) (main_eq (F := F)).symm) s
  exact Eq.mp (congrArg (fun k => k Q) e) h

end Cert.MixInGradSame

end
-- ==== Proof.MixInGradPay.lean ====
/- The kernel's operations at an index, over the extended reals: what each stage of a grid point computes from its blocks. -/
module

public import proofs.«01_k».proof.Proof.MixInGradStep
public import proofs.«01_k».proof.Proof.NormGrad

@[expose] public section

open Idealize.ShloMosaic Cert.MixInGradIdeal Cert.MixInGradIdeal.Gen Cert.MixInGradIdeal.Hand

noncomputable section

namespace Cert.MixInGradClaim

open Finset Cert.NormGrad

set_option maxRecDepth 16384

/-- The reciprocal root mean square of a block's rows. -/
theorem pay4_has {x : Vec Ideal S512x1024 .f32} {X : ℕ → ℕ → EReal} (hx : Has x X) : Has (k0_pay4 x) fun a _ => Ideal.rsqrt (ms (X a)) := by
  intro a k
  pointwise [k0_pay4]
  simp only [hx _ _]
  rw [sum_range 1024 fun k => X a.val k * X a.val k]
  rfl

/-- The normalised rows of a block, before the weight. -/
theorem pay5_has {x : Vec Ideal S512x1024 .f32} {X : ℕ → ℕ → EReal} (hx : Has x X) : Has (k0_pay5 x) fun a k => X a k * Ideal.rsqrt (ms (X a)) := by
  intro a k
  pointwise [k0_pay5]
  rw [hx, pay4_has hx]

/-- The normalised rows of a block. -/
theorem pay8_has {x : Vec Ideal S512x1024 .f32} {w : Vec Ideal S1x1024 .f32} {X : ℕ → ℕ → EReal} {W : ℕ → EReal} (hx : Has x X) (hw : Has w fun _ => W) :
    Has (k0_pay8 x w) fun a k => X a k * Ideal.rsqrt (ms (X a)) * W k := by
  intro a k
  pointwise [k0_pay8]
  simp only [hx _ _, hw _ _]
  rw [sum_range 1024 fun k => X a.val k * X a.val k]
  rfl

theorem pay9_has : Has (k0_pay9 (F := Ideal)) fun _ _ => 0 := by
  intro a k
  pointwise [k0_pay9]
theorem pay10_has : Has (k0_pay10 (F := Ideal)) fun _ _ => 0 := by
  intro a k
  pointwise [k0_pay10]
theorem pay11_has : Has (k0_pay11 (F := Ideal)) fun _ _ => 0 := by
  intro a k
  pointwise [k0_pay11]
theorem pay12_has : Has (k0_pay12 (F := Ideal)) fun _ _ => 0 := by
  intro a k
  pointwise [k0_pay12]

/-! ## The product's cotangent: which of its pieces a column block reads -/

section Pieces
variable (i : grid0.Coords) (q : Vec Ideal S512x512 .f32) (kv : Vec Ideal S512x256 .f32) (z u : Vec Ideal S512x768 .f32)

/-- The first column block joins the first two pieces, -/
theorem dp_first (h : (i 0).val = 0) (p : Fin 512) (l : Fin 768) :
    k0_pay13 i q kv z u (ix2 p l) = if h : l.val < 512 then q (ix2 p ⟨l.val, h⟩) else kv (ix2 p ⟨l.val - 512, by omega⟩) := by
  unfold k0_pay13
  rw [h]
  pointwise

/-- the last one is the fourth piece, -/
theorem dp_last (h : (i 0).val = 3) (j) : k0_pay13 i q kv z u j = z j := by
  unfold k0_pay13
  rw [h]
  rfl

/-- and the ones between are the third piece's. -/
theorem dp_mid (h : (i 0).val = 1 ∨ (i 0).val = 2) (j) : k0_pay13 i q kv z u j = u j := by
  unfold k0_pay13
  rcases h with h | h <;> rw [h] <;> rfl

end Pieces

section Products
variable {i : grid0.Coords} {q : Vec Ideal S512x512 .f32} {kv : Vec Ideal S512x256 .f32} {z u : Vec Ideal S512x768 .f32} {D : ℕ → ℕ → EReal}

/-- A block's addition to the weight's gradient. -/
theorem pay15_has {acc : Vec Ideal S1024x768 .f32} {v : Vec Ideal S512x1024 .bf16} {P V : ℕ → ℕ → EReal}
    (hd : Has (k0_pay13 i q kv z u) D) (hp : Has acc P) (hv : Has v V) :
    Has (k0_pay15 i q kv z u acc v) fun d k => P d k + ∑ i ∈ range 512, V i d * D i k := by
  intro d k
  pointwise [k0_pay15, k0_pay14]
  simp only [hd _ _, hp _ _, hv _ _]
  rw [sum_range 512 fun i => V i d.val * D i k.val]

/-- A block's addition to the bias's gradient. -/
theorem pay1_has {b : Vec Ideal S1x768 .f32} {B : ℕ → EReal}
    (hd : Has (k0_pay13 i q kv z u) D) (hb : Has b fun _ => B) : Has (k0_pay1 (k0_pay13 i q kv z u) b) fun _ k => B k + ∑ i ∈ range 512, D i k := by
  intro r k
  pointwise [k0_pay1]
  simp only [hd _ _, hb _ _]
  rw [sum_range 512 fun i => D i k.val]

/-- A block's addition to the normalised rows' cotangent. -/
theorem pay2_has {r : Vec Ideal S512x1024 .f32} {w : Vec Ideal S1024x768 .bf16} {R W : ℕ → ℕ → EReal}
    (hd : Has (k0_pay13 i q kv z u) D) (hr : Has r R) (hw : Has w W) :
    Has (k0_pay2 (k0_pay14 i q kv z u) r w) fun a d => R a d + ∑ k ∈ range 768, D a k * W d k := by
  intro a d
  pointwise [k0_pay2, k0_pay14]
  simp only [hd _ _, hr _ _, hw _ _]
  rw [sum_range 768 fun k => D a.val k * W d.val k]

end Products

/-- The rows' gradient of a block. -/
theorem pay6_has {x r y : Vec Ideal S512x1024 .f32} {w : Vec Ideal S1x1024 .f32} {X R Y : ℕ → ℕ → EReal} {W : ℕ → EReal}
    (hx : Has x X) (hw : Has w fun _ => W) (hr : Has r R) (hy : Has y Y) :
    Has (k0_pay6 x w r y) fun a d => Y a d + Ideal.rsqrt (ms (X a)) * (R a d * W d
      - X a d * Ideal.rsqrt (ms (X a)) * Ideal.div (∑ k ∈ range 1024, R a k * W k * (X a k * Ideal.rsqrt (ms (X a)))) wid) := by
  intro a d
  pointwise [k0_pay6]
  simp only [pay5_has hx _ _, pay4_has hx _ _, hw _ _, hr _ _, hy _ _]
  rw [sum_range 1024 fun k => R a.val k * W k * (X a.val k * Ideal.rsqrt (ms (X a.val)))]

/-- A block's addition to the norm weight's gradient. -/
theorem pay7_has {x r : Vec Ideal S512x1024 .f32} {g : Vec Ideal S1x1024 .f32} {X R : ℕ → ℕ → EReal} {G : ℕ → EReal}
    (hx : Has x X) (hr : Has r R) (hg : Has g fun _ => G) :
    Has (k0_pay7 x r g) fun _ d => G d + ∑ i ∈ range 512, R i d * (X i d * Ideal.rsqrt (ms (X i))) := by
  intro u d
  pointwise [k0_pay7]
  simp only [pay5_has hx _ _, hr _ _, hg _ _]
  rw [sum_range 512 fun i => R i d.val * (X i d.val * Ideal.rsqrt (ms (X i)))]

end Cert.MixInGradClaim

end
-- ==== Proof.MixInGradFold.lean ====
/- The kernel's running sums over the extended reals: after any number of blocks they are the gradient's partial sums. -/
module

public import proofs.«01_k».proof.Proof.MixInGradSched
public import proofs.«01_k».proof.Proof.MixInGradPay

@[expose] public section

open Idealize.ShloMosaic Cert.MixInGradIdeal Cert.MixInGradIdeal.Gen Cert.MixInGradIdeal.Hand

noncomputable section

namespace Cert.MixInGradClaim

open Finset Cert.NormGrad

set_option maxRecDepth 16384

/-- The grid points' input blocks hold the blocks of `A`: point `4 j + b` reads row block `b` and column block `j`. The rows' direct
    cotangent is asked for at the last column block only, where it is read. -/
structure Feeds (A : Args) (I : ℕ → Ins Ideal) : Prop where
  x : ∀ j b, j = 0 ∨ j = 3 → b < 4 → Has (I (4 * j + b)).x fun p k => A.x (512 * b + p) k
  dres : ∀ b, b < 4 → Has (I (12 + b)).dres fun p k => A.dres (512 * b + p) k
  dp : ∀ j b, j < 4 → b < 4 → Has (k0_pay13 (co (4 * j + b)) (I (4 * j + b)).dq (I (4 * j + b)).dkv (I (4 * j + b)).dz (I (4 * j + b)).dm) fun p l => A.dp (512 * b + p) (768 * j + l)
  nw : ∀ n, n < 16 → Has (I n).nw fun _ => A.nw
  w : ∀ j b, j < 4 → b < 4 → Has (I (4 * j + b)).w fun d l => A.w d (768 * j + l)

variable {A : Args} {I : ℕ → Ins Ideal} (H : Feeds A I)

include H

/-- The kept normalised rows. -/
theorem xnB_has {b : ℕ} (hb : b < 4) : Has (xnB I b) fun p k => hn A (512 * b + p) k := by
  have h := H.x 0 b (.inl rfl) hb
  simp only [Nat.mul_zero, Nat.zero_add] at h
  exact pay8_has h (H.nw b (by omega))

/-- The normalised rows' cotangent after `j` column blocks. -/
theorem dxB_has {b : ℕ} (hb : b < 4) : ∀ j, j ≤ 4 → Has (dxB I b j) fun p d => aPart A (768 * j) (512 * b + p) d
  | 0, _ => by
    intro p d
    rw [dxB, pay9_has]
    simp [aPart]
  | j + 1, h => by
    intro p d
    have hj : j < 4 := h
    beta_reduce
    rw [dxB, Nat.mul_succ, aPart_add]
    exact pay2_has (H.dp j b hj hb) (dxB_has hb j (by omega)) (H.w j b hj hb) p d

/-- The weight's gradient after `b` row blocks. -/
theorem aW_has {j : ℕ} (hj : j < 4) : ∀ b, b ≤ 4 → Has (aW I j b) fun d l => dwPart A (512 * b) d (768 * j + l)
  | 0, _ => by
    intro d l
    rw [aW, pay11_has]
    simp [dwPart]
  | b + 1, h => by
    intro d l
    have hb : b < 4 := h
    beta_reduce
    rw [aW, Nat.mul_succ, dwPart_add]
    exact pay15_has (H.dp j b hj hb) (aW_has hj b (by omega)) (xnB_has H hb) d l

/-- The bias's gradient after `b` row blocks. -/
theorem aB_has {j : ℕ} (hj : j < 4) : ∀ b, b ≤ 4 → Has (aB I j b) fun _ l => dbPart A (512 * b) (768 * j + l)
  | 0, _ => by
    intro u l
    rw [aB, pay12_has]
    simp [dbPart]
  | b + 1, h => by
    intro u l
    have hb : b < 4 := h
    beta_reduce
    rw [aB, Nat.mul_succ, dbPart_add]
    exact pay1_has (H.dp j b hj hb) (aB_has hj b (by omega)) u l

/-- The norm weight's gradient after `b` row blocks. -/
theorem nwB_has : ∀ b, b ≤ 4 → Has (nwB I b) fun _ d => nwPart A 3072 (512 * b) d
  | 0, _ => by
    intro u d
    rw [nwB, pay10_has]
    simp [nwPart]
  | b + 1, h => by
    intro u d
    have hb : b < 4 := h
    beta_reduce
    rw [nwB, Nat.mul_succ, nwPart_add]
    exact pay7_has (H.x 3 b (.inr rfl) hb) (dxB_has H hb 4 le_rfl) (nwB_has b (by omega)) u d

/-- The rows' gradient of a block. -/
theorem dxOut_has {b : ℕ} (hb : b < 4) : Has (dxOf (I (12 + b)) (dxB I b 4)) fun p d => dx A 3072 (512 * b + p) d :=
  pay6_has (H.x 3 b (.inr rfl) hb) (H.nw (12 + b) (by omega)) (dxB_has H hb 4 le_rfl) (H.dres b hb)

end Cert.MixInGradClaim

end
-- ==== Proof.MixInGradRef.lean ====
/- The reference's results over the extended reals, one operation of its program at a time. -/
module

public import proofs.«01_k».proof.Proof.Gen.MixInGradReferenceIdeal.Read
public import proofs.«01_k».proof.Proof.NormGrad

@[expose] public section

open Idealize.ShloMosaic Cert.MixInGradReferenceIdeal Cert.MixInGradReferenceIdeal.Gen Cert.MixInGradReferenceIdeal.Read

noncomputable section

namespace Cert.MixInGradClaim

open Finset Cert.NormGrad

set_option maxRecDepth 16384

/-- The product's cotangent, by its four pieces side by side. -/
def pieces (q kv u z : ℕ → ℕ → EReal) (i k : ℕ) : EReal :=
  if k < 512 then q i k else if k < 768 then kv i (k - 512) else if k < 2304 then u i (k - 768) else z i (k - 2304)

/-- The eight argument arrays hold the entries of `A`: the product's cotangent comes in four pieces, the weight without its columns of zeros. -/
structure Holds (A : Args) (x0 x1 : (⟨S2048x1024, .f32⟩ : BufTy).Contents (Elt Ideal)) (x2 : (⟨S2048x512, .f32⟩ : BufTy).Contents (Elt Ideal))
    (x3 : (⟨S2048x256, .f32⟩ : BufTy).Contents (Elt Ideal)) (x4 : (⟨S2048x1536, .f32⟩ : BufTy).Contents (Elt Ideal))
    (x5 : (⟨S2048x768, .f32⟩ : BufTy).Contents (Elt Ideal)) (x6 : (⟨S1024, .f32⟩ : BufTy).Contents (Elt Ideal))
    (x7 : (⟨S1024x2832, .f32⟩ : BufTy).Contents (Elt Ideal)) : Prop where
  x : ∀ i, x0 i = A.x (i 0).val (i 1).val
  dres : ∀ i, x1 i = A.dres (i 0).val (i 1).val
  dp : A.dp = pieces (ext2 (n := 2048) (m := 512) x2) (ext2 (n := 2048) (m := 256) x3) (ext2 (n := 2048) (m := 1536) x4) (ext2 (n := 2048) (m := 768) x5)
  nw : ∀ i, x6 i = A.nw (i 0).val
  w : ∀ i, val_main_v1 (F := Ideal) x7 i = A.w (i 0).val (i 1).val

namespace Ref

variable {A : Args} {x0 x1 : (⟨S2048x1024, .f32⟩ : BufTy).Contents (Elt Ideal)} {x2 : (⟨S2048x512, .f32⟩ : BufTy).Contents (Elt Ideal)}
  {x3 : (⟨S2048x256, .f32⟩ : BufTy).Contents (Elt Ideal)} {x4 : (⟨S2048x1536, .f32⟩ : BufTy).Contents (Elt Ideal)}
  {x5 : (⟨S2048x768, .f32⟩ : BufTy).Contents (Elt Ideal)} {x6 : (⟨S1024, .f32⟩ : BufTy).Contents (Elt Ideal)}
  {x7 : (⟨S1024x2832, .f32⟩ : BufTy).Contents (Elt Ideal)} (H : Holds A x0 x1 x2 x3 x4 x5 x6 x7)

include H

/-- The mean square with the small constant. -/
theorem v9 (i) : val_main_v9 (F := Ideal) x0 i = ms (A.x (i 0).val) := by
  rw [val_main_v9_apply, val_main_v7_apply, val_main_v5_apply, val_main_v4_apply, val_main_v6_apply, val_main_v8_apply]
  simp only [val_main_cst_0_apply, val_main_cst_1_apply, val_main_cst_1_apply, val_main_cst_2_apply, val_main_v3_apply, Ideal.mulf_def, Ideal.addf_def, Ideal.hostDivf_def,
    Ideal.ofBits_def, Half.zero_word, zero_add, H.x]
  rw [ms, ← sum_range 1024]

/-- The reciprocal root mean square. -/
theorem v10 (i) : val_main_v10 (F := Ideal) x0 i = Ideal.rsqrt (ms (A.x (i 0).val)) := by
  rw [val_main_v10_apply, v9 H]
  rfl

theorem v15 (i) : val_main_v15 (F := Ideal) x0 i = xh A (i 0).val (i 1).val := by
  rw [val_main_v15_apply, val_main_v14_apply, v10 H, H.x]
  rfl

/-- The normalised rows. -/
theorem v18 (i) : val_main_v18 (F := Ideal) x0 x6 i = hn A (i 0).val (i 1).val := by
  rw [val_main_v18_apply, v15 H, val_main_v17_apply, val_main_v16_apply, H.nw]
  rfl

/-- The joined pieces. -/
theorem v0 (i) : val_main_v0 (F := Ideal) x2 x3 x4 x5 i = A.dp (i 0).val (i 1).val := by
  rw [H.dp]
  obtain ⟨p, k, rfl⟩ : ∃ (p : Fin 2048) (k : Fin 3072), i = ix2 p k := ⟨i 0, i 1, eq_ix2 i⟩
  pointwise [val_main_v0]
  simp only [pieces, ix2_0, ix2_1]
  by_cases h0 : k.val < 512
  · rw [dif_pos h0, if_pos h0]
    exact ext2_at (n := 2048) (m := 512) x2 _
  by_cases h1 : k.val < 768
  · rw [dif_neg h0, dif_pos (by omega), if_neg h0, if_pos h1]
    exact ext2_at (n := 2048) (m := 256) x3 _
  by_cases h2 : k.val < 2304
  · rw [dif_neg h0, dif_neg (by omega), dif_pos (by omega), if_neg h0, if_neg h1, if_pos h2]
    exact (ext2_at (n := 2048) (m := 1536) x4 _).trans (congrArg (ext2 (n := 2048) (m := 1536) x4 p.val) (by show k.val - 512 - 256 = _; omega))
  · rw [dif_neg h0, dif_neg (by omega), dif_neg (by omega), if_neg h0, if_neg h1, if_neg h2]
    exact (ext2_at (n := 2048) (m := 768) x5 _).trans (congrArg (ext2 (n := 2048) (m := 768) x5 p.val) (by show k.val - 512 - 256 - 1536 = _; omega))

/-- The normalised rows' cotangent. -/
theorem v28 (i) : val_main_v28 (F := Ideal) x2 x3 x4 x5 x7 i = aPart A 3072 (i 0).val (i 1).val := by
  rw [val_main_v28_apply, aPart, ← sum_range 3072]
  refine Finset.sum_congr rfl fun k _ => ?_
  rw [v0 H, H.w]

/-- The weight's gradient. -/
theorem v50 (i) : val_main_v50 (F := Ideal) x0 x2 x3 x4 x5 x6 i = dwPart A 2048 (i 0).val (i 1).val := by
  rw [val_main_v50_apply, val_main_v27_apply, val_main_v26_apply, dwPart, ← sum_range 2048]
  refine Finset.sum_congr rfl fun k _ => ?_
  rw [v0 H, v18 H, mul_comm]

/-- The bias's gradient. -/
theorem v51 (i) : val_main_v51 (F := Ideal) x2 x3 x4 x5 i = dbPart A 2048 (i 1).val := by
  rw [val_main_v51_apply, val_main_v25_apply, Fin.sum_univ_one, val_main_v24_apply, val_main_v23_apply]
  simp only [val_main_cst_4_apply, val_main_cst_5_apply, Ideal.ofBits_def, Half.zero_word, zero_add, v0 H]
  rw [dbPart, ← sum_range 2048]
  refine Finset.sum_congr rfl fun k _ => ?_
  show A.dp k.val (0 * 3072 + (i 1).val) = _
  rw [Nat.zero_mul, Nat.zero_add]

/-- The norm weight's gradient. -/
theorem v52 (i) : val_main_v52 (F := Ideal) x0 x2 x3 x4 x5 x7 i = nwPart A 3072 2048 (i 1).val := by
  rw [val_main_v52_apply, val_main_v34_apply, Fin.sum_univ_one, val_main_v31_apply, val_main_v30_apply]
  simp only [val_main_cst_6_apply, val_main_cst_7_apply, Ideal.ofBits_def, Half.zero_word, zero_add, val_main_v29_apply, v15 H, v28 H, Ideal.mulf_def]
  rw [nwPart, ← sum_range 2048]
  refine Finset.sum_congr rfl fun k _ => ?_
  show xh A k.val (0 * 1024 + (i 1).val) * aPart A 3072 k.val (0 * 1024 + (i 1).val) = _
  rw [Nat.zero_mul, Nat.zero_add, mul_comm]

theorem v33 (i) : val_main_v33 (F := Ideal) x2 x3 x4 x5 x6 x7 i = aPart A 3072 (i 0).val (i 1).val * A.nw (i 1).val := by
  rw [val_main_v33_apply, v28 H, val_main_v32_apply, val_main_v16_apply, H.nw]
  rfl

/-- The norm's slope times the inner product it multiplies, over the row's length. -/
theorem v45 (i) : val_main_v45 (F := Ideal) x0 x2 x3 x4 x5 x6 x7 i
    = Ideal.div ((∑ k ∈ range 1024, A.x (i 0).val k * (aPart A 3072 (i 0).val k * A.nw k))
        * (mhf * Ideal.div (Ideal.rsqrt (ms (A.x (i 0).val))) (ms (A.x (i 0).val)))) wid := by
  rw [val_main_v45_apply, val_main_v44_apply, Fin.sum_univ_one, val_main_v43_apply, val_main_v41_apply, val_main_v37_apply, val_main_v36_apply,
    val_main_v13_apply, val_main_v12_apply, val_main_v11_apply, val_main_v42_apply, v10 H, v9 H]
  simp only [val_main_cst_3_apply, val_main_cst_8_apply, val_main_cst_9_apply, val_main_cst_10_apply, val_main_v35_apply, v33 H, H.x,
    Ideal.ofBits_def, Half.zero_word, zero_add, Ideal.mulf_def, Ideal.hostDivf_def, mul_one, Fin.val_eq_zero, add_zero]
  rw [← sum_range 1024]

/-- The rows' gradient: the chain rule's form is the factored one. -/
theorem v49 (i) : val_main_v49 (F := Ideal) x0 x1 x2 x3 x4 x5 x6 x7 i = dx A 3072 (i 0).val (i 1).val := by
  rw [val_main_v49_apply, val_main_v47_apply, val_main_v48_apply, val_main_v46_apply, val_main_v40_apply, val_main_v39_apply, val_main_v38_apply,
    v45 H, v33 H, v10 H, H.x, H.dres]
  exact (dx_eq (A.x (i 0).val) (A.dres (i 0).val) (fun k => aPart A 3072 (i 0).val k * A.nw k) (i 1).isLt).symm

end Ref

end Cert.MixInGradClaim

end
-- ==== Proof.MixInGrad.lean ====
/- The gradient of the mixing layer's input projection and its norm: the kernel's four results are the reference's, whatever the arguments. -/
module

public import proofs.«01_k».proof.Proof.MixInGradMain
public import proofs.«01_k».proof.Proof.MixInGradFold
public import proofs.«01_k».proof.Proof.MixInGradRef
public import proofs.«01_k».proof.Proof.Gen.MixInGradReferenceIdeal.Run
public import proofs.«01_k».proof.Defs
public import Idealize.ShloMosaic.Lib.Pipeline.ValueKit
public import Idealize.ShloMosaic.Lib.Pointwise
public import Idealize.ShloMosaic.Lib.Claim

@[expose] public section

open Idealize.ShloMosaic Idealize.ShloMosaic.TcCoe Idealize.ShloMosaic.Tactic Idealize.SL.Sem
open Cert.MixInGradIdeal Cert.MixInGradIdeal.Gen Cert.MixInGradIdeal.Hand

noncomputable section

namespace Cert.MixInGradClaim

open Cert.NormGrad

set_option maxRecDepth 16384

/-- The idealized kernel's argument arrays hold the entries of `A`. -/
abbrev Fed (m : (ℓ : Loc nD τ sig) → Buf (Elt Ideal) ℓ) (c : Dev nD) (A : Args) : Prop :=
  Holds A (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

section Blocks
variable (m : (ℓ : Loc nD τ sig) → Buf (Elt Ideal) ℓ) (c : Dev nD)

/-- Each window's block at a point: the row block, the column block, or the whole. -/
theorem idx0 : ∀ t : Fin cfg0.N, (t.val < 4 ∨ 12 ≤ t.val) → win0_0.index t = ![t.val % 4, 0] := by decide +kernel
theorem idx1 : ∀ t : Fin cfg0.N, 12 ≤ t.val → win0_1.index t = ![t.val % 4, 0] := by decide +kernel
theorem idx2 : ∀ t : Fin cfg0.N, t.val < 4 → win0_2.index t = ![t.val % 4, 0] := by decide +kernel
theorem idx3 : ∀ t : Fin cfg0.N, t.val < 4 → win0_3.index t = ![t.val % 4, 0] := by decide +kernel
theorem idx4 : ∀ t : Fin cfg0.N, (4 ≤ t.val ∧ t.val < 12) → win0_4.index t = ![t.val % 4, t.val / 4 - 1] := by decide +kernel
theorem idx5 : ∀ t : Fin cfg0.N, 12 ≤ t.val → win0_5.index t = ![t.val % 4, 0] := by decide +kernel
theorem idx6 : ∀ t : Fin cfg0.N, win0_6.index t = ![0, 0] := by decide +kernel
theorem idx7 : ∀ t : Fin cfg0.N, win0_7.index t = ![0, t.val / 4] := by decide +kernel
theorem idx8 : ∀ t : Fin cfg0.N, 12 ≤ t.val → win0_8.index t = ![t.val % 4, 0] := by decide +kernel
theorem idx9 : ∀ t : Fin cfg0.N, win0_9.index t = ![0, t.val / 4] := by decide +kernel
theorem idx10 : ∀ t : Fin cfg0.N, win0_10.index t = ![0, t.val / 4] := by decide +kernel
theorem idx11 : ∀ t : Fin cfg0.N, win0_11.index t = ![0, 0] := by decide +kernel

/-- The rows of a block. -/
theorem blk0 (t : Fin cfg0.N) (ht : t.val < 4 ∨ 12 ≤ t.val) (a : Fin 512) (b : Fin 1024) :
    iblk m c 0 t (ix2 a b) = m ((c : Thread nD τ).loc main_arg0) (ix2 (⟨512 * (t.val % 4) + a.val, by omega⟩ : Fin 2048) b) := by
  have e := idx0 t ht
  blk_ext [iblk, V, e]

/-- Their direct cotangent. -/
theorem blk1 (t : Fin cfg0.N) (ht : 12 ≤ t.val) (a : Fin 512) (b : Fin 1024) :
    iblk m c 1 t (ix2 a b) = m ((c : Thread nD τ).loc main_arg1) (ix2 (⟨512 * (t.val % 4) + a.val, by omega⟩ : Fin 2048) b) := by
  have e := idx1 t ht
  blk_ext [iblk, V, e]

/-- The product's cotangent: the rows of its first piece, -/
theorem blk2 (t : Fin cfg0.N) (ht : t.val < 4) (a : Fin 512) (b : Fin 512) :
    iblk m c 2 t (ix2 a b) = m ((c : Thread nD τ).loc main_arg2) (ix2 (⟨512 * (t.val % 4) + a.val, by omega⟩ : Fin 2048) b) := by
  have e := idx2 t ht
  blk_ext [iblk, V, e]

/-- of its second, -/
theorem blk3 (t : Fin cfg0.N) (ht : t.val < 4) (a : Fin 512) (b : Fin 256) :
    iblk m c 3 t (ix2 a b) = m ((c : Thread nD τ).loc main_arg3) (ix2 (⟨512 * (t.val % 4) + a.val, by omega⟩ : Fin 2048) b) := by
  have e := idx3 t ht
  blk_ext [iblk, V, e]

/-- of its third, a block of columns at a time, -/
theorem blk4 (t : Fin cfg0.N) (ht : 4 ≤ t.val ∧ t.val < 12) (a : Fin 512) (b : Fin 768) :
    iblk m c 4 t (ix2 a b) = m ((c : Thread nD τ).loc main_arg4) (ix2 (⟨512 * (t.val % 4) + a.val, by omega⟩ : Fin 2048)
      (⟨768 * (t.val / 4 - 1) + b.val, by omega⟩ : Fin 1536)) := by
  have e := idx4 t ht
  blk_ext [iblk, V, e]

/-- and of its fourth. -/
theorem blk5 (t : Fin cfg0.N) (ht : 12 ≤ t.val) (a : Fin 512) (b : Fin 768) :
    iblk m c 5 t (ix2 a b) = m ((c : Thread nD τ).loc main_arg5) (ix2 (⟨512 * (t.val % 4) + a.val, by omega⟩ : Fin 2048) b) := by
  have e := idx5 t ht
  blk_ext [iblk, V, e]

/-- The norm weight as the kernel reads it: one row. -/
theorem entry0 : V m c main_v0 = broadcastInDim S1x1024 ![1] bcast_S1024_S1x1024_1 (m ((c : Thread nD τ).loc main_arg6)) := by
  show StableHlo.after (hostOps0 ++ hostOps0_1) _ _ = _
  unfold hostOps0 hostOps0_1
  simp only [List.cons_append, List.nil_append]
  after_results_simp

/-- The weights the kernel reads are the reference's padded ones. -/
theorem entry2 : V m c main_v2 = Cert.MixInGradReferenceIdeal.Read.val_main_v1 (F := Ideal) (m ((c : Thread nD τ).loc main_arg7)) := by
  show StableHlo.after (hostOps0 ++ hostOps0_1) _ _ = _
  unfold hostOps0 hostOps0_1
  simp only [List.cons_append, List.nil_append]
  after_results_simp
  rfl

/-- The norm weight's row. -/
theorem blk6 (t : Fin cfg0.N) (a : Fin 1) (b : Fin 1024) :
    iblk m c 6 t (ix2 a b) = m ((c : Thread nD τ).loc main_arg6) (ix1 b) := by
  have e := idx6 t
  blk_simp [iblk, e]
  rw [entry0]
  pointwise
  blk_ext [e]

/-- A block of the weight's columns. -/
theorem blk7 (t : Fin cfg0.N) (a : Fin 1024) (b : Fin 768) :
    iblk m c 7 t (ix2 a b) = Cert.MixInGradReferenceIdeal.Read.val_main_v1 (F := Ideal) (m ((c : Thread nD τ).loc main_arg7))
      (ix2 a (⟨768 * (t.val / 4) + b.val, by have := lt_of_lt_of_eq t.isLt N_0; omega⟩ : Fin 3072)) := by
  have e := idx7 t
  blk_simp [iblk, e]
  rw [entry2]
  blk_ext [e]

end Blocks

variable {m : (ℓ : Loc nD τ sig) → Buf (Elt Ideal) ℓ} {c : Dev nD} {A : Args} (H : Fed m c A)

/-- Point number `n` as a point of the grid. -/
theorem pt_at {n : ℕ} (h : n < 16) : (pt n).val = n := Nat.mod_eq_of_lt h

theorem ins_x (n : ℕ) : (ins m c n).x = iblk m c 0 (pt n) := rfl
theorem ins_dres (n : ℕ) : (ins m c n).dres = iblk m c 1 (pt n) := rfl
theorem ins_dq (n : ℕ) : (ins m c n).dq = iblk m c 2 (pt n) := rfl
theorem ins_dkv (n : ℕ) : (ins m c n).dkv = iblk m c 3 (pt n) := rfl
theorem ins_dm (n : ℕ) : (ins m c n).dm = iblk m c 4 (pt n) := rfl
theorem ins_dz (n : ℕ) : (ins m c n).dz = iblk m c 5 (pt n) := rfl
theorem ins_nw (n : ℕ) : (ins m c n).nw = iblk m c 6 (pt n) := rfl
theorem ins_w (n : ℕ) : (ins m c n).w = iblk m c 7 (pt n) := rfl

/-- The column block of a point. -/
theorem co_col : ∀ n : Fin 16, ((co n.val) 0).val = n.val / 4 := by decide +kernel

include H

/-- The cotangent of the first column block's product. -/
theorem dp_0 {b : ℕ} (hb : b < 4) : Has (k0_pay13 (co (4 * 0 + b)) (ins m c (4 * 0 + b)).dq (ins m c (4 * 0 + b)).dkv (ins m c (4 * 0 + b)).dz (ins m c (4 * 0 + b)).dm)
    fun p l => A.dp (512 * b + p) (768 * 0 + l) := by
  intro p l
  have e := pt_at (n := 4 * 0 + b) (by omega)
  rw [dp_first _ _ _ _ _ ((co_col ⟨4 * 0 + b, by omega⟩).trans (by show (4 * 0 + b) / 4 = 0; omega)), H.dp]
  simp only [pieces]
  by_cases h : l.val < 512
  · rw [dif_pos h, if_pos (by omega), ins_dq, blk2 m c _ (by omega)]
    refine (ext2_at (n := 2048) (m := 512) _ _).trans ?_
    simp only [ix2_0, ix2_1, e]
    exact congrArg₂ _ (by omega) (by omega)
  · rw [dif_neg h, if_neg (by omega), if_pos (by omega), ins_dkv, blk3 m c _ (by omega)]
    refine (ext2_at (n := 2048) (m := 256) _ _).trans ?_
    simp only [ix2_0, ix2_1, e]
    exact congrArg₂ _ (by omega) (by omega)

/-- The cotangent of a middle column block's product. -/
theorem dp_1 {j b : ℕ} (hj : j = 1 ∨ j = 2) (hb : b < 4) :
    Has (k0_pay13 (co (4 * j + b)) (ins m c (4 * j + b)).dq (ins m c (4 * j + b)).dkv (ins m c (4 * j + b)).dz (ins m c (4 * j + b)).dm)
      fun p l => A.dp (512 * b + p) (768 * j + l) := by
  intro p l
  have e := pt_at (n := 4 * j + b) (by omega)
  have q := co_col ⟨4 * j + b, by omega⟩
  simp only [show (4 * j + b) / 4 = j by omega] at q
  rw [dp_mid _ _ _ _ _ (by omega), H.dp, ins_dm, blk4 m c _ (by omega)]
  simp only [pieces]
  rw [if_neg (by omega), if_neg (by omega), if_pos (by omega)]
  refine (ext2_at (n := 2048) (m := 1536) _ _).trans ?_
  simp only [ix2_0, ix2_1, e]
  exact congrArg₂ _ (by omega) (by omega)

/-- The cotangent of the last column block's product. -/
theorem dp_3 {b : ℕ} (hb : b < 4) : Has (k0_pay13 (co (4 * 3 + b)) (ins m c (4 * 3 + b)).dq (ins m c (4 * 3 + b)).dkv (ins m c (4 * 3 + b)).dz (ins m c (4 * 3 + b)).dm)
    fun p l => A.dp (512 * b + p) (768 * 3 + l) := by
  intro p l
  have e := pt_at (n := 4 * 3 + b) (by omega)
  rw [dp_last _ _ _ _ _ ((co_col ⟨4 * 3 + b, by omega⟩).trans (by show (4 * 3 + b) / 4 = 3; omega)), H.dp, ins_dz, blk5 m c _ (by omega)]
  simp only [pieces]
  rw [if_neg (by omega), if_neg (by omega), if_neg (by omega)]
  refine (ext2_at (n := 2048) (m := 768) _ _).trans ?_
  simp only [ix2_0, ix2_1, e]
  exact congrArg₂ _ (by omega) (by omega)

/-- So the kernel's input blocks hold the blocks of `A`. -/
theorem feeds : Feeds A (ins m c) where
  x := fun j b hj hb p k => by
    have e := pt_at (n := 4 * j + b) (by omega)
    have q := blk0 m c (pt (4 * j + b)) (by omega) p k
    rw [H.x, ix2_0, ix2_1] at q
    simp only [e] at q
    rw [show (4 * j + b) % 4 = b by omega] at q
    rw [ins_x]
    exact q
  dres := fun b hb p k => by
    have e := pt_at (n := 12 + b) (by omega)
    have q := blk1 m c (pt (12 + b)) (by omega) p k
    rw [H.dres, ix2_0, ix2_1] at q
    simp only [e] at q
    rw [show (12 + b) % 4 = b by omega] at q
    rw [ins_dres]
    exact q
  dp := fun j b hj hb => by
    obtain rfl | h | rfl : j = 0 ∨ (j = 1 ∨ j = 2) ∨ j = 3 := by omega
    · exact dp_0 H hb
    · exact dp_1 H h hb
    · exact dp_3 H hb
  nw := fun n _ u k => by
    rw [ins_nw]
    exact (blk6 m c (pt n) u k).trans ((H.nw _).trans rfl)
  w := fun j b hj hb d l => by
    have e := pt_at (n := 4 * j + b) (by omega)
    have q := blk7 m c (pt (4 * j + b)) d l
    rw [H.w, ix2_0, ix2_1] at q
    simp only [e] at q
    rw [show (4 * j + b) / 4 = j by omega] at q
    rw [ins_w]
    exact q

/-- The rows' gradient. -/
theorem out8 : (dats m 0 c).arrAt 8 (cfgs 0).N = fun i => dx A 3072 (i 0).val (i 1).val := by
  refine (dats m 0 c).arrAt_eq_of_covers 8 _ (by decide +kernel) fun t hf y => ?_
  have h4 : 12 ≤ t.val := (fl8 t).mp hf
  have h8 : t.val < 16 := lt_of_lt_of_eq t.isLt N_0
  have e := idx8 t h4
  blk_simp [e]
  rw [after_8]
  have hb : t.val % 4 < 4 := Nat.mod_lt _ (by decide)
  have h := dxOut_has (feeds H) hb
  rw [show 12 + t.val % 4 = t.val by omega] at h
  idx_vars y
  refine (h _ _).trans ?_
  simp only [ix2_0, ix2_1]
  congr 1 <;> omega

/-- The weight's gradient. -/
theorem out9 : (dats m 0 c).arrAt 9 (cfgs 0).N = fun i => dwPart A 2048 (i 0).val (i 1).val := by
  refine (dats m 0 c).arrAt_eq_of_covers 9 _ (by decide +kernel) fun t hf y => ?_
  have h8 : t.val < 16 := lt_of_lt_of_eq t.isLt N_0
  have e := idx9 t
  blk_simp [e]
  rw [after_9]
  have h := aW_has (feeds H) (j := t.val / 4) (by omega) 4 le_rfl
  idx_vars y
  refine (h _ _).trans ?_
  simp only [ix2_0, ix2_1]
  congr 1 <;> omega

/-- The bias's gradient. -/
theorem out10 : (dats m 0 c).arrAt 10 (cfgs 0).N = fun i => dbPart A 2048 (i 1).val := by
  refine (dats m 0 c).arrAt_eq_of_covers 10 _ (by decide +kernel) fun t hf y => ?_
  have h8 : t.val < 16 := lt_of_lt_of_eq t.isLt N_0
  have h3 : t.val % 4 = 3 := by have := (flush0_10 t).mp hf; omega
  have e := idx10 t
  blk_simp [e]
  rw [after_10, h3]
  have h := aB_has (feeds H) (j := t.val / 4) (by omega) 4 le_rfl
  idx_vars y
  refine (h _ _).trans ?_
  simp only [ix2_0, ix2_1]
  congr 1 <;> omega

/-- The norm weight's gradient. -/
theorem out11 : (dats m 0 c).arrAt 11 (cfgs 0).N = fun i => nwPart A 3072 2048 (i 1).val := by
  refine (dats m 0 c).arrAt_eq_of_covers 11 _ (by decide +kernel) fun t hf y => ?_
  have h8 : t.val < 16 := lt_of_lt_of_eq t.isLt N_0
  have h7 : t.val = 15 := by have := (flush0_11 t).mp hf; omega
  have e := idx11 t
  blk_simp [e]
  rw [after_11, h7]
  have h := nwB_has (feeds H) 4 le_rfl
  idx_vars y
  refine (h _ _).trans ?_
  simp only [ix2_0, ix2_1]

omit H in
/-- The arguments of a memory: the product's cotangent joined from its pieces, the weight padded with columns of zeros. -/
def argsOf (m : (ℓ : Loc nD τ sig) → Buf (Elt Ideal) ℓ) (c : Dev nD) : Args where
  x := ext2 (n := 2048) (m := 1024) (m ((c : Thread nD τ).loc main_arg0))
  dres := ext2 (n := 2048) (m := 1024) (m ((c : Thread nD τ).loc main_arg1))
  dp := pieces (ext2 (n := 2048) (m := 512) (m ((c : Thread nD τ).loc main_arg2))) (ext2 (n := 2048) (m := 256) (m ((c : Thread nD τ).loc main_arg3)))
    (ext2 (n := 2048) (m := 1536) (m ((c : Thread nD τ).loc main_arg4))) (ext2 (n := 2048) (m := 768) (m ((c : Thread nD τ).loc main_arg5)))
  nw := ext1 (n := 1024) (m ((c : Thread nD τ).loc main_arg6))
  w := ext2 (n := 1024) (m := 3072) (Cert.MixInGradReferenceIdeal.Read.val_main_v1 (F := Ideal) (m ((c : Thread nD τ).loc main_arg7)))

omit H in
theorem fed (m : (ℓ : Loc nD τ sig) → Buf (Elt Ideal) ℓ) (c : Dev nD) : Fed m c (argsOf m c) where
  x := fun i => ext2_at _ i
  dres := fun i => ext2_at _ i
  dp := rfl
  nw := fun i => ext1_at _ i
  w := fun i => ext2_at _ i

omit H in
/-- The kernel and the reference end with the same four results, whatever the arguments. -/
theorem values : Cert.algebraic_MixInGradIdeal_MixInGradReferenceIdeal := by
  intro m g m' g' _ ha
  refine ⟨fun c i => dx (argsOf m c) 3072 (i 0).val (i 1).val, fun c i => dwPart (argsOf m c) 2048 (i 0).val (i 1).val,
    fun c i => dbPart (argsOf m c) 2048 (i 1).val, fun c i => nwPart (argsOf m c) 3072 2048 (i 1).val,
    (θ_run _ _ _).mono (fun _ h c => ⟨((h.1 c).1 8).trans (out8 (fed m c)), ((h.1 c).1 9).trans (out9 (fed m c)), ((h.1 c).1 10).trans (out10 (fed m c)),
      ((h.1 c).1 11).trans (out11 (fed m c)), h.2.1 c⟩) (θ_run_and (run_main m g) (frame_main m g)),
    (θ_run _ _ _).mono (fun r h c => ?_) (Cert.MixInGradReferenceIdeal.Value.run m' g')⟩
  obtain ⟨a0, a1, a2, a3, a4, a5, a6, a7⟩ := ha c
  have q := fed m c
  rw [Fed, ← a0, ← a1, ← a2, ← a3, ← a4, ← a5, ← a6, ← a7] at q
  exact ⟨((h c).1.trans (Cert.MixInGradReferenceIdeal.Read.val_main_v49_eq _ _)).trans (funext (Ref.v49 q)),
    ((h c).2.1.trans (Cert.MixInGradReferenceIdeal.Read.val_main_v50_eq _ _ _ _ _ _)).trans (funext (Ref.v50 q)),
    ((h c).2.2.1.trans (Cert.MixInGradReferenceIdeal.Read.val_main_v51_eq _ _ _ _)).trans (funext (Ref.v51 q)),
    ((h c).2.2.2.1.trans (Cert.MixInGradReferenceIdeal.Read.val_main_v52_eq _ _ _ _ _ _)).trans (funext (Ref.v52 q)), (h c).2.2.2.2⟩

end Cert.MixInGradClaim

end
-- ==== Proof.ShortConvBody.lean ====
/- The body of the short convolution's backward call read at an entry: the blocks it is given, what each of its stores holds, and the two rows of windows its scratches keep. -/
module
public import proofs.«01_k».proof.Defs
public import proofs.«01_k».proof.Proof.Gen.ShortConvGradIdeal
public import proofs.«01_k».proof.Proof.Gen.ShortConvGradIdeal.Value
public import Idealize.ShloMosaic.Lib.Pipeline.ValueKit
public import Idealize.ShloMosaic.Lib.Pipeline.ReadBack
public import Idealize.ShloMosaic.Lib.Pointwise
public import Idealize.ShloMosaic.Lib.Claim

@[expose] public section

open Idealize.ShloMosaic Idealize.ShloMosaic.TcCoe Idealize.ShloMosaic.Tactic Idealize.SL.Sem
open Cert.ShortConvGradIdeal Cert.ShortConvGradIdeal.Gen

noncomputable section

namespace Cert.ShortConvGradClaim

set_option maxRecDepth 16384

variable (m : (ℓ : Loc nD τ sig) → Buf (Elt Ideal) ℓ) (c : Dev nD)

theorem idx0 : ∀ t : Fin cfg0.N, win0_0.index t = ![7 - t.val % 8, 1 + t.val / 8] := by decide +kernel
theorem idx1 : ∀ t : Fin cfg0.N, win0_1.index t = ![(7 - t.val % 8) * 32 - 1, 1 + t.val / 8] := by decide +kernel
theorem idx2 : ∀ t : Fin cfg0.N, win0_2.index t = ![0, t.val / 8] := by decide +kernel
theorem idx3 : ∀ t : Fin cfg0.N, win0_3.index t = ![7 - t.val % 8, t.val / 8] := by decide +kernel
theorem idx4 : ∀ t : Fin cfg0.N, win0_4.index t = ![7 - t.val % 8, t.val / 8] := by decide +kernel
theorem idx5 : ∀ t : Fin cfg0.N, win0_5.index t = ![0, t.val / 8] := by decide +kernel

theorem lt16 (t : Fin cfg0.N) : t.val < 16 := lt_of_lt_of_eq t.isLt N_0

/-- Column `q` of point `t`'s block of channels, -/
abbrev chan (t : Fin cfg0.N) (q : Fin 768) : Fin 1536 := ⟨768 * (t.val / 8) + q.val, by have := lt16 t; omega⟩

/-- and row `p` of its block of tokens: the blocks come last to first. -/
abbrev tok (t : Fin cfg0.N) (p : Fin 256) : Fin 2048 := ⟨256 * (7 - t.val % 8) + p.val, by omega⟩

/-- Where the channel's column lies among the projections. -/
abbrev col (q : Fin 1536) : Fin 3072 := ⟨768 + q.val, by omega⟩

/-- A block of the convolved columns, -/
theorem blk0 (t : Fin cfg0.N) (p : Fin 256) (q : Fin 768) : iblk m c 0 t (ix2 p q) = m ((c : Thread nD τ).loc main_arg0) (ix2 (tok t p) (col (chan t q))) := by
  have e := idx0 t
  blk_ext [iblk, V, e]

/-- the eight rows before it, -/
theorem blk1 (t : Fin cfg0.N) (h : t.val % 8 < 7) (p : Fin 8) (q : Fin 768) : iblk m c 1 t (ix2 p q) = m ((c : Thread nD τ).loc main_arg0) (ix2 (⟨256 * (7 - t.val % 8) - 8 + p.val, by omega⟩ : Fin 2048) (col (chan t q))) := by
  have e := idx1 t
  blk_ext [iblk, V, e]

/-- of the taps, -/
theorem blk2 (t : Fin cfg0.N) (k : Fin 4) (q : Fin 768) : iblk m c 2 t (ix2 k q) = m ((c : Thread nD τ).loc main_arg1) (ix2 k (chan t q)) := by
  have e := idx2 t
  blk_ext [iblk, V, e]

/-- and of the result's cotangent. -/
theorem blk3 (t : Fin cfg0.N) (p : Fin 256) (q : Fin 768) : iblk m c 3 t (ix2 p q) = m ((c : Thread nD τ).loc main_arg2) (ix2 (tok t p) (chan t q)) := by
  have e := idx3 t
  blk_ext [iblk, V, e]

theorem pay1 (a : FVec Ideal S1x768 .f32) (s : FVec Ideal S768 .f32) (q : Fin 768) : k0_pay1 a s (ix2 (0 : Fin 1) q) = a (ix2 (0 : Fin 1) q) + s (ix1 q) := by
  pointwise [k0_pay1]

theorem pay2 (d : FVec Ideal S256x768 .f32) (p : Fin 8) (q : Fin 768) : k0_pay2 d (ix2 p q) = d (ix2 (⟨p.val, by omega⟩ : Fin 256) q) := by
  pointwise [k0_pay2]

theorem pay3 (i) : k0_pay3 (F := Ideal) i = (0 : EReal) := by
  rw [eq_ix2 i]
  pointwise [k0_pay3]

theorem pay4 (i) : k0_pay4 (F := Ideal) i = (0 : EReal) := by
  rw [eq_ix2 i]
  pointwise [k0_pay4]

theorem cond5 : ∀ t : Fin cfg0.N, Scalar.cmpi .sgt (Scalar.subi 7#32 (BitVec.ofNat 32 ((grid0.coords t) 1).val)) 0#32 = if t.val % 8 < 7 then 1#1 else 0#1 := by decide +kernel

theorem pay5 (t : Fin cfg0.N) (v : Vec Ideal S8x768 .f32) (p : Fin 8) (q : Fin 768) : k0_pay5 (grid0.coords t) v (ix2 p q) = if t.val % 8 < 7 then v (ix2 p q) else (0 : EReal) := by
  unfold k0_pay5
  dsimp only
  rw [cond5]
  split
  · pointwise [Scalar.select]
    exact congrFun (if_pos rfl) _
  · pointwise [Scalar.select]
    exact (congrFun (if_neg (by decide)) _).trans rfl

theorem pay6 (v : Vec Ideal S256x768 .f32) (i) : k0_pay6 v i = v i := by
  rw [eq_ix2 i]
  pointwise [k0_pay6]

theorem pay7 (w : Vec Ideal S4x768 .f32) (a b d : Vec Ideal S256x768 .f32) (p : Fin 256) (q : Fin 768) :
    k0_pay7 w a b d (ix2 p q) = w (ix2 (3 : Fin 4) q) * a (ix2 p q) + w (ix2 (0 : Fin 4) q) * b (ix2 p q) + w (ix2 (1 : Fin 4) q) * d (ix2 p q) := by
  pointwise [k0_pay7]

theorem pay8 (w : Vec Ideal S4x768 .f32) (q : Fin 768) : k0_pay8 w (ix2 (0 : Fin 1) q) = w (ix2 (2 : Fin 4) q) := by
  pointwise [k0_pay8]

/-- A tap is one of four. -/
theorem four (k : Fin 4) : k = 0 ∨ k = 1 ∨ k = 2 ∨ k = 3 := by omega

/-- The logistic function, -/
def sg (a : EReal) : EReal := Ideal.div 1 (1 + Ideal.exp (0 - a))

/-- and the cotangent of an argument `a` of the swish, of the result's cotangent `d`. -/
def dg (a d : EReal) : EReal := d * (sg a * (1 + a * (1 - sg a)))

theorem pay9 (a b d : Vec Ideal S256x768 .f32) (w : FVec Ideal S1x768 .f32) (p : Fin 256) (q : Fin 768) :
    k0_pay9 a b w d (ix2 p q) = dg (a (ix2 p q) + w (ix2 (0 : Fin 1) q) * b (ix2 p q)) (d (ix2 p q)) := by
  pointwise [k0_pay9, dg, sg]

theorem pay10 (a : FVec Ideal S256x768 .f32) (b : Vec Ideal S256x768 .f32) (w : FVec Ideal S1x768 .f32) (d : Vec Ideal S256x768 .f32) : k0_pay10 a b w d = k0_pay9 a b w d := by
  funext i
  rw [eq_ix2 i]
  pointwise [k0_pay10]

theorem pay11 (w : Vec Ideal S4x768 .f32) (a b d e : Vec Ideal S256x768 .f32) (p : Fin 256) (q : Fin 768) :
    k0_pay11 w a b d e (ix2 p q) = w (ix2 (3 : Fin 4) q) * a (ix2 p q) + w (ix2 (2 : Fin 4) q) * b (ix2 p q) + w (ix2 (1 : Fin 4) q) * d (ix2 p q) + w (ix2 (0 : Fin 4) q) * e (ix2 p q) := by
  pointwise [k0_pay11]

theorem pay12 (a : FVec Ideal S256x768 .f32) (b : Vec Ideal S256x768 .f32) (s : Vec Ideal S1x768 .f32) (q : Fin 768) :
    k0_pay12 a b s (ix2 (0 : Fin 1) q) = s (ix2 (0 : Fin 1) q) + ∑ p : Fin 256, a (ix2 p q) * b (ix2 p q) := by
  pointwise [k0_pay12]

theorem pay13 (a : FVec Ideal S256x768 .f32) (b : Vec Ideal S256x768 .f32) (s : Vec Ideal S1x768 .f32) (q : Fin 768) :
    k0_pay13 a b s (ix2 (0 : Fin 1) q) = s (ix2 (0 : Fin 1) q) + ∑ p : Fin 256, a (ix2 p q) * b (ix2 p q) := by
  pointwise [k0_pay13]

theorem pay14 (a : FVec Ideal S256x768 .f32) (b : Vec Ideal S256x768 .f32) (s : Vec Ideal S1x768 .f32) (q : Fin 768) :
    k0_pay14 a b s (ix2 (0 : Fin 1) q) = s (ix2 (0 : Fin 1) q) + ∑ p : Fin 256, a (ix2 p q) * b (ix2 p q) := by
  pointwise [k0_pay14]

theorem pay15 (s : Vec Ideal S1x768 .f32) (q : Fin 768) : k0_pay15 s (ix2 (0 : Fin 1) q) = s (ix2 (0 : Fin 1) q) := by
  pointwise [k0_pay15]

theorem pay16 (a : FVec Ideal S256x768 .f32) (b : Vec Ideal S256x768 .f32) (q : Fin 768) :
    k0_pay16 a b (ix1 q) = ∑ p : Fin 256, a (ix2 p q) * b (ix2 p q) := by
  pointwise [k0_pay16]

/-- The convolved column `q`, three zeros above it: the row `k` of the padded argument. -/
def xp (u : (⟨S2048x3072, .f32⟩ : BufTy).Contents (Elt Ideal)) (k : ℕ) (q : Fin 1536) : EReal :=
  if h : 3 ≤ k ∧ k < 2051 then u (ix2 (⟨k - 3, by omega⟩ : Fin 2048) (col q)) else 0

/-- The convolution at token `k`, -/
def cv (u : (⟨S2048x3072, .f32⟩ : BufTy).Contents (Elt Ideal)) (w : (⟨S4x1536, .f32⟩ : BufTy).Contents (Elt Ideal)) (k : ℕ) (q : Fin 1536) : EReal :=
  w (ix2 (0 : Fin 4) q) * xp u k q + w (ix2 (1 : Fin 4) q) * xp u (k + 1) q + w (ix2 (2 : Fin 4) q) * xp u (k + 2) q + w (ix2 (3 : Fin 4) q) * xp u (k + 3) q

/-- and its cotangent, zero past the last token. -/
def ct (u : (⟨S2048x3072, .f32⟩ : BufTy).Contents (Elt Ideal)) (w : (⟨S4x1536, .f32⟩ : BufTy).Contents (Elt Ideal)) (d : (⟨S2048x1536, .f32⟩ : BufTy).Contents (Elt Ideal)) (k : ℕ) (q : Fin 1536) : EReal :=
  if h : k < 2048 then dg (cv u w k q) (d (ix2 (⟨k, h⟩ : Fin 2048) q)) else 0

abbrev xm (k : ℕ) (q : Fin 1536) : EReal := xp (m ((c : Thread nD τ).loc main_arg0)) k q
abbrev cm (k : ℕ) (q : Fin 1536) : EReal := ct (m ((c : Thread nD τ).loc main_arg0)) (m ((c : Thread nD τ).loc main_arg1)) (m ((c : Thread nD τ).loc main_arg2)) k q

/-- What the body lays in its first scratch: the block of rows, and above it the eight rows before. -/
abbrev laid (t : Fin cfg0.N) : List (View.Piece (Elt Ideal) S264x768 .f32) :=
  [⟨Rect.unit ![8, 0] ![256, 768] inb_S264x768_S256x768_8_0, k0_pay6 (iblk m c 0 t)⟩,
    ⟨Rect.unit ![0, 0] ![8, 768] inb_S264x768_S8x768_0_0, k0_pay5 (grid0.coords t) (iblk m c 1 t)⟩]

/-- Row `o` of it, from the fifth on, is a row of the padded argument. -/
theorem laid_at (t : Fin cfg0.N) (o : Fin 264) (ho : 5 ≤ o.val) (q : Fin 768) :
    View.canon (laid m c t) (ix2 o q) = xm m c (256 * (7 - t.val % 8) + (o.val - 5)) (chan t q) := by
  unfold xm xp
  by_cases h : 8 ≤ o.val
  · have e : (Rect.unit (s := S264x768) ![8, 0] ![256, 768] inb_S264x768_S256x768_8_0).emb (ix2 (⟨o.val - 8, by omega⟩ : Fin 256) q) = ix2 o q := by
      funext a; apply Fin.ext
      fin_cases a
      · show 8 + 1 * (o.val - 8) = o.val; omega
      · show 0 + 1 * q.val = q.val; omega
    rw [← e, View.canon_cons_emb, pay6, blk0, dif_pos (by omega)]
    exact congrArg (fun a => m ((c : Thread nD τ).loc main_arg0) (ix2 a (col (chan t q)))) (Fin.ext (by show 256 * (7 - t.val % 8) + (o.val - 8) = 256 * (7 - t.val % 8) + (o.val - 5) - 3; omega))
  · rw [View.canon_cons_of_not_mem]
    · have e : (Rect.unit (s := S264x768) ![0, 0] ![8, 768] inb_S264x768_S8x768_0_0).emb (ix2 (⟨o.val, by omega⟩ : Fin 8) q) = ix2 o q := by
        funext a; apply Fin.ext
        fin_cases a
        · show 0 + 1 * o.val = o.val; omega
        · show 0 + 1 * q.val = q.val; omega
      rw [← e, View.canon_cons_emb, pay5]
      by_cases h7 : t.val % 8 < 7
      · rw [if_pos h7, blk1 m c t h7, dif_pos (by omega)]
        exact congrArg (fun a => m ((c : Thread nD τ).loc main_arg0) (ix2 a (col (chan t q)))) (Fin.ext (by show 256 * (7 - t.val % 8) - 8 + o.val = 256 * (7 - t.val % 8) + (o.val - 5) - 3; omega))
      · rw [if_neg h7, dif_neg (by omega)]
    · intro hm
      obtain ⟨i, hi, he⟩ := (LoadRect.mem_set _).mp hm (0 : Fin 2)
      have he' : o.val = 8 + 1 * i := he
      omega

/-- The four windows of 256 rows it reads back, -/
def w5 (t : Fin cfg0.N) : Vec Ideal S256x768 .f32 := (View.whole cc0_scratch0).readCov (Val := Elt Ideal) (laid m c t) (Rect.unit (s := S264x768) ![5, 0] ![256, 768] inb_S264x768_S256x768_5_0).toLoadRect
def w6 (t : Fin cfg0.N) : Vec Ideal S256x768 .f32 := (View.whole cc0_scratch0).readCov (Val := Elt Ideal) (laid m c t) (Rect.unit (s := S264x768) ![6, 0] ![256, 768] inb_S264x768_S256x768_6_0).toLoadRect
def w7 (t : Fin cfg0.N) : Vec Ideal S256x768 .f32 := (View.whole cc0_scratch0).readCov (Val := Elt Ideal) (laid m c t) (Rect.unit (s := S264x768) ![7, 0] ![256, 768] inb_S264x768_S256x768_7_0).toLoadRect
def w8 (t : Fin cfg0.N) : Vec Ideal S256x768 .f32 := (View.whole cc0_scratch0).readCov (Val := Elt Ideal) (laid m c t) (Rect.unit (s := S264x768) ![8, 0] ![256, 768] inb_S264x768_S256x768_8_0).toLoadRect

/-- A window of it, from any row from the fifth on. -/
theorem win_at (t : Fin cfg0.N) (o : ℕ) (ho : 5 ≤ o) (ho' : o ≤ 8) (inb) (p : Fin 256) (q : Fin 768) :
    (View.whole cc0_scratch0).readCov (Val := Elt Ideal) (laid m c t) (Rect.unit (s := S264x768) ![o, 0] ![256, 768] inb).toLoadRect (ix2 p q)
      = xm m c (256 * (7 - t.val % 8) + p.val + (o - 5)) (chan t q) := by
  rw [View.readCov_eq_canon']
  have e : (Rect.unit (s := S264x768) ![o, 0] ![256, 768] inb).toLoadRect.idx (ix2 p q) = ix2 (⟨o + p.val, by omega⟩ : Fin 264) q := by
    funext a; apply Fin.ext
    fin_cases a
    · show o + 1 * p.val = o + p.val; omega
    · show 0 + 1 * q.val = q.val; omega
  show View.canon (laid m c t) ((Rect.unit (s := S264x768) ![o, 0] ![256, 768] inb).toLoadRect.idx (ix2 p q)) = _
  rw [e, laid_at m c t _ (by show 5 ≤ o + p.val; omega)]
  exact congrArg (fun k => xm m c k (chan t q)) (by show 256 * (7 - t.val % 8) + (o + p.val - 5) = _; omega)

theorem w5_at (t : Fin cfg0.N) (p : Fin 256) (q : Fin 768) : w5 m c t (ix2 p q) = xm m c (256 * (7 - t.val % 8) + p.val) (chan t q) :=
  win_at m c t 5 (by decide) (by decide) _ p q
theorem w6_at (t : Fin cfg0.N) (p : Fin 256) (q : Fin 768) : w6 m c t (ix2 p q) = xm m c (256 * (7 - t.val % 8) + p.val + 1) (chan t q) :=
  win_at m c t 6 (by decide) (by decide) _ p q
theorem w7_at (t : Fin cfg0.N) (p : Fin 256) (q : Fin 768) : w7 m c t (ix2 p q) = xm m c (256 * (7 - t.val % 8) + p.val + 2) (chan t q) :=
  win_at m c t 7 (by decide) (by decide) _ p q
theorem w8_at (t : Fin cfg0.N) (p : Fin 256) (q : Fin 768) : w8 m c t (ix2 p q) = xm m c (256 * (7 - t.val % 8) + p.val + 3) (chan t q) :=
  win_at m c t 8 (by decide) (by decide) _ p q

/-- and the cotangent of the convolution it computes from them. -/
def dac (t : Fin cfg0.N) : FVec Ideal S256x768 .f32 :=
  k0_pay9 (k0_pay7 (iblk m c 2 t) (w8 m c t) (w5 m c t) (w6 m c t)) (w7 m c t) (k0_pay8 (iblk m c 2 t)) (iblk m c 3 t)

/-- The taps are added up in another order than the reference's. -/
theorem reorder (a b d e : EReal) : e + a + b + d = a + b + d + e := by abel

/-- It is the convolution's cotangent at the block's tokens. -/
theorem dac_at (t : Fin cfg0.N) (p : Fin 256) (q : Fin 768) : dac m c t (ix2 p q) = cm m c (256 * (7 - t.val % 8) + p.val) (chan t q) := by
  unfold dac cm ct
  rw [pay9, pay7, pay8, w5_at, w6_at, w7_at, w8_at, blk2, blk2, blk2, blk2, blk3, dif_pos (by omega)]
  refine congrArg (fun a => dg a _) ?_
  exact reorder _ _ _ _

theorem fold5 (t : Fin cfg0.N) : (View.whole cc0_scratch0).readCov (Val := Elt Ideal) (laid m c t) (Rect.unit (s := S264x768) ![5, 0] ![256, 768] inb_S264x768_S256x768_5_0).toLoadRect = w5 m c t := rfl
theorem fold6 (t : Fin cfg0.N) : (View.whole cc0_scratch0).readCov (Val := Elt Ideal) (laid m c t) (Rect.unit (s := S264x768) ![6, 0] ![256, 768] inb_S264x768_S256x768_6_0).toLoadRect = w6 m c t := rfl
theorem fold7 (t : Fin cfg0.N) : (View.whole cc0_scratch0).readCov (Val := Elt Ideal) (laid m c t) (Rect.unit (s := S264x768) ![7, 0] ![256, 768] inb_S264x768_S256x768_7_0).toLoadRect = w7 m c t := rfl
theorem fold8 (t : Fin cfg0.N) : (View.whole cc0_scratch0).readCov (Val := Elt Ideal) (laid m c t) (Rect.unit (s := S264x768) ![8, 0] ![256, 768] inb_S264x768_S256x768_8_0).toLoadRect = w8 m c t := rfl
theorem foldD (t : Fin cfg0.N) : k0_pay9 (k0_pay7 (iblk m c 2 t) (w8 m c t) (w5 m c t) (w6 m c t)) (w7 m c t) (k0_pay8 (iblk m c 2 t)) (iblk m c 3 t) = dac m c t := rfl

end Cert.ShortConvGradClaim

end
-- ==== Proof.ShortConvRows.lean ====
/- The two results of the short convolution's backward call at an entry: what the kernel ends with is a sum over the four taps, and one over all tokens. -/
module

public import proofs.«01_k».proof.Proof.ShortConvBody
public import Idealize.ShloMosaic.Lib.WritesUnit

@[expose] public section

open Idealize.ShloMosaic Idealize.ShloMosaic.TcCoe Idealize.ShloMosaic.Tactic Idealize.SL.Sem
open Cert.ShortConvGradIdeal Cert.ShortConvGradIdeal.Gen

noncomputable section

namespace Cert.ShortConvGradClaim

set_option maxRecDepth 16384

variable (m : (ℓ : Loc nD τ sig) → Buf (Elt Ideal) ℓ) (c : Dev nD)

/-- After a point the second scratch keeps, below the block's rows, the first eight of them. -/
theorem kept_at (t : Fin cfg0.N) (p : Fin 8) (q : Fin 768) :
    (outsAt0 m c t.val t.isLt).2.2 (ix2 (⟨256 + p.val, by omega⟩ : Fin 264) q) = cm m c (256 * (7 - t.val % 8) + p.val) (chan t q) := by
  have e : (Rect.unit (s := S264x768) ![256, 0] ![8, 768] inb_S264x768_S8x768_256_0).emb (ix2 p q) = ix2 (⟨256 + p.val, by omega⟩ : Fin 264) q := by
    funext a; apply Fin.ext
    fin_cases a
    · show 256 + 1 * p.val = 256 + p.val; omega
    · show 0 + 1 * q.val = q.val; omega
  by_cases h : t.val % 8 = 0
  · rw [outsAt0_A m c t h]
    frame_out
    simp only [pay10, fold5, fold6, fold7, fold8, foldD]
    rw [← e, View.canon_cons_emb, pay2]
    exact dac_at m c t _ q
  · rw [outsAt0_B m c t h]
    frame_out
    simp only [pay10, fold5, fold6, fold7, fold8, foldD]
    rw [← e, View.canon_cons_emb, pay2]
    exact dac_at m c t _ q

/-- A window of the second scratch at the first point of a block of channels: below the block's rows lie zeros, -/
theorem backA (t : Fin cfg0.N) (h : t.val % 8 = 0) (o : ℕ) (ho : o ≤ 3) (inb) (p : Fin 256) (q : Fin 768) :
    (View.whole cc0_scratch1).readCov (Val := Elt Ideal) [⟨Rect.unit (s := S264x768) ![0, 0] ![256, 768] inb_S264x768_S256x768_0_0, dac m c t⟩, ⟨Rect.unit (s := S264x768) ![256, 0] ![8, 768] inb_S264x768_S8x768_256_0, k0_pay4 (F := Ideal)⟩]
      (Rect.unit (s := S264x768) ![o, 0] ![256, 768] inb).toLoadRect (ix2 p q) = cm m c (256 * (7 - t.val % 8) + p.val + o) (chan t q) := by
  rw [View.readCov_eq_canon']
  have e : (Rect.unit (s := S264x768) ![o, 0] ![256, 768] inb).toLoadRect.idx (ix2 p q) = ix2 (⟨o + p.val, by omega⟩ : Fin 264) q := by
    funext a; apply Fin.ext
    fin_cases a
    · show o + 1 * p.val = o + p.val; omega
    · show 0 + 1 * q.val = q.val; omega
  show View.canon _ ((Rect.unit (s := S264x768) ![o, 0] ![256, 768] inb).toLoadRect.idx (ix2 p q)) = _
  rw [e]
  by_cases hp : o + p.val < 256
  · have e' : (Rect.unit (s := S264x768) ![0, 0] ![256, 768] inb_S264x768_S256x768_0_0).emb (ix2 (⟨o + p.val, hp⟩ : Fin 256) q) = ix2 (⟨o + p.val, by omega⟩ : Fin 264) q := by
      funext a; apply Fin.ext
      fin_cases a
      · show 0 + 1 * (o + p.val) = o + p.val; omega
      · show 0 + 1 * q.val = q.val; omega
    rw [← e', View.canon_cons_emb, dac_at]
    exact congrArg (fun k => cm m c k (chan t q)) (by show 256 * (7 - t.val % 8) + (o + p.val) = _; omega)
  · rw [View.canon_cons_of_not_mem]
    · have e' : (Rect.unit (s := S264x768) ![256, 0] ![8, 768] inb_S264x768_S8x768_256_0).emb (ix2 (⟨o + p.val - 256, by omega⟩ : Fin 8) q) = ix2 (⟨o + p.val, by omega⟩ : Fin 264) q := by
        funext a; apply Fin.ext
        fin_cases a
        · show 256 + 1 * (o + p.val - 256) = o + p.val; omega
        · show 0 + 1 * q.val = q.val; omega
      rw [← e', View.canon_cons_emb, pay4]
      unfold cm ct
      rw [dif_neg (by omega)]
    · intro hm
      obtain ⟨i, hi, he⟩ := (LoadRect.mem_set _).mp hm (0 : Fin 2)
      have he' : o + p.val = 0 + 1 * i := he
      have hi' : i < 256 := hi
      omega

/-- One store read back, inside its rectangle and outside. -/
theorem over_at {sg : RefSig} {κ : Kind} {sp : Space} {s : Shape} {e : EltTy} {Val : EltTy → Type} (v : View sg κ sp s e) (f : v.ty.Contents Val) (r : Rect s) (w : r.shape.Idx → Val e)
    (x : r.shape.Idx) (y : s.Idx) (h : r.emb x = y) : v.read Val (v.writes Val f [⟨r, w⟩]) y = w x := by
  subst h
  exact View.read_writes_cons_emb ..

theorem under_at {sg : RefSig} {κ : Kind} {sp : Space} {s : Shape} {e : EltTy} {Val : EltTy → Type} (v : View sg κ sp s e) (f : v.ty.Contents Val) (r : Rect s) (w : r.shape.Idx → Val e)
    (y : s.Idx) (h : y ∉ r.set) : v.read Val (v.writes Val f [⟨r, w⟩]) y = v.read Val f y := by
  rw [View.writes_cons, View.read_slice_write_of_not_mem r _ _ _ (by rwa [Rect.map_emb_univ]), View.writes_nil]

/-- and at a later point the first rows of the block after. -/
theorem backB (t : Fin cfg0.N) (h : ¬t.val % 8 = 0) (o : ℕ) (ho : o ≤ 3) (inb) (p : Fin 256) (q : Fin 768) :
    View.ld (View.read (Elt Ideal) (View.whole cc0_scratch1) ((View.whole cc0_scratch1).writes (Elt Ideal)
        ((Memref.isWhole_whole cc0_scratch1).unread (outsAt0 m c (t.val - 1) (Nat.lt_of_le_of_lt (Nat.sub_le _ _) t.isLt)).2.2)
        [⟨Rect.unit (s := S264x768) ![0, 0] ![256, 768] inb_S264x768_S256x768_0_0, dac m c t⟩]))
      (Rect.unit (s := S264x768) ![o, 0] ![256, 768] inb) (ix2 p q) = cm m c (256 * (7 - t.val % 8) + p.val + o) (chan t q) := by
  have ht := lt16 t
  rw [View.ld_unit_apply_of _ _ _ _ _ (ix2 (⟨o + p.val, by omega⟩ : Fin 264) q) (by
    intro a
    fin_cases a
    · rfl
    · show q.val = 0 + q.val; omega)]
  by_cases hp : o + p.val < 256
  · have e : (Rect.unit (s := S264x768) ![0, 0] ![256, 768] inb_S264x768_S256x768_0_0).emb (ix2 (⟨o + p.val, hp⟩ : Fin 256) q) = ix2 (⟨o + p.val, by omega⟩ : Fin 264) q := by
      funext a; apply Fin.ext
      fin_cases a
      · show 0 + 1 * (o + p.val) = o + p.val; omega
      · show 0 + 1 * q.val = q.val; omega
    rw [over_at _ _ _ _ _ _ e, dac_at]
    exact congrArg (fun k => cm m c k (chan t q)) (by show 256 * (7 - t.val % 8) + (o + p.val) = _; omega)
  · rw [under_at _ _ _ _ _ (fun hm => by
      obtain ⟨i, hi, he⟩ := (LoadRect.mem_set _).mp hm (0 : Fin 2)
      have he' : o + p.val = 0 + 1 * i := he
      have hi' : i < 256 := hi
      omega)]
    rw [read_unread_whole]
    have hk := kept_at m c ⟨t.val - 1, Nat.lt_of_le_of_lt (Nat.sub_le _ _) t.isLt⟩ ⟨o + p.val - 256, by omega⟩ q
    have e : (ix2 (⟨o + p.val, by omega⟩ : Fin 264) q : S264x768.Idx) = ix2 (⟨256 + (o + p.val - 256), by omega⟩ : Fin 264) q :=
      congrArg (fun a => ix2 a q) (Fin.ext (by show o + p.val = 256 + (o + p.val - 256); omega))
    rw [e]
    refine hk.trans (congrArg₂ (cm m c) ?_ (Fin.ext ?_))
    · show 256 * (7 - (t.val - 1) % 8) + (o + p.val - 256) = _; omega
    · show 768 * ((t.val - 1) / 8) + q.val = 768 * (t.val / 8) + q.val; omega

/-- The tap `k` of channel `q`. -/
abbrev wm (k : Fin 4) (q : Fin 1536) : EReal := m ((c : Thread nD τ).loc main_arg1) (ix2 k q)

/-- A point's block of the argument's gradient: the convolution's cotangent carried back through the taps. -/
theorem out4_at (t : Fin cfg0.N) (p : Fin 256) (q : Fin 768) : (outsAt0 m c t.val t.isLt).1 (ix2 p q)
    = wm m c 3 (chan t q) * cm m c (256 * (7 - t.val % 8) + p.val) (chan t q)
      + wm m c 2 (chan t q) * cm m c (256 * (7 - t.val % 8) + p.val + 1) (chan t q)
      + wm m c 1 (chan t q) * cm m c (256 * (7 - t.val % 8) + p.val + 2) (chan t q)
      + wm m c 0 (chan t q) * cm m c (256 * (7 - t.val % 8) + p.val + 3) (chan t q) := by
  by_cases h : t.val % 8 = 0
  · rw [outsAt0_A m c t h]
    frame_out
    simp only [pay10, fold5, fold6, fold7, fold8, foldD]
    rw [pay11, blk2, blk2, blk2, blk2, backA m c t h 0 (by decide), backA m c t h 1 (by decide), backA m c t h 2 (by decide), backA m c t h 3 (by decide)]
    rfl
  · rw [outsAt0_B m c t h]
    frame_out
    simp only [pay10, fold5, fold6, fold7, fold8, foldD]
    rw [pay11, blk2, blk2, blk2, blk2, View.readCov_cons_toLoadRect, dac_at, backB m c t h 1 (by decide), backB m c t h 2 (by decide), backB m c t h 3 (by decide)]

/-- A row stored over the taps' gradient, read back on that row and on another; -/
theorem row_hit (k : Fin 4) (o : ℕ) (ho : o = k.val) (inb) (w : S1x768.Idx → Elt Ideal .f32) (L : List (View.Piece (Elt Ideal) S4x768 .f32)) (q : Fin 768) :
    View.canon ((⟨Rect.unit (s := S4x768) ![o, 0] ![1, 768] inb, w⟩ : View.Piece (Elt Ideal) S4x768 .f32) :: L) (ix2 k q) = w (ix2 (0 : Fin 1) q) := by
  have e : (Rect.unit (s := S4x768) ![o, 0] ![1, 768] inb).emb (ix2 (0 : Fin 1) q) = ix2 k q := by
    funext a; apply Fin.ext
    fin_cases a
    · show o + 1 * 0 = k.val; omega
    · show 0 + 1 * q.val = q.val; omega
  rw [← e]
  exact View.canon_cons_emb (Rect.unit (s := S4x768) ![o, 0] ![1, 768] inb) w L (ix2 (0 : Fin 1) q)

theorem row_miss (k : Fin 4) (o : ℕ) (ho : o ≠ k.val) (inb) (w : S1x768.Idx → Elt Ideal .f32) (L : List (View.Piece (Elt Ideal) S4x768 .f32)) (q : Fin 768) :
    View.canon ((⟨Rect.unit (s := S4x768) ![o, 0] ![1, 768] inb, w⟩ : View.Piece (Elt Ideal) S4x768 .f32) :: L) (ix2 k q) = View.canon L (ix2 k q) := by
  refine View.canon_cons_of_not_mem _ L fun hm => ?_
  obtain ⟨i, hi, he⟩ := (LoadRect.mem_set _).mp hm (0 : Fin 2)
  have he' : k.val = o + 1 * i := he
  have hi' : i < 1 := hi
  omega

/-- and a row loaded from it. -/
theorem row_ld (k : Fin 4) (o : ℕ) (ho : o = k.val) (inb) (X : S4x768.Idx → Elt Ideal .f32) (q : Fin 768) :
    View.ld X (Rect.unit (s := S4x768) ![o, 0] ![1, 768] inb) (ix2 (0 : Fin 1) q) = X (ix2 k q) := by
  refine View.ld_unit_apply_of _ _ _ _ _ (ix2 k q) fun a => ?_
  fin_cases a
  · show k.val = o + 0; omega
  · show q.val = 0 + q.val; omega

/-- What a point adds to the gradient of tap `k`. -/
def add5 (t : Fin cfg0.N) (k : Fin 4) (q : Fin 768) : EReal :=
  ∑ p : Fin 256, cm m c (256 * (7 - t.val % 8) + p.val) (chan t q) * xm m c (256 * (7 - t.val % 8) + p.val + k.val) (chan t q)

/-- The first point of a block of channels starts from zeros, -/
theorem out5_A (t : Fin cfg0.N) (h : t.val % 8 = 0) (k : Fin 4) (q : Fin 768) : (outsAt0 m c t.val t.isLt).2.1 (ix2 k q) = 0 + add5 m c t k q := by
  unfold add5
  rw [outsAt0_A m c t h]
  frame_open
  simp (disch := decide) only [↓ View.readCov_skip, ↓ View.readCov_fill]
  frame_out
  simp only [pay10, fold5, fold6, fold7, fold8, foldD]
  rcases four k with rfl | rfl | rfl | rfl
  · rw [row_miss 0 2 (by decide), row_miss 0 1 (by decide), row_hit 0 0 (by decide), pay13, row_ld 0 0 (by decide), pay3]
    simp only [dac_at, w5_at]
    rfl
  · rw [row_miss 1 2 (by decide), row_hit 1 1 (by decide), pay14, row_ld 1 1 (by decide), pay3]
    simp only [dac_at, w6_at]
    rfl
  · rw [row_hit 2 2 (by decide), pay1, pay15, pay16, row_ld 2 2 (by decide), pay3]
    simp only [dac_at, w7_at]
    rfl
  · rw [row_miss 3 2 (by decide), row_miss 3 1 (by decide), row_miss 3 0 (by decide), row_hit 3 3 (by decide), pay12, row_ld 3 3 (by decide), pay3]
    simp only [dac_at, w8_at]
    rfl

/-- and a later one goes on from the point before. -/
theorem out5_B (t : Fin cfg0.N) (h : ¬t.val % 8 = 0) (k : Fin 4) (q : Fin 768) : (outsAt0 m c t.val t.isLt).2.1 (ix2 k q)
    = (outsAt0 m c (t.val - 1) (Nat.lt_of_le_of_lt (Nat.sub_le _ _) t.isLt)).2.1 (ix2 k q) + add5 m c t k q := by
  unfold add5
  rw [outsAt0_B m c t h]
  frame_out
  simp only [pay10, fold5, fold6, fold7, fold8, foldD]
  rcases four k with rfl | rfl | rfl | rfl
  · rw [row_miss 0 2 (by decide), row_miss 0 1 (by decide), row_hit 0 0 (by decide), pay13, row_ld 0 0 (by decide)]
    simp only [dac_at, w5_at]
    rfl
  · rw [row_miss 1 2 (by decide), row_hit 1 1 (by decide), pay14, row_ld 1 1 (by decide)]
    simp only [dac_at, w6_at]
    rfl
  · rw [row_hit 2 2 (by decide), pay1, pay15, pay16, row_ld 2 2 (by decide)]
    simp only [dac_at, w7_at]
    rfl
  · rw [row_miss 3 2 (by decide), row_miss 3 1 (by decide), row_miss 3 0 (by decide), row_hit 3 3 (by decide), pay12, row_ld 3 3 (by decide)]
    simp only [dac_at, w8_at]
    rfl

/-- After the last point of a block of channels the taps' gradient is a sum over all tokens. -/
theorem out5_at (t : Fin cfg0.N) (h : t.val % 8 = 7) (k : Fin 4) (q : Fin 768) : (outsAt0 m c t.val t.isLt).2.1 (ix2 k q)
    = ∑ s : Fin 2048, cm m c s.val (chan t q) * xm m c (s.val + k.val) (chan t q) := by
  have ht := lt16 t
  rw [Pipeline.eq_sum_of_reset_step_apply_of_mod (M := EReal) (N := cfg0.N) (fun n h => (outsAt0 m c n h).2.1) 8 (fun _ => 0)
    (fun n i => if hn : n < cfg0.N then add5 m c ⟨n, hn⟩ (i 0) (i 1) else 0)
    (fun t h j => ?_) (fun t h j => ?_) t h (ix2 k q), zero_add]
  · rw [← Finset.sum_range_reflect, Finset.sum_range]
    refine (Finset.sum_congr rfl fun b _ => ?_).trans (Fin.sum_mul_add_congr (S := 8) (n := 256)
      (F := fun b p => cm m c (b.val * 256 + p.val) (chan t q) * xm m c (b.val * 256 + p.val + k.val) (chan t q))
      (f := fun s => cm m c s.val (chan t q) * xm m c (s.val + k.val) (chan t q)) fun b p hl => rfl)
    have hb := b.isLt
    have hn : 8 * (t.val / 8) + (7 + 1 - 1 - b.val) < cfg0.N := by show _ < 16; omega
    have e1 : 7 - (8 * (t.val / 8) + (7 + 1 - 1 - b.val)) % 8 = b.val := by omega
    have e2 : chan ⟨8 * (t.val / 8) + (7 + 1 - 1 - b.val), hn⟩ q = chan t q := by
      apply Fin.ext
      show 768 * ((8 * (t.val / 8) + (7 + 1 - 1 - b.val)) / 8) + q.val = 768 * (t.val / 8) + q.val
      omega
    rw [dif_pos hn]
    unfold add5
    refine Finset.sum_congr rfl fun p _ => ?_
    show cm m c (256 * (7 - (8 * (t.val / 8) + (7 + 1 - 1 - b.val)) % 8) + p.val) (chan ⟨8 * (t.val / 8) + (7 + 1 - 1 - b.val), hn⟩ q)
      * xm m c (256 * (7 - (8 * (t.val / 8) + (7 + 1 - 1 - b.val)) % 8) + p.val + k.val) (chan ⟨8 * (t.val / 8) + (7 + 1 - 1 - b.val), hn⟩ q) = _
    rw [e1, e2, Nat.mul_comm]
  · obtain ⟨a, b, rfl⟩ : ∃ (a : Fin 4) (b : Fin 768), j = ix2 a b := ⟨j 0, j 1, eq_ix2 j⟩
    rw [dif_pos t.isLt]
    exact out5_A m c t h a b
  · obtain ⟨a, b, rfl⟩ : ∃ (a : Fin 4) (b : Fin 768), j = ix2 a b := ⟨j 0, j 1, eq_ix2 j⟩
    rw [dif_pos t.isLt]
    exact out5_B m c t h a b

end Cert.ShortConvGradClaim

end
-- ==== Proof.ShortConvRef.lean ====
/- The reference's gradients of the short convolution at an entry. -/
module

public import proofs.«01_k».proof.Proof.ShortConvBody
public import proofs.«01_k».proof.Proof.Reals
public import proofs.«01_k».proof.Proof.Gen.ShortConvGradReferenceIdeal
public import proofs.«01_k».proof.Proof.Gen.ShortConvGradReferenceIdeal.Run
public import proofs.«01_k».proof.Proof.Gen.ShortConvGradReferenceIdeal.Read

@[expose] public section

open Idealize.ShloMosaic Idealize.ShloMosaic.TcCoe Idealize.ShloMosaic.Tactic Idealize.SL.Sem
open Cert.ShortConvGradReferenceIdeal Cert.ShortConvGradReferenceIdeal.Read

noncomputable section

namespace Cert.ShortConvGradClaim

set_option maxRecDepth 16384

variable (u : (⟨S2048x3072, .f32⟩ : BufTy).Contents (Elt Ideal)) (w : (⟨S4x1536, .f32⟩ : BufTy).Contents (Elt Ideal)) (d : (⟨S2048x1536, .f32⟩ : BufTy).Contents (Elt Ideal))

/-- The padded rows, -/
theorem ref2 (k : Fin 2051) (q : Fin 1536) : val_main_v2 (F := Ideal) u (ix2 k q) = xp u k.val q := by
  pointwise [val_main_v2, val_main_v1, val_main_v0, val_main_cst]
  unfold xp
  have hk := k.isLt
  by_cases h : k.val < 3
  · rw [dif_pos h, dif_neg (by omega)]
  · rw [dif_neg h, dif_pos (by omega)]

/-- their four windows, -/
theorem ref6 (t : Fin 2048) (q : Fin 1536) : val_main_v6 (F := Ideal) u (ix2 t q) = xp u t.val q := by
  pointwise [val_main_v6]
  exact ref2 u _ q

theorem ref12 (t : Fin 2048) (q : Fin 1536) : val_main_v12 (F := Ideal) u (ix2 t q) = xp u (t.val + 1) q := by
  pointwise [val_main_v12]
  exact (ref2 u _ q).trans (congrArg (fun k => xp u k q) (Nat.add_comm _ _))

theorem ref19 (t : Fin 2048) (q : Fin 1536) : val_main_v19 (F := Ideal) u (ix2 t q) = xp u (t.val + 2) q := by
  pointwise [val_main_v19]
  exact (ref2 u _ q).trans (congrArg (fun k => xp u k q) (Nat.add_comm _ _))

theorem ref26 (t : Fin 2048) (q : Fin 1536) : val_main_v26 (F := Ideal) u (ix2 t q) = xp u (t.val + 3) q := by
  pointwise [val_main_v26]
  exact (ref2 u _ q).trans (congrArg (fun k => xp u k q) (Nat.add_comm _ _))

/-- the convolution, -/
theorem ref30 (t : Fin 2048) (q : Fin 1536) : val_main_v30 (F := Ideal) u w (ix2 t q) = cv u w t.val q := by
  pointwise [val_main_v30, val_main_v29, val_main_v28, val_main_v27, val_main_v25, val_main_v24, val_main_v23, val_main_v22, val_main_v21, val_main_v20, val_main_v18, val_main_v17, val_main_v16, val_main_v15, val_main_v14, val_main_v13, val_main_v11, val_main_v10, val_main_v9, val_main_v8, val_main_v7, val_main_v5, val_main_v4]
  rw [ref6, ref12, ref19, ref26]
  rfl

/-- and the logistic function of it. -/
theorem ref31 (t : Fin 2048) (q : Fin 1536) : val_main_v31_2 (F := Ideal) u w (ix2 t q) = sg (cv u w t.val q) := by
  pointwise [val_main_v31_2, val_main_call0_v0, val_main_call0_v1, val_main_call0_v2, val_main_call0_v3, val_main_call0_v4, val_main_call0_cst, val_main_call0_cst_0]
  rw [ref30, sg, zero_sub]

/-- What the precondition says of the arguments: every entry read is a real number. -/
structure Finite : Prop where
  u (t : Fin 2048) (q : Fin 1536) : ∃ a : ℝ, u (ix2 t (col q)) = (a : EReal)
  w (k : Fin 4) (q : Fin 1536) : ∃ a : ℝ, w (ix2 k q) = (a : EReal)
  d (t : Fin 2048) (q : Fin 1536) : ∃ a : ℝ, d (ix2 t q) = (a : EReal)

variable {u w d}

theorem Finite.xp (hf : Finite u w d) (k : ℕ) (q : Fin 1536) : ∃ a : ℝ, Cert.ShortConvGradClaim.xp u k q = (a : EReal) := by
  unfold Cert.ShortConvGradClaim.xp
  split
  · exact hf.u _ q
  · exact ⟨0, rfl⟩

theorem Finite.cv (hf : Finite u w d) (k : ℕ) (q : Fin 1536) : ∃ a : ℝ, Cert.ShortConvGradClaim.cv u w k q = (a : EReal) := by
  obtain ⟨w0, h0⟩ := hf.w 0 q
  obtain ⟨w1, h1⟩ := hf.w 1 q
  obtain ⟨w2, h2⟩ := hf.w 2 q
  obtain ⟨w3, h3⟩ := hf.w 3 q
  obtain ⟨x0, g0⟩ := hf.xp k q
  obtain ⟨x1, g1⟩ := hf.xp (k + 1) q
  obtain ⟨x2, g2⟩ := hf.xp (k + 2) q
  obtain ⟨x3, g3⟩ := hf.xp (k + 3) q
  refine ⟨w0 * x0 + w1 * x1 + w2 * x2 + w3 * x3, ?_⟩
  unfold Cert.ShortConvGradClaim.cv
  rw [h0, h1, h2, h3, g0, g1, g2, g3]
  push_cast
  rfl

/-- The cotangent of a real number by the product rule is the kernel's. -/
theorem dg_real (a d : ℝ) : (d : EReal) * sg a + (a : EReal) * d * (sg a * (1 - sg a)) = dg a d := by
  unfold dg
  have e : sg (a : EReal) = ((Cert.Half.sg a : ℝ) : EReal) := by
    unfold sg
    rw [zero_sub]
    exact Cert.Half.logistic_real a
  rw [e, ← EReal.coe_one]
  simp only [← EReal.coe_mul, ← EReal.coe_add, ← EReal.coe_sub]
  congr 1
  ring

/-- The reference's cotangent of the convolution. -/
theorem ref32 (hf : Finite u w d) (t : Fin 2048) (q : Fin 1536) : val_main_v32 (F := Ideal) u w d (ix2 t q) = ct u w d t.val q := by
  pointwise [val_main_v32, val_main_call1_v0, val_main_call1_v1, val_main_call1_v2, val_main_v31_1, val_main_call0_v7, val_main_call0_v6, val_main_call0_cst_1]
  rw [ref30, ref31]
  unfold ct
  rw [dif_pos t.isLt]
  obtain ⟨a, ha⟩ := hf.cv t.val q
  obtain ⟨b, hb⟩ := hf.d t q
  rw [ha, show d (ix2 (⟨t.val, t.isLt⟩ : Fin 2048) q) = (b : EReal) from hb]
  exact dg_real a b

/-- A tap's share of a row's gradient, zero past the last token. -/
theorem share (hf : Finite u w d) (g : EReal) (k n : ℕ) (e : k = n) (q : Fin 1536) (P : Prop) [Decidable P] (hP : P ↔ n < 2048) (hk : P → k < 2048) :
    (if h : P then g * val_main_v32 (F := Ideal) u w d (ix2 (⟨k, hk h⟩ : Fin 2048) q) else 0) = g * ct u w d n q := by
  subst e
  by_cases h : P
  · rw [dif_pos h, ref32 hf]
  · rw [dif_neg h]
    unfold ct
    rw [dif_neg fun h' => h (hP.mpr h'), mul_zero]

/-- The reference's gradient of the rows. -/
theorem ref76 (hf : Finite u w d) (t : Fin 2048) (q : Fin 1536) : val_main_v76 (F := Ideal) u w d (ix2 t q)
    = w (ix2 (3 : Fin 4) q) * ct u w d t.val q + w (ix2 (2 : Fin 4) q) * ct u w d (t.val + 1) q + w (ix2 (1 : Fin 4) q) * ct u w d (t.val + 2) q
      + w (ix2 (0 : Fin 4) q) * ct u w d (t.val + 3) q := by
  pointwise [val_main_v76, val_main_v71, val_main_v60, val_main_v49, val_main_v39, val_main_v48, val_main_v59, val_main_v70, val_main_v34, val_main_v43, val_main_v54, val_main_v65, val_main_v33, val_main_v42, val_main_v53, val_main_v64, val_main_cst_7, val_main_cst_11, val_main_cst_15, val_main_v27, val_main_v20, val_main_v13, val_main_v7, val_main_v25, val_main_v18, val_main_v11, val_main_v5, val_main_v24, val_main_v17, val_main_v10, val_main_v4]
  have ht := t.isLt
  rw [ref32 hf]
  congr 1
  · congr 1
    · congr 1
      exact share hf (w (ix2 (2 : Fin 4) q)) (3 + t.val - 2) (t.val + 1) (by omega) q (2 ≤ 3 + t.val ∧ 3 + t.val - 2 < 2048) (by omega) fun h => h.2
    · exact share hf (w (ix2 (1 : Fin 4) q)) (3 + t.val - 1) (t.val + 2) (by omega) q (1 ≤ 3 + t.val ∧ 3 + t.val - 1 < 2048) (by omega) fun h => h.2
  · exact share hf (w (ix2 (0 : Fin 4) q)) (3 + t.val) (t.val + 3) (by omega) q (3 + t.val < 2048) (by omega) fun h => h

/-- One tap's gradient: the sum over all tokens. -/
theorem ref40 (hf : Finite u w d) (q : Fin 1536) : val_main_v40 (F := Ideal) u w d (ix2 (0 : Fin 1) q) = ∑ s : Fin 2048, ct u w d s.val q * xp u (s.val + 3) q := by
  pointwise [val_main_v40, val_main_v38, val_main_v37, val_main_v36, val_main_v35, val_main_cst_1, val_main_cst_2]
  simp only [ref32 hf, ref26, zero_add, Finset.univ_unique, Finset.sum_singleton]

theorem ref50 (hf : Finite u w d) (q : Fin 1536) : val_main_v50 (F := Ideal) u w d (ix2 (0 : Fin 1) q) = ∑ s : Fin 2048, ct u w d s.val q * xp u (s.val + 2) q := by
  pointwise [val_main_v50, val_main_v47, val_main_v46, val_main_v45, val_main_v44, val_main_cst_5, val_main_cst_6]
  simp only [ref32 hf, ref19, zero_add, Finset.univ_unique, Finset.sum_singleton]

theorem ref61 (hf : Finite u w d) (q : Fin 1536) : val_main_v61 (F := Ideal) u w d (ix2 (0 : Fin 1) q) = ∑ s : Fin 2048, ct u w d s.val q * xp u (s.val + 1) q := by
  pointwise [val_main_v61, val_main_v58, val_main_v57, val_main_v56, val_main_v55, val_main_cst_9, val_main_cst_10]
  simp only [ref32 hf, ref12, zero_add, Finset.univ_unique, Finset.sum_singleton]

theorem ref72 (hf : Finite u w d) (q : Fin 1536) : val_main_v72 (F := Ideal) u w d (ix2 (0 : Fin 1) q) = ∑ s : Fin 2048, ct u w d s.val q * xp u s.val q := by
  pointwise [val_main_v72, val_main_v69, val_main_v68, val_main_v67, val_main_v66, val_main_cst_13, val_main_cst_14]
  simp only [ref32 hf, ref6, zero_add, Finset.univ_unique, Finset.sum_singleton]

/-- The reference's gradient of the taps. -/
theorem ref74 (hf : Finite u w d) (k : Fin 4) (q : Fin 1536) : val_main_v74 (F := Ideal) u w d (ix2 k q)
    = ∑ s : Fin 2048, ct u w d s.val q * xp u (s.val + k.val) q := by
  pointwise [val_main_v74, val_main_v63, val_main_v73, val_main_v52, val_main_v62, val_main_v41, val_main_v51, val_main_cst_4, val_main_cst_8, val_main_cst_12, val_main_cst_16]
  rcases four k with rfl | rfl | rfl | rfl
  · rw [dif_neg (by decide), dif_neg (by decide), dif_neg (by decide), dif_pos (by decide), zero_add, zero_add, zero_add]
    exact ref72 hf q
  · rw [dif_neg (by decide), dif_neg (by decide), dif_pos (by decide), dif_neg (by decide), zero_add, zero_add, add_zero]
    exact ref61 hf q
  · rw [dif_neg (by decide), dif_pos (by decide), dif_neg (by decide), dif_neg (by decide), zero_add, add_zero, add_zero]
    exact ref50 hf q
  · rw [dif_pos (by decide), dif_neg (by decide), dif_neg (by decide), dif_neg (by decide), add_zero, add_zero, add_zero]
    exact ref40 hf q

end Cert.ShortConvGradClaim

end
-- ==== Proof.ShortConvGrad.lean ====
/- The short convolution's gradients: the kernel's two results are the reference's, for finite arguments. -/
module

public import proofs.«01_k».proof.Defs
public import proofs.«01_k».proof.Proof.Finite
public import proofs.«01_k».proof.Proof.ShortConvRows
public import proofs.«01_k».proof.Proof.ShortConvRef
public import proofs.«01_k».proof.Proof.Gen.ShortConvGradIdeal.Value

@[expose] public section

open Idealize.ShloMosaic Idealize.ShloMosaic.TcCoe Idealize.ShloMosaic.Tactic Idealize.SL.Sem
open Cert.ShortConvGradIdeal Cert.ShortConvGradIdeal.Gen

noncomputable section

namespace Cert.ShortConvGradClaim

set_option maxRecDepth 16384

/-- The shape relations of the precondition's operations. -/
instance preFacts : Cert.Pre_finite_short_conv.Facts where
  slices_S2048x3072_S2048x1536_0_768 := by decide
  bcast_S_S2048x1536 := by decide
  bcast_S_S4x1536 := by decide

variable (m : (ℓ : Loc nD τ sig) → Buf (Elt Ideal) ℓ) (c : Dev nD)

/-- The convolved columns, cut out of the rows. -/
theorem cut_at (u : FVec Ideal S2048x3072 .f32) (h : S2048x3072.Slices ![0, 768] S2048x1536) (t : Fin 2048) (q : Fin 1536) :
    extractStridedSlice S2048x1536 ![0, 768] u h (ix2 t q) = u (ix2 t (col q)) := by
  pointwise []

/-- Arguments the precondition allows hold real numbers. -/
theorem finite_of_pre (h : Cert.Pre_ShortConvGradIdeal_finite_short_conv m) :
    Finite (m ((c : Thread nD τ).loc main_arg0)) (m ((c : Thread nD τ).loc main_arg1)) (m ((c : Thread nD τ).loc main_arg2)) := by
  obtain ⟨h0, h1, h2⟩ := h c
  refine ⟨fun t q => ⟨_, (cut_at _ _ t q).symm.trans (Cert.Half.real_of_test _ _ h0 (ix2 t q))⟩, fun k q => ⟨_, Cert.Half.real_of_test _ _ h1 (ix2 k q)⟩,
    fun t q => ⟨_, Cert.Half.real_of_test _ _ h2 (ix2 t q)⟩⟩

variable {m}

/-- The gradient of the rows is the reference's, -/
theorem final4 (hf : Finite (m ((c : Thread nD τ).loc main_arg0)) (m ((c : Thread nD τ).loc main_arg1)) (m ((c : Thread nD τ).loc main_arg2))) :
    (dats m 0 c).arrAt 4 cfg0.N = Cert.ShortConvGradReferenceIdeal.Read.val_main_v76 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  have e := idx4 t
  blk_simp [e]
  obtain ⟨p, q, rfl⟩ : ∃ (p : Fin 256) (q : Fin 768), y = ix2 p q := ⟨y 0, y 1, eq_ix2 y⟩
  have z : ((View.whole main_v0_0).slice (win0_4.rect t)).emb (ix2 p q) = ix2 (tok t p) (chan t q) := by
    blk_ext [e]
  rw [after0_4, z, out4_at, ref76 hf]

/-- and so is the gradient of the taps. -/
theorem final5 (hf : Finite (m ((c : Thread nD τ).loc main_arg0)) (m ((c : Thread nD τ).loc main_arg1)) (m ((c : Thread nD τ).loc main_arg2))) :
    (dats m 0 c).arrAt 5 cfg0.N = Cert.ShortConvGradReferenceIdeal.Read.val_main_v74 (F := Ideal) (m ((c : Thread nD τ).loc main_arg0)) (m ((c : Thread nD τ).loc main_arg1)) (m ((c : Thread nD τ).loc main_arg2)) := by
  refine (dats m 0 c).arrAt_eq_of_covers 5 _ (by decide +kernel) fun t hf' y => ?_
  have e := idx5 t
  blk_simp [e]
  obtain ⟨k, q, rfl⟩ : ∃ (k : Fin 4) (q : Fin 768), y = ix2 k q := ⟨y 0, y 1, eq_ix2 y⟩
  have z : ((View.whole main_v0_1).slice (win0_5.rect t)).emb (ix2 k q) = ix2 k (chan t q) := by
    blk_ext [e]
  rw [after0_5, z, out5_at m c t ((flush0_5 t).mp hf'), ref74 hf]

/-- The kernel and the reference end with the same two results, for finite arguments. -/
theorem values : Cert.algebraic_ShortConvGradIdeal_ShortConvGradReferenceIdeal_pre_finite_short_conv := by
  intro m g m' g' hp ha
  refine ⟨fun c => (dats m 0 c).arrAt 4 cfg0.N, fun c => (dats m 0 c).arrAt 5 cfg0.N,
    Cert.ShortConvGradIdeal.Value.run_blocks m g, (θ_run _ _ _).mono (fun r h c => ?_) (Cert.ShortConvGradReferenceIdeal.Value.run m' g')⟩
  obtain ⟨a0, a1, a2⟩ := ha c
  refine ⟨((h c).1.trans (Cert.ShortConvGradReferenceIdeal.Read.val_main_v76_eq _ _)).trans ?_,
    ((h c).2.1.trans (Cert.ShortConvGradReferenceIdeal.Read.val_main_v74_eq _ _)).trans ?_, (h c).2.2⟩
  · rw [a0, a1, a2]
    exact (final4 c (finite_of_pre m c hp)).symm
  · rw [a0, a1, a2]
    exact (final5 c (finite_of_pre m c hp)).symm

end Cert.ShortConvGradClaim

end
-- ==== Proof.ShortConv.lean ====
/- The short convolution with the swish after it: what the kernel ends with is the reference's result, for all arguments. -/
module

public import proofs.«01_k».proof.Defs
public import proofs.«01_k».proof.Proof.ShortConvBody
public import proofs.«01_k».proof.Proof.Gen.ShortConvIdeal
public import proofs.«01_k».proof.Proof.Gen.ShortConvIdeal.Value
public import proofs.«01_k».proof.Proof.Gen.ShortConvReferenceIdeal
public import proofs.«01_k».proof.Proof.Gen.ShortConvReferenceIdeal.Run
public import proofs.«01_k».proof.Proof.Gen.ShortConvReferenceIdeal.Read

@[expose] public section

open Idealize.ShloMosaic Idealize.ShloMosaic.TcCoe Idealize.ShloMosaic.Tactic Idealize.SL.Sem
open Cert.ShortConvIdeal Cert.ShortConvIdeal.Gen
open Cert.ShortConvGradClaim (xp cv sg col reorder)

noncomputable section

namespace Cert.ShortConvClaim

set_option maxRecDepth 16384

variable (m : (ℓ : Loc nD τ sig) → Buf (Elt Ideal) ℓ) (c : Dev nD)

theorem idx0 : ∀ t : Fin cfg0.N, win0_0.index t = ![t.val / 2, 1 + t.val % 2] := by decide +kernel
theorem idx1 : ∀ t : Fin cfg0.N, win0_1.index t = ![t.val / 2 * 32 - 1, 1 + t.val % 2] := by decide +kernel
theorem idx2 : ∀ t : Fin cfg0.N, win0_2.index t = ![0, t.val % 2] := by decide +kernel
theorem idx3 : ∀ t : Fin cfg0.N, win0_3.index t = ![t.val / 2, t.val % 2] := by decide +kernel

theorem lt16 (t : Fin cfg0.N) : t.val < 16 := lt_of_lt_of_eq t.isLt N_0

/-- Column `q` of point `t`'s block of channels, -/
abbrev chan (t : Fin cfg0.N) (q : Fin 768) : Fin 1536 := ⟨768 * (t.val % 2) + q.val, by omega⟩

/-- and row `p` of its block of tokens. -/
abbrev tok (t : Fin cfg0.N) (p : Fin 256) : Fin 2048 := ⟨256 * (t.val / 2) + p.val, by have := lt16 t; omega⟩

/-- A block of the convolved columns, -/
theorem blk0 (t : Fin cfg0.N) (p : Fin 256) (q : Fin 768) : iblk m c 0 t (ix2 p q) = m ((c : Thread nD τ).loc main_arg0) (ix2 (tok t p) (col (chan t q))) := by
  have e := idx0 t
  blk_ext [iblk, V, e]

/-- the eight rows before it, -/
theorem blk1 (t : Fin cfg0.N) (h : 0 < t.val / 2) (p : Fin 8) (q : Fin 768) : iblk m c 1 t (ix2 p q)
    = m ((c : Thread nD τ).loc main_arg0) (ix2 (⟨256 * (t.val / 2) - 8 + p.val, by have := lt16 t; omega⟩ : Fin 2048) (col (chan t q))) := by
  have e := idx1 t
  have := lt16 t
  blk_ext [iblk, V, e]

/-- and of the taps. -/
theorem blk2 (t : Fin cfg0.N) (k : Fin 4) (q : Fin 768) : iblk m c 2 t (ix2 k q) = m ((c : Thread nD τ).loc main_arg1) (ix2 k (chan t q)) := by
  have e := idx2 t
  blk_ext [iblk, V, e]

theorem cond2 : ∀ t : Fin cfg0.N, Scalar.cmpi .sgt (BitVec.ofNat 32 ((grid0.coords t) 0).val) 0#32 = if 0 < t.val / 2 then 1#1 else 0#1 := by decide +kernel

theorem pay2 (t : Fin cfg0.N) (v : Vec Ideal S8x768 .f32) (p : Fin 8) (q : Fin 768) : k0_pay2 (grid0.coords t) v (ix2 p q) = if 0 < t.val / 2 then v (ix2 p q) else (0 : EReal) := by
  unfold k0_pay2
  dsimp only
  rw [cond2]
  split
  · pointwise [Scalar.select]
    exact congrFun (if_pos rfl) _
  · pointwise [Scalar.select]
    exact (congrFun (if_neg (by decide)) _).trans rfl

theorem pay3 (v : Vec Ideal S256x768 .f32) (i) : k0_pay3 v i = v i := by
  rw [eq_ix2 i]
  pointwise [k0_pay3]

theorem pay4 (w : Vec Ideal S4x768 .f32) (a b d e : Vec Ideal S256x768 .f32) (p : Fin 256) (q : Fin 768) :
    k0_pay4 w a b d e (ix2 p q) = w (ix2 (3 : Fin 4) q) * a (ix2 p q) + w (ix2 (0 : Fin 4) q) * b (ix2 p q) + w (ix2 (1 : Fin 4) q) * d (ix2 p q) + w (ix2 (2 : Fin 4) q) * e (ix2 p q) := by
  pointwise [k0_pay4]

theorem pay1 (w : Vec Ideal S4x768 .f32) (a b d e : Vec Ideal S256x768 .f32) (p : Fin 256) (q : Fin 768) :
    k0_pay1 (k0_pay4 w a b d e) (k0_pay5 w a b d e) (FloatOps.ofBits FTy.f32 1065353216#32) (ix2 p q) = k0_pay4 w a b d e (ix2 p q) * sg (k0_pay4 w a b d e (ix2 p q)) := by
  pointwise [k0_pay1, k0_pay5, sg]

abbrev xm (k : ℕ) (q : Fin 1536) : EReal := xp (m ((c : Thread nD τ).loc main_arg0)) k q

/-- What the body lays in its scratch: the block of rows, and above it the eight rows before. -/
abbrev laid (t : Fin cfg0.N) : List (View.Piece (Elt Ideal) S264x768 .f32) :=
  [⟨Rect.unit ![8, 0] ![256, 768] inb_S264x768_S256x768_8_0, k0_pay3 (iblk m c 0 t)⟩,
    ⟨Rect.unit ![0, 0] ![8, 768] inb_S264x768_S8x768_0_0, k0_pay2 (grid0.coords t) (iblk m c 1 t)⟩]

/-- Row `o` of it, from the fifth on, is a row of the padded argument. -/
theorem laid_at (t : Fin cfg0.N) (o : Fin 264) (ho : 5 ≤ o.val) (q : Fin 768) :
    View.canon (laid m c t) (ix2 o q) = xm m c (256 * (t.val / 2) + (o.val - 5)) (chan t q) := by
  have ht := lt16 t
  unfold xm xp
  by_cases h : 8 ≤ o.val
  · have e : (Rect.unit (s := S264x768) ![8, 0] ![256, 768] inb_S264x768_S256x768_8_0).emb (ix2 (⟨o.val - 8, by omega⟩ : Fin 256) q) = ix2 o q := by
      funext a; apply Fin.ext
      fin_cases a
      · show 8 + 1 * (o.val - 8) = o.val; omega
      · show 0 + 1 * q.val = q.val; omega
    rw [← e, View.canon_cons_emb, pay3, blk0, dif_pos (by omega)]
    exact congrArg (fun a => m ((c : Thread nD τ).loc main_arg0) (ix2 a (col (chan t q)))) (Fin.ext (by show 256 * (t.val / 2) + (o.val - 8) = 256 * (t.val / 2) + (o.val - 5) - 3; omega))
  · rw [View.canon_cons_of_not_mem]
    · have e : (Rect.unit (s := S264x768) ![0, 0] ![8, 768] inb_S264x768_S8x768_0_0).emb (ix2 (⟨o.val, by omega⟩ : Fin 8) q) = ix2 o q := by
        funext a; apply Fin.ext
        fin_cases a
        · show 0 + 1 * o.val = o.val; omega
        · show 0 + 1 * q.val = q.val; omega
      rw [← e, View.canon_cons_emb, pay2]
      by_cases h0 : 0 < t.val / 2
      · rw [if_pos h0, blk1 m c t h0, dif_pos (by omega)]
        exact congrArg (fun a => m ((c : Thread nD τ).loc main_arg0) (ix2 a (col (chan t q)))) (Fin.ext (by show 256 * (t.val / 2) - 8 + o.val = 256 * (t.val / 2) + (o.val - 5) - 3; omega))
      · rw [if_neg h0, dif_neg (by omega)]
    · intro hm
      obtain ⟨i, hi, he⟩ := (LoadRect.mem_set _).mp hm (0 : Fin 2)
      have he' : o.val = 8 + 1 * i := he
      omega

/-- A window of 256 rows of it. -/
theorem win_at (t : Fin cfg0.N) (o : ℕ) (ho : 5 ≤ o) (ho' : o ≤ 8) (inb) (p : Fin 256) (q : Fin 768) :
    (View.whole cc0_scratch0).readCov (Val := Elt Ideal) (laid m c t) (Rect.unit (s := S264x768) ![o, 0] ![256, 768] inb).toLoadRect (ix2 p q)
      = xm m c (256 * (t.val / 2) + p.val + (o - 5)) (chan t q) := by
  rw [View.readCov_eq_canon']
  have e : (Rect.unit (s := S264x768) ![o, 0] ![256, 768] inb).toLoadRect.idx (ix2 p q) = ix2 (⟨o + p.val, by omega⟩ : Fin 264) q := by
    funext a; apply Fin.ext
    fin_cases a
    · show o + 1 * p.val = o + p.val; omega
    · show 0 + 1 * q.val = q.val; omega
  show View.canon (laid m c t) ((Rect.unit (s := S264x768) ![o, 0] ![256, 768] inb).toLoadRect.idx (ix2 p q)) = _
  rw [e, laid_at m c t _ (by show 5 ≤ o + p.val; omega)]
  exact congrArg (fun k => xm m c k (chan t q)) (by show 256 * (t.val / 2) + (o + p.val - 5) = _; omega)

/-- The convolution at a token, times the logistic function of it. -/
def out (u : (⟨S2048x3072, .f32⟩ : BufTy).Contents (Elt Ideal)) (w : (⟨S4x1536, .f32⟩ : BufTy).Contents (Elt Ideal)) (k : ℕ) (q : Fin 1536) : EReal := cv u w k q * sg (cv u w k q)

/-- What a point writes: the swish of the convolution at its tokens. -/
theorem out_at (t : Fin cfg0.N) (p : Fin 256) (q : Fin 768) :
    outsAt0 m c t (ix2 p q) = out (m ((c : Thread nD τ).loc main_arg0)) (m ((c : Thread nD τ).loc main_arg1)) (256 * (t.val / 2) + p.val) (chan t q) := by
  unfold outsAt0
  frame_out
  rw [pay1, pay4, win_at m c t 8 (by decide) (by decide), win_at m c t 5 (by decide) (by decide), win_at m c t 6 (by decide) (by decide), win_at m c t 7 (by decide) (by decide), blk2, blk2, blk2, blk2]
  exact congrArg (fun a : EReal => a * sg a) (reorder _ _ _ _)

section Reference
open Cert.ShortConvReferenceIdeal.Read

variable (u : (⟨S2048x3072, .f32⟩ : BufTy).Contents (Elt Ideal)) (w : (⟨S4x1536, .f32⟩ : BufTy).Contents (Elt Ideal))

/-- The reference's padded rows, -/
theorem ref2 (k : Fin 2051) (q : Fin 1536) : val_main_v2 (F := Ideal) u (ix2 k q) = xp u k.val q := by
  pointwise [val_main_v2, val_main_v1, val_main_v0, val_main_cst]
  unfold xp
  have hk := k.isLt
  by_cases h : k.val < 3
  · rw [dif_pos h, dif_neg (by omega)]
  · rw [dif_neg h, dif_pos (by omega)]

/-- their four windows, -/
theorem ref5 (t : Fin 2048) (q : Fin 1536) : val_main_v5 (F := Ideal) u (ix2 t q) = xp u t.val q := by
  pointwise [val_main_v5]
  exact ref2 u _ q

theorem ref11 (t : Fin 2048) (q : Fin 1536) : val_main_v11 (F := Ideal) u (ix2 t q) = xp u (t.val + 1) q := by
  pointwise [val_main_v11]
  exact (ref2 u _ q).trans (congrArg (fun k => xp u k q) (Nat.add_comm _ _))

theorem ref18 (t : Fin 2048) (q : Fin 1536) : val_main_v18 (F := Ideal) u (ix2 t q) = xp u (t.val + 2) q := by
  pointwise [val_main_v18]
  exact (ref2 u _ q).trans (congrArg (fun k => xp u k q) (Nat.add_comm _ _))

theorem ref25 (t : Fin 2048) (q : Fin 1536) : val_main_v25 (F := Ideal) u (ix2 t q) = xp u (t.val + 3) q := by
  pointwise [val_main_v25]
  exact (ref2 u _ q).trans (congrArg (fun k => xp u k q) (Nat.add_comm _ _))

/-- the convolution, -/
theorem ref29 (t : Fin 2048) (q : Fin 1536) : val_main_v29 (F := Ideal) u w (ix2 t q) = cv u w t.val q := by
  pointwise [val_main_v29, val_main_v28, val_main_v27, val_main_v26, val_main_v24, val_main_v23, val_main_v22, val_main_v21, val_main_v20, val_main_v19, val_main_v17, val_main_v16, val_main_v15, val_main_v14, val_main_v13, val_main_v12, val_main_v10, val_main_v9, val_main_v8, val_main_v7, val_main_v6, val_main_v4, val_main_v3]
  rw [ref5, ref11, ref18, ref25]
  rfl

/-- and the swish of it. -/
theorem ref30 (t : Fin 2048) (q : Fin 1536) : val_main_v30 (F := Ideal) u w (ix2 t q) = out u w t.val q := by
  pointwise [val_main_v30, val_main_call0_v0, val_main_call0_v1, val_main_call0_v2, val_main_call0_v3, val_main_call0_v4, val_main_call0_v5, val_main_call0_cst, val_main_call0_cst_0]
  rw [ref29, out, sg, zero_sub]

end Reference

/-- The array the kernel ends with is the reference's. -/
theorem final3 : (dats m 0 c).arrAt 3 cfg0.N = Cert.ShortConvReferenceIdeal.Read.val_main_v30 (F := Ideal) (m ((c : Thread nD τ).loc main_arg0)) (m ((c : Thread nD τ).loc main_arg1)) := by
  refine (dats m 0 c).arrAt_eq_of_covers 3 _ (by decide +kernel) fun t _ y => ?_
  have e := idx3 t
  blk_simp [e]
  obtain ⟨p, q, rfl⟩ : ∃ (p : Fin 256) (q : Fin 768), y = ix2 p q := ⟨y 0, y 1, eq_ix2 y⟩
  have z : ((View.whole main_v0).slice (win0_3.rect t)).emb (ix2 p q) = ix2 (tok t p) (chan t q) := by
    blk_ext [e]
  rw [after0_3, z, out_at, ref30]

/-- The kernel and the reference end with the same result, for all arguments. -/
theorem values : Cert.algebraic_ShortConvIdeal_ShortConvReferenceIdeal := by
  intro m g m' g' _ ha
  refine ⟨fun c => (dats m 0 c).arrAt 3 cfg0.N,
    Cert.ShortConvIdeal.Value.run_blocks m g, (θ_run _ _ _).mono (fun r h c => ?_) (Cert.ShortConvReferenceIdeal.Value.run m' g')⟩
  obtain ⟨a0, a1⟩ := ha c
  refine ⟨((h c).1.trans (Cert.ShortConvReferenceIdeal.Read.val_main_v30_eq _ _)).trans ?_, (h c).2⟩
  rw [a0, a1]
  exact (final3 m c).symm

end Cert.ShortConvClaim

end
-- ==== Proof.ConvMid.lean ====
/- The convolution module between its projections: the two arrays the kernel ends with are the reference's, for all arguments. -/
module

public import proofs.«01_k».proof.Defs
public import proofs.«01_k».proof.Proof.ShortConvBody
public import proofs.«01_k».proof.Proof.Gen.ConvMidIdeal
public import proofs.«01_k».proof.Proof.Gen.ConvMidIdeal.Value
public import proofs.«01_k».proof.Proof.Gen.ConvMidReferenceIdeal
public import proofs.«01_k».proof.Proof.Gen.ConvMidReferenceIdeal.Run
public import proofs.«01_k».proof.Proof.Gen.ConvMidReferenceIdeal.Read

@[expose] public section

open Idealize.ShloMosaic Idealize.ShloMosaic.TcCoe Idealize.ShloMosaic.Tactic Idealize.SL.Sem
open Cert.ConvMidIdeal Cert.ConvMidIdeal.Gen
open Cert.ShortConvGradClaim (sg)

noncomputable section

namespace Cert.ConvMidClaim

set_option maxRecDepth 16384

/-! ## The formulas -/

/-- A gated entry: of the columns' first half, times the logistic function of the second half's. -/
abbrev gated (u : (⟨S2048x2048, .f32⟩ : BufTy).Contents (Elt Ideal)) (t : Fin 2048) (q : Fin 1024) : EReal :=
  u (ix2 t (⟨q.val, by omega⟩ : Fin 2048)) * sg (u (ix2 t (⟨1024 + q.val, by omega⟩ : Fin 2048)))

/-- The gated columns, thirty zeros above them. -/
def xp (u : (⟨S2048x2048, .f32⟩ : BufTy).Contents (Elt Ideal)) (k : ℕ) (q : Fin 1024) : EReal :=
  if h : 30 ≤ k ∧ k < 2078 then gated u (⟨k - 30, by omega⟩ : Fin 2048) q else 0

/-- The tap of number `j`. -/
abbrev wt (w : (⟨S31x1024, .f32⟩ : BufTy).Contents (Elt Ideal)) (j : ℕ) (q : Fin 1024) : EReal := w (ix2 (Fin.ofNat 31 j) q)

/-- The convolution at token `k`, with its bias. -/
def cv (u : (⟨S2048x2048, .f32⟩ : BufTy).Contents (Elt Ideal)) (w : (⟨S31x1024, .f32⟩ : BufTy).Contents (Elt Ideal)) (b : (⟨S1024, .f32⟩ : BufTy).Contents (Elt Ideal)) (k : ℕ) (q : Fin 1024) : EReal :=
  ∑ j ∈ Finset.range 31, wt w j q * xp u (k + j) q + b (ix1 q)

/-- The mean of a row, -/
abbrev mean (f : Fin 1024 → EReal) : EReal := Ideal.div (∑ j : Fin 1024, f j) (Ideal.ofBits .f32 0x44800000#32)

/-- its layer norm with weight `g` and bias `h`, -/
def ln (f g h : Fin 1024 → EReal) (q : Fin 1024) : EReal :=
  (f q - mean f) * Ideal.rsqrt (mean (fun j => (f j - mean f) * (f j - mean f)) + Ideal.ofBits .f32 0x358637BD#32) * g q + h q

/-- and the swish of that. -/
def post (f g h : Fin 1024 → EReal) (q : Fin 1024) : EReal := ln f g h q * sg (ln f g h q)

/-- The order in which the kernel adds up the taps. -/
theorem reorder (a : ℕ → EReal) : a 6 + a 14 + a 22 + a 30 + a 7 + a 15 + a 23 + a 0 + a 8 + a 16 + a 24 + a 1 + a 9 + a 17 + a 25 + a 2 + a 10 + a 18 + a 26
    + a 3 + a 11 + a 19 + a 27 + a 4 + a 12 + a 20 + a 28 + a 5 + a 13 + a 21 + a 29 = ∑ j ∈ Finset.range 31, a j := by
  simp only [Finset.sum_range_succ, Finset.sum_range_zero, zero_add]
  abel

theorem two_sums {a b c d : EReal} (h : a = b) (g : c = d) : a + c = b + d := by rw [h, g]
theorem two_factors {a b c d : EReal} (h : a = b) (g : c = d) : a * c = b * d := by rw [h, g]

/-! ## The kernel -/

variable (m : (ℓ : Loc nD τ sig) → Buf (Elt Ideal) ℓ) (c : Dev nD)

theorem idx0 : ∀ t : Fin cfg0.N, win0_0.index t = ![t.val, 0] := by decide +kernel
theorem idx1 : ∀ t : Fin cfg0.N, win0_1.index t = ![t.val, 1] := by decide +kernel
theorem idx2 : ∀ t : Fin cfg0.N, win0_2.index t = ![t.val * 8 - 1, 0] := by decide +kernel
theorem idx3 : ∀ t : Fin cfg0.N, win0_3.index t = ![t.val * 8 - 1, 1] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![t.val, 0] := by decide +kernel
theorem idx9 : ∀ t : Fin cfg0.N, win0_9.index t = ![t.val, 0] := by decide +kernel

theorem lt8 (t : Fin cfg0.N) : t.val < 8 := lt_of_lt_of_eq t.isLt N_0

/-- Row `p` of point `t`'s block of tokens. -/
abbrev tok (t : Fin cfg0.N) (p : Fin 256) : Fin 2048 := ⟨256 * t.val + p.val, by have := lt8 t; omega⟩
/-- Row `p` of the thirty-two rows before it. -/
abbrev bef (t : Fin cfg0.N) (p : Fin 32) : Fin 2048 := ⟨256 * t.val - 32 + p.val, by have := lt8 t; omega⟩

/-- A block of the columns' first half, -/
theorem blk0 (t : Fin cfg0.N) (p : Fin 256) (q : Fin 1024) : iblk m c 0 t (ix2 p q) = m ((c : Thread nD τ).loc main_arg0) (ix2 (tok t p) (⟨q.val, by omega⟩ : Fin 2048)) := by
  have e := idx0 t
  blk_ext [iblk, V, e]

/-- of the second half, -/
theorem blk1 (t : Fin cfg0.N) (p : Fin 256) (q : Fin 1024) : iblk m c 1 t (ix2 p q) = m ((c : Thread nD τ).loc main_arg0) (ix2 (tok t p) (⟨1024 + q.val, by omega⟩ : Fin 2048)) := by
  have e := idx1 t
  blk_ext [iblk, V, e]

/-- of the rows before them, -/
theorem blk2 (t : Fin cfg0.N) (h : 0 < t.val) (p : Fin 32) (q : Fin 1024) : iblk m c 2 t (ix2 p q) = m ((c : Thread nD τ).loc main_arg0) (ix2 (bef t p) (⟨q.val, by omega⟩ : Fin 2048)) := by
  have e := idx2 t
  blk_ext [iblk, V, e]

theorem blk3 (t : Fin cfg0.N) (h : 0 < t.val) (p : Fin 32) (q : Fin 1024) : iblk m c 3 t (ix2 p q) = m ((c : Thread nD τ).loc main_arg0) (ix2 (bef t p) (⟨1024 + q.val, by omega⟩ : Fin 2048)) := by
  have e := idx3 t
  blk_ext [iblk, V, e]

/-- the taps, -/
theorem blk4 (t : Fin cfg0.N) : iblk m c 4 t = m ((c : Thread nD τ).loc main_arg1) := by
  funext i
  obtain ⟨k, q, rfl⟩ : ∃ (k : Fin 31) (q : Fin 1024), i = ix2 k q := ⟨i 0, i 1, eq_ix2 i⟩
  have e := idx4 t
  blk_ext [iblk, V, e]

/-- their bias, -/
theorem blk5 (t : Fin cfg0.N) (a : Fin 1) (b : Fin 1024) : iblk m c 5 t (ix2 a b) = m ((c : Thread nD τ).loc main_arg2) (ix1 b) := by
  have e := idx5 t
  blk_simp [iblk, e]
  entry_read
  pointwise
  blk_ext [e]

/-- and the norm's weight and bias. -/
theorem blk6 (t : Fin cfg0.N) (a : Fin 1) (b : Fin 1024) : iblk m c 6 t (ix2 a b) = m ((c : Thread nD τ).loc main_arg3) (ix1 b) := by
  have e := idx6 t
  blk_simp [iblk, e]
  entry_read
  pointwise
  blk_ext [e]

theorem blk7 (t : Fin cfg0.N) (a : Fin 1) (b : Fin 1024) : iblk m c 7 t (ix2 a b) = m ((c : Thread nD τ).loc main_arg4) (ix1 b) := by
  have e := idx7 t
  blk_simp [iblk, e]
  entry_read
  pointwise
  blk_ext [e]

theorem cond2 : ∀ t : Fin cfg0.N, Scalar.cmpi .sgt (BitVec.ofNat 32 ((grid0.coords t) 0).val) 0#32 = if 0 < t.val then 1#1 else 0#1 := by decide +kernel

theorem pay2 (t : Fin cfg0.N) (v w : Vec Ideal S32x1024 .f32) (p : Fin 32) (q : Fin 1024) :
    k0_pay2 (grid0.coords t) v w (ix2 p q) = if 0 < t.val then v (ix2 p q) * sg (w (ix2 p q)) else (0 : EReal) := by
  unfold k0_pay2
  dsimp only
  rw [cond2]
  split
  · pointwise [Scalar.select]
    refine (congrFun (if_pos rfl) _).trans ?_
    pointwise [sg]
  · pointwise [Scalar.select]
    exact (congrFun (if_neg (by decide)) _).trans rfl

theorem pay3 (v w : Vec Ideal S256x1024 .f32) (p : Fin 256) (q : Fin 1024) : k0_pay3 v w (ix2 p q) = v (ix2 p q) * sg (w (ix2 p q)) := by
  pointwise [k0_pay3, sg]

theorem pay1 (f : Vec Ideal S256x1024 .f32) (g h : Vec Ideal S1x1024 .f32) (p : Fin 256) (q : Fin 1024) :
    k0_pay1 f g h (ix2 p q) = post (fun j => f (ix2 p j)) (fun j => g (ix2 (0 : Fin 1) j)) (fun j => h (ix2 (0 : Fin 1) j)) q := by
  pointwise [k0_pay1, post, ln, sg]

/-- The sum over the taps, of windows cut from eight stretches of the rows `f`, and the bias. -/
theorem taps (w : Vec Ideal S31x1024 .f32) (b : Vec Ideal S1x1024 .f32) (v6 v0 v1 v2 v3 v4 v5 : Vec Ideal S280x1024 .f32) (v7 : Vec Ideal S272x1024 .f32) (f : ℕ → Fin 1024 → EReal)
    (h0 : ∀ a q, v0 (ix2 a q) = f (0 + a.val) q) (h1 : ∀ a q, v1 (ix2 a q) = f (1 + a.val) q) (h2 : ∀ a q, v2 (ix2 a q) = f (2 + a.val) q) (h3 : ∀ a q, v3 (ix2 a q) = f (3 + a.val) q)
    (h4 : ∀ a q, v4 (ix2 a q) = f (4 + a.val) q) (h5 : ∀ a q, v5 (ix2 a q) = f (5 + a.val) q) (h6 : ∀ a q, v6 (ix2 a q) = f (6 + a.val) q) (h7 : ∀ a q, v7 (ix2 a q) = f (7 + a.val) q)
    (p : Fin 256) (q : Fin 1024) :
    k0_pay10 w v3 (k0_pay7 w (k0_pay6 w v6 (k0_pay4 v6) (k0_pay5 w) v7 v0) v1 v2 v3) (k0_pay8 v3) (k0_pay9 w) v4 v5 b (ix2 p q)
      = ∑ j ∈ Finset.range 31, wt w j q * f (p.val + j) q + b (ix2 (0 : Fin 1) q) := by
  pointwise [k0_pay4, k0_pay5, k0_pay6, k0_pay7, k0_pay8, k0_pay9, k0_pay10]
  refine two_sums ?_ rfl
  rw [← reorder]
  simp only [h0, h1, h2, h3, h4, h5, h6, h7]
  repeat' apply two_sums
  all_goals refine two_factors rfl (congrArg (fun k => f k q) ?_)
  all_goals first | omega | (dsimp only; omega)

/-- What the body lays in its scratch: the block of gated rows, and above it the thirty-two rows before. -/
abbrev laid (t : Fin cfg0.N) : List (View.Piece (Elt Ideal) S288x1024 .f32) :=
  [⟨Rect.unit ![32, 0] ![256, 1024] inb_S288x1024_S256x1024_32_0, k0_pay3 (iblk m c 0 t) (iblk m c 1 t)⟩,
    ⟨Rect.unit ![0, 0] ![32, 1024] inb_S288x1024_S32x1024_0_0, k0_pay2 (grid0.coords t) (iblk m c 2 t) (iblk m c 3 t)⟩]

/-- Row `o` of it, from the second on, is a row of the padded gated columns. -/
theorem laid_at (t : Fin cfg0.N) (o : Fin 288) (ho : 2 ≤ o.val) (q : Fin 1024) :
    View.canon (laid m c t) (ix2 o q) = xp (m ((c : Thread nD τ).loc main_arg0)) (256 * t.val + (o.val - 2)) q := by
  have ht := lt8 t
  unfold xp
  by_cases h : 32 ≤ o.val
  · have e : (Rect.unit (s := S288x1024) ![32, 0] ![256, 1024] inb_S288x1024_S256x1024_32_0).emb (ix2 (⟨o.val - 32, by omega⟩ : Fin 256) q) = ix2 o q := by
      funext a; apply Fin.ext
      fin_cases a
      · show 32 + 1 * (o.val - 32) = o.val; omega
      · show 0 + 1 * q.val = q.val; omega
    rw [← e, View.canon_cons_emb, pay3, blk0, blk1, dif_pos (by omega)]
    exact congrArg (fun a => gated (m ((c : Thread nD τ).loc main_arg0)) a q) (Fin.ext (by show 256 * t.val + (o.val - 32) = 256 * t.val + (o.val - 2) - 30; omega))
  · rw [View.canon_cons_of_not_mem]
    · have e : (Rect.unit (s := S288x1024) ![0, 0] ![32, 1024] inb_S288x1024_S32x1024_0_0).emb (ix2 (⟨o.val, by omega⟩ : Fin 32) q) = ix2 o q := by
        funext a; apply Fin.ext
        fin_cases a
        · show 0 + 1 * o.val = o.val; omega
        · show 0 + 1 * q.val = q.val; omega
      rw [← e, View.canon_cons_emb, pay2]
      by_cases h0 : 0 < t.val
      · rw [if_pos h0, blk2 m c t h0, blk3 m c t h0, dif_pos (by omega)]
        exact congrArg (fun a => gated (m ((c : Thread nD τ).loc main_arg0)) a q) (Fin.ext (by show 256 * t.val - 32 + o.val = 256 * t.val + (o.val - 2) - 30; omega))
      · rw [if_neg h0, dif_neg (by omega)]
    · intro hm
      obtain ⟨i, hi, he⟩ := (LoadRect.mem_set _).mp hm (0 : Fin 2)
      have he' : o.val = 32 + 1 * i := he
      omega

/-- A stretch of `n` rows of it, from row `o` on. -/
theorem win_at (t : Fin cfg0.N) (n o : ℕ) (ho : 2 ≤ o) (ho' : o + n ≤ 288) (inb) (p : Fin n) (q : Fin 1024) :
    (View.whole cc0_scratch0).readCov (Val := Elt Ideal) (laid m c t) (Rect.unit (s := S288x1024) ![o, 0] ![n, 1024] inb).toLoadRect (ix2 p q)
      = xp (m ((c : Thread nD τ).loc main_arg0)) (256 * t.val + (o - 2 + p.val)) q := by
  rw [View.readCov_eq_canon']
  have e : (Rect.unit (s := S288x1024) ![o, 0] ![n, 1024] inb).toLoadRect.idx (ix2 p q) = ix2 (⟨o + p.val, by omega⟩ : Fin 288) q := by
    funext a; apply Fin.ext
    fin_cases a
    · show o + 1 * p.val = o + p.val; omega
    · show 0 + 1 * q.val = q.val; omega
  show View.canon (laid m c t) ((Rect.unit (s := S288x1024) ![o, 0] ![n, 1024] inb).toLoadRect.idx (ix2 p q)) = _
  rw [e, laid_at m c t _ (by show 2 ≤ o + p.val; omega)]
  exact congrArg (fun k => xp (m ((c : Thread nD τ).loc main_arg0)) k q) (by show 256 * t.val + (o + p.val - 2) = _; omega)

/-- The convolution at token `k` of the memory's arguments. -/
abbrev cm (k : ℕ) (q : Fin 1024) : EReal := cv (m ((c : Thread nD τ).loc main_arg0)) (m ((c : Thread nD τ).loc main_arg1)) (m ((c : Thread nD τ).loc main_arg2)) k q

/-- A stretch of the scratch, as it is read back, -/
abbrev read (t : Fin cfg0.N) (n o : ℕ) (inb) := (View.whole cc0_scratch0).readCov (Val := Elt Ideal) (laid m c t) (Rect.unit (s := S288x1024) ![o, 0] ![n, 1024] inb).toLoadRect

/-- and the sum over the taps the body computes from eight of them. -/
def acc (t : Fin cfg0.N) : FVec Ideal S256x1024 .f32 :=
  k0_pay10 (iblk m c 4 t) (read m c t 280 5 inb_S288x1024_S280x1024_5_0)
    (k0_pay7 (iblk m c 4 t) (k0_pay6 (iblk m c 4 t) (read m c t 280 8 inb_S288x1024_S280x1024_8_0) (k0_pay4 (read m c t 280 8 inb_S288x1024_S280x1024_8_0)) (k0_pay5 (iblk m c 4 t))
      (read m c t 272 9 inb_S288x1024_S272x1024_9_0) (read m c t 280 2 inb_S288x1024_S280x1024_2_0)) (read m c t 280 3 inb_S288x1024_S280x1024_3_0) (read m c t 280 4 inb_S288x1024_S280x1024_4_0) (read m c t 280 5 inb_S288x1024_S280x1024_5_0))
    (k0_pay8 (read m c t 280 5 inb_S288x1024_S280x1024_5_0)) (k0_pay9 (iblk m c 4 t)) (read m c t 280 6 inb_S288x1024_S280x1024_6_0) (read m c t 280 7 inb_S288x1024_S280x1024_7_0) (iblk m c 5 t)

/-- It is the convolution with its bias. -/
theorem acc_at (t : Fin cfg0.N) (p : Fin 256) (q : Fin 1024) : acc m c t (ix2 p q) = cm m c (256 * t.val + p.val) q := by
  unfold acc
  rw [taps _ _ _ _ _ _ _ _ _ _ (fun k q => xp (m ((c : Thread nD τ).loc main_arg0)) (256 * t.val + k) q)
    (fun a q => win_at m c t 280 2 (by omega) (by omega) _ a q) (fun a q => win_at m c t 280 3 (by omega) (by omega) _ a q) (fun a q => win_at m c t 280 4 (by omega) (by omega) _ a q)
    (fun a q => win_at m c t 280 5 (by omega) (by omega) _ a q) (fun a q => win_at m c t 280 6 (by omega) (by omega) _ a q) (fun a q => win_at m c t 280 7 (by omega) (by omega) _ a q)
    (fun a q => win_at m c t 280 8 (by omega) (by omega) _ a q) (fun a q => win_at m c t 272 9 (by omega) (by omega) _ a q), blk4, blk5]
  unfold cm cv
  refine two_sums (Finset.sum_congr rfl fun j _ => two_factors rfl ?_) rfl
  exact congrArg (fun k => xp (m ((c : Thread nD τ).loc main_arg0)) k q) (Nat.add_assoc _ _ _).symm

/-- What a point leaves: the convolution, -/
theorem out9_at (t : Fin cfg0.N) (p : Fin 256) (q : Fin 1024) : (outsAt0 m c t).2 (ix2 p q) = cm m c (256 * t.val + p.val) q := by
  unfold outsAt0
  frame_out
  exact acc_at m c t p q

/-- and the swish of its layer norm. -/
theorem out8_at (t : Fin cfg0.N) (p : Fin 256) (q : Fin 1024) :
    (outsAt0 m c t).1 (ix2 p q) = post (cm m c (256 * t.val + p.val)) (fun j => m ((c : Thread nD τ).loc main_arg3) (ix1 j)) (fun j => m ((c : Thread nD τ).loc main_arg4) (ix1 j)) q := by
  unfold outsAt0
  frame_out
  refine (pay1 (acc m c t) (iblk m c 6 t) (iblk m c 7 t) p q).trans ?_
  simp only [acc_at, blk6, blk7]

/-! ## The reference -/

section Reference
open Cert.ConvMidReferenceIdeal.Read

variable (x : (⟨S2048x2048, .f32⟩ : BufTy).Contents (Elt Ideal)) (w : (⟨S31x1024, .f32⟩ : BufTy).Contents (Elt Ideal)) (b g h : (⟨S1024, .f32⟩ : BufTy).Contents (Elt Ideal))

/-- The padded gated columns, -/
theorem ref10 (k : Fin 2078) (q : Fin 1024) : val_main_v10 (F := Ideal) x (ix2 k q) = xp x k.val q := by
  pointwise [val_main_v10, val_main_v9, val_main_v8, val_main_v7, val_main_v6, val_main_v5, val_main_v4, val_main_v3, val_main_v2, val_main_v1, val_main_v0, val_main_cst, val_main_cst_0, val_main_cst_1]
  unfold xp
  have hk := k.isLt
  by_cases h : k.val < 30
  · rw [dif_pos h, dif_neg (by omega)]
  · rw [dif_neg h, dif_pos (by omega), gated, sg, zero_sub]

/-- their window of the `k`-th tap, -/
theorem ref76 (k : Fin 31) (t : Fin 2048) (q : Fin 1024) : val_main_v76 (F := Ideal) x (ix3 k t q) = xp x (t.val + k.val) q := by
  have e : val_main_v76 (F := Ideal) x (ix3 k t q) = val_main_v10 (F := Ideal) x (ix2 (⟨k.val + t.val, by omega⟩ : Fin 2078) q) := by
    fin_cases k <;> pointwise [val_main_v76, val_main_v74, val_main_v75, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73] <;> rfl
  rw [e, ref10]
  exact congrArg (fun k => xp x k q) (Nat.add_comm _ _)

/-- the convolution with its bias, -/
theorem ref82 (t : Fin 2048) (q : Fin 1024) : val_main_v82 (F := Ideal) x w b (ix2 t q) = cv x w b t.val q := by
  pointwise [val_main_v82, val_main_v81, val_main_v80, val_main_v79, val_main_v78, val_main_v77, val_main_v11, val_main_cst_2]
  simp only [ref76, zero_add]
  unfold cv
  rw [Finset.sum_range]
  refine two_sums (Finset.sum_congr rfl fun j _ => two_factors ?_ rfl) rfl
  exact congrArg (fun k : Fin 31 => w (ix2 k q)) (Fin.ext (Nat.mod_eq_of_lt j.isLt).symm)

/-- its layer norm, -/
theorem ref104 (t : Fin 2048) (q : Fin 1024) : val_main_v104 (F := Ideal) x w b g h (ix2 t q) = ln (cv x w b t.val) (fun j => g (ix1 j)) (fun j => h (ix1 j)) q := by
  pointwise [val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_cst_3, val_main_cst_4, val_main_cst_5, val_main_cst_6, val_main_cst_7]
  simp only [ref82, zero_add]
  rfl

/-- and the swish of that. -/
theorem ref105 (t : Fin 2048) (q : Fin 1024) : val_main_v105 (F := Ideal) x w b g h (ix2 t q) = post (cv x w b t.val) (fun j => g (ix1 j)) (fun j => h (ix1 j)) q := by
  pointwise [val_main_v105, val_main_call0_v0, val_main_call0_v1, val_main_call0_v2, val_main_call0_v3, val_main_call0_v4, val_main_call0_v5, val_main_call0_cst, val_main_call0_cst_0]
  rw [ref104, post, sg, zero_sub]

end Reference

/-! ## The equation -/

/-- The first array the kernel ends with is the reference's, -/
theorem final8 : (dats m 0 c).arrAt 8 cfg0.N = Cert.ConvMidReferenceIdeal.Read.val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t _ y => ?_
  have e := idx8 t
  blk_simp [e]
  obtain ⟨p, q, rfl⟩ : ∃ (p : Fin 256) (q : Fin 1024), y = ix2 p q := ⟨y 0, y 1, eq_ix2 y⟩
  have z : ((View.whole main_v3_0).slice (win0_8.rect t)).emb (ix2 p q) = ix2 (tok t p) q := by
    blk_ext [e]
  rw [after0_8, z, out8_at, ref105]

/-- and so is the second. -/
theorem final9 : (dats m 0 c).arrAt 9 cfg0.N = Cert.ConvMidReferenceIdeal.Read.val_main_v82 (F := Ideal) (m ((c : Thread nD τ).loc main_arg0)) (m ((c : Thread nD τ).loc main_arg1)) (m ((c : Thread nD τ).loc main_arg2)) := by
  refine (dats m 0 c).arrAt_eq_of_covers 9 _ (by decide +kernel) fun t _ y => ?_
  have e := idx9 t
  blk_simp [e]
  obtain ⟨p, q, rfl⟩ : ∃ (p : Fin 256) (q : Fin 1024), y = ix2 p q := ⟨y 0, y 1, eq_ix2 y⟩
  have z : ((View.whole main_v3_1).slice (win0_9.rect t)).emb (ix2 p q) = ix2 (tok t p) q := by
    blk_ext [e]
  rw [after0_9, z, out9_at, ref82]

/-- The kernel and the reference end with the same two results, for all arguments. -/
theorem values : Cert.algebraic_ConvMidIdeal_ConvMidReferenceIdeal := by
  intro m g m' g' _ ha
  refine ⟨fun c => (dats m 0 c).arrAt 8 cfg0.N, fun c => (dats m 0 c).arrAt 9 cfg0.N,
    Cert.ConvMidIdeal.Value.run_blocks m g, (θ_run _ _ _).mono (fun r h c => ?_) (Cert.ConvMidReferenceIdeal.Value.run m' g')⟩
  obtain ⟨a0, a1, a2, a3, a4⟩ := ha c
  refine ⟨((h c).1.trans (Cert.ConvMidReferenceIdeal.Read.val_main_v105_eq _)).trans ?_,
    ((h c).2.1.trans (Cert.ConvMidReferenceIdeal.Read.val_main_v82_eq _)).trans ?_, (h c).2.2⟩
  · rw [show StableHlo.launchContents m' c (Proc.devRef .tc Cert.ConvMidReferenceIdeal.main_arg0) = _ from a0, show StableHlo.launchContents m' c (Proc.devRef .tc Cert.ConvMidReferenceIdeal.main_arg1) = _ from a1, show StableHlo.launchContents m' c (Proc.devRef .tc Cert.ConvMidReferenceIdeal.main_arg2) = _ from a2, show StableHlo.launchContents m' c (Proc.devRef .tc Cert.ConvMidReferenceIdeal.main_arg3) = _ from a3, show StableHlo.launchContents m' c (Proc.devRef .tc Cert.ConvMidReferenceIdeal.main_arg4) = _ from a4]
    exact (final8 m c).symm
  · rw [show StableHlo.launchContents m' c (Proc.devRef .tc Cert.ConvMidReferenceIdeal.main_arg0) = _ from a0, show StableHlo.launchContents m' c (Proc.devRef .tc Cert.ConvMidReferenceIdeal.main_arg1) = _ from a1, show StableHlo.launchContents m' c (Proc.devRef .tc Cert.ConvMidReferenceIdeal.main_arg2) = _ from a2]
    exact (final9 m c).symm

end Cert.ConvMidClaim

end
-- ==== Proof.Loss.lean ====
/- The loss and its gradients: the three arrays the kernel ends with are the reference's, for all arguments. -/
module

public import proofs.«01_k».proof.Defs
public import proofs.«01_k».proof.Proof.NormGrad
public import proofs.«01_k».proof.Proof.Gen.LossIdeal
public import proofs.«01_k».proof.Proof.Gen.LossIdeal.Value
public import proofs.«01_k».proof.Proof.Gen.LossReferenceIdeal
public import proofs.«01_k».proof.Proof.Gen.LossReferenceIdeal.Run
public import proofs.«01_k».proof.Proof.Gen.LossReferenceIdeal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.WritesUnit

@[expose] public section

open Idealize.ShloMosaic Idealize.ShloMosaic.TcCoe Idealize.ShloMosaic.Tactic Idealize.SL.Sem
open Cert.LossIdeal Cert.LossIdeal.Gen
open Cert.NormGrad (wid sml mhf div_wid)

noncomputable section

namespace Cert.LossClaim

set_option maxRecDepth 16384

/-! ## The formulas -/

/-- One over the number of a token's entries, and half of it, as the words of the program. -/
abbrev inv : EReal := Ideal.ofBits .f32 0x3A800000#32
abbrev hinv : EReal := Ideal.ofBits .f32 0x3A000000#32

theorem inv_word : inv = ((1 / 1024 : ℝ) : EReal) := by
  simp [inv, Ideal.ofBits, Ideal.ieee, -EReal.coe_mul]; norm_num
theorem hinv_word : hinv = ((1 / 2048 : ℝ) : EReal) := by
  simp [hinv, Ideal.ofBits, Ideal.ieee, -EReal.coe_mul]; norm_num
theorem two_word : Ideal.ofBits .f32 0x40000000#32 = ((2 : ℝ) : EReal) := by
  simp [Ideal.ofBits, Ideal.ieee, -EReal.coe_mul]; norm_num

/-- One over the root of a token's mean square, -/
def rs (f : Fin 1024 → EReal) : EReal := Ideal.rsqrt (Ideal.div (∑ j : Fin 1024, f j * f j) wid + sml)
/-- the error of the weighted norm of the token `f` against the target `h`, -/
def er (f g h : Fin 1024 → EReal) (k : Fin 1024) : EReal := f k * rs f * g k - h k
/-- the norm's cotangent, -/
def dn (f g h : Fin 1024 → EReal) (k : Fin 1024) : EReal := er f g h k * inv
/-- the token's gradient, factored, -/
def dx (f g h : Fin 1024 → EReal) (k : Fin 1024) : EReal :=
  rs f * (dn f g h k * g k - f k * rs f * Ideal.div (∑ j : Fin 1024, dn f g h j * g j * (f j * rs f)) wid)
/-- its part of the loss, -/
def ls (f g h : Fin 1024 → EReal) : EReal := hinv * ∑ k : Fin 1024, er f g h k * er f g h k
/-- and of the weight's gradient. -/
def dw (f g h : Fin 1024 → EReal) (k : Fin 1024) : EReal := dn f g h k * (f k * rs f)

/-- Token number `t` of a matrix. -/
def row (x : (⟨S2048x1024, .f32⟩ : BufTy).Contents (Elt Ideal)) (t : ℕ) (k : Fin 1024) : EReal := x (ix2 (Fin.ofNat 2048 t) k)

theorem row_at (x : (⟨S2048x1024, .f32⟩ : BufTy).Contents (Elt Ideal)) (t : Fin 2048) (k : Fin 1024) : row x t.val k = x (ix2 t k) :=
  congrArg (fun a : Fin 2048 => x (ix2 a k)) (Fin.ext (Nat.mod_eq_of_lt t.isLt))

/-- A nonnegative real times a sum, distributed. -/
theorem coe_mul_sum {ι : Type} {ρ : ℝ} (h : 0 ≤ ρ) (s : Finset ι) (f : ι → EReal) : (ρ : EReal) * ∑ k ∈ s, f k = ∑ k ∈ s, (ρ : EReal) * f k := by
  classical
  induction s using Finset.induction_on with
  | empty => simp
  | insert a s ha ih =>
    rw [Finset.sum_insert ha, Finset.sum_insert ha, ← ih, EReal.left_distrib_of_nonneg_of_ne_top (EReal.coe_nonneg.mpr h) (EReal.coe_ne_top _)]

/-- The factored gradient is the chain rule's. -/
theorem dx_chain (f E : Fin 1024 → EReal) (k : Fin 1024) :
    rs f * (E k - f k * rs f * Ideal.div (∑ j : Fin 1024, E j * (f j * rs f)) wid)
      = E k * rs f
        + f k * Ideal.div ((∑ j : Fin 1024, f j * E j) * (mhf * Ideal.div (rs f) (Ideal.div (∑ j : Fin 1024, f j * f j) wid + sml))) wid
        + Ideal.div ((∑ j : Fin 1024, f j * E j) * (mhf * Ideal.div (rs f) (Ideal.div (∑ j : Fin 1024, f j * f j) wid + sml))) wid * f k := by
  have up : ∀ (g : Fin 1024 → EReal) (j : Fin 1024), g (Fin.ofNat 1024 j.val) = g j := fun g j =>
    congrArg g (Fin.ext (Nat.mod_eq_of_lt j.isLt))
  have h := NormGrad.dx_eq (fun j => f (Fin.ofNat 1024 j)) (fun _ => 0) (fun j => E (Fin.ofNat 1024 j)) k.isLt
  simp only [NormGrad.ms, Finset.sum_range, up, zero_add] at h
  exact h

/-! ## The kernel -/

variable (m : (ℓ : Loc nD τ sig) → Buf (Elt Ideal) ℓ) (c : Dev nD)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![0, 0] := by decide +kernel
theorem idx4 : ∀ t : Fin cfg0.N, win0_4.index t = ![t.val, 0] := by decide +kernel
theorem idx5 : ∀ t : Fin cfg0.N, win0_5.index t = ![0, 0] := by decide +kernel

theorem lt8 (t : Fin cfg0.N) : t.val < 8 := lt_of_lt_of_eq t.isLt N_0

/-- Row `p` of point `t`'s block of tokens. -/
abbrev tok (t : Fin cfg0.N) (p : Fin 256) : Fin 2048 := ⟨256 * t.val + p.val, by have := lt8 t; omega⟩

/-- A point's block of tokens, -/
theorem blk0 (t : Fin cfg0.N) (p : Fin 256) (q : Fin 1024) : iblk m c 0 t (ix2 p q) = row (m ((c : Thread nD τ).loc main_arg0)) (256 * t.val + p.val) q := by
  rw [row_at _ (tok t p)]
  have e := idx0 t
  blk_ext [iblk, V, e]

/-- the weight, -/
theorem blk1 (t : Fin cfg0.N) (a : Fin 1) (b : Fin 1024) : iblk m c 1 t (ix2 a b) = m ((c : Thread nD τ).loc main_arg1) (ix1 b) := by
  have e := idx1 t
  blk_simp [iblk, e]
  entry_read
  pointwise
  blk_ext [e]

/-- and the target's block. -/
theorem blk2 (t : Fin cfg0.N) (p : Fin 256) (q : Fin 1024) : iblk m c 2 t (ix2 p q) = row (m ((c : Thread nD τ).loc main_arg2)) (256 * t.val + p.val) q := by
  rw [row_at _ (tok t p)]
  have e := idx2 t
  blk_ext [iblk, V, e]

variable (X T : Vec Ideal S256x1024 .f32) (W : Vec Ideal S1x1024 .f32)

/-- A token of a block, -/
abbrev br (v : Vec Ideal S256x1024 .f32) (p : Fin 256) (k : Fin 1024) : EReal := v (ix2 p k)
/-- and the weight. -/
abbrev bw (w : Vec Ideal S1x1024 .f32) (k : Fin 1024) : EReal := w (ix2 (0 : Fin 1) k)

theorem pay8 (p : Fin 256) (k : Fin 1024) : k0_pay8 X W T (ix2 p k) = er (br X p) (bw W) (br T p) k := by
  pointwise [k0_pay8, k0_pay7, er, rs]

theorem pay10 (p : Fin 256) (k : Fin 1024) : k0_pay10 X W T (ix2 p k) = dn (br X p) (bw W) (br T p) k := by
  pointwise [k0_pay10]
  rw [pay8]
  rfl

theorem pay3 (p : Fin 256) (k : Fin 1024) :
    k0_pay3 X (k0_pay7 W) (k0_pay10 X W T) (k0_pay11 X) (FloatOps.ofBits FTy.f32 0x44800000#32) (ix2 p k) = dx (br X p) (bw W) (br T p) k := by
  pointwise [k0_pay3, k0_pay2, k0_pay1, k0_pay7, k0_pay11]
  simp only [pay10]
  rfl

theorem pay4 (v : Vec Ideal S1x1024 .f32) (a : Fin 1) (k : Fin 1024) :
    k0_pay4 X (k0_pay10 X W T) (k0_pay11 X) (FloatOps.ofBits FTy.f32 0x44800000#32) v (ix2 a k) = v (ix2 a k) + ∑ p : Fin 256, dw (br X p) (bw W) (br T p) k := by
  pointwise [k0_pay4, k0_pay2, k0_pay1, k0_pay11]
  simp only [pay10]
  rfl

theorem pay9 (v : Vec Ideal S1x1 .f32) (a b : Fin 1) :
    k0_pay9 X W T v (ix2 a b) = v (ix2 a b) + ∑ p : Fin 256, ls (br X p) (bw W) (br T p) := by
  pointwise [k0_pay9]
  simp only [pay8, ls, hinv_word]
  rw [← coe_mul_sum (by norm_num), ← hinv_word]

theorem pay5 (i : S1x1.Idx) : (k0_pay5 (F := Ideal)) i = (0 : EReal) := by pointwise [k0_pay5]
theorem pay6 (i : S1x1024.Idx) : (k0_pay6 (F := Ideal)) i = (0 : EReal) := by pointwise [k0_pay6]

/-- Token `k` of the memory's arguments. -/
abbrev xm (k : ℕ) : Fin 1024 → EReal := row (m ((c : Thread nD τ).loc main_arg0)) k
abbrev wm (k : Fin 1024) : EReal := m ((c : Thread nD τ).loc main_arg1) (ix1 k)
abbrev tm (k : ℕ) : Fin 1024 → EReal := row (m ((c : Thread nD τ).loc main_arg2)) k

theorem br0 (t : Fin cfg0.N) (p : Fin 256) : br (iblk m c 0 t) p = xm m c (256 * t.val + p.val) := funext fun k => blk0 m c t p k
theorem bw1 (t : Fin cfg0.N) : bw (iblk m c 1 t) = wm m c := funext fun k => blk1 m c t 0 k
theorem br2 (t : Fin cfg0.N) (p : Fin 256) : br (iblk m c 2 t) p = tm m c (256 * t.val + p.val) := funext fun k => blk2 m c t p k

/-- A point's block of the tokens' gradient. -/
theorem out4_at (t : Fin cfg0.N) (p : Fin 256) (q : Fin 1024) :
    (outsAt0 m c t.val t.isLt).2.1 (ix2 p q) = dx (xm m c (256 * t.val + p.val)) (wm m c) (tm m c (256 * t.val + p.val)) q := by
  rw [← br0, ← bw1 m c t, ← br2, ← pay3]
  by_cases h : t.val % 8 = 0
  · rw [outsAt0_A m c t h]
    frame_out
  · rw [outsAt0_B m c t h]
    frame_out

/-- What a point adds to the loss, -/
abbrev add3 (n : ℕ) : EReal := ∑ p : Fin 256, ls (xm m c (256 * n + p.val)) (wm m c) (tm m c (256 * n + p.val))
/-- and to the weight's gradient. -/
abbrev add5 (n : ℕ) (q : Fin 1024) : EReal := ∑ p : Fin 256, dw (xm m c (256 * n + p.val)) (wm m c) (tm m c (256 * n + p.val)) q

/-- The first point starts from zero, -/
theorem out3_A (t : Fin cfg0.N) (h : t.val % 8 = 0) (a b : Fin 1) : (outsAt0 m c t.val t.isLt).1 (ix2 a b) = 0 + add3 m c t.val := by
  simp only [add3, ← br0, ← bw1 m c t, ← br2]
  rw [← pay5 (ix2 a b), ← pay9, outsAt0_A m c t h]
  frame_out

/-- and a later one goes on from the point before. -/
theorem out3_B (t : Fin cfg0.N) (h : ¬t.val % 8 = 0) (a b : Fin 1) : (outsAt0 m c t.val t.isLt).1 (ix2 a b)
    = (outsAt0 m c (t.val - 1) (Nat.lt_of_le_of_lt (Nat.sub_le _ _) t.isLt)).1 (ix2 a b) + add3 m c t.val := by
  simp only [add3, ← br0, ← bw1 m c t, ← br2]
  rw [← pay9, outsAt0_B m c t h]
  frame_out

theorem out5_A (t : Fin cfg0.N) (h : t.val % 8 = 0) (a : Fin 1) (q : Fin 1024) : (outsAt0 m c t.val t.isLt).2.2 (ix2 a q) = 0 + add5 m c t.val q := by
  simp only [add5, ← br0, ← bw1 m c t, ← br2]
  rw [← pay6 (ix2 a q), ← pay4, outsAt0_A m c t h]
  frame_out

theorem out5_B (t : Fin cfg0.N) (h : ¬t.val % 8 = 0) (a : Fin 1) (q : Fin 1024) : (outsAt0 m c t.val t.isLt).2.2 (ix2 a q)
    = (outsAt0 m c (t.val - 1) (Nat.lt_of_le_of_lt (Nat.sub_le _ _) t.isLt)).2.2 (ix2 a q) + add5 m c t.val q := by
  simp only [add5, ← br0, ← bw1 m c t, ← br2]
  rw [← pay4, outsAt0_B m c t h]
  frame_out

/-- Eight blocks of 256 tokens are the 2048 tokens. -/
theorem blocks (G : ℕ → EReal) (t : Fin cfg0.N) : ∑ b ∈ Finset.range (7 + 1), ∑ p : Fin 256, G (256 * (8 * (t.val / 8) + b) + p.val) = ∑ s : Fin 2048, G s.val := by
  have ht := lt8 t
  rw [Finset.sum_range]
  refine (Finset.sum_congr rfl fun b _ => Finset.sum_congr rfl fun p _ => ?_).trans (Fin.sum_mul_add_congr (S := 8) (n := 256)
    (F := fun b p => G (b.val * 256 + p.val)) (f := fun s => G s.val) fun b p hl => rfl)
  exact congrArg G (by omega)

/-- After the last point the loss is a sum over all tokens, -/
theorem out3_at (t : Fin cfg0.N) (h : t.val % 8 = 7) (a b : Fin 1) : (outsAt0 m c t.val t.isLt).1 (ix2 a b) = ∑ s : Fin 2048, ls (xm m c s.val) (wm m c) (tm m c s.val) := by
  rw [Pipeline.eq_sum_of_reset_step_apply_of_mod (M := EReal) (N := cfg0.N) (fun n h => (outsAt0 m c n h).1) 8 (fun _ => 0)
    (fun n _ => add3 m c n) (fun t h j => ?_) (fun t h j => ?_) t h (ix2 a b), zero_add]
  · exact blocks (fun s => ls (xm m c s) (wm m c) (tm m c s)) t
  · obtain ⟨a, b, rfl⟩ : ∃ (a b : Fin 1), j = ix2 a b := ⟨j 0, j 1, eq_ix2 j⟩
    exact out3_A m c t h a b
  · obtain ⟨a, b, rfl⟩ : ∃ (a b : Fin 1), j = ix2 a b := ⟨j 0, j 1, eq_ix2 j⟩
    exact out3_B m c t h a b

/-- and so is the weight's gradient. -/
theorem out5_at (t : Fin cfg0.N) (h : t.val % 8 = 7) (a : Fin 1) (q : Fin 1024) : (outsAt0 m c t.val t.isLt).2.2 (ix2 a q) = ∑ s : Fin 2048, dw (xm m c s.val) (wm m c) (tm m c s.val) q := by
  rw [Pipeline.eq_sum_of_reset_step_apply_of_mod (M := EReal) (N := cfg0.N) (fun n h => (outsAt0 m c n h).2.2) 8 (fun _ => 0)
    (fun n i => add5 m c n (i 1)) (fun t h j => ?_) (fun t h j => ?_) t h (ix2 a q), zero_add]
  · exact blocks (fun s => dw (xm m c s) (wm m c) (tm m c s) q) t
  · obtain ⟨a, b, rfl⟩ : ∃ (a : Fin 1) (b : Fin 1024), j = ix2 a b := ⟨j 0, j 1, eq_ix2 j⟩
    exact out5_A m c t h a b
  · obtain ⟨a, b, rfl⟩ : ∃ (a : Fin 1) (b : Fin 1024), j = ix2 a b := ⟨j 0, j 1, eq_ix2 j⟩
    exact out5_B m c t h a b

/-! ## The reference -/

section Reference
open Cert.LossReferenceIdeal.Read

variable (x y : (⟨S2048x1024, .f32⟩ : BufTy).Contents (Elt Ideal)) (w : (⟨S1024, .f32⟩ : BufTy).Contents (Elt Ideal))

/-- One over the root of the mean square, -/
theorem ref7 (t : Fin 2048) (a : Fin 1) : val_main_v7 (F := Ideal) x (ix2 t a) = rs (row x t.val) := by
  pointwise [val_main_v7, val_main_v6, val_main_v5, val_main_v4, val_main_v3, val_main_v2, val_main_v1, val_main_v0, val_main_cst, val_main_cst_0, val_main_cst_1]
  simp only [rs, row_at, zero_add]

/-- its slope, -/
theorem ref10 (t : Fin 2048) (a : Fin 1) : val_main_v10 (F := Ideal) x (ix2 t a)
    = mhf * Ideal.div (rs (row x t.val)) (Ideal.div (∑ j : Fin 1024, row x t.val j * row x t.val j) wid + sml) := by
  rw [← ref7 x t a]
  pointwise [val_main_v10, val_main_v9, val_main_v8, val_main_v6, val_main_v5, val_main_v4, val_main_v3, val_main_v2, val_main_v1, val_main_v0, val_main_cst, val_main_cst_0, val_main_cst_1, val_main_cst_2]
  simp only [row_at, zero_add]

/-- the errors, -/
theorem ref16 (t : Fin 2048) (k : Fin 1024) : val_main_v16 (F := Ideal) x w y (ix2 t k) = er (row x t.val) (fun j => w (ix1 j)) (row y t.val) k := by
  pointwise [val_main_v16, val_main_v15, val_main_v14, val_main_v13, val_main_v12, val_main_v11]
  rw [ref7, er, row_at, row_at]

/-- the norm's cotangent, -/
theorem ref30 (t : Fin 2048) (k : Fin 1024) : val_main_v30 (F := Ideal) x w y (ix2 t k) = dn (row x t.val) (fun j => w (ix1 j)) (row y t.val) k := by
  pointwise [val_main_v30, val_main_v29, val_main_v28, val_main_v27, val_main_v26, val_main_v25, val_main_v19, val_main_v18, val_main_cst_3, val_main_cst_8, val_main_cst_9, val_main_cst_10]
  rw [ref16, dn, inv_word, two_word, Half.half_word, div_wid, ← mul_assoc, ← EReal.coe_mul, ← EReal.coe_mul, mul_comm]
  congr 2
  norm_num

/-- the loss, -/
theorem ref51 (a b : Fin 1) : val_main_v51 (F := Ideal) x w y (ix2 a b) = ∑ s : Fin 2048, ls (row x s.val) (fun j => w (ix1 j)) (row y s.val) := by
  pointwise [val_main_v51, val_main_v24, val_main_v23, val_main_v22, val_main_v21, val_main_v20, val_main_v17, val_main_cst_4, val_main_cst_5, val_main_cst_6, val_main_cst_7]
  simp only [ref16, zero_add, ls, hinv_word]
  rw [Half.half_word, coe_mul_sum (by norm_num)]
  refine Finset.sum_congr rfl fun s _ => ?_
  rw [div_wid, mul_left_comm, ← EReal.coe_mul, mul_comm]
  congr 2
  norm_num

/-- the weight's gradient, -/
theorem ref52 (a : Fin 1) (k : Fin 1024) : val_main_v52 (F := Ideal) x w y (ix2 a k) = ∑ s : Fin 2048, dw (row x s.val) (fun j => w (ix1 j)) (row y s.val) k := by
  pointwise [val_main_v52, val_main_v36, val_main_v33, val_main_v32, val_main_v31, val_main_v12, val_main_v11, val_main_cst_11, val_main_cst_12]
  simp only [ref30, ref7, zero_add, dw, row_at, Fin.sum_univ_one]
  exact Finset.sum_congr rfl fun s _ => mul_comm _ _

/-- and the tokens' gradient. -/
theorem ref50 (t : Fin 2048) (k : Fin 1024) : val_main_v50 (F := Ideal) x w y (ix2 t k) = dx (row x t.val) (fun j => w (ix1 j)) (row y t.val) k := by
  rw [dx, dx_chain (row x t.val) (fun k => dn (row x t.val) (fun j => w (ix1 j)) (row y t.val) k * w (ix1 k)) k]
  pointwise [val_main_v50, val_main_v49, val_main_v48, val_main_v47, val_main_v46, val_main_v45, val_main_v44, val_main_v43, val_main_v42, val_main_v41, val_main_v40, val_main_v39, val_main_v38, val_main_v37, val_main_v35, val_main_v34, val_main_v13, val_main_cst_12, val_main_cst_13, val_main_cst_14, val_main_cst_15]
  simp only [ref30, ref10, ref7, zero_add, row_at, Fin.sum_univ_one]

end Reference

/-! ## The equation -/

/-- The loss the kernel ends with is the reference's, -/
theorem final3 : (dats m 0 c).arrAt 3 cfg0.N = Cert.LossReferenceIdeal.Read.val_main_v51 (F := Ideal) (m ((c : Thread nD τ).loc main_arg0)) (m ((c : Thread nD τ).loc main_arg1)) (m ((c : Thread nD τ).loc main_arg2)) := by
  refine (dats m 0 c).arrAt_eq_of_covers 3 _ (by decide +kernel) fun t hf' y => ?_
  have e := idx3 t
  blk_simp [e]
  obtain ⟨p, q, rfl⟩ : ∃ (p q : Fin 1), y = ix2 p q := ⟨y 0, y 1, eq_ix2 y⟩
  have z : ((View.whole main_v1_0).slice (win0_3.rect t)).emb (ix2 p q) = ix2 p q := by
    blk_ext [e]
  rw [after0_3, z, out3_at m c t ((flush0_3 t).mp hf'), ref51]

/-- so is the gradient of the tokens, -/
theorem final4 : (dats m 0 c).arrAt 4 cfg0.N = Cert.LossReferenceIdeal.Read.val_main_v50 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  have e := idx4 t
  blk_simp [e]
  obtain ⟨p, q, rfl⟩ : ∃ (p : Fin 256) (q : Fin 1024), y = ix2 p q := ⟨y 0, y 1, eq_ix2 y⟩
  have z : ((View.whole main_v1_1).slice (win0_4.rect t)).emb (ix2 p q) = ix2 (tok t p) q := by
    blk_ext [e]
  rw [after0_4, z, out4_at, ref50]

/-- and that of the weight. -/
theorem final5 : (dats m 0 c).arrAt 5 cfg0.N = Cert.LossReferenceIdeal.Read.val_main_v52 (F := Ideal) (m ((c : Thread nD τ).loc main_arg0)) (m ((c : Thread nD τ).loc main_arg1)) (m ((c : Thread nD τ).loc main_arg2)) := by
  refine (dats m 0 c).arrAt_eq_of_covers 5 _ (by decide +kernel) fun t hf' y => ?_
  have e := idx5 t
  blk_simp [e]
  obtain ⟨p, q, rfl⟩ : ∃ (p : Fin 1) (q : Fin 1024), y = ix2 p q := ⟨y 0, y 1, eq_ix2 y⟩
  have z : ((View.whole main_v1_2).slice (win0_5.rect t)).emb (ix2 p q) = ix2 p q := by
    blk_ext [e]
  rw [after0_5, z, out5_at m c t ((flush0_5 t).mp hf'), ref52]

/-- The kernel and the reference end with the same three results, for all arguments. -/
theorem values : Cert.algebraic_LossIdeal_LossReferenceIdeal := by
  intro m g m' g' _ ha
  refine ⟨fun c => (dats m 0 c).arrAt 3 cfg0.N, fun c => (dats m 0 c).arrAt 4 cfg0.N, fun c => (dats m 0 c).arrAt 5 cfg0.N,
    Cert.LossIdeal.Value.run_blocks m g, (θ_run _ _ _).mono (fun r h c => ?_) (Cert.LossReferenceIdeal.Value.run m' g')⟩
  obtain ⟨a0, a1, a2⟩ := ha c
  refine ⟨((h c).1.trans (Cert.LossReferenceIdeal.Read.val_main_v51_eq _ _ _)).trans ?_,
    ((h c).2.1.trans (Cert.LossReferenceIdeal.Read.val_main_v50_eq _ _)).trans ?_,
    ((h c).2.2.1.trans (Cert.LossReferenceIdeal.Read.val_main_v52_eq _ _ _)).trans ?_, (h c).2.2.2⟩
  · rw [a0, a1, a2]
    exact (final3 m c).symm
  · rw [a0, a1, a2]
    exact (final4 m c).symm
  · rw [a0, a1, a2]
    exact (final5 m c).symm

end Cert.LossClaim

end
-- ==== Proof.Attention.lean ====
/- The attention call: the array the kernel ends with is the reference's, for all arguments. -/
module

public import proofs.«01_k».proof.Defs
public import proofs.«01_k».proof.Proof.Gen.AttentionIdeal
public import proofs.«01_k».proof.Proof.Gen.AttentionIdeal.Value
public import proofs.«01_k».proof.Proof.Gen.AttentionReferenceIdeal
public import proofs.«01_k».proof.Proof.Gen.AttentionReferenceIdeal.Run
public import proofs.«01_k».proof.Proof.Gen.AttentionReferenceIdeal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.WritesUnit

@[expose] public section

open Idealize.ShloMosaic Idealize.ShloMosaic.TcCoe Idealize.ShloMosaic.Tactic Idealize.SL.Sem
open Cert.AttentionIdeal Cert.AttentionIdeal.Gen

noncomputable section

namespace Cert.AttentionClaim

set_option maxRecDepth 16384

/-! ## The formulas -/

/-- How far key `j` of a window of two blocks lies before query `i` of the second, as a word, -/
abbrev dist (i : Fin 128) (j : Fin 256) : BitVec 32 := IntOp.subi (IntOp.addi (BitVec.ofNat 32 i.val) 128#32) (BitVec.ofNat 32 j.val)

/-- and whether the query sees the key, in block `n`. -/
abbrev sees (n : Fin 16) (i : Fin 128) (j : Fin 256) : BitVec 1 :=
  IntOp.andi (IntOp.andi (IntOp.cmpi .sge (dist i j) 0#32) (IntOp.cmpi .slt (dist i j) 128#32))
    (IntOp.ori (IntOp.cmpi .sgt (BitVec.ofNat 32 n.val) 0#32) (IntOp.cmpi .sge (BitVec.ofNat 32 j.val) 128#32))

/-- The score of a query `q` against key `j`, -/
def score (n : Fin 16) (i : Fin 128) (q : Fin 64 → EReal) (k : Fin 256 → Fin 64 → EReal) (slope : EReal) (j : Fin 256) : EReal :=
  Scalar.select (sees n i j) ((∑ d : Fin 64, q d * k j d) * Ideal.ofBits .f32 0x3E000000#32 - slope * FloatOps.sitofp (F := Ideal) .f32 (dist i j))
    (Ideal.ofBits .f32 0xF149F2CA#32)

/-- the largest score or the sink, -/
def top (f : Fin 256 → EReal) (sink : EReal) : EReal := max ((Finset.univ : Finset (Fin 256)).fold max (Ideal.ofBits .f32 0xFF800000#32) f) sink

/-- and the values averaged by the exponentials of the scores, the sink's in the denominator. -/
def mix (f : Fin 256 → EReal) (sink : EReal) (v : Fin 256 → EReal) : EReal :=
  ∑ j : Fin 256, Ideal.div (Ideal.exp (f j - top f sink)) (∑ l : Fin 256, Ideal.exp (f l - top f sink) + Ideal.exp (sink - top f sink)) * v j

/-! ## The body -/

/-- Query `i` of head `g`, among the rows of four heads. -/
abbrev row (g : Fin 4) (i : Fin 128) : Fin 512 := ⟨128 * g.val + i.val, by omega⟩
/-- Entry `d` of head `g`, among the columns of four heads. -/
abbrev col (g : Fin 4) (d : Fin 64) : Fin 256 := ⟨64 * g.val + d.val, by omega⟩

/-- There are thirty-two points. -/
theorem lt32 (t : Fin cfg0.N) : t.val < 32 := lt_of_lt_of_eq t.isLt N_0

/-- The key head of point `t`. -/
abbrev hd (t : Fin cfg0.N) : Fin 2 := ⟨t.val / 16, by have := lt32 t; omega⟩
/-- The block. -/
abbrev nb (t : Fin cfg0.N) : Fin 16 := ⟨t.val % 16, by omega⟩

/-- Row `j` of two blocks, one under the other, of the columns of key head `h`. -/
def two (u v : Vec Ideal S128x128 .f32) (h : Fin 2) (j : Fin 256) (d : Fin 64) : EReal :=
  if hj : j.val < 128 then u (ix2 (⟨j.val, hj⟩ : Fin 128) (⟨64 * h.val + d.val, by omega⟩ : Fin 128))
  else v (ix2 (⟨j.val - 128, by omega⟩ : Fin 128) (⟨64 * h.val + d.val, by omega⟩ : Fin 128))

/-- The body asks whether its point is of the first pair. -/
theorem cond0 : ∀ t : Fin cfg0.N, Scalar.cmpi .eq (BitVec.ofNat 32 ((grid0.coords t) 0).val) 0#32 = if t.val / 16 = 0 then 1#1 else 0#1 := by decide +kernel
/-- The second coordinate is the block. -/
theorem cond1 : ∀ t : Fin cfg0.N, ((grid0.coords t) 1).val = t.val % 16 := by decide +kernel

/-- The averages of the values, from the shifted scores. -/
theorem pay1 (v : FVec Ideal S256x64 .f32) (s top : FVec Ideal S512x1 .f32) (f : FVec Ideal S512x256 .f32) (r : Fin 512) (d : Fin 64) :
    k0_pay1 v s top f (ix2 r d) = ∑ j : Fin 256, Ideal.div (Ideal.exp (f (ix2 r j))) (∑ l : Fin 256, Ideal.exp (f (ix2 r l)) + Ideal.exp (s (ix2 r (0 : Fin 1)) - top (ix2 r (0 : Fin 1)))) * v (ix2 j d) := by
  pointwise [k0_pay1]

/-- The row's place in its block, as the body computes it. -/
theorem place : ∀ r : Fin 512, (let b := Scalar.select (Scalar.cmpi .eq 128#32 0#32) 1#32 128#32; let a := IntOp.remsi .vector (BitVec.ofNat 32 r.val) b
    Scalar.select (IntOp.andi (IntOp.xori (IntOp.cmpi .slt a 0#32) (Scalar.cmpi .slt b 0#32)) (IntOp.cmpi .ne a 0#32)) (IntOp.addi a b) a) = BitVec.ofNat 32 (r.val % 128) := by decide +kernel

/-- The distances, -/
theorem pay6 (g : Fin 4) (i : Fin 128) (j : Fin 256) : k0_pay6 (ix2 (row g i) j) = dist i j := by
  pointwise [k0_pay6]
  refine congrArg (fun a => IntOp.subi (IntOp.addi a 128#32) (BitVec.ofNat 32 j.val)) ((place (row g i)).trans (congrArg (BitVec.ofNat 32) ?_))
  show (128 * g.val + i.val) % 128 = i.val
  omega

/-- the mask, -/
theorem pay7 (t : Fin cfg0.N) (g : Fin 4) (i : Fin 128) (j : Fin 256) : k0_pay7 (grid0.coords t) (ix2 (row g i) j) = sees (nb t) i j := by
  pointwise [k0_pay7, pay6]
  rw [cond1]
  rfl

/-- the distances as floats, -/
theorem pay8 (g : Fin 4) (i : Fin 128) (j : Fin 256) : k0_pay8 (F := Ideal) (ix2 (row g i) j) = FloatOps.sitofp (F := Ideal) .f32 (dist i j) := by
  show FloatOps.sitofp (F := Ideal) .f32 (k0_pay6 (ix2 (row g i) j)) = _
  rw [pay6]

/-- and the queries of the four heads, one under the other. -/
theorem pay9 (f : Fin 4 → Vec Ideal S128x64 .f32) (g : Fin 4) (i : Fin 128) (d : Fin 64) : k0_pay9 (f 0) (f 1) (f 2) (f 3) (ix2 (row g i) d) = f g (ix2 i d) := by
  pointwise [k0_pay9]
  fin_cases g
  · rw [dif_pos (by dsimp only; omega)]; exact congrArg (fun a => f 0 (ix2 a d)) (Fin.ext (by dsimp only; omega))
  · rw [dif_neg (by dsimp only; omega), dif_pos (by dsimp only; omega)]; exact congrArg (fun a => f 1 (ix2 a d)) (Fin.ext (by dsimp only; omega))
  · rw [dif_neg (by dsimp only; omega), dif_neg (by dsimp only; omega), dif_pos (by dsimp only; omega)]; exact congrArg (fun a => f 2 (ix2 a d)) (Fin.ext (by dsimp only; omega))
  · rw [dif_neg (by dsimp only; omega), dif_neg (by dsimp only; omega), dif_neg (by dsimp only; omega)]; exact congrArg (fun a => f 3 (ix2 a d)) (Fin.ext (by dsimp only; omega))

/-- The columns the body picks of a block are those of its point's key head. -/
theorem picked (t : Fin cfg0.N) (u : Vec Ideal S128x128 .f32) (p : Fin 128) (d : Fin 64) :
    Scalar.select (Scalar.cmpi .eq (BitVec.ofNat 32 ((grid0.coords t) 0).val) 0#32) (u (ix2 p (⟨d.val, by omega⟩ : Fin 128))) (u (ix2 p (⟨64 + d.val, by omega⟩ : Fin 128)))
      = u (ix2 p (⟨64 * (hd t).val + d.val, by omega⟩ : Fin 128)) := by
  have ht := lt32 t
  rw [cond0]
  split
  · exact congrArg (fun a => u (ix2 p a)) (Fin.ext (by show d.val = 64 * (t.val / 16) + d.val; omega))
  · exact congrArg (fun a => u (ix2 p a)) (Fin.ext (by show 64 + d.val = 64 * (t.val / 16) + d.val; omega))

/-- The two blocks of values of the point's key head. -/
theorem pay10 (t : Fin cfg0.N) (u v : Vec Ideal S128x128 .f32) (j : Fin 256) (d : Fin 64) : k0_pay10 (BitVec.ofNat 32 ((grid0.coords t) 0).val) u v (ix2 j d) = two u v (hd t) j d := by
  pointwise [k0_pay10]
  unfold two
  split <;> exact picked t _ _ d

/-- The scores of query `i` of head `g` at point `t`, -/
abbrev sc (t : Fin cfg0.N) (q : FVec Ideal S512x64 .f32) (u v : Vec Ideal S128x128 .f32) (a : Vec Ideal S512x1 .f32) (g : Fin 4) (i : Fin 128) (j : Fin 256) : EReal :=
  score (nb t) i (fun d => q (ix2 (row g i) d)) (two u v (hd t)) (a (ix2 (row g i) (0 : Fin 1))) j

/-- the body takes them so, -/
theorem pay12 (t : Fin cfg0.N) (q : FVec Ideal S512x64 .f32) (u v : Vec Ideal S128x128 .f32) (a : Vec Ideal S512x1 .f32) (g : Fin 4) (i : Fin 128) (j : Fin 256) :
    k0_pay12 (BitVec.ofNat 32 ((grid0.coords t) 0).val) (k0_pay7 (grid0.coords t)) (k0_pay8 (F := Ideal)) q u v a (ix2 (row g i) j) = sc t q u v a g i j := by
  pointwise [k0_pay12, pay7, pay8, score]
  refine congrArg (fun z => Scalar.select (sees (nb t) i j) (z * Ideal.ofBits .f32 0x3E000000#32 - _) _) (Finset.sum_congr rfl fun d _ => congrArg (fun z => q (ix2 (row g i) d) * z) ?_)
  unfold two
  split <;> exact picked t _ _ d

/-- their maximum with the sink, -/
theorem pay13 (t : Fin cfg0.N) (q : FVec Ideal S512x64 .f32) (u v : Vec Ideal S128x128 .f32) (s a : Vec Ideal S512x1 .f32) (g : Fin 4) (i : Fin 128) :
    k0_pay13 (BitVec.ofNat 32 ((grid0.coords t) 0).val) (k0_pay7 (grid0.coords t)) (k0_pay8 (F := Ideal)) q u v s a (ix2 (row g i) (0 : Fin 1)) = top (sc t q u v a g i) (s (ix2 (row g i) (0 : Fin 1))) := by
  pointwise [k0_pay13, k0_pay11, pay12, top]

/-- and the scores less that maximum. -/
theorem pay14 (t : Fin cfg0.N) (q : FVec Ideal S512x64 .f32) (u v : Vec Ideal S128x128 .f32) (s a : Vec Ideal S512x1 .f32) (g : Fin 4) (i : Fin 128) (j : Fin 256) :
    k0_pay14 (BitVec.ofNat 32 ((grid0.coords t) 0).val) (k0_pay7 (grid0.coords t)) (k0_pay8 (F := Ideal)) q u v s a (ix2 (row g i) j) = sc t q u v a g i j - top (sc t q u v a g i) (s (ix2 (row g i) (0 : Fin 1))) := by
  pointwise [k0_pay14, pay12, pay13]

/-- The four stores, one head beside the other. -/
theorem stores (u v w z : Vec Ideal S128x64 .f32) (g : Fin 4) (i : Fin 128) (d : Fin 64) :
    View.canon ([⟨r0_3, z⟩, ⟨r0_2, w⟩, ⟨r0_1, v⟩, ⟨r0_0, u⟩] : List (View.Piece (Elt Ideal) S128x256 .f32)) (ix2 i (col g d)) = (![u, v, w, z] : Fin 4 → Vec Ideal S128x64 .f32) g (ix2 i d) := by
  have e (o : ℕ) (inb) (ho : o + d.val < 256) : (Rect.unit (s := S128x256) ![0, o] ![128, 64] inb).emb (ix2 i d) = ix2 i (⟨o + d.val, ho⟩ : Fin 256) := by
    funext a; apply Fin.ext
    fin_cases a
    · show 0 + 1 * i.val = i.val; omega
    · show o + 1 * d.val = o + d.val; omega
  have ne (o : ℕ) (inb) (k : Fin 256) (hk : k.val < o) : ix2 i k ∉ (Rect.unit (s := S128x256) ![0, o] ![128, 64] inb).set := by
    intro hm
    obtain ⟨y, _, he⟩ := (LoadRect.mem_set _).mp hm (1 : Fin 2)
    have he' : k.val = o + 1 * y := he
    omega
  have h (k : Fin 256) (hk : k = col g d) : View.canon ([⟨r0_3, z⟩, ⟨r0_2, w⟩, ⟨r0_1, v⟩, ⟨r0_0, u⟩] : List (View.Piece (Elt Ideal) S128x256 .f32)) (ix2 i k) = (![u, v, w, z] : Fin 4 → Vec Ideal S128x64 .f32) g (ix2 i d) := by
    have hv : k.val = 64 * g.val + d.val := congrArg Fin.val hk
    by_cases h3 : g = 3
    · subst h3
      have q : ix2 i k = r0_3.emb (ix2 i d) := (congrArg (ix2 i) hk).trans (e 192 _ (by omega)).symm
      rw [q, View.canon_cons_emb]; rfl
    have g3 : g.val ≠ 3 := fun h => h3 (Fin.ext h)
    rw [View.canon_cons_of_not_mem]
    swap; · exact ne 192 inb_S128x256_S128x64_0_192 k (by omega)
    by_cases h2 : g = 2
    · subst h2
      have q : ix2 i k = r0_2.emb (ix2 i d) := (congrArg (ix2 i) hk).trans (e 128 _ (by omega)).symm
      rw [q, View.canon_cons_emb]; rfl
    have g2 : g.val ≠ 2 := fun h => h2 (Fin.ext h)
    rw [View.canon_cons_of_not_mem]
    swap; · exact ne 128 inb_S128x256_S128x64_0_128 k (by omega)
    by_cases h1 : g = 1
    · subst h1
      have q : ix2 i k = r0_1.emb (ix2 i d) := (congrArg (ix2 i) hk).trans (e 64 _ (by omega)).symm
      rw [q, View.canon_cons_emb]; rfl
    have g1 : g.val ≠ 1 := fun h => h1 (Fin.ext h)
    rw [View.canon_cons_of_not_mem]
    swap; · exact ne 64 inb_S128x256_S128x64_0_64 k (by omega)
    obtain rfl : g = 0 := Fin.ext (by show g.val = 0; omega)
    have q : ix2 i k = r0_0.emb (ix2 i d) := (congrArg (ix2 i) (hk.trans (Fin.ext (by show 64 * 0 + d.val = 0 + d.val; omega)))).trans (e 0 _ (by omega)).symm
    rw [q, View.canon_cons_emb]; rfl
  exact h _ rfl

/-- The columns of a head, as the body loads them. -/
theorem loads (x : Vec Ideal S128x256 .f32) (g : Fin 4) (i : Fin 128) (d : Fin 64) :
    (![View.ld x r0_0, View.ld x r0_1, View.ld x r0_2, View.ld x r0_3] : Fin 4 → Vec Ideal S128x64 .f32) g (ix2 i d) = x (ix2 i (col g d)) := by
  fin_cases g <;> refine congrArg x (funext fun a => Fin.ext ?_) <;> fin_cases a
  · show 0 + 1 * i.val = i.val; omega
  · show 0 + 1 * d.val = 64 * 0 + d.val; omega
  · show 0 + 1 * i.val = i.val; omega
  · show 64 + 1 * d.val = 64 * 1 + d.val; omega
  · show 0 + 1 * i.val = i.val; omega
  · show 128 + 1 * d.val = 64 * 2 + d.val; omega
  · show 0 + 1 * i.val = i.val; omega
  · show 192 + 1 * d.val = 64 * 3 + d.val; omega

/-- The rows of a head, as the body stores them. -/
theorem cut (v : FVec Ideal S256x64 .f32) (s top : FVec Ideal S512x1 .f32) (f : FVec Ideal S512x256 .f32) (g : Fin 4) (i : Fin 128) (d : Fin 64) :
    (![k0_pay2 v s top f, k0_pay3 v s top f, k0_pay4 v s top f, k0_pay5 v s top f] : Fin 4 → Vec Ideal S128x64 .f32) g (ix2 i d) = k0_pay1 v s top f (ix2 (row g i) d) := by
  fin_cases g
  · show k0_pay2 v s top f (ix2 i d) = _
    pointwise [k0_pay2]
    exact congrArg (fun r => k0_pay1 v s top f (ix2 r d)) (Fin.ext (by show i.val = 128 * 0 + i.val; omega))
  · show k0_pay3 v s top f (ix2 i d) = _
    pointwise [k0_pay3]
    exact congrArg (fun r => k0_pay1 v s top f (ix2 r d)) (Fin.ext (by show 128 + i.val = 128 * 1 + i.val; omega))
  · show k0_pay4 v s top f (ix2 i d) = _
    pointwise [k0_pay4]
    exact congrArg (fun r => k0_pay1 v s top f (ix2 r d)) (Fin.ext (by show 256 + i.val = 128 * 2 + i.val; omega))
  · show k0_pay5 v s top f (ix2 i d) = _
    pointwise [k0_pay5]
    exact congrArg (fun r => k0_pay1 v s top f (ix2 r d)) (Fin.ext (by show 384 + i.val = 128 * 3 + i.val; omega))

/-- What a point leaves of query `i` of head `g`. -/
theorem out_at (t : Fin cfg0.N) (x0 : Vec Ideal S128x256 .f32) (x1 x2 x3 x4 : Vec Ideal S128x128 .f32) (x5 x6 : Vec Ideal S512x1 .f32) (g : Fin 4) (i : Fin 128) (d : Fin 64) :
    out0_7 (grid0.coords t) x0 x1 x2 x3 x4 x5 x6 (ix2 i (col g d))
      = mix (score (nb t) i (fun d => x0 (ix2 i (col g d))) (two x1 x2 (hd t)) (x6 (ix2 (row g i) (0 : Fin 1)))) (x5 (ix2 (row g i) (0 : Fin 1))) (fun j => two x3 x4 (hd t) j d) := by
  unfold_out out0_7
  frame_out
  refine (stores _ _ _ _ g i d).trans ((cut _ _ _ _ g i d).trans ?_)
  rw [pay1]
  have q (d : Fin 64) : k0_pay9 (View.ld x0 r0_0) (View.ld x0 r0_1) (View.ld x0 r0_2) (View.ld x0 r0_3) (ix2 (row g i) d) = x0 (ix2 i (col g d)) :=
    (pay9 ![View.ld x0 r0_0, View.ld x0 r0_1, View.ld x0 r0_2, View.ld x0 r0_3] g i d).trans (loads x0 g i d)
  have s : k0_pay11 (F := Ideal) x5 (ix2 (row g i) (0 : Fin 1)) = x5 (ix2 (row g i) (0 : Fin 1)) := by pointwise [k0_pay11]
  have e : sc t (k0_pay9 (View.ld x0 r0_0) (View.ld x0 r0_1) (View.ld x0 r0_2) (View.ld x0 r0_3)) x1 x2 x6 g i = score (nb t) i (fun d => x0 (ix2 i (col g d))) (two x1 x2 (hd t)) (x6 (ix2 (row g i) (0 : Fin 1))) :=
    congrArg (fun f => score (nb t) i f (two x1 x2 (hd t)) (x6 (ix2 (row g i) (0 : Fin 1)))) (funext q)
  have e' (j : Fin 256) := congrFun e j
  unfold mix
  simp only [pay14, pay13, pay10, s, e, e']

/-! ## The kernel -/

variable (m : (ℓ : Loc nD τ sig) → Buf (Elt Ideal) ℓ) (c : Dev nD)

/-- The blocks of the windows at each point: queries, -/
theorem idx0 : ∀ t : Fin cfg0.N, win0_0.index t = ![t.val % 16, t.val / 16] := by decide +kernel
/-- the keys before, -/
theorem idx1 : ∀ t : Fin cfg0.N, win0_1.index t = ![t.val % 16 - 1, 4] := by decide +kernel
/-- the keys, -/
theorem idx2 : ∀ t : Fin cfg0.N, win0_2.index t = ![t.val % 16, 4] := by decide +kernel
/-- the values before, -/
theorem idx3 : ∀ t : Fin cfg0.N, win0_3.index t = ![t.val % 16 - 1, 5] := by decide +kernel
/-- the values, -/
theorem idx4 : ∀ t : Fin cfg0.N, win0_4.index t = ![t.val % 16, 5] := by decide +kernel
/-- the sinks, -/
theorem idx5 : ∀ t : Fin cfg0.N, win0_5.index t = ![t.val / 16, 0] := by decide +kernel
/-- the slopes, -/
theorem idx6 : ∀ t : Fin cfg0.N, win0_6.index t = ![t.val / 16, 0] := by decide +kernel
/-- and the result. -/
theorem idx7 : ∀ t : Fin cfg0.N, win0_7.index t = ![t.val % 16, t.val / 16] := by decide +kernel

/-- The argument arrays. -/
abbrev px := m ((c : Thread nD τ).loc main_arg0)
abbrev ps := m ((c : Thread nD τ).loc main_arg1)
abbrev pa := m ((c : Thread nD τ).loc main_arg2)

/-- The token of row `j` of the window of block `n`. -/
abbrev tok (n : Fin 16) (j : Fin 256) : Fin 2048 := ⟨if j.val < 128 then 128 * (n.val - 1) + j.val else 128 * n.val + (j.val - 128), by split <;> omega⟩

/-- The queries, keys and values of the projection. -/
abbrev qs (x : (⟨S2048x3072, .f32⟩ : BufTy).Contents (Elt Ideal)) (h : Fin 2) (g : Fin 4) (n : Fin 16) (i : Fin 128) (d : Fin 64) : EReal := x (ix2 (⟨128 * n.val + i.val, by omega⟩ : Fin 2048) (⟨256 * h.val + 64 * g.val + d.val, by omega⟩ : Fin 3072))
abbrev ks (x : (⟨S2048x3072, .f32⟩ : BufTy).Contents (Elt Ideal)) (h : Fin 2) (n : Fin 16) (j : Fin 256) (d : Fin 64) : EReal := x (ix2 (tok n j) (⟨512 + 64 * h.val + d.val, by omega⟩ : Fin 3072))
abbrev vs (x : (⟨S2048x3072, .f32⟩ : BufTy).Contents (Elt Ideal)) (h : Fin 2) (n : Fin 16) (j : Fin 256) (d : Fin 64) : EReal := x (ix2 (tok n j) (⟨640 + 64 * h.val + d.val, by omega⟩ : Fin 3072))
/-- The number of a head. -/
abbrev no (h : Fin 2) (g : Fin 4) : Fin 8 := ⟨4 * h.val + g.val, by omega⟩

/-- The attention of query `i` of block `n` and head `g` of pair `h`. -/
def att (x : (⟨S2048x3072, .f32⟩ : BufTy).Contents (Elt Ideal)) (s a : (⟨S8, .f32⟩ : BufTy).Contents (Elt Ideal)) (h : Fin 2) (g : Fin 4) (n : Fin 16) (i : Fin 128) (d : Fin 64) : EReal :=
  mix (score n i (qs x h g n i) (ks x h n) (a (ix1 (no h g)))) (s (ix1 (no h g))) (fun j => vs x h n j d)

/-- The blocks a point reads: queries, -/
theorem blk0 (t : Fin cfg0.N) (g : Fin 4) (i : Fin 128) (d : Fin 64) : iblk m c 0 t (ix2 i (col g d)) = qs (px m c) (hd t) g (nb t) i d := by
  have e := idx0 t
  have ht := lt32 t
  blk_ext [iblk, V, e]

/-- the keys before, -/
theorem blk1 (t : Fin cfg0.N) (p : Fin 128) (q : Fin 128) : iblk m c 1 t (ix2 p q) = px m c (ix2 (⟨128 * (t.val % 16 - 1) + p.val, by omega⟩ : Fin 2048) (⟨512 + q.val, by omega⟩ : Fin 3072)) := by
  have e := idx1 t
  blk_ext [iblk, V, e]

/-- the keys, -/
theorem blk2 (t : Fin cfg0.N) (p : Fin 128) (q : Fin 128) : iblk m c 2 t (ix2 p q) = px m c (ix2 (⟨128 * (t.val % 16) + p.val, by omega⟩ : Fin 2048) (⟨512 + q.val, by omega⟩ : Fin 3072)) := by
  have e := idx2 t
  blk_ext [iblk, V, e]

/-- the values before, -/
theorem blk3 (t : Fin cfg0.N) (p : Fin 128) (q : Fin 128) : iblk m c 3 t (ix2 p q) = px m c (ix2 (⟨128 * (t.val % 16 - 1) + p.val, by omega⟩ : Fin 2048) (⟨640 + q.val, by omega⟩ : Fin 3072)) := by
  have e := idx3 t
  blk_ext [iblk, V, e]

/-- and the values. -/
theorem blk4 (t : Fin cfg0.N) (p : Fin 128) (q : Fin 128) : iblk m c 4 t (ix2 p q) = px m c (ix2 (⟨128 * (t.val % 16) + p.val, by omega⟩ : Fin 2048) (⟨640 + q.val, by omega⟩ : Fin 3072)) := by
  have e := idx4 t
  blk_ext [iblk, V, e]

/-- The sinks, a head's repeated for each of its rows. -/
theorem blk5 (t : Fin cfg0.N) (g : Fin 4) (i : Fin 128) : iblk m c 5 t (ix2 (row g i) (0 : Fin 1)) = ps m c (ix1 (no (hd t) g)) := by
  have e := idx5 t
  have ht := lt32 t
  blk_simp [iblk, e]
  entry_read
  pointwise
  have z : ((View.whole main_v2).slice (win0_5.rect t)).emb (ix2 (row g i) (0 : Fin 1)) = ix2 (⟨512 * (t.val / 16) + (128 * g.val + i.val), by omega⟩ : Fin 1024) (0 : Fin 1) := by blk_ext [e]
  refine congrArg (fun k => ps m c (ix1 k)) (Fin.ext ?_)
  show (((View.whole main_v2).slice (win0_5.rect t)).emb (ix2 (row g i) (0 : Fin 1)) 0).val / 128 = 4 * (t.val / 16) + g.val
  rw [z]
  show (512 * (t.val / 16) + (128 * g.val + i.val)) / 128 = 4 * (t.val / 16) + g.val
  omega

/-- The slopes likewise. -/
theorem blk6 (t : Fin cfg0.N) (g : Fin 4) (i : Fin 128) : iblk m c 6 t (ix2 (row g i) (0 : Fin 1)) = pa m c (ix1 (no (hd t) g)) := by
  have e := idx6 t
  have ht := lt32 t
  blk_simp [iblk, e]
  entry_read
  pointwise
  have z : ((View.whole main_v5).slice (win0_6.rect t)).emb (ix2 (row g i) (0 : Fin 1)) = ix2 (⟨512 * (t.val / 16) + (128 * g.val + i.val), by omega⟩ : Fin 1024) (0 : Fin 1) := by blk_ext [e]
  refine congrArg (fun k => pa m c (ix1 k)) (Fin.ext ?_)
  show (((View.whole main_v5).slice (win0_6.rect t)).emb (ix2 (row g i) (0 : Fin 1)) 0).val / 128 = 4 * (t.val / 16) + g.val
  rw [z]
  show (512 * (t.val / 16) + (128 * g.val + i.val)) / 128 = 4 * (t.val / 16) + g.val
  omega

/-- A point's window of keys. -/
theorem keys (t : Fin cfg0.N) : two (iblk m c 1 t) (iblk m c 2 t) (hd t) = ks (px m c) (hd t) (nb t) := by
  funext j d
  unfold two
  split
  · rename_i hj
    rw [blk1]
    exact congrArg₂ (fun r q => px m c (ix2 r q)) (Fin.ext (if_pos hj).symm) (Fin.ext (by show 512 + (64 * (t.val / 16) + d.val) = 512 + 64 * (t.val / 16) + d.val; omega))
  · rename_i hj
    rw [blk2]
    exact congrArg₂ (fun r q => px m c (ix2 r q)) (Fin.ext (if_neg hj).symm) (Fin.ext (by show 512 + (64 * (t.val / 16) + d.val) = 512 + 64 * (t.val / 16) + d.val; omega))

/-- The values likewise. -/
theorem vals (t : Fin cfg0.N) : two (iblk m c 3 t) (iblk m c 4 t) (hd t) = vs (px m c) (hd t) (nb t) := by
  funext j d
  unfold two
  split
  · rename_i hj
    rw [blk3]
    exact congrArg₂ (fun r q => px m c (ix2 r q)) (Fin.ext (if_pos hj).symm) (Fin.ext (by show 640 + (64 * (t.val / 16) + d.val) = 640 + 64 * (t.val / 16) + d.val; omega))
  · rename_i hj
    rw [blk4]
    exact congrArg₂ (fun r q => px m c (ix2 r q)) (Fin.ext (if_neg hj).symm) (Fin.ext (by show 640 + (64 * (t.val / 16) + d.val) = 640 + 64 * (t.val / 16) + d.val; omega))

/-- What point `t` leaves. -/
theorem left (t : Fin cfg0.N) (g : Fin 4) (i : Fin 128) (d : Fin 64) :
    (dats m 0 c).after 7 t (ix2 i (col g d)) = att (px m c) (ps m c) (pa m c) (hd t) g (nb t) i d := by
  rw [after0_7]
  refine (out_at t _ _ _ _ _ _ _ g i d).trans ?_
  rw [keys, vals, blk5, blk6]
  simp only [blk0]
  rfl

/-! ## The reference -/

section Reference
open Cert.AttentionReferenceIdeal.Read

variable (x : (⟨S2048x3072, .f32⟩ : BufTy).Contents (Elt Ideal)) (s a : (⟨S8, .f32⟩ : BufTy).Contents (Elt Ideal))

/-- The queries by block and head, -/
theorem ref3 (h : Fin 2) (g : Fin 4) (n : Fin 16) (i : Fin 128) (d : Fin 64) : val_main_v3 (F := Ideal) x (ix5 n i h g d) = qs x h g n i d := by
  pointwise [val_main_v3, val_main_v0]
  exact congrArg₂ (fun r q => x (ix2 r q)) (Fin.ext (by show n.val * 128 + i.val = 128 * n.val + i.val; omega)) (Fin.ext (by show h.val * 256 + g.val * 64 + d.val = 256 * h.val + 64 * g.val + d.val; omega))

/-- the windows of the keys, -/
theorem ref8 (h : Fin 2) (n : Fin 16) (j : Fin 256) (d : Fin 64) : val_main_v8 (F := Ideal) x (ix4 n j h d) = ks x h n j d := by
  pointwise [val_main_v8, val_main_v7, val_main_v6, val_main_v5, val_main_v4, val_main_v1]
  split
  · split
    all_goals exact congrArg₂ (fun r q => x (ix2 r q)) (Fin.ext (by dsimp only; rw [if_pos (by assumption)]; omega)) (Fin.ext (by dsimp only; omega))
  · exact congrArg₂ (fun r q => x (ix2 r q)) (Fin.ext (by dsimp only; rw [if_neg (by assumption)]; omega)) (Fin.ext (by dsimp only; omega))

/-- and of the values. -/
theorem ref13 (h : Fin 2) (n : Fin 16) (j : Fin 256) (d : Fin 64) : val_main_v13 (F := Ideal) x (ix4 n j h d) = vs x h n j d := by
  pointwise [val_main_v13, val_main_v12, val_main_v11, val_main_v10, val_main_v9, val_main_v2]
  split
  · split
    all_goals exact congrArg₂ (fun r q => x (ix2 r q)) (Fin.ext (by dsimp only; rw [if_pos (by assumption)]; omega)) (Fin.ext (by dsimp only; omega))
  · exact congrArg₂ (fun r q => x (ix2 r q)) (Fin.ext (by dsimp only; rw [if_neg (by assumption)]; omega)) (Fin.ext (by dsimp only; omega))

/-- The number of a head, as the reference counts it. -/
theorem no_eq (h : Fin 2) (g : Fin 4) (hh) : (⟨h.val * 4 + g.val, hh⟩ : Fin 8) = no h g := Fin.ext (by dsimp only; omega)

/-- The scores, -/
theorem ref55 (h : Fin 2) (g : Fin 4) (n : Fin 16) (i : Fin 128) (j : Fin 256) : val_main_v55 (F := Ideal) x a (ix5 h g n i j) = score n i (qs x h g n i) (ks x h n) (a (ix1 (no h g))) j := by
  pointwise [val_main_v55, val_main_call0_v0, val_main_call0_v1, val_main_call0_v2, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_cst, val_main_c, val_main_c_0, val_main_c_1, val_main_c_2, val_main_c_3, val_main_cst_4, ref3, ref8]
  rw [no_eq]
  unfold score
  refine congrArg (fun z => Scalar.select (sees n i j) (z * Ideal.ofBits .f32 0x3E000000#32 - _) _) (Finset.sum_congr rfl fun d _ => mul_comm _ _)

/-- the last axis dropped, -/
theorem dropped : Shape.Reduces Cert.AttentionReferenceIdeal.S2x4x16x128x256 [4] Cert.AttentionReferenceIdeal.S2x4x16x128 := by decide

/-- an index with its coordinate put back, -/
theorem lifted (h : Fin 2) (g : Fin 4) (n : Fin 16) (i : Fin 128) (j : Fin 256) : dropped.lift (ix4 h g n i) j = ix5 h g n i j :=
  funext fun b => Fin.ext (by match b with | ⟨0, _⟩ => rfl | ⟨1, _⟩ => rfl | ⟨2, _⟩ => rfl | ⟨3, _⟩ => rfl | ⟨4, _⟩ => rfl)

/-- the largest of them, -/
theorem ref58 (h : Fin 2) (g : Fin 4) (n : Fin 16) (i : Fin 128) :
    val_main_v58 (F := Ideal) x a (ix4 h g n i) = (Finset.univ : Finset (Fin 256)).fold max (Ideal.ofBits .f32 0xFF800000#32) fun j => val_main_v55 (F := Ideal) x a (ix5 h g n i j) := by
  unfold val_main_v58
  generalize val_main_v55 (F := Ideal) x a = y
  refine (Host.reduce_eq_fold_single _ _ _ _ dropped _ _).trans ?_
  exact congrArg (fun f => (Finset.univ : Finset (Fin 256)).fold max (Ideal.ofBits .f32 0xFF800000#32) f) (funext fun j => congrArg y (lifted h g n i j))

/-- as a column, -/
theorem ref59 (h : Fin 2) (g : Fin 4) (n : Fin 16) (i : Fin 128) : val_main_v59 (F := Ideal) x a (ix5 h g n i (0 : Fin 1)) = val_main_v58 (F := Ideal) x a (ix4 h g n i) := by
  rw [val_main_v59_apply]
  refine congrArg (val_main_v58 (F := Ideal) x a) (funext fun b => Fin.ext ?_)
  match b with | ⟨0, _⟩ => rfl | ⟨1, _⟩ => rfl | ⟨2, _⟩ => rfl | ⟨3, _⟩ => rfl

/-- the sinks as a column, -/
theorem ref60 (h : Fin 2) (g : Fin 4) (n : Fin 16) (i : Fin 128) : val_main_v60 (F := Ideal) s (ix5 h g n i (0 : Fin 1)) = s (ix1 (no h g)) := by
  pointwise [val_main_v60, val_main_v57, val_main_v56]
  rw [no_eq]

/-- the maximum of two values, -/
theorem largest (u v : EReal) : FloatOps.maximumf (F := Ideal) (φ := .f32) u v = max u v := rfl

/-- the largest of them or the sink, -/
theorem ref61 (h : Fin 2) (g : Fin 4) (n : Fin 16) (i : Fin 128) : val_main_v61 (F := Ideal) x s a (ix5 h g n i (0 : Fin 1)) = top (score n i (qs x h g n i) (ks x h n) (a (ix1 (no h g)))) (s (ix1 (no h g))) := by
  unfold val_main_v61
  rw [maximumf_apply, ref59, ref60, ref58, largest]
  unfold top
  rw [show (fun j => val_main_v55 (F := Ideal) x a (ix5 h g n i j)) = score n i (qs x h g n i) (ks x h n) (a (ix1 (no h g))) from funext fun j => ref55 x a h g n i j]

/-- and the averages. -/
theorem ref74 (h : Fin 2) (g : Fin 4) (n : Fin 16) (i : Fin 128) (d : Fin 64) : val_main_v74 (F := Ideal) x s a (ix5 n i h g d) = att x s a h g n i d := by
  pointwise [val_main_v74, val_main_v73, val_main_v72, val_main_v71, val_main_v70, val_main_v69, val_main_v68, val_main_v67, val_main_v66, val_main_v65, val_main_v64, val_main_v63, val_main_v62, val_main_v57, val_main_v56, val_main_cst_6]
  simp only [ref55, ref61, ref13, no_eq, zero_add]
  exact Finset.sum_congr rfl fun j _ => mul_comm _ _

/-- The result, with its rows and columns joined. -/
theorem ref75 (h : Fin 2) (g : Fin 4) (n : Fin 16) (i : Fin 128) (d : Fin 64) :
    val_main_v75 (F := Ideal) x s a (ix2 (⟨128 * n.val + i.val, by omega⟩ : Fin 2048) (⟨256 * h.val + 64 * g.val + d.val, by omega⟩ : Fin 512)) = att x s a h g n i d := by
  rw [val_main_v75_apply, ← ref74]
  refine congrArg (val_main_v74 (F := Ideal) x s a) (funext fun b => Fin.ext ?_)
  fin_cases b
  · show ((128 * n.val + i.val) * 512 + (256 * h.val + 64 * g.val + d.val)) / 65536 = n.val; omega
  · show ((128 * n.val + i.val) * 512 + (256 * h.val + 64 * g.val + d.val)) / 512 % 128 = i.val; omega
  · show ((128 * n.val + i.val) * 512 + (256 * h.val + 64 * g.val + d.val)) / 256 % 2 = h.val; omega
  · show ((128 * n.val + i.val) * 512 + (256 * h.val + 64 * g.val + d.val)) / 64 % 4 = g.val; omega
  · show ((128 * n.val + i.val) * 512 + (256 * h.val + 64 * g.val + d.val)) % 64 = d.val; omega

end Reference

/-! ## The equation -/

/-- The array the kernel ends with is the reference's. -/
theorem final : (dats m 0 c).arrAt 7 cfg0.N = Cert.AttentionReferenceIdeal.Read.val_main_v75 (F := Ideal) (px m c) (ps m c) (pa m c) := by
  refine (dats m 0 c).arrAt_eq_of_covers 7 _ (by decide +kernel) fun t _ y => ?_
  have e := idx7 t
  have ht := lt32 t
  blk_simp [e]
  obtain ⟨i, q, rfl⟩ : ∃ (i : Fin 128) (q : Fin 256), y = ix2 i q := ⟨y 0, y 1, eq_ix2 y⟩
  obtain ⟨g, d, rfl⟩ : ∃ (g : Fin 4) (d : Fin 64), q = col g d := ⟨⟨q.val / 64, by omega⟩, ⟨q.val % 64, by omega⟩, Fin.ext (by dsimp only; omega)⟩
  have z : ((View.whole main_v6).slice (win0_7.rect t)).emb (ix2 i (col g d)) = ix2 (⟨128 * (nb t).val + i.val, by omega⟩ : Fin 2048) (⟨256 * (hd t).val + 64 * g.val + d.val, by omega⟩ : Fin 512) := by
    blk_ext [e]
  rw [left, z, ref75]

/-- The kernel and the reference end with the same result, for all arguments. -/
theorem values : Cert.algebraic_AttentionIdeal_AttentionReferenceIdeal := by
  intro m g m' g' _ ha
  refine ⟨fun c => (dats m 0 c).arrAt 7 cfg0.N, Cert.AttentionIdeal.Value.run_blocks m g, (θ_run _ _ _).mono (fun r h c => ?_) (Cert.AttentionReferenceIdeal.Value.run m' g')⟩
  obtain ⟨a0, a1, a2⟩ := ha c
  refine ⟨((h c).1.trans (Cert.AttentionReferenceIdeal.Read.val_main_v75_eq _ _)).trans ?_, (h c).2⟩
  rw [a0, a1, a2]
  exact (final m c).symm

end Cert.AttentionClaim

end
-- ==== Proof.lean ====
/- The proof of the certificate's claims, assembled from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Pre_finite
public import proofs.«01_k».proof.Proof.Gen.ReferenceIdeal.Read
public import proofs.«01_k».proof.Proof.Value
public import proofs.«01_k».proof.Proof.Main
public import proofs.«01_k».proof.Proof.Same
public import proofs.«01_k».proof.Proof.Gen.Feed
public import proofs.«01_k».proof.Proof.Gen.Feed.Skeleton
public import proofs.«01_k».proof.Proof.Gen.Feed.Launch
public import proofs.«01_k».proof.Proof.Gen.Feed.Points
public import proofs.«01_k».proof.Proof.Gen.Feed.Frame
public import proofs.«01_k».proof.Proof.Gen.FeedIdeal
public import proofs.«01_k».proof.Proof.Gen.FeedIdeal.Skeleton
public import proofs.«01_k».proof.Proof.Gen.FeedIdeal.Launch
public import proofs.«01_k».proof.Proof.Gen.FeedIdeal.Points
public import proofs.«01_k».proof.Proof.Gen.FeedIdeal.Frame
public import proofs.«01_k».proof.Proof.Gen.FeedIdeal.Value
public import proofs.«01_k».proof.Proof.Gen.FeedReferenceIdeal
public import proofs.«01_k».proof.Proof.Gen.FeedReferenceIdeal.Run
public import proofs.«01_k».proof.Proof.Gen.FeedReferenceIdeal.Read
public import proofs.«01_k».proof.Proof.Gen.ConvOut
public import proofs.«01_k».proof.Proof.Gen.ConvOut.Skeleton
public import proofs.«01_k».proof.Proof.Gen.ConvOut.Launch
public import proofs.«01_k».proof.Proof.Gen.ConvOut.Points
public import proofs.«01_k».proof.Proof.Gen.ConvOut.Frame
public import proofs.«01_k».proof.Proof.Gen.ConvOutIdeal
public import proofs.«01_k».proof.Proof.Gen.ConvOutIdeal.Skeleton
public import proofs.«01_k».proof.Proof.Gen.ConvOutIdeal.Launch
public import proofs.«01_k».proof.Proof.Gen.ConvOutIdeal.Points
public import proofs.«01_k».proof.Proof.Gen.ConvOutIdeal.Frame
public import proofs.«01_k».proof.Proof.Gen.ConvOutIdeal.Value
public import proofs.«01_k».proof.Proof.Gen.ConvOutReferenceIdeal
public import proofs.«01_k».proof.Proof.Gen.ConvOutReferenceIdeal.Run
public import proofs.«01_k».proof.Proof.Gen.ConvOutReferenceIdeal.Read
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutIdeal.Value
public import proofs.«01_k».proof.Proof.Gen.MixOutReferenceIdeal
public import proofs.«01_k».proof.Proof.Gen.MixOutReferenceIdeal.Run
public import proofs.«01_k».proof.Proof.Gen.MixOutReferenceIdeal.Read
public import proofs.«01_k».proof.Proof.Gen.ConvIn
public import proofs.«01_k».proof.Proof.Gen.ConvIn.Skeleton
public import proofs.«01_k».proof.Proof.Gen.ConvIn.Launch
public import proofs.«01_k».proof.Proof.Gen.ConvIn.Points
public import proofs.«01_k».proof.Proof.Gen.ConvIn.Frame
public import proofs.«01_k».proof.Proof.Gen.ConvInIdeal
public import proofs.«01_k».proof.Proof.Gen.ConvInIdeal.Skeleton
public import proofs.«01_k».proof.Proof.Gen.ConvInIdeal.Launch
public import proofs.«01_k».proof.Proof.Gen.ConvInIdeal.Points
public import proofs.«01_k».proof.Proof.Gen.ConvInIdeal.Frame
public import proofs.«01_k».proof.Proof.Gen.ConvInIdeal.Value
public import proofs.«01_k».proof.Proof.Gen.ConvInReferenceIdeal
public import proofs.«01_k».proof.Proof.Gen.ConvInReferenceIdeal.Run
public import proofs.«01_k».proof.Proof.Gen.ConvInReferenceIdeal.Read
public import proofs.«01_k».proof.Proof.Gen.MixIn
public import proofs.«01_k».proof.Proof.Gen.MixIn.Skeleton
public import proofs.«01_k».proof.Proof.Gen.MixIn.Launch
public import proofs.«01_k».proof.Proof.Gen.MixIn.Points
public import proofs.«01_k».proof.Proof.Gen.MixIn.Frame
public import proofs.«01_k».proof.Proof.Gen.MixInIdeal
public import proofs.«01_k».proof.Proof.Gen.MixInIdeal.Skeleton
public import proofs.«01_k».proof.Proof.Gen.MixInIdeal.Launch
public import proofs.«01_k».proof.Proof.Gen.MixInIdeal.Points
public import proofs.«01_k».proof.Proof.Gen.MixInIdeal.Frame
public import proofs.«01_k».proof.Proof.Gen.MixInIdeal.Value
public import proofs.«01_k».proof.Proof.Gen.MixInReferenceIdeal
public import proofs.«01_k».proof.Proof.Gen.MixInReferenceIdeal.Run
public import proofs.«01_k».proof.Proof.Gen.MixInReferenceIdeal.Read
public import proofs.«01_k».proof.Proof.Gen.ConvOutGrad
public import proofs.«01_k».proof.Proof.Gen.ConvOutGrad.Skeleton
public import proofs.«01_k».proof.Proof.Gen.ConvOutGrad.Launch
public import proofs.«01_k».proof.Proof.Gen.ConvOutGrad.Points
public import proofs.«01_k».proof.Proof.Gen.ConvOutGrad.Frame
public import proofs.«01_k».proof.Proof.Gen.ConvOutGradIdeal
public import proofs.«01_k».proof.Proof.Gen.ConvOutGradIdeal.Skeleton
public import proofs.«01_k».proof.Proof.Gen.ConvOutGradIdeal.Launch
public import proofs.«01_k».proof.Proof.Gen.ConvOutGradIdeal.Points
public import proofs.«01_k».proof.Proof.Gen.ConvOutGradIdeal.Frame
public import proofs.«01_k».proof.Proof.Gen.ConvOutGradIdeal.Value
public import proofs.«01_k».proof.Proof.Gen.ConvOutGradReferenceIdeal
public import proofs.«01_k».proof.Proof.Gen.ConvOutGradReferenceIdeal.Run
public import proofs.«01_k».proof.Proof.Gen.ConvOutGradReferenceIdeal.Read
public import proofs.«01_k».proof.Proof.Gen.MixOutGrad
public import proofs.«01_k».proof.Proof.Gen.MixOutGrad.Skeleton
public import proofs.«01_k».proof.Proof.Gen.MixOutGrad.Launch
public import proofs.«01_k».proof.Proof.Gen.MixOutGrad.Points
public import proofs.«01_k».proof.Proof.Gen.MixOutGrad.Frame
public import proofs.«01_k».proof.Proof.Gen.MixOutGradIdeal
public import proofs.«01_k».proof.Proof.Gen.MixOutGradIdeal.Skeleton
public import proofs.«01_k».proof.Proof.Gen.MixOutGradIdeal.Launch
public import proofs.«01_k».proof.Proof.Gen.MixOutGradIdeal.Points
public import proofs.«01_k».proof.Proof.Gen.MixOutGradIdeal.Frame
public import proofs.«01_k».proof.Proof.Gen.MixOutGradIdeal.Value
public import proofs.«01_k».proof.Proof.Gen.MixOutGradReferenceIdeal
public import proofs.«01_k».proof.Proof.Gen.MixOutGradReferenceIdeal.Run
public import proofs.«01_k».proof.Proof.Gen.MixOutGradReferenceIdeal.Read
public import proofs.«01_k».proof.Proof.Feed
public import proofs.«01_k».proof.Proof.ConvOut
public import proofs.«01_k».proof.Proof.MixOut
public import proofs.«01_k».proof.Proof.ConvIn
public import proofs.«01_k».proof.Proof.MixIn
public import proofs.«01_k».proof.Proof.ConvOutGrad
public import proofs.«01_k».proof.Proof.MixOutGrad
public import proofs.«01_k».proof.Proof.Gen.ConvInGrad
public import proofs.«01_k».proof.Proof.Gen.ConvInGrad.Skeleton
public import proofs.«01_k».proof.Proof.Gen.ConvInGrad.Launch
public import proofs.«01_k».proof.Proof.Gen.ConvInGrad.Frame
public import proofs.«01_k».proof.Proof.Gen.ConvInGradIdeal
public import proofs.«01_k».proof.Proof.Gen.ConvInGradIdeal.Skeleton
public import proofs.«01_k».proof.Proof.Gen.ConvInGradIdeal.Launch
public import proofs.«01_k».proof.Proof.Gen.ConvInGradIdeal.Frame
public import proofs.«01_k».proof.Proof.Gen.ConvInGradReferenceIdeal
public import proofs.«01_k».proof.Proof.Gen.ConvInGradReferenceIdeal.Run
public import proofs.«01_k».proof.Proof.Gen.ConvInGradReferenceIdeal.Read
public import proofs.«01_k».proof.Proof.Gen.MixInGrad
public import proofs.«01_k».proof.Proof.Gen.MixInGrad.Skeleton
public import proofs.«01_k».proof.Proof.Gen.MixInGrad.Launch
public import proofs.«01_k».proof.Proof.Gen.MixInGrad.Frame
public import proofs.«01_k».proof.Proof.Gen.MixInGradIdeal
public import proofs.«01_k».proof.Proof.Gen.MixInGradIdeal.Skeleton
public import proofs.«01_k».proof.Proof.Gen.MixInGradIdeal.Launch
public import proofs.«01_k».proof.Proof.Gen.MixInGradIdeal.Frame
public import proofs.«01_k».proof.Proof.Gen.MixInGradReferenceIdeal
public import proofs.«01_k».proof.Proof.Gen.MixInGradReferenceIdeal.Run
public import proofs.«01_k».proof.Proof.Gen.MixInGradReferenceIdeal.Read
public import Idealize.ShloMosaic.Adequacy
public import Idealize.ShloMosaic.Init
public import proofs.«01_k».proof.Proof.ConvInGradMain
public import proofs.«01_k».proof.Proof.ConvInGradSame
public import proofs.«01_k».proof.Proof.ConvInGrad
public import proofs.«01_k».proof.Proof.MixInGradMain
public import proofs.«01_k».proof.Proof.MixInGradSame
public import proofs.«01_k».proof.Proof.MixInGrad
public import proofs.«01_k».proof.Proof.Gen.ShortConvGrad
public import proofs.«01_k».proof.Proof.Gen.ShortConvGrad.Skeleton
public import proofs.«01_k».proof.Proof.Gen.ShortConvGrad.Launch
public import proofs.«01_k».proof.Proof.Gen.ShortConvGrad.Frame
public import proofs.«01_k».proof.Proof.Gen.ShortConvGradIdeal
public import proofs.«01_k».proof.Proof.Gen.ShortConvGradIdeal.Skeleton
public import proofs.«01_k».proof.Proof.Gen.ShortConvGradIdeal.Launch
public import proofs.«01_k».proof.Proof.Gen.ShortConvGradIdeal.Frame
public import proofs.«01_k».proof.Proof.Gen.ShortConvGradIdeal.Value
public import proofs.«01_k».proof.Proof.Gen.ShortConvGradReferenceIdeal
public import proofs.«01_k».proof.Proof.Gen.ShortConvGradReferenceIdeal.Run
public import proofs.«01_k».proof.Proof.Gen.ShortConvGradReferenceIdeal.Read
public import proofs.«01_k».proof.Proof.ShortConvGrad
public import proofs.«01_k».proof.Proof.Gen.ShortConv
public import proofs.«01_k».proof.Proof.Gen.ShortConv.Skeleton
public import proofs.«01_k».proof.Proof.Gen.ShortConv.Launch
public import proofs.«01_k».proof.Proof.Gen.ShortConv.Frame
public import proofs.«01_k».proof.Proof.Gen.ShortConvIdeal
public import proofs.«01_k».proof.Proof.Gen.ShortConvIdeal.Skeleton
public import proofs.«01_k».proof.Proof.Gen.ShortConvIdeal.Launch
public import proofs.«01_k».proof.Proof.Gen.ShortConvIdeal.Frame
public import proofs.«01_k».proof.Proof.Gen.ShortConvIdeal.Value
public import proofs.«01_k».proof.Proof.Gen.ShortConvReferenceIdeal
public import proofs.«01_k».proof.Proof.Gen.ShortConvReferenceIdeal.Run
public import proofs.«01_k».proof.Proof.Gen.ShortConvReferenceIdeal.Read
public import proofs.«01_k».proof.Proof.Gen.ConvMid
public import proofs.«01_k».proof.Proof.Gen.ConvMid.Skeleton
public import proofs.«01_k».proof.Proof.Gen.ConvMid.Launch
public import proofs.«01_k».proof.Proof.Gen.ConvMid.Frame
public import proofs.«01_k».proof.Proof.Gen.ConvMidIdeal
public import proofs.«01_k».proof.Proof.Gen.ConvMidIdeal.Skeleton
public import proofs.«01_k».proof.Proof.Gen.ConvMidIdeal.Launch
public import proofs.«01_k».proof.Proof.Gen.ConvMidIdeal.Frame
public import proofs.«01_k».proof.Proof.Gen.ConvMidIdeal.Value
public import proofs.«01_k».proof.Proof.Gen.ConvMidReferenceIdeal
public import proofs.«01_k».proof.Proof.Gen.ConvMidReferenceIdeal.Run
public import proofs.«01_k».proof.Proof.Gen.ConvMidReferenceIdeal.Read
public import proofs.«01_k».proof.Proof.Gen.Loss
public import proofs.«01_k».proof.Proof.Gen.Loss.Skeleton
public import proofs.«01_k».proof.Proof.Gen.Loss.Launch
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Frame
public import proofs.«01_k».proof.Proof.Gen.LossIdeal.Value
public import proofs.«01_k».proof.Proof.Gen.LossReferenceIdeal
public import proofs.«01_k».proof.Proof.Gen.LossReferenceIdeal.Run
public import proofs.«01_k».proof.Proof.Gen.LossReferenceIdeal.Read
public import proofs.«01_k».proof.Proof.ShortConv
public import proofs.«01_k».proof.Proof.ConvMid
public import proofs.«01_k».proof.Proof.Loss
public import proofs.«01_k».proof.Proof.Gen.Attention
public import proofs.«01_k».proof.Proof.Gen.Attention.Skeleton
public import proofs.«01_k».proof.Proof.Gen.Attention.Launch
public import proofs.«01_k».proof.Proof.Gen.Attention.Frame
public import proofs.«01_k».proof.Proof.Gen.AttentionIdeal
public import proofs.«01_k».proof.Proof.Gen.AttentionIdeal.Skeleton
public import proofs.«01_k».proof.Proof.Gen.AttentionIdeal.Launch
public import proofs.«01_k».proof.Proof.Gen.AttentionIdeal.Frame
public import proofs.«01_k».proof.Proof.Gen.AttentionIdeal.Points
public import proofs.«01_k».proof.Proof.Gen.AttentionIdeal.Value
public import proofs.«01_k».proof.Proof.Gen.AttentionReferenceIdeal
public import proofs.«01_k».proof.Proof.Gen.AttentionReferenceIdeal.Run
public import proofs.«01_k».proof.Proof.Gen.AttentionReferenceIdeal.Read
public import proofs.«01_k».proof.Proof.Attention

@[expose] public section

noncomputable section

namespace Cert.Proof

open Idealize.ShloMosaic Idealize.SL.Sem

/-- The kernel as printed runs, leaves its arguments and ends quiescent: its program is the idealized one's, read at the machine's words. -/
theorem frame_kernel : Cert.quiescent_Kernel := fun m ρ _ => Cert.Same.run_of_ideal _ _ (Cert.KernelIdeal.Hand.frame_main (F := Bits) m ρ)

/-- The idealized kernel runs, leaves its arguments and ends quiescent. -/
theorem frame_ideal : Cert.quiescent_KernelIdeal := fun m ρ _ => Cert.KernelIdeal.Hand.frame_main (F := Ideal) m ρ

/-- The reference runs, leaves its arguments and ends quiescent. -/
theorem frame_reference : Cert.quiescent_ReferenceIdeal := fun m ρ _ => by
  exact (θ_run Cert.ReferenceIdeal.defs _ _).mono
    (fun r h => ⟨fun c => (h c).2.2.2.2.2, sem_eq_zero_of_no_sems (by decide) r.2⟩) (Cert.ReferenceIdeal.Value.run m ρ)

/-- The frames of the feed-forward layer: as printed, -/
theorem frame_Feed : Cert.quiescent_Feed := fun m ρ _ => Cert.Feed.Gen.frame (F := Bits) m ρ

/-- idealized, -/
theorem frame_FeedIdeal : Cert.quiescent_FeedIdeal := fun m ρ _ => Cert.FeedIdeal.Gen.frame (F := Ideal) m ρ

/-- and of its reference. -/
theorem frame_FeedReferenceIdeal : Cert.quiescent_FeedReferenceIdeal := fun m ρ _ =>
  (θ_run Cert.FeedReferenceIdeal.defs _ _).mono
    (fun r h => ⟨fun c => (h c).2, sem_eq_zero_of_no_sems (by decide) r.2⟩) (Cert.FeedReferenceIdeal.Value.run m ρ)

/-- The frames of the convolution module's last projection: as printed, -/
theorem frame_ConvOut : Cert.quiescent_ConvOut := fun m ρ _ => Cert.ConvOut.Gen.frame (F := Bits) m ρ

/-- idealized, -/
theorem frame_ConvOutIdeal : Cert.quiescent_ConvOutIdeal := fun m ρ _ => Cert.ConvOutIdeal.Gen.frame (F := Ideal) m ρ

/-- and of its reference. -/
theorem frame_ConvOutReferenceIdeal : Cert.quiescent_ConvOutReferenceIdeal := fun m ρ _ =>
  (θ_run Cert.ConvOutReferenceIdeal.defs _ _).mono
    (fun r h => ⟨fun c => (h c).2, sem_eq_zero_of_no_sems (by decide) r.2⟩) (Cert.ConvOutReferenceIdeal.Value.run m ρ)

/-- The frames of the mixer's last projection: as printed, -/
theorem frame_MixOut : Cert.quiescent_MixOut := fun m ρ _ => Cert.MixOut.Gen.frame (F := Bits) m ρ

/-- idealized, -/
theorem frame_MixOutIdeal : Cert.quiescent_MixOutIdeal := fun m ρ _ => Cert.MixOutIdeal.Gen.frame (F := Ideal) m ρ

/-- and of its reference. -/
theorem frame_MixOutReferenceIdeal : Cert.quiescent_MixOutReferenceIdeal := fun m ρ _ =>
  (θ_run Cert.MixOutReferenceIdeal.defs _ _).mono
    (fun r h => ⟨fun c => (h c).2, sem_eq_zero_of_no_sems (by decide) r.2⟩) (Cert.MixOutReferenceIdeal.Value.run m ρ)

/-- The frames of the convolution module's first projection: as printed, -/
theorem frame_ConvIn : Cert.quiescent_ConvIn := fun m ρ _ => Cert.ConvIn.Gen.frame (F := Bits) m ρ

/-- idealized, -/
theorem frame_ConvInIdeal : Cert.quiescent_ConvInIdeal := fun m ρ _ => Cert.ConvInIdeal.Gen.frame (F := Ideal) m ρ

/-- and of its reference. -/
theorem frame_ConvInReferenceIdeal : Cert.quiescent_ConvInReferenceIdeal := fun m ρ _ =>
  (θ_run Cert.ConvInReferenceIdeal.defs _ _).mono
    (fun r h => ⟨fun c => (h c).2, sem_eq_zero_of_no_sems (by decide) r.2⟩) (Cert.ConvInReferenceIdeal.Value.run m ρ)

/-- The frames of the mixer's first projections: as printed, -/
theorem frame_MixIn : Cert.quiescent_MixIn := fun m ρ _ => Cert.MixIn.Gen.frame (F := Bits) m ρ

/-- idealized, -/
theorem frame_MixInIdeal : Cert.quiescent_MixInIdeal := fun m ρ _ => Cert.MixInIdeal.Gen.frame (F := Ideal) m ρ

/-- and of its reference. -/
theorem frame_MixInReferenceIdeal : Cert.quiescent_MixInReferenceIdeal := fun m ρ _ =>
  (θ_run Cert.MixInReferenceIdeal.defs _ _).mono
    (fun r h => ⟨fun c => (h c).2, sem_eq_zero_of_no_sems (by decide) r.2⟩) (Cert.MixInReferenceIdeal.Value.run m ρ)

/-- The frames of the gradient of the convolution module's last projection: as printed, -/
theorem frame_ConvOutGrad : Cert.quiescent_ConvOutGrad := fun m ρ _ => Cert.ConvOutGrad.Gen.frame (F := Bits) m ρ

/-- idealized, -/
theorem frame_ConvOutGradIdeal : Cert.quiescent_ConvOutGradIdeal := fun m ρ _ => Cert.ConvOutGradIdeal.Gen.frame (F := Ideal) m ρ

/-- and of its reference. -/
theorem frame_ConvOutGradReferenceIdeal : Cert.quiescent_ConvOutGradReferenceIdeal := fun m ρ _ =>
  (θ_run Cert.ConvOutGradReferenceIdeal.defs _ _).mono
    (fun r h => ⟨fun c => (h c).2.2.2, sem_eq_zero_of_no_sems (by decide) r.2⟩) (Cert.ConvOutGradReferenceIdeal.Value.run m ρ)

/-- The frames of the gradient of the mixer's last projection: as printed, -/
theorem frame_MixOutGrad : Cert.quiescent_MixOutGrad := fun m ρ _ => Cert.MixOutGrad.Gen.frame (F := Bits) m ρ

/-- idealized, -/
theorem frame_MixOutGradIdeal : Cert.quiescent_MixOutGradIdeal := fun m ρ _ => Cert.MixOutGradIdeal.Gen.frame (F := Ideal) m ρ

/-- and of its reference. -/
theorem frame_MixOutGradReferenceIdeal : Cert.quiescent_MixOutGradReferenceIdeal := fun m ρ _ =>
  (θ_run Cert.MixOutGradReferenceIdeal.defs _ _).mono
    (fun r h => ⟨fun c => (h c).2.2.2, sem_eq_zero_of_no_sems (by decide) r.2⟩) (Cert.MixOutGradReferenceIdeal.Value.run m ρ)

/-- The frames of the gradient of the convolution module's first projection and its norm: as printed, the idealized program's run read at the machine's words, -/
theorem frame_ConvInGrad : Cert.quiescent_ConvInGrad := fun m ρ _ => Cert.ConvInGradSame.run_of_ideal _ _ (Cert.ConvInGradIdeal.Hand.frame_main (F := Bits) m ρ)

/-- idealized, -/
theorem frame_ConvInGradIdeal : Cert.quiescent_ConvInGradIdeal := fun m ρ _ => Cert.ConvInGradIdeal.Hand.frame_main (F := Ideal) m ρ

/-- and of its reference. -/
theorem frame_ConvInGradReferenceIdeal : Cert.quiescent_ConvInGradReferenceIdeal := fun m ρ _ =>
  (θ_run Cert.ConvInGradReferenceIdeal.defs _ _).mono
    (fun r h => ⟨fun c => (h c).2.2.2.2, sem_eq_zero_of_no_sems (by decide) r.2⟩) (Cert.ConvInGradReferenceIdeal.Value.run m ρ)

/-- The frames of the gradient of the mixer's first projection and its norm: as printed, the idealized program's run read at the machine's words, -/
theorem frame_MixInGrad : Cert.quiescent_MixInGrad := fun m ρ _ => Cert.MixInGradSame.run_of_ideal _ _ (Cert.MixInGradIdeal.Hand.frame_main (F := Bits) m ρ)

/-- idealized, -/
theorem frame_MixInGradIdeal : Cert.quiescent_MixInGradIdeal := fun m ρ _ => Cert.MixInGradIdeal.Hand.frame_main (F := Ideal) m ρ

/-- and of its reference. -/
theorem frame_MixInGradReferenceIdeal : Cert.quiescent_MixInGradReferenceIdeal := fun m ρ _ =>
  (θ_run Cert.MixInGradReferenceIdeal.defs _ _).mono
    (fun r h => ⟨fun c => (h c).2.2.2.2, sem_eq_zero_of_no_sems (by decide) r.2⟩) (Cert.MixInGradReferenceIdeal.Value.run m ρ)

/-- The frames of the gradient of the mixer's short convolution: as printed, -/
theorem frame_ShortConvGrad : Cert.quiescent_ShortConvGrad := fun m ρ _ => Cert.ShortConvGrad.Gen.frame (F := Bits) m ρ

/-- idealized, -/
theorem frame_ShortConvGradIdeal : Cert.quiescent_ShortConvGradIdeal := fun m ρ _ => Cert.ShortConvGradIdeal.Gen.frame (F := Ideal) m ρ

/-- and of its reference. -/
theorem frame_ShortConvGradReferenceIdeal : Cert.quiescent_ShortConvGradReferenceIdeal := fun m ρ _ =>
  (θ_run Cert.ShortConvGradReferenceIdeal.defs _ _).mono
    (fun r h => ⟨fun c => (h c).2.2, sem_eq_zero_of_no_sems (by decide) r.2⟩) (Cert.ShortConvGradReferenceIdeal.Value.run m ρ)

/-- The frames of the mixer's short convolution: as printed, -/
theorem frame_ShortConv : Cert.quiescent_ShortConv := fun m ρ _ => Cert.ShortConv.Gen.frame (F := Bits) m ρ

/-- idealized, -/
theorem frame_ShortConvIdeal : Cert.quiescent_ShortConvIdeal := fun m ρ _ => Cert.ShortConvIdeal.Gen.frame (F := Ideal) m ρ

/-- and of its reference. -/
theorem frame_ShortConvReferenceIdeal : Cert.quiescent_ShortConvReferenceIdeal := fun m ρ _ =>
  (θ_run Cert.ShortConvReferenceIdeal.defs _ _).mono
    (fun r h => ⟨fun c => (h c).2, sem_eq_zero_of_no_sems (by decide) r.2⟩) (Cert.ShortConvReferenceIdeal.Value.run m ρ)

/-- The frames of the convolution module between its projections: as printed, -/
theorem frame_ConvMid : Cert.quiescent_ConvMid := fun m ρ _ => Cert.ConvMid.Gen.frame (F := Bits) m ρ

/-- idealized, -/
theorem frame_ConvMidIdeal : Cert.quiescent_ConvMidIdeal := fun m ρ _ => Cert.ConvMidIdeal.Gen.frame (F := Ideal) m ρ

/-- and of its reference. -/
theorem frame_ConvMidReferenceIdeal : Cert.quiescent_ConvMidReferenceIdeal := fun m ρ _ =>
  (θ_run Cert.ConvMidReferenceIdeal.defs _ _).mono
    (fun r h => ⟨fun c => (h c).2.2, sem_eq_zero_of_no_sems (by decide) r.2⟩) (Cert.ConvMidReferenceIdeal.Value.run m ρ)

/-- The frames of the loss and its gradients: as printed, -/
theorem frame_Loss : Cert.quiescent_Loss := fun m ρ _ => Cert.Loss.Gen.frame (F := Bits) m ρ

/-- idealized, -/
theorem frame_LossIdeal : Cert.quiescent_LossIdeal := fun m ρ _ => Cert.LossIdeal.Gen.frame (F := Ideal) m ρ

/-- and of its reference. -/
theorem frame_LossReferenceIdeal : Cert.quiescent_LossReferenceIdeal := fun m ρ _ =>
  (θ_run Cert.LossReferenceIdeal.defs _ _).mono
    (fun r h => ⟨fun c => (h c).2.2.2, sem_eq_zero_of_no_sems (by decide) r.2⟩) (Cert.LossReferenceIdeal.Value.run m ρ)

/-- The frames of the attention: as printed, -/
theorem frame_Attention : Cert.quiescent_Attention := fun m ρ _ => Cert.Attention.Gen.frame (F := Bits) m ρ

/-- idealized, -/
theorem frame_AttentionIdeal : Cert.quiescent_AttentionIdeal := fun m ρ _ => Cert.AttentionIdeal.Gen.frame (F := Ideal) m ρ

/-- and of its reference. -/
theorem frame_AttentionReferenceIdeal : Cert.quiescent_AttentionReferenceIdeal := fun m ρ _ =>
  (θ_run Cert.AttentionReferenceIdeal.defs _ _).mono
    (fun r h => ⟨fun c => (h c).2, sem_eq_zero_of_no_sems (by decide) r.2⟩) (Cert.AttentionReferenceIdeal.Value.run m ρ)

/-- Every claim of the certificate. -/
theorem claim : Cert.Claim :=
  ⟨Cert.Kernel.Gen.facts, Cert.KernelIdeal.Gen.facts, Cert.ReferenceIdeal.Gen.facts,
    Cert.Feed.Gen.facts, Cert.FeedIdeal.Gen.facts, Cert.FeedReferenceIdeal.Gen.facts,
    Cert.ConvOut.Gen.facts, Cert.ConvOutIdeal.Gen.facts, Cert.ConvOutReferenceIdeal.Gen.facts,
    Cert.MixOut.Gen.facts, Cert.MixOutIdeal.Gen.facts, Cert.MixOutReferenceIdeal.Gen.facts,
    Cert.ConvIn.Gen.facts, Cert.ConvInIdeal.Gen.facts, Cert.ConvInReferenceIdeal.Gen.facts,
    Cert.MixIn.Gen.facts, Cert.MixInIdeal.Gen.facts, Cert.MixInReferenceIdeal.Gen.facts,
    Cert.ConvOutGrad.Gen.facts, Cert.ConvOutGradIdeal.Gen.facts, Cert.ConvOutGradReferenceIdeal.Gen.facts,
    Cert.MixOutGrad.Gen.facts, Cert.MixOutGradIdeal.Gen.facts, Cert.MixOutGradReferenceIdeal.Gen.facts,
    Cert.ConvInGrad.Gen.facts, Cert.ConvInGradIdeal.Gen.facts, Cert.ConvInGradReferenceIdeal.Gen.facts,
    Cert.MixInGrad.Gen.facts, Cert.MixInGradIdeal.Gen.facts, Cert.MixInGradReferenceIdeal.Gen.facts,
    Cert.ShortConvGrad.Gen.facts, Cert.ShortConvGradIdeal.Gen.facts, Cert.ShortConvGradReferenceIdeal.Gen.facts,
    Cert.ShortConv.Gen.facts, Cert.ShortConvIdeal.Gen.facts, Cert.ShortConvReferenceIdeal.Gen.facts,
    Cert.ConvMid.Gen.facts, Cert.ConvMidIdeal.Gen.facts, Cert.ConvMidReferenceIdeal.Gen.facts,
    Cert.Loss.Gen.facts, Cert.LossIdeal.Gen.facts, Cert.LossReferenceIdeal.Gen.facts,
    Cert.Attention.Gen.facts, Cert.AttentionIdeal.Gen.facts, Cert.AttentionReferenceIdeal.Gen.facts,
    Cert.Half.preFacts, Cert.ShortConvGradClaim.preFacts,
    frame_kernel, frame_ideal, fun m ρ _ => frame_ideal m ρ trivial, frame_reference, fun m ρ _ => frame_reference m ρ trivial,
    frame_Feed, frame_FeedIdeal, frame_FeedReferenceIdeal,
    frame_ConvOut, frame_ConvOutIdeal, frame_ConvOutReferenceIdeal,
    frame_MixOut, frame_MixOutIdeal, frame_MixOutReferenceIdeal,
    frame_ConvIn, frame_ConvInIdeal, frame_ConvInReferenceIdeal,
    frame_MixIn, frame_MixInIdeal, frame_MixInReferenceIdeal,
    frame_ConvOutGrad, frame_ConvOutGradIdeal, frame_ConvOutGradReferenceIdeal,
    frame_MixOutGrad, frame_MixOutGradIdeal, frame_MixOutGradReferenceIdeal,
    frame_ConvInGrad, frame_ConvInGradIdeal, frame_ConvInGradReferenceIdeal,
    frame_MixInGrad, frame_MixInGradIdeal, frame_MixInGradReferenceIdeal,
    frame_ShortConvGrad, frame_ShortConvGradIdeal, fun m ρ _ => frame_ShortConvGradIdeal m ρ trivial,
    frame_ShortConvGradReferenceIdeal, fun m ρ _ => frame_ShortConvGradReferenceIdeal m ρ trivial,
    frame_ShortConv, frame_ShortConvIdeal, frame_ShortConvReferenceIdeal,
    frame_ConvMid, frame_ConvMidIdeal, frame_ConvMidReferenceIdeal,
    frame_Loss, frame_LossIdeal, frame_LossReferenceIdeal,
    frame_Attention, frame_AttentionIdeal, frame_AttentionReferenceIdeal,
    trivial, Cert.Half.values,
    trivial, Cert.FeedClaim.values,
    trivial, Cert.ConvOutClaim.values,
    trivial, Cert.MixOutClaim.values,
    trivial, Cert.ConvInClaim.values,
    trivial, Cert.MixInClaim.values,
    trivial, Cert.ConvOutGradClaim.values,
    trivial, Cert.MixOutGradClaim.values,
    trivial, Cert.ConvInGradClaim.values,
    trivial, Cert.MixInGradClaim.values,
    trivial, Cert.ShortConvGradClaim.values,
    trivial, Cert.ShortConvClaim.values,
    trivial, Cert.ConvMidClaim.values,
    trivial, Cert.LossClaim.values,
    trivial, Cert.AttentionClaim.values⟩

end Cert.Proof

end
